-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnDownWeight (m : (ℓ : Loc Cert.FfnDownWeight.nD Cert.FfnDownWeight.τ Cert.FfnDownWeight.sig) → Buf (Elt Bits) ℓ) : Prop :=
  True

def Pre_FfnDownWeightIdeal (m : (ℓ : Loc Cert.FfnDownWeightIdeal.nD Cert.FfnDownWeightIdeal.τ Cert.FfnDownWeightIdeal.sig) → Buf (Elt Ideal) ℓ) : Prop :=
  True

def Pre_FfnDownWeightReferenceIdeal (m : (ℓ : Loc Cert.FfnDownWeightReferenceIdeal.nD Cert.FfnDownWeightReferenceIdeal.τ Cert.FfnDownWeightReferenceIdeal.sig) → Buf (Elt Ideal) ℓ) : Prop :=
  True

def Pre_FfnInner (m : (ℓ : Loc Cert.FfnInner.nD Cert.FfnInner.τ Cert.FfnInner.sig) → Buf (Elt Bits) ℓ) : Prop :=
  True

def Pre_FfnInnerIdeal (m : (ℓ : Loc Cert.FfnInnerIdeal.nD Cert.FfnInnerIdeal.τ Cert.FfnInnerIdeal.sig) → Buf (Elt Ideal) ℓ) : Prop :=
  True

def Pre_FfnInnerReferenceIdeal (m : (ℓ : Loc Cert.FfnInnerReferenceIdeal.nD Cert.FfnInnerReferenceIdeal.τ Cert.FfnInnerReferenceIdeal.sig) → Buf (Elt Ideal) ℓ) : Prop :=
  True

def Pre_FfnUpWeight (m : (ℓ : Loc Cert.FfnUpWeight.nD Cert.FfnUpWeight.τ Cert.FfnUpWeight.sig) → Buf (Elt Bits) ℓ) : Prop :=
  True

def Pre_FfnUpWeightIdeal (m : (ℓ : Loc Cert.FfnUpWeightIdeal.nD Cert.FfnUpWeightIdeal.τ Cert.FfnUpWeightIdeal.sig) → Buf (Elt Ideal) ℓ) : Prop :=
  True

def Pre_FfnUpWeightReferenceIdeal (m : (ℓ : Loc Cert.FfnUpWeightReferenceIdeal.nD Cert.FfnUpWeightReferenceIdeal.τ Cert.FfnUpWeightReferenceIdeal.sig) → Buf (Elt Ideal) ℓ) : Prop :=
  True

def Pre_FfnInput (m : (ℓ : Loc Cert.FfnInput.nD Cert.FfnInput.τ Cert.FfnInput.sig) → Buf (Elt Bits) ℓ) : Prop :=
  True

def Pre_FfnInputIdeal (m : (ℓ : Loc Cert.FfnInputIdeal.nD Cert.FfnInputIdeal.τ Cert.FfnInputIdeal.sig) → Buf (Elt Ideal) ℓ) : Prop :=
  True

def Pre_FfnInputReferenceIdeal (m : (ℓ : Loc Cert.FfnInputReferenceIdeal.nD Cert.FfnInputReferenceIdeal.τ Cert.FfnInputReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_MixerWeight (m : (ℓ : Loc Cert.MixerWeight.nD Cert.MixerWeight.τ Cert.MixerWeight.sig) → Buf (Elt Bits) ℓ) : Prop :=
  True

def Pre_MixerWeightIdeal (m : (ℓ : Loc Cert.MixerWeightIdeal.nD Cert.MixerWeightIdeal.τ Cert.MixerWeightIdeal.sig) → Buf (Elt Ideal) ℓ) : Prop :=
  True

def Pre_MixerWeightReferenceIdeal (m : (ℓ : Loc Cert.MixerWeightReferenceIdeal.nD Cert.MixerWeightReferenceIdeal.τ Cert.MixerWeightReferenceIdeal.sig) → Buf (Elt Ideal) ℓ) : Prop :=
  True

def Pre_MixerInput (m : (ℓ : Loc Cert.MixerInput.nD Cert.MixerInput.τ Cert.MixerInput.sig) → Buf (Elt Bits) ℓ) : Prop :=
  True

def Pre_MixerInputIdeal (m : (ℓ : Loc Cert.MixerInputIdeal.nD Cert.MixerInputIdeal.τ Cert.MixerInputIdeal.sig) → Buf (Elt Ideal) ℓ) : Prop :=
  True

def Pre_MixerInputReferenceIdeal (m : (ℓ : Loc Cert.MixerInputReferenceIdeal.nD Cert.MixerInputReferenceIdeal.τ Cert.MixerInputReferenceIdeal.sig) → Buf (Elt Ideal) ℓ) : Prop :=
  True

def Pre_MixerIn (m : (ℓ : Loc Cert.MixerIn.nD Cert.MixerIn.τ Cert.MixerIn.sig) → Buf (Elt Bits) ℓ) : Prop :=
  True

def Pre_MixerInIdeal (m : (ℓ : Loc Cert.MixerInIdeal.nD Cert.MixerInIdeal.τ Cert.MixerInIdeal.sig) → Buf (Elt Ideal) ℓ) : Prop :=
  True

def Pre_MixerInReferenceIdeal (m : (ℓ : Loc Cert.MixerInReferenceIdeal.nD Cert.MixerInReferenceIdeal.τ Cert.MixerInReferenceIdeal.sig) → Buf (Elt Ideal) ℓ) : Prop :=
  True

def Pre_MergeWeight (m : (ℓ : Loc Cert.MergeWeight.nD Cert.MergeWeight.τ Cert.MergeWeight.sig) → Buf (Elt Bits) ℓ) : Prop :=
  True

def Pre_MergeWeightIdeal (m : (ℓ : Loc Cert.MergeWeightIdeal.nD Cert.MergeWeightIdeal.τ Cert.MergeWeightIdeal.sig) → Buf (Elt Ideal) ℓ) : Prop :=
  True

def Pre_MergeWeightReferenceIdeal (m : (ℓ : Loc Cert.MergeWeightReferenceIdeal.nD Cert.MergeWeightReferenceIdeal.τ Cert.MergeWeightReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def Pre_OutInput (m : (ℓ : Loc Cert.OutInput.nD Cert.OutInput.τ Cert.OutInput.sig) → Buf (Elt Bits) ℓ) : Prop :=
  True

def Pre_OutInputIdeal (m : (ℓ : Loc Cert.OutInputIdeal.nD Cert.OutInputIdeal.τ Cert.OutInputIdeal.sig) → Buf (Elt Ideal) ℓ) : Prop :=
  True

def Pre_OutInputReferenceIdeal (m : (ℓ : Loc Cert.OutInputReferenceIdeal.nD Cert.OutInputReferenceIdeal.τ Cert.OutInputReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_RetWeight (m : (ℓ : Loc Cert.RetWeight.nD Cert.RetWeight.τ Cert.RetWeight.sig) → Buf (Elt Bits) ℓ) : Prop :=
  True

def Pre_RetWeightIdeal (m : (ℓ : Loc Cert.RetWeightIdeal.nD Cert.RetWeightIdeal.τ Cert.RetWeightIdeal.sig) → Buf (Elt Ideal) ℓ) : Prop :=
  True

def Pre_RetWeightReferenceIdeal (m : (ℓ : Loc Cert.RetWeightReferenceIdeal.nD Cert.RetWeightReferenceIdeal.τ Cert.RetWeightReferenceIdeal.sig) → Buf (Elt Ideal) ℓ) : Prop :=
  True

def Pre_RetInput (m : (ℓ : Loc Cert.RetInput.nD Cert.RetInput.τ Cert.RetInput.sig) → Buf (Elt Bits) ℓ) : Prop :=
  True

def Pre_RetInputIdeal (m : (ℓ : Loc Cert.RetInputIdeal.nD Cert.RetInputIdeal.τ Cert.RetInputIdeal.sig) → Buf (Elt Ideal) ℓ) : Prop :=
  True

def Pre_RetInputReferenceIdeal (m : (ℓ : Loc Cert.RetInputReferenceIdeal.nD Cert.RetInputReferenceIdeal.τ Cert.RetInputReferenceIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutReferenceIdeal (m : (ℓ : Loc Cert.RetOutReferenceIdeal.nD Cert.RetOutReferenceIdeal.τ Cert.RetOutReferenceIdeal.sig) → Buf (Elt Ideal) ℓ) : Prop :=
  True

def Pre_PleWeight (m : (ℓ : Loc Cert.PleWeight.nD Cert.PleWeight.τ Cert.PleWeight.sig) → Buf (Elt Bits) ℓ) : Prop :=
  True

def Pre_PleWeightIdeal (m : (ℓ : Loc Cert.PleWeightIdeal.nD Cert.PleWeightIdeal.τ Cert.PleWeightIdeal.sig) → Buf (Elt Ideal) ℓ) : Prop :=
  True

def Pre_PleWeightReferenceIdeal (m : (ℓ : Loc Cert.PleWeightReferenceIdeal.nD Cert.PleWeightReferenceIdeal.τ Cert.PleWeightReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_SwigluGrad (m : (ℓ : Loc Cert.SwigluGrad.nD Cert.SwigluGrad.τ Cert.SwigluGrad.sig) → Buf (Elt Bits) ℓ) : Prop :=
  True

def Pre_SwigluGradIdeal (m : (ℓ : Loc Cert.SwigluGradIdeal.nD Cert.SwigluGradIdeal.τ Cert.SwigluGradIdeal.sig) → Buf (Elt Ideal) ℓ) : Prop :=
  True

def Pre_SwigluGradIdeal_finite_product [hPre_finite_product : Cert.Pre_finite_product.Facts] (m : (ℓ : Loc Cert.SwigluGradIdeal.nD Cert.SwigluGradIdeal.τ Cert.SwigluGradIdeal.sig) → Buf (Elt Ideal) ℓ) : Prop :=
  ∀ c : Dev Cert.SwigluGradIdeal.nD,
    (Cert.Pre_finite_product.fn (F := Ideal) (m ((c.tc : Thread Cert.SwigluGradIdeal.nD Cert.SwigluGradIdeal.τ).loc Cert.SwigluGradIdeal.main_arg0)) (m ((c.tc : Thread Cert.SwigluGradIdeal.nD Cert.SwigluGradIdeal.τ).loc Cert.SwigluGradIdeal.main_arg1)) (m ((c.tc : Thread Cert.SwigluGradIdeal.nD Cert.SwigluGradIdeal.τ).loc Cert.SwigluGradIdeal.main_arg2))) = (fun _ => 1#1)

def Pre_SwigluGradReferenceIdeal (m : (ℓ : Loc Cert.SwigluGradReferenceIdeal.nD Cert.SwigluGradReferenceIdeal.τ Cert.SwigluGradReferenceIdeal.sig) → Buf (Elt Ideal) ℓ) : Prop :=
  True

def Pre_SwigluGradReferenceIdeal_finite_product [hPre_finite_product : Cert.Pre_finite_product.Facts] (m : (ℓ : Loc Cert.SwigluGradReferenceIdeal.nD Cert.SwigluGradReferenceIdeal.τ Cert.SwigluGradReferenceIdeal.sig) → Buf (Elt Ideal) ℓ) : Prop :=
  ∀ c : Dev Cert.SwigluGradReferenceIdeal.nD,
    (Cert.Pre_finite_product.fn (F := Ideal) (m ((c.tc : Thread Cert.SwigluGradReferenceIdeal.nD Cert.SwigluGradReferenceIdeal.τ).loc Cert.SwigluGradReferenceIdeal.main_arg0)) (m ((c.tc : Thread Cert.SwigluGradReferenceIdeal.nD Cert.SwigluGradReferenceIdeal.τ).loc Cert.SwigluGradReferenceIdeal.main_arg1)) (m ((c.tc : Thread Cert.SwigluGradReferenceIdeal.nD Cert.SwigluGradReferenceIdeal.τ).loc Cert.SwigluGradReferenceIdeal.main_arg2))) = (fun _ => 1#1)

def Pre_GatesGrad (m : (ℓ : Loc Cert.GatesGrad.nD Cert.GatesGrad.τ Cert.GatesGrad.sig) → Buf (Elt Bits) ℓ) : Prop :=
  True

def Pre_GatesGradIdeal (m : (ℓ : Loc Cert.GatesGradIdeal.nD Cert.GatesGradIdeal.τ Cert.GatesGradIdeal.sig) → Buf (Elt Ideal) ℓ) : Prop :=
  True

def Pre_GatesGradReferenceIdeal (m : (ℓ : Loc Cert.GatesGradReferenceIdeal.nD Cert.GatesGradReferenceIdeal.τ Cert.GatesGradReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_RmsAddHalf (m : (ℓ : Loc Cert.RmsAddHalf.nD Cert.RmsAddHalf.τ Cert.RmsAddHalf.sig) → Buf (Elt Bits) ℓ) : Prop :=
  True

def Pre_RmsAddHalfIdeal (m : (ℓ : Loc Cert.RmsAddHalfIdeal.nD Cert.RmsAddHalfIdeal.τ Cert.RmsAddHalfIdeal.sig) → Buf (Elt Ideal) ℓ) : Prop :=
  True

def Pre_RmsAddHalfReferenceIdeal (m : (ℓ : Loc Cert.RmsAddHalfReferenceIdeal.nD Cert.RmsAddHalfReferenceIdeal.τ Cert.RmsAddHalfReferenceIdeal.sig) → Buf (Elt Ideal) ℓ) : Prop :=
  True

def Pre_RmsAdd (m : (ℓ : Loc Cert.RmsAdd.nD Cert.RmsAdd.τ Cert.RmsAdd.sig) → Buf (Elt Bits) ℓ) : Prop :=
  True

def Pre_RmsAddIdeal (m : (ℓ : Loc Cert.RmsAddIdeal.nD Cert.RmsAddIdeal.τ Cert.RmsAddIdeal.sig) → Buf (Elt Ideal) ℓ) : Prop :=
  True

def Pre_RmsAddReferenceIdeal (m : (ℓ : Loc Cert.RmsAddReferenceIdeal.nD Cert.RmsAddReferenceIdeal.τ Cert.RmsAddReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnDownWeight [hFfnDownWeight : Cert.FfnDownWeight.Facts] : Prop :=
  ∀ (m : (ℓ : Loc Cert.FfnDownWeight.nD Cert.FfnDownWeight.τ Cert.FfnDownWeight.sig) → Buf (Elt Bits) ℓ) (g : Dev Cert.FfnDownWeight.nD → PrngReg), Pre_FfnDownWeight m →
    θ_run (Cert.FfnDownWeight.defs (F := Bits)) (onTc (τ := Cert.FfnDownWeight.τ) (Cert.FfnDownWeight.main (F := Bits))) ⟨m, fun _ => 0, g⟩ (fun r => (∀ c : Dev Cert.FfnDownWeight.nD,
      r.2.mem ((c.tc : Thread Cert.FfnDownWeight.nD Cert.FfnDownWeight.τ).loc Cert.FfnDownWeight.main_arg0) = m ((c.tc : Thread Cert.FfnDownWeight.nD Cert.FfnDownWeight.τ).loc Cert.FfnDownWeight.main_arg0)
      ∧ r.2.mem ((c.tc : Thread Cert.FfnDownWeight.nD Cert.FfnDownWeight.τ).loc Cert.FfnDownWeight.main_arg1) = m ((c.tc : Thread Cert.FfnDownWeight.nD Cert.FfnDownWeight.τ).loc Cert.FfnDownWeight.main_arg1))
      ∧ r.2.sem = fun _ => 0)

def quiescent_FfnDownWeightIdeal [hFfnDownWeightIdeal : Cert.FfnDownWeightIdeal.Facts] : Prop :=
  ∀ (m : (ℓ : Loc Cert.FfnDownWeightIdeal.nD Cert.FfnDownWeightIdeal.τ Cert.FfnDownWeightIdeal.sig) → Buf (Elt Ideal) ℓ) (g : Dev Cert.FfnDownWeightIdeal.nD → PrngReg), Pre_FfnDownWeightIdeal m →
    θ_run (Cert.FfnDownWeightIdeal.defs (F := Ideal)) (onTc (τ := Cert.FfnDownWeightIdeal.τ) (Cert.FfnDownWeightIdeal.main (F := Ideal))) ⟨m, fun _ => 0, g⟩ (fun r => (∀ c : Dev Cert.FfnDownWeightIdeal.nD,
      r.2.mem ((c.tc : Thread Cert.FfnDownWeightIdeal.nD Cert.FfnDownWeightIdeal.τ).loc Cert.FfnDownWeightIdeal.main_arg0) = m ((c.tc : Thread Cert.FfnDownWeightIdeal.nD Cert.FfnDownWeightIdeal.τ).loc Cert.FfnDownWeightIdeal.main_arg0)
      ∧ r.2.mem ((c.tc : Thread Cert.FfnDownWeightIdeal.nD Cert.FfnDownWeightIdeal.τ).loc Cert.FfnDownWeightIdeal.main_arg1) = m ((c.tc : Thread Cert.FfnDownWeightIdeal.nD Cert.FfnDownWeightIdeal.τ).loc Cert.FfnDownWeightIdeal.main_arg1))
      ∧ r.2.sem = fun _ => 0)

def quiescent_FfnDownWeightReferenceIdeal [hFfnDownWeightReferenceIdeal : Cert.FfnDownWeightReferenceIdeal.Facts] : Prop :=
  ∀ (m : (ℓ : Loc Cert.FfnDownWeightReferenceIdeal.nD Cert.FfnDownWeightReferenceIdeal.τ Cert.FfnDownWeightReferenceIdeal.sig) → Buf (Elt Ideal) ℓ) (g : Dev Cert.FfnDownWeightReferenceIdeal.nD → PrngReg), Pre_FfnDownWeightReferenceIdeal m →
    θ_run (Cert.FfnDownWeightReferenceIdeal.defs (F := Ideal)) (onTc (τ := Cert.FfnDownWeightReferenceIdeal.τ) (Cert.FfnDownWeightReferenceIdeal.main (F := Ideal))) ⟨m, fun _ => 0, g⟩ (fun r => (∀ c : Dev Cert.FfnDownWeightReferenceIdeal.nD,
      r.2.mem ((c.tc : Thread Cert.FfnDownWeightReferenceIdeal.nD Cert.FfnDownWeightReferenceIdeal.τ).loc Cert.FfnDownWeightReferenceIdeal.main_arg0) = m ((c.tc : Thread Cert.FfnDownWeightReferenceIdeal.nD Cert.FfnDownWeightReferenceIdeal.τ).loc Cert.FfnDownWeightReferenceIdeal.main_arg0)
      ∧ r.2.mem ((c.tc : Thread Cert.FfnDownWeightReferenceIdeal.nD Cert.FfnDownWeightReferenceIdeal.τ).loc Cert.FfnDownWeightReferenceIdeal.main_arg1) = m ((c.tc : Thread Cert.FfnDownWeightReferenceIdeal.nD Cert.FfnDownWeightReferenceIdeal.τ).loc Cert.FfnDownWeightReferenceIdeal.main_arg1))
      ∧ r.2.sem = fun _ => 0)

def quiescent_FfnInner [hFfnInner : Cert.FfnInner.Facts] : Prop :=
  ∀ (m : (ℓ : Loc Cert.FfnInner.nD Cert.FfnInner.τ Cert.FfnInner.sig) → Buf (Elt Bits) ℓ) (g : Dev Cert.FfnInner.nD → PrngReg), Pre_FfnInner m →
    θ_run (Cert.FfnInner.defs (F := Bits)) (onTc (τ := Cert.FfnInner.τ) (Cert.FfnInner.main (F := Bits))) ⟨m, fun _ => 0, g⟩ (fun r => (∀ c : Dev Cert.FfnInner.nD,
      r.2.mem ((c.tc : Thread Cert.FfnInner.nD Cert.FfnInner.τ).loc Cert.FfnInner.main_arg0) = m ((c.tc : Thread Cert.FfnInner.nD Cert.FfnInner.τ).loc Cert.FfnInner.main_arg0)
      ∧ r.2.mem ((c.tc : Thread Cert.FfnInner.nD Cert.FfnInner.τ).loc Cert.FfnInner.main_arg1) = m ((c.tc : Thread Cert.FfnInner.nD Cert.FfnInner.τ).loc Cert.FfnInner.main_arg1))
      ∧ r.2.sem = fun _ => 0)

def quiescent_FfnInnerIdeal [hFfnInnerIdeal : Cert.FfnInnerIdeal.Facts] : Prop :=
  ∀ (m : (ℓ : Loc Cert.FfnInnerIdeal.nD Cert.FfnInnerIdeal.τ Cert.FfnInnerIdeal.sig) → Buf (Elt Ideal) ℓ) (g : Dev Cert.FfnInnerIdeal.nD → PrngReg), Pre_FfnInnerIdeal m →
    θ_run (Cert.FfnInnerIdeal.defs (F := Ideal)) (onTc (τ := Cert.FfnInnerIdeal.τ) (Cert.FfnInnerIdeal.main (F := Ideal))) ⟨m, fun _ => 0, g⟩ (fun r => (∀ c : Dev Cert.FfnInnerIdeal.nD,
      r.2.mem ((c.tc : Thread Cert.FfnInnerIdeal.nD Cert.FfnInnerIdeal.τ).loc Cert.FfnInnerIdeal.main_arg0) = m ((c.tc : Thread Cert.FfnInnerIdeal.nD Cert.FfnInnerIdeal.τ).loc Cert.FfnInnerIdeal.main_arg0)
      ∧ r.2.mem ((c.tc : Thread Cert.FfnInnerIdeal.nD Cert.FfnInnerIdeal.τ).loc Cert.FfnInnerIdeal.main_arg1) = m ((c.tc : Thread Cert.FfnInnerIdeal.nD Cert.FfnInnerIdeal.τ).loc Cert.FfnInnerIdeal.main_arg1))
      ∧ r.2.sem = fun _ => 0)

def quiescent_FfnInnerReferenceIdeal [hFfnInnerReferenceIdeal : Cert.FfnInnerReferenceIdeal.Facts] : Prop :=
  ∀ (m : (ℓ : Loc Cert.FfnInnerReferenceIdeal.nD Cert.FfnInnerReferenceIdeal.τ Cert.FfnInnerReferenceIdeal.sig) → Buf (Elt Ideal) ℓ) (g : Dev Cert.FfnInnerReferenceIdeal.nD → PrngReg), Pre_FfnInnerReferenceIdeal m →
    θ_run (Cert.FfnInnerReferenceIdeal.defs (F := Ideal)) (onTc (τ := Cert.FfnInnerReferenceIdeal.τ) (Cert.FfnInnerReferenceIdeal.main (F := Ideal))) ⟨m, fun _ => 0, g⟩ (fun r => (∀ c : Dev Cert.FfnInnerReferenceIdeal.nD,
      r.2.mem ((c.tc : Thread Cert.FfnInnerReferenceIdeal.nD Cert.FfnInnerReferenceIdeal.τ).loc Cert.FfnInnerReferenceIdeal.main_arg0) = m ((c.tc : Thread Cert.FfnInnerReferenceIdeal.nD Cert.FfnInnerReferenceIdeal.τ).loc Cert.FfnInnerReferenceIdeal.main_arg0)
      ∧ r.2.mem ((c.tc : Thread Cert.FfnInnerReferenceIdeal.nD Cert.FfnInnerReferenceIdeal.τ).loc Cert.FfnInnerReferenceIdeal.main_arg1) = m ((c.tc : Thread Cert.FfnInnerReferenceIdeal.nD Cert.FfnInnerReferenceIdeal.τ).loc Cert.FfnInnerReferenceIdeal.main_arg1))
      ∧ r.2.sem = fun _ => 0)

def quiescent_FfnUpWeight [hFfnUpWeight : Cert.FfnUpWeight.Facts] : Prop :=
  ∀ (m : (ℓ : Loc Cert.FfnUpWeight.nD Cert.FfnUpWeight.τ Cert.FfnUpWeight.sig) → Buf (Elt Bits) ℓ) (g : Dev Cert.FfnUpWeight.nD → PrngReg), Pre_FfnUpWeight m →
    θ_run (Cert.FfnUpWeight.defs (F := Bits)) (onTc (τ := Cert.FfnUpWeight.τ) (Cert.FfnUpWeight.main (F := Bits))) ⟨m, fun _ => 0, g⟩ (fun r => (∀ c : Dev Cert.FfnUpWeight.nD,
      r.2.mem ((c.tc : Thread Cert.FfnUpWeight.nD Cert.FfnUpWeight.τ).loc Cert.FfnUpWeight.main_arg0) = m ((c.tc : Thread Cert.FfnUpWeight.nD Cert.FfnUpWeight.τ).loc Cert.FfnUpWeight.main_arg0)
      ∧ r.2.mem ((c.tc : Thread Cert.FfnUpWeight.nD Cert.FfnUpWeight.τ).loc Cert.FfnUpWeight.main_arg1) = m ((c.tc : Thread Cert.FfnUpWeight.nD Cert.FfnUpWeight.τ).loc Cert.FfnUpWeight.main_arg1))
      ∧ r.2.sem = fun _ => 0)

def quiescent_FfnUpWeightIdeal [hFfnUpWeightIdeal : Cert.FfnUpWeightIdeal.Facts] : Prop :=
  ∀ (m : (ℓ : Loc Cert.FfnUpWeightIdeal.nD Cert.FfnUpWeightIdeal.τ Cert.FfnUpWeightIdeal.sig) → Buf (Elt Ideal) ℓ) (g : Dev Cert.FfnUpWeightIdeal.nD → PrngReg), Pre_FfnUpWeightIdeal m →
    θ_run (Cert.FfnUpWeightIdeal.defs (F := Ideal)) (onTc (τ := Cert.FfnUpWeightIdeal.τ) (Cert.FfnUpWeightIdeal.main (F := Ideal))) ⟨m, fun _ => 0, g⟩ (fun r => (∀ c : Dev Cert.FfnUpWeightIdeal.nD,
      r.2.mem ((c.tc : Thread Cert.FfnUpWeightIdeal.nD Cert.FfnUpWeightIdeal.τ).loc Cert.FfnUpWeightIdeal.main_arg0) = m ((c.tc : Thread Cert.FfnUpWeightIdeal.nD Cert.FfnUpWeightIdeal.τ).loc Cert.FfnUpWeightIdeal.main_arg0)
      ∧ r.2.mem ((c.tc : Thread Cert.FfnUpWeightIdeal.nD Cert.FfnUpWeightIdeal.τ).loc Cert.FfnUpWeightIdeal.main_arg1) = m ((c.tc : Thread Cert.FfnUpWeightIdeal.nD Cert.FfnUpWeightIdeal.τ).loc Cert.FfnUpWeightIdeal.main_arg1))
      ∧ r.2.sem = fun _ => 0)

def quiescent_FfnUpWeightReferenceIdeal [hFfnUpWeightReferenceIdeal : Cert.FfnUpWeightReferenceIdeal.Facts] : Prop :=
  ∀ (m : (ℓ : Loc Cert.FfnUpWeightReferenceIdeal.nD Cert.FfnUpWeightReferenceIdeal.τ Cert.FfnUpWeightReferenceIdeal.sig) → Buf (Elt Ideal) ℓ) (g : Dev Cert.FfnUpWeightReferenceIdeal.nD → PrngReg), Pre_FfnUpWeightReferenceIdeal m →
    θ_run (Cert.FfnUpWeightReferenceIdeal.defs (F := Ideal)) (onTc (τ := Cert.FfnUpWeightReferenceIdeal.τ) (Cert.FfnUpWeightReferenceIdeal.main (F := Ideal))) ⟨m, fun _ => 0, g⟩ (fun r => (∀ c : Dev Cert.FfnUpWeightReferenceIdeal.nD,
      r.2.mem ((c.tc : Thread Cert.FfnUpWeightReferenceIdeal.nD Cert.FfnUpWeightReferenceIdeal.τ).loc Cert.FfnUpWeightReferenceIdeal.main_arg0) = m ((c.tc : Thread Cert.FfnUpWeightReferenceIdeal.nD Cert.FfnUpWeightReferenceIdeal.τ).loc Cert.FfnUpWeightReferenceIdeal.main_arg0)
      ∧ r.2.mem ((c.tc : Thread Cert.FfnUpWeightReferenceIdeal.nD Cert.FfnUpWeightReferenceIdeal.τ).loc Cert.FfnUpWeightReferenceIdeal.main_arg1) = m ((c.tc : Thread Cert.FfnUpWeightReferenceIdeal.nD Cert.FfnUpWeightReferenceIdeal.τ).loc Cert.FfnUpWeightReferenceIdeal.main_arg1))
      ∧ r.2.sem = fun _ => 0)

def quiescent_FfnInput [hFfnInput : Cert.FfnInput.Facts] : Prop :=
  ∀ (m : (ℓ : Loc Cert.FfnInput.nD Cert.FfnInput.τ Cert.FfnInput.sig) → Buf (Elt Bits) ℓ) (g : Dev Cert.FfnInput.nD → PrngReg), Pre_FfnInput m →
    θ_run (Cert.FfnInput.defs (F := Bits)) (onTc (τ := Cert.FfnInput.τ) (Cert.FfnInput.main (F := Bits))) ⟨m, fun _ => 0, g⟩ (fun r => (∀ c : Dev Cert.FfnInput.nD,
      r.2.mem ((c.tc : Thread Cert.FfnInput.nD Cert.FfnInput.τ).loc Cert.FfnInput.main_arg0) = m ((c.tc : Thread Cert.FfnInput.nD Cert.FfnInput.τ).loc Cert.FfnInput.main_arg0)
      ∧ r.2.mem ((c.tc : Thread Cert.FfnInput.nD Cert.FfnInput.τ).loc Cert.FfnInput.main_arg1) = m ((c.tc : Thread Cert.FfnInput.nD Cert.FfnInput.τ).loc Cert.FfnInput.main_arg1)
      ∧ r.2.mem ((c.tc : Thread Cert.FfnInput.nD Cert.FfnInput.τ).loc Cert.FfnInput.main_arg2) = m ((c.tc : Thread Cert.FfnInput.nD Cert.FfnInput.τ).loc Cert.FfnInput.main_arg2)
      ∧ r.2.mem ((c.tc : Thread Cert.FfnInput.nD Cert.FfnInput.τ).loc Cert.FfnInput.main_arg3) = m ((c.tc : Thread Cert.FfnInput.nD Cert.FfnInput.τ).loc Cert.FfnInput.main_arg3))
      ∧ r.2.sem = fun _ => 0)

def quiescent_FfnInputIdeal [hFfnInputIdeal : Cert.FfnInputIdeal.Facts] : Prop :=
  ∀ (m : (ℓ : Loc Cert.FfnInputIdeal.nD Cert.FfnInputIdeal.τ Cert.FfnInputIdeal.sig) → Buf (Elt Ideal) ℓ) (g : Dev Cert.FfnInputIdeal.nD → PrngReg), Pre_FfnInputIdeal m →
    θ_run (Cert.FfnInputIdeal.defs (F := Ideal)) (onTc (τ := Cert.FfnInputIdeal.τ) (Cert.FfnInputIdeal.main (F := Ideal))) ⟨m, fun _ => 0, g⟩ (fun r => (∀ c : Dev Cert.FfnInputIdeal.nD,
      r.2.mem ((c.tc : Thread Cert.FfnInputIdeal.nD Cert.FfnInputIdeal.τ).loc Cert.FfnInputIdeal.main_arg0) = m ((c.tc : Thread Cert.FfnInputIdeal.nD Cert.FfnInputIdeal.τ).loc Cert.FfnInputIdeal.main_arg0)
      ∧ r.2.mem ((c.tc : Thread Cert.FfnInputIdeal.nD Cert.FfnInputIdeal.τ).loc Cert.FfnInputIdeal.main_arg1) = m ((c.tc : Thread Cert.FfnInputIdeal.nD Cert.FfnInputIdeal.τ).loc Cert.FfnInputIdeal.main_arg1)
      ∧ r.2.mem ((c.tc : Thread Cert.FfnInputIdeal.nD Cert.FfnInputIdeal.τ).loc Cert.FfnInputIdeal.main_arg2) = m ((c.tc : Thread Cert.FfnInputIdeal.nD Cert.FfnInputIdeal.τ).loc Cert.FfnInputIdeal.main_arg2)
      ∧ r.2.mem ((c.tc : Thread Cert.FfnInputIdeal.nD Cert.FfnInputIdeal.τ).loc Cert.FfnInputIdeal.main_arg3) = m ((c.tc : Thread Cert.FfnInputIdeal.nD Cert.FfnInputIdeal.τ).loc Cert.FfnInputIdeal.main_arg3))
      ∧ r.2.sem = fun _ => 0)

def quiescent_FfnInputReferenceIdeal [hFfnInputReferenceIdeal : Cert.FfnInputReferenceIdeal.Facts] : Prop :=
  ∀ (m : (ℓ : Loc Cert.FfnInputReferenceIdeal.nD Cert.FfnInputReferenceIdeal.τ Cert.FfnInputReferenceIdeal.sig) → Buf (Elt Ideal) ℓ) (g : Dev Cert.FfnInputReferenceIdeal.nD → PrngReg), Pre_FfnInputReferenceIdeal m →
    θ_run (Cert.FfnInputReferenceIdeal.defs (F := Ideal)) (onTc (τ := Cert.FfnInputReferenceIdeal.τ) (Cert.FfnInputReferenceIdeal.main (F := Ideal))) ⟨m, fun _ => 0, g⟩ (fun r => (∀ c : Dev Cert.FfnInputReferenceIdeal.nD,
      r.2.mem ((c.tc : Thread Cert.FfnInputReferenceIdeal.nD Cert.FfnInputReferenceIdeal.τ).loc Cert.FfnInputReferenceIdeal.main_arg0) = m ((c.tc : Thread Cert.FfnInputReferenceIdeal.nD Cert.FfnInputReferenceIdeal.τ).loc Cert.FfnInputReferenceIdeal.main_arg0)
      ∧ r.2.mem ((c.tc : Thread Cert.FfnInputReferenceIdeal.nD Cert.FfnInputReferenceIdeal.τ).loc Cert.FfnInputReferenceIdeal.main_arg1) = m ((c.tc : Thread Cert.FfnInputReferenceIdeal.nD Cert.FfnInputReferenceIdeal.τ).loc Cert.FfnInputReferenceIdeal.main_arg1)
      ∧ r.2.mem ((c.tc : Thread Cert.FfnInputReferenceIdeal.nD Cert.FfnInputReferenceIdeal.τ).loc Cert.FfnInputReferenceIdeal.main_arg2) = m ((c.tc : Thread Cert.FfnInputReferenceIdeal.nD Cert.FfnInputReferenceIdeal.τ).loc Cert.FfnInputReferenceIdeal.main_arg2)
      ∧ r.2.mem ((c.tc : Thread Cert.FfnInputReferenceIdeal.nD Cert.FfnInputReferenceIdeal.τ).loc Cert.FfnInputReferenceIdeal.main_arg3) = m ((c.tc : Thread Cert.FfnInputReferenceIdeal.nD Cert.FfnInputReferenceIdeal.τ).loc Cert.FfnInputReferenceIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1))
      ∧ r.2.sem = fun _ => 0)

def quiescent_MixerWeight [hMixerWeight : Cert.MixerWeight.Facts] : Prop :=
  ∀ (m : (ℓ : Loc Cert.MixerWeight.nD Cert.MixerWeight.τ Cert.MixerWeight.sig) → Buf (Elt Bits) ℓ) (g : Dev Cert.MixerWeight.nD → PrngReg), Pre_MixerWeight m →
    θ_run (Cert.MixerWeight.defs (F := Bits)) (onTc (τ := Cert.MixerWeight.τ) (Cert.MixerWeight.main (F := Bits))) ⟨m, fun _ => 0, g⟩ (fun r => (∀ c : Dev Cert.MixerWeight.nD,
      r.2.mem ((c.tc : Thread Cert.MixerWeight.nD Cert.MixerWeight.τ).loc Cert.MixerWeight.main_arg0) = m ((c.tc : Thread Cert.MixerWeight.nD Cert.MixerWeight.τ).loc Cert.MixerWeight.main_arg0)
      ∧ r.2.mem ((c.tc : Thread Cert.MixerWeight.nD Cert.MixerWeight.τ).loc Cert.MixerWeight.main_arg1) = m ((c.tc : Thread Cert.MixerWeight.nD Cert.MixerWeight.τ).loc Cert.MixerWeight.main_arg1))
      ∧ r.2.sem = fun _ => 0)

def quiescent_MixerWeightIdeal [hMixerWeightIdeal : Cert.MixerWeightIdeal.Facts] : Prop :=
  ∀ (m : (ℓ : Loc Cert.MixerWeightIdeal.nD Cert.MixerWeightIdeal.τ Cert.MixerWeightIdeal.sig) → Buf (Elt Ideal) ℓ) (g : Dev Cert.MixerWeightIdeal.nD → PrngReg), Pre_MixerWeightIdeal m →
    θ_run (Cert.MixerWeightIdeal.defs (F := Ideal)) (onTc (τ := Cert.MixerWeightIdeal.τ) (Cert.MixerWeightIdeal.main (F := Ideal))) ⟨m, fun _ => 0, g⟩ (fun r => (∀ c : Dev Cert.MixerWeightIdeal.nD,
      r.2.mem ((c.tc : Thread Cert.MixerWeightIdeal.nD Cert.MixerWeightIdeal.τ).loc Cert.MixerWeightIdeal.main_arg0) = m ((c.tc : Thread Cert.MixerWeightIdeal.nD Cert.MixerWeightIdeal.τ).loc Cert.MixerWeightIdeal.main_arg0)
      ∧ r.2.mem ((c.tc : Thread Cert.MixerWeightIdeal.nD Cert.MixerWeightIdeal.τ).loc Cert.MixerWeightIdeal.main_arg1) = m ((c.tc : Thread Cert.MixerWeightIdeal.nD Cert.MixerWeightIdeal.τ).loc Cert.MixerWeightIdeal.main_arg1))
      ∧ r.2.sem = fun _ => 0)

def quiescent_MixerWeightReferenceIdeal [hMixerWeightReferenceIdeal : Cert.MixerWeightReferenceIdeal.Facts] : Prop :=
  ∀ (m : (ℓ : Loc Cert.MixerWeightReferenceIdeal.nD Cert.MixerWeightReferenceIdeal.τ Cert.MixerWeightReferenceIdeal.sig) → Buf (Elt Ideal) ℓ) (g : Dev Cert.MixerWeightReferenceIdeal.nD → PrngReg), Pre_MixerWeightReferenceIdeal m →
    θ_run (Cert.MixerWeightReferenceIdeal.defs (F := Ideal)) (onTc (τ := Cert.MixerWeightReferenceIdeal.τ) (Cert.MixerWeightReferenceIdeal.main (F := Ideal))) ⟨m, fun _ => 0, g⟩ (fun r => (∀ c : Dev Cert.MixerWeightReferenceIdeal.nD,
      r.2.mem ((c.tc : Thread Cert.MixerWeightReferenceIdeal.nD Cert.MixerWeightReferenceIdeal.τ).loc Cert.MixerWeightReferenceIdeal.main_arg0) = m ((c.tc : Thread Cert.MixerWeightReferenceIdeal.nD Cert.MixerWeightReferenceIdeal.τ).loc Cert.MixerWeightReferenceIdeal.main_arg0)
      ∧ r.2.mem ((c.tc : Thread Cert.MixerWeightReferenceIdeal.nD Cert.MixerWeightReferenceIdeal.τ).loc Cert.MixerWeightReferenceIdeal.main_arg1) = m ((c.tc : Thread Cert.MixerWeightReferenceIdeal.nD Cert.MixerWeightReferenceIdeal.τ).loc Cert.MixerWeightReferenceIdeal.main_arg1))
      ∧ r.2.sem = fun _ => 0)

def quiescent_MixerInput [hMixerInput : Cert.MixerInput.Facts] : Prop :=
  ∀ (m : (ℓ : Loc Cert.MixerInput.nD Cert.MixerInput.τ Cert.MixerInput.sig) → Buf (Elt Bits) ℓ) (g : Dev Cert.MixerInput.nD → PrngReg), Pre_MixerInput m →
    θ_run (Cert.MixerInput.defs (F := Bits)) (onTc (τ := Cert.MixerInput.τ) (Cert.MixerInput.main (F := Bits))) ⟨m, fun _ => 0, g⟩ (fun r => (∀ c : Dev Cert.MixerInput.nD,
      r.2.mem ((c.tc : Thread Cert.MixerInput.nD Cert.MixerInput.τ).loc Cert.MixerInput.main_arg0) = m ((c.tc : Thread Cert.MixerInput.nD Cert.MixerInput.τ).loc Cert.MixerInput.main_arg0)
      ∧ r.2.mem ((c.tc : Thread Cert.MixerInput.nD Cert.MixerInput.τ).loc Cert.MixerInput.main_arg1) = m ((c.tc : Thread Cert.MixerInput.nD Cert.MixerInput.τ).loc Cert.MixerInput.main_arg1)
      ∧ r.2.mem ((c.tc : Thread Cert.MixerInput.nD Cert.MixerInput.τ).loc Cert.MixerInput.main_arg2) = m ((c.tc : Thread Cert.MixerInput.nD Cert.MixerInput.τ).loc Cert.MixerInput.main_arg2)
      ∧ r.2.mem ((c.tc : Thread Cert.MixerInput.nD Cert.MixerInput.τ).loc Cert.MixerInput.main_arg3) = m ((c.tc : Thread Cert.MixerInput.nD Cert.MixerInput.τ).loc Cert.MixerInput.main_arg3))
      ∧ r.2.sem = fun _ => 0)

def quiescent_MixerInputIdeal [hMixerInputIdeal : Cert.MixerInputIdeal.Facts] : Prop :=
  ∀ (m : (ℓ : Loc Cert.MixerInputIdeal.nD Cert.MixerInputIdeal.τ Cert.MixerInputIdeal.sig) → Buf (Elt Ideal) ℓ) (g : Dev Cert.MixerInputIdeal.nD → PrngReg), Pre_MixerInputIdeal m →
    θ_run (Cert.MixerInputIdeal.defs (F := Ideal)) (onTc (τ := Cert.MixerInputIdeal.τ) (Cert.MixerInputIdeal.main (F := Ideal))) ⟨m, fun _ => 0, g⟩ (fun r => (∀ c : Dev Cert.MixerInputIdeal.nD,
      r.2.mem ((c.tc : Thread Cert.MixerInputIdeal.nD Cert.MixerInputIdeal.τ).loc Cert.MixerInputIdeal.main_arg0) = m ((c.tc : Thread Cert.MixerInputIdeal.nD Cert.MixerInputIdeal.τ).loc Cert.MixerInputIdeal.main_arg0)
      ∧ r.2.mem ((c.tc : Thread Cert.MixerInputIdeal.nD Cert.MixerInputIdeal.τ).loc Cert.MixerInputIdeal.main_arg1) = m ((c.tc : Thread Cert.MixerInputIdeal.nD Cert.MixerInputIdeal.τ).loc Cert.MixerInputIdeal.main_arg1)
      ∧ r.2.mem ((c.tc : Thread Cert.MixerInputIdeal.nD Cert.MixerInputIdeal.τ).loc Cert.MixerInputIdeal.main_arg2) = m ((c.tc : Thread Cert.MixerInputIdeal.nD Cert.MixerInputIdeal.τ).loc Cert.MixerInputIdeal.main_arg2)
      ∧ r.2.mem ((c.tc : Thread Cert.MixerInputIdeal.nD Cert.MixerInputIdeal.τ).loc Cert.MixerInputIdeal.main_arg3) = m ((c.tc : Thread Cert.MixerInputIdeal.nD Cert.MixerInputIdeal.τ).loc Cert.MixerInputIdeal.main_arg3))
      ∧ r.2.sem = fun _ => 0)

def quiescent_MixerInputReferenceIdeal [hMixerInputReferenceIdeal : Cert.MixerInputReferenceIdeal.Facts] : Prop :=
  ∀ (m : (ℓ : Loc Cert.MixerInputReferenceIdeal.nD Cert.MixerInputReferenceIdeal.τ Cert.MixerInputReferenceIdeal.sig) → Buf (Elt Ideal) ℓ) (g : Dev Cert.MixerInputReferenceIdeal.nD → PrngReg), Pre_MixerInputReferenceIdeal m →
    θ_run (Cert.MixerInputReferenceIdeal.defs (F := Ideal)) (onTc (τ := Cert.MixerInputReferenceIdeal.τ) (Cert.MixerInputReferenceIdeal.main (F := Ideal))) ⟨m, fun _ => 0, g⟩ (fun r => (∀ c : Dev Cert.MixerInputReferenceIdeal.nD,
      r.2.mem ((c.tc : Thread Cert.MixerInputReferenceIdeal.nD Cert.MixerInputReferenceIdeal.τ).loc Cert.MixerInputReferenceIdeal.main_arg0) = m ((c.tc : Thread Cert.MixerInputReferenceIdeal.nD Cert.MixerInputReferenceIdeal.τ).loc Cert.MixerInputReferenceIdeal.main_arg0)
      ∧ r.2.mem ((c.tc : Thread Cert.MixerInputReferenceIdeal.nD Cert.MixerInputReferenceIdeal.τ).loc Cert.MixerInputReferenceIdeal.main_arg1) = m ((c.tc : Thread Cert.MixerInputReferenceIdeal.nD Cert.MixerInputReferenceIdeal.τ).loc Cert.MixerInputReferenceIdeal.main_arg1)
      ∧ r.2.mem ((c.tc : Thread Cert.MixerInputReferenceIdeal.nD Cert.MixerInputReferenceIdeal.τ).loc Cert.MixerInputReferenceIdeal.main_arg2) = m ((c.tc : Thread Cert.MixerInputReferenceIdeal.nD Cert.MixerInputReferenceIdeal.τ).loc Cert.MixerInputReferenceIdeal.main_arg2)
      ∧ r.2.mem ((c.tc : Thread Cert.MixerInputReferenceIdeal.nD Cert.MixerInputReferenceIdeal.τ).loc Cert.MixerInputReferenceIdeal.main_arg3) = m ((c.tc : Thread Cert.MixerInputReferenceIdeal.nD Cert.MixerInputReferenceIdeal.τ).loc Cert.MixerInputReferenceIdeal.main_arg3))
      ∧ r.2.sem = fun _ => 0)

def quiescent_MixerIn [hMixerIn : Cert.MixerIn.Facts] : Prop :=
  ∀ (m : (ℓ : Loc Cert.MixerIn.nD Cert.MixerIn.τ Cert.MixerIn.sig) → Buf (Elt Bits) ℓ) (g : Dev Cert.MixerIn.nD → PrngReg), Pre_MixerIn m →
    θ_run (Cert.MixerIn.defs (F := Bits)) (onTc (τ := Cert.MixerIn.τ) (Cert.MixerIn.main (F := Bits))) ⟨m, fun _ => 0, g⟩ (fun r => (∀ c : Dev Cert.MixerIn.nD,
      r.2.mem ((c.tc : Thread Cert.MixerIn.nD Cert.MixerIn.τ).loc Cert.MixerIn.main_arg0) = m ((c.tc : Thread Cert.MixerIn.nD Cert.MixerIn.τ).loc Cert.MixerIn.main_arg0)
      ∧ r.2.mem ((c.tc : Thread Cert.MixerIn.nD Cert.MixerIn.τ).loc Cert.MixerIn.main_arg1) = m ((c.tc : Thread Cert.MixerIn.nD Cert.MixerIn.τ).loc Cert.MixerIn.main_arg1))
      ∧ r.2.sem = fun _ => 0)

def quiescent_MixerInIdeal [hMixerInIdeal : Cert.MixerInIdeal.Facts] : Prop :=
  ∀ (m : (ℓ : Loc Cert.MixerInIdeal.nD Cert.MixerInIdeal.τ Cert.MixerInIdeal.sig) → Buf (Elt Ideal) ℓ) (g : Dev Cert.MixerInIdeal.nD → PrngReg), Pre_MixerInIdeal m →
    θ_run (Cert.MixerInIdeal.defs (F := Ideal)) (onTc (τ := Cert.MixerInIdeal.τ) (Cert.MixerInIdeal.main (F := Ideal))) ⟨m, fun _ => 0, g⟩ (fun r => (∀ c : Dev Cert.MixerInIdeal.nD,
      r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
      ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1))
      ∧ r.2.sem = fun _ => 0)

def quiescent_MixerInReferenceIdeal [hMixerInReferenceIdeal : Cert.MixerInReferenceIdeal.Facts] : Prop :=
  ∀ (m : (ℓ : Loc Cert.MixerInReferenceIdeal.nD Cert.MixerInReferenceIdeal.τ Cert.MixerInReferenceIdeal.sig) → Buf (Elt Ideal) ℓ) (g : Dev Cert.MixerInReferenceIdeal.nD → PrngReg), Pre_MixerInReferenceIdeal m →
    θ_run (Cert.MixerInReferenceIdeal.defs (F := Ideal)) (onTc (τ := Cert.MixerInReferenceIdeal.τ) (Cert.MixerInReferenceIdeal.main (F := Ideal))) ⟨m, fun _ => 0, g⟩ (fun r => (∀ c : Dev Cert.MixerInReferenceIdeal.nD,
      r.2.mem ((c.tc : Thread Cert.MixerInReferenceIdeal.nD Cert.MixerInReferenceIdeal.τ).loc Cert.MixerInReferenceIdeal.main_arg0) = m ((c.tc : Thread Cert.MixerInReferenceIdeal.nD Cert.MixerInReferenceIdeal.τ).loc Cert.MixerInReferenceIdeal.main_arg0)
      ∧ r.2.mem ((c.tc : Thread Cert.MixerInReferenceIdeal.nD Cert.MixerInReferenceIdeal.τ).loc Cert.MixerInReferenceIdeal.main_arg1) = m ((c.tc : Thread Cert.MixerInReferenceIdeal.nD Cert.MixerInReferenceIdeal.τ).loc Cert.MixerInReferenceIdeal.main_arg1))
      ∧ r.2.sem = fun _ => 0)

def quiescent_MergeWeight [hMergeWeight : Cert.MergeWeight.Facts] : Prop :=
  ∀ (m : (ℓ : Loc Cert.MergeWeight.nD Cert.MergeWeight.τ Cert.MergeWeight.sig) → Buf (Elt Bits) ℓ) (g : Dev Cert.MergeWeight.nD → PrngReg), Pre_MergeWeight m →
    θ_run (Cert.MergeWeight.defs (F := Bits)) (onTc (τ := Cert.MergeWeight.τ) (Cert.MergeWeight.main (F := Bits))) ⟨m, fun _ => 0, g⟩ (fun r => (∀ c : Dev Cert.MergeWeight.nD,
      r.2.mem ((c.tc : Thread Cert.MergeWeight.nD Cert.MergeWeight.τ).loc Cert.MergeWeight.main_arg0) = m ((c.tc : Thread Cert.MergeWeight.nD Cert.MergeWeight.τ).loc Cert.MergeWeight.main_arg0)
      ∧ r.2.mem ((c.tc : Thread Cert.MergeWeight.nD Cert.MergeWeight.τ).loc Cert.MergeWeight.main_arg1) = m ((c.tc : Thread Cert.MergeWeight.nD Cert.MergeWeight.τ).loc Cert.MergeWeight.main_arg1))
      ∧ r.2.sem = fun _ => 0)

def quiescent_MergeWeightIdeal [hMergeWeightIdeal : Cert.MergeWeightIdeal.Facts] : Prop :=
  ∀ (m : (ℓ : Loc Cert.MergeWeightIdeal.nD Cert.MergeWeightIdeal.τ Cert.MergeWeightIdeal.sig) → Buf (Elt Ideal) ℓ) (g : Dev Cert.MergeWeightIdeal.nD → PrngReg), Pre_MergeWeightIdeal m →
    θ_run (Cert.MergeWeightIdeal.defs (F := Ideal)) (onTc (τ := Cert.MergeWeightIdeal.τ) (Cert.MergeWeightIdeal.main (F := Ideal))) ⟨m, fun _ => 0, g⟩ (fun r => (∀ c : Dev Cert.MergeWeightIdeal.nD,
      r.2.mem ((c.tc : Thread Cert.MergeWeightIdeal.nD Cert.MergeWeightIdeal.τ).loc Cert.MergeWeightIdeal.main_arg0) = m ((c.tc : Thread Cert.MergeWeightIdeal.nD Cert.MergeWeightIdeal.τ).loc Cert.MergeWeightIdeal.main_arg0)
      ∧ r.2.mem ((c.tc : Thread Cert.MergeWeightIdeal.nD Cert.MergeWeightIdeal.τ).loc Cert.MergeWeightIdeal.main_arg1) = m ((c.tc : Thread Cert.MergeWeightIdeal.nD Cert.MergeWeightIdeal.τ).loc Cert.MergeWeightIdeal.main_arg1))
      ∧ r.2.sem = fun _ => 0)

def quiescent_MergeWeightReferenceIdeal [hMergeWeightReferenceIdeal : Cert.MergeWeightReferenceIdeal.Facts] : Prop :=
  ∀ (m : (ℓ : Loc Cert.MergeWeightReferenceIdeal.nD Cert.MergeWeightReferenceIdeal.τ Cert.MergeWeightReferenceIdeal.sig) → Buf (Elt Ideal) ℓ) (g : Dev Cert.MergeWeightReferenceIdeal.nD → PrngReg), Pre_MergeWeightReferenceIdeal m →
    θ_run (Cert.MergeWeightReferenceIdeal.defs (F := Ideal)) (onTc (τ := Cert.MergeWeightReferenceIdeal.τ) (Cert.MergeWeightReferenceIdeal.main (F := Ideal))) ⟨m, fun _ => 0, g⟩ (fun r => (∀ c : Dev Cert.MergeWeightReferenceIdeal.nD,
      r.2.mem ((c.tc : Thread Cert.MergeWeightReferenceIdeal.nD Cert.MergeWeightReferenceIdeal.τ).loc Cert.MergeWeightReferenceIdeal.main_arg0) = m ((c.tc : Thread Cert.MergeWeightReferenceIdeal.nD Cert.MergeWeightReferenceIdeal.τ).loc Cert.MergeWeightReferenceIdeal.main_arg0)
      ∧ r.2.mem ((c.tc : Thread Cert.MergeWeightReferenceIdeal.nD Cert.MergeWeightReferenceIdeal.τ).loc Cert.MergeWeightReferenceIdeal.main_arg1) = m ((c.tc : Thread Cert.MergeWeightReferenceIdeal.nD Cert.MergeWeightReferenceIdeal.τ).loc Cert.MergeWeightReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1))
      ∧ r.2.sem = fun _ => 0)

def quiescent_OutInput [hOutInput : Cert.OutInput.Facts] : Prop :=
  ∀ (m : (ℓ : Loc Cert.OutInput.nD Cert.OutInput.τ Cert.OutInput.sig) → Buf (Elt Bits) ℓ) (g : Dev Cert.OutInput.nD → PrngReg), Pre_OutInput m →
    θ_run (Cert.OutInput.defs (F := Bits)) (onTc (τ := Cert.OutInput.τ) (Cert.OutInput.main (F := Bits))) ⟨m, fun _ => 0, g⟩ (fun r => (∀ c : Dev Cert.OutInput.nD,
      r.2.mem ((c.tc : Thread Cert.OutInput.nD Cert.OutInput.τ).loc Cert.OutInput.main_arg0) = m ((c.tc : Thread Cert.OutInput.nD Cert.OutInput.τ).loc Cert.OutInput.main_arg0)
      ∧ r.2.mem ((c.tc : Thread Cert.OutInput.nD Cert.OutInput.τ).loc Cert.OutInput.main_arg1) = m ((c.tc : Thread Cert.OutInput.nD Cert.OutInput.τ).loc Cert.OutInput.main_arg1))
      ∧ r.2.sem = fun _ => 0)

def quiescent_OutInputIdeal [hOutInputIdeal : Cert.OutInputIdeal.Facts] : Prop :=
  ∀ (m : (ℓ : Loc Cert.OutInputIdeal.nD Cert.OutInputIdeal.τ Cert.OutInputIdeal.sig) → Buf (Elt Ideal) ℓ) (g : Dev Cert.OutInputIdeal.nD → PrngReg), Pre_OutInputIdeal m →
    θ_run (Cert.OutInputIdeal.defs (F := Ideal)) (onTc (τ := Cert.OutInputIdeal.τ) (Cert.OutInputIdeal.main (F := Ideal))) ⟨m, fun _ => 0, g⟩ (fun r => (∀ c : Dev Cert.OutInputIdeal.nD,
      r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
      ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ r.2.sem = fun _ => 0)

def quiescent_OutInputReferenceIdeal [hOutInputReferenceIdeal : Cert.OutInputReferenceIdeal.Facts] : Prop :=
  ∀ (m : (ℓ : Loc Cert.OutInputReferenceIdeal.nD Cert.OutInputReferenceIdeal.τ Cert.OutInputReferenceIdeal.sig) → Buf (Elt Ideal) ℓ) (g : Dev Cert.OutInputReferenceIdeal.nD → PrngReg), Pre_OutInputReferenceIdeal m →
    θ_run (Cert.OutInputReferenceIdeal.defs (F := Ideal)) (onTc (τ := Cert.OutInputReferenceIdeal.τ) (Cert.OutInputReferenceIdeal.main (F := Ideal))) ⟨m, fun _ => 0, g⟩ (fun r => (∀ c : Dev Cert.OutInputReferenceIdeal.nD,
      r.2.mem ((c.tc : Thread Cert.OutInputReferenceIdeal.nD Cert.OutInputReferenceIdeal.τ).loc Cert.OutInputReferenceIdeal.main_arg0) = m ((c.tc : Thread Cert.OutInputReferenceIdeal.nD Cert.OutInputReferenceIdeal.τ).loc Cert.OutInputReferenceIdeal.main_arg0)
      ∧ r.2.mem ((c.tc : Thread Cert.OutInputReferenceIdeal.nD Cert.OutInputReferenceIdeal.τ).loc Cert.OutInputReferenceIdeal.main_arg1) = m ((c.tc : Thread Cert.OutInputReferenceIdeal.nD Cert.OutInputReferenceIdeal.τ).loc Cert.OutInputReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_RetWeight [hRetWeight : Cert.RetWeight.Facts] : Prop :=
  ∀ (m : (ℓ : Loc Cert.RetWeight.nD Cert.RetWeight.τ Cert.RetWeight.sig) → Buf (Elt Bits) ℓ) (g : Dev Cert.RetWeight.nD → PrngReg), Pre_RetWeight m →
    θ_run (Cert.RetWeight.defs (F := Bits)) (onTc (τ := Cert.RetWeight.τ) (Cert.RetWeight.main (F := Bits))) ⟨m, fun _ => 0, g⟩ (fun r => (∀ c : Dev Cert.RetWeight.nD,
      r.2.mem ((c.tc : Thread Cert.RetWeight.nD Cert.RetWeight.τ).loc Cert.RetWeight.main_arg0) = m ((c.tc : Thread Cert.RetWeight.nD Cert.RetWeight.τ).loc Cert.RetWeight.main_arg0)
      ∧ r.2.mem ((c.tc : Thread Cert.RetWeight.nD Cert.RetWeight.τ).loc Cert.RetWeight.main_arg1) = m ((c.tc : Thread Cert.RetWeight.nD Cert.RetWeight.τ).loc Cert.RetWeight.main_arg1))
      ∧ r.2.sem = fun _ => 0)

def quiescent_RetWeightIdeal [hRetWeightIdeal : Cert.RetWeightIdeal.Facts] : Prop :=
  ∀ (m : (ℓ : Loc Cert.RetWeightIdeal.nD Cert.RetWeightIdeal.τ Cert.RetWeightIdeal.sig) → Buf (Elt Ideal) ℓ) (g : Dev Cert.RetWeightIdeal.nD → PrngReg), Pre_RetWeightIdeal m →
    θ_run (Cert.RetWeightIdeal.defs (F := Ideal)) (onTc (τ := Cert.RetWeightIdeal.τ) (Cert.RetWeightIdeal.main (F := Ideal))) ⟨m, fun _ => 0, g⟩ (fun r => (∀ c : Dev Cert.RetWeightIdeal.nD,
      r.2.mem ((c.tc : Thread Cert.RetWeightIdeal.nD Cert.RetWeightIdeal.τ).loc Cert.RetWeightIdeal.main_arg0) = m ((c.tc : Thread Cert.RetWeightIdeal.nD Cert.RetWeightIdeal.τ).loc Cert.RetWeightIdeal.main_arg0)
      ∧ r.2.mem ((c.tc : Thread Cert.RetWeightIdeal.nD Cert.RetWeightIdeal.τ).loc Cert.RetWeightIdeal.main_arg1) = m ((c.tc : Thread Cert.RetWeightIdeal.nD Cert.RetWeightIdeal.τ).loc Cert.RetWeightIdeal.main_arg1))
      ∧ r.2.sem = fun _ => 0)

def quiescent_RetWeightReferenceIdeal [hRetWeightReferenceIdeal : Cert.RetWeightReferenceIdeal.Facts] : Prop :=
  ∀ (m : (ℓ : Loc Cert.RetWeightReferenceIdeal.nD Cert.RetWeightReferenceIdeal.τ Cert.RetWeightReferenceIdeal.sig) → Buf (Elt Ideal) ℓ) (g : Dev Cert.RetWeightReferenceIdeal.nD → PrngReg), Pre_RetWeightReferenceIdeal m →
    θ_run (Cert.RetWeightReferenceIdeal.defs (F := Ideal)) (onTc (τ := Cert.RetWeightReferenceIdeal.τ) (Cert.RetWeightReferenceIdeal.main (F := Ideal))) ⟨m, fun _ => 0, g⟩ (fun r => (∀ c : Dev Cert.RetWeightReferenceIdeal.nD,
      r.2.mem ((c.tc : Thread Cert.RetWeightReferenceIdeal.nD Cert.RetWeightReferenceIdeal.τ).loc Cert.RetWeightReferenceIdeal.main_arg0) = m ((c.tc : Thread Cert.RetWeightReferenceIdeal.nD Cert.RetWeightReferenceIdeal.τ).loc Cert.RetWeightReferenceIdeal.main_arg0)
      ∧ r.2.mem ((c.tc : Thread Cert.RetWeightReferenceIdeal.nD Cert.RetWeightReferenceIdeal.τ).loc Cert.RetWeightReferenceIdeal.main_arg1) = m ((c.tc : Thread Cert.RetWeightReferenceIdeal.nD Cert.RetWeightReferenceIdeal.τ).loc Cert.RetWeightReferenceIdeal.main_arg1))
      ∧ r.2.sem = fun _ => 0)

def quiescent_RetInput [hRetInput : Cert.RetInput.Facts] : Prop :=
  ∀ (m : (ℓ : Loc Cert.RetInput.nD Cert.RetInput.τ Cert.RetInput.sig) → Buf (Elt Bits) ℓ) (g : Dev Cert.RetInput.nD → PrngReg), Pre_RetInput m →
    θ_run (Cert.RetInput.defs (F := Bits)) (onTc (τ := Cert.RetInput.τ) (Cert.RetInput.main (F := Bits))) ⟨m, fun _ => 0, g⟩ (fun r => (∀ c : Dev Cert.RetInput.nD,
      r.2.mem ((c.tc : Thread Cert.RetInput.nD Cert.RetInput.τ).loc Cert.RetInput.main_arg0) = m ((c.tc : Thread Cert.RetInput.nD Cert.RetInput.τ).loc Cert.RetInput.main_arg0)
      ∧ r.2.mem ((c.tc : Thread Cert.RetInput.nD Cert.RetInput.τ).loc Cert.RetInput.main_arg1) = m ((c.tc : Thread Cert.RetInput.nD Cert.RetInput.τ).loc Cert.RetInput.main_arg1))
      ∧ r.2.sem = fun _ => 0)

def quiescent_RetInputIdeal [hRetInputIdeal : Cert.RetInputIdeal.Facts] : Prop :=
  ∀ (m : (ℓ : Loc Cert.RetInputIdeal.nD Cert.RetInputIdeal.τ Cert.RetInputIdeal.sig) → Buf (Elt Ideal) ℓ) (g : Dev Cert.RetInputIdeal.nD → PrngReg), Pre_RetInputIdeal m →
    θ_run (Cert.RetInputIdeal.defs (F := Ideal)) (onTc (τ := Cert.RetInputIdeal.τ) (Cert.RetInputIdeal.main (F := Ideal))) ⟨m, fun _ => 0, g⟩ (fun r => (∀ c : Dev Cert.RetInputIdeal.nD,
      r.2.mem ((c.tc : Thread Cert.RetInputIdeal.nD Cert.RetInputIdeal.τ).loc Cert.RetInputIdeal.main_arg0) = m ((c.tc : Thread Cert.RetInputIdeal.nD Cert.RetInputIdeal.τ).loc Cert.RetInputIdeal.main_arg0)
      ∧ r.2.mem ((c.tc : Thread Cert.RetInputIdeal.nD Cert.RetInputIdeal.τ).loc Cert.RetInputIdeal.main_arg1) = m ((c.tc : Thread Cert.RetInputIdeal.nD Cert.RetInputIdeal.τ).loc Cert.RetInputIdeal.main_arg1))
      ∧ r.2.sem = fun _ => 0)

def quiescent_RetInputReferenceIdeal [hRetInputReferenceIdeal : Cert.RetInputReferenceIdeal.Facts] : Prop :=
  ∀ (m : (ℓ : Loc Cert.RetInputReferenceIdeal.nD Cert.RetInputReferenceIdeal.τ Cert.RetInputReferenceIdeal.sig) → Buf (Elt Ideal) ℓ) (g : Dev Cert.RetInputReferenceIdeal.nD → PrngReg), Pre_RetInputReferenceIdeal m →
    θ_run (Cert.RetInputReferenceIdeal.defs (F := Ideal)) (onTc (τ := Cert.RetInputReferenceIdeal.τ) (Cert.RetInputReferenceIdeal.main (F := Ideal))) ⟨m, fun _ => 0, g⟩ (fun r => (∀ c : Dev Cert.RetInputReferenceIdeal.nD,
      r.2.mem ((c.tc : Thread Cert.RetInputReferenceIdeal.nD Cert.RetInputReferenceIdeal.τ).loc Cert.RetInputReferenceIdeal.main_arg0) = m ((c.tc : Thread Cert.RetInputReferenceIdeal.nD Cert.RetInputReferenceIdeal.τ).loc Cert.RetInputReferenceIdeal.main_arg0)
      ∧ r.2.mem ((c.tc : Thread Cert.RetInputReferenceIdeal.nD Cert.RetInputReferenceIdeal.τ).loc Cert.RetInputReferenceIdeal.main_arg1) = m ((c.tc : Thread Cert.RetInputReferenceIdeal.nD Cert.RetInputReferenceIdeal.τ).loc Cert.RetInputReferenceIdeal.main_arg1))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ r.2.sem = fun _ => 0)

def quiescent_RetOutReferenceIdeal [hRetOutReferenceIdeal : Cert.RetOutReferenceIdeal.Facts] : Prop :=
  ∀ (m : (ℓ : Loc Cert.RetOutReferenceIdeal.nD Cert.RetOutReferenceIdeal.τ Cert.RetOutReferenceIdeal.sig) → Buf (Elt Ideal) ℓ) (g : Dev Cert.RetOutReferenceIdeal.nD → PrngReg), Pre_RetOutReferenceIdeal m →
    θ_run (Cert.RetOutReferenceIdeal.defs (F := Ideal)) (onTc (τ := Cert.RetOutReferenceIdeal.τ) (Cert.RetOutReferenceIdeal.main (F := Ideal))) ⟨m, fun _ => 0, g⟩ (fun r => (∀ c : Dev Cert.RetOutReferenceIdeal.nD,
      r.2.mem ((c.tc : Thread Cert.RetOutReferenceIdeal.nD Cert.RetOutReferenceIdeal.τ).loc Cert.RetOutReferenceIdeal.main_arg0) = m ((c.tc : Thread Cert.RetOutReferenceIdeal.nD Cert.RetOutReferenceIdeal.τ).loc Cert.RetOutReferenceIdeal.main_arg0)
      ∧ r.2.mem ((c.tc : Thread Cert.RetOutReferenceIdeal.nD Cert.RetOutReferenceIdeal.τ).loc Cert.RetOutReferenceIdeal.main_arg1) = m ((c.tc : Thread Cert.RetOutReferenceIdeal.nD Cert.RetOutReferenceIdeal.τ).loc Cert.RetOutReferenceIdeal.main_arg1))
      ∧ r.2.sem = fun _ => 0)

def quiescent_PleWeight [hPleWeight : Cert.PleWeight.Facts] : Prop :=
  ∀ (m : (ℓ : Loc Cert.PleWeight.nD Cert.PleWeight.τ Cert.PleWeight.sig) → Buf (Elt Bits) ℓ) (g : Dev Cert.PleWeight.nD → PrngReg), Pre_PleWeight m →
    θ_run (Cert.PleWeight.defs (F := Bits)) (onTc (τ := Cert.PleWeight.τ) (Cert.PleWeight.main (F := Bits))) ⟨m, fun _ => 0, g⟩ (fun r => (∀ c : Dev Cert.PleWeight.nD,
      r.2.mem ((c.tc : Thread Cert.PleWeight.nD Cert.PleWeight.τ).loc Cert.PleWeight.main_arg0) = m ((c.tc : Thread Cert.PleWeight.nD Cert.PleWeight.τ).loc Cert.PleWeight.main_arg0)
      ∧ r.2.mem ((c.tc : Thread Cert.PleWeight.nD Cert.PleWeight.τ).loc Cert.PleWeight.main_arg1) = m ((c.tc : Thread Cert.PleWeight.nD Cert.PleWeight.τ).loc Cert.PleWeight.main_arg1))
      ∧ r.2.sem = fun _ => 0)

def quiescent_PleWeightIdeal [hPleWeightIdeal : Cert.PleWeightIdeal.Facts] : Prop :=
  ∀ (m : (ℓ : Loc Cert.PleWeightIdeal.nD Cert.PleWeightIdeal.τ Cert.PleWeightIdeal.sig) → Buf (Elt Ideal) ℓ) (g : Dev Cert.PleWeightIdeal.nD → PrngReg), Pre_PleWeightIdeal m →
    θ_run (Cert.PleWeightIdeal.defs (F := Ideal)) (onTc (τ := Cert.PleWeightIdeal.τ) (Cert.PleWeightIdeal.main (F := Ideal))) ⟨m, fun _ => 0, g⟩ (fun r => (∀ c : Dev Cert.PleWeightIdeal.nD,
      r.2.mem ((c.tc : Thread Cert.PleWeightIdeal.nD Cert.PleWeightIdeal.τ).loc Cert.PleWeightIdeal.main_arg0) = m ((c.tc : Thread Cert.PleWeightIdeal.nD Cert.PleWeightIdeal.τ).loc Cert.PleWeightIdeal.main_arg0)
      ∧ r.2.mem ((c.tc : Thread Cert.PleWeightIdeal.nD Cert.PleWeightIdeal.τ).loc Cert.PleWeightIdeal.main_arg1) = m ((c.tc : Thread Cert.PleWeightIdeal.nD Cert.PleWeightIdeal.τ).loc Cert.PleWeightIdeal.main_arg1))
      ∧ r.2.sem = fun _ => 0)

def quiescent_PleWeightReferenceIdeal [hPleWeightReferenceIdeal : Cert.PleWeightReferenceIdeal.Facts] : Prop :=
  ∀ (m : (ℓ : Loc Cert.PleWeightReferenceIdeal.nD Cert.PleWeightReferenceIdeal.τ Cert.PleWeightReferenceIdeal.sig) → Buf (Elt Ideal) ℓ) (g : Dev Cert.PleWeightReferenceIdeal.nD → PrngReg), Pre_PleWeightReferenceIdeal m →
    θ_run (Cert.PleWeightReferenceIdeal.defs (F := Ideal)) (onTc (τ := Cert.PleWeightReferenceIdeal.τ) (Cert.PleWeightReferenceIdeal.main (F := Ideal))) ⟨m, fun _ => 0, g⟩ (fun r => (∀ c : Dev Cert.PleWeightReferenceIdeal.nD,
      r.2.mem ((c.tc : Thread Cert.PleWeightReferenceIdeal.nD Cert.PleWeightReferenceIdeal.τ).loc Cert.PleWeightReferenceIdeal.main_arg0) = m ((c.tc : Thread Cert.PleWeightReferenceIdeal.nD Cert.PleWeightReferenceIdeal.τ).loc Cert.PleWeightReferenceIdeal.main_arg0)
      ∧ r.2.mem ((c.tc : Thread Cert.PleWeightReferenceIdeal.nD Cert.PleWeightReferenceIdeal.τ).loc Cert.PleWeightReferenceIdeal.main_arg1) = m ((c.tc : Thread Cert.PleWeightReferenceIdeal.nD Cert.PleWeightReferenceIdeal.τ).loc Cert.PleWeightReferenceIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1))
      ∧ r.2.sem = fun _ => 0)

def quiescent_SwigluGrad [hSwigluGrad : Cert.SwigluGrad.Facts] : Prop :=
  ∀ (m : (ℓ : Loc Cert.SwigluGrad.nD Cert.SwigluGrad.τ Cert.SwigluGrad.sig) → Buf (Elt Bits) ℓ) (g : Dev Cert.SwigluGrad.nD → PrngReg), Pre_SwigluGrad m →
    θ_run (Cert.SwigluGrad.defs (F := Bits)) (onTc (τ := Cert.SwigluGrad.τ) (Cert.SwigluGrad.main (F := Bits))) ⟨m, fun _ => 0, g⟩ (fun r => (∀ c : Dev Cert.SwigluGrad.nD,
      r.2.mem ((c.tc : Thread Cert.SwigluGrad.nD Cert.SwigluGrad.τ).loc Cert.SwigluGrad.main_arg0) = m ((c.tc : Thread Cert.SwigluGrad.nD Cert.SwigluGrad.τ).loc Cert.SwigluGrad.main_arg0)
      ∧ r.2.mem ((c.tc : Thread Cert.SwigluGrad.nD Cert.SwigluGrad.τ).loc Cert.SwigluGrad.main_arg1) = m ((c.tc : Thread Cert.SwigluGrad.nD Cert.SwigluGrad.τ).loc Cert.SwigluGrad.main_arg1)
      ∧ r.2.mem ((c.tc : Thread Cert.SwigluGrad.nD Cert.SwigluGrad.τ).loc Cert.SwigluGrad.main_arg2) = m ((c.tc : Thread Cert.SwigluGrad.nD Cert.SwigluGrad.τ).loc Cert.SwigluGrad.main_arg2))
      ∧ r.2.sem = fun _ => 0)

def quiescent_SwigluGradIdeal [hSwigluGradIdeal : Cert.SwigluGradIdeal.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
      ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2))
      ∧ r.2.sem = fun _ => 0)

def quiescent_SwigluGradIdeal_pre_finite_product [hSwigluGradIdeal : Cert.SwigluGradIdeal.Facts] [hPre_finite_product : Cert.Pre_finite_product.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal_finite_product m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
      ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2))
      ∧ r.2.sem = fun _ => 0)

def quiescent_SwigluGradReferenceIdeal [hSwigluGradReferenceIdeal : Cert.SwigluGradReferenceIdeal.Facts] : Prop :=
  ∀ (m : (ℓ : Loc Cert.SwigluGradReferenceIdeal.nD Cert.SwigluGradReferenceIdeal.τ Cert.SwigluGradReferenceIdeal.sig) → Buf (Elt Ideal) ℓ) (g : Dev Cert.SwigluGradReferenceIdeal.nD → PrngReg), Pre_SwigluGradReferenceIdeal m →
    θ_run (Cert.SwigluGradReferenceIdeal.defs (F := Ideal)) (onTc (τ := Cert.SwigluGradReferenceIdeal.τ) (Cert.SwigluGradReferenceIdeal.main (F := Ideal))) ⟨m, fun _ => 0, g⟩ (fun r => (∀ c : Dev Cert.SwigluGradReferenceIdeal.nD,
      r.2.mem ((c.tc : Thread Cert.SwigluGradReferenceIdeal.nD Cert.SwigluGradReferenceIdeal.τ).loc Cert.SwigluGradReferenceIdeal.main_arg0) = m ((c.tc : Thread Cert.SwigluGradReferenceIdeal.nD Cert.SwigluGradReferenceIdeal.τ).loc Cert.SwigluGradReferenceIdeal.main_arg0)
      ∧ r.2.mem ((c.tc : Thread Cert.SwigluGradReferenceIdeal.nD Cert.SwigluGradReferenceIdeal.τ).loc Cert.SwigluGradReferenceIdeal.main_arg1) = m ((c.tc : Thread Cert.SwigluGradReferenceIdeal.nD Cert.SwigluGradReferenceIdeal.τ).loc Cert.SwigluGradReferenceIdeal.main_arg1)
      ∧ r.2.mem ((c.tc : Thread Cert.SwigluGradReferenceIdeal.nD Cert.SwigluGradReferenceIdeal.τ).loc Cert.SwigluGradReferenceIdeal.main_arg2) = m ((c.tc : Thread Cert.SwigluGradReferenceIdeal.nD Cert.SwigluGradReferenceIdeal.τ).loc Cert.SwigluGradReferenceIdeal.main_arg2))
      ∧ r.2.sem = fun _ => 0)

def quiescent_SwigluGradReferenceIdeal_pre_finite_product [hSwigluGradReferenceIdeal : Cert.SwigluGradReferenceIdeal.Facts] [hPre_finite_product : Cert.Pre_finite_product.Facts] : Prop :=
  ∀ (m : (ℓ : Loc Cert.SwigluGradReferenceIdeal.nD Cert.SwigluGradReferenceIdeal.τ Cert.SwigluGradReferenceIdeal.sig) → Buf (Elt Ideal) ℓ) (g : Dev Cert.SwigluGradReferenceIdeal.nD → PrngReg), Pre_SwigluGradReferenceIdeal_finite_product m →
    θ_run (Cert.SwigluGradReferenceIdeal.defs (F := Ideal)) (onTc (τ := Cert.SwigluGradReferenceIdeal.τ) (Cert.SwigluGradReferenceIdeal.main (F := Ideal))) ⟨m, fun _ => 0, g⟩ (fun r => (∀ c : Dev Cert.SwigluGradReferenceIdeal.nD,
      r.2.mem ((c.tc : Thread Cert.SwigluGradReferenceIdeal.nD Cert.SwigluGradReferenceIdeal.τ).loc Cert.SwigluGradReferenceIdeal.main_arg0) = m ((c.tc : Thread Cert.SwigluGradReferenceIdeal.nD Cert.SwigluGradReferenceIdeal.τ).loc Cert.SwigluGradReferenceIdeal.main_arg0)
      ∧ r.2.mem ((c.tc : Thread Cert.SwigluGradReferenceIdeal.nD Cert.SwigluGradReferenceIdeal.τ).loc Cert.SwigluGradReferenceIdeal.main_arg1) = m ((c.tc : Thread Cert.SwigluGradReferenceIdeal.nD Cert.SwigluGradReferenceIdeal.τ).loc Cert.SwigluGradReferenceIdeal.main_arg1)
      ∧ r.2.mem ((c.tc : Thread Cert.SwigluGradReferenceIdeal.nD Cert.SwigluGradReferenceIdeal.τ).loc Cert.SwigluGradReferenceIdeal.main_arg2) = m ((c.tc : Thread Cert.SwigluGradReferenceIdeal.nD Cert.SwigluGradReferenceIdeal.τ).loc Cert.SwigluGradReferenceIdeal.main_arg2))
      ∧ r.2.sem = fun _ => 0)

def quiescent_GatesGrad [hGatesGrad : Cert.GatesGrad.Facts] : Prop :=
  ∀ (m : (ℓ : Loc Cert.GatesGrad.nD Cert.GatesGrad.τ Cert.GatesGrad.sig) → Buf (Elt Bits) ℓ) (g : Dev Cert.GatesGrad.nD → PrngReg), Pre_GatesGrad m →
    θ_run (Cert.GatesGrad.defs (F := Bits)) (onTc (τ := Cert.GatesGrad.τ) (Cert.GatesGrad.main (F := Bits))) ⟨m, fun _ => 0, g⟩ (fun r => (∀ c : Dev Cert.GatesGrad.nD,
      r.2.mem ((c.tc : Thread Cert.GatesGrad.nD Cert.GatesGrad.τ).loc Cert.GatesGrad.main_arg0) = m ((c.tc : Thread Cert.GatesGrad.nD Cert.GatesGrad.τ).loc Cert.GatesGrad.main_arg0)
      ∧ r.2.mem ((c.tc : Thread Cert.GatesGrad.nD Cert.GatesGrad.τ).loc Cert.GatesGrad.main_arg1) = m ((c.tc : Thread Cert.GatesGrad.nD Cert.GatesGrad.τ).loc Cert.GatesGrad.main_arg1)
      ∧ r.2.mem ((c.tc : Thread Cert.GatesGrad.nD Cert.GatesGrad.τ).loc Cert.GatesGrad.main_arg2) = m ((c.tc : Thread Cert.GatesGrad.nD Cert.GatesGrad.τ).loc Cert.GatesGrad.main_arg2)
      ∧ r.2.mem ((c.tc : Thread Cert.GatesGrad.nD Cert.GatesGrad.τ).loc Cert.GatesGrad.main_arg3) = m ((c.tc : Thread Cert.GatesGrad.nD Cert.GatesGrad.τ).loc Cert.GatesGrad.main_arg3)
      ∧ r.2.mem ((c.tc : Thread Cert.GatesGrad.nD Cert.GatesGrad.τ).loc Cert.GatesGrad.main_arg4) = m ((c.tc : Thread Cert.GatesGrad.nD Cert.GatesGrad.τ).loc Cert.GatesGrad.main_arg4))
      ∧ r.2.sem = fun _ => 0)

def quiescent_GatesGradIdeal [hGatesGradIdeal : Cert.GatesGradIdeal.Facts] : Prop :=
  ∀ (m : (ℓ : Loc Cert.GatesGradIdeal.nD Cert.GatesGradIdeal.τ Cert.GatesGradIdeal.sig) → Buf (Elt Ideal) ℓ) (g : Dev Cert.GatesGradIdeal.nD → PrngReg), Pre_GatesGradIdeal m →
    θ_run (Cert.GatesGradIdeal.defs (F := Ideal)) (onTc (τ := Cert.GatesGradIdeal.τ) (Cert.GatesGradIdeal.main (F := Ideal))) ⟨m, fun _ => 0, g⟩ (fun r => (∀ c : Dev Cert.GatesGradIdeal.nD,
      r.2.mem ((c.tc : Thread Cert.GatesGradIdeal.nD Cert.GatesGradIdeal.τ).loc Cert.GatesGradIdeal.main_arg0) = m ((c.tc : Thread Cert.GatesGradIdeal.nD Cert.GatesGradIdeal.τ).loc Cert.GatesGradIdeal.main_arg0)
      ∧ r.2.mem ((c.tc : Thread Cert.GatesGradIdeal.nD Cert.GatesGradIdeal.τ).loc Cert.GatesGradIdeal.main_arg1) = m ((c.tc : Thread Cert.GatesGradIdeal.nD Cert.GatesGradIdeal.τ).loc Cert.GatesGradIdeal.main_arg1)
      ∧ r.2.mem ((c.tc : Thread Cert.GatesGradIdeal.nD Cert.GatesGradIdeal.τ).loc Cert.GatesGradIdeal.main_arg2) = m ((c.tc : Thread Cert.GatesGradIdeal.nD Cert.GatesGradIdeal.τ).loc Cert.GatesGradIdeal.main_arg2)
      ∧ r.2.mem ((c.tc : Thread Cert.GatesGradIdeal.nD Cert.GatesGradIdeal.τ).loc Cert.GatesGradIdeal.main_arg3) = m ((c.tc : Thread Cert.GatesGradIdeal.nD Cert.GatesGradIdeal.τ).loc Cert.GatesGradIdeal.main_arg3)
      ∧ r.2.mem ((c.tc : Thread Cert.GatesGradIdeal.nD Cert.GatesGradIdeal.τ).loc Cert.GatesGradIdeal.main_arg4) = m ((c.tc : Thread Cert.GatesGradIdeal.nD Cert.GatesGradIdeal.τ).loc Cert.GatesGradIdeal.main_arg4))
      ∧ r.2.sem = fun _ => 0)

def quiescent_GatesGradReferenceIdeal [hGatesGradReferenceIdeal : Cert.GatesGradReferenceIdeal.Facts] : Prop :=
  ∀ (m : (ℓ : Loc Cert.GatesGradReferenceIdeal.nD Cert.GatesGradReferenceIdeal.τ Cert.GatesGradReferenceIdeal.sig) → Buf (Elt Ideal) ℓ) (g : Dev Cert.GatesGradReferenceIdeal.nD → PrngReg), Pre_GatesGradReferenceIdeal m →
    θ_run (Cert.GatesGradReferenceIdeal.defs (F := Ideal)) (onTc (τ := Cert.GatesGradReferenceIdeal.τ) (Cert.GatesGradReferenceIdeal.main (F := Ideal))) ⟨m, fun _ => 0, g⟩ (fun r => (∀ c : Dev Cert.GatesGradReferenceIdeal.nD,
      r.2.mem ((c.tc : Thread Cert.GatesGradReferenceIdeal.nD Cert.GatesGradReferenceIdeal.τ).loc Cert.GatesGradReferenceIdeal.main_arg0) = m ((c.tc : Thread Cert.GatesGradReferenceIdeal.nD Cert.GatesGradReferenceIdeal.τ).loc Cert.GatesGradReferenceIdeal.main_arg0)
      ∧ r.2.mem ((c.tc : Thread Cert.GatesGradReferenceIdeal.nD Cert.GatesGradReferenceIdeal.τ).loc Cert.GatesGradReferenceIdeal.main_arg1) = m ((c.tc : Thread Cert.GatesGradReferenceIdeal.nD Cert.GatesGradReferenceIdeal.τ).loc Cert.GatesGradReferenceIdeal.main_arg1)
      ∧ r.2.mem ((c.tc : Thread Cert.GatesGradReferenceIdeal.nD Cert.GatesGradReferenceIdeal.τ).loc Cert.GatesGradReferenceIdeal.main_arg2) = m ((c.tc : Thread Cert.GatesGradReferenceIdeal.nD Cert.GatesGradReferenceIdeal.τ).loc Cert.GatesGradReferenceIdeal.main_arg2)
      ∧ r.2.mem ((c.tc : Thread Cert.GatesGradReferenceIdeal.nD Cert.GatesGradReferenceIdeal.τ).loc Cert.GatesGradReferenceIdeal.main_arg3) = m ((c.tc : Thread Cert.GatesGradReferenceIdeal.nD Cert.GatesGradReferenceIdeal.τ).loc Cert.GatesGradReferenceIdeal.main_arg3)
      ∧ r.2.mem ((c.tc : Thread Cert.GatesGradReferenceIdeal.nD Cert.GatesGradReferenceIdeal.τ).loc Cert.GatesGradReferenceIdeal.main_arg4) = m ((c.tc : Thread Cert.GatesGradReferenceIdeal.nD Cert.GatesGradReferenceIdeal.τ).loc Cert.GatesGradReferenceIdeal.main_arg4))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1))
      ∧ r.2.sem = fun _ => 0)

def quiescent_RmsAddHalf [hRmsAddHalf : Cert.RmsAddHalf.Facts] : Prop :=
  ∀ (m : (ℓ : Loc Cert.RmsAddHalf.nD Cert.RmsAddHalf.τ Cert.RmsAddHalf.sig) → Buf (Elt Bits) ℓ) (g : Dev Cert.RmsAddHalf.nD → PrngReg), Pre_RmsAddHalf m →
    θ_run (Cert.RmsAddHalf.defs (F := Bits)) (onTc (τ := Cert.RmsAddHalf.τ) (Cert.RmsAddHalf.main (F := Bits))) ⟨m, fun _ => 0, g⟩ (fun r => (∀ c : Dev Cert.RmsAddHalf.nD,
      r.2.mem ((c.tc : Thread Cert.RmsAddHalf.nD Cert.RmsAddHalf.τ).loc Cert.RmsAddHalf.main_arg0) = m ((c.tc : Thread Cert.RmsAddHalf.nD Cert.RmsAddHalf.τ).loc Cert.RmsAddHalf.main_arg0)
      ∧ r.2.mem ((c.tc : Thread Cert.RmsAddHalf.nD Cert.RmsAddHalf.τ).loc Cert.RmsAddHalf.main_arg1) = m ((c.tc : Thread Cert.RmsAddHalf.nD Cert.RmsAddHalf.τ).loc Cert.RmsAddHalf.main_arg1)
      ∧ r.2.mem ((c.tc : Thread Cert.RmsAddHalf.nD Cert.RmsAddHalf.τ).loc Cert.RmsAddHalf.main_arg2) = m ((c.tc : Thread Cert.RmsAddHalf.nD Cert.RmsAddHalf.τ).loc Cert.RmsAddHalf.main_arg2))
      ∧ r.2.sem = fun _ => 0)

def quiescent_RmsAddHalfIdeal [hRmsAddHalfIdeal : Cert.RmsAddHalfIdeal.Facts] : Prop :=
  ∀ (m : (ℓ : Loc Cert.RmsAddHalfIdeal.nD Cert.RmsAddHalfIdeal.τ Cert.RmsAddHalfIdeal.sig) → Buf (Elt Ideal) ℓ) (g : Dev Cert.RmsAddHalfIdeal.nD → PrngReg), Pre_RmsAddHalfIdeal m →
    θ_run (Cert.RmsAddHalfIdeal.defs (F := Ideal)) (onTc (τ := Cert.RmsAddHalfIdeal.τ) (Cert.RmsAddHalfIdeal.main (F := Ideal))) ⟨m, fun _ => 0, g⟩ (fun r => (∀ c : Dev Cert.RmsAddHalfIdeal.nD,
      r.2.mem ((c.tc : Thread Cert.RmsAddHalfIdeal.nD Cert.RmsAddHalfIdeal.τ).loc Cert.RmsAddHalfIdeal.main_arg0) = m ((c.tc : Thread Cert.RmsAddHalfIdeal.nD Cert.RmsAddHalfIdeal.τ).loc Cert.RmsAddHalfIdeal.main_arg0)
      ∧ r.2.mem ((c.tc : Thread Cert.RmsAddHalfIdeal.nD Cert.RmsAddHalfIdeal.τ).loc Cert.RmsAddHalfIdeal.main_arg1) = m ((c.tc : Thread Cert.RmsAddHalfIdeal.nD Cert.RmsAddHalfIdeal.τ).loc Cert.RmsAddHalfIdeal.main_arg1)
      ∧ r.2.mem ((c.tc : Thread Cert.RmsAddHalfIdeal.nD Cert.RmsAddHalfIdeal.τ).loc Cert.RmsAddHalfIdeal.main_arg2) = m ((c.tc : Thread Cert.RmsAddHalfIdeal.nD Cert.RmsAddHalfIdeal.τ).loc Cert.RmsAddHalfIdeal.main_arg2))
      ∧ r.2.sem = fun _ => 0)

def quiescent_RmsAddHalfReferenceIdeal [hRmsAddHalfReferenceIdeal : Cert.RmsAddHalfReferenceIdeal.Facts] : Prop :=
  ∀ (m : (ℓ : Loc Cert.RmsAddHalfReferenceIdeal.nD Cert.RmsAddHalfReferenceIdeal.τ Cert.RmsAddHalfReferenceIdeal.sig) → Buf (Elt Ideal) ℓ) (g : Dev Cert.RmsAddHalfReferenceIdeal.nD → PrngReg), Pre_RmsAddHalfReferenceIdeal m →
    θ_run (Cert.RmsAddHalfReferenceIdeal.defs (F := Ideal)) (onTc (τ := Cert.RmsAddHalfReferenceIdeal.τ) (Cert.RmsAddHalfReferenceIdeal.main (F := Ideal))) ⟨m, fun _ => 0, g⟩ (fun r => (∀ c : Dev Cert.RmsAddHalfReferenceIdeal.nD,
      r.2.mem ((c.tc : Thread Cert.RmsAddHalfReferenceIdeal.nD Cert.RmsAddHalfReferenceIdeal.τ).loc Cert.RmsAddHalfReferenceIdeal.main_arg0) = m ((c.tc : Thread Cert.RmsAddHalfReferenceIdeal.nD Cert.RmsAddHalfReferenceIdeal.τ).loc Cert.RmsAddHalfReferenceIdeal.main_arg0)
      ∧ r.2.mem ((c.tc : Thread Cert.RmsAddHalfReferenceIdeal.nD Cert.RmsAddHalfReferenceIdeal.τ).loc Cert.RmsAddHalfReferenceIdeal.main_arg1) = m ((c.tc : Thread Cert.RmsAddHalfReferenceIdeal.nD Cert.RmsAddHalfReferenceIdeal.τ).loc Cert.RmsAddHalfReferenceIdeal.main_arg1)
      ∧ r.2.mem ((c.tc : Thread Cert.RmsAddHalfReferenceIdeal.nD Cert.RmsAddHalfReferenceIdeal.τ).loc Cert.RmsAddHalfReferenceIdeal.main_arg2) = m ((c.tc : Thread Cert.RmsAddHalfReferenceIdeal.nD Cert.RmsAddHalfReferenceIdeal.τ).loc Cert.RmsAddHalfReferenceIdeal.main_arg2))
      ∧ r.2.sem = fun _ => 0)

def quiescent_RmsAdd [hRmsAdd : Cert.RmsAdd.Facts] : Prop :=
  ∀ (m : (ℓ : Loc Cert.RmsAdd.nD Cert.RmsAdd.τ Cert.RmsAdd.sig) → Buf (Elt Bits) ℓ) (g : Dev Cert.RmsAdd.nD → PrngReg), Pre_RmsAdd m →
    θ_run (Cert.RmsAdd.defs (F := Bits)) (onTc (τ := Cert.RmsAdd.τ) (Cert.RmsAdd.main (F := Bits))) ⟨m, fun _ => 0, g⟩ (fun r => (∀ c : Dev Cert.RmsAdd.nD,
      r.2.mem ((c.tc : Thread Cert.RmsAdd.nD Cert.RmsAdd.τ).loc Cert.RmsAdd.main_arg0) = m ((c.tc : Thread Cert.RmsAdd.nD Cert.RmsAdd.τ).loc Cert.RmsAdd.main_arg0)
      ∧ r.2.mem ((c.tc : Thread Cert.RmsAdd.nD Cert.RmsAdd.τ).loc Cert.RmsAdd.main_arg1) = m ((c.tc : Thread Cert.RmsAdd.nD Cert.RmsAdd.τ).loc Cert.RmsAdd.main_arg1)
      ∧ r.2.mem ((c.tc : Thread Cert.RmsAdd.nD Cert.RmsAdd.τ).loc Cert.RmsAdd.main_arg2) = m ((c.tc : Thread Cert.RmsAdd.nD Cert.RmsAdd.τ).loc Cert.RmsAdd.main_arg2))
      ∧ r.2.sem = fun _ => 0)

def quiescent_RmsAddIdeal [hRmsAddIdeal : Cert.RmsAddIdeal.Facts] : Prop :=
  ∀ (m : (ℓ : Loc Cert.RmsAddIdeal.nD Cert.RmsAddIdeal.τ Cert.RmsAddIdeal.sig) → Buf (Elt Ideal) ℓ) (g : Dev Cert.RmsAddIdeal.nD → PrngReg), Pre_RmsAddIdeal m →
    θ_run (Cert.RmsAddIdeal.defs (F := Ideal)) (onTc (τ := Cert.RmsAddIdeal.τ) (Cert.RmsAddIdeal.main (F := Ideal))) ⟨m, fun _ => 0, g⟩ (fun r => (∀ c : Dev Cert.RmsAddIdeal.nD,
      r.2.mem ((c.tc : Thread Cert.RmsAddIdeal.nD Cert.RmsAddIdeal.τ).loc Cert.RmsAddIdeal.main_arg0) = m ((c.tc : Thread Cert.RmsAddIdeal.nD Cert.RmsAddIdeal.τ).loc Cert.RmsAddIdeal.main_arg0)
      ∧ r.2.mem ((c.tc : Thread Cert.RmsAddIdeal.nD Cert.RmsAddIdeal.τ).loc Cert.RmsAddIdeal.main_arg1) = m ((c.tc : Thread Cert.RmsAddIdeal.nD Cert.RmsAddIdeal.τ).loc Cert.RmsAddIdeal.main_arg1)
      ∧ r.2.mem ((c.tc : Thread Cert.RmsAddIdeal.nD Cert.RmsAddIdeal.τ).loc Cert.RmsAddIdeal.main_arg2) = m ((c.tc : Thread Cert.RmsAddIdeal.nD Cert.RmsAddIdeal.τ).loc Cert.RmsAddIdeal.main_arg2))
      ∧ r.2.sem = fun _ => 0)

def quiescent_RmsAddReferenceIdeal [hRmsAddReferenceIdeal : Cert.RmsAddReferenceIdeal.Facts] : Prop :=
  ∀ (m : (ℓ : Loc Cert.RmsAddReferenceIdeal.nD Cert.RmsAddReferenceIdeal.τ Cert.RmsAddReferenceIdeal.sig) → Buf (Elt Ideal) ℓ) (g : Dev Cert.RmsAddReferenceIdeal.nD → PrngReg), Pre_RmsAddReferenceIdeal m →
    θ_run (Cert.RmsAddReferenceIdeal.defs (F := Ideal)) (onTc (τ := Cert.RmsAddReferenceIdeal.τ) (Cert.RmsAddReferenceIdeal.main (F := Ideal))) ⟨m, fun _ => 0, g⟩ (fun r => (∀ c : Dev Cert.RmsAddReferenceIdeal.nD,
      r.2.mem ((c.tc : Thread Cert.RmsAddReferenceIdeal.nD Cert.RmsAddReferenceIdeal.τ).loc Cert.RmsAddReferenceIdeal.main_arg0) = m ((c.tc : Thread Cert.RmsAddReferenceIdeal.nD Cert.RmsAddReferenceIdeal.τ).loc Cert.RmsAddReferenceIdeal.main_arg0)
      ∧ r.2.mem ((c.tc : Thread Cert.RmsAddReferenceIdeal.nD Cert.RmsAddReferenceIdeal.τ).loc Cert.RmsAddReferenceIdeal.main_arg1) = m ((c.tc : Thread Cert.RmsAddReferenceIdeal.nD Cert.RmsAddReferenceIdeal.τ).loc Cert.RmsAddReferenceIdeal.main_arg1)
      ∧ r.2.mem ((c.tc : Thread Cert.RmsAddReferenceIdeal.nD Cert.RmsAddReferenceIdeal.τ).loc Cert.RmsAddReferenceIdeal.main_arg2) = m ((c.tc : Thread Cert.RmsAddReferenceIdeal.nD Cert.RmsAddReferenceIdeal.τ).loc Cert.RmsAddReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v385_0)) (v1 : (c : Dev Cert.KernelIdeal.nD) → Buf (Elt Ideal) ((c.tc : Thread Cert.KernelIdeal.nD Cert.KernelIdeal.τ).loc Cert.KernelIdeal.main_v385_1)) (v2 : (c : Dev Cert.KernelIdeal.nD) → Buf (Elt Ideal) ((c.tc : Thread Cert.KernelIdeal.nD Cert.KernelIdeal.τ).loc Cert.KernelIdeal.main_v385_2)) (v3 : (c : Dev Cert.KernelIdeal.nD) → Buf (Elt Ideal) ((c.tc : Thread Cert.KernelIdeal.nD Cert.KernelIdeal.τ).loc Cert.KernelIdeal.main_v385_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v385_0) = v0 c
          ∧ r.2.mem ((c.tc : Thread Cert.KernelIdeal.nD Cert.KernelIdeal.τ).loc Cert.KernelIdeal.main_v385_1) = v1 c
          ∧ r.2.mem ((c.tc : Thread Cert.KernelIdeal.nD Cert.KernelIdeal.τ).loc Cert.KernelIdeal.main_v385_2) = v2 c
          ∧ r.2.mem ((c.tc : Thread Cert.KernelIdeal.nD Cert.KernelIdeal.τ).loc Cert.KernelIdeal.main_v385_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v690) = v0 c
          ∧ r.2.mem ((c.tc : Thread Cert.ReferenceIdeal.nD Cert.ReferenceIdeal.τ).loc Cert.ReferenceIdeal.main_v691) = v1 c
          ∧ r.2.mem ((c.tc : Thread Cert.ReferenceIdeal.nD Cert.ReferenceIdeal.τ).loc Cert.ReferenceIdeal.main_v692) = v2 c
          ∧ r.2.mem ((c.tc : Thread Cert.ReferenceIdeal.nD Cert.ReferenceIdeal.τ).loc Cert.ReferenceIdeal.main_v693) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnDownWeight_FfnDownWeightIdeal : Prop :=
  True

def algebraic_FfnDownWeightIdeal_FfnDownWeightReferenceIdeal [hFfnDownWeightIdeal : Cert.FfnDownWeightIdeal.Facts] [hFfnDownWeightReferenceIdeal : Cert.FfnDownWeightReferenceIdeal.Facts] : Prop :=
  ∀ (m : (ℓ : Loc Cert.FfnDownWeightIdeal.nD Cert.FfnDownWeightIdeal.τ Cert.FfnDownWeightIdeal.sig) → Buf (Elt Ideal) ℓ) (g : Dev Cert.FfnDownWeightIdeal.nD → PrngReg)
    (m' : (ℓ : Loc Cert.FfnDownWeightReferenceIdeal.nD Cert.FfnDownWeightReferenceIdeal.τ Cert.FfnDownWeightReferenceIdeal.sig) → Buf (Elt Ideal) ℓ) (g' : Dev Cert.FfnDownWeightReferenceIdeal.nD → PrngReg), Pre_FfnDownWeightIdeal m →
    (∀ c : Dev Cert.FfnDownWeightIdeal.nD,
      m' ((c.tc : Thread Cert.FfnDownWeightReferenceIdeal.nD Cert.FfnDownWeightReferenceIdeal.τ).loc Cert.FfnDownWeightReferenceIdeal.main_arg0) = m ((c.tc : Thread Cert.FfnDownWeightIdeal.nD Cert.FfnDownWeightIdeal.τ).loc Cert.FfnDownWeightIdeal.main_arg0)
      ∧ m' ((c.tc : Thread Cert.FfnDownWeightReferenceIdeal.nD Cert.FfnDownWeightReferenceIdeal.τ).loc Cert.FfnDownWeightReferenceIdeal.main_arg1) = m ((c.tc : Thread Cert.FfnDownWeightIdeal.nD Cert.FfnDownWeightIdeal.τ).loc Cert.FfnDownWeightIdeal.main_arg1)) →
    ∃ (v0 : (c : Dev Cert.FfnDownWeightIdeal.nD) → Buf (Elt Ideal) ((c.tc : Thread Cert.FfnDownWeightIdeal.nD Cert.FfnDownWeightIdeal.τ).loc Cert.FfnDownWeightIdeal.main_v2)),
      θ_run (Cert.FfnDownWeightIdeal.defs (F := Ideal)) (onTc (τ := Cert.FfnDownWeightIdeal.τ) (Cert.FfnDownWeightIdeal.main (F := Ideal))) ⟨m, fun _ => 0, g⟩ (fun r => ∀ c : Dev Cert.FfnDownWeightIdeal.nD,
          r.2.mem ((c.tc : Thread Cert.FfnDownWeightIdeal.nD Cert.FfnDownWeightIdeal.τ).loc Cert.FfnDownWeightIdeal.main_v2) = v0 c
          ∧ r.2.mem ((c.tc : Thread Cert.FfnDownWeightIdeal.nD Cert.FfnDownWeightIdeal.τ).loc Cert.FfnDownWeightIdeal.main_arg0) = m ((c.tc : Thread Cert.FfnDownWeightIdeal.nD Cert.FfnDownWeightIdeal.τ).loc Cert.FfnDownWeightIdeal.main_arg0)
          ∧ r.2.mem ((c.tc : Thread Cert.FfnDownWeightIdeal.nD Cert.FfnDownWeightIdeal.τ).loc Cert.FfnDownWeightIdeal.main_arg1) = m ((c.tc : Thread Cert.FfnDownWeightIdeal.nD Cert.FfnDownWeightIdeal.τ).loc Cert.FfnDownWeightIdeal.main_arg1))
      ∧ θ_run (Cert.FfnDownWeightReferenceIdeal.defs (F := Ideal)) (onTc (τ := Cert.FfnDownWeightReferenceIdeal.τ) (Cert.FfnDownWeightReferenceIdeal.main (F := Ideal))) ⟨m', fun _ => 0, g'⟩ (fun r => ∀ c : Dev Cert.FfnDownWeightReferenceIdeal.nD,
          r.2.mem ((c.tc : Thread Cert.FfnDownWeightReferenceIdeal.nD Cert.FfnDownWeightReferenceIdeal.τ).loc Cert.FfnDownWeightReferenceIdeal.main_v4) = v0 c
          ∧ r.2.mem ((c.tc : Thread Cert.FfnDownWeightReferenceIdeal.nD Cert.FfnDownWeightReferenceIdeal.τ).loc Cert.FfnDownWeightReferenceIdeal.main_arg0) = m' ((c.tc : Thread Cert.FfnDownWeightReferenceIdeal.nD Cert.FfnDownWeightReferenceIdeal.τ).loc Cert.FfnDownWeightReferenceIdeal.main_arg0)
          ∧ r.2.mem ((c.tc : Thread Cert.FfnDownWeightReferenceIdeal.nD Cert.FfnDownWeightReferenceIdeal.τ).loc Cert.FfnDownWeightReferenceIdeal.main_arg1) = m' ((c.tc : Thread Cert.FfnDownWeightReferenceIdeal.nD Cert.FfnDownWeightReferenceIdeal.τ).loc Cert.FfnDownWeightReferenceIdeal.main_arg1))

def preserves_FfnInner_FfnInnerIdeal : Prop :=
  True

def algebraic_FfnInnerIdeal_FfnInnerReferenceIdeal [hFfnInnerIdeal : Cert.FfnInnerIdeal.Facts] [hFfnInnerReferenceIdeal : Cert.FfnInnerReferenceIdeal.Facts] : Prop :=
  ∀ (m : (ℓ : Loc Cert.FfnInnerIdeal.nD Cert.FfnInnerIdeal.τ Cert.FfnInnerIdeal.sig) → Buf (Elt Ideal) ℓ) (g : Dev Cert.FfnInnerIdeal.nD → PrngReg)
    (m' : (ℓ : Loc Cert.FfnInnerReferenceIdeal.nD Cert.FfnInnerReferenceIdeal.τ Cert.FfnInnerReferenceIdeal.sig) → Buf (Elt Ideal) ℓ) (g' : Dev Cert.FfnInnerReferenceIdeal.nD → PrngReg), Pre_FfnInnerIdeal m →
    (∀ c : Dev Cert.FfnInnerIdeal.nD,
      m' ((c.tc : Thread Cert.FfnInnerReferenceIdeal.nD Cert.FfnInnerReferenceIdeal.τ).loc Cert.FfnInnerReferenceIdeal.main_arg0) = m ((c.tc : Thread Cert.FfnInnerIdeal.nD Cert.FfnInnerIdeal.τ).loc Cert.FfnInnerIdeal.main_arg0)
      ∧ m' ((c.tc : Thread Cert.FfnInnerReferenceIdeal.nD Cert.FfnInnerReferenceIdeal.τ).loc Cert.FfnInnerReferenceIdeal.main_arg1) = m ((c.tc : Thread Cert.FfnInnerIdeal.nD Cert.FfnInnerIdeal.τ).loc Cert.FfnInnerIdeal.main_arg1)) →
    ∃ (v0 : (c : Dev Cert.FfnInnerIdeal.nD) → Buf (Elt Ideal) ((c.tc : Thread Cert.FfnInnerIdeal.nD Cert.FfnInnerIdeal.τ).loc Cert.FfnInnerIdeal.main_v2)),
      θ_run (Cert.FfnInnerIdeal.defs (F := Ideal)) (onTc (τ := Cert.FfnInnerIdeal.τ) (Cert.FfnInnerIdeal.main (F := Ideal))) ⟨m, fun _ => 0, g⟩ (fun r => ∀ c : Dev Cert.FfnInnerIdeal.nD,
          r.2.mem ((c.tc : Thread Cert.FfnInnerIdeal.nD Cert.FfnInnerIdeal.τ).loc Cert.FfnInnerIdeal.main_v2) = v0 c
          ∧ r.2.mem ((c.tc : Thread Cert.FfnInnerIdeal.nD Cert.FfnInnerIdeal.τ).loc Cert.FfnInnerIdeal.main_arg0) = m ((c.tc : Thread Cert.FfnInnerIdeal.nD Cert.FfnInnerIdeal.τ).loc Cert.FfnInnerIdeal.main_arg0)
          ∧ r.2.mem ((c.tc : Thread Cert.FfnInnerIdeal.nD Cert.FfnInnerIdeal.τ).loc Cert.FfnInnerIdeal.main_arg1) = m ((c.tc : Thread Cert.FfnInnerIdeal.nD Cert.FfnInnerIdeal.τ).loc Cert.FfnInnerIdeal.main_arg1))
      ∧ θ_run (Cert.FfnInnerReferenceIdeal.defs (F := Ideal)) (onTc (τ := Cert.FfnInnerReferenceIdeal.τ) (Cert.FfnInnerReferenceIdeal.main (F := Ideal))) ⟨m', fun _ => 0, g'⟩ (fun r => ∀ c : Dev Cert.FfnInnerReferenceIdeal.nD,
          r.2.mem ((c.tc : Thread Cert.FfnInnerReferenceIdeal.nD Cert.FfnInnerReferenceIdeal.τ).loc Cert.FfnInnerReferenceIdeal.main_v3) = v0 c
          ∧ r.2.mem ((c.tc : Thread Cert.FfnInnerReferenceIdeal.nD Cert.FfnInnerReferenceIdeal.τ).loc Cert.FfnInnerReferenceIdeal.main_arg0) = m' ((c.tc : Thread Cert.FfnInnerReferenceIdeal.nD Cert.FfnInnerReferenceIdeal.τ).loc Cert.FfnInnerReferenceIdeal.main_arg0)
          ∧ r.2.mem ((c.tc : Thread Cert.FfnInnerReferenceIdeal.nD Cert.FfnInnerReferenceIdeal.τ).loc Cert.FfnInnerReferenceIdeal.main_arg1) = m' ((c.tc : Thread Cert.FfnInnerReferenceIdeal.nD Cert.FfnInnerReferenceIdeal.τ).loc Cert.FfnInnerReferenceIdeal.main_arg1))

def preserves_FfnUpWeight_FfnUpWeightIdeal : Prop :=
  True

def algebraic_FfnUpWeightIdeal_FfnUpWeightReferenceIdeal [hFfnUpWeightIdeal : Cert.FfnUpWeightIdeal.Facts] [hFfnUpWeightReferenceIdeal : Cert.FfnUpWeightReferenceIdeal.Facts] : Prop :=
  ∀ (m : (ℓ : Loc Cert.FfnUpWeightIdeal.nD Cert.FfnUpWeightIdeal.τ Cert.FfnUpWeightIdeal.sig) → Buf (Elt Ideal) ℓ) (g : Dev Cert.FfnUpWeightIdeal.nD → PrngReg)
    (m' : (ℓ : Loc Cert.FfnUpWeightReferenceIdeal.nD Cert.FfnUpWeightReferenceIdeal.τ Cert.FfnUpWeightReferenceIdeal.sig) → Buf (Elt Ideal) ℓ) (g' : Dev Cert.FfnUpWeightReferenceIdeal.nD → PrngReg), Pre_FfnUpWeightIdeal m →
    (∀ c : Dev Cert.FfnUpWeightIdeal.nD,
      m' ((c.tc : Thread Cert.FfnUpWeightReferenceIdeal.nD Cert.FfnUpWeightReferenceIdeal.τ).loc Cert.FfnUpWeightReferenceIdeal.main_arg0) = m ((c.tc : Thread Cert.FfnUpWeightIdeal.nD Cert.FfnUpWeightIdeal.τ).loc Cert.FfnUpWeightIdeal.main_arg0)
      ∧ m' ((c.tc : Thread Cert.FfnUpWeightReferenceIdeal.nD Cert.FfnUpWeightReferenceIdeal.τ).loc Cert.FfnUpWeightReferenceIdeal.main_arg1) = m ((c.tc : Thread Cert.FfnUpWeightIdeal.nD Cert.FfnUpWeightIdeal.τ).loc Cert.FfnUpWeightIdeal.main_arg1)) →
    ∃ (v0 : (c : Dev Cert.FfnUpWeightIdeal.nD) → Buf (Elt Ideal) ((c.tc : Thread Cert.FfnUpWeightIdeal.nD Cert.FfnUpWeightIdeal.τ).loc Cert.FfnUpWeightIdeal.main_v2)),
      θ_run (Cert.FfnUpWeightIdeal.defs (F := Ideal)) (onTc (τ := Cert.FfnUpWeightIdeal.τ) (Cert.FfnUpWeightIdeal.main (F := Ideal))) ⟨m, fun _ => 0, g⟩ (fun r => ∀ c : Dev Cert.FfnUpWeightIdeal.nD,
          r.2.mem ((c.tc : Thread Cert.FfnUpWeightIdeal.nD Cert.FfnUpWeightIdeal.τ).loc Cert.FfnUpWeightIdeal.main_v2) = v0 c
          ∧ r.2.mem ((c.tc : Thread Cert.FfnUpWeightIdeal.nD Cert.FfnUpWeightIdeal.τ).loc Cert.FfnUpWeightIdeal.main_arg0) = m ((c.tc : Thread Cert.FfnUpWeightIdeal.nD Cert.FfnUpWeightIdeal.τ).loc Cert.FfnUpWeightIdeal.main_arg0)
          ∧ r.2.mem ((c.tc : Thread Cert.FfnUpWeightIdeal.nD Cert.FfnUpWeightIdeal.τ).loc Cert.FfnUpWeightIdeal.main_arg1) = m ((c.tc : Thread Cert.FfnUpWeightIdeal.nD Cert.FfnUpWeightIdeal.τ).loc Cert.FfnUpWeightIdeal.main_arg1))
      ∧ θ_run (Cert.FfnUpWeightReferenceIdeal.defs (F := Ideal)) (onTc (τ := Cert.FfnUpWeightReferenceIdeal.τ) (Cert.FfnUpWeightReferenceIdeal.main (F := Ideal))) ⟨m', fun _ => 0, g'⟩ (fun r => ∀ c : Dev Cert.FfnUpWeightReferenceIdeal.nD,
          r.2.mem ((c.tc : Thread Cert.FfnUpWeightReferenceIdeal.nD Cert.FfnUpWeightReferenceIdeal.τ).loc Cert.FfnUpWeightReferenceIdeal.main_v5) = v0 c
          ∧ r.2.mem ((c.tc : Thread Cert.FfnUpWeightReferenceIdeal.nD Cert.FfnUpWeightReferenceIdeal.τ).loc Cert.FfnUpWeightReferenceIdeal.main_arg0) = m' ((c.tc : Thread Cert.FfnUpWeightReferenceIdeal.nD Cert.FfnUpWeightReferenceIdeal.τ).loc Cert.FfnUpWeightReferenceIdeal.main_arg0)
          ∧ r.2.mem ((c.tc : Thread Cert.FfnUpWeightReferenceIdeal.nD Cert.FfnUpWeightReferenceIdeal.τ).loc Cert.FfnUpWeightReferenceIdeal.main_arg1) = m' ((c.tc : Thread Cert.FfnUpWeightReferenceIdeal.nD Cert.FfnUpWeightReferenceIdeal.τ).loc Cert.FfnUpWeightReferenceIdeal.main_arg1))

def preserves_FfnInput_FfnInputIdeal : Prop :=
  True

def algebraic_FfnInputIdeal_FfnInputReferenceIdeal [hFfnInputIdeal : Cert.FfnInputIdeal.Facts] [hFfnInputReferenceIdeal : Cert.FfnInputReferenceIdeal.Facts] : Prop :=
  ∀ (m : (ℓ : Loc Cert.FfnInputIdeal.nD Cert.FfnInputIdeal.τ Cert.FfnInputIdeal.sig) → Buf (Elt Ideal) ℓ) (g : Dev Cert.FfnInputIdeal.nD → PrngReg)
    (m' : (ℓ : Loc Cert.FfnInputReferenceIdeal.nD Cert.FfnInputReferenceIdeal.τ Cert.FfnInputReferenceIdeal.sig) → Buf (Elt Ideal) ℓ) (g' : Dev Cert.FfnInputReferenceIdeal.nD → PrngReg), Pre_FfnInputIdeal m →
    (∀ c : Dev Cert.FfnInputIdeal.nD,
      m' ((c.tc : Thread Cert.FfnInputReferenceIdeal.nD Cert.FfnInputReferenceIdeal.τ).loc Cert.FfnInputReferenceIdeal.main_arg0) = m ((c.tc : Thread Cert.FfnInputIdeal.nD Cert.FfnInputIdeal.τ).loc Cert.FfnInputIdeal.main_arg0)
      ∧ m' ((c.tc : Thread Cert.FfnInputReferenceIdeal.nD Cert.FfnInputReferenceIdeal.τ).loc Cert.FfnInputReferenceIdeal.main_arg1) = m ((c.tc : Thread Cert.FfnInputIdeal.nD Cert.FfnInputIdeal.τ).loc Cert.FfnInputIdeal.main_arg1)
      ∧ m' ((c.tc : Thread Cert.FfnInputReferenceIdeal.nD Cert.FfnInputReferenceIdeal.τ).loc Cert.FfnInputReferenceIdeal.main_arg2) = m ((c.tc : Thread Cert.FfnInputIdeal.nD Cert.FfnInputIdeal.τ).loc Cert.FfnInputIdeal.main_arg2)
      ∧ m' ((c.tc : Thread Cert.FfnInputReferenceIdeal.nD Cert.FfnInputReferenceIdeal.τ).loc Cert.FfnInputReferenceIdeal.main_arg3) = m ((c.tc : Thread Cert.FfnInputIdeal.nD Cert.FfnInputIdeal.τ).loc Cert.FfnInputIdeal.main_arg3)) →
    ∃ (v0 : (c : Dev Cert.FfnInputIdeal.nD) → Buf (Elt Ideal) ((c.tc : Thread Cert.FfnInputIdeal.nD Cert.FfnInputIdeal.τ).loc Cert.FfnInputIdeal.main_v6)),
      θ_run (Cert.FfnInputIdeal.defs (F := Ideal)) (onTc (τ := Cert.FfnInputIdeal.τ) (Cert.FfnInputIdeal.main (F := Ideal))) ⟨m, fun _ => 0, g⟩ (fun r => ∀ c : Dev Cert.FfnInputIdeal.nD,
          r.2.mem ((c.tc : Thread Cert.FfnInputIdeal.nD Cert.FfnInputIdeal.τ).loc Cert.FfnInputIdeal.main_v6) = v0 c
          ∧ r.2.mem ((c.tc : Thread Cert.FfnInputIdeal.nD Cert.FfnInputIdeal.τ).loc Cert.FfnInputIdeal.main_arg0) = m ((c.tc : Thread Cert.FfnInputIdeal.nD Cert.FfnInputIdeal.τ).loc Cert.FfnInputIdeal.main_arg0)
          ∧ r.2.mem ((c.tc : Thread Cert.FfnInputIdeal.nD Cert.FfnInputIdeal.τ).loc Cert.FfnInputIdeal.main_arg1) = m ((c.tc : Thread Cert.FfnInputIdeal.nD Cert.FfnInputIdeal.τ).loc Cert.FfnInputIdeal.main_arg1)
          ∧ r.2.mem ((c.tc : Thread Cert.FfnInputIdeal.nD Cert.FfnInputIdeal.τ).loc Cert.FfnInputIdeal.main_arg2) = m ((c.tc : Thread Cert.FfnInputIdeal.nD Cert.FfnInputIdeal.τ).loc Cert.FfnInputIdeal.main_arg2)
          ∧ r.2.mem ((c.tc : Thread Cert.FfnInputIdeal.nD Cert.FfnInputIdeal.τ).loc Cert.FfnInputIdeal.main_arg3) = m ((c.tc : Thread Cert.FfnInputIdeal.nD Cert.FfnInputIdeal.τ).loc Cert.FfnInputIdeal.main_arg3))
      ∧ θ_run (Cert.FfnInputReferenceIdeal.defs (F := Ideal)) (onTc (τ := Cert.FfnInputReferenceIdeal.τ) (Cert.FfnInputReferenceIdeal.main (F := Ideal))) ⟨m', fun _ => 0, g'⟩ (fun r => ∀ c : Dev Cert.FfnInputReferenceIdeal.nD,
          r.2.mem ((c.tc : Thread Cert.FfnInputReferenceIdeal.nD Cert.FfnInputReferenceIdeal.τ).loc Cert.FfnInputReferenceIdeal.main_v5) = v0 c
          ∧ r.2.mem ((c.tc : Thread Cert.FfnInputReferenceIdeal.nD Cert.FfnInputReferenceIdeal.τ).loc Cert.FfnInputReferenceIdeal.main_arg0) = m' ((c.tc : Thread Cert.FfnInputReferenceIdeal.nD Cert.FfnInputReferenceIdeal.τ).loc Cert.FfnInputReferenceIdeal.main_arg0)
          ∧ r.2.mem ((c.tc : Thread Cert.FfnInputReferenceIdeal.nD Cert.FfnInputReferenceIdeal.τ).loc Cert.FfnInputReferenceIdeal.main_arg1) = m' ((c.tc : Thread Cert.FfnInputReferenceIdeal.nD Cert.FfnInputReferenceIdeal.τ).loc Cert.FfnInputReferenceIdeal.main_arg1)
          ∧ r.2.mem ((c.tc : Thread Cert.FfnInputReferenceIdeal.nD Cert.FfnInputReferenceIdeal.τ).loc Cert.FfnInputReferenceIdeal.main_arg2) = m' ((c.tc : Thread Cert.FfnInputReferenceIdeal.nD Cert.FfnInputReferenceIdeal.τ).loc Cert.FfnInputReferenceIdeal.main_arg2)
          ∧ r.2.mem ((c.tc : Thread Cert.FfnInputReferenceIdeal.nD Cert.FfnInputReferenceIdeal.τ).loc Cert.FfnInputReferenceIdeal.main_arg3) = m' ((c.tc : Thread Cert.FfnInputReferenceIdeal.nD Cert.FfnInputReferenceIdeal.τ).loc Cert.FfnInputReferenceIdeal.main_arg3))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v1) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v0) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1))

def preserves_MixerWeight_MixerWeightIdeal : Prop :=
  True

def algebraic_MixerWeightIdeal_MixerWeightReferenceIdeal [hMixerWeightIdeal : Cert.MixerWeightIdeal.Facts] [hMixerWeightReferenceIdeal : Cert.MixerWeightReferenceIdeal.Facts] : Prop :=
  ∀ (m : (ℓ : Loc Cert.MixerWeightIdeal.nD Cert.MixerWeightIdeal.τ Cert.MixerWeightIdeal.sig) → Buf (Elt Ideal) ℓ) (g : Dev Cert.MixerWeightIdeal.nD → PrngReg)
    (m' : (ℓ : Loc Cert.MixerWeightReferenceIdeal.nD Cert.MixerWeightReferenceIdeal.τ Cert.MixerWeightReferenceIdeal.sig) → Buf (Elt Ideal) ℓ) (g' : Dev Cert.MixerWeightReferenceIdeal.nD → PrngReg), Pre_MixerWeightIdeal m →
    (∀ c : Dev Cert.MixerWeightIdeal.nD,
      m' ((c.tc : Thread Cert.MixerWeightReferenceIdeal.nD Cert.MixerWeightReferenceIdeal.τ).loc Cert.MixerWeightReferenceIdeal.main_arg0) = m ((c.tc : Thread Cert.MixerWeightIdeal.nD Cert.MixerWeightIdeal.τ).loc Cert.MixerWeightIdeal.main_arg0)
      ∧ m' ((c.tc : Thread Cert.MixerWeightReferenceIdeal.nD Cert.MixerWeightReferenceIdeal.τ).loc Cert.MixerWeightReferenceIdeal.main_arg1) = m ((c.tc : Thread Cert.MixerWeightIdeal.nD Cert.MixerWeightIdeal.τ).loc Cert.MixerWeightIdeal.main_arg1)) →
    ∃ (v0 : (c : Dev Cert.MixerWeightIdeal.nD) → Buf (Elt Ideal) ((c.tc : Thread Cert.MixerWeightIdeal.nD Cert.MixerWeightIdeal.τ).loc Cert.MixerWeightIdeal.main_v2)),
      θ_run (Cert.MixerWeightIdeal.defs (F := Ideal)) (onTc (τ := Cert.MixerWeightIdeal.τ) (Cert.MixerWeightIdeal.main (F := Ideal))) ⟨m, fun _ => 0, g⟩ (fun r => ∀ c : Dev Cert.MixerWeightIdeal.nD,
          r.2.mem ((c.tc : Thread Cert.MixerWeightIdeal.nD Cert.MixerWeightIdeal.τ).loc Cert.MixerWeightIdeal.main_v2) = v0 c
          ∧ r.2.mem ((c.tc : Thread Cert.MixerWeightIdeal.nD Cert.MixerWeightIdeal.τ).loc Cert.MixerWeightIdeal.main_arg0) = m ((c.tc : Thread Cert.MixerWeightIdeal.nD Cert.MixerWeightIdeal.τ).loc Cert.MixerWeightIdeal.main_arg0)
          ∧ r.2.mem ((c.tc : Thread Cert.MixerWeightIdeal.nD Cert.MixerWeightIdeal.τ).loc Cert.MixerWeightIdeal.main_arg1) = m ((c.tc : Thread Cert.MixerWeightIdeal.nD Cert.MixerWeightIdeal.τ).loc Cert.MixerWeightIdeal.main_arg1))
      ∧ θ_run (Cert.MixerWeightReferenceIdeal.defs (F := Ideal)) (onTc (τ := Cert.MixerWeightReferenceIdeal.τ) (Cert.MixerWeightReferenceIdeal.main (F := Ideal))) ⟨m', fun _ => 0, g'⟩ (fun r => ∀ c : Dev Cert.MixerWeightReferenceIdeal.nD,
          r.2.mem ((c.tc : Thread Cert.MixerWeightReferenceIdeal.nD Cert.MixerWeightReferenceIdeal.τ).loc Cert.MixerWeightReferenceIdeal.main_v5) = v0 c
          ∧ r.2.mem ((c.tc : Thread Cert.MixerWeightReferenceIdeal.nD Cert.MixerWeightReferenceIdeal.τ).loc Cert.MixerWeightReferenceIdeal.main_arg0) = m' ((c.tc : Thread Cert.MixerWeightReferenceIdeal.nD Cert.MixerWeightReferenceIdeal.τ).loc Cert.MixerWeightReferenceIdeal.main_arg0)
          ∧ r.2.mem ((c.tc : Thread Cert.MixerWeightReferenceIdeal.nD Cert.MixerWeightReferenceIdeal.τ).loc Cert.MixerWeightReferenceIdeal.main_arg1) = m' ((c.tc : Thread Cert.MixerWeightReferenceIdeal.nD Cert.MixerWeightReferenceIdeal.τ).loc Cert.MixerWeightReferenceIdeal.main_arg1))

def preserves_MixerInput_MixerInputIdeal : Prop :=
  True

def algebraic_MixerInputIdeal_MixerInputReferenceIdeal [hMixerInputIdeal : Cert.MixerInputIdeal.Facts] [hMixerInputReferenceIdeal : Cert.MixerInputReferenceIdeal.Facts] : Prop :=
  ∀ (m : (ℓ : Loc Cert.MixerInputIdeal.nD Cert.MixerInputIdeal.τ Cert.MixerInputIdeal.sig) → Buf (Elt Ideal) ℓ) (g : Dev Cert.MixerInputIdeal.nD → PrngReg)
    (m' : (ℓ : Loc Cert.MixerInputReferenceIdeal.nD Cert.MixerInputReferenceIdeal.τ Cert.MixerInputReferenceIdeal.sig) → Buf (Elt Ideal) ℓ) (g' : Dev Cert.MixerInputReferenceIdeal.nD → PrngReg), Pre_MixerInputIdeal m →
    (∀ c : Dev Cert.MixerInputIdeal.nD,
      m' ((c.tc : Thread Cert.MixerInputReferenceIdeal.nD Cert.MixerInputReferenceIdeal.τ).loc Cert.MixerInputReferenceIdeal.main_arg0) = m ((c.tc : Thread Cert.MixerInputIdeal.nD Cert.MixerInputIdeal.τ).loc Cert.MixerInputIdeal.main_arg0)
      ∧ m' ((c.tc : Thread Cert.MixerInputReferenceIdeal.nD Cert.MixerInputReferenceIdeal.τ).loc Cert.MixerInputReferenceIdeal.main_arg1) = m ((c.tc : Thread Cert.MixerInputIdeal.nD Cert.MixerInputIdeal.τ).loc Cert.MixerInputIdeal.main_arg1)
      ∧ m' ((c.tc : Thread Cert.MixerInputReferenceIdeal.nD Cert.MixerInputReferenceIdeal.τ).loc Cert.MixerInputReferenceIdeal.main_arg2) = m ((c.tc : Thread Cert.MixerInputIdeal.nD Cert.MixerInputIdeal.τ).loc Cert.MixerInputIdeal.main_arg2)
      ∧ m' ((c.tc : Thread Cert.MixerInputReferenceIdeal.nD Cert.MixerInputReferenceIdeal.τ).loc Cert.MixerInputReferenceIdeal.main_arg3) = m ((c.tc : Thread Cert.MixerInputIdeal.nD Cert.MixerInputIdeal.τ).loc Cert.MixerInputIdeal.main_arg3)) →
    ∃ (v0 : (c : Dev Cert.MixerInputIdeal.nD) → Buf (Elt Ideal) ((c.tc : Thread Cert.MixerInputIdeal.nD Cert.MixerInputIdeal.τ).loc Cert.MixerInputIdeal.main_v5)),
      θ_run (Cert.MixerInputIdeal.defs (F := Ideal)) (onTc (τ := Cert.MixerInputIdeal.τ) (Cert.MixerInputIdeal.main (F := Ideal))) ⟨m, fun _ => 0, g⟩ (fun r => ∀ c : Dev Cert.MixerInputIdeal.nD,
          r.2.mem ((c.tc : Thread Cert.MixerInputIdeal.nD Cert.MixerInputIdeal.τ).loc Cert.MixerInputIdeal.main_v5) = v0 c
          ∧ r.2.mem ((c.tc : Thread Cert.MixerInputIdeal.nD Cert.MixerInputIdeal.τ).loc Cert.MixerInputIdeal.main_arg0) = m ((c.tc : Thread Cert.MixerInputIdeal.nD Cert.MixerInputIdeal.τ).loc Cert.MixerInputIdeal.main_arg0)
          ∧ r.2.mem ((c.tc : Thread Cert.MixerInputIdeal.nD Cert.MixerInputIdeal.τ).loc Cert.MixerInputIdeal.main_arg1) = m ((c.tc : Thread Cert.MixerInputIdeal.nD Cert.MixerInputIdeal.τ).loc Cert.MixerInputIdeal.main_arg1)
          ∧ r.2.mem ((c.tc : Thread Cert.MixerInputIdeal.nD Cert.MixerInputIdeal.τ).loc Cert.MixerInputIdeal.main_arg2) = m ((c.tc : Thread Cert.MixerInputIdeal.nD Cert.MixerInputIdeal.τ).loc Cert.MixerInputIdeal.main_arg2)
          ∧ r.2.mem ((c.tc : Thread Cert.MixerInputIdeal.nD Cert.MixerInputIdeal.τ).loc Cert.MixerInputIdeal.main_arg3) = m ((c.tc : Thread Cert.MixerInputIdeal.nD Cert.MixerInputIdeal.τ).loc Cert.MixerInputIdeal.main_arg3))
      ∧ θ_run (Cert.MixerInputReferenceIdeal.defs (F := Ideal)) (onTc (τ := Cert.MixerInputReferenceIdeal.τ) (Cert.MixerInputReferenceIdeal.main (F := Ideal))) ⟨m', fun _ => 0, g'⟩ (fun r => ∀ c : Dev Cert.MixerInputReferenceIdeal.nD,
          r.2.mem ((c.tc : Thread Cert.MixerInputReferenceIdeal.nD Cert.MixerInputReferenceIdeal.τ).loc Cert.MixerInputReferenceIdeal.main_v5) = v0 c
          ∧ r.2.mem ((c.tc : Thread Cert.MixerInputReferenceIdeal.nD Cert.MixerInputReferenceIdeal.τ).loc Cert.MixerInputReferenceIdeal.main_arg0) = m' ((c.tc : Thread Cert.MixerInputReferenceIdeal.nD Cert.MixerInputReferenceIdeal.τ).loc Cert.MixerInputReferenceIdeal.main_arg0)
          ∧ r.2.mem ((c.tc : Thread Cert.MixerInputReferenceIdeal.nD Cert.MixerInputReferenceIdeal.τ).loc Cert.MixerInputReferenceIdeal.main_arg1) = m' ((c.tc : Thread Cert.MixerInputReferenceIdeal.nD Cert.MixerInputReferenceIdeal.τ).loc Cert.MixerInputReferenceIdeal.main_arg1)
          ∧ r.2.mem ((c.tc : Thread Cert.MixerInputReferenceIdeal.nD Cert.MixerInputReferenceIdeal.τ).loc Cert.MixerInputReferenceIdeal.main_arg2) = m' ((c.tc : Thread Cert.MixerInputReferenceIdeal.nD Cert.MixerInputReferenceIdeal.τ).loc Cert.MixerInputReferenceIdeal.main_arg2)
          ∧ r.2.mem ((c.tc : Thread Cert.MixerInputReferenceIdeal.nD Cert.MixerInputReferenceIdeal.τ).loc Cert.MixerInputReferenceIdeal.main_arg3) = m' ((c.tc : Thread Cert.MixerInputReferenceIdeal.nD Cert.MixerInputReferenceIdeal.τ).loc Cert.MixerInputReferenceIdeal.main_arg3))

def preserves_MixerIn_MixerInIdeal : Prop :=
  True

def algebraic_MixerInIdeal_MixerInReferenceIdeal [hMixerInIdeal : Cert.MixerInIdeal.Facts] [hMixerInReferenceIdeal : Cert.MixerInReferenceIdeal.Facts] : Prop :=
  ∀ (m : (ℓ : Loc Cert.MixerInIdeal.nD Cert.MixerInIdeal.τ Cert.MixerInIdeal.sig) → Buf (Elt Ideal) ℓ) (g : Dev Cert.MixerInIdeal.nD → PrngReg)
    (m' : (ℓ : Loc Cert.MixerInReferenceIdeal.nD Cert.MixerInReferenceIdeal.τ Cert.MixerInReferenceIdeal.sig) → Buf (Elt Ideal) ℓ) (g' : Dev Cert.MixerInReferenceIdeal.nD → PrngReg), Pre_MixerInIdeal m →
    (∀ c : Dev Cert.MixerInIdeal.nD,
      m' ((c.tc : Thread Cert.MixerInReferenceIdeal.nD Cert.MixerInReferenceIdeal.τ).loc Cert.MixerInReferenceIdeal.main_arg0) = m ((c.tc : Thread Cert.MixerInIdeal.nD Cert.MixerInIdeal.τ).loc Cert.MixerInIdeal.main_arg0)
      ∧ m' ((c.tc : Thread Cert.MixerInReferenceIdeal.nD Cert.MixerInReferenceIdeal.τ).loc Cert.MixerInReferenceIdeal.main_arg1) = m ((c.tc : Thread Cert.MixerInIdeal.nD Cert.MixerInIdeal.τ).loc Cert.MixerInIdeal.main_arg1)) →
    ∃ (v0 : (c : Dev Cert.MixerInIdeal.nD) → Buf (Elt Ideal) ((c.tc : Thread Cert.MixerInIdeal.nD Cert.MixerInIdeal.τ).loc Cert.MixerInIdeal.main_v3)),
      θ_run (Cert.MixerInIdeal.defs (F := Ideal)) (onTc (τ := Cert.MixerInIdeal.τ) (Cert.MixerInIdeal.main (F := Ideal))) ⟨m, fun _ => 0, g⟩ (fun r => ∀ c : Dev Cert.MixerInIdeal.nD,
          r.2.mem ((c.tc : Thread Cert.MixerInIdeal.nD Cert.MixerInIdeal.τ).loc Cert.MixerInIdeal.main_v3) = v0 c
          ∧ r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
          ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1))
      ∧ θ_run (Cert.MixerInReferenceIdeal.defs (F := Ideal)) (onTc (τ := Cert.MixerInReferenceIdeal.τ) (Cert.MixerInReferenceIdeal.main (F := Ideal))) ⟨m', fun _ => 0, g'⟩ (fun r => ∀ c : Dev Cert.MixerInReferenceIdeal.nD,
          r.2.mem ((c.tc : Thread Cert.MixerInReferenceIdeal.nD Cert.MixerInReferenceIdeal.τ).loc Cert.MixerInReferenceIdeal.main_v0) = v0 c
          ∧ r.2.mem ((c.tc : Thread Cert.MixerInReferenceIdeal.nD Cert.MixerInReferenceIdeal.τ).loc Cert.MixerInReferenceIdeal.main_arg0) = m' ((c.tc : Thread Cert.MixerInReferenceIdeal.nD Cert.MixerInReferenceIdeal.τ).loc Cert.MixerInReferenceIdeal.main_arg0)
          ∧ r.2.mem ((c.tc : Thread Cert.MixerInReferenceIdeal.nD Cert.MixerInReferenceIdeal.τ).loc Cert.MixerInReferenceIdeal.main_arg1) = m' ((c.tc : Thread Cert.MixerInReferenceIdeal.nD Cert.MixerInReferenceIdeal.τ).loc Cert.MixerInReferenceIdeal.main_arg1))

def preserves_MergeWeight_MergeWeightIdeal : Prop :=
  True

def algebraic_MergeWeightIdeal_MergeWeightReferenceIdeal [hMergeWeightIdeal : Cert.MergeWeightIdeal.Facts] [hMergeWeightReferenceIdeal : Cert.MergeWeightReferenceIdeal.Facts] : Prop :=
  ∀ (m : (ℓ : Loc Cert.MergeWeightIdeal.nD Cert.MergeWeightIdeal.τ Cert.MergeWeightIdeal.sig) → Buf (Elt Ideal) ℓ) (g : Dev Cert.MergeWeightIdeal.nD → PrngReg)
    (m' : (ℓ : Loc Cert.MergeWeightReferenceIdeal.nD Cert.MergeWeightReferenceIdeal.τ Cert.MergeWeightReferenceIdeal.sig) → Buf (Elt Ideal) ℓ) (g' : Dev Cert.MergeWeightReferenceIdeal.nD → PrngReg), Pre_MergeWeightIdeal m →
    (∀ c : Dev Cert.MergeWeightIdeal.nD,
      m' ((c.tc : Thread Cert.MergeWeightReferenceIdeal.nD Cert.MergeWeightReferenceIdeal.τ).loc Cert.MergeWeightReferenceIdeal.main_arg0) = m ((c.tc : Thread Cert.MergeWeightIdeal.nD Cert.MergeWeightIdeal.τ).loc Cert.MergeWeightIdeal.main_arg0)
      ∧ m' ((c.tc : Thread Cert.MergeWeightReferenceIdeal.nD Cert.MergeWeightReferenceIdeal.τ).loc Cert.MergeWeightReferenceIdeal.main_arg1) = m ((c.tc : Thread Cert.MergeWeightIdeal.nD Cert.MergeWeightIdeal.τ).loc Cert.MergeWeightIdeal.main_arg1)) →
    ∃ (v0 : (c : Dev Cert.MergeWeightIdeal.nD) → Buf (Elt Ideal) ((c.tc : Thread Cert.MergeWeightIdeal.nD Cert.MergeWeightIdeal.τ).loc Cert.MergeWeightIdeal.main_v2)),
      θ_run (Cert.MergeWeightIdeal.defs (F := Ideal)) (onTc (τ := Cert.MergeWeightIdeal.τ) (Cert.MergeWeightIdeal.main (F := Ideal))) ⟨m, fun _ => 0, g⟩ (fun r => ∀ c : Dev Cert.MergeWeightIdeal.nD,
          r.2.mem ((c.tc : Thread Cert.MergeWeightIdeal.nD Cert.MergeWeightIdeal.τ).loc Cert.MergeWeightIdeal.main_v2) = v0 c
          ∧ r.2.mem ((c.tc : Thread Cert.MergeWeightIdeal.nD Cert.MergeWeightIdeal.τ).loc Cert.MergeWeightIdeal.main_arg0) = m ((c.tc : Thread Cert.MergeWeightIdeal.nD Cert.MergeWeightIdeal.τ).loc Cert.MergeWeightIdeal.main_arg0)
          ∧ r.2.mem ((c.tc : Thread Cert.MergeWeightIdeal.nD Cert.MergeWeightIdeal.τ).loc Cert.MergeWeightIdeal.main_arg1) = m ((c.tc : Thread Cert.MergeWeightIdeal.nD Cert.MergeWeightIdeal.τ).loc Cert.MergeWeightIdeal.main_arg1))
      ∧ θ_run (Cert.MergeWeightReferenceIdeal.defs (F := Ideal)) (onTc (τ := Cert.MergeWeightReferenceIdeal.τ) (Cert.MergeWeightReferenceIdeal.main (F := Ideal))) ⟨m', fun _ => 0, g'⟩ (fun r => ∀ c : Dev Cert.MergeWeightReferenceIdeal.nD,
          r.2.mem ((c.tc : Thread Cert.MergeWeightReferenceIdeal.nD Cert.MergeWeightReferenceIdeal.τ).loc Cert.MergeWeightReferenceIdeal.main_v4) = v0 c
          ∧ r.2.mem ((c.tc : Thread Cert.MergeWeightReferenceIdeal.nD Cert.MergeWeightReferenceIdeal.τ).loc Cert.MergeWeightReferenceIdeal.main_arg0) = m' ((c.tc : Thread Cert.MergeWeightReferenceIdeal.nD Cert.MergeWeightReferenceIdeal.τ).loc Cert.MergeWeightReferenceIdeal.main_arg0)
          ∧ r.2.mem ((c.tc : Thread Cert.MergeWeightReferenceIdeal.nD Cert.MergeWeightReferenceIdeal.τ).loc Cert.MergeWeightReferenceIdeal.main_arg1) = m' ((c.tc : Thread Cert.MergeWeightReferenceIdeal.nD Cert.MergeWeightReferenceIdeal.τ).loc Cert.MergeWeightReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v0) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1))

def preserves_OutWeight_OutWeightIdeal : Prop :=
  True

def algebraic_OutWeightIdeal_OutWeightReferenceIdeal [hOutWeightIdeal : Cert.OutWeightIdeal.Facts] [hOutWeightReferenceIdeal : Cert.OutWeightReferenceIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightIdeal m →
    (∀ c : Dev Cert.OutWeightIdeal.nD,
      m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0)
      ∧ m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v2)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v2) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v4) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1))

def preserves_OutInput_OutInputIdeal : Prop :=
  True

def algebraic_OutInputIdeal_OutInputReferenceIdeal [hOutInputIdeal : Cert.OutInputIdeal.Facts] [hOutInputReferenceIdeal : Cert.OutInputReferenceIdeal.Facts] : Prop :=
  ∀ (m : (ℓ : Loc Cert.OutInputIdeal.nD Cert.OutInputIdeal.τ Cert.OutInputIdeal.sig) → Buf (Elt Ideal) ℓ) (g : Dev Cert.OutInputIdeal.nD → PrngReg)
    (m' : (ℓ : Loc Cert.OutInputReferenceIdeal.nD Cert.OutInputReferenceIdeal.τ Cert.OutInputReferenceIdeal.sig) → Buf (Elt Ideal) ℓ) (g' : Dev Cert.OutInputReferenceIdeal.nD → PrngReg), Pre_OutInputIdeal m →
    (∀ c : Dev Cert.OutInputIdeal.nD,
      m' ((c.tc : Thread Cert.OutInputReferenceIdeal.nD Cert.OutInputReferenceIdeal.τ).loc Cert.OutInputReferenceIdeal.main_arg0) = m ((c.tc : Thread Cert.OutInputIdeal.nD Cert.OutInputIdeal.τ).loc Cert.OutInputIdeal.main_arg0)
      ∧ m' ((c.tc : Thread Cert.OutInputReferenceIdeal.nD Cert.OutInputReferenceIdeal.τ).loc Cert.OutInputReferenceIdeal.main_arg1) = m ((c.tc : Thread Cert.OutInputIdeal.nD Cert.OutInputIdeal.τ).loc Cert.OutInputIdeal.main_arg1)) →
    ∃ (v0 : (c : Dev Cert.OutInputIdeal.nD) → Buf (Elt Ideal) ((c.tc : Thread Cert.OutInputIdeal.nD Cert.OutInputIdeal.τ).loc Cert.OutInputIdeal.main_v2)),
      θ_run (Cert.OutInputIdeal.defs (F := Ideal)) (onTc (τ := Cert.OutInputIdeal.τ) (Cert.OutInputIdeal.main (F := Ideal))) ⟨m, fun _ => 0, g⟩ (fun r => ∀ c : Dev Cert.OutInputIdeal.nD,
          r.2.mem ((c.tc : Thread Cert.OutInputIdeal.nD Cert.OutInputIdeal.τ).loc Cert.OutInputIdeal.main_v2) = v0 c
          ∧ r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
          ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ θ_run (Cert.OutInputReferenceIdeal.defs (F := Ideal)) (onTc (τ := Cert.OutInputReferenceIdeal.τ) (Cert.OutInputReferenceIdeal.main (F := Ideal))) ⟨m', fun _ => 0, g'⟩ (fun r => ∀ c : Dev Cert.OutInputReferenceIdeal.nD,
          r.2.mem ((c.tc : Thread Cert.OutInputReferenceIdeal.nD Cert.OutInputReferenceIdeal.τ).loc Cert.OutInputReferenceIdeal.main_v2) = v0 c
          ∧ r.2.mem ((c.tc : Thread Cert.OutInputReferenceIdeal.nD Cert.OutInputReferenceIdeal.τ).loc Cert.OutInputReferenceIdeal.main_arg0) = m' ((c.tc : Thread Cert.OutInputReferenceIdeal.nD Cert.OutInputReferenceIdeal.τ).loc Cert.OutInputReferenceIdeal.main_arg0)
          ∧ r.2.mem ((c.tc : Thread Cert.OutInputReferenceIdeal.nD Cert.OutInputReferenceIdeal.τ).loc Cert.OutInputReferenceIdeal.main_arg1) = m' ((c.tc : Thread Cert.OutInputReferenceIdeal.nD Cert.OutInputReferenceIdeal.τ).loc Cert.OutInputReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_RetWeight_RetWeightIdeal : Prop :=
  True

def algebraic_RetWeightIdeal_RetWeightReferenceIdeal [hRetWeightIdeal : Cert.RetWeightIdeal.Facts] [hRetWeightReferenceIdeal : Cert.RetWeightReferenceIdeal.Facts] : Prop :=
  ∀ (m : (ℓ : Loc Cert.RetWeightIdeal.nD Cert.RetWeightIdeal.τ Cert.RetWeightIdeal.sig) → Buf (Elt Ideal) ℓ) (g : Dev Cert.RetWeightIdeal.nD → PrngReg)
    (m' : (ℓ : Loc Cert.RetWeightReferenceIdeal.nD Cert.RetWeightReferenceIdeal.τ Cert.RetWeightReferenceIdeal.sig) → Buf (Elt Ideal) ℓ) (g' : Dev Cert.RetWeightReferenceIdeal.nD → PrngReg), Pre_RetWeightIdeal m →
    (∀ c : Dev Cert.RetWeightIdeal.nD,
      m' ((c.tc : Thread Cert.RetWeightReferenceIdeal.nD Cert.RetWeightReferenceIdeal.τ).loc Cert.RetWeightReferenceIdeal.main_arg0) = m ((c.tc : Thread Cert.RetWeightIdeal.nD Cert.RetWeightIdeal.τ).loc Cert.RetWeightIdeal.main_arg0)
      ∧ m' ((c.tc : Thread Cert.RetWeightReferenceIdeal.nD Cert.RetWeightReferenceIdeal.τ).loc Cert.RetWeightReferenceIdeal.main_arg1) = m ((c.tc : Thread Cert.RetWeightIdeal.nD Cert.RetWeightIdeal.τ).loc Cert.RetWeightIdeal.main_arg1)) →
    ∃ (v0 : (c : Dev Cert.RetWeightIdeal.nD) → Buf (Elt Ideal) ((c.tc : Thread Cert.RetWeightIdeal.nD Cert.RetWeightIdeal.τ).loc Cert.RetWeightIdeal.main_v2)),
      θ_run (Cert.RetWeightIdeal.defs (F := Ideal)) (onTc (τ := Cert.RetWeightIdeal.τ) (Cert.RetWeightIdeal.main (F := Ideal))) ⟨m, fun _ => 0, g⟩ (fun r => ∀ c : Dev Cert.RetWeightIdeal.nD,
          r.2.mem ((c.tc : Thread Cert.RetWeightIdeal.nD Cert.RetWeightIdeal.τ).loc Cert.RetWeightIdeal.main_v2) = v0 c
          ∧ r.2.mem ((c.tc : Thread Cert.RetWeightIdeal.nD Cert.RetWeightIdeal.τ).loc Cert.RetWeightIdeal.main_arg0) = m ((c.tc : Thread Cert.RetWeightIdeal.nD Cert.RetWeightIdeal.τ).loc Cert.RetWeightIdeal.main_arg0)
          ∧ r.2.mem ((c.tc : Thread Cert.RetWeightIdeal.nD Cert.RetWeightIdeal.τ).loc Cert.RetWeightIdeal.main_arg1) = m ((c.tc : Thread Cert.RetWeightIdeal.nD Cert.RetWeightIdeal.τ).loc Cert.RetWeightIdeal.main_arg1))
      ∧ θ_run (Cert.RetWeightReferenceIdeal.defs (F := Ideal)) (onTc (τ := Cert.RetWeightReferenceIdeal.τ) (Cert.RetWeightReferenceIdeal.main (F := Ideal))) ⟨m', fun _ => 0, g'⟩ (fun r => ∀ c : Dev Cert.RetWeightReferenceIdeal.nD,
          r.2.mem ((c.tc : Thread Cert.RetWeightReferenceIdeal.nD Cert.RetWeightReferenceIdeal.τ).loc Cert.RetWeightReferenceIdeal.main_v4) = v0 c
          ∧ r.2.mem ((c.tc : Thread Cert.RetWeightReferenceIdeal.nD Cert.RetWeightReferenceIdeal.τ).loc Cert.RetWeightReferenceIdeal.main_arg0) = m' ((c.tc : Thread Cert.RetWeightReferenceIdeal.nD Cert.RetWeightReferenceIdeal.τ).loc Cert.RetWeightReferenceIdeal.main_arg0)
          ∧ r.2.mem ((c.tc : Thread Cert.RetWeightReferenceIdeal.nD Cert.RetWeightReferenceIdeal.τ).loc Cert.RetWeightReferenceIdeal.main_arg1) = m' ((c.tc : Thread Cert.RetWeightReferenceIdeal.nD Cert.RetWeightReferenceIdeal.τ).loc Cert.RetWeightReferenceIdeal.main_arg1))

def preserves_RetInput_RetInputIdeal : Prop :=
  True

def algebraic_RetInputIdeal_RetInputReferenceIdeal [hRetInputIdeal : Cert.RetInputIdeal.Facts] [hRetInputReferenceIdeal : Cert.RetInputReferenceIdeal.Facts] : Prop :=
  ∀ (m : (ℓ : Loc Cert.RetInputIdeal.nD Cert.RetInputIdeal.τ Cert.RetInputIdeal.sig) → Buf (Elt Ideal) ℓ) (g : Dev Cert.RetInputIdeal.nD → PrngReg)
    (m' : (ℓ : Loc Cert.RetInputReferenceIdeal.nD Cert.RetInputReferenceIdeal.τ Cert.RetInputReferenceIdeal.sig) → Buf (Elt Ideal) ℓ) (g' : Dev Cert.RetInputReferenceIdeal.nD → PrngReg), Pre_RetInputIdeal m →
    (∀ c : Dev Cert.RetInputIdeal.nD,
      m' ((c.tc : Thread Cert.RetInputReferenceIdeal.nD Cert.RetInputReferenceIdeal.τ).loc Cert.RetInputReferenceIdeal.main_arg0) = m ((c.tc : Thread Cert.RetInputIdeal.nD Cert.RetInputIdeal.τ).loc Cert.RetInputIdeal.main_arg0)
      ∧ m' ((c.tc : Thread Cert.RetInputReferenceIdeal.nD Cert.RetInputReferenceIdeal.τ).loc Cert.RetInputReferenceIdeal.main_arg1) = m ((c.tc : Thread Cert.RetInputIdeal.nD Cert.RetInputIdeal.τ).loc Cert.RetInputIdeal.main_arg1)) →
    ∃ (v0 : (c : Dev Cert.RetInputIdeal.nD) → Buf (Elt Ideal) ((c.tc : Thread Cert.RetInputIdeal.nD Cert.RetInputIdeal.τ).loc Cert.RetInputIdeal.main_v2)),
      θ_run (Cert.RetInputIdeal.defs (F := Ideal)) (onTc (τ := Cert.RetInputIdeal.τ) (Cert.RetInputIdeal.main (F := Ideal))) ⟨m, fun _ => 0, g⟩ (fun r => ∀ c : Dev Cert.RetInputIdeal.nD,
          r.2.mem ((c.tc : Thread Cert.RetInputIdeal.nD Cert.RetInputIdeal.τ).loc Cert.RetInputIdeal.main_v2) = v0 c
          ∧ r.2.mem ((c.tc : Thread Cert.RetInputIdeal.nD Cert.RetInputIdeal.τ).loc Cert.RetInputIdeal.main_arg0) = m ((c.tc : Thread Cert.RetInputIdeal.nD Cert.RetInputIdeal.τ).loc Cert.RetInputIdeal.main_arg0)
          ∧ r.2.mem ((c.tc : Thread Cert.RetInputIdeal.nD Cert.RetInputIdeal.τ).loc Cert.RetInputIdeal.main_arg1) = m ((c.tc : Thread Cert.RetInputIdeal.nD Cert.RetInputIdeal.τ).loc Cert.RetInputIdeal.main_arg1))
      ∧ θ_run (Cert.RetInputReferenceIdeal.defs (F := Ideal)) (onTc (τ := Cert.RetInputReferenceIdeal.τ) (Cert.RetInputReferenceIdeal.main (F := Ideal))) ⟨m', fun _ => 0, g'⟩ (fun r => ∀ c : Dev Cert.RetInputReferenceIdeal.nD,
          r.2.mem ((c.tc : Thread Cert.RetInputReferenceIdeal.nD Cert.RetInputReferenceIdeal.τ).loc Cert.RetInputReferenceIdeal.main_v2) = v0 c
          ∧ r.2.mem ((c.tc : Thread Cert.RetInputReferenceIdeal.nD Cert.RetInputReferenceIdeal.τ).loc Cert.RetInputReferenceIdeal.main_arg0) = m' ((c.tc : Thread Cert.RetInputReferenceIdeal.nD Cert.RetInputReferenceIdeal.τ).loc Cert.RetInputReferenceIdeal.main_arg0)
          ∧ r.2.mem ((c.tc : Thread Cert.RetInputReferenceIdeal.nD Cert.RetInputReferenceIdeal.τ).loc Cert.RetInputReferenceIdeal.main_arg1) = m' ((c.tc : Thread Cert.RetInputReferenceIdeal.nD Cert.RetInputReferenceIdeal.τ).loc Cert.RetInputReferenceIdeal.main_arg1))

def preserves_RetOut_RetOutIdeal : Prop :=
  True

def algebraic_RetOutIdeal_RetOutReferenceIdeal [hRetOutIdeal : Cert.RetOutIdeal.Facts] [hRetOutReferenceIdeal : Cert.RetOutReferenceIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutReferenceIdeal.nD Cert.RetOutReferenceIdeal.τ Cert.RetOutReferenceIdeal.sig) → Buf (Elt Ideal) ℓ) (g' : Dev Cert.RetOutReferenceIdeal.nD → PrngReg), Pre_RetOutIdeal m →
    (∀ c : Dev Cert.RetOutIdeal.nD,
      m' ((c.tc : Thread Cert.RetOutReferenceIdeal.nD Cert.RetOutReferenceIdeal.τ).loc Cert.RetOutReferenceIdeal.main_arg0) = m ((c.tc : Thread Cert.RetOutIdeal.nD Cert.RetOutIdeal.τ).loc Cert.RetOutIdeal.main_arg0)
      ∧ m' ((c.tc : Thread Cert.RetOutReferenceIdeal.nD Cert.RetOutReferenceIdeal.τ).loc Cert.RetOutReferenceIdeal.main_arg1) = m ((c.tc : Thread Cert.RetOutIdeal.nD Cert.RetOutIdeal.τ).loc Cert.RetOutIdeal.main_arg1)) →
    ∃ (v0 : (c : Dev Cert.RetOutIdeal.nD) → Buf (Elt Ideal) ((c.tc : Thread Cert.RetOutIdeal.nD Cert.RetOutIdeal.τ).loc Cert.RetOutIdeal.main_v2)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v2) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ θ_run (Cert.RetOutReferenceIdeal.defs (F := Ideal)) (onTc (τ := Cert.RetOutReferenceIdeal.τ) (Cert.RetOutReferenceIdeal.main (F := Ideal))) ⟨m', fun _ => 0, g'⟩ (fun r => ∀ c : Dev Cert.RetOutReferenceIdeal.nD,
          r.2.mem ((c.tc : Thread Cert.RetOutReferenceIdeal.nD Cert.RetOutReferenceIdeal.τ).loc Cert.RetOutReferenceIdeal.main_v0) = v0 c
          ∧ r.2.mem ((c.tc : Thread Cert.RetOutReferenceIdeal.nD Cert.RetOutReferenceIdeal.τ).loc Cert.RetOutReferenceIdeal.main_arg0) = m' ((c.tc : Thread Cert.RetOutReferenceIdeal.nD Cert.RetOutReferenceIdeal.τ).loc Cert.RetOutReferenceIdeal.main_arg0)
          ∧ r.2.mem ((c.tc : Thread Cert.RetOutReferenceIdeal.nD Cert.RetOutReferenceIdeal.τ).loc Cert.RetOutReferenceIdeal.main_arg1) = m' ((c.tc : Thread Cert.RetOutReferenceIdeal.nD Cert.RetOutReferenceIdeal.τ).loc Cert.RetOutReferenceIdeal.main_arg1))

def preserves_PleWeight_PleWeightIdeal : Prop :=
  True

def algebraic_PleWeightIdeal_PleWeightReferenceIdeal [hPleWeightIdeal : Cert.PleWeightIdeal.Facts] [hPleWeightReferenceIdeal : Cert.PleWeightReferenceIdeal.Facts] : Prop :=
  ∀ (m : (ℓ : Loc Cert.PleWeightIdeal.nD Cert.PleWeightIdeal.τ Cert.PleWeightIdeal.sig) → Buf (Elt Ideal) ℓ) (g : Dev Cert.PleWeightIdeal.nD → PrngReg)
    (m' : (ℓ : Loc Cert.PleWeightReferenceIdeal.nD Cert.PleWeightReferenceIdeal.τ Cert.PleWeightReferenceIdeal.sig) → Buf (Elt Ideal) ℓ) (g' : Dev Cert.PleWeightReferenceIdeal.nD → PrngReg), Pre_PleWeightIdeal m →
    (∀ c : Dev Cert.PleWeightIdeal.nD,
      m' ((c.tc : Thread Cert.PleWeightReferenceIdeal.nD Cert.PleWeightReferenceIdeal.τ).loc Cert.PleWeightReferenceIdeal.main_arg0) = m ((c.tc : Thread Cert.PleWeightIdeal.nD Cert.PleWeightIdeal.τ).loc Cert.PleWeightIdeal.main_arg0)
      ∧ m' ((c.tc : Thread Cert.PleWeightReferenceIdeal.nD Cert.PleWeightReferenceIdeal.τ).loc Cert.PleWeightReferenceIdeal.main_arg1) = m ((c.tc : Thread Cert.PleWeightIdeal.nD Cert.PleWeightIdeal.τ).loc Cert.PleWeightIdeal.main_arg1)) →
    ∃ (v0 : (c : Dev Cert.PleWeightIdeal.nD) → Buf (Elt Ideal) ((c.tc : Thread Cert.PleWeightIdeal.nD Cert.PleWeightIdeal.τ).loc Cert.PleWeightIdeal.main_v2)),
      θ_run (Cert.PleWeightIdeal.defs (F := Ideal)) (onTc (τ := Cert.PleWeightIdeal.τ) (Cert.PleWeightIdeal.main (F := Ideal))) ⟨m, fun _ => 0, g⟩ (fun r => ∀ c : Dev Cert.PleWeightIdeal.nD,
          r.2.mem ((c.tc : Thread Cert.PleWeightIdeal.nD Cert.PleWeightIdeal.τ).loc Cert.PleWeightIdeal.main_v2) = v0 c
          ∧ r.2.mem ((c.tc : Thread Cert.PleWeightIdeal.nD Cert.PleWeightIdeal.τ).loc Cert.PleWeightIdeal.main_arg0) = m ((c.tc : Thread Cert.PleWeightIdeal.nD Cert.PleWeightIdeal.τ).loc Cert.PleWeightIdeal.main_arg0)
          ∧ r.2.mem ((c.tc : Thread Cert.PleWeightIdeal.nD Cert.PleWeightIdeal.τ).loc Cert.PleWeightIdeal.main_arg1) = m ((c.tc : Thread Cert.PleWeightIdeal.nD Cert.PleWeightIdeal.τ).loc Cert.PleWeightIdeal.main_arg1))
      ∧ θ_run (Cert.PleWeightReferenceIdeal.defs (F := Ideal)) (onTc (τ := Cert.PleWeightReferenceIdeal.τ) (Cert.PleWeightReferenceIdeal.main (F := Ideal))) ⟨m', fun _ => 0, g'⟩ (fun r => ∀ c : Dev Cert.PleWeightReferenceIdeal.nD,
          r.2.mem ((c.tc : Thread Cert.PleWeightReferenceIdeal.nD Cert.PleWeightReferenceIdeal.τ).loc Cert.PleWeightReferenceIdeal.main_v4) = v0 c
          ∧ r.2.mem ((c.tc : Thread Cert.PleWeightReferenceIdeal.nD Cert.PleWeightReferenceIdeal.τ).loc Cert.PleWeightReferenceIdeal.main_arg0) = m' ((c.tc : Thread Cert.PleWeightReferenceIdeal.nD Cert.PleWeightReferenceIdeal.τ).loc Cert.PleWeightReferenceIdeal.main_arg0)
          ∧ r.2.mem ((c.tc : Thread Cert.PleWeightReferenceIdeal.nD Cert.PleWeightReferenceIdeal.τ).loc Cert.PleWeightReferenceIdeal.main_arg1) = m' ((c.tc : Thread Cert.PleWeightReferenceIdeal.nD Cert.PleWeightReferenceIdeal.τ).loc Cert.PleWeightReferenceIdeal.main_arg1))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)) →
    ∃ (v0 : (c : Dev Cert.PleIdeal.nD) → Buf (Elt Ideal) ((c.tc : Thread Cert.PleIdeal.nD Cert.PleIdeal.τ).loc Cert.PleIdeal.main_v2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v0) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1))

def preserves_Swiglu_SwigluIdeal : Prop :=
  True

def algebraic_SwigluIdeal_SwigluReferenceIdeal [hSwigluIdeal : Cert.SwigluIdeal.Facts] [hSwigluReferenceIdeal : Cert.SwigluReferenceIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluIdeal m →
    (∀ c : Dev Cert.SwigluIdeal.nD,
      m' ((c.tc : Thread Cert.SwigluReferenceIdeal.nD Cert.SwigluReferenceIdeal.τ).loc Cert.SwigluReferenceIdeal.main_arg0) = m ((c.tc : Thread Cert.SwigluIdeal.nD Cert.SwigluIdeal.τ).loc Cert.SwigluIdeal.main_arg0)
      ∧ m' ((c.tc : Thread Cert.SwigluReferenceIdeal.nD Cert.SwigluReferenceIdeal.τ).loc Cert.SwigluReferenceIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v2)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v2) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v2) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1))

def preserves_SwigluGrad_SwigluGradIdeal : Prop :=
  True

def algebraic_SwigluGradIdeal_SwigluGradReferenceIdeal_pre_finite_product [hSwigluGradIdeal : Cert.SwigluGradIdeal.Facts] [hSwigluGradReferenceIdeal : Cert.SwigluGradReferenceIdeal.Facts] [hPre_finite_product : Cert.Pre_finite_product.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg)
    (m' : (ℓ : Loc Cert.SwigluGradReferenceIdeal.nD Cert.SwigluGradReferenceIdeal.τ Cert.SwigluGradReferenceIdeal.sig) → Buf (Elt Ideal) ℓ) (g' : Dev Cert.SwigluGradReferenceIdeal.nD → PrngReg), Pre_SwigluGradIdeal_finite_product m →
    (∀ c : Dev Cert.SwigluGradIdeal.nD,
      m' ((c.tc : Thread Cert.SwigluGradReferenceIdeal.nD Cert.SwigluGradReferenceIdeal.τ).loc Cert.SwigluGradReferenceIdeal.main_arg0) = m ((c.tc : Thread Cert.SwigluGradIdeal.nD Cert.SwigluGradIdeal.τ).loc Cert.SwigluGradIdeal.main_arg0)
      ∧ m' ((c.tc : Thread Cert.SwigluGradReferenceIdeal.nD Cert.SwigluGradReferenceIdeal.τ).loc Cert.SwigluGradReferenceIdeal.main_arg1) = m ((c.tc : Thread Cert.SwigluGradIdeal.nD Cert.SwigluGradIdeal.τ).loc Cert.SwigluGradIdeal.main_arg1)
      ∧ m' ((c.tc : Thread Cert.SwigluGradReferenceIdeal.nD Cert.SwigluGradReferenceIdeal.τ).loc Cert.SwigluGradReferenceIdeal.main_arg2) = m ((c.tc : Thread Cert.SwigluGradIdeal.nD Cert.SwigluGradIdeal.τ).loc Cert.SwigluGradIdeal.main_arg2)) →
    ∃ (v0 : (c : Dev Cert.SwigluGradIdeal.nD) → Buf (Elt Ideal) ((c.tc : Thread Cert.SwigluGradIdeal.nD Cert.SwigluGradIdeal.τ).loc Cert.SwigluGradIdeal.main_v3_0)) (v1 : (c : Dev Cert.SwigluGradIdeal.nD) → Buf (Elt Ideal) ((c.tc : Thread Cert.SwigluGradIdeal.nD Cert.SwigluGradIdeal.τ).loc Cert.SwigluGradIdeal.main_v3_1)),
      θ_run (Cert.SwigluGradIdeal.defs (F := Ideal)) (onTc (τ := Cert.SwigluGradIdeal.τ) (Cert.SwigluGradIdeal.main (F := Ideal))) ⟨m, fun _ => 0, g⟩ (fun r => ∀ c : Dev Cert.SwigluGradIdeal.nD,
          r.2.mem ((c.tc : Thread Cert.SwigluGradIdeal.nD Cert.SwigluGradIdeal.τ).loc Cert.SwigluGradIdeal.main_v3_0) = v0 c
          ∧ r.2.mem ((c.tc : Thread Cert.SwigluGradIdeal.nD Cert.SwigluGradIdeal.τ).loc Cert.SwigluGradIdeal.main_v3_1) = v1 c
          ∧ r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
          ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
          ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2))
      ∧ θ_run (Cert.SwigluGradReferenceIdeal.defs (F := Ideal)) (onTc (τ := Cert.SwigluGradReferenceIdeal.τ) (Cert.SwigluGradReferenceIdeal.main (F := Ideal))) ⟨m', fun _ => 0, g'⟩ (fun r => ∀ c : Dev Cert.SwigluGradReferenceIdeal.nD,
          r.2.mem ((c.tc : Thread Cert.SwigluGradReferenceIdeal.nD Cert.SwigluGradReferenceIdeal.τ).loc Cert.SwigluGradReferenceIdeal.main_v5) = v0 c
          ∧ r.2.mem ((c.tc : Thread Cert.SwigluGradReferenceIdeal.nD Cert.SwigluGradReferenceIdeal.τ).loc Cert.SwigluGradReferenceIdeal.main_v6) = v1 c
          ∧ r.2.mem ((c.tc : Thread Cert.SwigluGradReferenceIdeal.nD Cert.SwigluGradReferenceIdeal.τ).loc Cert.SwigluGradReferenceIdeal.main_arg0) = m' ((c.tc : Thread Cert.SwigluGradReferenceIdeal.nD Cert.SwigluGradReferenceIdeal.τ).loc Cert.SwigluGradReferenceIdeal.main_arg0)
          ∧ r.2.mem ((c.tc : Thread Cert.SwigluGradReferenceIdeal.nD Cert.SwigluGradReferenceIdeal.τ).loc Cert.SwigluGradReferenceIdeal.main_arg1) = m' ((c.tc : Thread Cert.SwigluGradReferenceIdeal.nD Cert.SwigluGradReferenceIdeal.τ).loc Cert.SwigluGradReferenceIdeal.main_arg1)
          ∧ r.2.mem ((c.tc : Thread Cert.SwigluGradReferenceIdeal.nD Cert.SwigluGradReferenceIdeal.τ).loc Cert.SwigluGradReferenceIdeal.main_arg2) = m' ((c.tc : Thread Cert.SwigluGradReferenceIdeal.nD Cert.SwigluGradReferenceIdeal.τ).loc Cert.SwigluGradReferenceIdeal.main_arg2))

def preserves_GatesGrad_GatesGradIdeal : Prop :=
  True

def algebraic_GatesGradIdeal_GatesGradReferenceIdeal [hGatesGradIdeal : Cert.GatesGradIdeal.Facts] [hGatesGradReferenceIdeal : Cert.GatesGradReferenceIdeal.Facts] : Prop :=
  ∀ (m : (ℓ : Loc Cert.GatesGradIdeal.nD Cert.GatesGradIdeal.τ Cert.GatesGradIdeal.sig) → Buf (Elt Ideal) ℓ) (g : Dev Cert.GatesGradIdeal.nD → PrngReg)
    (m' : (ℓ : Loc Cert.GatesGradReferenceIdeal.nD Cert.GatesGradReferenceIdeal.τ Cert.GatesGradReferenceIdeal.sig) → Buf (Elt Ideal) ℓ) (g' : Dev Cert.GatesGradReferenceIdeal.nD → PrngReg), Pre_GatesGradIdeal m →
    (∀ c : Dev Cert.GatesGradIdeal.nD,
      m' ((c.tc : Thread Cert.GatesGradReferenceIdeal.nD Cert.GatesGradReferenceIdeal.τ).loc Cert.GatesGradReferenceIdeal.main_arg0) = m ((c.tc : Thread Cert.GatesGradIdeal.nD Cert.GatesGradIdeal.τ).loc Cert.GatesGradIdeal.main_arg0)
      ∧ m' ((c.tc : Thread Cert.GatesGradReferenceIdeal.nD Cert.GatesGradReferenceIdeal.τ).loc Cert.GatesGradReferenceIdeal.main_arg1) = m ((c.tc : Thread Cert.GatesGradIdeal.nD Cert.GatesGradIdeal.τ).loc Cert.GatesGradIdeal.main_arg1)
      ∧ m' ((c.tc : Thread Cert.GatesGradReferenceIdeal.nD Cert.GatesGradReferenceIdeal.τ).loc Cert.GatesGradReferenceIdeal.main_arg2) = m ((c.tc : Thread Cert.GatesGradIdeal.nD Cert.GatesGradIdeal.τ).loc Cert.GatesGradIdeal.main_arg2)
      ∧ m' ((c.tc : Thread Cert.GatesGradReferenceIdeal.nD Cert.GatesGradReferenceIdeal.τ).loc Cert.GatesGradReferenceIdeal.main_arg3) = m ((c.tc : Thread Cert.GatesGradIdeal.nD Cert.GatesGradIdeal.τ).loc Cert.GatesGradIdeal.main_arg3)
      ∧ m' ((c.tc : Thread Cert.GatesGradReferenceIdeal.nD Cert.GatesGradReferenceIdeal.τ).loc Cert.GatesGradReferenceIdeal.main_arg4) = m ((c.tc : Thread Cert.GatesGradIdeal.nD Cert.GatesGradIdeal.τ).loc Cert.GatesGradIdeal.main_arg4)) →
    ∃ (v0 : (c : Dev Cert.GatesGradIdeal.nD) → Buf (Elt Ideal) ((c.tc : Thread Cert.GatesGradIdeal.nD Cert.GatesGradIdeal.τ).loc Cert.GatesGradIdeal.main_v0_0)) (v1 : (c : Dev Cert.GatesGradIdeal.nD) → Buf (Elt Ideal) ((c.tc : Thread Cert.GatesGradIdeal.nD Cert.GatesGradIdeal.τ).loc Cert.GatesGradIdeal.main_v0_1)) (v2 : (c : Dev Cert.GatesGradIdeal.nD) → Buf (Elt Ideal) ((c.tc : Thread Cert.GatesGradIdeal.nD Cert.GatesGradIdeal.τ).loc Cert.GatesGradIdeal.main_v0_2)) (v3 : (c : Dev Cert.GatesGradIdeal.nD) → Buf (Elt Ideal) ((c.tc : Thread Cert.GatesGradIdeal.nD Cert.GatesGradIdeal.τ).loc Cert.GatesGradIdeal.main_v0_3)),
      θ_run (Cert.GatesGradIdeal.defs (F := Ideal)) (onTc (τ := Cert.GatesGradIdeal.τ) (Cert.GatesGradIdeal.main (F := Ideal))) ⟨m, fun _ => 0, g⟩ (fun r => ∀ c : Dev Cert.GatesGradIdeal.nD,
          r.2.mem ((c.tc : Thread Cert.GatesGradIdeal.nD Cert.GatesGradIdeal.τ).loc Cert.GatesGradIdeal.main_v0_0) = v0 c
          ∧ r.2.mem ((c.tc : Thread Cert.GatesGradIdeal.nD Cert.GatesGradIdeal.τ).loc Cert.GatesGradIdeal.main_v0_1) = v1 c
          ∧ r.2.mem ((c.tc : Thread Cert.GatesGradIdeal.nD Cert.GatesGradIdeal.τ).loc Cert.GatesGradIdeal.main_v0_2) = v2 c
          ∧ r.2.mem ((c.tc : Thread Cert.GatesGradIdeal.nD Cert.GatesGradIdeal.τ).loc Cert.GatesGradIdeal.main_v0_3) = v3 c
          ∧ r.2.mem ((c.tc : Thread Cert.GatesGradIdeal.nD Cert.GatesGradIdeal.τ).loc Cert.GatesGradIdeal.main_arg0) = m ((c.tc : Thread Cert.GatesGradIdeal.nD Cert.GatesGradIdeal.τ).loc Cert.GatesGradIdeal.main_arg0)
          ∧ r.2.mem ((c.tc : Thread Cert.GatesGradIdeal.nD Cert.GatesGradIdeal.τ).loc Cert.GatesGradIdeal.main_arg1) = m ((c.tc : Thread Cert.GatesGradIdeal.nD Cert.GatesGradIdeal.τ).loc Cert.GatesGradIdeal.main_arg1)
          ∧ r.2.mem ((c.tc : Thread Cert.GatesGradIdeal.nD Cert.GatesGradIdeal.τ).loc Cert.GatesGradIdeal.main_arg2) = m ((c.tc : Thread Cert.GatesGradIdeal.nD Cert.GatesGradIdeal.τ).loc Cert.GatesGradIdeal.main_arg2)
          ∧ r.2.mem ((c.tc : Thread Cert.GatesGradIdeal.nD Cert.GatesGradIdeal.τ).loc Cert.GatesGradIdeal.main_arg3) = m ((c.tc : Thread Cert.GatesGradIdeal.nD Cert.GatesGradIdeal.τ).loc Cert.GatesGradIdeal.main_arg3)
          ∧ r.2.mem ((c.tc : Thread Cert.GatesGradIdeal.nD Cert.GatesGradIdeal.τ).loc Cert.GatesGradIdeal.main_arg4) = m ((c.tc : Thread Cert.GatesGradIdeal.nD Cert.GatesGradIdeal.τ).loc Cert.GatesGradIdeal.main_arg4))
      ∧ θ_run (Cert.GatesGradReferenceIdeal.defs (F := Ideal)) (onTc (τ := Cert.GatesGradReferenceIdeal.τ) (Cert.GatesGradReferenceIdeal.main (F := Ideal))) ⟨m', fun _ => 0, g'⟩ (fun r => ∀ c : Dev Cert.GatesGradReferenceIdeal.nD,
          r.2.mem ((c.tc : Thread Cert.GatesGradReferenceIdeal.nD Cert.GatesGradReferenceIdeal.τ).loc Cert.GatesGradReferenceIdeal.main_v26) = v0 c
          ∧ r.2.mem ((c.tc : Thread Cert.GatesGradReferenceIdeal.nD Cert.GatesGradReferenceIdeal.τ).loc Cert.GatesGradReferenceIdeal.main_v27) = v1 c
          ∧ r.2.mem ((c.tc : Thread Cert.GatesGradReferenceIdeal.nD Cert.GatesGradReferenceIdeal.τ).loc Cert.GatesGradReferenceIdeal.main_v28) = v2 c
          ∧ r.2.mem ((c.tc : Thread Cert.GatesGradReferenceIdeal.nD Cert.GatesGradReferenceIdeal.τ).loc Cert.GatesGradReferenceIdeal.main_v25) = v3 c
          ∧ r.2.mem ((c.tc : Thread Cert.GatesGradReferenceIdeal.nD Cert.GatesGradReferenceIdeal.τ).loc Cert.GatesGradReferenceIdeal.main_arg0) = m' ((c.tc : Thread Cert.GatesGradReferenceIdeal.nD Cert.GatesGradReferenceIdeal.τ).loc Cert.GatesGradReferenceIdeal.main_arg0)
          ∧ r.2.mem ((c.tc : Thread Cert.GatesGradReferenceIdeal.nD Cert.GatesGradReferenceIdeal.τ).loc Cert.GatesGradReferenceIdeal.main_arg1) = m' ((c.tc : Thread Cert.GatesGradReferenceIdeal.nD Cert.GatesGradReferenceIdeal.τ).loc Cert.GatesGradReferenceIdeal.main_arg1)
          ∧ r.2.mem ((c.tc : Thread Cert.GatesGradReferenceIdeal.nD Cert.GatesGradReferenceIdeal.τ).loc Cert.GatesGradReferenceIdeal.main_arg2) = m' ((c.tc : Thread Cert.GatesGradReferenceIdeal.nD Cert.GatesGradReferenceIdeal.τ).loc Cert.GatesGradReferenceIdeal.main_arg2)
          ∧ r.2.mem ((c.tc : Thread Cert.GatesGradReferenceIdeal.nD Cert.GatesGradReferenceIdeal.τ).loc Cert.GatesGradReferenceIdeal.main_arg3) = m' ((c.tc : Thread Cert.GatesGradReferenceIdeal.nD Cert.GatesGradReferenceIdeal.τ).loc Cert.GatesGradReferenceIdeal.main_arg3)
          ∧ r.2.mem ((c.tc : Thread Cert.GatesGradReferenceIdeal.nD Cert.GatesGradReferenceIdeal.τ).loc Cert.GatesGradReferenceIdeal.main_arg4) = m' ((c.tc : Thread Cert.GatesGradReferenceIdeal.nD Cert.GatesGradReferenceIdeal.τ).loc Cert.GatesGradReferenceIdeal.main_arg4))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v13) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3))

def preserves_Rms_RmsIdeal : Prop :=
  True

def algebraic_RmsIdeal_RmsReferenceIdeal [hRmsIdeal : Cert.RmsIdeal.Facts] [hRmsReferenceIdeal : Cert.RmsReferenceIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsIdeal m →
    (∀ c : Dev Cert.RmsIdeal.nD,
      m' ((c.tc : Thread Cert.RmsReferenceIdeal.nD Cert.RmsReferenceIdeal.τ).loc Cert.RmsReferenceIdeal.main_arg0) = m ((c.tc : Thread Cert.RmsIdeal.nD Cert.RmsIdeal.τ).loc Cert.RmsIdeal.main_arg0)
      ∧ m' ((c.tc : Thread Cert.RmsReferenceIdeal.nD Cert.RmsReferenceIdeal.τ).loc Cert.RmsReferenceIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v12) = v0 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1))

def preserves_RmsAddHalf_RmsAddHalfIdeal : Prop :=
  True

def algebraic_RmsAddHalfIdeal_RmsAddHalfReferenceIdeal [hRmsAddHalfIdeal : Cert.RmsAddHalfIdeal.Facts] [hRmsAddHalfReferenceIdeal : Cert.RmsAddHalfReferenceIdeal.Facts] : Prop :=
  ∀ (m : (ℓ : Loc Cert.RmsAddHalfIdeal.nD Cert.RmsAddHalfIdeal.τ Cert.RmsAddHalfIdeal.sig) → Buf (Elt Ideal) ℓ) (g : Dev Cert.RmsAddHalfIdeal.nD → PrngReg)
    (m' : (ℓ : Loc Cert.RmsAddHalfReferenceIdeal.nD Cert.RmsAddHalfReferenceIdeal.τ Cert.RmsAddHalfReferenceIdeal.sig) → Buf (Elt Ideal) ℓ) (g' : Dev Cert.RmsAddHalfReferenceIdeal.nD → PrngReg), Pre_RmsAddHalfIdeal m →
    (∀ c : Dev Cert.RmsAddHalfIdeal.nD,
      m' ((c.tc : Thread Cert.RmsAddHalfReferenceIdeal.nD Cert.RmsAddHalfReferenceIdeal.τ).loc Cert.RmsAddHalfReferenceIdeal.main_arg0) = m ((c.tc : Thread Cert.RmsAddHalfIdeal.nD Cert.RmsAddHalfIdeal.τ).loc Cert.RmsAddHalfIdeal.main_arg0)
      ∧ m' ((c.tc : Thread Cert.RmsAddHalfReferenceIdeal.nD Cert.RmsAddHalfReferenceIdeal.τ).loc Cert.RmsAddHalfReferenceIdeal.main_arg1) = m ((c.tc : Thread Cert.RmsAddHalfIdeal.nD Cert.RmsAddHalfIdeal.τ).loc Cert.RmsAddHalfIdeal.main_arg1)
      ∧ m' ((c.tc : Thread Cert.RmsAddHalfReferenceIdeal.nD Cert.RmsAddHalfReferenceIdeal.τ).loc Cert.RmsAddHalfReferenceIdeal.main_arg2) = m ((c.tc : Thread Cert.RmsAddHalfIdeal.nD Cert.RmsAddHalfIdeal.τ).loc Cert.RmsAddHalfIdeal.main_arg2)) →
    ∃ (v0 : (c : Dev Cert.RmsAddHalfIdeal.nD) → Buf (Elt Ideal) ((c.tc : Thread Cert.RmsAddHalfIdeal.nD Cert.RmsAddHalfIdeal.τ).loc Cert.RmsAddHalfIdeal.main_v0_0)) (v1 : (c : Dev Cert.RmsAddHalfIdeal.nD) → Buf (Elt Ideal) ((c.tc : Thread Cert.RmsAddHalfIdeal.nD Cert.RmsAddHalfIdeal.τ).loc Cert.RmsAddHalfIdeal.main_v0_1)),
      θ_run (Cert.RmsAddHalfIdeal.defs (F := Ideal)) (onTc (τ := Cert.RmsAddHalfIdeal.τ) (Cert.RmsAddHalfIdeal.main (F := Ideal))) ⟨m, fun _ => 0, g⟩ (fun r => ∀ c : Dev Cert.RmsAddHalfIdeal.nD,
          r.2.mem ((c.tc : Thread Cert.RmsAddHalfIdeal.nD Cert.RmsAddHalfIdeal.τ).loc Cert.RmsAddHalfIdeal.main_v0_0) = v0 c
          ∧ r.2.mem ((c.tc : Thread Cert.RmsAddHalfIdeal.nD Cert.RmsAddHalfIdeal.τ).loc Cert.RmsAddHalfIdeal.main_v0_1) = v1 c
          ∧ r.2.mem ((c.tc : Thread Cert.RmsAddHalfIdeal.nD Cert.RmsAddHalfIdeal.τ).loc Cert.RmsAddHalfIdeal.main_arg0) = m ((c.tc : Thread Cert.RmsAddHalfIdeal.nD Cert.RmsAddHalfIdeal.τ).loc Cert.RmsAddHalfIdeal.main_arg0)
          ∧ r.2.mem ((c.tc : Thread Cert.RmsAddHalfIdeal.nD Cert.RmsAddHalfIdeal.τ).loc Cert.RmsAddHalfIdeal.main_arg1) = m ((c.tc : Thread Cert.RmsAddHalfIdeal.nD Cert.RmsAddHalfIdeal.τ).loc Cert.RmsAddHalfIdeal.main_arg1)
          ∧ r.2.mem ((c.tc : Thread Cert.RmsAddHalfIdeal.nD Cert.RmsAddHalfIdeal.τ).loc Cert.RmsAddHalfIdeal.main_arg2) = m ((c.tc : Thread Cert.RmsAddHalfIdeal.nD Cert.RmsAddHalfIdeal.τ).loc Cert.RmsAddHalfIdeal.main_arg2))
      ∧ θ_run (Cert.RmsAddHalfReferenceIdeal.defs (F := Ideal)) (onTc (τ := Cert.RmsAddHalfReferenceIdeal.τ) (Cert.RmsAddHalfReferenceIdeal.main (F := Ideal))) ⟨m', fun _ => 0, g'⟩ (fun r => ∀ c : Dev Cert.RmsAddHalfReferenceIdeal.nD,
          r.2.mem ((c.tc : Thread Cert.RmsAddHalfReferenceIdeal.nD Cert.RmsAddHalfReferenceIdeal.τ).loc Cert.RmsAddHalfReferenceIdeal.main_v2) = v0 c
          ∧ r.2.mem ((c.tc : Thread Cert.RmsAddHalfReferenceIdeal.nD Cert.RmsAddHalfReferenceIdeal.τ).loc Cert.RmsAddHalfReferenceIdeal.main_v15) = v1 c
          ∧ r.2.mem ((c.tc : Thread Cert.RmsAddHalfReferenceIdeal.nD Cert.RmsAddHalfReferenceIdeal.τ).loc Cert.RmsAddHalfReferenceIdeal.main_arg0) = m' ((c.tc : Thread Cert.RmsAddHalfReferenceIdeal.nD Cert.RmsAddHalfReferenceIdeal.τ).loc Cert.RmsAddHalfReferenceIdeal.main_arg0)
          ∧ r.2.mem ((c.tc : Thread Cert.RmsAddHalfReferenceIdeal.nD Cert.RmsAddHalfReferenceIdeal.τ).loc Cert.RmsAddHalfReferenceIdeal.main_arg1) = m' ((c.tc : Thread Cert.RmsAddHalfReferenceIdeal.nD Cert.RmsAddHalfReferenceIdeal.τ).loc Cert.RmsAddHalfReferenceIdeal.main_arg1)
          ∧ r.2.mem ((c.tc : Thread Cert.RmsAddHalfReferenceIdeal.nD Cert.RmsAddHalfReferenceIdeal.τ).loc Cert.RmsAddHalfReferenceIdeal.main_arg2) = m' ((c.tc : Thread Cert.RmsAddHalfReferenceIdeal.nD Cert.RmsAddHalfReferenceIdeal.τ).loc Cert.RmsAddHalfReferenceIdeal.main_arg2))

def preserves_RmsAdd_RmsAddIdeal : Prop :=
  True

def algebraic_RmsAddIdeal_RmsAddReferenceIdeal [hRmsAddIdeal : Cert.RmsAddIdeal.Facts] [hRmsAddReferenceIdeal : Cert.RmsAddReferenceIdeal.Facts] : Prop :=
  ∀ (m : (ℓ : Loc Cert.RmsAddIdeal.nD Cert.RmsAddIdeal.τ Cert.RmsAddIdeal.sig) → Buf (Elt Ideal) ℓ) (g : Dev Cert.RmsAddIdeal.nD → PrngReg)
    (m' : (ℓ : Loc Cert.RmsAddReferenceIdeal.nD Cert.RmsAddReferenceIdeal.τ Cert.RmsAddReferenceIdeal.sig) → Buf (Elt Ideal) ℓ) (g' : Dev Cert.RmsAddReferenceIdeal.nD → PrngReg), Pre_RmsAddIdeal m →
    (∀ c : Dev Cert.RmsAddIdeal.nD,
      m' ((c.tc : Thread Cert.RmsAddReferenceIdeal.nD Cert.RmsAddReferenceIdeal.τ).loc Cert.RmsAddReferenceIdeal.main_arg0) = m ((c.tc : Thread Cert.RmsAddIdeal.nD Cert.RmsAddIdeal.τ).loc Cert.RmsAddIdeal.main_arg0)
      ∧ m' ((c.tc : Thread Cert.RmsAddReferenceIdeal.nD Cert.RmsAddReferenceIdeal.τ).loc Cert.RmsAddReferenceIdeal.main_arg1) = m ((c.tc : Thread Cert.RmsAddIdeal.nD Cert.RmsAddIdeal.τ).loc Cert.RmsAddIdeal.main_arg1)
      ∧ m' ((c.tc : Thread Cert.RmsAddReferenceIdeal.nD Cert.RmsAddReferenceIdeal.τ).loc Cert.RmsAddReferenceIdeal.main_arg2) = m ((c.tc : Thread Cert.RmsAddIdeal.nD Cert.RmsAddIdeal.τ).loc Cert.RmsAddIdeal.main_arg2)) →
    ∃ (v0 : (c : Dev Cert.RmsAddIdeal.nD) → Buf (Elt Ideal) ((c.tc : Thread Cert.RmsAddIdeal.nD Cert.RmsAddIdeal.τ).loc Cert.RmsAddIdeal.main_v0_0)) (v1 : (c : Dev Cert.RmsAddIdeal.nD) → Buf (Elt Ideal) ((c.tc : Thread Cert.RmsAddIdeal.nD Cert.RmsAddIdeal.τ).loc Cert.RmsAddIdeal.main_v0_1)),
      θ_run (Cert.RmsAddIdeal.defs (F := Ideal)) (onTc (τ := Cert.RmsAddIdeal.τ) (Cert.RmsAddIdeal.main (F := Ideal))) ⟨m, fun _ => 0, g⟩ (fun r => ∀ c : Dev Cert.RmsAddIdeal.nD,
          r.2.mem ((c.tc : Thread Cert.RmsAddIdeal.nD Cert.RmsAddIdeal.τ).loc Cert.RmsAddIdeal.main_v0_0) = v0 c
          ∧ r.2.mem ((c.tc : Thread Cert.RmsAddIdeal.nD Cert.RmsAddIdeal.τ).loc Cert.RmsAddIdeal.main_v0_1) = v1 c
          ∧ r.2.mem ((c.tc : Thread Cert.RmsAddIdeal.nD Cert.RmsAddIdeal.τ).loc Cert.RmsAddIdeal.main_arg0) = m ((c.tc : Thread Cert.RmsAddIdeal.nD Cert.RmsAddIdeal.τ).loc Cert.RmsAddIdeal.main_arg0)
          ∧ r.2.mem ((c.tc : Thread Cert.RmsAddIdeal.nD Cert.RmsAddIdeal.τ).loc Cert.RmsAddIdeal.main_arg1) = m ((c.tc : Thread Cert.RmsAddIdeal.nD Cert.RmsAddIdeal.τ).loc Cert.RmsAddIdeal.main_arg1)
          ∧ r.2.mem ((c.tc : Thread Cert.RmsAddIdeal.nD Cert.RmsAddIdeal.τ).loc Cert.RmsAddIdeal.main_arg2) = m ((c.tc : Thread Cert.RmsAddIdeal.nD Cert.RmsAddIdeal.τ).loc Cert.RmsAddIdeal.main_arg2))
      ∧ θ_run (Cert.RmsAddReferenceIdeal.defs (F := Ideal)) (onTc (τ := Cert.RmsAddReferenceIdeal.τ) (Cert.RmsAddReferenceIdeal.main (F := Ideal))) ⟨m', fun _ => 0, g'⟩ (fun r => ∀ c : Dev Cert.RmsAddReferenceIdeal.nD,
          r.2.mem ((c.tc : Thread Cert.RmsAddReferenceIdeal.nD Cert.RmsAddReferenceIdeal.τ).loc Cert.RmsAddReferenceIdeal.main_v0) = v0 c
          ∧ r.2.mem ((c.tc : Thread Cert.RmsAddReferenceIdeal.nD Cert.RmsAddReferenceIdeal.τ).loc Cert.RmsAddReferenceIdeal.main_v13) = v1 c
          ∧ r.2.mem ((c.tc : Thread Cert.RmsAddReferenceIdeal.nD Cert.RmsAddReferenceIdeal.τ).loc Cert.RmsAddReferenceIdeal.main_arg0) = m' ((c.tc : Thread Cert.RmsAddReferenceIdeal.nD Cert.RmsAddReferenceIdeal.τ).loc Cert.RmsAddReferenceIdeal.main_arg0)
          ∧ r.2.mem ((c.tc : Thread Cert.RmsAddReferenceIdeal.nD Cert.RmsAddReferenceIdeal.τ).loc Cert.RmsAddReferenceIdeal.main_arg1) = m' ((c.tc : Thread Cert.RmsAddReferenceIdeal.nD Cert.RmsAddReferenceIdeal.τ).loc Cert.RmsAddReferenceIdeal.main_arg1)
          ∧ r.2.mem ((c.tc : Thread Cert.RmsAddReferenceIdeal.nD Cert.RmsAddReferenceIdeal.τ).loc Cert.RmsAddReferenceIdeal.main_arg2) = m' ((c.tc : Thread Cert.RmsAddReferenceIdeal.nD Cert.RmsAddReferenceIdeal.τ).loc Cert.RmsAddReferenceIdeal.main_arg2))

def Claim : Prop :=
  ∃ (hKernel : Cert.Kernel.Facts) (hKernelIdeal : Cert.KernelIdeal.Facts) (hReferenceIdeal : Cert.ReferenceIdeal.Facts) (hFfnDownWeight : Cert.FfnDownWeight.Facts) (hFfnDownWeightIdeal : Cert.FfnDownWeightIdeal.Facts) (hFfnDownWeightReferenceIdeal : Cert.FfnDownWeightReferenceIdeal.Facts) (hFfnInner : Cert.FfnInner.Facts) (hFfnInnerIdeal : Cert.FfnInnerIdeal.Facts) (hFfnInnerReferenceIdeal : Cert.FfnInnerReferenceIdeal.Facts) (hFfnUpWeight : Cert.FfnUpWeight.Facts) (hFfnUpWeightIdeal : Cert.FfnUpWeightIdeal.Facts) (hFfnUpWeightReferenceIdeal : Cert.FfnUpWeightReferenceIdeal.Facts) (hFfnInput : Cert.FfnInput.Facts) (hFfnInputIdeal : Cert.FfnInputIdeal.Facts) (hFfnInputReferenceIdeal : Cert.FfnInputReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hMixerWeight : Cert.MixerWeight.Facts) (hMixerWeightIdeal : Cert.MixerWeightIdeal.Facts) (hMixerWeightReferenceIdeal : Cert.MixerWeightReferenceIdeal.Facts) (hMixerInput : Cert.MixerInput.Facts) (hMixerInputIdeal : Cert.MixerInputIdeal.Facts) (hMixerInputReferenceIdeal : Cert.MixerInputReferenceIdeal.Facts) (hMixerIn : Cert.MixerIn.Facts) (hMixerInIdeal : Cert.MixerInIdeal.Facts) (hMixerInReferenceIdeal : Cert.MixerInReferenceIdeal.Facts) (hMergeWeight : Cert.MergeWeight.Facts) (hMergeWeightIdeal : Cert.MergeWeightIdeal.Facts) (hMergeWeightReferenceIdeal : Cert.MergeWeightReferenceIdeal.Facts) (hMerge : Cert.Merge.Facts) (hMergeIdeal : Cert.MergeIdeal.Facts) (hMergeReferenceIdeal : Cert.MergeReferenceIdeal.Facts) (hOutWeight : Cert.OutWeight.Facts) (hOutWeightIdeal : Cert.OutWeightIdeal.Facts) (hOutWeightReferenceIdeal : Cert.OutWeightReferenceIdeal.Facts) (hOutInput : Cert.OutInput.Facts) (hOutInputIdeal : Cert.OutInputIdeal.Facts) (hOutInputReferenceIdeal : Cert.OutInputReferenceIdeal.Facts) (hOut : Cert.Out.Facts) (hOutIdeal : Cert.OutIdeal.Facts) (hOutReferenceIdeal : Cert.OutReferenceIdeal.Facts) (hRetWeight : Cert.RetWeight.Facts) (hRetWeightIdeal : Cert.RetWeightIdeal.Facts) (hRetWeightReferenceIdeal : Cert.RetWeightReferenceIdeal.Facts) (hRetInput : Cert.RetInput.Facts) (hRetInputIdeal : Cert.RetInputIdeal.Facts) (hRetInputReferenceIdeal : Cert.RetInputReferenceIdeal.Facts) (hRetOut : Cert.RetOut.Facts) (hRetOutIdeal : Cert.RetOutIdeal.Facts) (hRetOutReferenceIdeal : Cert.RetOutReferenceIdeal.Facts) (hPleWeight : Cert.PleWeight.Facts) (hPleWeightIdeal : Cert.PleWeightIdeal.Facts) (hPleWeightReferenceIdeal : Cert.PleWeightReferenceIdeal.Facts) (hPle : Cert.Ple.Facts) (hPleIdeal : Cert.PleIdeal.Facts) (hPleReferenceIdeal : Cert.PleReferenceIdeal.Facts) (hSwiglu : Cert.Swiglu.Facts) (hSwigluIdeal : Cert.SwigluIdeal.Facts) (hSwigluReferenceIdeal : Cert.SwigluReferenceIdeal.Facts) (hSwigluGrad : Cert.SwigluGrad.Facts) (hSwigluGradIdeal : Cert.SwigluGradIdeal.Facts) (hSwigluGradReferenceIdeal : Cert.SwigluGradReferenceIdeal.Facts) (hGatesGrad : Cert.GatesGrad.Facts) (hGatesGradIdeal : Cert.GatesGradIdeal.Facts) (hGatesGradReferenceIdeal : Cert.GatesGradReferenceIdeal.Facts) (hGates : Cert.Gates.Facts) (hGatesIdeal : Cert.GatesIdeal.Facts) (hGatesReferenceIdeal : Cert.GatesReferenceIdeal.Facts) (hRms : Cert.Rms.Facts) (hRmsIdeal : Cert.RmsIdeal.Facts) (hRmsReferenceIdeal : Cert.RmsReferenceIdeal.Facts) (hRmsAddHalf : Cert.RmsAddHalf.Facts) (hRmsAddHalfIdeal : Cert.RmsAddHalfIdeal.Facts) (hRmsAddHalfReferenceIdeal : Cert.RmsAddHalfReferenceIdeal.Facts) (hRmsAdd : Cert.RmsAdd.Facts) (hRmsAddIdeal : Cert.RmsAddIdeal.Facts) (hRmsAddReferenceIdeal : Cert.RmsAddReferenceIdeal.Facts) (hPre_finite : Cert.Pre_finite.Facts) (hPre_finite_product : Cert.Pre_finite_product.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnDownWeight (hFfnDownWeight := hFfnDownWeight)
    ∧ quiescent_FfnDownWeightIdeal (hFfnDownWeightIdeal := hFfnDownWeightIdeal)
    ∧ quiescent_FfnDownWeightReferenceIdeal (hFfnDownWeightReferenceIdeal := hFfnDownWeightReferenceIdeal)
    ∧ quiescent_FfnInner (hFfnInner := hFfnInner)
    ∧ quiescent_FfnInnerIdeal (hFfnInnerIdeal := hFfnInnerIdeal)
    ∧ quiescent_FfnInnerReferenceIdeal (hFfnInnerReferenceIdeal := hFfnInnerReferenceIdeal)
    ∧ quiescent_FfnUpWeight (hFfnUpWeight := hFfnUpWeight)
    ∧ quiescent_FfnUpWeightIdeal (hFfnUpWeightIdeal := hFfnUpWeightIdeal)
    ∧ quiescent_FfnUpWeightReferenceIdeal (hFfnUpWeightReferenceIdeal := hFfnUpWeightReferenceIdeal)
    ∧ quiescent_FfnInput (hFfnInput := hFfnInput)
    ∧ quiescent_FfnInputIdeal (hFfnInputIdeal := hFfnInputIdeal)
    ∧ quiescent_FfnInputReferenceIdeal (hFfnInputReferenceIdeal := hFfnInputReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_MixerWeight (hMixerWeight := hMixerWeight)
    ∧ quiescent_MixerWeightIdeal (hMixerWeightIdeal := hMixerWeightIdeal)
    ∧ quiescent_MixerWeightReferenceIdeal (hMixerWeightReferenceIdeal := hMixerWeightReferenceIdeal)
    ∧ quiescent_MixerInput (hMixerInput := hMixerInput)
    ∧ quiescent_MixerInputIdeal (hMixerInputIdeal := hMixerInputIdeal)
    ∧ quiescent_MixerInputReferenceIdeal (hMixerInputReferenceIdeal := hMixerInputReferenceIdeal)
    ∧ quiescent_MixerIn (hMixerIn := hMixerIn)
    ∧ quiescent_MixerInIdeal (hMixerInIdeal := hMixerInIdeal)
    ∧ quiescent_MixerInReferenceIdeal (hMixerInReferenceIdeal := hMixerInReferenceIdeal)
    ∧ quiescent_MergeWeight (hMergeWeight := hMergeWeight)
    ∧ quiescent_MergeWeightIdeal (hMergeWeightIdeal := hMergeWeightIdeal)
    ∧ quiescent_MergeWeightReferenceIdeal (hMergeWeightReferenceIdeal := hMergeWeightReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutWeight (hOutWeight := hOutWeight)
    ∧ quiescent_OutWeightIdeal (hOutWeightIdeal := hOutWeightIdeal)
    ∧ quiescent_OutWeightReferenceIdeal (hOutWeightReferenceIdeal := hOutWeightReferenceIdeal)
    ∧ quiescent_OutInput (hOutInput := hOutInput)
    ∧ quiescent_OutInputIdeal (hOutInputIdeal := hOutInputIdeal)
    ∧ quiescent_OutInputReferenceIdeal (hOutInputReferenceIdeal := hOutInputReferenceIdeal)
    ∧ quiescent_Out (hOut := hOut)
    ∧ quiescent_OutIdeal (hOutIdeal := hOutIdeal)
    ∧ quiescent_OutReferenceIdeal (hOutReferenceIdeal := hOutReferenceIdeal)
    ∧ quiescent_RetWeight (hRetWeight := hRetWeight)
    ∧ quiescent_RetWeightIdeal (hRetWeightIdeal := hRetWeightIdeal)
    ∧ quiescent_RetWeightReferenceIdeal (hRetWeightReferenceIdeal := hRetWeightReferenceIdeal)
    ∧ quiescent_RetInput (hRetInput := hRetInput)
    ∧ quiescent_RetInputIdeal (hRetInputIdeal := hRetInputIdeal)
    ∧ quiescent_RetInputReferenceIdeal (hRetInputReferenceIdeal := hRetInputReferenceIdeal)
    ∧ quiescent_RetOut (hRetOut := hRetOut)
    ∧ quiescent_RetOutIdeal (hRetOutIdeal := hRetOutIdeal)
    ∧ quiescent_RetOutReferenceIdeal (hRetOutReferenceIdeal := hRetOutReferenceIdeal)
    ∧ quiescent_PleWeight (hPleWeight := hPleWeight)
    ∧ quiescent_PleWeightIdeal (hPleWeightIdeal := hPleWeightIdeal)
    ∧ quiescent_PleWeightReferenceIdeal (hPleWeightReferenceIdeal := hPleWeightReferenceIdeal)
    ∧ quiescent_Ple (hPle := hPle)
    ∧ quiescent_PleIdeal (hPleIdeal := hPleIdeal)
    ∧ quiescent_PleReferenceIdeal (hPleReferenceIdeal := hPleReferenceIdeal)
    ∧ quiescent_Swiglu (hSwiglu := hSwiglu)
    ∧ quiescent_SwigluIdeal (hSwigluIdeal := hSwigluIdeal)
    ∧ quiescent_SwigluReferenceIdeal (hSwigluReferenceIdeal := hSwigluReferenceIdeal)
    ∧ quiescent_SwigluGrad (hSwigluGrad := hSwigluGrad)
    ∧ quiescent_SwigluGradIdeal (hSwigluGradIdeal := hSwigluGradIdeal)
    ∧ quiescent_SwigluGradIdeal_pre_finite_product (hSwigluGradIdeal := hSwigluGradIdeal) (hPre_finite_product := hPre_finite_product)
    ∧ quiescent_SwigluGradReferenceIdeal (hSwigluGradReferenceIdeal := hSwigluGradReferenceIdeal)
    ∧ quiescent_SwigluGradReferenceIdeal_pre_finite_product (hSwigluGradReferenceIdeal := hSwigluGradReferenceIdeal) (hPre_finite_product := hPre_finite_product)
    ∧ quiescent_GatesGrad (hGatesGrad := hGatesGrad)
    ∧ quiescent_GatesGradIdeal (hGatesGradIdeal := hGatesGradIdeal)
    ∧ quiescent_GatesGradReferenceIdeal (hGatesGradReferenceIdeal := hGatesGradReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Rms (hRms := hRms)
    ∧ quiescent_RmsIdeal (hRmsIdeal := hRmsIdeal)
    ∧ quiescent_RmsReferenceIdeal (hRmsReferenceIdeal := hRmsReferenceIdeal)
    ∧ quiescent_RmsAddHalf (hRmsAddHalf := hRmsAddHalf)
    ∧ quiescent_RmsAddHalfIdeal (hRmsAddHalfIdeal := hRmsAddHalfIdeal)
    ∧ quiescent_RmsAddHalfReferenceIdeal (hRmsAddHalfReferenceIdeal := hRmsAddHalfReferenceIdeal)
    ∧ quiescent_RmsAdd (hRmsAdd := hRmsAdd)
    ∧ quiescent_RmsAddIdeal (hRmsAddIdeal := hRmsAddIdeal)
    ∧ quiescent_RmsAddReferenceIdeal (hRmsAddReferenceIdeal := hRmsAddReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnDownWeight_FfnDownWeightIdeal
    ∧ algebraic_FfnDownWeightIdeal_FfnDownWeightReferenceIdeal (hFfnDownWeightIdeal := hFfnDownWeightIdeal) (hFfnDownWeightReferenceIdeal := hFfnDownWeightReferenceIdeal)
    ∧ preserves_FfnInner_FfnInnerIdeal
    ∧ algebraic_FfnInnerIdeal_FfnInnerReferenceIdeal (hFfnInnerIdeal := hFfnInnerIdeal) (hFfnInnerReferenceIdeal := hFfnInnerReferenceIdeal)
    ∧ preserves_FfnUpWeight_FfnUpWeightIdeal
    ∧ algebraic_FfnUpWeightIdeal_FfnUpWeightReferenceIdeal (hFfnUpWeightIdeal := hFfnUpWeightIdeal) (hFfnUpWeightReferenceIdeal := hFfnUpWeightReferenceIdeal)
    ∧ preserves_FfnInput_FfnInputIdeal
    ∧ algebraic_FfnInputIdeal_FfnInputReferenceIdeal (hFfnInputIdeal := hFfnInputIdeal) (hFfnInputReferenceIdeal := hFfnInputReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_MixerWeight_MixerWeightIdeal
    ∧ algebraic_MixerWeightIdeal_MixerWeightReferenceIdeal (hMixerWeightIdeal := hMixerWeightIdeal) (hMixerWeightReferenceIdeal := hMixerWeightReferenceIdeal)
    ∧ preserves_MixerInput_MixerInputIdeal
    ∧ algebraic_MixerInputIdeal_MixerInputReferenceIdeal (hMixerInputIdeal := hMixerInputIdeal) (hMixerInputReferenceIdeal := hMixerInputReferenceIdeal)
    ∧ preserves_MixerIn_MixerInIdeal
    ∧ algebraic_MixerInIdeal_MixerInReferenceIdeal (hMixerInIdeal := hMixerInIdeal) (hMixerInReferenceIdeal := hMixerInReferenceIdeal)
    ∧ preserves_MergeWeight_MergeWeightIdeal
    ∧ algebraic_MergeWeightIdeal_MergeWeightReferenceIdeal (hMergeWeightIdeal := hMergeWeightIdeal) (hMergeWeightReferenceIdeal := hMergeWeightReferenceIdeal)
    ∧ preserves_Merge_MergeIdeal
    ∧ algebraic_MergeIdeal_MergeReferenceIdeal (hMergeIdeal := hMergeIdeal) (hMergeReferenceIdeal := hMergeReferenceIdeal)
    ∧ preserves_OutWeight_OutWeightIdeal
    ∧ algebraic_OutWeightIdeal_OutWeightReferenceIdeal (hOutWeightIdeal := hOutWeightIdeal) (hOutWeightReferenceIdeal := hOutWeightReferenceIdeal)
    ∧ preserves_OutInput_OutInputIdeal
    ∧ algebraic_OutInputIdeal_OutInputReferenceIdeal (hOutInputIdeal := hOutInputIdeal) (hOutInputReferenceIdeal := hOutInputReferenceIdeal)
    ∧ preserves_Out_OutIdeal
    ∧ algebraic_OutIdeal_OutReferenceIdeal (hOutIdeal := hOutIdeal) (hOutReferenceIdeal := hOutReferenceIdeal)
    ∧ preserves_RetWeight_RetWeightIdeal
    ∧ algebraic_RetWeightIdeal_RetWeightReferenceIdeal (hRetWeightIdeal := hRetWeightIdeal) (hRetWeightReferenceIdeal := hRetWeightReferenceIdeal)
    ∧ preserves_RetInput_RetInputIdeal
    ∧ algebraic_RetInputIdeal_RetInputReferenceIdeal (hRetInputIdeal := hRetInputIdeal) (hRetInputReferenceIdeal := hRetInputReferenceIdeal)
    ∧ preserves_RetOut_RetOutIdeal
    ∧ algebraic_RetOutIdeal_RetOutReferenceIdeal (hRetOutIdeal := hRetOutIdeal) (hRetOutReferenceIdeal := hRetOutReferenceIdeal)
    ∧ preserves_PleWeight_PleWeightIdeal
    ∧ algebraic_PleWeightIdeal_PleWeightReferenceIdeal (hPleWeightIdeal := hPleWeightIdeal) (hPleWeightReferenceIdeal := hPleWeightReferenceIdeal)
    ∧ preserves_Ple_PleIdeal
    ∧ algebraic_PleIdeal_PleReferenceIdeal (hPleIdeal := hPleIdeal) (hPleReferenceIdeal := hPleReferenceIdeal)
    ∧ preserves_Swiglu_SwigluIdeal
    ∧ algebraic_SwigluIdeal_SwigluReferenceIdeal (hSwigluIdeal := hSwigluIdeal) (hSwigluReferenceIdeal := hSwigluReferenceIdeal)
    ∧ preserves_SwigluGrad_SwigluGradIdeal
    ∧ algebraic_SwigluGradIdeal_SwigluGradReferenceIdeal_pre_finite_product (hSwigluGradIdeal := hSwigluGradIdeal) (hSwigluGradReferenceIdeal := hSwigluGradReferenceIdeal) (hPre_finite_product := hPre_finite_product)
    ∧ preserves_GatesGrad_GatesGradIdeal
    ∧ algebraic_GatesGradIdeal_GatesGradReferenceIdeal (hGatesGradIdeal := hGatesGradIdeal) (hGatesGradReferenceIdeal := hGatesGradReferenceIdeal)
    ∧ preserves_Gates_GatesIdeal
    ∧ algebraic_GatesIdeal_GatesReferenceIdeal (hGatesIdeal := hGatesIdeal) (hGatesReferenceIdeal := hGatesReferenceIdeal)
    ∧ preserves_Rms_RmsIdeal
    ∧ algebraic_RmsIdeal_RmsReferenceIdeal (hRmsIdeal := hRmsIdeal) (hRmsReferenceIdeal := hRmsReferenceIdeal)
    ∧ preserves_RmsAddHalf_RmsAddHalfIdeal
    ∧ algebraic_RmsAddHalfIdeal_RmsAddHalfReferenceIdeal (hRmsAddHalfIdeal := hRmsAddHalfIdeal) (hRmsAddHalfReferenceIdeal := hRmsAddHalfReferenceIdeal)
    ∧ preserves_RmsAdd_RmsAddIdeal
    ∧ algebraic_RmsAddIdeal_RmsAddReferenceIdeal (hRmsAddIdeal := hRmsAddIdeal) (hRmsAddReferenceIdeal := hRmsAddReferenceIdeal)
-- ==== Pre_finite.lean ====
abbrev S4096x512 : Shape := ⟨2, ![4096, 512]⟩
abbrev S4096x5376 : Shape := ⟨2, ![4096, 5376]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x5376 : S_.BroadcastsInDim S4096x5376 (![] : Fin 0 → Fin S4096x5376.rank)
  reducesTo_S4096x5376_S_d0_1 : S4096x5376.ReducesTo [0, 1] S_

variable [Facts]

def fn {F : FTy → Type} [FloatOps F] (main_arg0 : FVec F S4096x512 .f32) (main_arg1 : FVec F S4096x5376 .f32) (main_arg2 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x5376 .f32 := Host.absf main_arg1
  let main_cst_0 : FVec F S_ .f32 := constant S_ .f32 0x7F800000#32
  let main_v5 : FVec F S4096x5376 .f32 := broadcastInDim S4096x5376 ![] bcast_S_S4096x5376 main_cst_0
  let main_v6 : IVec S4096x5376 1 := cmpf .olt main_v4 main_v5
  let main_c_1 : IVec S_ 1 := constantI S_ 1 1#1
  let main_v7 : IVec S_ 1 := (fun x v => Host.reduce IntOp.andi x v reducesTo_S4096x5376_S_d0_1 h_S_) main_v6 main_c_1
  let main_v8 : IVec S_ 1 := andi main_v3 main_v7
  main_v8
-- ==== Pre_finite_product.lean ====
abbrev S4096x2816 : Shape := ⟨2, ![4096, 2816]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel

variable [Facts]

def fn {F : FTy → Type} [FloatOps F] (main_arg0 : FVec F S4096x2816 .f32) (main_arg1 : FVec F S4096x2816 .f32) (main_arg2 : FVec F S4096x2816 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg2
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  main_v8
-- ==== Kernel.lean ====
abbrev S4096x512 : Shape := ⟨2, ![4096, 512]⟩
abbrev S4096x5376 : Shape := ⟨2, ![4096, 5376]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x4x128 : Shape := ⟨4, ![1, 4096, 4, 128]⟩
abbrev S1x4096x4x64 : Shape := ⟨4, ![1, 4096, 4, 64]⟩
abbrev S1x4096x1x64 : Shape := ⟨4, ![1, 4096, 1, 64]⟩
abbrev S1x32x128x4x128 : Shape := ⟨5, ![1, 32, 128, 4, 128]⟩
abbrev S1x4x32x128x128 : Shape := ⟨5, ![1, 4, 32, 128, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x1x128x1 : Shape := ⟨5, ![1, 4, 1, 128, 1]⟩
abbrev S32x1x4x128x128 : Shape := ⟨5, ![32, 1, 4, 128, 128]⟩
abbrev S1x4x1x1 : Shape := ⟨4, ![1, 4, 1, 1]⟩
abbrev S1x4x128x128 : Shape := ⟨4, ![1, 4, 128, 128]⟩
abbrev S0x1x4x128x128 : Shape := ⟨5, ![0, 1, 4, 128, 128]⟩
abbrev S1x1x4x128x128 : Shape := ⟨5, ![1, 1, 4, 128, 128]⟩
abbrev S16x1x4x128x128 : Shape := ⟨5, ![16, 1, 4, 128, 128]⟩
abbrev S32x4x64x2x128 : Shape := ⟨5, ![32, 4, 64, 2, 128]⟩
abbrev S4x32x2x64x128 : Shape := ⟨5, ![4, 32, 2, 64, 128]⟩
abbrev S4x32x128x128 : Shape := ⟨4, ![4, 32, 128, 128]⟩
abbrev S4x8x128 : Shape := ⟨3, ![4, 8, 128]⟩
abbrev S4x128x1 : Shape := ⟨3, ![4, 128, 1]⟩
abbrev S128x512 : Shape := ⟨2, ![128, 512]⟩
abbrev S4x1x128x128 : Shape := ⟨4, ![4, 1, 128, 128]⟩
abbrev S1x1x128x128 : Shape := ⟨4, ![1, 1, 128, 128]⟩
abbrev S1x1x128 : Shape := ⟨3, ![1, 1, 128]⟩

abbrev nBuf : Space → Nat
  | .hbm => 424
  | .vmem => 31
  | .smem => 0
  | _ => 0

abbrev hbmTy0_0 (i : Nat) : BufTy := match i % 128 with
  | 0 => ⟨S4096x512, .f32⟩
  | 1 => ⟨S4096x5376, .f32⟩
  | 2 => ⟨S4096, .i32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S4096, .f32⟩
  | 14 => ⟨S4096x1, .f32⟩
  | 15 => ⟨S1x64, .f32⟩
  | 16 => ⟨S4096x64, .f32⟩
  | 17 => ⟨S4096x64, .f32⟩
  | 18 => ⟨S4096x64, .f32⟩
  | 19 => ⟨S4096x64, .f32⟩
  | 20 => ⟨S4096x64, .f32⟩
  | 21 => ⟨S4096x128, .f32⟩
  | 22 => ⟨S4096x64, .f32⟩
  | 23 => ⟨S4096x128, .f32⟩
  | 24 => ⟨S4096x512, .f32⟩
  | 25 => ⟨S1x4096x4x128, .f32⟩
  | 26 => ⟨S4096x512, .f32⟩
  | 27 => ⟨S1x4096x4x128, .f32⟩
  | 28 => ⟨S1x4096x4x64, .f32⟩
  | 29 => ⟨S1x4096x4x64, .f32⟩
  | 30 => ⟨S4096x64, .f32⟩
  | 31 => ⟨S1x4096x1x64, .f32⟩
  | 32 => ⟨S4096x64, .f32⟩
  | 33 => ⟨S1x4096x1x64, .f32⟩
  | 34 => ⟨S1x4096x4x64, .f32⟩
  | 35 => ⟨S1x4096x4x64, .f32⟩
  | 36 => ⟨S1x4096x4x64, .f32⟩
  | 37 => ⟨S1x4096x4x64, .f32⟩
  | 38 => ⟨S1x4096x4x64, .f32⟩
  | 39 => ⟨S1x4096x4x64, .f32⟩
  | 40 => ⟨S1x4096x4x64, .f32⟩
  | 41 => ⟨S1x4096x4x64, .f32⟩
  | 42 => ⟨S1x4096x4x64, .f32⟩
  | 43 => ⟨S1x4096x4x64, .f32⟩
  | 44 => ⟨S_, .f32⟩
  | 45 => ⟨S1x4096x4x128, .f32⟩
  | 46 => ⟨S_, .f32⟩
  | 47 => ⟨S1x4096x4x128, .f32⟩
  | 48 => ⟨S1x4096x4x128, .f32⟩
  | 49 => ⟨S4096x512, .f32⟩
  | 50 => ⟨S1x4096x4x128, .f32⟩
  | 51 => ⟨S1x4096x4x64, .f32⟩
  | 52 => ⟨S1x4096x4x64, .f32⟩
  | 53 => ⟨S4096x64, .f32⟩
  | 54 => ⟨S1x4096x1x64, .f32⟩
  | 55 => ⟨S4096x64, .f32⟩
  | 56 => ⟨S1x4096x1x64, .f32⟩
  | 57 => ⟨S1x4096x4x64, .f32⟩
  | 58 => ⟨S1x4096x4x64, .f32⟩
  | 59 => ⟨S1x4096x4x64, .f32⟩
  | 60 => ⟨S1x4096x4x64, .f32⟩
  | 61 => ⟨S1x4096x4x64, .f32⟩
  | 62 => ⟨S1x4096x4x64, .f32⟩
  | 63 => ⟨S1x4096x4x64, .f32⟩
  | 64 => ⟨S1x4096x4x64, .f32⟩
  | 65 => ⟨S1x4096x4x64, .f32⟩
  | 66 => ⟨S1x4096x4x64, .f32⟩
  | 67 => ⟨S_, .f32⟩
  | 68 => ⟨S1x4096x4x128, .f32⟩
  | 69 => ⟨S_, .f32⟩
  | 70 => ⟨S1x4096x4x128, .f32⟩
  | 71 => ⟨S1x4096x4x128, .f32⟩
  | 72 => ⟨S1x32x128x4x128, .f32⟩
  | 73 => ⟨S1x4x32x128x128, .f32⟩
  | 74 => ⟨S1x32x128x4x128, .f32⟩
  | 75 => ⟨S1x4x32x128x128, .f32⟩
  | 76 => ⟨S_, .f32⟩
  | 77 => ⟨S1x4x32x128x128, .f32⟩
  | 78 => ⟨S1x4x32x128x128, .f32⟩
  | 79 => ⟨S1x32x128x4x128, .f32⟩
  | 80 => ⟨S1x4x32x128x128, .f32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S4, .f32⟩
  | 89 => ⟨S4, .f32⟩
  | 90 => ⟨S4, .f32⟩
  | 91 => ⟨S128, .f32⟩
  | 92 => ⟨S128x1, .f32⟩
  | 93 => ⟨S1x128, .f32⟩
  | 94 => ⟨S128x128, .f32⟩
  | 95 => ⟨S128x128, .f32⟩
  | 96 => ⟨S128x128, .f32⟩
  | 97 => ⟨S_, .f32⟩
  | 98 => ⟨S128x128, .f32⟩
  | 99 => ⟨S128x128, .i1⟩
  | 100 => ⟨S4x1x1, .f32⟩
  | 101 => ⟨S_, .f32⟩
  | 102 => ⟨S128x128, .f32⟩
  | 103 => ⟨S128x128, .f32⟩
  | 104 => ⟨S1x128x128, .f32⟩
  | 105 => ⟨S4x128x128, .f32⟩
  | 106 => ⟨S4x128x128, .f32⟩
  | 107 => ⟨S4x128x128, .f32⟩
  | 108 => ⟨S4x128x128, .f32⟩
  | 109 => ⟨S_, .f32⟩
  | 110 => ⟨S_, .f32⟩
  | 111 => ⟨S4x128x128, .i1⟩
  | 112 => ⟨S4x128x128, .f32⟩
  | 113 => ⟨S4x128x128, .f32⟩
  | 114 => ⟨S1x4x32x128x128, .f32⟩
  | 115 => ⟨S1x4x1x128x128, .f32⟩
  | 116 => ⟨S1x4x32x128x128, .f32⟩
  | 117 => ⟨S1x4x32x128x128, .f32⟩
  | 118 => ⟨S1x4x32x128x128, .f32⟩
  | 119 => ⟨S4x1, .f32⟩
  | 120 => ⟨S_, .f32⟩
  | 121 => ⟨S128, .f32⟩
  | 122 => ⟨S128, .f32⟩
  | 123 => ⟨S1x128, .f32⟩
  | 124 => ⟨S4x128, .f32⟩
  | 125 => ⟨S4x128, .f32⟩
  | 126 => ⟨S4x128, .f32⟩
  | 127 => ⟨S4x128, .f32⟩
  | _ => ⟨S4096x512, .f32⟩

abbrev hbmTy0_1 (i : Nat) : BufTy := match i % 128 with
  | 0 => ⟨S1x4x1x128x1, .f32⟩
  | 1 => ⟨S1x4x32x128x128, .f32⟩
  | 2 => ⟨S1x4x32x128x128, .f32⟩
  | 3 => ⟨S32x1x4x128x128, .f32⟩
  | 4 => ⟨S_, .f32⟩
  | 5 => ⟨S4, .f32⟩
  | 6 => ⟨S4, .f32⟩
  | 7 => ⟨S4, .f32⟩
  | 8 => ⟨S1x4x1x1, .f32⟩
  | 9 => ⟨S_, .f32⟩
  | 10 => ⟨S1x4x128x128, .f32⟩
  | 11 => ⟨S0x1x4x128x128, .f32⟩
  | 12 => ⟨S32x1x4x128x128, .f32⟩
  | 13 => ⟨S_, .f32⟩
  | 14 => ⟨S0x1x4x128x128, .f32⟩
  | 15 => ⟨S1x1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S1x1x4x128x128, .f32⟩
  | 31 => ⟨S1x4x128x128, .f32⟩
  | 32 => ⟨S1x4x128x128, .f32⟩
  | 33 => ⟨S1x4x128x128, .f32⟩
  | 34 => ⟨S1x4x128x128, .f32⟩
  | 35 => ⟨S1x1x4x128x128, .f32⟩
  | 36 => ⟨S1x4x128x128, .f32⟩
  | 37 => ⟨S1x4x128x128, .f32⟩
  | 38 => ⟨S1x4x128x128, .f32⟩
  | 39 => ⟨S1x4x128x128, .f32⟩
  | 40 => ⟨S1x1x4x128x128, .f32⟩
  | 41 => ⟨S1x4x128x128, .f32⟩
  | 42 => ⟨S1x4x128x128, .f32⟩
  | 43 => ⟨S1x4x128x128, .f32⟩
  | 44 => ⟨S1x4x128x128, .f32⟩
  | 45 => ⟨S1x1x4x128x128, .f32⟩
  | 46 => ⟨S1x4x128x128, .f32⟩
  | 47 => ⟨S1x4x128x128, .f32⟩
  | 48 => ⟨S1x4x128x128, .f32⟩
  | 49 => ⟨S1x4x128x128, .f32⟩
  | 50 => ⟨S1x1x4x128x128, .f32⟩
  | 51 => ⟨S1x4x128x128, .f32⟩
  | 52 => ⟨S1x4x128x128, .f32⟩
  | 53 => ⟨S1x4x128x128, .f32⟩
  | 54 => ⟨S1x4x128x128, .f32⟩
  | 55 => ⟨S1x1x4x128x128, .f32⟩
  | 56 => ⟨S1x4x128x128, .f32⟩
  | 57 => ⟨S1x4x128x128, .f32⟩
  | 58 => ⟨S1x4x128x128, .f32⟩
  | 59 => ⟨S1x4x128x128, .f32⟩
  | 60 => ⟨S1x1x4x128x128, .f32⟩
  | 61 => ⟨S1x4x128x128, .f32⟩
  | 62 => ⟨S1x4x128x128, .f32⟩
  | 63 => ⟨S1x4x128x128, .f32⟩
  | 64 => ⟨S1x4x128x128, .f32⟩
  | 65 => ⟨S1x1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S1x1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x1x4x128x128, .f32⟩
  | 126 => ⟨S1x4x128x128, .f32⟩
  | 127 => ⟨S1x4x128x128, .f32⟩
  | _ => ⟨S4096x512, .f32⟩

abbrev hbmTy0_2 (i : Nat) : BufTy := match i % 128 with
  | 0 => ⟨S1x4x128x128, .f32⟩
  | 1 => ⟨S1x4x128x128, .f32⟩
  | 2 => ⟨S1x1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S1x1x4x128x128, .f32⟩
  | 38 => ⟨S1x4x128x128, .f32⟩
  | 39 => ⟨S1x4x128x128, .f32⟩
  | 40 => ⟨S1x4x128x128, .f32⟩
  | 41 => ⟨S1x4x128x128, .f32⟩
  | 42 => ⟨S1x1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x1x4x128x128, .f32⟩
  | 48 => ⟨S1x1x4x128x128, .f32⟩
  | 49 => ⟨S1x1x4x128x128, .f32⟩
  | 50 => ⟨S1x1x4x128x128, .f32⟩
  | 51 => ⟨S1x1x4x128x128, .f32⟩
  | 52 => ⟨S1x1x4x128x128, .f32⟩
  | 53 => ⟨S1x1x4x128x128, .f32⟩
  | 54 => ⟨S1x1x4x128x128, .f32⟩
  | 55 => ⟨S1x1x4x128x128, .f32⟩
  | 56 => ⟨S1x1x4x128x128, .f32⟩
  | 57 => ⟨S1x1x4x128x128, .f32⟩
  | 58 => ⟨S1x1x4x128x128, .f32⟩
  | 59 => ⟨S1x1x4x128x128, .f32⟩
  | 60 => ⟨S1x1x4x128x128, .f32⟩
  | 61 => ⟨S1x1x4x128x128, .f32⟩
  | 62 => ⟨S1x1x4x128x128, .f32⟩
  | 63 => ⟨S1x1x4x128x128, .f32⟩
  | 64 => ⟨S1x1x4x128x128, .f32⟩
  | 65 => ⟨S1x1x4x128x128, .f32⟩
  | 66 => ⟨S1x1x4x128x128, .f32⟩
  | 67 => ⟨S1x1x4x128x128, .f32⟩
  | 68 => ⟨S1x1x4x128x128, .f32⟩
  | 69 => ⟨S1x1x4x128x128, .f32⟩
  | 70 => ⟨S1x1x4x128x128, .f32⟩
  | 71 => ⟨S1x1x4x128x128, .f32⟩
  | 72 => ⟨S1x1x4x128x128, .f32⟩
  | 73 => ⟨S1x1x4x128x128, .f32⟩
  | 74 => ⟨S1x1x4x128x128, .f32⟩
  | 75 => ⟨S1x1x4x128x128, .f32⟩
  | 76 => ⟨S1x1x4x128x128, .f32⟩
  | 77 => ⟨S1x1x4x128x128, .f32⟩
  | 78 => ⟨S1x1x4x128x128, .f32⟩
  | 79 => ⟨S16x1x4x128x128, .f32⟩
  | 80 => ⟨S16x1x4x128x128, .f32⟩
  | 81 => ⟨S32x1x4x128x128, .f32⟩
  | 82 => ⟨S32x1x4x128x128, .f32⟩
  | 83 => ⟨S4x1, .f32⟩
  | 84 => ⟨S_, .f32⟩
  | 85 => ⟨S128, .f32⟩
  | 86 => ⟨S128, .f32⟩
  | 87 => ⟨S1x128, .f32⟩
  | 88 => ⟨S4x128, .f32⟩
  | 89 => ⟨S4x128, .f32⟩
  | 90 => ⟨S4x128, .f32⟩
  | 91 => ⟨S4x128, .f32⟩
  | 92 => ⟨S1x4x1x128x1, .f32⟩
  | 93 => ⟨S1x4x32x128x128, .f32⟩
  | 94 => ⟨S1x4x32x128x128, .f32⟩
  | 95 => ⟨S1x4x32x128x128, .f32⟩
  | 96 => ⟨S1x4x32x128x128, .f32⟩
  | 97 => ⟨S1x32x128x4x128, .f32⟩
  | 98 => ⟨S1x4096x4x128, .f32⟩
  | 99 => ⟨S32x4x64x2x128, .f32⟩
  | 100 => ⟨S4x32x2x64x128, .f32⟩
  | 101 => ⟨S4x32x128x128, .f32⟩
  | 102 => ⟨S4096x512, .f32⟩
  | 103 => ⟨S4, .f32⟩
  | 104 => ⟨S_, .f32⟩
  | 105 => ⟨S4, .f32⟩
  | 106 => ⟨S4, .f32⟩
  | 107 => ⟨S_, .f32⟩
  | 108 => ⟨S4, .f32⟩
  | 109 => ⟨S4, .f32⟩
  | 110 => ⟨S4, .f32⟩
  | 111 => ⟨S4, .f32⟩
  | 112 => ⟨S4, .f32⟩
  | 113 => ⟨S128, .f32⟩
  | 114 => ⟨S128x1, .f32⟩
  | 115 => ⟨S1x128, .f32⟩
  | 116 => ⟨S128x128, .f32⟩
  | 117 => ⟨S128x128, .f32⟩
  | 118 => ⟨S128x128, .f32⟩
  | 119 => ⟨S_, .f32⟩
  | 120 => ⟨S128x128, .f32⟩
  | 121 => ⟨S128x128, .i1⟩
  | 122 => ⟨S4x1x1, .f32⟩
  | 123 => ⟨S_, .f32⟩
  | 124 => ⟨S128x128, .f32⟩
  | 125 => ⟨S128x128, .f32⟩
  | 126 => ⟨S1x128x128, .f32⟩
  | 127 => ⟨S4x128x128, .f32⟩
  | _ => ⟨S4096x512, .f32⟩

abbrev hbmTy0_3 (i : Nat) : BufTy := match i % 128 with
  | 0 => ⟨S4x128x128, .f32⟩
  | 1 => ⟨S4x128x128, .f32⟩
  | 2 => ⟨S4x128x128, .f32⟩
  | 3 => ⟨S_, .f32⟩
  | 4 => ⟨S_, .f32⟩
  | 5 => ⟨S4x128x128, .i1⟩
  | 6 => ⟨S4x128x128, .f32⟩
  | 7 => ⟨S4x128x128, .f32⟩
  | 8 => ⟨S4x1, .f32⟩
  | 9 => ⟨S_, .f32⟩
  | 10 => ⟨S128, .f32⟩
  | 11 => ⟨S128, .f32⟩
  | 12 => ⟨S1x128, .f32⟩
  | 13 => ⟨S4x128, .f32⟩
  | 14 => ⟨S4x128, .f32⟩
  | 15 => ⟨S4x128, .f32⟩
  | 16 => ⟨S4x128, .f32⟩
  | 17 => ⟨S4x1, .f32⟩
  | 18 => ⟨S_, .f32⟩
  | 19 => ⟨S128, .f32⟩
  | 20 => ⟨S128, .f32⟩
  | 21 => ⟨S1x128, .f32⟩
  | 22 => ⟨S4x128, .f32⟩
  | 23 => ⟨S4x128, .f32⟩
  | 24 => ⟨S4x128, .f32⟩
  | 25 => ⟨S4x128, .f32⟩
  | 26 => ⟨S_, .f32⟩
  | 27 => ⟨S4, .f32⟩
  | 28 => ⟨S4, .f32⟩
  | 29 => ⟨S4, .f32⟩
  | 30 => ⟨S4x1x1, .f32⟩
  | 31 => ⟨S4x8x128, .f32⟩
  | 32 => ⟨S4x128x1, .f32⟩
  | 33 => ⟨S4x128x128, .f32⟩
  | 34 => ⟨S4x128x1, .f32⟩
  | 35 => ⟨S4x128x128, .f32⟩
  | 36 => ⟨S4096x512, .bf16⟩
  | 37 => ⟨S4096x512, .bf16⟩
  | 38 => ⟨S4096x512, .bf16⟩
  | 39 => ⟨S4096x512, .bf16⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | _ => ⟨S4096x512, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x512, .f32⟩
  | .local _ .vmem, ⟨15, _⟩ => ⟨S128x512, .f32⟩
  | .local _ .vmem, ⟨16, _⟩ => ⟨S4x1x128x128, .f32⟩
  | .local _ .vmem, ⟨17, _⟩ => ⟨S4x1x128x128, .f32⟩
  | .local _ .vmem, ⟨18, _⟩ => ⟨S4x128x128, .f32⟩
  | .local _ .vmem, ⟨19, _⟩ => ⟨S4x128x128, .f32⟩
  | .local _ .vmem, ⟨20, _⟩ => ⟨S4x128x128, .f32⟩
  | .local _ .vmem, ⟨21, _⟩ => ⟨S4x8x128, .f32⟩
  | .local _ .vmem, ⟨22, _⟩ => ⟨S128x512, .bf16⟩
  | .local _ .vmem, ⟨23, _⟩ => ⟨S128x512, .bf16⟩
  | .local _ .vmem, ⟨24, _⟩ => ⟨S128x512, .bf16⟩
  | .local _ .vmem, ⟨25, _⟩ => ⟨S128x512, .bf16⟩
  | .local _ .vmem, ⟨26, _⟩ => ⟨S128x512, .bf16⟩
  | .local _ .vmem, ⟨27, _⟩ => ⟨S128x512, .bf16⟩
  | .local _ .vmem, ⟨28, _⟩ => ⟨S128x512, .bf16⟩
  | .local _ .vmem, ⟨29, _⟩ => ⟨S128x512, .bf16⟩
  | .local _ .vmem, ⟨30, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_4 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_6 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_7 : Ref sig .tc := ⟨.hbm, 82, rfl⟩
abbrev main_v71 : Ref sig .tc := ⟨.hbm, 83, rfl⟩
abbrev main_v72 : Ref sig .tc := ⟨.hbm, 84, rfl⟩
abbrev main_cst_8 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_cst_9 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_cst_10 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_11 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_12 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_13 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_cst_14 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_15 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_v296 : Ref sig .tc := ⟨.hbm, 319, rfl⟩
abbrev main_v297 : Ref sig .tc := ⟨.hbm, 320, rfl⟩
abbrev main_v298 : Ref sig .tc := ⟨.hbm, 321, rfl⟩
abbrev main_v299 : Ref sig .tc := ⟨.hbm, 322, rfl⟩
abbrev main_v300 : Ref sig .tc := ⟨.hbm, 323, rfl⟩
abbrev main_v301 : Ref sig .tc := ⟨.hbm, 324, rfl⟩
abbrev main_v302 : Ref sig .tc := ⟨.hbm, 325, rfl⟩
abbrev main_v303 : Ref sig .tc := ⟨.hbm, 326, rfl⟩
abbrev main_v304 : Ref sig .tc := ⟨.hbm, 327, rfl⟩
abbrev main_v305 : Ref sig .tc := ⟨.hbm, 328, rfl⟩
abbrev main_v306 : Ref sig .tc := ⟨.hbm, 329, rfl⟩
abbrev main_v307 : Ref sig .tc := ⟨.hbm, 330, rfl⟩
abbrev main_v308 : Ref sig .tc := ⟨.hbm, 331, rfl⟩
abbrev main_v309 : Ref sig .tc := ⟨.hbm, 332, rfl⟩
abbrev main_v310 : Ref sig .tc := ⟨.hbm, 333, rfl⟩
abbrev main_v311 : Ref sig .tc := ⟨.hbm, 334, rfl⟩
abbrev main_v312 : Ref sig .tc := ⟨.hbm, 335, rfl⟩
abbrev main_v313 : Ref sig .tc := ⟨.hbm, 336, rfl⟩
abbrev main_v314 : Ref sig .tc := ⟨.hbm, 337, rfl⟩
abbrev main_v315 : Ref sig .tc := ⟨.hbm, 338, rfl⟩
abbrev main_v316 : Ref sig .tc := ⟨.hbm, 339, rfl⟩
abbrev main_cst_16 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_cst_17 : Ref sig .tc := ⟨.hbm, 360, rfl⟩
abbrev main_v336 : Ref sig .tc := ⟨.hbm, 361, rfl⟩
abbrev main_v337 : Ref sig .tc := ⟨.hbm, 362, rfl⟩
abbrev main_cst_18 : Ref sig .tc := ⟨.hbm, 363, rfl⟩
abbrev main_v338 : Ref sig .tc := ⟨.hbm, 364, rfl⟩
abbrev main_v339 : Ref sig .tc := ⟨.hbm, 365, rfl⟩
abbrev main_v340 : Ref sig .tc := ⟨.hbm, 366, rfl⟩
abbrev main_v341 : Ref sig .tc := ⟨.hbm, 367, rfl⟩
abbrev main_v342 : Ref sig .tc := ⟨.hbm, 368, rfl⟩
abbrev main_v343 : Ref sig .tc := ⟨.hbm, 369, rfl⟩
abbrev main_v344 : Ref sig .tc := ⟨.hbm, 370, rfl⟩
abbrev main_v345 : Ref sig .tc := ⟨.hbm, 371, rfl⟩
abbrev main_v346 : Ref sig .tc := ⟨.hbm, 372, rfl⟩
abbrev main_v347 : Ref sig .tc := ⟨.hbm, 373, rfl⟩
abbrev main_v348 : Ref sig .tc := ⟨.hbm, 374, rfl⟩
abbrev main_cst_19 : Ref sig .tc := ⟨.hbm, 375, rfl⟩
abbrev main_v349 : Ref sig .tc := ⟨.hbm, 376, rfl⟩
abbrev main_v350 : Ref sig .tc := ⟨.hbm, 377, rfl⟩
abbrev main_v351 : Ref sig .tc := ⟨.hbm, 378, rfl⟩
abbrev main_cst_20 : Ref sig .tc := ⟨.hbm, 379, rfl⟩
abbrev main_v352 : Ref sig .tc := ⟨.hbm, 380, rfl⟩
abbrev main_v353 : Ref sig .tc := ⟨.hbm, 381, rfl⟩
abbrev main_v354 : Ref sig .tc := ⟨.hbm, 382, rfl⟩
abbrev main_v355 : Ref sig .tc := ⟨.hbm, 383, rfl⟩
abbrev main_v356 : Ref sig .tc := ⟨.hbm, 384, rfl⟩
abbrev main_v357 : Ref sig .tc := ⟨.hbm, 385, rfl⟩
abbrev main_v358 : Ref sig .tc := ⟨.hbm, 386, rfl⟩
abbrev main_cst_21 : Ref sig .tc := ⟨.hbm, 387, rfl⟩
abbrev main_call1_v0 : Ref sig .tc := ⟨.hbm, 388, rfl⟩
abbrev main_call1_v1 : Ref sig .tc := ⟨.hbm, 389, rfl⟩
abbrev main_call1_v2 : Ref sig .tc := ⟨.hbm, 390, rfl⟩
abbrev main_v359 : Ref sig .tc := ⟨.hbm, 391, rfl⟩
abbrev main_v360 : Ref sig .tc := ⟨.hbm, 392, rfl⟩
abbrev main_cst_22 : Ref sig .tc := ⟨.hbm, 393, rfl⟩
abbrev main_v361 : Ref sig .tc := ⟨.hbm, 394, rfl⟩
abbrev main_v362 : Ref sig .tc := ⟨.hbm, 395, rfl⟩
abbrev main_v363 : Ref sig .tc := ⟨.hbm, 396, rfl⟩
abbrev main_v364 : Ref sig .tc := ⟨.hbm, 397, rfl⟩
abbrev main_v365 : Ref sig .tc := ⟨.hbm, 398, rfl⟩
abbrev main_v366 : Ref sig .tc := ⟨.hbm, 399, rfl⟩
abbrev main_v367 : Ref sig .tc := ⟨.hbm, 400, rfl⟩
abbrev main_v368 : Ref sig .tc := ⟨.hbm, 401, rfl⟩
abbrev main_cst_23 : Ref sig .tc := ⟨.hbm, 402, rfl⟩
abbrev main_v369 : Ref sig .tc := ⟨.hbm, 403, rfl⟩
abbrev main_v370 : Ref sig .tc := ⟨.hbm, 404, rfl⟩
abbrev main_v371 : Ref sig .tc := ⟨.hbm, 405, rfl⟩
abbrev main_v372 : Ref sig .tc := ⟨.hbm, 406, rfl⟩
abbrev main_v373 : Ref sig .tc := ⟨.hbm, 407, rfl⟩
abbrev main_v374 : Ref sig .tc := ⟨.hbm, 408, rfl⟩
abbrev main_v375 : Ref sig .tc := ⟨.hbm, 409, rfl⟩
abbrev main_cst_24 : Ref sig .tc := ⟨.hbm, 410, rfl⟩
abbrev main_v376 : Ref sig .tc := ⟨.hbm, 411, rfl⟩
abbrev main_v377 : Ref sig .tc := ⟨.hbm, 412, rfl⟩
abbrev main_v378 : Ref sig .tc := ⟨.hbm, 413, rfl⟩
abbrev main_v379 : Ref sig .tc := ⟨.hbm, 414, rfl⟩
abbrev main_v380 : Ref sig .tc := ⟨.hbm, 415, rfl⟩
abbrev main_v381 : Ref sig .tc := ⟨.hbm, 416, rfl⟩
abbrev main_v382 : Ref sig .tc := ⟨.hbm, 417, rfl⟩
abbrev main_v383 : Ref sig .tc := ⟨.hbm, 418, rfl⟩
abbrev main_v384 : Ref sig .tc := ⟨.hbm, 419, rfl⟩
abbrev main_v385_0 : Ref sig .tc := ⟨.hbm, 420, rfl⟩
abbrev main_v385_1 : Ref sig .tc := ⟨.hbm, 421, rfl⟩
abbrev main_v385_2 : Ref sig .tc := ⟨.hbm, 422, rfl⟩
abbrev main_v385_3 : Ref sig .tc := ⟨.hbm, 423, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S4096x512 : Shape := ⟨2, ![4096, 512]⟩
abbrev S4096x5376 : Shape := ⟨2, ![4096, 5376]⟩
abbrev S4096 : Shape := ⟨1, ![4096]⟩
abbrev S4096x4x2x64 : Shape := ⟨4, ![4096, 4, 2, 64]⟩
abbrev S4096x4x64x2 : Shape := ⟨4, ![4096, 4, 64, 2]⟩
abbrev S1x4096x512 : Shape := ⟨3, ![1, 4096, 512]⟩
abbrev S1x4096x4x128 : Shape := ⟨4, ![1, 4096, 4, 128]⟩
abbrev S1x4096 : Shape := ⟨2, ![1, 4096]⟩
abbrev S64 : Shape := ⟨1, ![64]⟩
abbrev S_ : Shape := ⟨0, ![]⟩
abbrev S1x4096x1 : Shape := ⟨3, ![1, 4096, 1]⟩
abbrev S1x1x64 : Shape := ⟨3, ![1, 1, 64]⟩
abbrev S1x4096x64 : Shape := ⟨3, ![1, 4096, 64]⟩
abbrev S1x4096x1x64 : Shape := ⟨4, ![1, 4096, 1, 64]⟩
abbrev S1x4096x4x64 : Shape := ⟨4, ![1, 4096, 4, 64]⟩
abbrev S1x4096x4x64x1 : Shape := ⟨5, ![1, 4096, 4, 64, 1]⟩
abbrev S1x4096x4x64x2 : Shape := ⟨5, ![1, 4096, 4, 64, 2]⟩
abbrev S1x32x128x4x128 : Shape := ⟨5, ![1, 32, 128, 4, 128]⟩
abbrev S1x4x32x128x128 : Shape := ⟨5, ![1, 4, 32, 128, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x1x128x1 : Shape := ⟨5, ![1, 4, 1, 128, 1]⟩
abbrev S32x1x4x128x128 : Shape := ⟨5, ![32, 1, 4, 128, 128]⟩
abbrev S1x4x1x1 : Shape := ⟨4, ![1, 4, 1, 1]⟩
abbrev S1x4x128x128 : Shape := ⟨4, ![1, 4, 128, 128]⟩
abbrev S0x1x4x128x128 : Shape := ⟨5, ![0, 1, 4, 128, 128]⟩
abbrev S1x1x4x128x128 : Shape := ⟨5, ![1, 1, 4, 128, 128]⟩
abbrev S16x1x4x128x128 : Shape := ⟨5, ![16, 1, 4, 128, 128]⟩
abbrev S1x4096x4 : Shape := ⟨3, ![1, 4096, 4]⟩
abbrev S1x4096x4x1 : Shape := ⟨4, ![1, 4096, 4, 1]⟩
abbrev S4096x4 : Shape := ⟨2, ![4096, 4]⟩

abbrev nBuf : Space → Nat
  | .hbm => 754
  | .vmem => 0
  | .smem => 0
  | _ => 0

abbrev hbmTy0_0 (i : Nat) : BufTy := match i % 128 with
  | 0 => ⟨S4096x512, .f32⟩
  | 1 => ⟨S4096x5376, .f32⟩
  | 2 => ⟨S4096, .i32⟩
  | 3 => ⟨S4096x512, .f32⟩
  | 4 => ⟨S4096x512, .f32⟩
  | 5 => ⟨S4096x512, .f32⟩
  | 6 => ⟨S4096x512, .f32⟩
  | 7 => ⟨S4096x4x2x64, .f32⟩
  | 8 => ⟨S4096x4x64x2, .f32⟩
  | 9 => ⟨S1x4096x512, .f32⟩
  | 10 => ⟨S4096x4x2x64, .f32⟩
  | 11 => ⟨S4096x4x64x2, .f32⟩
  | 12 => ⟨S1x4096x512, .f32⟩
  | 13 => ⟨S1x4096x512, .f32⟩
  | 14 => ⟨S1x4096x512, .f32⟩
  | 15 => ⟨S1x4096x4x128, .f32⟩
  | 16 => ⟨S1x4096, .i32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S1x4096, .f32⟩
  | 28 => ⟨S1x4096x1, .f32⟩
  | 29 => ⟨S1x1x64, .f32⟩
  | 30 => ⟨S1x4096x64, .f32⟩
  | 31 => ⟨S1x4096x64, .f32⟩
  | 32 => ⟨S1x4096x64, .f32⟩
  | 33 => ⟨S1x4096x64, .f32⟩
  | 34 => ⟨S1x4096x1x64, .f32⟩
  | 35 => ⟨S1x4096x64, .f32⟩
  | 36 => ⟨S1x4096x1x64, .f32⟩
  | 37 => ⟨S1x4096x4x64, .f32⟩
  | 38 => ⟨S1x4096x4x64, .f32⟩
  | 39 => ⟨S1x4096x4x64, .f32⟩
  | 40 => ⟨S1x4096x4x64, .f32⟩
  | 41 => ⟨S1x4096x4x64, .f32⟩
  | 42 => ⟨S1x4096x4x64, .f32⟩
  | 43 => ⟨S1x4096x4x64, .f32⟩
  | 44 => ⟨S1x4096x4x64, .f32⟩
  | 45 => ⟨S1x4096x4x64, .f32⟩
  | 46 => ⟨S1x4096x4x64, .f32⟩
  | 47 => ⟨S1x4096x4x64, .f32⟩
  | 48 => ⟨S1x4096x4x64, .f32⟩
  | 49 => ⟨S1x4096x4x64x1, .f32⟩
  | 50 => ⟨S1x4096x4x64x1, .f32⟩
  | 51 => ⟨S1x4096x4x64x2, .f32⟩
  | 52 => ⟨S1x4096x4x128, .f32⟩
  | 53 => ⟨S1x4096x4x128, .f32⟩
  | 54 => ⟨S1x4096, .i32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S1x4096, .f32⟩
  | 66 => ⟨S1x4096x1, .f32⟩
  | 67 => ⟨S1x1x64, .f32⟩
  | 68 => ⟨S1x4096x64, .f32⟩
  | 69 => ⟨S1x4096x64, .f32⟩
  | 70 => ⟨S1x4096x64, .f32⟩
  | 71 => ⟨S1x4096x64, .f32⟩
  | 72 => ⟨S1x4096x1x64, .f32⟩
  | 73 => ⟨S1x4096x64, .f32⟩
  | 74 => ⟨S1x4096x1x64, .f32⟩
  | 75 => ⟨S1x4096x4x64, .f32⟩
  | 76 => ⟨S1x4096x4x64, .f32⟩
  | 77 => ⟨S1x4096x4x64, .f32⟩
  | 78 => ⟨S1x4096x4x64, .f32⟩
  | 79 => ⟨S1x4096x4x64, .f32⟩
  | 80 => ⟨S1x4096x4x64, .f32⟩
  | 81 => ⟨S1x4096x4x64, .f32⟩
  | 82 => ⟨S1x4096x4x64, .f32⟩
  | 83 => ⟨S1x4096x4x64, .f32⟩
  | 84 => ⟨S1x4096x4x64, .f32⟩
  | 85 => ⟨S1x4096x4x64, .f32⟩
  | 86 => ⟨S1x4096x4x64, .f32⟩
  | 87 => ⟨S1x4096x4x64x1, .f32⟩
  | 88 => ⟨S1x4096x4x64x1, .f32⟩
  | 89 => ⟨S1x4096x4x64x2, .f32⟩
  | 90 => ⟨S1x4096x4x128, .f32⟩
  | 91 => ⟨S1x4096x4x128, .f32⟩
  | 92 => ⟨S1x32x128x4x128, .f32⟩
  | 93 => ⟨S1x4x32x128x128, .f32⟩
  | 94 => ⟨S1x32x128x4x128, .f32⟩
  | 95 => ⟨S1x4x32x128x128, .f32⟩
  | 96 => ⟨S_, .f32⟩
  | 97 => ⟨S1x4x32x128x128, .f32⟩
  | 98 => ⟨S1x4x32x128x128, .f32⟩
  | 99 => ⟨S1x32x128x4x128, .f32⟩
  | 100 => ⟨S1x4x32x128x128, .f32⟩
  | 101 => ⟨S4, .f32⟩
  | 102 => ⟨S_, .f32⟩
  | 103 => ⟨S4, .f32⟩
  | 104 => ⟨S4, .f32⟩
  | 105 => ⟨S_, .f32⟩
  | 106 => ⟨S4, .f32⟩
  | 107 => ⟨S4, .f32⟩
  | 108 => ⟨S4, .f32⟩
  | 109 => ⟨S4, .f32⟩
  | 110 => ⟨S4, .f32⟩
  | 111 => ⟨S128, .f32⟩
  | 112 => ⟨S128x1, .f32⟩
  | 113 => ⟨S1x128, .f32⟩
  | 114 => ⟨S128x128, .f32⟩
  | 115 => ⟨S128x128, .f32⟩
  | 116 => ⟨S128x128, .f32⟩
  | 117 => ⟨S_, .f32⟩
  | 118 => ⟨S128x128, .f32⟩
  | 119 => ⟨S128x128, .i1⟩
  | 120 => ⟨S4x1x1, .f32⟩
  | 121 => ⟨S_, .f32⟩
  | 122 => ⟨S128x128, .f32⟩
  | 123 => ⟨S128x128, .f32⟩
  | 124 => ⟨S1x128x128, .f32⟩
  | 125 => ⟨S4x128x128, .f32⟩
  | 126 => ⟨S4x128x128, .f32⟩
  | 127 => ⟨S4x128x128, .f32⟩
  | _ => ⟨S4096x512, .f32⟩

abbrev hbmTy0_1 (i : Nat) : BufTy := match i % 128 with
  | 0 => ⟨S4x128x128, .f32⟩
  | 1 => ⟨S_, .f32⟩
  | 2 => ⟨S_, .f32⟩
  | 3 => ⟨S4x128x128, .i1⟩
  | 4 => ⟨S4x128x128, .f32⟩
  | 5 => ⟨S4x128x128, .f32⟩
  | 6 => ⟨S1x4x32x128x128, .f32⟩
  | 7 => ⟨S1x4x1x128x128, .f32⟩
  | 8 => ⟨S1x4x32x128x128, .f32⟩
  | 9 => ⟨S1x4x32x128x128, .f32⟩
  | 10 => ⟨S1x4x32x128x128, .f32⟩
  | 11 => ⟨S4x1, .f32⟩
  | 12 => ⟨S_, .f32⟩
  | 13 => ⟨S128, .f32⟩
  | 14 => ⟨S128, .f32⟩
  | 15 => ⟨S1x128, .f32⟩
  | 16 => ⟨S4x128, .f32⟩
  | 17 => ⟨S4x128, .f32⟩
  | 18 => ⟨S4x128, .f32⟩
  | 19 => ⟨S4x128, .f32⟩
  | 20 => ⟨S1x4x1x128x1, .f32⟩
  | 21 => ⟨S1x4x32x128x128, .f32⟩
  | 22 => ⟨S1x4x32x128x128, .f32⟩
  | 23 => ⟨S32x1x4x128x128, .f32⟩
  | 24 => ⟨S_, .f32⟩
  | 25 => ⟨S4, .f32⟩
  | 26 => ⟨S4, .f32⟩
  | 27 => ⟨S4, .f32⟩
  | 28 => ⟨S1x4x1x1, .f32⟩
  | 29 => ⟨S_, .f32⟩
  | 30 => ⟨S1x4x128x128, .f32⟩
  | 31 => ⟨S0x1x4x128x128, .f32⟩
  | 32 => ⟨S32x1x4x128x128, .f32⟩
  | 33 => ⟨S_, .f32⟩
  | 34 => ⟨S0x1x4x128x128, .f32⟩
  | 35 => ⟨S1x1x4x128x128, .f32⟩
  | 36 => ⟨S1x4x128x128, .f32⟩
  | 37 => ⟨S1x4x128x128, .f32⟩
  | 38 => ⟨S1x4x128x128, .f32⟩
  | 39 => ⟨S1x4x128x128, .f32⟩
  | 40 => ⟨S1x1x4x128x128, .f32⟩
  | 41 => ⟨S1x4x128x128, .f32⟩
  | 42 => ⟨S1x4x128x128, .f32⟩
  | 43 => ⟨S1x4x128x128, .f32⟩
  | 44 => ⟨S1x4x128x128, .f32⟩
  | 45 => ⟨S1x1x4x128x128, .f32⟩
  | 46 => ⟨S1x4x128x128, .f32⟩
  | 47 => ⟨S1x4x128x128, .f32⟩
  | 48 => ⟨S1x4x128x128, .f32⟩
  | 49 => ⟨S1x4x128x128, .f32⟩
  | 50 => ⟨S1x1x4x128x128, .f32⟩
  | 51 => ⟨S1x4x128x128, .f32⟩
  | 52 => ⟨S1x4x128x128, .f32⟩
  | 53 => ⟨S1x4x128x128, .f32⟩
  | 54 => ⟨S1x4x128x128, .f32⟩
  | 55 => ⟨S1x1x4x128x128, .f32⟩
  | 56 => ⟨S1x4x128x128, .f32⟩
  | 57 => ⟨S1x4x128x128, .f32⟩
  | 58 => ⟨S1x4x128x128, .f32⟩
  | 59 => ⟨S1x4x128x128, .f32⟩
  | 60 => ⟨S1x1x4x128x128, .f32⟩
  | 61 => ⟨S1x4x128x128, .f32⟩
  | 62 => ⟨S1x4x128x128, .f32⟩
  | 63 => ⟨S1x4x128x128, .f32⟩
  | 64 => ⟨S1x4x128x128, .f32⟩
  | 65 => ⟨S1x1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S1x1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x1x4x128x128, .f32⟩
  | 126 => ⟨S1x4x128x128, .f32⟩
  | 127 => ⟨S1x4x128x128, .f32⟩
  | _ => ⟨S4096x512, .f32⟩

abbrev hbmTy0_2 (i : Nat) : BufTy := match i % 128 with
  | 0 => ⟨S1x4x128x128, .f32⟩
  | 1 => ⟨S1x4x128x128, .f32⟩
  | 2 => ⟨S1x1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S1x1x4x128x128, .f32⟩
  | 38 => ⟨S1x4x128x128, .f32⟩
  | 39 => ⟨S1x4x128x128, .f32⟩
  | 40 => ⟨S1x4x128x128, .f32⟩
  | 41 => ⟨S1x4x128x128, .f32⟩
  | 42 => ⟨S1x1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x1x4x128x128, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x1x4x128x128, .f32⟩
  | 53 => ⟨S1x4x128x128, .f32⟩
  | 54 => ⟨S1x4x128x128, .f32⟩
  | 55 => ⟨S1x4x128x128, .f32⟩
  | 56 => ⟨S1x4x128x128, .f32⟩
  | 57 => ⟨S1x1x4x128x128, .f32⟩
  | 58 => ⟨S1x4x128x128, .f32⟩
  | 59 => ⟨S1x4x128x128, .f32⟩
  | 60 => ⟨S1x4x128x128, .f32⟩
  | 61 => ⟨S1x4x128x128, .f32⟩
  | 62 => ⟨S1x1x4x128x128, .f32⟩
  | 63 => ⟨S1x4x128x128, .f32⟩
  | 64 => ⟨S1x4x128x128, .f32⟩
  | 65 => ⟨S1x4x128x128, .f32⟩
  | 66 => ⟨S1x4x128x128, .f32⟩
  | 67 => ⟨S1x1x4x128x128, .f32⟩
  | 68 => ⟨S1x1x4x128x128, .f32⟩
  | 69 => ⟨S1x1x4x128x128, .f32⟩
  | 70 => ⟨S1x1x4x128x128, .f32⟩
  | 71 => ⟨S1x1x4x128x128, .f32⟩
  | 72 => ⟨S1x1x4x128x128, .f32⟩
  | 73 => ⟨S1x1x4x128x128, .f32⟩
  | 74 => ⟨S1x1x4x128x128, .f32⟩
  | 75 => ⟨S1x1x4x128x128, .f32⟩
  | 76 => ⟨S1x1x4x128x128, .f32⟩
  | 77 => ⟨S1x1x4x128x128, .f32⟩
  | 78 => ⟨S1x1x4x128x128, .f32⟩
  | 79 => ⟨S1x1x4x128x128, .f32⟩
  | 80 => ⟨S1x1x4x128x128, .f32⟩
  | 81 => ⟨S1x1x4x128x128, .f32⟩
  | 82 => ⟨S1x1x4x128x128, .f32⟩
  | 83 => ⟨S1x1x4x128x128, .f32⟩
  | 84 => ⟨S1x1x4x128x128, .f32⟩
  | 85 => ⟨S1x1x4x128x128, .f32⟩
  | 86 => ⟨S1x1x4x128x128, .f32⟩
  | 87 => ⟨S1x1x4x128x128, .f32⟩
  | 88 => ⟨S1x1x4x128x128, .f32⟩
  | 89 => ⟨S1x1x4x128x128, .f32⟩
  | 90 => ⟨S1x1x4x128x128, .f32⟩
  | 91 => ⟨S1x1x4x128x128, .f32⟩
  | 92 => ⟨S1x1x4x128x128, .f32⟩
  | 93 => ⟨S1x1x4x128x128, .f32⟩
  | 94 => ⟨S1x1x4x128x128, .f32⟩
  | 95 => ⟨S1x1x4x128x128, .f32⟩
  | 96 => ⟨S1x1x4x128x128, .f32⟩
  | 97 => ⟨S1x1x4x128x128, .f32⟩
  | 98 => ⟨S1x1x4x128x128, .f32⟩
  | 99 => ⟨S16x1x4x128x128, .f32⟩
  | 100 => ⟨S16x1x4x128x128, .f32⟩
  | 101 => ⟨S32x1x4x128x128, .f32⟩
  | 102 => ⟨S32x1x4x128x128, .f32⟩
  | 103 => ⟨S4x1, .f32⟩
  | 104 => ⟨S_, .f32⟩
  | 105 => ⟨S128, .f32⟩
  | 106 => ⟨S128, .f32⟩
  | 107 => ⟨S1x128, .f32⟩
  | 108 => ⟨S4x128, .f32⟩
  | 109 => ⟨S4x128, .f32⟩
  | 110 => ⟨S4x128, .f32⟩
  | 111 => ⟨S4x128, .f32⟩
  | 112 => ⟨S1x4x1x128x1, .f32⟩
  | 113 => ⟨S1x4x32x128x128, .f32⟩
  | 114 => ⟨S1x4x32x128x128, .f32⟩
  | 115 => ⟨S1x4x32x128x128, .f32⟩
  | 116 => ⟨S1x4x32x128x128, .f32⟩
  | 117 => ⟨S1x32x128x4x128, .f32⟩
  | 118 => ⟨S1x4096x4x128, .f32⟩
  | 119 => ⟨S_, .f32⟩
  | 120 => ⟨S1x4096x4, .f32⟩
  | 121 => ⟨S1x4096x4x1, .f32⟩
  | 122 => ⟨S_, .f32⟩
  | 123 => ⟨S1x4096x4x1, .f32⟩
  | 124 => ⟨S1x4096x4x1, .f32⟩
  | 125 => ⟨S1x4096x4x128, .f32⟩
  | 126 => ⟨S1x4096x4x128, .f32⟩
  | 127 => ⟨S1x4096x4x128, .f32⟩
  | _ => ⟨S4096x512, .f32⟩

abbrev hbmTy0_3 (i : Nat) : BufTy := match i % 128 with
  | 0 => ⟨S_, .f32⟩
  | 1 => ⟨S1x4096x4x128, .f32⟩
  | 2 => ⟨S1x4096x4x128, .f32⟩
  | 3 => ⟨S_, .f32⟩
  | 4 => ⟨S1x4096x4, .f32⟩
  | 5 => ⟨S1x4096x4x1, .f32⟩
  | 6 => ⟨S_, .f32⟩
  | 7 => ⟨S1x4096x4x1, .f32⟩
  | 8 => ⟨S1x4096x4x1, .f32⟩
  | 9 => ⟨S1x4096x4x128, .f32⟩
  | 10 => ⟨S1x4096x4x128, .f32⟩
  | 11 => ⟨S_, .f32⟩
  | 12 => ⟨S1x4096x4x1, .f32⟩
  | 13 => ⟨S1x4096x4x1, .f32⟩
  | 14 => ⟨S1x4096x4x1, .f32⟩
  | 15 => ⟨S1x4096x4x1, .f32⟩
  | 16 => ⟨S_, .f32⟩
  | 17 => ⟨S1x4096x4x1, .f32⟩
  | 18 => ⟨S1x4096x4x1, .f32⟩
  | 19 => ⟨S1x4096x4x128, .f32⟩
  | 20 => ⟨S1x4096x4x128, .f32⟩
  | 21 => ⟨S1x4096x512, .f32⟩
  | 22 => ⟨S1x4096x512, .f32⟩
  | 23 => ⟨S1x4096x512, .f32⟩
  | 24 => ⟨S_, .f32⟩
  | 25 => ⟨S1x4096x512, .f32⟩
  | 26 => ⟨S1x4096x512, .f32⟩
  | 27 => ⟨S_, .f32⟩
  | 28 => ⟨S1x4096x512, .f32⟩
  | 29 => ⟨S1x4096x512, .f32⟩
  | 30 => ⟨S_, .f32⟩
  | 31 => ⟨S1x4096x512, .f32⟩
  | 32 => ⟨S1x4096x512, .f32⟩
  | 33 => ⟨S1x4096x512, .f32⟩
  | 34 => ⟨S1x4096x512, .f32⟩
  | 35 => ⟨S1x4096x512, .f32⟩
  | 36 => ⟨S1x4096x512, .f32⟩
  | 37 => ⟨S_, .f32⟩
  | 38 => ⟨S1x4x128x128, .f32⟩
  | 39 => ⟨S1x4096x512, .f32⟩
  | 40 => ⟨S1x4096x512, .f32⟩
  | 41 => ⟨S1x4096x512, .f32⟩
  | 42 => ⟨S1x4096x512, .f32⟩
  | 43 => ⟨S1x4096x512, .f32⟩
  | 44 => ⟨S1x4096x512, .f32⟩
  | 45 => ⟨S1x4096x4x128, .f32⟩
  | 46 => ⟨S1x4096x4x128, .f32⟩
  | 47 => ⟨S_, .f32⟩
  | 48 => ⟨S1x4096x4, .f32⟩
  | 49 => ⟨S1x4096x4x1, .f32⟩
  | 50 => ⟨S1x4096x4x128, .f32⟩
  | 51 => ⟨S1x4096x4x128, .f32⟩
  | 52 => ⟨S1x4096x4x1, .f32⟩
  | 53 => ⟨S1x4096x4x128, .f32⟩
  | 54 => ⟨S_, .f32⟩
  | 55 => ⟨S1x4096x4, .f32⟩
  | 56 => ⟨S1x4096x4x1, .f32⟩
  | 57 => ⟨S_, .f32⟩
  | 58 => ⟨S1x4096x4x1, .f32⟩
  | 59 => ⟨S1x4096x4x1, .f32⟩
  | 60 => ⟨S_, .f32⟩
  | 61 => ⟨S4096x4, .f32⟩
  | 62 => ⟨S1x4096x4, .f32⟩
  | 63 => ⟨S1x4096x4x128, .f32⟩
  | 64 => ⟨S1x4096x4x128, .f32⟩
  | 65 => ⟨S1x4096x4x128, .f32⟩
  | 66 => ⟨S_, .f32⟩
  | 67 => ⟨S1x4096x4, .f32⟩
  | 68 => ⟨S1x4096x4x1, .f32⟩
  | 69 => ⟨S1x4096x4x128, .f32⟩
  | 70 => ⟨S1x4096x4x1, .f32⟩
  | 71 => ⟨S_, .f32⟩
  | 72 => ⟨S1x4096x4x1, .f32⟩
  | 73 => ⟨S1x4096x4x1, .f32⟩
  | 74 => ⟨S_, .f32⟩
  | 75 => ⟨S4096x4, .f32⟩
  | 76 => ⟨S1x4096x4, .f32⟩
  | 77 => ⟨S1x4096x4x128, .f32⟩
  | 78 => ⟨S1x4096x4x128, .f32⟩
  | 79 => ⟨S1x32x128x4x128, .f32⟩
  | 80 => ⟨S1x4x32x128x128, .f32⟩
  | 81 => ⟨S1x4x32x128x128, .f32⟩
  | 82 => ⟨S32x1x4x128x128, .f32⟩
  | 83 => ⟨S1x4x32x128x128, .f32⟩
  | 84 => ⟨S1x4x32x128x128, .f32⟩
  | 85 => ⟨S1x4x32x128x128, .f32⟩
  | 86 => ⟨S_, .f32⟩
  | 87 => ⟨S1x4x128x128, .f32⟩
  | 88 => ⟨S32x1x4x128x128, .f32⟩
  | 89 => ⟨S0x1x4x128x128, .f32⟩
  | 90 => ⟨S_, .f32⟩
  | 91 => ⟨S0x1x4x128x128, .f32⟩
  | 92 => ⟨S1x1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S1x1x4x128x128, .f32⟩
  | 108 => ⟨S1x4x128x128, .f32⟩
  | 109 => ⟨S1x4x128x128, .f32⟩
  | 110 => ⟨S1x4x128x128, .f32⟩
  | 111 => ⟨S1x4x128x128, .f32⟩
  | 112 => ⟨S1x1x4x128x128, .f32⟩
  | 113 => ⟨S1x4x128x128, .f32⟩
  | 114 => ⟨S1x4x128x128, .f32⟩
  | 115 => ⟨S1x4x128x128, .f32⟩
  | 116 => ⟨S1x4x128x128, .f32⟩
  | 117 => ⟨S1x1x4x128x128, .f32⟩
  | 118 => ⟨S1x4x128x128, .f32⟩
  | 119 => ⟨S1x4x128x128, .f32⟩
  | 120 => ⟨S1x4x128x128, .f32⟩
  | 121 => ⟨S1x4x128x128, .f32⟩
  | 122 => ⟨S1x1x4x128x128, .f32⟩
  | 123 => ⟨S1x4x128x128, .f32⟩
  | 124 => ⟨S1x4x128x128, .f32⟩
  | 125 => ⟨S1x4x128x128, .f32⟩
  | 126 => ⟨S1x4x128x128, .f32⟩
  | 127 => ⟨S1x1x4x128x128, .f32⟩
  | _ => ⟨S4096x512, .f32⟩

abbrev hbmTy0_4 (i : Nat) : BufTy := match i % 128 with
  | 0 => ⟨S1x4x128x128, .f32⟩
  | 1 => ⟨S1x4x128x128, .f32⟩
  | 2 => ⟨S1x4x128x128, .f32⟩
  | 3 => ⟨S1x4x128x128, .f32⟩
  | 4 => ⟨S1x1x4x128x128, .f32⟩
  | 5 => ⟨S1x4x128x128, .f32⟩
  | 6 => ⟨S1x4x128x128, .f32⟩
  | 7 => ⟨S1x4x128x128, .f32⟩
  | 8 => ⟨S1x4x128x128, .f32⟩
  | 9 => ⟨S1x1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x1x4x128x128, .f32⟩
  | 30 => ⟨S1x4x128x128, .f32⟩
  | 31 => ⟨S1x4x128x128, .f32⟩
  | 32 => ⟨S1x4x128x128, .f32⟩
  | 33 => ⟨S1x4x128x128, .f32⟩
  | 34 => ⟨S1x1x4x128x128, .f32⟩
  | 35 => ⟨S1x4x128x128, .f32⟩
  | 36 => ⟨S1x4x128x128, .f32⟩
  | 37 => ⟨S1x4x128x128, .f32⟩
  | 38 => ⟨S1x4x128x128, .f32⟩
  | 39 => ⟨S1x1x4x128x128, .f32⟩
  | 40 => ⟨S1x4x128x128, .f32⟩
  | 41 => ⟨S1x4x128x128, .f32⟩
  | 42 => ⟨S1x4x128x128, .f32⟩
  | 43 => ⟨S1x4x128x128, .f32⟩
  | 44 => ⟨S1x1x4x128x128, .f32⟩
  | 45 => ⟨S1x4x128x128, .f32⟩
  | 46 => ⟨S1x4x128x128, .f32⟩
  | 47 => ⟨S1x4x128x128, .f32⟩
  | 48 => ⟨S1x4x128x128, .f32⟩
  | 49 => ⟨S1x1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x1x4x128x128, .f32⟩
  | 60 => ⟨S1x4x128x128, .f32⟩
  | 61 => ⟨S1x4x128x128, .f32⟩
  | 62 => ⟨S1x4x128x128, .f32⟩
  | 63 => ⟨S1x4x128x128, .f32⟩
  | 64 => ⟨S1x1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x1x4x128x128, .f32⟩
  | 125 => ⟨S1x1x4x128x128, .f32⟩
  | 126 => ⟨S1x1x4x128x128, .f32⟩
  | 127 => ⟨S1x1x4x128x128, .f32⟩
  | _ => ⟨S4096x512, .f32⟩

abbrev hbmTy0_5 (i : Nat) : BufTy := match i % 128 with
  | 0 => ⟨S1x1x4x128x128, .f32⟩
  | 1 => ⟨S1x1x4x128x128, .f32⟩
  | 2 => ⟨S1x1x4x128x128, .f32⟩
  | 3 => ⟨S1x1x4x128x128, .f32⟩
  | 4 => ⟨S1x1x4x128x128, .f32⟩
  | 5 => ⟨S1x1x4x128x128, .f32⟩
  | 6 => ⟨S1x1x4x128x128, .f32⟩
  | 7 => ⟨S1x1x4x128x128, .f32⟩
  | 8 => ⟨S1x1x4x128x128, .f32⟩
  | 9 => ⟨S1x1x4x128x128, .f32⟩
  | 10 => ⟨S1x1x4x128x128, .f32⟩
  | 11 => ⟨S1x1x4x128x128, .f32⟩
  | 12 => ⟨S1x1x4x128x128, .f32⟩
  | 13 => ⟨S1x1x4x128x128, .f32⟩
  | 14 => ⟨S1x1x4x128x128, .f32⟩
  | 15 => ⟨S1x1x4x128x128, .f32⟩
  | 16 => ⟨S1x1x4x128x128, .f32⟩
  | 17 => ⟨S1x1x4x128x128, .f32⟩
  | 18 => ⟨S1x1x4x128x128, .f32⟩
  | 19 => ⟨S1x1x4x128x128, .f32⟩
  | 20 => ⟨S1x1x4x128x128, .f32⟩
  | 21 => ⟨S1x1x4x128x128, .f32⟩
  | 22 => ⟨S1x1x4x128x128, .f32⟩
  | 23 => ⟨S1x1x4x128x128, .f32⟩
  | 24 => ⟨S1x1x4x128x128, .f32⟩
  | 25 => ⟨S1x1x4x128x128, .f32⟩
  | 26 => ⟨S1x1x4x128x128, .f32⟩
  | 27 => ⟨S1x1x4x128x128, .f32⟩
  | 28 => ⟨S16x1x4x128x128, .f32⟩
  | 29 => ⟨S16x1x4x128x128, .f32⟩
  | 30 => ⟨S32x1x4x128x128, .f32⟩
  | 31 => ⟨S32x1x4x128x128, .f32⟩
  | 32 => ⟨S32x1x4x128x128, .f32⟩
  | 33 => ⟨S1x4x32x128x128, .f32⟩
  | 34 => ⟨S32x1x4x128x128, .f32⟩
  | 35 => ⟨S1x4x32x128x128, .f32⟩
  | 36 => ⟨S1x4x32x128x128, .f32⟩
  | 37 => ⟨S1x4x32x128x128, .f32⟩
  | 38 => ⟨S1x4x32x128x128, .f32⟩
  | 39 => ⟨S1x4x32x128x128, .f32⟩
  | 40 => ⟨S1x4x32x128x128, .f32⟩
  | 41 => ⟨S1x4x32x128x128, .f32⟩
  | 42 => ⟨S1x4x32x128x128, .f32⟩
  | 43 => ⟨S1x4x32x128x128, .f32⟩
  | 44 => ⟨S1x4x32x128x128, .f32⟩
  | 45 => ⟨S1x4x32x128x128, .f32⟩
  | 46 => ⟨S1x4x32x128x128, .f32⟩
  | 47 => ⟨S1x4x32x128x128, .f32⟩
  | 48 => ⟨S1x32x128x4x128, .f32⟩
  | 49 => ⟨S1x4096x4x128, .f32⟩
  | 50 => ⟨S_, .f32⟩
  | 51 => ⟨S1x4x32x128x128, .f32⟩
  | 52 => ⟨S1x4x32x128x128, .f32⟩
  | 53 => ⟨S1x32x128x4x128, .f32⟩
  | 54 => ⟨S1x4096x4x128, .f32⟩
  | 55 => ⟨S1x32x128x4x128, .f32⟩
  | 56 => ⟨S1x4096x4x128, .f32⟩
  | 57 => ⟨S1x4096x512, .f32⟩
  | 58 => ⟨S1x4096x4x64x2, .f32⟩
  | 59 => ⟨S1x4096x4x64x1, .f32⟩
  | 60 => ⟨S1x4096x4x64, .f32⟩
  | 61 => ⟨S1x4096x4x64x1, .f32⟩
  | 62 => ⟨S1x4096x4x64, .f32⟩
  | 63 => ⟨S1x4096x4x64, .f32⟩
  | 64 => ⟨S1x4096x4x64, .f32⟩
  | 65 => ⟨S1x4096x4x64, .f32⟩
  | 66 => ⟨S1x4096x4x64, .f32⟩
  | 67 => ⟨S1x4096x4x64, .f32⟩
  | 68 => ⟨S1x4096x4x64, .f32⟩
  | 69 => ⟨S1x4096x4x64, .f32⟩
  | 70 => ⟨S1x4096x4x64, .f32⟩
  | 71 => ⟨S1x4096x4x64, .f32⟩
  | 72 => ⟨S1x4096x4x64, .f32⟩
  | 73 => ⟨S1x4096x4x64, .f32⟩
  | 74 => ⟨S_, .f32⟩
  | 75 => ⟨S1x4096x4x128, .f32⟩
  | 76 => ⟨S_, .f32⟩
  | 77 => ⟨S1x4096x4x128, .f32⟩
  | 78 => ⟨S1x4096x4x128, .f32⟩
  | 79 => ⟨S1x4096x512, .f32⟩
  | 80 => ⟨S1x4096x4x64x2, .f32⟩
  | 81 => ⟨S1x4096x4x64x1, .f32⟩
  | 82 => ⟨S1x4096x4x64, .f32⟩
  | 83 => ⟨S1x4096x4x64x1, .f32⟩
  | 84 => ⟨S1x4096x4x64, .f32⟩
  | 85 => ⟨S1x4096x4x64, .f32⟩
  | 86 => ⟨S1x4096x4x64, .f32⟩
  | 87 => ⟨S1x4096x4x64, .f32⟩
  | 88 => ⟨S1x4096x4x64, .f32⟩
  | 89 => ⟨S1x4096x4x64, .f32⟩
  | 90 => ⟨S1x4096x4x64, .f32⟩
  | 91 => ⟨S1x4096x4x64, .f32⟩
  | 92 => ⟨S1x4096x4x64, .f32⟩
  | 93 => ⟨S1x4096x4x64, .f32⟩
  | 94 => ⟨S1x4096x4x64, .f32⟩
  | 95 => ⟨S1x4096x4x64, .f32⟩
  | 96 => ⟨S_, .f32⟩
  | 97 => ⟨S1x4096x4x128, .f32⟩
  | 98 => ⟨S_, .f32⟩
  | 99 => ⟨S1x4096x4x128, .f32⟩
  | 100 => ⟨S1x4096x4x128, .f32⟩
  | 101 => ⟨S1x4096x512, .f32⟩
  | 102 => ⟨S4096x4x64x2, .f32⟩
  | 103 => ⟨S4096x4x2x64, .f32⟩
  | 104 => ⟨S4096x512, .f32⟩
  | 105 => ⟨S4096x4x64x2, .f32⟩
  | 106 => ⟨S4096x4x2x64, .f32⟩
  | 107 => ⟨S4096x512, .f32⟩
  | 108 => ⟨S4096x512, .f32⟩
  | 109 => ⟨S4096x512, .f32⟩
  | 110 => ⟨S4096x512, .bf16⟩
  | 111 => ⟨S4096x512, .bf16⟩
  | 112 => ⟨S4096x512, .bf16⟩
  | 113 => ⟨S4096x512, .bf16⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_2 : Ref sig .tc := ⟨.hbm, 56, rfl⟩
abbrev main_v50 : Ref sig .tc := ⟨.hbm, 57, rfl⟩
abbrev main_v51 : Ref sig .tc := ⟨.hbm, 58, rfl⟩
abbrev main_cst_3 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_cst_5 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_6 : Ref sig .tc := ⟨.hbm, 102, rfl⟩
abbrev main_v92 : Ref sig .tc := ⟨.hbm, 103, rfl⟩
abbrev main_v93 : Ref sig .tc := ⟨.hbm, 104, rfl⟩
abbrev main_cst_7 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_cst_8 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_cst_9 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_cst_10 : Ref sig .tc := ⟨.hbm, 129, rfl⟩
abbrev main_call0_v0 : Ref sig .tc := ⟨.hbm, 130, rfl⟩
abbrev main_call0_v1 : Ref sig .tc := ⟨.hbm, 131, rfl⟩
abbrev main_call0_v2 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_cst_11 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_cst_12 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_cst_13 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_cst_14 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_v288 : Ref sig .tc := ⟨.hbm, 310, rfl⟩
abbrev main_v289 : Ref sig .tc := ⟨.hbm, 311, rfl⟩
abbrev main_v290 : Ref sig .tc := ⟨.hbm, 312, rfl⟩
abbrev main_v291 : Ref sig .tc := ⟨.hbm, 313, rfl⟩
abbrev main_v292 : Ref sig .tc := ⟨.hbm, 314, rfl⟩
abbrev main_v293 : Ref sig .tc := ⟨.hbm, 315, rfl⟩
abbrev main_v294 : Ref sig .tc := ⟨.hbm, 316, rfl⟩
abbrev main_v295 : Ref sig .tc := ⟨.hbm, 317, rfl⟩
abbrev main_v296 : Ref sig .tc := ⟨.hbm, 318, rfl⟩
abbrev main_v297 : Ref sig .tc := ⟨.hbm, 319, rfl⟩
abbrev main_v298 : Ref sig .tc := ⟨.hbm, 320, rfl⟩
abbrev main_v299 : Ref sig .tc := ⟨.hbm, 321, rfl⟩
abbrev main_v300 : Ref sig .tc := ⟨.hbm, 322, rfl⟩
abbrev main_v301 : Ref sig .tc := ⟨.hbm, 323, rfl⟩
abbrev main_v302 : Ref sig .tc := ⟨.hbm, 324, rfl⟩
abbrev main_v303 : Ref sig .tc := ⟨.hbm, 325, rfl⟩
abbrev main_v304 : Ref sig .tc := ⟨.hbm, 326, rfl⟩
abbrev main_v305 : Ref sig .tc := ⟨.hbm, 327, rfl⟩
abbrev main_v306 : Ref sig .tc := ⟨.hbm, 328, rfl⟩
abbrev main_v307 : Ref sig .tc := ⟨.hbm, 329, rfl⟩
abbrev main_v308 : Ref sig .tc := ⟨.hbm, 330, rfl⟩
abbrev main_v309 : Ref sig .tc := ⟨.hbm, 331, rfl⟩
abbrev main_v310 : Ref sig .tc := ⟨.hbm, 332, rfl⟩
abbrev main_v311 : Ref sig .tc := ⟨.hbm, 333, rfl⟩
abbrev main_v312 : Ref sig .tc := ⟨.hbm, 334, rfl⟩
abbrev main_v313 : Ref sig .tc := ⟨.hbm, 335, rfl⟩
abbrev main_v314 : Ref sig .tc := ⟨.hbm, 336, rfl⟩
abbrev main_v315 : Ref sig .tc := ⟨.hbm, 337, rfl⟩
abbrev main_v316 : Ref sig .tc := ⟨.hbm, 338, rfl⟩
abbrev main_v317 : Ref sig .tc := ⟨.hbm, 339, rfl⟩
abbrev main_v318 : Ref sig .tc := ⟨.hbm, 340, rfl⟩
abbrev main_v319 : Ref sig .tc := ⟨.hbm, 341, rfl⟩
abbrev main_v320 : Ref sig .tc := ⟨.hbm, 342, rfl⟩
abbrev main_v321 : Ref sig .tc := ⟨.hbm, 343, rfl⟩
abbrev main_v322 : Ref sig .tc := ⟨.hbm, 344, rfl⟩
abbrev main_v323 : Ref sig .tc := ⟨.hbm, 345, rfl⟩
abbrev main_v324 : Ref sig .tc := ⟨.hbm, 346, rfl⟩
abbrev main_v325 : Ref sig .tc := ⟨.hbm, 347, rfl⟩
abbrev main_v326 : Ref sig .tc := ⟨.hbm, 348, rfl⟩
abbrev main_v327 : Ref sig .tc := ⟨.hbm, 349, rfl⟩
abbrev main_v328 : Ref sig .tc := ⟨.hbm, 350, rfl⟩
abbrev main_v329 : Ref sig .tc := ⟨.hbm, 351, rfl⟩
abbrev main_v330 : Ref sig .tc := ⟨.hbm, 352, rfl⟩
abbrev main_v331 : Ref sig .tc := ⟨.hbm, 353, rfl⟩
abbrev main_v332 : Ref sig .tc := ⟨.hbm, 354, rfl⟩
abbrev main_v333 : Ref sig .tc := ⟨.hbm, 355, rfl⟩
abbrev main_v334 : Ref sig .tc := ⟨.hbm, 356, rfl⟩
abbrev main_v335 : Ref sig .tc := ⟨.hbm, 357, rfl⟩
abbrev main_v336 : Ref sig .tc := ⟨.hbm, 358, rfl⟩
abbrev main_v337 : Ref sig .tc := ⟨.hbm, 359, rfl⟩
abbrev main_cst_15 : Ref sig .tc := ⟨.hbm, 360, rfl⟩
abbrev main_v338 : Ref sig .tc := ⟨.hbm, 361, rfl⟩
abbrev main_v339 : Ref sig .tc := ⟨.hbm, 362, rfl⟩
abbrev main_v340 : Ref sig .tc := ⟨.hbm, 363, rfl⟩
abbrev main_v341 : Ref sig .tc := ⟨.hbm, 364, rfl⟩
abbrev main_v342 : Ref sig .tc := ⟨.hbm, 365, rfl⟩
abbrev main_v343 : Ref sig .tc := ⟨.hbm, 366, rfl⟩
abbrev main_v344 : Ref sig .tc := ⟨.hbm, 367, rfl⟩
abbrev main_v345 : Ref sig .tc := ⟨.hbm, 368, rfl⟩
abbrev main_v346 : Ref sig .tc := ⟨.hbm, 369, rfl⟩
abbrev main_v347 : Ref sig .tc := ⟨.hbm, 370, rfl⟩
abbrev main_v348 : Ref sig .tc := ⟨.hbm, 371, rfl⟩
abbrev main_v349 : Ref sig .tc := ⟨.hbm, 372, rfl⟩
abbrev main_v350 : Ref sig .tc := ⟨.hbm, 373, rfl⟩
abbrev main_v351 : Ref sig .tc := ⟨.hbm, 374, rfl⟩
abbrev main_cst_16 : Ref sig .tc := ⟨.hbm, 375, rfl⟩
abbrev main_v352 : Ref sig .tc := ⟨.hbm, 376, rfl⟩
abbrev main_v353 : Ref sig .tc := ⟨.hbm, 377, rfl⟩
abbrev main_cst_17 : Ref sig .tc := ⟨.hbm, 378, rfl⟩
abbrev main_v354 : Ref sig .tc := ⟨.hbm, 379, rfl⟩
abbrev main_v355 : Ref sig .tc := ⟨.hbm, 380, rfl⟩
abbrev main_v356 : Ref sig .tc := ⟨.hbm, 381, rfl⟩
abbrev main_v357 : Ref sig .tc := ⟨.hbm, 382, rfl⟩
abbrev main_v358 : Ref sig .tc := ⟨.hbm, 383, rfl⟩
abbrev main_cst_18 : Ref sig .tc := ⟨.hbm, 384, rfl⟩
abbrev main_v359 : Ref sig .tc := ⟨.hbm, 385, rfl⟩
abbrev main_v360 : Ref sig .tc := ⟨.hbm, 386, rfl⟩
abbrev main_cst_19 : Ref sig .tc := ⟨.hbm, 387, rfl⟩
abbrev main_v361 : Ref sig .tc := ⟨.hbm, 388, rfl⟩
abbrev main_v362 : Ref sig .tc := ⟨.hbm, 389, rfl⟩
abbrev main_cst_20 : Ref sig .tc := ⟨.hbm, 390, rfl⟩
abbrev main_v363 : Ref sig .tc := ⟨.hbm, 391, rfl⟩
abbrev main_v364 : Ref sig .tc := ⟨.hbm, 392, rfl⟩
abbrev main_v365 : Ref sig .tc := ⟨.hbm, 393, rfl⟩
abbrev main_v366 : Ref sig .tc := ⟨.hbm, 394, rfl⟩
abbrev main_cst_21 : Ref sig .tc := ⟨.hbm, 395, rfl⟩
abbrev main_v367 : Ref sig .tc := ⟨.hbm, 396, rfl⟩
abbrev main_v368 : Ref sig .tc := ⟨.hbm, 397, rfl⟩
abbrev main_v369 : Ref sig .tc := ⟨.hbm, 398, rfl⟩
abbrev main_v370 : Ref sig .tc := ⟨.hbm, 399, rfl⟩
abbrev main_cst_22 : Ref sig .tc := ⟨.hbm, 400, rfl⟩
abbrev main_v371 : Ref sig .tc := ⟨.hbm, 401, rfl⟩
abbrev main_v372 : Ref sig .tc := ⟨.hbm, 402, rfl⟩
abbrev main_v373 : Ref sig .tc := ⟨.hbm, 403, rfl⟩
abbrev main_v374 : Ref sig .tc := ⟨.hbm, 404, rfl⟩
abbrev main_v375 : Ref sig .tc := ⟨.hbm, 405, rfl⟩
abbrev main_call1_v0 : Ref sig .tc := ⟨.hbm, 406, rfl⟩
abbrev main_call1_v1 : Ref sig .tc := ⟨.hbm, 407, rfl⟩
abbrev main_call1_cst : Ref sig .tc := ⟨.hbm, 408, rfl⟩
abbrev main_call1_v2 : Ref sig .tc := ⟨.hbm, 409, rfl⟩
abbrev main_call1_v3 : Ref sig .tc := ⟨.hbm, 410, rfl⟩
abbrev main_call1_cst_0 : Ref sig .tc := ⟨.hbm, 411, rfl⟩
abbrev main_call1_v4 : Ref sig .tc := ⟨.hbm, 412, rfl⟩
abbrev main_v376_2 : Ref sig .tc := ⟨.hbm, 413, rfl⟩
abbrev main_call1_cst_1 : Ref sig .tc := ⟨.hbm, 414, rfl⟩
abbrev main_call1_v6 : Ref sig .tc := ⟨.hbm, 415, rfl⟩
abbrev main_call1_v7 : Ref sig .tc := ⟨.hbm, 416, rfl⟩
abbrev main_v376_1 : Ref sig .tc := ⟨.hbm, 417, rfl⟩
abbrev main_v376_0 : Ref sig .tc := ⟨.hbm, 418, rfl⟩
abbrev main_v377 : Ref sig .tc := ⟨.hbm, 419, rfl⟩
abbrev main_v378 : Ref sig .tc := ⟨.hbm, 420, rfl⟩
abbrev main_cst_23 : Ref sig .tc := ⟨.hbm, 421, rfl⟩
abbrev main_v379 : Ref sig .tc := ⟨.hbm, 422, rfl⟩
abbrev main_v380 : Ref sig .tc := ⟨.hbm, 423, rfl⟩
abbrev main_v381 : Ref sig .tc := ⟨.hbm, 424, rfl⟩
abbrev main_call2_v0 : Ref sig .tc := ⟨.hbm, 425, rfl⟩
abbrev main_call2_v1 : Ref sig .tc := ⟨.hbm, 426, rfl⟩
abbrev main_call2_v2 : Ref sig .tc := ⟨.hbm, 427, rfl⟩
abbrev main_v382 : Ref sig .tc := ⟨.hbm, 428, rfl⟩
abbrev main_v383 : Ref sig .tc := ⟨.hbm, 429, rfl⟩
abbrev main_v384 : Ref sig .tc := ⟨.hbm, 430, rfl⟩
abbrev main_cst_24 : Ref sig .tc := ⟨.hbm, 431, rfl⟩
abbrev main_v385 : Ref sig .tc := ⟨.hbm, 432, rfl⟩
abbrev main_v386 : Ref sig .tc := ⟨.hbm, 433, rfl⟩
abbrev main_v387 : Ref sig .tc := ⟨.hbm, 434, rfl⟩
abbrev main_v388 : Ref sig .tc := ⟨.hbm, 435, rfl⟩
abbrev main_v389 : Ref sig .tc := ⟨.hbm, 436, rfl⟩
abbrev main_v390 : Ref sig .tc := ⟨.hbm, 437, rfl⟩
abbrev main_cst_25 : Ref sig .tc := ⟨.hbm, 438, rfl⟩
abbrev main_v391 : Ref sig .tc := ⟨.hbm, 439, rfl⟩
abbrev main_v392 : Ref sig .tc := ⟨.hbm, 440, rfl⟩
abbrev main_cst_26 : Ref sig .tc := ⟨.hbm, 441, rfl⟩
abbrev main_v393 : Ref sig .tc := ⟨.hbm, 442, rfl⟩
abbrev main_v394 : Ref sig .tc := ⟨.hbm, 443, rfl⟩
abbrev main_cst_27 : Ref sig .tc := ⟨.hbm, 444, rfl⟩
abbrev main_v395 : Ref sig .tc := ⟨.hbm, 445, rfl⟩
abbrev main_v396 : Ref sig .tc := ⟨.hbm, 446, rfl⟩
abbrev main_v397 : Ref sig .tc := ⟨.hbm, 447, rfl⟩
abbrev main_v398 : Ref sig .tc := ⟨.hbm, 448, rfl⟩
abbrev main_v399 : Ref sig .tc := ⟨.hbm, 449, rfl⟩
abbrev main_cst_28 : Ref sig .tc := ⟨.hbm, 450, rfl⟩
abbrev main_v400 : Ref sig .tc := ⟨.hbm, 451, rfl⟩
abbrev main_v401 : Ref sig .tc := ⟨.hbm, 452, rfl⟩
abbrev main_v402 : Ref sig .tc := ⟨.hbm, 453, rfl⟩
abbrev main_v403 : Ref sig .tc := ⟨.hbm, 454, rfl⟩
abbrev main_cst_29 : Ref sig .tc := ⟨.hbm, 455, rfl⟩
abbrev main_v404 : Ref sig .tc := ⟨.hbm, 456, rfl⟩
abbrev main_v405 : Ref sig .tc := ⟨.hbm, 457, rfl⟩
abbrev main_cst_30 : Ref sig .tc := ⟨.hbm, 458, rfl⟩
abbrev main_v406 : Ref sig .tc := ⟨.hbm, 459, rfl⟩
abbrev main_v407 : Ref sig .tc := ⟨.hbm, 460, rfl⟩
abbrev main_v408 : Ref sig .tc := ⟨.hbm, 461, rfl⟩
abbrev main_v409 : Ref sig .tc := ⟨.hbm, 462, rfl⟩
abbrev main_v410 : Ref sig .tc := ⟨.hbm, 463, rfl⟩
abbrev main_v411 : Ref sig .tc := ⟨.hbm, 464, rfl⟩
abbrev main_v412 : Ref sig .tc := ⟨.hbm, 465, rfl⟩
abbrev main_v413 : Ref sig .tc := ⟨.hbm, 466, rfl⟩
abbrev main_v414 : Ref sig .tc := ⟨.hbm, 467, rfl⟩
abbrev main_v415 : Ref sig .tc := ⟨.hbm, 468, rfl⟩
abbrev main_v416 : Ref sig .tc := ⟨.hbm, 469, rfl⟩
abbrev main_cst_31 : Ref sig .tc := ⟨.hbm, 470, rfl⟩
abbrev main_v417 : Ref sig .tc := ⟨.hbm, 471, rfl⟩
abbrev main_v418 : Ref sig .tc := ⟨.hbm, 472, rfl⟩
abbrev main_v419 : Ref sig .tc := ⟨.hbm, 473, rfl⟩
abbrev main_cst_32 : Ref sig .tc := ⟨.hbm, 474, rfl⟩
abbrev main_v420 : Ref sig .tc := ⟨.hbm, 475, rfl⟩
abbrev main_v421 : Ref sig .tc := ⟨.hbm, 476, rfl⟩
abbrev main_v422 : Ref sig .tc := ⟨.hbm, 477, rfl⟩
abbrev main_v423 : Ref sig .tc := ⟨.hbm, 478, rfl⟩
abbrev main_v424 : Ref sig .tc := ⟨.hbm, 479, rfl⟩
abbrev main_v425 : Ref sig .tc := ⟨.hbm, 480, rfl⟩
abbrev main_v426 : Ref sig .tc := ⟨.hbm, 481, rfl⟩
abbrev main_v427 : Ref sig .tc := ⟨.hbm, 482, rfl⟩
abbrev main_v428 : Ref sig .tc := ⟨.hbm, 483, rfl⟩
abbrev main_v429 : Ref sig .tc := ⟨.hbm, 484, rfl⟩
abbrev main_v430 : Ref sig .tc := ⟨.hbm, 485, rfl⟩
abbrev main_v431 : Ref sig .tc := ⟨.hbm, 486, rfl⟩
abbrev main_v432 : Ref sig .tc := ⟨.hbm, 487, rfl⟩
abbrev main_v433 : Ref sig .tc := ⟨.hbm, 488, rfl⟩
abbrev main_v434 : Ref sig .tc := ⟨.hbm, 489, rfl⟩
abbrev main_v435 : Ref sig .tc := ⟨.hbm, 490, rfl⟩
abbrev main_v436 : Ref sig .tc := ⟨.hbm, 491, rfl⟩
abbrev main_v437 : Ref sig .tc := ⟨.hbm, 492, rfl⟩
abbrev main_v438 : Ref sig .tc := ⟨.hbm, 493, rfl⟩
abbrev main_v439 : Ref sig .tc := ⟨.hbm, 494, rfl⟩
abbrev main_v440 : Ref sig .tc := ⟨.hbm, 495, rfl⟩
abbrev main_v441 : Ref sig .tc := ⟨.hbm, 496, rfl⟩
abbrev main_v442 : Ref sig .tc := ⟨.hbm, 497, rfl⟩
abbrev main_v443 : Ref sig .tc := ⟨.hbm, 498, rfl⟩
abbrev main_v444 : Ref sig .tc := ⟨.hbm, 499, rfl⟩
abbrev main_v445 : Ref sig .tc := ⟨.hbm, 500, rfl⟩
abbrev main_v446 : Ref sig .tc := ⟨.hbm, 501, rfl⟩
abbrev main_v447 : Ref sig .tc := ⟨.hbm, 502, rfl⟩
abbrev main_v448 : Ref sig .tc := ⟨.hbm, 503, rfl⟩
abbrev main_v449 : Ref sig .tc := ⟨.hbm, 504, rfl⟩
abbrev main_v450 : Ref sig .tc := ⟨.hbm, 505, rfl⟩
abbrev main_v451 : Ref sig .tc := ⟨.hbm, 506, rfl⟩
abbrev main_v452 : Ref sig .tc := ⟨.hbm, 507, rfl⟩
abbrev main_v453 : Ref sig .tc := ⟨.hbm, 508, rfl⟩
abbrev main_v454 : Ref sig .tc := ⟨.hbm, 509, rfl⟩
abbrev main_v455 : Ref sig .tc := ⟨.hbm, 510, rfl⟩
abbrev main_v456 : Ref sig .tc := ⟨.hbm, 511, rfl⟩
abbrev main_v457 : Ref sig .tc := ⟨.hbm, 512, rfl⟩
abbrev main_v458 : Ref sig .tc := ⟨.hbm, 513, rfl⟩
abbrev main_v459 : Ref sig .tc := ⟨.hbm, 514, rfl⟩
abbrev main_v460 : Ref sig .tc := ⟨.hbm, 515, rfl⟩
abbrev main_v461 : Ref sig .tc := ⟨.hbm, 516, rfl⟩
abbrev main_v462 : Ref sig .tc := ⟨.hbm, 517, rfl⟩
abbrev main_v463 : Ref sig .tc := ⟨.hbm, 518, rfl⟩
abbrev main_v464 : Ref sig .tc := ⟨.hbm, 519, rfl⟩
abbrev main_v465 : Ref sig .tc := ⟨.hbm, 520, rfl⟩
abbrev main_v466 : Ref sig .tc := ⟨.hbm, 521, rfl⟩
abbrev main_v467 : Ref sig .tc := ⟨.hbm, 522, rfl⟩
abbrev main_v468 : Ref sig .tc := ⟨.hbm, 523, rfl⟩
abbrev main_v469 : Ref sig .tc := ⟨.hbm, 524, rfl⟩
abbrev main_v470 : Ref sig .tc := ⟨.hbm, 525, rfl⟩
abbrev main_v471 : Ref sig .tc := ⟨.hbm, 526, rfl⟩
abbrev main_v472 : Ref sig .tc := ⟨.hbm, 527, rfl⟩
abbrev main_v473 : Ref sig .tc := ⟨.hbm, 528, rfl⟩
abbrev main_v474 : Ref sig .tc := ⟨.hbm, 529, rfl⟩
abbrev main_v475 : Ref sig .tc := ⟨.hbm, 530, rfl⟩
abbrev main_v476 : Ref sig .tc := ⟨.hbm, 531, rfl⟩
abbrev main_v477 : Ref sig .tc := ⟨.hbm, 532, rfl⟩
abbrev main_v478 : Ref sig .tc := ⟨.hbm, 533, rfl⟩
abbrev main_v479 : Ref sig .tc := ⟨.hbm, 534, rfl⟩
abbrev main_v480 : Ref sig .tc := ⟨.hbm, 535, rfl⟩
abbrev main_v481 : Ref sig .tc := ⟨.hbm, 536, rfl⟩
abbrev main_v482 : Ref sig .tc := ⟨.hbm, 537, rfl⟩
abbrev main_v483 : Ref sig .tc := ⟨.hbm, 538, rfl⟩
abbrev main_v484 : Ref sig .tc := ⟨.hbm, 539, rfl⟩
abbrev main_v485 : Ref sig .tc := ⟨.hbm, 540, rfl⟩
abbrev main_v486 : Ref sig .tc := ⟨.hbm, 541, rfl⟩
abbrev main_v487 : Ref sig .tc := ⟨.hbm, 542, rfl⟩
abbrev main_v488 : Ref sig .tc := ⟨.hbm, 543, rfl⟩
abbrev main_v489 : Ref sig .tc := ⟨.hbm, 544, rfl⟩
abbrev main_v490 : Ref sig .tc := ⟨.hbm, 545, rfl⟩
abbrev main_v491 : Ref sig .tc := ⟨.hbm, 546, rfl⟩
abbrev main_v492 : Ref sig .tc := ⟨.hbm, 547, rfl⟩
abbrev main_v493 : Ref sig .tc := ⟨.hbm, 548, rfl⟩
abbrev main_v494 : Ref sig .tc := ⟨.hbm, 549, rfl⟩
abbrev main_v495 : Ref sig .tc := ⟨.hbm, 550, rfl⟩
abbrev main_v496 : Ref sig .tc := ⟨.hbm, 551, rfl⟩
abbrev main_v497 : Ref sig .tc := ⟨.hbm, 552, rfl⟩
abbrev main_v498 : Ref sig .tc := ⟨.hbm, 553, rfl⟩
abbrev main_v499 : Ref sig .tc := ⟨.hbm, 554, rfl⟩
abbrev main_v500 : Ref sig .tc := ⟨.hbm, 555, rfl⟩
abbrev main_v501 : Ref sig .tc := ⟨.hbm, 556, rfl⟩
abbrev main_v502 : Ref sig .tc := ⟨.hbm, 557, rfl⟩
abbrev main_v503 : Ref sig .tc := ⟨.hbm, 558, rfl⟩
abbrev main_v504 : Ref sig .tc := ⟨.hbm, 559, rfl⟩
abbrev main_v505 : Ref sig .tc := ⟨.hbm, 560, rfl⟩
abbrev main_v506 : Ref sig .tc := ⟨.hbm, 561, rfl⟩
abbrev main_v507 : Ref sig .tc := ⟨.hbm, 562, rfl⟩
abbrev main_v508 : Ref sig .tc := ⟨.hbm, 563, rfl⟩
abbrev main_v509 : Ref sig .tc := ⟨.hbm, 564, rfl⟩
abbrev main_v510 : Ref sig .tc := ⟨.hbm, 565, rfl⟩
abbrev main_v511 : Ref sig .tc := ⟨.hbm, 566, rfl⟩
abbrev main_v512 : Ref sig .tc := ⟨.hbm, 567, rfl⟩
abbrev main_v513 : Ref sig .tc := ⟨.hbm, 568, rfl⟩
abbrev main_v514 : Ref sig .tc := ⟨.hbm, 569, rfl⟩
abbrev main_v515 : Ref sig .tc := ⟨.hbm, 570, rfl⟩
abbrev main_v516 : Ref sig .tc := ⟨.hbm, 571, rfl⟩
abbrev main_v517 : Ref sig .tc := ⟨.hbm, 572, rfl⟩
abbrev main_v518 : Ref sig .tc := ⟨.hbm, 573, rfl⟩
abbrev main_v519 : Ref sig .tc := ⟨.hbm, 574, rfl⟩
abbrev main_v520 : Ref sig .tc := ⟨.hbm, 575, rfl⟩
abbrev main_v521 : Ref sig .tc := ⟨.hbm, 576, rfl⟩
abbrev main_v522 : Ref sig .tc := ⟨.hbm, 577, rfl⟩
abbrev main_v523 : Ref sig .tc := ⟨.hbm, 578, rfl⟩
abbrev main_v524 : Ref sig .tc := ⟨.hbm, 579, rfl⟩
abbrev main_v525 : Ref sig .tc := ⟨.hbm, 580, rfl⟩
abbrev main_v526 : Ref sig .tc := ⟨.hbm, 581, rfl⟩
abbrev main_v527 : Ref sig .tc := ⟨.hbm, 582, rfl⟩
abbrev main_v528 : Ref sig .tc := ⟨.hbm, 583, rfl⟩
abbrev main_v529 : Ref sig .tc := ⟨.hbm, 584, rfl⟩
abbrev main_v530 : Ref sig .tc := ⟨.hbm, 585, rfl⟩
abbrev main_v531 : Ref sig .tc := ⟨.hbm, 586, rfl⟩
abbrev main_v532 : Ref sig .tc := ⟨.hbm, 587, rfl⟩
abbrev main_v533 : Ref sig .tc := ⟨.hbm, 588, rfl⟩
abbrev main_v534 : Ref sig .tc := ⟨.hbm, 589, rfl⟩
abbrev main_v535 : Ref sig .tc := ⟨.hbm, 590, rfl⟩
abbrev main_v536 : Ref sig .tc := ⟨.hbm, 591, rfl⟩
abbrev main_v537 : Ref sig .tc := ⟨.hbm, 592, rfl⟩
abbrev main_v538 : Ref sig .tc := ⟨.hbm, 593, rfl⟩
abbrev main_v539 : Ref sig .tc := ⟨.hbm, 594, rfl⟩
abbrev main_v540 : Ref sig .tc := ⟨.hbm, 595, rfl⟩
abbrev main_v541 : Ref sig .tc := ⟨.hbm, 596, rfl⟩
abbrev main_v542 : Ref sig .tc := ⟨.hbm, 597, rfl⟩
abbrev main_v543 : Ref sig .tc := ⟨.hbm, 598, rfl⟩
abbrev main_v544 : Ref sig .tc := ⟨.hbm, 599, rfl⟩
abbrev main_v545 : Ref sig .tc := ⟨.hbm, 600, rfl⟩
abbrev main_v546 : Ref sig .tc := ⟨.hbm, 601, rfl⟩
abbrev main_v547 : Ref sig .tc := ⟨.hbm, 602, rfl⟩
abbrev main_v548 : Ref sig .tc := ⟨.hbm, 603, rfl⟩
abbrev main_v549 : Ref sig .tc := ⟨.hbm, 604, rfl⟩
abbrev main_v550 : Ref sig .tc := ⟨.hbm, 605, rfl⟩
abbrev main_v551 : Ref sig .tc := ⟨.hbm, 606, rfl⟩
abbrev main_v552 : Ref sig .tc := ⟨.hbm, 607, rfl⟩
abbrev main_v553 : Ref sig .tc := ⟨.hbm, 608, rfl⟩
abbrev main_v554 : Ref sig .tc := ⟨.hbm, 609, rfl⟩
abbrev main_v555 : Ref sig .tc := ⟨.hbm, 610, rfl⟩
abbrev main_v556 : Ref sig .tc := ⟨.hbm, 611, rfl⟩
abbrev main_v557 : Ref sig .tc := ⟨.hbm, 612, rfl⟩
abbrev main_v558 : Ref sig .tc := ⟨.hbm, 613, rfl⟩
abbrev main_v559 : Ref sig .tc := ⟨.hbm, 614, rfl⟩
abbrev main_v560 : Ref sig .tc := ⟨.hbm, 615, rfl⟩
abbrev main_v561 : Ref sig .tc := ⟨.hbm, 616, rfl⟩
abbrev main_v562 : Ref sig .tc := ⟨.hbm, 617, rfl⟩
abbrev main_v563 : Ref sig .tc := ⟨.hbm, 618, rfl⟩
abbrev main_v564 : Ref sig .tc := ⟨.hbm, 619, rfl⟩
abbrev main_v565 : Ref sig .tc := ⟨.hbm, 620, rfl⟩
abbrev main_v566 : Ref sig .tc := ⟨.hbm, 621, rfl⟩
abbrev main_v567 : Ref sig .tc := ⟨.hbm, 622, rfl⟩
abbrev main_v568 : Ref sig .tc := ⟨.hbm, 623, rfl⟩
abbrev main_v569 : Ref sig .tc := ⟨.hbm, 624, rfl⟩
abbrev main_v570 : Ref sig .tc := ⟨.hbm, 625, rfl⟩
abbrev main_v571 : Ref sig .tc := ⟨.hbm, 626, rfl⟩
abbrev main_v572 : Ref sig .tc := ⟨.hbm, 627, rfl⟩
abbrev main_v573 : Ref sig .tc := ⟨.hbm, 628, rfl⟩
abbrev main_v574 : Ref sig .tc := ⟨.hbm, 629, rfl⟩
abbrev main_v575 : Ref sig .tc := ⟨.hbm, 630, rfl⟩
abbrev main_v576 : Ref sig .tc := ⟨.hbm, 631, rfl⟩
abbrev main_v577 : Ref sig .tc := ⟨.hbm, 632, rfl⟩
abbrev main_v578 : Ref sig .tc := ⟨.hbm, 633, rfl⟩
abbrev main_v579 : Ref sig .tc := ⟨.hbm, 634, rfl⟩
abbrev main_v580 : Ref sig .tc := ⟨.hbm, 635, rfl⟩
abbrev main_v581 : Ref sig .tc := ⟨.hbm, 636, rfl⟩
abbrev main_v582 : Ref sig .tc := ⟨.hbm, 637, rfl⟩
abbrev main_v583 : Ref sig .tc := ⟨.hbm, 638, rfl⟩
abbrev main_v584 : Ref sig .tc := ⟨.hbm, 639, rfl⟩
abbrev main_v585 : Ref sig .tc := ⟨.hbm, 640, rfl⟩
abbrev main_v586 : Ref sig .tc := ⟨.hbm, 641, rfl⟩
abbrev main_v587 : Ref sig .tc := ⟨.hbm, 642, rfl⟩
abbrev main_v588 : Ref sig .tc := ⟨.hbm, 643, rfl⟩
abbrev main_v589 : Ref sig .tc := ⟨.hbm, 644, rfl⟩
abbrev main_v590 : Ref sig .tc := ⟨.hbm, 645, rfl⟩
abbrev main_v591 : Ref sig .tc := ⟨.hbm, 646, rfl⟩
abbrev main_v592 : Ref sig .tc := ⟨.hbm, 647, rfl⟩
abbrev main_v593 : Ref sig .tc := ⟨.hbm, 648, rfl⟩
abbrev main_v594 : Ref sig .tc := ⟨.hbm, 649, rfl⟩
abbrev main_v595 : Ref sig .tc := ⟨.hbm, 650, rfl⟩
abbrev main_v596 : Ref sig .tc := ⟨.hbm, 651, rfl⟩
abbrev main_v597 : Ref sig .tc := ⟨.hbm, 652, rfl⟩
abbrev main_v598 : Ref sig .tc := ⟨.hbm, 653, rfl⟩
abbrev main_v599 : Ref sig .tc := ⟨.hbm, 654, rfl⟩
abbrev main_v600 : Ref sig .tc := ⟨.hbm, 655, rfl⟩
abbrev main_v601 : Ref sig .tc := ⟨.hbm, 656, rfl⟩
abbrev main_v602 : Ref sig .tc := ⟨.hbm, 657, rfl⟩
abbrev main_v603 : Ref sig .tc := ⟨.hbm, 658, rfl⟩
abbrev main_v604 : Ref sig .tc := ⟨.hbm, 659, rfl⟩
abbrev main_v605 : Ref sig .tc := ⟨.hbm, 660, rfl⟩
abbrev main_v606 : Ref sig .tc := ⟨.hbm, 661, rfl⟩
abbrev main_v607 : Ref sig .tc := ⟨.hbm, 662, rfl⟩
abbrev main_v608 : Ref sig .tc := ⟨.hbm, 663, rfl⟩
abbrev main_v609 : Ref sig .tc := ⟨.hbm, 664, rfl⟩
abbrev main_v610 : Ref sig .tc := ⟨.hbm, 665, rfl⟩
abbrev main_v611 : Ref sig .tc := ⟨.hbm, 666, rfl⟩
abbrev main_v612 : Ref sig .tc := ⟨.hbm, 667, rfl⟩
abbrev main_v613 : Ref sig .tc := ⟨.hbm, 668, rfl⟩
abbrev main_v614 : Ref sig .tc := ⟨.hbm, 669, rfl⟩
abbrev main_v615 : Ref sig .tc := ⟨.hbm, 670, rfl⟩
abbrev main_v616 : Ref sig .tc := ⟨.hbm, 671, rfl⟩
abbrev main_v617 : Ref sig .tc := ⟨.hbm, 672, rfl⟩
abbrev main_v618 : Ref sig .tc := ⟨.hbm, 673, rfl⟩
abbrev main_v619 : Ref sig .tc := ⟨.hbm, 674, rfl⟩
abbrev main_v620 : Ref sig .tc := ⟨.hbm, 675, rfl⟩
abbrev main_v621 : Ref sig .tc := ⟨.hbm, 676, rfl⟩
abbrev main_v622 : Ref sig .tc := ⟨.hbm, 677, rfl⟩
abbrev main_v623 : Ref sig .tc := ⟨.hbm, 678, rfl⟩
abbrev main_v624 : Ref sig .tc := ⟨.hbm, 679, rfl⟩
abbrev main_v625 : Ref sig .tc := ⟨.hbm, 680, rfl⟩
abbrev main_v626 : Ref sig .tc := ⟨.hbm, 681, rfl⟩
abbrev main_v627 : Ref sig .tc := ⟨.hbm, 682, rfl⟩
abbrev main_v628 : Ref sig .tc := ⟨.hbm, 683, rfl⟩
abbrev main_v629 : Ref sig .tc := ⟨.hbm, 684, rfl⟩
abbrev main_v630 : Ref sig .tc := ⟨.hbm, 685, rfl⟩
abbrev main_v631 : Ref sig .tc := ⟨.hbm, 686, rfl⟩
abbrev main_v632 : Ref sig .tc := ⟨.hbm, 687, rfl⟩
abbrev main_v633 : Ref sig .tc := ⟨.hbm, 688, rfl⟩
abbrev main_v634 : Ref sig .tc := ⟨.hbm, 689, rfl⟩
abbrev main_cst_33 : Ref sig .tc := ⟨.hbm, 690, rfl⟩
abbrev main_v635 : Ref sig .tc := ⟨.hbm, 691, rfl⟩
abbrev main_v636 : Ref sig .tc := ⟨.hbm, 692, rfl⟩
abbrev main_v637 : Ref sig .tc := ⟨.hbm, 693, rfl⟩
abbrev main_v638 : Ref sig .tc := ⟨.hbm, 694, rfl⟩
abbrev main_v639 : Ref sig .tc := ⟨.hbm, 695, rfl⟩
abbrev main_v640 : Ref sig .tc := ⟨.hbm, 696, rfl⟩
abbrev main_v641 : Ref sig .tc := ⟨.hbm, 697, rfl⟩
abbrev main_v642 : Ref sig .tc := ⟨.hbm, 698, rfl⟩
abbrev main_v643 : Ref sig .tc := ⟨.hbm, 699, rfl⟩
abbrev main_v644 : Ref sig .tc := ⟨.hbm, 700, rfl⟩
abbrev main_v645 : Ref sig .tc := ⟨.hbm, 701, rfl⟩
abbrev main_v646 : Ref sig .tc := ⟨.hbm, 702, rfl⟩
abbrev main_v647 : Ref sig .tc := ⟨.hbm, 703, rfl⟩
abbrev main_v648 : Ref sig .tc := ⟨.hbm, 704, rfl⟩
abbrev main_v649 : Ref sig .tc := ⟨.hbm, 705, rfl⟩
abbrev main_v650 : Ref sig .tc := ⟨.hbm, 706, rfl⟩
abbrev main_v651 : Ref sig .tc := ⟨.hbm, 707, rfl⟩
abbrev main_v652 : Ref sig .tc := ⟨.hbm, 708, rfl⟩
abbrev main_v653 : Ref sig .tc := ⟨.hbm, 709, rfl⟩
abbrev main_v654 : Ref sig .tc := ⟨.hbm, 710, rfl⟩
abbrev main_v655 : Ref sig .tc := ⟨.hbm, 711, rfl⟩
abbrev main_v656 : Ref sig .tc := ⟨.hbm, 712, rfl⟩
abbrev main_v657 : Ref sig .tc := ⟨.hbm, 713, rfl⟩
abbrev main_cst_34 : Ref sig .tc := ⟨.hbm, 714, rfl⟩
abbrev main_v658 : Ref sig .tc := ⟨.hbm, 715, rfl⟩
abbrev main_cst_35 : Ref sig .tc := ⟨.hbm, 716, rfl⟩
abbrev main_v659 : Ref sig .tc := ⟨.hbm, 717, rfl⟩
abbrev main_v660 : Ref sig .tc := ⟨.hbm, 718, rfl⟩
abbrev main_v661 : Ref sig .tc := ⟨.hbm, 719, rfl⟩
abbrev main_v662 : Ref sig .tc := ⟨.hbm, 720, rfl⟩
abbrev main_v663 : Ref sig .tc := ⟨.hbm, 721, rfl⟩
abbrev main_v664 : Ref sig .tc := ⟨.hbm, 722, rfl⟩
abbrev main_v665 : Ref sig .tc := ⟨.hbm, 723, rfl⟩
abbrev main_v666 : Ref sig .tc := ⟨.hbm, 724, rfl⟩
abbrev main_v667 : Ref sig .tc := ⟨.hbm, 725, rfl⟩
abbrev main_v668 : Ref sig .tc := ⟨.hbm, 726, rfl⟩
abbrev main_v669 : Ref sig .tc := ⟨.hbm, 727, rfl⟩
abbrev main_v670 : Ref sig .tc := ⟨.hbm, 728, rfl⟩
abbrev main_v671 : Ref sig .tc := ⟨.hbm, 729, rfl⟩
abbrev main_v672 : Ref sig .tc := ⟨.hbm, 730, rfl⟩
abbrev main_v673 : Ref sig .tc := ⟨.hbm, 731, rfl⟩
abbrev main_v674 : Ref sig .tc := ⟨.hbm, 732, rfl⟩
abbrev main_v675 : Ref sig .tc := ⟨.hbm, 733, rfl⟩
abbrev main_v676 : Ref sig .tc := ⟨.hbm, 734, rfl⟩
abbrev main_v677 : Ref sig .tc := ⟨.hbm, 735, rfl⟩
abbrev main_cst_36 : Ref sig .tc := ⟨.hbm, 736, rfl⟩
abbrev main_v678 : Ref sig .tc := ⟨.hbm, 737, rfl⟩
abbrev main_cst_37 : Ref sig .tc := ⟨.hbm, 738, rfl⟩
abbrev main_v679 : Ref sig .tc := ⟨.hbm, 739, rfl⟩
abbrev main_v680 : Ref sig .tc := ⟨.hbm, 740, rfl⟩
abbrev main_v681 : Ref sig .tc := ⟨.hbm, 741, rfl⟩
abbrev main_v682 : Ref sig .tc := ⟨.hbm, 742, rfl⟩
abbrev main_v683 : Ref sig .tc := ⟨.hbm, 743, rfl⟩
abbrev main_v684 : Ref sig .tc := ⟨.hbm, 744, rfl⟩
abbrev main_v685 : Ref sig .tc := ⟨.hbm, 745, rfl⟩
abbrev main_v686 : Ref sig .tc := ⟨.hbm, 746, rfl⟩
abbrev main_v687 : Ref sig .tc := ⟨.hbm, 747, rfl⟩
abbrev main_v688 : Ref sig .tc := ⟨.hbm, 748, rfl⟩
abbrev main_v689 : Ref sig .tc := ⟨.hbm, 749, rfl⟩
abbrev main_v690 : Ref sig .tc := ⟨.hbm, 750, rfl⟩
abbrev main_v691 : Ref sig .tc := ⟨.hbm, 751, rfl⟩
abbrev main_v692 : Ref sig .tc := ⟨.hbm, 752, rfl⟩
abbrev main_v693 : Ref sig .tc := ⟨.hbm, 753, rfl⟩

abbrev nD : Nat := 1
abbrev τ : Topo := Topo.v7x

variable {F : FTy → Type} [FloatOps F]
-- ==== FfnDownWeight.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownWeightReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInner.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x1024, .bf16⟩
  | .hbm, ⟨3, _⟩ => ⟨S2816x1024, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnInnerReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUpWeight.lean ====
abbrev S4096x1024 : Shape := ⟨2, ![4096, 1024]⟩
abbrev S4096x2816 : Shape := ⟨2, ![4096, 2816]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpWeightReferenceIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | .hbm, ⟨8, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInput.lean ====
abbrev S4096x2816 : Shape := ⟨2, ![4096, 2816]⟩
abbrev S1024x2816 : Shape := ⟨2, ![1024, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S4096x2816, .bf16⟩
  | .hbm, ⟨5, _⟩ => ⟨S2816x1024, .f32⟩
  | .hbm, ⟨6, _⟩ => ⟨S2816x1024, .bf16⟩
  | .hbm, ⟨7, _⟩ => ⟨S4096x2816, .bf16⟩
  | .hbm, ⟨8, _⟩ => ⟨S2816x1024, .f32⟩
  | .hbm, ⟨9, _⟩ => ⟨S2816x1024, .bf16⟩
  | .hbm, ⟨10, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInputReferenceIdeal.lean ====
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S_, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== FfnUp.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x1024, .bf16⟩
  | .hbm, ⟨3, _⟩ => ⟨S2816x1024, .f32⟩
  | .hbm, ⟨4, _⟩ => ⟨S2816x1024, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpReferenceIdeal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixerWeight.lean ====
abbrev S4096x1024 : Shape := ⟨2, ![4096, 1024]⟩
abbrev S4096x5376 : Shape := ⟨2, ![4096, 5376]⟩
abbrev S5376x1024 : Shape := ⟨2, ![5376, 1024]⟩
abbrev S4096x1792 : Shape := ⟨2, ![4096, 1792]⟩
abbrev S4096x512 : Shape := ⟨2, ![4096, 512]⟩
abbrev S1792x512 : Shape := ⟨2, ![1792, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x5376, .f32⟩
  | .hbm, ⟨2, _⟩ => ⟨S4096x5376, .bf16⟩
  | .hbm, ⟨3, _⟩ => ⟨S4096x1024, .bf16⟩
  | .hbm, ⟨4, _⟩ => ⟨S5376x1024, .bf16⟩
  | .local _ .vmem, ⟨0, _⟩ => ⟨S4096x1792, .bf16⟩
  | .local _ .vmem, ⟨1, _⟩ => ⟨S4096x1792, .bf16⟩
  | .local _ .vmem, ⟨2, _⟩ => ⟨S4096x512, .bf16⟩
  | .local _ .vmem, ⟨3, _⟩ => ⟨S4096x512, .bf16⟩
  | .local _ .vmem, ⟨4, _⟩ => ⟨S1792x512, .bf16⟩
  | .local _ .vmem, ⟨5, _⟩ => ⟨S1792x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1792x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixerWeightReferenceIdeal.lean ====
abbrev S4096x1024 : Shape := ⟨2, ![4096, 1024]⟩
abbrev S4096x5376 : Shape := ⟨2, ![4096, 5376]⟩
abbrev S_ : Shape := ⟨0, ![]⟩
abbrev S1024x5376 : Shape := ⟨2, ![1024, 5376]⟩
abbrev S5376x1024 : Shape := ⟨2, ![5376, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5376, .f32⟩
  | .hbm, ⟨2, _⟩ => ⟨S_, .f32⟩
  | .hbm, ⟨3, _⟩ => ⟨S1024x5376, .f32⟩
  | .hbm, ⟨4, _⟩ => ⟨S4096x5376, .f32⟩
  | .hbm, ⟨5, _⟩ => ⟨S5376x1024, .f32⟩
  | .hbm, ⟨6, _⟩ => ⟨S1024x5376, .f32⟩
  | .hbm, ⟨7, _⟩ => ⟨S1024x5376, .bf16⟩
  | .hbm, ⟨8, _⟩ => ⟨S5376x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixerInput.lean ====
abbrev S4096x5376 : Shape := ⟨2, ![4096, 5376]⟩
abbrev S4096x2048 : Shape := ⟨2, ![4096, 2048]⟩
abbrev S1024x5376 : Shape := ⟨2, ![1024, 5376]⟩
abbrev S1024x2048 : Shape := ⟨2, ![1024, 2048]⟩
abbrev S5376x1024 : Shape := ⟨2, ![5376, 1024]⟩
abbrev S4096x1024 : Shape := ⟨2, ![4096, 1024]⟩
abbrev S5376x512 : Shape := ⟨2, ![5376, 512]⟩
abbrev S512x2048 : Shape := ⟨2, ![512, 2048]⟩
abbrev S1024x512 : Shape := ⟨2, ![1024, 512]⟩

abbrev nBuf : Space → Nat
  | .hbm => 10
  | .vmem => 10
  | .smem => 0
  | _ => 0

abbrev bufTy : (tb : Table) → Fin (tcTables nBuf tb) → BufTy
  | .hbm, ⟨0, _⟩ => ⟨S4096x5376, .f32⟩
  | .hbm, ⟨1, _⟩ => ⟨S4096x2048, .f32⟩
  | .hbm, ⟨2, _⟩ => ⟨S1024x5376, .f32⟩
  | .hbm, ⟨3, _⟩ => ⟨S1024x2048, .f32⟩
  | .hbm, ⟨4, _⟩ => ⟨S4096x5376, .bf16⟩
  | .hbm, ⟨5, _⟩ => ⟨S5376x1024, .f32⟩
  | .hbm, ⟨6, _⟩ => ⟨S5376x1024, .bf16⟩
  | .hbm, ⟨7, _⟩ => ⟨S4096x2048, .bf16⟩
  | .hbm, ⟨8, _⟩ => ⟨S1024x2048, .bf16⟩
  | .hbm, ⟨9, _⟩ => ⟨S4096x1024, .f32⟩
  | .local _ .vmem, ⟨0, _⟩ => ⟨S1024x5376, .bf16⟩
  | .local _ .vmem, ⟨1, _⟩ => ⟨S1024x5376, .bf16⟩
  | .local _ .vmem, ⟨2, _⟩ => ⟨S5376x512, .bf16⟩
  | .local _ .vmem, ⟨3, _⟩ => ⟨S5376x512, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .f32⟩
  | .local _ .vmem, ⟨9, _⟩ => ⟨S1024x512, .f32⟩
  | _, _ => ⟨S4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5376x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixerInputReferenceIdeal.lean ====
abbrev S4096x5376 : Shape := ⟨2, ![4096, 5376]⟩
abbrev S4096x2048 : Shape := ⟨2, ![4096, 2048]⟩
abbrev S1024x5376 : Shape := ⟨2, ![1024, 5376]⟩
abbrev S1024x2048 : Shape := ⟨2, ![1024, 2048]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5376, .f32⟩
  | .hbm, ⟨1, _⟩ => ⟨S4096x2048, .f32⟩
  | .hbm, ⟨2, _⟩ => ⟨S1024x5376, .f32⟩
  | .hbm, ⟨3, _⟩ => ⟨S1024x2048, .f32⟩
  | .hbm, ⟨4, _⟩ => ⟨S_, .f32⟩
  | .hbm, ⟨5, _⟩ => ⟨S4096x1024, .f32⟩
  | .hbm, ⟨6, _⟩ => ⟨S4096x5376, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== MixerIn.lean ====
abbrev S4096x1024 : Shape := ⟨2, ![4096, 1024]⟩
abbrev S1024x5376 : Shape := ⟨2, ![1024, 5376]⟩
abbrev S5376x1024 : Shape := ⟨2, ![5376, 1024]⟩
abbrev S4096x5376 : Shape := ⟨2, ![4096, 5376]⟩
abbrev S1024x1024 : Shape := ⟨2, ![1024, 1024]⟩
abbrev S1792x1024 : Shape := ⟨2, ![1792, 1024]⟩
abbrev S1024x1792 : Shape := ⟨2, ![1024, 1792]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5376, .f32⟩
  | .hbm, ⟨2, _⟩ => ⟨S4096x1024, .bf16⟩
  | .hbm, ⟨3, _⟩ => ⟨S5376x1024, .f32⟩
  | .hbm, ⟨4, _⟩ => ⟨S5376x1024, .bf16⟩
  | .hbm, ⟨5, _⟩ => ⟨S4096x5376, .f32⟩
  | .local _ .vmem, ⟨0, _⟩ => ⟨S1024x1024, .bf16⟩
  | .local _ .vmem, ⟨1, _⟩ => ⟨S1024x1024, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1792, .f32⟩
  | .local _ .vmem, ⟨5, _⟩ => ⟨S1024x1792, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixerInReferenceIdeal.lean ====
abbrev S4096x1024 : Shape := ⟨2, ![4096, 1024]⟩
abbrev S1024x5376 : Shape := ⟨2, ![1024, 5376]⟩
abbrev S4096x5376 : Shape := ⟨2, ![4096, 5376]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5376, .f32⟩
  | .hbm, ⟨2, _⟩ => ⟨S4096x5376, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MergeWeight.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MergeWeightReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Merge.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MergeReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutWeight.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutWeightReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutInput.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutInputReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutReferenceIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== RetWeight.lean ====
abbrev S4096x512 : Shape := ⟨2, ![4096, 512]⟩
abbrev S4096x1024 : Shape := ⟨2, ![4096, 1024]⟩
abbrev S512x1024 : Shape := ⟨2, ![512, 1024]⟩
abbrev S4096x256 : Shape := ⟨2, ![4096, 256]⟩
abbrev S512x256 : Shape := ⟨2, ![512, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .bf16⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S512x256, .bf16⟩
  | .local _ .vmem, ⟨4, _⟩ => ⟨S512x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetWeightReferenceIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RetInput.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S4096x1024, .bf16⟩
  | .hbm, ⟨3, _⟩ => ⟨S512x1024, .bf16⟩
  | .hbm, ⟨4, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetInputReferenceIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== RetOut.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x512, .bf16⟩
  | .hbm, ⟨3, _⟩ => ⟨S512x1024, .bf16⟩
  | .hbm, ⟨4, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetOutReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleWeight.lean ====
abbrev S4096x256 : Shape := ⟨2, ![4096, 256]⟩
abbrev S4096x1024 : Shape := ⟨2, ![4096, 1024]⟩
abbrev S256x1024 : Shape := ⟨2, ![256, 1024]⟩
abbrev S256x256 : Shape := ⟨2, ![256, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x256, .bf16⟩
  | .hbm, ⟨3, _⟩ => ⟨S4096x1024, .bf16⟩
  | .hbm, ⟨4, _⟩ => ⟨S256x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S256x256, .bf16⟩
  | .local _ .vmem, ⟨4, _⟩ => ⟨S256x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PleWeightReferenceIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ple.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x256, .bf16⟩
  | .hbm, ⟨3, _⟩ => ⟨S256x1024, .bf16⟩
  | .hbm, ⟨4, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PleReferenceIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Swiglu.lean ====
abbrev S4096x2816 : Shape := ⟨2, ![4096, 2816]⟩
abbrev S512x2816 : Shape := ⟨2, ![512, 2816]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluReferenceIdeal.lean ====
abbrev S4096x2816 : Shape := ⟨2, ![4096, 2816]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S_, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== SwigluGrad.lean ====
abbrev S4096x2816 : Shape := ⟨2, ![4096, 2816]⟩
abbrev S512x2816 : Shape := ⟨2, ![512, 2816]⟩

abbrev nBuf : Space → Nat
  | .hbm => 8
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x2816, .bf16⟩
  | .hbm, ⟨4, _⟩ => ⟨S4096x2816, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluGradReferenceIdeal.lean ====
abbrev S4096x2816 : Shape := ⟨2, ![4096, 2816]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | .hbm, ⟨24, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== GatesGrad.lean ====
abbrev S4096x1024 : Shape := ⟨2, ![4096, 1024]⟩
abbrev S4096x2048 : Shape := ⟨2, ![4096, 2048]⟩
abbrev S1x2048 : Shape := ⟨2, ![1, 2048]⟩
abbrev S512x1024 : Shape := ⟨2, ![512, 1024]⟩
abbrev S512x2048 : Shape := ⟨2, ![512, 2048]⟩
abbrev S1x1024 : Shape := ⟨2, ![1, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1x2048, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4096x2048, .bf16⟩
  | .hbm, ⟨8, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_29 : BitVec 32 := 0#32
  let v51 : BitVec 1 := Scalar.cmpi .ne v50 c0_i32_29
  v51

def k0_cond2 (i : grid0.Coords) : BitVec 1 :=
  let arg0 : BitVec 32 := BitVec.ofNat 32 (i 0).val
  let c0_i32_30 : BitVec 32 := 0#32
  let v52 : BitVec 1 := Scalar.cmpi .sgt arg0 c0_i32_30
  let v53 : BitVec 32 := Scalar.extui v52
  let c0_i32_31 : BitVec 32 := 0#32
  let v54 : BitVec 1 := Scalar.cmpi .ne v53 c0_i32_31
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GatesGradReferenceIdeal.lean ====
abbrev S4096x1024 : Shape := ⟨2, ![4096, 1024]⟩
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1x2048, .f32⟩
  | .hbm, ⟨3, _⟩ => ⟨S4096x1024, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x1024, .bf16⟩
  | .hbm, ⟨36, _⟩ => ⟨S4096x1024, .bf16⟩
  | .hbm, ⟨37, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Gates.lean ====
abbrev S4096x2048 : Shape := ⟨2, ![4096, 2048]⟩
abbrev S1x2048 : Shape := ⟨2, ![1, 2048]⟩
abbrev S4096x1024 : Shape := ⟨2, ![4096, 1024]⟩
abbrev S512x2048 : Shape := ⟨2, ![512, 2048]⟩
abbrev S512x1024 : Shape := ⟨2, ![512, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S4096x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesReferenceIdeal.lean ====
abbrev S4096x2048 : Shape := ⟨2, ![4096, 2048]⟩
abbrev S1x2048 : Shape := ⟨2, ![1, 2048]⟩
abbrev S4096x1024 : Shape := ⟨2, ![4096, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Rms.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsAddHalf.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RmsAddHalfReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== RmsAdd.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RmsAddReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mm.FfnDownWeight.lean ====
module

public import proofs.«01_k».proof.Defs
public import proofs.«01_k».proof.Proof.Gen.FfnDownWeightIdeal.Value
public import proofs.«01_k».proof.Proof.Gen.FfnDownWeightReferenceIdeal.Read
public import Idealize.ShloMosaic.Lib.Pointwise
public import Idealize.ShloMosaic.Lib.StableHlo.RunRead

@[expose] public section

set_option maxRecDepth 16384

noncomputable section

namespace Cert.FfnDownWeightIdeal.Product

open Cert.FfnDownWeightIdeal Cert.FfnDownWeightIdeal.Gen Cert.FfnDownWeightIdeal.Value
open Idealize.ShloMosaic Idealize.ShloMosaic.TcCoe Idealize.SL.Sem
open Idealize.ShloMosaic.Pipeline (Dat)

/-- One block of the result is the contraction of the blocks it is computed from. -/
theorem block_apply (x0 : Vec Ideal S4096x1408 .bf16) (x1 : Vec Ideal S4096x512 .bf16) (j : S1408x512.Idx) :
    out0_2 x0 x1 j = (∑ k : Fin 4096, x0 (ix2 k (j 0)) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = 0 ∧ win0_0.index t 1 = win0_2.index t 0 ∧ win0_1.index t 0 = 0 ∧ win0_1.index t 1 = win0_2.index t 1 ∧ win0_2.index t 0 = t.val / 2 ∧ win0_2.index t 1 = t.val % 2 ∧ (cfg0.win 2).flush t = true := by
  decide +kernel

variable (m : (ℓ : Loc nD τ sig) → Buf (Elt Ideal) ℓ)

/-- An argument array. -/
abbrev arg0 (c : Dev nD) : S4096x2816.Idx → EReal := m ((c : Thread nD τ).loc main_arg0)
/-- An argument array. -/
abbrev arg1 (c : Dev nD) : S4096x1024.Idx → EReal := m ((c : Thread nD τ).loc main_arg1)

theorem entry0 (c : Dev nD) : (V m c main_v0 : S4096x2816.Idx → EReal) = arg0 m c := by
  dsimp only [V, hostOps0]
  after_reads_simp
  rfl

theorem entry1 (c : Dev nD) : (V m c main_v1 : S4096x1024.Idx → EReal) = arg1 m c := by
  dsimp only [V, hostOps0]
  after_reads_simp
  rfl

/-- The product of whole arrays. -/
def product (A0 : S4096x2816.Idx → EReal) (A1 : S4096x1024.Idx → EReal) : S2816x1024.Idx → EReal :=
  fun i => (∑ k : Fin 4096, A0 (ix2 k (i 0)) * A1 (ix2 k (i 1)))

/-- The product, over the arguments. -/
def value (c : Dev nD) : S2816x1024.Idx → EReal :=
  product (arg0 m c) (arg1 m c)

theorem point_apply (c : Dev nD) (t : Fin cfg0.N) (y : S1408x512.Idx) (i : S2816x1024.Idx)
    (e0 : win0_2.index t 0 * 1408 + (y 0).val = (i 0).val) (e1 : win0_2.index t 1 * 512 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 k (y 0))) = _
    refine congrArg (V m c main_v0) (funext fun a => Fin.ext ((win0_0.rect_emb_val t _ a).trans ?_))
    match a with
    | ⟨0, _⟩ => show win0_0.index t 0 * 4096 + k.val = k.val; omega
    | ⟨1, _⟩ => show win0_0.index t 1 * 1408 + (y 0).val = (i 0).val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 4096 + k.val = k.val; omega
    | ⟨1, _⟩ => show win0_1.index t 1 * 512 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 2816 := (i 0).isLt
    have h1 : (i 1).val < 1024 := (i 1).isLt
    obtain ⟨t, ht⟩ : ∃ t : Fin cfg0.N, t.val = (i 0).val / 1408 * 2 + (i 1).val / 512 :=
      ⟨⟨_, by have : cfg0.N = 4 := N_0; omega⟩, rfl⟩
    obtain ⟨-, -, -, -, r0, r1, hf⟩ := idx_of t
    refine ⟨t, hf, ?_⟩
    let y : S1408x512.Idx := ix2 ⟨(i 0).val % 1408, Nat.mod_lt _ (by decide)⟩ ⟨(i 1).val % 512, Nat.mod_lt _ (by decide)⟩
    have he : ((cfg0.win 2).blk t).view.emb y = i := funext fun a => Fin.ext (by
      refine (win0_2.rect_emb_val t y a).trans ?_
      match a with
      | ⟨0, _⟩ => show win0_2.index t 0 * 1408 + (i 0).val % 1408 = (i 0).val; omega
      | ⟨1, _⟩ => show win0_2.index t 1 * 512 + (i 1).val % 512 = (i 1).val; omega)
    rw [← he]
    exact Finset.mem_map.mpr ⟨y, Finset.mem_univ _, rfl⟩

/-- The reference computes the same product. -/
theorem reference_eq (X0 : S4096x2816.Idx → EReal) (X1 : S4096x1024.Idx → EReal) :
    Cert.FfnDownWeightReferenceIdeal.Read.val_main_v4 (F := Ideal) X0 X1 = product X0 X1 := by
  funext i
  unfold product
  pointwise [Cert.FfnDownWeightReferenceIdeal.Read.val_main_v0, Cert.FfnDownWeightReferenceIdeal.Read.val_main_v1, Cert.FfnDownWeightReferenceIdeal.Read.val_main_v2, Cert.FfnDownWeightReferenceIdeal.Read.val_main_v3, Cert.FfnDownWeightReferenceIdeal.Read.val_main_v4]
  all_goals first
    | rfl
    | exact Finset.sum_congr rfl fun k _ => mul_comm _ _

/-- The kernel and the reference end with equal results. -/
theorem algebraic : Cert.algebraic_FfnDownWeightIdeal_FfnDownWeightReferenceIdeal (hFfnDownWeightIdeal := Cert.FfnDownWeightIdeal.Gen.facts) (hFfnDownWeightReferenceIdeal := Cert.FfnDownWeightReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.FfnDownWeightReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.FfnDownWeightIdeal.Product

end
-- ==== Proof.Mm.FfnInner.lean ====
module

public import proofs.«01_k».proof.Defs
public import proofs.«01_k».proof.Proof.Gen.FfnInnerIdeal.Value
public import proofs.«01_k».proof.Proof.Gen.FfnInnerReferenceIdeal.Read
public import Idealize.ShloMosaic.Lib.Pointwise
public import Idealize.ShloMosaic.Lib.StableHlo.RunRead

@[expose] public section

set_option maxRecDepth 16384

noncomputable section

namespace Cert.FfnInnerIdeal.Product

open Cert.FfnInnerIdeal Cert.FfnInnerIdeal.Gen Cert.FfnInnerIdeal.Value
open Idealize.ShloMosaic Idealize.ShloMosaic.TcCoe Idealize.SL.Sem
open Idealize.ShloMosaic.Pipeline (Dat)

/-- One block of the result is the contraction of the blocks it is computed from. -/
theorem block_apply (x0 : Vec Ideal S1024x1024 .bf16) (x1 : Vec Ideal S1408x1024 .bf16) (j : S1024x1408.Idx) :
    out0_2 x0 x1 j = (∑ k : Fin 1024, x0 (ix2 (j 0) k) * x1 (ix2 (j 1) k)) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = win0_2.index t 0 ∧ win0_0.index t 1 = 0 ∧ win0_1.index t 0 = win0_2.index t 1 ∧ win0_1.index t 1 = 0 ∧ win0_2.index t 0 = t.val / 2 ∧ win0_2.index t 1 = t.val % 2 ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S2816x1024.Idx → EReal := m ((c : Thread nD τ).loc main_arg1)

theorem entry0 (c : Dev nD) : (V m c main_v0 : S4096x1024.Idx → EReal) = arg0 m c := by
  dsimp only [V, hostOps0]
  after_reads_simp
  rfl

theorem entry1 (c : Dev nD) : (V m c main_v1 : S2816x1024.Idx → EReal) = arg1 m c := by
  dsimp only [V, hostOps0]
  after_reads_simp
  rfl

/-- The product of whole arrays. -/
def product (A0 : S4096x1024.Idx → EReal) (A1 : S2816x1024.Idx → EReal) : S4096x2816.Idx → EReal :=
  fun i => (∑ k : Fin 1024, A0 (ix2 (i 0) k) * A1 (ix2 (i 1) k))

/-- The product, over the arguments. -/
def value (c : Dev nD) : S4096x2816.Idx → EReal :=
  product (arg0 m c) (arg1 m c)

theorem point_apply (c : Dev nD) (t : Fin cfg0.N) (y : S1024x1408.Idx) (i : S4096x2816.Idx)
    (e0 : win0_2.index t 0 * 1024 + (y 0).val = (i 0).val) (e1 : win0_2.index t 1 * 1408 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 (y 0) k)) = _
    refine congrArg (V m c main_v0) (funext fun a => Fin.ext ((win0_0.rect_emb_val t _ a).trans ?_))
    match a with
    | ⟨0, _⟩ => show win0_0.index t 0 * 1024 + (y 0).val = (i 0).val; omega
    | ⟨1, _⟩ => show win0_0.index t 1 * 1024 + k.val = k.val; omega
  · show V m c main_v1 ((win0_1.rect t).emb (ix2 (y 1) k)) = _
    refine congrArg (V m c main_v1) (funext fun a => Fin.ext ((win0_1.rect_emb_val t _ a).trans ?_))
    match a with
    | ⟨0, _⟩ => show win0_1.index t 0 * 1408 + (y 1).val = (i 1).val; omega
    | ⟨1, _⟩ => show win0_1.index t 1 * 1024 + k.val = k.val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 4096 := (i 0).isLt
    have h1 : (i 1).val < 2816 := (i 1).isLt
    obtain ⟨t, ht⟩ : ∃ t : Fin cfg0.N, t.val = (i 0).val / 1024 * 2 + (i 1).val / 1408 :=
      ⟨⟨_, by have : cfg0.N = 8 := N_0; omega⟩, rfl⟩
    obtain ⟨-, -, -, -, r0, r1, hf⟩ := idx_of t
    refine ⟨t, hf, ?_⟩
    let y : S1024x1408.Idx := ix2 ⟨(i 0).val % 1024, Nat.mod_lt _ (by decide)⟩ ⟨(i 1).val % 1408, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 1408 + (i 1).val % 1408 = (i 1).val; omega)
    rw [← he]
    exact Finset.mem_map.mpr ⟨y, Finset.mem_univ _, rfl⟩

/-- The reference computes the same product. -/
theorem reference_eq (X0 : S4096x1024.Idx → EReal) (X1 : S2816x1024.Idx → EReal) :
    Cert.FfnInnerReferenceIdeal.Read.val_main_v3 (F := Ideal) X0 X1 = product X0 X1 := by
  funext i
  unfold product
  pointwise [Cert.FfnInnerReferenceIdeal.Read.val_main_v0, Cert.FfnInnerReferenceIdeal.Read.val_main_v1, Cert.FfnInnerReferenceIdeal.Read.val_main_v2, Cert.FfnInnerReferenceIdeal.Read.val_main_v3]
  all_goals first
    | rfl
    | exact Finset.sum_congr rfl fun k _ => mul_comm _ _

/-- The kernel and the reference end with equal results. -/
theorem algebraic : Cert.algebraic_FfnInnerIdeal_FfnInnerReferenceIdeal (hFfnInnerIdeal := Cert.FfnInnerIdeal.Gen.facts) (hFfnInnerReferenceIdeal := Cert.FfnInnerReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.FfnInnerReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.FfnInnerIdeal.Product

end
-- ==== Proof.Mm.FfnUpWeight.lean ====
module

public import proofs.«01_k».proof.Defs
public import proofs.«01_k».proof.Proof.Gen.FfnUpWeightIdeal.Value
public import proofs.«01_k».proof.Proof.Gen.FfnUpWeightReferenceIdeal.Read
public import Idealize.ShloMosaic.Lib.Pointwise
public import Idealize.ShloMosaic.Lib.StableHlo.RunRead

@[expose] public section

set_option maxRecDepth 16384

noncomputable section

namespace Cert.FfnUpWeightIdeal.Product

open Cert.FfnUpWeightIdeal Cert.FfnUpWeightIdeal.Gen Cert.FfnUpWeightIdeal.Value
open Idealize.ShloMosaic Idealize.ShloMosaic.TcCoe Idealize.SL.Sem
open Idealize.ShloMosaic.Pipeline (Dat)

/-- One block of the result is the contraction of the blocks it is computed from. -/
theorem block_apply (x0 : Vec Ideal S4096x1408 .bf16) (x1 : Vec Ideal S4096x512 .bf16) (j : S1408x512.Idx) :
    out0_2 x0 x1 j = (∑ k : Fin 4096, x0 (ix2 k (j 0)) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = 0 ∧ win0_0.index t 1 = win0_2.index t 0 ∧ win0_1.index t 0 = 0 ∧ win0_1.index t 1 = win0_2.index t 1 ∧ win0_2.index t 0 = t.val / 2 ∧ win0_2.index t 1 = t.val % 2 ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S4096x2816.Idx → EReal := m ((c : Thread nD τ).loc main_arg1)

theorem entry0 (c : Dev nD) : (V m c main_v0 : S4096x2816.Idx → EReal) = arg1 m c := by
  dsimp only [V, hostOps0]
  after_reads_simp
  rfl

theorem entry1 (c : Dev nD) : (V m c main_v1 : S4096x1024.Idx → EReal) = arg0 m c := by
  dsimp only [V, hostOps0]
  after_reads_simp
  rfl

/-- The product of whole arrays. -/
def product (A0 : S4096x2816.Idx → EReal) (A1 : S4096x1024.Idx → EReal) : S2816x1024.Idx → EReal :=
  fun i => (∑ k : Fin 4096, A0 (ix2 k (i 0)) * A1 (ix2 k (i 1)))

/-- The product, over the arguments. -/
def value (c : Dev nD) : S2816x1024.Idx → EReal :=
  product (arg1 m c) (arg0 m c)

theorem point_apply (c : Dev nD) (t : Fin cfg0.N) (y : S1408x512.Idx) (i : S2816x1024.Idx)
    (e0 : win0_2.index t 0 * 1408 + (y 0).val = (i 0).val) (e1 : win0_2.index t 1 * 512 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 k (y 0))) = _
    refine congrArg (V m c main_v0) (funext fun a => Fin.ext ((win0_0.rect_emb_val t _ a).trans ?_))
    match a with
    | ⟨0, _⟩ => show win0_0.index t 0 * 4096 + k.val = k.val; omega
    | ⟨1, _⟩ => show win0_0.index t 1 * 1408 + (y 0).val = (i 0).val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 4096 + k.val = k.val; omega
    | ⟨1, _⟩ => show win0_1.index t 1 * 512 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 2816 := (i 0).isLt
    have h1 : (i 1).val < 1024 := (i 1).isLt
    obtain ⟨t, ht⟩ : ∃ t : Fin cfg0.N, t.val = (i 0).val / 1408 * 2 + (i 1).val / 512 :=
      ⟨⟨_, by have : cfg0.N = 4 := N_0; omega⟩, rfl⟩
    obtain ⟨-, -, -, -, r0, r1, hf⟩ := idx_of t
    refine ⟨t, hf, ?_⟩
    let y : S1408x512.Idx := ix2 ⟨(i 0).val % 1408, Nat.mod_lt _ (by decide)⟩ ⟨(i 1).val % 512, Nat.mod_lt _ (by decide)⟩
    have he : ((cfg0.win 2).blk t).view.emb y = i := funext fun a => Fin.ext (by
      refine (win0_2.rect_emb_val t y a).trans ?_
      match a with
      | ⟨0, _⟩ => show win0_2.index t 0 * 1408 + (i 0).val % 1408 = (i 0).val; omega
      | ⟨1, _⟩ => show win0_2.index t 1 * 512 + (i 1).val % 512 = (i 1).val; omega)
    rw [← he]
    exact Finset.mem_map.mpr ⟨y, Finset.mem_univ _, rfl⟩

/-- The reference computes the same product. -/
theorem reference_eq (X0 : S4096x1024.Idx → EReal) (X1 : S4096x2816.Idx → EReal) :
    Cert.FfnUpWeightReferenceIdeal.Read.val_main_v5 (F := Ideal) X0 X1 = product X1 X0 := by
  funext i
  unfold product
  pointwise [Cert.FfnUpWeightReferenceIdeal.Read.val_main_v0, Cert.FfnUpWeightReferenceIdeal.Read.val_main_v1, Cert.FfnUpWeightReferenceIdeal.Read.val_main_v2, Cert.FfnUpWeightReferenceIdeal.Read.val_main_v3, Cert.FfnUpWeightReferenceIdeal.Read.val_main_v4, Cert.FfnUpWeightReferenceIdeal.Read.val_main_v5]
  all_goals first
    | rfl
    | exact Finset.sum_congr rfl fun k _ => mul_comm _ _

/-- The kernel and the reference end with equal results. -/
theorem algebraic : Cert.algebraic_FfnUpWeightIdeal_FfnUpWeightReferenceIdeal (hFfnUpWeightIdeal := Cert.FfnUpWeightIdeal.Gen.facts) (hFfnUpWeightReferenceIdeal := Cert.FfnUpWeightReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.FfnUpWeightReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.FfnUpWeightIdeal.Product

end
-- ==== Proof.Mm.FfnInput.lean ====
module

public import proofs.«01_k».proof.Defs
public import proofs.«01_k».proof.Proof.Gen.FfnInputIdeal.Value
public import proofs.«01_k».proof.Proof.Gen.FfnInputReferenceIdeal.Read
public import Idealize.ShloMosaic.Lib.Pointwise
public import Idealize.ShloMosaic.Lib.StableHlo.RunRead

@[expose] public section

set_option maxRecDepth 16384

noncomputable section

namespace Cert.FfnInputIdeal.Product

open Cert.FfnInputIdeal Cert.FfnInputIdeal.Gen Cert.FfnInputIdeal.Value
open Idealize.ShloMosaic Idealize.ShloMosaic.TcCoe Idealize.SL.Sem
open Idealize.ShloMosaic.Pipeline (Dat)

/-- One block of the result is the contraction of the blocks it is computed from. -/
theorem block_apply (x0 : Vec Ideal S512x2816 .bf16) (x1 : Vec Ideal S2816x1024 .bf16) (x2 : Vec Ideal S512x2816 .bf16) (x3 : Vec Ideal S2816x1024 .bf16) (j : S512x1024.Idx) :
    out0_4 x0 x1 x2 x3 j = (∑ k : Fin 2816, x0 (ix2 (j 0) k) * x1 (ix2 k (j 1))) + (∑ k : Fin 2816, x2 (ix2 (j 0) k) * x3 (ix2 k (j 1))) := by
  have z : (![0, 0] : Fin 2 → Nat) = fun _ => 0 := by decide
  unfold out0_4
  rw [View.canon_unit_zero z, View.ld_unit_zero z, View.ld_unit_zero z, View.ld_unit_zero z, View.ld_unit_zero z]
  pointwise [k0_pay1]

/-- Where the blocks of a grid point lie. -/
theorem idx_of : ∀ t : Fin cfg0.N, win0_0.index t 0 = win0_4.index t 0 ∧ win0_0.index t 1 = 0 ∧ win0_1.index t 0 = 0 ∧ win0_1.index t 1 = win0_4.index t 1 ∧ win0_2.index t 0 = win0_4.index t 0 ∧ win0_2.index t 1 = 0 ∧ win0_3.index t 0 = 0 ∧ win0_3.index t 1 = win0_4.index t 1 ∧ win0_4.index t 0 = t.val / 1 ∧ win0_4.index t 1 = t.val % 1 ∧ (cfg0.win 4).flush t = true := by
  decide +kernel

variable (m : (ℓ : Loc nD τ sig) → Buf (Elt Ideal) ℓ)

/-- An argument array. -/
abbrev arg0 (c : Dev nD) : S4096x2816.Idx → EReal := m ((c : Thread nD τ).loc main_arg0)
/-- An argument array. -/
abbrev arg1 (c : Dev nD) : S4096x2816.Idx → EReal := m ((c : Thread nD τ).loc main_arg1)
/-- An argument array. -/
abbrev arg2 (c : Dev nD) : S1024x2816.Idx → EReal := m ((c : Thread nD τ).loc main_arg2)
/-- An argument array. -/
abbrev arg3 (c : Dev nD) : S1024x2816.Idx → EReal := m ((c : Thread nD τ).loc main_arg3)

theorem entry0 (c : Dev nD) : (V m c main_v0 : S4096x2816.Idx → EReal) = arg0 m c := by
  dsimp only [V, hostOps0]
  after_reads_simp
  rfl

theorem entry1 (c : Dev nD) : (V m c main_v2 : S2816x1024.Idx → EReal) = (fun j => arg2 m c (ix2 (j 1) (j 0))) := by
  dsimp only [V, hostOps0]
  after_reads_simp
  funext j
  pointwise []

theorem entry2 (c : Dev nD) : (V m c main_v3 : S4096x2816.Idx → EReal) = arg1 m c := by
  dsimp only [V, hostOps0]
  after_reads_simp
  rfl

theorem entry3 (c : Dev nD) : (V m c main_v5 : S2816x1024.Idx → EReal) = (fun j => arg3 m c (ix2 (j 1) (j 0))) := by
  dsimp only [V, hostOps0]
  after_reads_simp
  funext j
  pointwise []

/-- The product of whole arrays. -/
def product (A0 : S4096x2816.Idx → EReal) (A1 : S2816x1024.Idx → EReal) (A2 : S4096x2816.Idx → EReal) (A3 : S2816x1024.Idx → EReal) : S4096x1024.Idx → EReal :=
  fun i => (∑ k : Fin 2816, A0 (ix2 (i 0) k) * A1 (ix2 k (i 1))) + (∑ k : Fin 2816, A2 (ix2 (i 0) k) * A3 (ix2 k (i 1)))

/-- The product, over the arguments. -/
def value (c : Dev nD) : S4096x1024.Idx → EReal :=
  product (arg0 m c) (fun j => arg2 m c (ix2 (j 1) (j 0))) (arg1 m c) (fun j => arg3 m c (ix2 (j 1) (j 0)))

theorem point_apply (c : Dev nD) (t : Fin cfg0.N) (y : S512x1024.Idx) (i : S4096x1024.Idx)
    (e0 : win0_4.index t 0 * 512 + (y 0).val = (i 0).val) (e1 : win0_4.index t 1 * 1024 + (y 1).val = (i 1).val) :
    out0_4 (iblk m c 0 t) (iblk m c 1 t) (iblk m c 2 t) (iblk m c 3 t) y = value m c i := by
  obtain ⟨a0, b0, a1, b1, a2, b2, a3, b3, -, -, -⟩ := idx_of t
  have hv : value m c = product (V m c main_v0) (V m c main_v2) (V m c main_v3) (V m c main_v5) := by
    unfold value
    rw [entry0 m c, entry1 m c, entry2 m c, entry3 m c]
    all_goals rfl
  rw [block_apply, hv]
  have l : ∀ (u v x y : EReal), u = x → v = y → u * v = x * y := fun _ _ _ _ h h' => by rw [h, h']
  refine congrArg₂ (· + ·) ?_ ?_
  · refine Finset.sum_congr rfl fun k _ => l _ _ _ _ ?_ ?_
    · show V m c main_v0 ((win0_0.rect t).emb (ix2 (y 0) k)) = _
      refine congrArg (V m c main_v0) (funext fun a => Fin.ext ((win0_0.rect_emb_val t _ a).trans ?_))
      match a with
      | ⟨0, _⟩ => show win0_0.index t 0 * 512 + (y 0).val = (i 0).val; omega
      | ⟨1, _⟩ => show win0_0.index t 1 * 2816 + k.val = k.val; omega
    · show V m c main_v2 ((win0_1.rect t).emb (ix2 k (y 1))) = _
      refine congrArg (V m c main_v2) (funext fun a => Fin.ext ((win0_1.rect_emb_val t _ a).trans ?_))
      match a with
      | ⟨0, _⟩ => show win0_1.index t 0 * 2816 + k.val = k.val; omega
      | ⟨1, _⟩ => show win0_1.index t 1 * 1024 + (y 1).val = (i 1).val; omega
  · refine Finset.sum_congr rfl fun k _ => l _ _ _ _ ?_ ?_
    · show V m c main_v3 ((win0_2.rect t).emb (ix2 (y 0) k)) = _
      refine congrArg (V m c main_v3) (funext fun a => Fin.ext ((win0_2.rect_emb_val t _ a).trans ?_))
      match a with
      | ⟨0, _⟩ => show win0_2.index t 0 * 512 + (y 0).val = (i 0).val; omega
      | ⟨1, _⟩ => show win0_2.index t 1 * 2816 + k.val = k.val; omega
    · show V m c main_v5 ((win0_3.rect t).emb (ix2 k (y 1))) = _
      refine congrArg (V m c main_v5) (funext fun a => Fin.ext ((win0_3.rect_emb_val t _ a).trans ?_))
      match a with
      | ⟨0, _⟩ => show win0_3.index t 0 * 2816 + k.val = k.val; omega
      | ⟨1, _⟩ => show win0_3.index t 1 * 1024 + (y 1).val = (i 1).val; omega

/-- The result array of the kernel. -/
theorem array_eq (c : Dev nD) : (dats m 0 c).arrAt 4 cfg0.N = value m c := by
  refine (dats m 0 c).arrAt_eq_of_cover 4 (value m c) (fun t hf => ?_) (fun i => ?_)
  · rw [flushed4]
    refine funext fun y => ?_
    exact point_apply m c t y (((cfg0.win 4).blk t).view.emb y) (win0_4.rect_emb_val t y 0).symm (win0_4.rect_emb_val t y 1).symm
  · have h0 : (i 0).val < 4096 := (i 0).isLt
    have h1 : (i 1).val < 1024 := (i 1).isLt
    obtain ⟨t, ht⟩ : ∃ t : Fin cfg0.N, t.val = (i 0).val / 512 * 1 + (i 1).val / 1024 :=
      ⟨⟨_, by have : cfg0.N = 8 := N_0; omega⟩, rfl⟩
    obtain ⟨-, -, -, -, -, -, -, -, r0, r1, hf⟩ := idx_of t
    refine ⟨t, hf, ?_⟩
    let y : S512x1024.Idx := ix2 ⟨(i 0).val % 512, Nat.mod_lt _ (by decide)⟩ ⟨(i 1).val % 1024, Nat.mod_lt _ (by decide)⟩
    have he : ((cfg0.win 4).blk t).view.emb y = i := funext fun a => Fin.ext (by
      refine (win0_4.rect_emb_val t y a).trans ?_
      match a with
      | ⟨0, _⟩ => show win0_4.index t 0 * 512 + (i 0).val % 512 = (i 0).val; omega
      | ⟨1, _⟩ => show win0_4.index t 1 * 1024 + (i 1).val % 1024 = (i 1).val; omega)
    rw [← he]
    exact Finset.mem_map.mpr ⟨y, Finset.mem_univ _, rfl⟩

/-- The reference computes the same product. -/
theorem reference_eq (X0 : S4096x2816.Idx → EReal) (X1 : S4096x2816.Idx → EReal) (X2 : S1024x2816.Idx → EReal) (X3 : S1024x2816.Idx → EReal) :
    Cert.FfnInputReferenceIdeal.Read.val_main_v5 (F := Ideal) X0 X1 X2 X3 = product X0 (fun j => X2 (ix2 (j 1) (j 0))) X1 (fun j => X3 (ix2 (j 1) (j 0))) := by
  funext i
  unfold product
  pointwise [Cert.FfnInputReferenceIdeal.Read.val_main_v0, Cert.FfnInputReferenceIdeal.Read.val_main_v1, Cert.FfnInputReferenceIdeal.Read.val_main_v2, Cert.FfnInputReferenceIdeal.Read.val_main_v3, Cert.FfnInputReferenceIdeal.Read.val_main_v4, Cert.FfnInputReferenceIdeal.Read.val_main_v5]
  all_goals first
    | rfl
    | exact add_comm _ _
    | exact congrArg₂ (· + ·) rfl (Finset.sum_congr rfl fun k _ => mul_comm _ _)
    | exact congrArg₂ (· + ·) (Finset.sum_congr rfl fun k _ => mul_comm _ _) rfl
    | exact congrArg₂ (· + ·) (Finset.sum_congr rfl fun k _ => mul_comm _ _) (Finset.sum_congr rfl fun k _ => mul_comm _ _)
    | exact (add_comm _ _).trans (congrArg₂ (· + ·) rfl (Finset.sum_congr rfl fun k _ => mul_comm _ _))
    | exact (add_comm _ _).trans (congrArg₂ (· + ·) (Finset.sum_congr rfl fun k _ => mul_comm _ _) rfl)
    | exact (add_comm _ _).trans (congrArg₂ (· + ·) (Finset.sum_congr rfl fun k _ => mul_comm _ _) (Finset.sum_congr rfl fun k _ => mul_comm _ _))

/-- The kernel and the reference end with equal results. -/
theorem algebraic : Cert.algebraic_FfnInputIdeal_FfnInputReferenceIdeal (hFfnInputIdeal := Cert.FfnInputIdeal.Gen.facts) (hFfnInputReferenceIdeal := Cert.FfnInputReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.FfnInputReferenceIdeal.Value.run m' g')
    obtain ⟨h0, hk⟩ := h c
    obtain ⟨e0, e1, e2, e3⟩ := hargs c
    refine ⟨h0.trans ?_, hk⟩
    refine Eq.trans ?_ (reference_eq (arg0 m c) (arg1 m c) (arg2 m c) (arg3 m c))
    rw [show arg0 m c = _ from e0.symm, show arg1 m c = _ from e1.symm, show arg2 m c = _ from e2.symm, show arg3 m c = _ from e3.symm]
    rfl

end Cert.FfnInputIdeal.Product

end
-- ==== Proof.Mm.FfnUp.lean ====
module

public import proofs.«01_k».proof.Defs
public import proofs.«01_k».proof.Proof.Gen.FfnUpIdeal.Value
public import proofs.«01_k».proof.Proof.Gen.FfnUpReferenceIdeal.Read
public import Idealize.ShloMosaic.Lib.Pointwise
public import Idealize.ShloMosaic.Lib.StableHlo.RunRead

@[expose] public section

set_option maxRecDepth 16384

noncomputable section

namespace Cert.FfnUpIdeal.Product

open Cert.FfnUpIdeal Cert.FfnUpIdeal.Gen Cert.FfnUpIdeal.Value
open Idealize.ShloMosaic Idealize.ShloMosaic.TcCoe Idealize.SL.Sem
open Idealize.ShloMosaic.Pipeline (Dat)

/-- One block of the result is the contraction of the blocks it is computed from. -/
theorem block_apply (x0 : Vec Ideal S1024x1024 .bf16) (x1 : Vec Ideal S1408x1024 .bf16) (j : S1024x1408.Idx) :
    out0_2 x0 x1 j = (∑ k : Fin 1024, x0 (ix2 (j 0) k) * x1 (ix2 (j 1) k)) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = win0_2.index t 0 ∧ win0_0.index t 1 = 0 ∧ win0_1.index t 0 = win0_2.index t 1 ∧ win0_1.index t 1 = 0 ∧ win0_2.index t 0 = t.val / 2 ∧ win0_2.index t 1 = t.val % 2 ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S1024x2816.Idx → EReal := m ((c : Thread nD τ).loc main_arg1)

theorem entry0 (c : Dev nD) : (V m c main_v0 : S4096x1024.Idx → EReal) = arg0 m c := by
  dsimp only [V, hostOps0]
  after_reads_simp
  rfl

theorem entry1 (c : Dev nD) : (V m c main_v2 : S2816x1024.Idx → EReal) = (fun j => arg1 m c (ix2 (j 1) (j 0))) := by
  dsimp only [V, hostOps0]
  after_reads_simp
  funext j
  pointwise []

/-- The product of whole arrays. -/
def product (A0 : S4096x1024.Idx → EReal) (A1 : S2816x1024.Idx → EReal) : S4096x2816.Idx → EReal :=
  fun i => (∑ k : Fin 1024, A0 (ix2 (i 0) k) * A1 (ix2 (i 1) k))

/-- The product, over the arguments. -/
def value (c : Dev nD) : S4096x2816.Idx → EReal :=
  product (arg0 m c) (fun j => arg1 m c (ix2 (j 1) (j 0)))

theorem point_apply (c : Dev nD) (t : Fin cfg0.N) (y : S1024x1408.Idx) (i : S4096x2816.Idx)
    (e0 : win0_2.index t 0 * 1024 + (y 0).val = (i 0).val) (e1 : win0_2.index t 1 * 1408 + (y 1).val = (i 1).val) :
    out0_2 (iblk m c 0 t) (iblk m c 1 t) y = value m c i := by
  obtain ⟨a0, b0, a1, b1, -, -, -⟩ := idx_of t
  have hv : value m c = product (V m c main_v0) (V m c main_v2) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 (y 0) k)) = _
    refine congrArg (V m c main_v0) (funext fun a => Fin.ext ((win0_0.rect_emb_val t _ a).trans ?_))
    match a with
    | ⟨0, _⟩ => show win0_0.index t 0 * 1024 + (y 0).val = (i 0).val; omega
    | ⟨1, _⟩ => show win0_0.index t 1 * 1024 + k.val = k.val; omega
  · show V m c main_v2 ((win0_1.rect t).emb (ix2 (y 1) k)) = _
    refine congrArg (V m c main_v2) (funext fun a => Fin.ext ((win0_1.rect_emb_val t _ a).trans ?_))
    match a with
    | ⟨0, _⟩ => show win0_1.index t 0 * 1408 + (y 1).val = (i 1).val; omega
    | ⟨1, _⟩ => show win0_1.index t 1 * 1024 + k.val = k.val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 4096 := (i 0).isLt
    have h1 : (i 1).val < 2816 := (i 1).isLt
    obtain ⟨t, ht⟩ : ∃ t : Fin cfg0.N, t.val = (i 0).val / 1024 * 2 + (i 1).val / 1408 :=
      ⟨⟨_, by have : cfg0.N = 8 := N_0; omega⟩, rfl⟩
    obtain ⟨-, -, -, -, r0, r1, hf⟩ := idx_of t
    refine ⟨t, hf, ?_⟩
    let y : S1024x1408.Idx := ix2 ⟨(i 0).val % 1024, Nat.mod_lt _ (by decide)⟩ ⟨(i 1).val % 1408, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 1408 + (i 1).val % 1408 = (i 1).val; omega)
    rw [← he]
    exact Finset.mem_map.mpr ⟨y, Finset.mem_univ _, rfl⟩

/-- The reference computes the same product. -/
theorem reference_eq (X0 : S4096x1024.Idx → EReal) (X1 : S1024x2816.Idx → EReal) :
    Cert.FfnUpReferenceIdeal.Read.val_main_v1 (F := Ideal) X0 X1 = product X0 (fun j => X1 (ix2 (j 1) (j 0))) := by
  funext i
  unfold product
  pointwise [Cert.FfnUpReferenceIdeal.Read.val_main_v0, Cert.FfnUpReferenceIdeal.Read.val_main_v1]
  all_goals first
    | rfl
    | exact Finset.sum_congr rfl fun k _ => mul_comm _ _

/-- The kernel and the reference end with equal results. -/
theorem algebraic : Cert.algebraic_FfnUpIdeal_FfnUpReferenceIdeal (hFfnUpIdeal := Cert.FfnUpIdeal.Gen.facts) (hFfnUpReferenceIdeal := Cert.FfnUpReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.FfnUpReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.FfnUpIdeal.Product

end
-- ==== Proof.Mm.FfnDown.lean ====
module

public import proofs.«01_k».proof.Defs
public import proofs.«01_k».proof.Proof.Gen.FfnDownIdeal.Value
public import proofs.«01_k».proof.Proof.Gen.FfnDownReferenceIdeal.Read
public import Idealize.ShloMosaic.Lib.Pointwise
public import Idealize.ShloMosaic.Lib.StableHlo.RunRead

@[expose] public section

set_option maxRecDepth 16384

noncomputable section

namespace Cert.FfnDownIdeal.Product

open Cert.FfnDownIdeal Cert.FfnDownIdeal.Gen Cert.FfnDownIdeal.Value
open Idealize.ShloMosaic Idealize.ShloMosaic.TcCoe Idealize.SL.Sem
open Idealize.ShloMosaic.Pipeline (Dat)

/-- One block of the result is the contraction of the blocks it is computed from. -/
theorem block_apply (x0 : Vec Ideal S1024x2816 .bf16) (x1 : Vec Ideal S2816x1024 .bf16) (j : S1024x1024.Idx) :
    out0_2 x0 x1 j = (∑ k : Fin 2816, x0 (ix2 (j 0) k) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = win0_2.index t 0 ∧ win0_0.index t 1 = 0 ∧ win0_1.index t 0 = 0 ∧ win0_1.index t 1 = win0_2.index t 1 ∧ win0_2.index t 0 = t.val / 1 ∧ win0_2.index t 1 = t.val % 1 ∧ (cfg0.win 2).flush t = true := by
  decide +kernel

variable (m : (ℓ : Loc nD τ sig) → Buf (Elt Ideal) ℓ)

/-- An argument array. -/
abbrev arg0 (c : Dev nD) : S4096x2816.Idx → EReal := m ((c : Thread nD τ).loc main_arg0)
/-- An argument array. -/
abbrev arg1 (c : Dev nD) : S2816x1024.Idx → EReal := m ((c : Thread nD τ).loc main_arg1)

theorem entry0 (c : Dev nD) : (V m c main_v0 : S4096x2816.Idx → EReal) = arg0 m c := by
  dsimp only [V, hostOps0]
  after_reads_simp
  rfl

theorem entry1 (c : Dev nD) : (V m c main_v1 : S2816x1024.Idx → EReal) = arg1 m c := by
  dsimp only [V, hostOps0]
  after_reads_simp
  rfl

/-- The product of whole arrays. -/
def product (A0 : S4096x2816.Idx → EReal) (A1 : S2816x1024.Idx → EReal) : S4096x1024.Idx → EReal :=
  fun i => (∑ k : Fin 2816, A0 (ix2 (i 0) k) * A1 (ix2 k (i 1)))

/-- The product, over the arguments. -/
def value (c : Dev nD) : S4096x1024.Idx → EReal :=
  product (arg0 m c) (arg1 m c)

theorem point_apply (c : Dev nD) (t : Fin cfg0.N) (y : S1024x1024.Idx) (i : S4096x1024.Idx)
    (e0 : win0_2.index t 0 * 1024 + (y 0).val = (i 0).val) (e1 : win0_2.index t 1 * 1024 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 (y 0) k)) = _
    refine congrArg (V m c main_v0) (funext fun a => Fin.ext ((win0_0.rect_emb_val t _ a).trans ?_))
    match a with
    | ⟨0, _⟩ => show win0_0.index t 0 * 1024 + (y 0).val = (i 0).val; omega
    | ⟨1, _⟩ => show win0_0.index t 1 * 2816 + k.val = k.val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 2816 + k.val = k.val; omega
    | ⟨1, _⟩ => show win0_1.index t 1 * 1024 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 4096 := (i 0).isLt
    have h1 : (i 1).val < 1024 := (i 1).isLt
    obtain ⟨t, ht⟩ : ∃ t : Fin cfg0.N, t.val = (i 0).val / 1024 * 1 + (i 1).val / 1024 :=
      ⟨⟨_, by have : cfg0.N = 4 := N_0; omega⟩, rfl⟩
    obtain ⟨-, -, -, -, r0, r1, hf⟩ := idx_of t
    refine ⟨t, hf, ?_⟩
    let y : S1024x1024.Idx := ix2 ⟨(i 0).val % 1024, Nat.mod_lt _ (by decide)⟩ ⟨(i 1).val % 1024, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 1024 + (i 1).val % 1024 = (i 1).val; omega)
    rw [← he]
    exact Finset.mem_map.mpr ⟨y, Finset.mem_univ _, rfl⟩

/-- The reference computes the same product. -/
theorem reference_eq (X0 : S4096x2816.Idx → EReal) (X1 : S2816x1024.Idx → EReal) :
    Cert.FfnDownReferenceIdeal.Read.val_main_v0 (F := Ideal) X0 X1 = product X0 X1 := by
  funext i
  unfold product
  pointwise [Cert.FfnDownReferenceIdeal.Read.val_main_v0]
  all_goals first
    | rfl
    | exact Finset.sum_congr rfl fun k _ => mul_comm _ _

/-- The kernel and the reference end with equal results. -/
theorem algebraic : Cert.algebraic_FfnDownIdeal_FfnDownReferenceIdeal (hFfnDownIdeal := Cert.FfnDownIdeal.Gen.facts) (hFfnDownReferenceIdeal := Cert.FfnDownReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.FfnDownReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.FfnDownIdeal.Product

end
-- ==== Proof.Mm.MixerWeight.lean ====
module

public import proofs.«01_k».proof.Defs
public import proofs.«01_k».proof.Proof.Gen.MixerWeightIdeal.Value
public import proofs.«01_k».proof.Proof.Gen.MixerWeightReferenceIdeal.Read
public import Idealize.ShloMosaic.Lib.Pointwise
public import Idealize.ShloMosaic.Lib.StableHlo.RunRead

@[expose] public section

set_option maxRecDepth 16384

noncomputable section

namespace Cert.MixerWeightIdeal.Product

open Cert.MixerWeightIdeal Cert.MixerWeightIdeal.Gen Cert.MixerWeightIdeal.Value
open Idealize.ShloMosaic Idealize.ShloMosaic.TcCoe Idealize.SL.Sem
open Idealize.ShloMosaic.Pipeline (Dat)

/-- One block of the result is the contraction of the blocks it is computed from. -/
theorem block_apply (x0 : Vec Ideal S4096x1792 .bf16) (x1 : Vec Ideal S4096x512 .bf16) (j : S1792x512.Idx) :
    out0_2 x0 x1 j = (∑ k : Fin 4096, x0 (ix2 k (j 0)) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = 0 ∧ win0_0.index t 1 = win0_2.index t 0 ∧ win0_1.index t 0 = 0 ∧ win0_1.index t 1 = win0_2.index t 1 ∧ win0_2.index t 0 = t.val / 2 ∧ win0_2.index t 1 = t.val % 2 ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S4096x5376.Idx → EReal := m ((c : Thread nD τ).loc main_arg1)

theorem entry0 (c : Dev nD) : (V m c main_v0 : S4096x5376.Idx → EReal) = arg1 m c := by
  dsimp only [V, hostOps0]
  after_reads_simp
  rfl

theorem entry1 (c : Dev nD) : (V m c main_v1 : S4096x1024.Idx → EReal) = arg0 m c := by
  dsimp only [V, hostOps0]
  after_reads_simp
  rfl

/-- The product of whole arrays. -/
def product (A0 : S4096x5376.Idx → EReal) (A1 : S4096x1024.Idx → EReal) : S5376x1024.Idx → EReal :=
  fun i => (∑ k : Fin 4096, A0 (ix2 k (i 0)) * A1 (ix2 k (i 1)))

/-- The product, over the arguments. -/
def value (c : Dev nD) : S5376x1024.Idx → EReal :=
  product (arg1 m c) (arg0 m c)

theorem point_apply (c : Dev nD) (t : Fin cfg0.N) (y : S1792x512.Idx) (i : S5376x1024.Idx)
    (e0 : win0_2.index t 0 * 1792 + (y 0).val = (i 0).val) (e1 : win0_2.index t 1 * 512 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 k (y 0))) = _
    refine congrArg (V m c main_v0) (funext fun a => Fin.ext ((win0_0.rect_emb_val t _ a).trans ?_))
    match a with
    | ⟨0, _⟩ => show win0_0.index t 0 * 4096 + k.val = k.val; omega
    | ⟨1, _⟩ => show win0_0.index t 1 * 1792 + (y 0).val = (i 0).val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 4096 + k.val = k.val; omega
    | ⟨1, _⟩ => show win0_1.index t 1 * 512 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 5376 := (i 0).isLt
    have h1 : (i 1).val < 1024 := (i 1).isLt
    obtain ⟨t, ht⟩ : ∃ t : Fin cfg0.N, t.val = (i 0).val / 1792 * 2 + (i 1).val / 512 :=
      ⟨⟨_, by have : cfg0.N = 6 := N_0; omega⟩, rfl⟩
    obtain ⟨-, -, -, -, r0, r1, hf⟩ := idx_of t
    refine ⟨t, hf, ?_⟩
    let y : S1792x512.Idx := ix2 ⟨(i 0).val % 1792, Nat.mod_lt _ (by decide)⟩ ⟨(i 1).val % 512, Nat.mod_lt _ (by decide)⟩
    have he : ((cfg0.win 2).blk t).view.emb y = i := funext fun a => Fin.ext (by
      refine (win0_2.rect_emb_val t y a).trans ?_
      match a with
      | ⟨0, _⟩ => show win0_2.index t 0 * 1792 + (i 0).val % 1792 = (i 0).val; omega
      | ⟨1, _⟩ => show win0_2.index t 1 * 512 + (i 1).val % 512 = (i 1).val; omega)
    rw [← he]
    exact Finset.mem_map.mpr ⟨y, Finset.mem_univ _, rfl⟩

/-- The reference computes the same product. -/
theorem reference_eq (X0 : S4096x1024.Idx → EReal) (X1 : S4096x5376.Idx → EReal) :
    Cert.MixerWeightReferenceIdeal.Read.val_main_v5 (F := Ideal) X0 X1 = product X1 X0 := by
  funext i
  unfold product
  pointwise [Cert.MixerWeightReferenceIdeal.Read.val_main_v0, Cert.MixerWeightReferenceIdeal.Read.val_main_v1, Cert.MixerWeightReferenceIdeal.Read.val_main_v2, Cert.MixerWeightReferenceIdeal.Read.val_main_v3, Cert.MixerWeightReferenceIdeal.Read.val_main_v4, Cert.MixerWeightReferenceIdeal.Read.val_main_v5]
  all_goals first
    | rfl
    | exact Finset.sum_congr rfl fun k _ => mul_comm _ _

/-- The kernel and the reference end with equal results. -/
theorem algebraic : Cert.algebraic_MixerWeightIdeal_MixerWeightReferenceIdeal (hMixerWeightIdeal := Cert.MixerWeightIdeal.Gen.facts) (hMixerWeightReferenceIdeal := Cert.MixerWeightReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.MixerWeightReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.MixerWeightIdeal.Product

end
-- ==== Proof.Mm.MixerInput.lean ====
module

public import proofs.«01_k».proof.Defs
public import proofs.«01_k».proof.Proof.Gen.MixerInputIdeal.Value
public import proofs.«01_k».proof.Proof.Gen.MixerInputReferenceIdeal.Read
public import Idealize.ShloMosaic.Lib.Pointwise
public import Idealize.ShloMosaic.Lib.StableHlo.RunRead

@[expose] public section

set_option maxRecDepth 16384

noncomputable section

namespace Cert.MixerInputIdeal.Product

open Cert.MixerInputIdeal Cert.MixerInputIdeal.Gen Cert.MixerInputIdeal.Value
open Idealize.ShloMosaic Idealize.ShloMosaic.TcCoe Idealize.SL.Sem
open Idealize.ShloMosaic.Pipeline (Dat)

/-- One block of the result is the contraction of the blocks it is computed from. -/
theorem block_apply (x0 : Vec Ideal S1024x5376 .bf16) (x1 : Vec Ideal S5376x512 .bf16) (x2 : Vec Ideal S1024x2048 .bf16) (x3 : Vec Ideal S512x2048 .bf16) (j : S1024x512.Idx) :
    out0_4 x0 x1 x2 x3 j = (∑ k : Fin 5376, x0 (ix2 (j 0) k) * x1 (ix2 k (j 1))) + (∑ k : Fin 2048, x2 (ix2 (j 0) k) * x3 (ix2 (j 1) k)) := by
  have z : (![0, 0] : Fin 2 → Nat) = fun _ => 0 := by decide
  unfold out0_4
  rw [View.canon_unit_zero z, View.ld_unit_zero z, View.ld_unit_zero z, View.ld_unit_zero z, View.ld_unit_zero z]
  pointwise [k0_pay1]

/-- Where the blocks of a grid point lie. -/
theorem idx_of : ∀ t : Fin cfg0.N, win0_0.index t 0 = win0_4.index t 0 ∧ win0_0.index t 1 = 0 ∧ win0_1.index t 0 = 0 ∧ win0_1.index t 1 = win0_4.index t 1 ∧ win0_2.index t 0 = win0_4.index t 0 ∧ win0_2.index t 1 = 0 ∧ win0_3.index t 0 = win0_4.index t 1 ∧ win0_3.index t 1 = 0 ∧ win0_4.index t 0 = t.val / 2 ∧ win0_4.index t 1 = t.val % 2 ∧ (cfg0.win 4).flush t = true := by
  decide +kernel

variable (m : (ℓ : Loc nD τ sig) → Buf (Elt Ideal) ℓ)

/-- An argument array. -/
abbrev arg0 (c : Dev nD) : S4096x5376.Idx → EReal := m ((c : Thread nD τ).loc main_arg0)
/-- An argument array. -/
abbrev arg1 (c : Dev nD) : S4096x2048.Idx → EReal := m ((c : Thread nD τ).loc main_arg1)
/-- An argument array. -/
abbrev arg2 (c : Dev nD) : S1024x5376.Idx → EReal := m ((c : Thread nD τ).loc main_arg2)
/-- An argument array. -/
abbrev arg3 (c : Dev nD) : S1024x2048.Idx → EReal := m ((c : Thread nD τ).loc main_arg3)

theorem entry0 (c : Dev nD) : (V m c main_v0 : S4096x5376.Idx → EReal) = arg0 m c := by
  dsimp only [V, hostOps0]
  after_reads_simp
  rfl

theorem entry1 (c : Dev nD) : (V m c main_v2 : S5376x1024.Idx → EReal) = (fun j => arg2 m c (ix2 (j 1) (j 0))) := by
  dsimp only [V, hostOps0]
  after_reads_simp
  funext j
  pointwise []

theorem entry2 (c : Dev nD) : (V m c main_v3 : S4096x2048.Idx → EReal) = arg1 m c := by
  dsimp only [V, hostOps0]
  after_reads_simp
  rfl

theorem entry3 (c : Dev nD) : (V m c main_v4 : S1024x2048.Idx → EReal) = arg3 m c := by
  dsimp only [V, hostOps0]
  after_reads_simp
  rfl

/-- The product of whole arrays. -/
def product (A0 : S4096x5376.Idx → EReal) (A1 : S5376x1024.Idx → EReal) (A2 : S4096x2048.Idx → EReal) (A3 : S1024x2048.Idx → EReal) : S4096x1024.Idx → EReal :=
  fun i => (∑ k : Fin 5376, A0 (ix2 (i 0) k) * A1 (ix2 k (i 1))) + (∑ k : Fin 2048, A2 (ix2 (i 0) k) * A3 (ix2 (i 1) k))

/-- The product, over the arguments. -/
def value (c : Dev nD) : S4096x1024.Idx → EReal :=
  product (arg0 m c) (fun j => arg2 m c (ix2 (j 1) (j 0))) (arg1 m c) (arg3 m c)

theorem point_apply (c : Dev nD) (t : Fin cfg0.N) (y : S1024x512.Idx) (i : S4096x1024.Idx)
    (e0 : win0_4.index t 0 * 1024 + (y 0).val = (i 0).val) (e1 : win0_4.index t 1 * 512 + (y 1).val = (i 1).val) :
    out0_4 (iblk m c 0 t) (iblk m c 1 t) (iblk m c 2 t) (iblk m c 3 t) y = value m c i := by
  obtain ⟨a0, b0, a1, b1, a2, b2, a3, b3, -, -, -⟩ := idx_of t
  have hv : value m c = product (V m c main_v0) (V m c main_v2) (V m c main_v3) (V m c main_v4) := by
    unfold value
    rw [entry0 m c, entry1 m c, entry2 m c, entry3 m c]
    all_goals rfl
  rw [block_apply, hv]
  have l : ∀ (u v x y : EReal), u = x → v = y → u * v = x * y := fun _ _ _ _ h h' => by rw [h, h']
  refine congrArg₂ (· + ·) ?_ ?_
  · refine Finset.sum_congr rfl fun k _ => l _ _ _ _ ?_ ?_
    · show V m c main_v0 ((win0_0.rect t).emb (ix2 (y 0) k)) = _
      refine congrArg (V m c main_v0) (funext fun a => Fin.ext ((win0_0.rect_emb_val t _ a).trans ?_))
      match a with
      | ⟨0, _⟩ => show win0_0.index t 0 * 1024 + (y 0).val = (i 0).val; omega
      | ⟨1, _⟩ => show win0_0.index t 1 * 5376 + k.val = k.val; omega
    · show V m c main_v2 ((win0_1.rect t).emb (ix2 k (y 1))) = _
      refine congrArg (V m c main_v2) (funext fun a => Fin.ext ((win0_1.rect_emb_val t _ a).trans ?_))
      match a with
      | ⟨0, _⟩ => show win0_1.index t 0 * 5376 + k.val = k.val; omega
      | ⟨1, _⟩ => show win0_1.index t 1 * 512 + (y 1).val = (i 1).val; omega
  · refine Finset.sum_congr rfl fun k _ => l _ _ _ _ ?_ ?_
    · show V m c main_v3 ((win0_2.rect t).emb (ix2 (y 0) k)) = _
      refine congrArg (V m c main_v3) (funext fun a => Fin.ext ((win0_2.rect_emb_val t _ a).trans ?_))
      match a with
      | ⟨0, _⟩ => show win0_2.index t 0 * 1024 + (y 0).val = (i 0).val; omega
      | ⟨1, _⟩ => show win0_2.index t 1 * 2048 + k.val = k.val; omega
    · show V m c main_v4 ((win0_3.rect t).emb (ix2 (y 1) k)) = _
      refine congrArg (V m c main_v4) (funext fun a => Fin.ext ((win0_3.rect_emb_val t _ a).trans ?_))
      match a with
      | ⟨0, _⟩ => show win0_3.index t 0 * 512 + (y 1).val = (i 1).val; omega
      | ⟨1, _⟩ => show win0_3.index t 1 * 2048 + k.val = k.val; omega

/-- The result array of the kernel. -/
theorem array_eq (c : Dev nD) : (dats m 0 c).arrAt 4 cfg0.N = value m c := by
  refine (dats m 0 c).arrAt_eq_of_cover 4 (value m c) (fun t hf => ?_) (fun i => ?_)
  · rw [flushed4]
    refine funext fun y => ?_
    exact point_apply m c t y (((cfg0.win 4).blk t).view.emb y) (win0_4.rect_emb_val t y 0).symm (win0_4.rect_emb_val t y 1).symm
  · have h0 : (i 0).val < 4096 := (i 0).isLt
    have h1 : (i 1).val < 1024 := (i 1).isLt
    obtain ⟨t, ht⟩ : ∃ t : Fin cfg0.N, t.val = (i 0).val / 1024 * 2 + (i 1).val / 512 :=
      ⟨⟨_, by have : cfg0.N = 8 := N_0; omega⟩, rfl⟩
    obtain ⟨-, -, -, -, -, -, -, -, r0, r1, hf⟩ := idx_of t
    refine ⟨t, hf, ?_⟩
    let y : S1024x512.Idx := ix2 ⟨(i 0).val % 1024, Nat.mod_lt _ (by decide)⟩ ⟨(i 1).val % 512, Nat.mod_lt _ (by decide)⟩
    have he : ((cfg0.win 4).blk t).view.emb y = i := funext fun a => Fin.ext (by
      refine (win0_4.rect_emb_val t y a).trans ?_
      match a with
      | ⟨0, _⟩ => show win0_4.index t 0 * 1024 + (i 0).val % 1024 = (i 0).val; omega
      | ⟨1, _⟩ => show win0_4.index t 1 * 512 + (i 1).val % 512 = (i 1).val; omega)
    rw [← he]
    exact Finset.mem_map.mpr ⟨y, Finset.mem_univ _, rfl⟩

/-- The reference computes the same product. -/
theorem reference_eq (X0 : S4096x5376.Idx → EReal) (X1 : S4096x2048.Idx → EReal) (X2 : S1024x5376.Idx → EReal) (X3 : S1024x2048.Idx → EReal) :
    Cert.MixerInputReferenceIdeal.Read.val_main_v5 (F := Ideal) X0 X1 X2 X3 = product X0 (fun j => X2 (ix2 (j 1) (j 0))) X1 X3 := by
  funext i
  unfold product
  pointwise [Cert.MixerInputReferenceIdeal.Read.val_main_v0, Cert.MixerInputReferenceIdeal.Read.val_main_v1, Cert.MixerInputReferenceIdeal.Read.val_main_v2, Cert.MixerInputReferenceIdeal.Read.val_main_v3, Cert.MixerInputReferenceIdeal.Read.val_main_v4, Cert.MixerInputReferenceIdeal.Read.val_main_v5]
  all_goals first
    | rfl
    | exact add_comm _ _
    | exact congrArg₂ (· + ·) rfl (Finset.sum_congr rfl fun k _ => mul_comm _ _)
    | exact congrArg₂ (· + ·) (Finset.sum_congr rfl fun k _ => mul_comm _ _) rfl
    | exact congrArg₂ (· + ·) (Finset.sum_congr rfl fun k _ => mul_comm _ _) (Finset.sum_congr rfl fun k _ => mul_comm _ _)
    | exact (add_comm _ _).trans (congrArg₂ (· + ·) rfl (Finset.sum_congr rfl fun k _ => mul_comm _ _))
    | exact (add_comm _ _).trans (congrArg₂ (· + ·) (Finset.sum_congr rfl fun k _ => mul_comm _ _) rfl)
    | exact (add_comm _ _).trans (congrArg₂ (· + ·) (Finset.sum_congr rfl fun k _ => mul_comm _ _) (Finset.sum_congr rfl fun k _ => mul_comm _ _))

/-- The kernel and the reference end with equal results. -/
theorem algebraic : Cert.algebraic_MixerInputIdeal_MixerInputReferenceIdeal (hMixerInputIdeal := Cert.MixerInputIdeal.Gen.facts) (hMixerInputReferenceIdeal := Cert.MixerInputReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.MixerInputReferenceIdeal.Value.run m' g')
    obtain ⟨h0, hk⟩ := h c
    obtain ⟨e0, e1, e2, e3⟩ := hargs c
    refine ⟨h0.trans ?_, hk⟩
    refine Eq.trans ?_ (reference_eq (arg0 m c) (arg1 m c) (arg2 m c) (arg3 m c))
    rw [show arg0 m c = _ from e0.symm, show arg1 m c = _ from e1.symm, show arg2 m c = _ from e2.symm, show arg3 m c = _ from e3.symm]
    rfl

end Cert.MixerInputIdeal.Product

end
-- ==== Proof.Mm.MixerIn.lean ====
module

public import proofs.«01_k».proof.Defs
public import proofs.«01_k».proof.Proof.Gen.MixerInIdeal.Value
public import proofs.«01_k».proof.Proof.Gen.MixerInReferenceIdeal.Read
public import Idealize.ShloMosaic.Lib.Pointwise
public import Idealize.ShloMosaic.Lib.StableHlo.RunRead

@[expose] public section

set_option maxRecDepth 16384

noncomputable section

namespace Cert.MixerInIdeal.Product

open Cert.MixerInIdeal Cert.MixerInIdeal.Gen Cert.MixerInIdeal.Value
open Idealize.ShloMosaic Idealize.ShloMosaic.TcCoe Idealize.SL.Sem
open Idealize.ShloMosaic.Pipeline (Dat)

/-- One block of the result is the contraction of the blocks it is computed from. -/
theorem block_apply (x0 : Vec Ideal S1024x1024 .bf16) (x1 : Vec Ideal S1792x1024 .bf16) (j : S1024x1792.Idx) :
    out0_2 x0 x1 j = (∑ k : Fin 1024, x0 (ix2 (j 0) k) * x1 (ix2 (j 1) k)) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = win0_2.index t 0 ∧ win0_0.index t 1 = 0 ∧ win0_1.index t 0 = win0_2.index t 1 ∧ win0_1.index t 1 = 0 ∧ win0_2.index t 0 = t.val / 3 ∧ win0_2.index t 1 = t.val % 3 ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S1024x5376.Idx → EReal := m ((c : Thread nD τ).loc main_arg1)

theorem entry0 (c : Dev nD) : (V m c main_v0 : S4096x1024.Idx → EReal) = arg0 m c := by
  dsimp only [V, hostOps0]
  after_reads_simp
  rfl

theorem entry1 (c : Dev nD) : (V m c main_v2 : S5376x1024.Idx → EReal) = (fun j => arg1 m c (ix2 (j 1) (j 0))) := by
  dsimp only [V, hostOps0]
  after_reads_simp
  funext j
  pointwise []

/-- The product of whole arrays. -/
def product (A0 : S4096x1024.Idx → EReal) (A1 : S5376x1024.Idx → EReal) : S4096x5376.Idx → EReal :=
  fun i => (∑ k : Fin 1024, A0 (ix2 (i 0) k) * A1 (ix2 (i 1) k))

/-- The product, over the arguments. -/
def value (c : Dev nD) : S4096x5376.Idx → EReal :=
  product (arg0 m c) (fun j => arg1 m c (ix2 (j 1) (j 0)))

theorem point_apply (c : Dev nD) (t : Fin cfg0.N) (y : S1024x1792.Idx) (i : S4096x5376.Idx)
    (e0 : win0_2.index t 0 * 1024 + (y 0).val = (i 0).val) (e1 : win0_2.index t 1 * 1792 + (y 1).val = (i 1).val) :
    out0_2 (iblk m c 0 t) (iblk m c 1 t) y = value m c i := by
  obtain ⟨a0, b0, a1, b1, -, -, -⟩ := idx_of t
  have hv : value m c = product (V m c main_v0) (V m c main_v2) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 (y 0) k)) = _
    refine congrArg (V m c main_v0) (funext fun a => Fin.ext ((win0_0.rect_emb_val t _ a).trans ?_))
    match a with
    | ⟨0, _⟩ => show win0_0.index t 0 * 1024 + (y 0).val = (i 0).val; omega
    | ⟨1, _⟩ => show win0_0.index t 1 * 1024 + k.val = k.val; omega
  · show V m c main_v2 ((win0_1.rect t).emb (ix2 (y 1) k)) = _
    refine congrArg (V m c main_v2) (funext fun a => Fin.ext ((win0_1.rect_emb_val t _ a).trans ?_))
    match a with
    | ⟨0, _⟩ => show win0_1.index t 0 * 1792 + (y 1).val = (i 1).val; omega
    | ⟨1, _⟩ => show win0_1.index t 1 * 1024 + k.val = k.val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 4096 := (i 0).isLt
    have h1 : (i 1).val < 5376 := (i 1).isLt
    obtain ⟨t, ht⟩ : ∃ t : Fin cfg0.N, t.val = (i 0).val / 1024 * 3 + (i 1).val / 1792 :=
      ⟨⟨_, by have : cfg0.N = 12 := N_0; omega⟩, rfl⟩
    obtain ⟨-, -, -, -, r0, r1, hf⟩ := idx_of t
    refine ⟨t, hf, ?_⟩
    let y : S1024x1792.Idx := ix2 ⟨(i 0).val % 1024, Nat.mod_lt _ (by decide)⟩ ⟨(i 1).val % 1792, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 1792 + (i 1).val % 1792 = (i 1).val; omega)
    rw [← he]
    exact Finset.mem_map.mpr ⟨y, Finset.mem_univ _, rfl⟩

/-- The reference computes the same product. -/
theorem reference_eq (X0 : S4096x1024.Idx → EReal) (X1 : S1024x5376.Idx → EReal) :
    Cert.MixerInReferenceIdeal.Read.val_main_v0 (F := Ideal) X0 X1 = product X0 (fun j => X1 (ix2 (j 1) (j 0))) := by
  funext i
  unfold product
  pointwise [Cert.MixerInReferenceIdeal.Read.val_main_v0]
  all_goals first
    | rfl
    | exact Finset.sum_congr rfl fun k _ => mul_comm _ _

/-- The kernel and the reference end with equal results. -/
theorem algebraic : Cert.algebraic_MixerInIdeal_MixerInReferenceIdeal (hMixerInIdeal := Cert.MixerInIdeal.Gen.facts) (hMixerInReferenceIdeal := Cert.MixerInReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.MixerInReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.MixerInIdeal.Product

end
-- ==== Proof.Mm.MergeWeight.lean ====
module

public import proofs.«01_k».proof.Defs
public import proofs.«01_k».proof.Proof.Gen.MergeWeightIdeal.Value
public import proofs.«01_k».proof.Proof.Gen.MergeWeightReferenceIdeal.Read
public import Idealize.ShloMosaic.Lib.Pointwise
public import Idealize.ShloMosaic.Lib.StableHlo.RunRead

@[expose] public section

set_option maxRecDepth 16384

noncomputable section

namespace Cert.MergeWeightIdeal.Product

open Cert.MergeWeightIdeal Cert.MergeWeightIdeal.Gen Cert.MergeWeightIdeal.Value
open Idealize.ShloMosaic Idealize.ShloMosaic.TcCoe Idealize.SL.Sem
open Idealize.ShloMosaic.Pipeline (Dat)

/-- One block of the result is the contraction of the blocks it is computed from. -/
theorem block_apply (x0 : Vec Ideal S4096x1024 .bf16) (x1 : Vec Ideal S4096x512 .bf16) (j : S1024x512.Idx) :
    out0_2 x0 x1 j = (∑ k : Fin 4096, x0 (ix2 k (j 0)) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = 0 ∧ win0_0.index t 1 = win0_2.index t 0 ∧ win0_1.index t 0 = 0 ∧ win0_1.index t 1 = win0_2.index t 1 ∧ win0_2.index t 0 = t.val / 4 ∧ win0_2.index t 1 = t.val % 4 ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S4096x2048.Idx → EReal := m ((c : Thread nD τ).loc main_arg1)

theorem entry0 (c : Dev nD) : (V m c main_v0 : S4096x1024.Idx → EReal) = arg0 m c := by
  dsimp only [V, hostOps0]
  after_reads_simp
  rfl

theorem entry1 (c : Dev nD) : (V m c main_v1 : S4096x2048.Idx → EReal) = arg1 m c := by
  dsimp only [V, hostOps0]
  after_reads_simp
  rfl

/-- The product of whole arrays. -/
def product (A0 : S4096x1024.Idx → EReal) (A1 : S4096x2048.Idx → EReal) : S1024x2048.Idx → EReal :=
  fun i => (∑ k : Fin 4096, A0 (ix2 k (i 0)) * A1 (ix2 k (i 1)))

/-- The product, over the arguments. -/
def value (c : Dev nD) : S1024x2048.Idx → EReal :=
  product (arg0 m c) (arg1 m c)

theorem point_apply (c : Dev nD) (t : Fin cfg0.N) (y : S1024x512.Idx) (i : S1024x2048.Idx)
    (e0 : win0_2.index t 0 * 1024 + (y 0).val = (i 0).val) (e1 : win0_2.index t 1 * 512 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 k (y 0))) = _
    refine congrArg (V m c main_v0) (funext fun a => Fin.ext ((win0_0.rect_emb_val t _ a).trans ?_))
    match a with
    | ⟨0, _⟩ => show win0_0.index t 0 * 4096 + k.val = k.val; omega
    | ⟨1, _⟩ => show win0_0.index t 1 * 1024 + (y 0).val = (i 0).val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 4096 + k.val = k.val; omega
    | ⟨1, _⟩ => show win0_1.index t 1 * 512 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 1024 := (i 0).isLt
    have h1 : (i 1).val < 2048 := (i 1).isLt
    obtain ⟨t, ht⟩ : ∃ t : Fin cfg0.N, t.val = (i 0).val / 1024 * 4 + (i 1).val / 512 :=
      ⟨⟨_, by have : cfg0.N = 4 := N_0; omega⟩, rfl⟩
    obtain ⟨-, -, -, -, r0, r1, hf⟩ := idx_of t
    refine ⟨t, hf, ?_⟩
    let y : S1024x512.Idx := ix2 ⟨(i 0).val % 1024, Nat.mod_lt _ (by decide)⟩ ⟨(i 1).val % 512, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 512 + (i 1).val % 512 = (i 1).val; omega)
    rw [← he]
    exact Finset.mem_map.mpr ⟨y, Finset.mem_univ _, rfl⟩

/-- The reference computes the same product. -/
theorem reference_eq (X0 : S4096x1024.Idx → EReal) (X1 : S4096x2048.Idx → EReal) :
    Cert.MergeWeightReferenceIdeal.Read.val_main_v4 (F := Ideal) X0 X1 = product X0 X1 := by
  funext i
  unfold product
  pointwise [Cert.MergeWeightReferenceIdeal.Read.val_main_v0, Cert.MergeWeightReferenceIdeal.Read.val_main_v1, Cert.MergeWeightReferenceIdeal.Read.val_main_v2, Cert.MergeWeightReferenceIdeal.Read.val_main_v3, Cert.MergeWeightReferenceIdeal.Read.val_main_v4]
  all_goals first
    | rfl
    | exact Finset.sum_congr rfl fun k _ => mul_comm _ _

/-- The kernel and the reference end with equal results. -/
theorem algebraic : Cert.algebraic_MergeWeightIdeal_MergeWeightReferenceIdeal (hMergeWeightIdeal := Cert.MergeWeightIdeal.Gen.facts) (hMergeWeightReferenceIdeal := Cert.MergeWeightReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.MergeWeightReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.MergeWeightIdeal.Product

end
-- ==== Proof.Mm.Merge.lean ====
module

public import proofs.«01_k».proof.Defs
public import proofs.«01_k».proof.Proof.Gen.MergeIdeal.Value
public import proofs.«01_k».proof.Proof.Gen.MergeReferenceIdeal.Read
public import Idealize.ShloMosaic.Lib.Pointwise
public import Idealize.ShloMosaic.Lib.StableHlo.RunRead

@[expose] public section

set_option maxRecDepth 16384

noncomputable section

namespace Cert.MergeIdeal.Product

open Cert.MergeIdeal Cert.MergeIdeal.Gen Cert.MergeIdeal.Value
open Idealize.ShloMosaic Idealize.ShloMosaic.TcCoe Idealize.SL.Sem
open Idealize.ShloMosaic.Pipeline (Dat)

/-- One block of the result is the contraction of the blocks it is computed from. -/
theorem block_apply (x0 : Vec Ideal S1024x1024 .bf16) (x1 : Vec Ideal S1024x1024 .bf16) (j : S1024x1024.Idx) :
    out0_2 x0 x1 j = (∑ k : Fin 1024, x0 (ix2 (j 0) k) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = win0_2.index t 0 ∧ win0_0.index t 1 = 0 ∧ win0_1.index t 0 = 0 ∧ win0_1.index t 1 = win0_2.index t 1 ∧ win0_2.index t 0 = t.val / 2 ∧ win0_2.index t 1 = t.val % 2 ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S1024x2048.Idx → EReal := m ((c : Thread nD τ).loc main_arg1)

theorem entry0 (c : Dev nD) : (V m c main_v0 : S4096x1024.Idx → EReal) = arg0 m c := by
  dsimp only [V, hostOps0]
  after_reads_simp
  rfl

theorem entry1 (c : Dev nD) : (V m c main_v1 : S1024x2048.Idx → EReal) = arg1 m c := by
  dsimp only [V, hostOps0]
  after_reads_simp
  rfl

/-- The product of whole arrays. -/
def product (A0 : S4096x1024.Idx → EReal) (A1 : S1024x2048.Idx → EReal) : S4096x2048.Idx → EReal :=
  fun i => (∑ k : Fin 1024, A0 (ix2 (i 0) k) * A1 (ix2 k (i 1)))

/-- The product, over the arguments. -/
def value (c : Dev nD) : S4096x2048.Idx → EReal :=
  product (arg0 m c) (arg1 m c)

theorem point_apply (c : Dev nD) (t : Fin cfg0.N) (y : S1024x1024.Idx) (i : S4096x2048.Idx)
    (e0 : win0_2.index t 0 * 1024 + (y 0).val = (i 0).val) (e1 : win0_2.index t 1 * 1024 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 (y 0) k)) = _
    refine congrArg (V m c main_v0) (funext fun a => Fin.ext ((win0_0.rect_emb_val t _ a).trans ?_))
    match a with
    | ⟨0, _⟩ => show win0_0.index t 0 * 1024 + (y 0).val = (i 0).val; omega
    | ⟨1, _⟩ => show win0_0.index t 1 * 1024 + k.val = k.val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 1024 + k.val = k.val; omega
    | ⟨1, _⟩ => show win0_1.index t 1 * 1024 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 4096 := (i 0).isLt
    have h1 : (i 1).val < 2048 := (i 1).isLt
    obtain ⟨t, ht⟩ : ∃ t : Fin cfg0.N, t.val = (i 0).val / 1024 * 2 + (i 1).val / 1024 :=
      ⟨⟨_, by have : cfg0.N = 8 := N_0; omega⟩, rfl⟩
    obtain ⟨-, -, -, -, r0, r1, hf⟩ := idx_of t
    refine ⟨t, hf, ?_⟩
    let y : S1024x1024.Idx := ix2 ⟨(i 0).val % 1024, Nat.mod_lt _ (by decide)⟩ ⟨(i 1).val % 1024, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 1024 + (i 1).val % 1024 = (i 1).val; omega)
    rw [← he]
    exact Finset.mem_map.mpr ⟨y, Finset.mem_univ _, rfl⟩

/-- The reference computes the same product. -/
theorem reference_eq (X0 : S4096x1024.Idx → EReal) (X1 : S1024x2048.Idx → EReal) :
    Cert.MergeReferenceIdeal.Read.val_main_v0 (F := Ideal) X0 X1 = product X0 X1 := by
  funext i
  unfold product
  pointwise [Cert.MergeReferenceIdeal.Read.val_main_v0]
  all_goals first
    | rfl
    | exact Finset.sum_congr rfl fun k _ => mul_comm _ _

/-- The kernel and the reference end with equal results. -/
theorem algebraic : Cert.algebraic_MergeIdeal_MergeReferenceIdeal (hMergeIdeal := Cert.MergeIdeal.Gen.facts) (hMergeReferenceIdeal := Cert.MergeReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.MergeReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.MergeIdeal.Product

end
-- ==== Proof.Mm.OutWeight.lean ====
module

public import proofs.«01_k».proof.Defs
public import proofs.«01_k».proof.Proof.Gen.OutWeightIdeal.Value
public import proofs.«01_k».proof.Proof.Gen.OutWeightReferenceIdeal.Read
public import Idealize.ShloMosaic.Lib.Pointwise
public import Idealize.ShloMosaic.Lib.StableHlo.RunRead

@[expose] public section

set_option maxRecDepth 16384

noncomputable section

namespace Cert.OutWeightIdeal.Product

open Cert.OutWeightIdeal Cert.OutWeightIdeal.Gen Cert.OutWeightIdeal.Value
open Idealize.ShloMosaic Idealize.ShloMosaic.TcCoe Idealize.SL.Sem
open Idealize.ShloMosaic.Pipeline (Dat)

/-- One block of the result is the contraction of the blocks it is computed from. -/
theorem block_apply (x0 : Vec Ideal S4096x1024 .bf16) (x1 : Vec Ideal S4096x256 .bf16) (j : S1024x256.Idx) :
    out0_2 x0 x1 j = (∑ k : Fin 4096, x0 (ix2 k (j 0)) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = 0 ∧ win0_0.index t 1 = win0_2.index t 0 ∧ win0_1.index t 0 = 0 ∧ win0_1.index t 1 = win0_2.index t 1 ∧ win0_2.index t 0 = t.val / 4 ∧ win0_2.index t 1 = t.val % 4 ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S4096x1024.Idx → EReal := m ((c : Thread nD τ).loc main_arg1)

theorem entry0 (c : Dev nD) : (V m c main_v0 : S4096x1024.Idx → EReal) = arg0 m c := by
  dsimp only [V, hostOps0]
  after_reads_simp
  rfl

theorem entry1 (c : Dev nD) : (V m c main_v1 : S4096x1024.Idx → EReal) = arg1 m c := by
  dsimp only [V, hostOps0]
  after_reads_simp
  rfl

/-- The product of whole arrays. -/
def product (A0 : S4096x1024.Idx → EReal) (A1 : S4096x1024.Idx → EReal) : S1024x1024.Idx → EReal :=
  fun i => (∑ k : Fin 4096, A0 (ix2 k (i 0)) * A1 (ix2 k (i 1)))

/-- The product, over the arguments. -/
def value (c : Dev nD) : S1024x1024.Idx → EReal :=
  product (arg0 m c) (arg1 m c)

theorem point_apply (c : Dev nD) (t : Fin cfg0.N) (y : S1024x256.Idx) (i : S1024x1024.Idx)
    (e0 : win0_2.index t 0 * 1024 + (y 0).val = (i 0).val) (e1 : win0_2.index t 1 * 256 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 k (y 0))) = _
    refine congrArg (V m c main_v0) (funext fun a => Fin.ext ((win0_0.rect_emb_val t _ a).trans ?_))
    match a with
    | ⟨0, _⟩ => show win0_0.index t 0 * 4096 + k.val = k.val; omega
    | ⟨1, _⟩ => show win0_0.index t 1 * 1024 + (y 0).val = (i 0).val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 4096 + k.val = k.val; omega
    | ⟨1, _⟩ => show win0_1.index t 1 * 256 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 1024 := (i 0).isLt
    have h1 : (i 1).val < 1024 := (i 1).isLt
    obtain ⟨t, ht⟩ : ∃ t : Fin cfg0.N, t.val = (i 0).val / 1024 * 4 + (i 1).val / 256 :=
      ⟨⟨_, by have : cfg0.N = 4 := N_0; omega⟩, rfl⟩
    obtain ⟨-, -, -, -, r0, r1, hf⟩ := idx_of t
    refine ⟨t, hf, ?_⟩
    let y : S1024x256.Idx := ix2 ⟨(i 0).val % 1024, Nat.mod_lt _ (by decide)⟩ ⟨(i 1).val % 256, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 256 + (i 1).val % 256 = (i 1).val; omega)
    rw [← he]
    exact Finset.mem_map.mpr ⟨y, Finset.mem_univ _, rfl⟩

/-- The reference computes the same product. -/
theorem reference_eq (X0 : S4096x1024.Idx → EReal) (X1 : S4096x1024.Idx → EReal) :
    Cert.OutWeightReferenceIdeal.Read.val_main_v4 (F := Ideal) X0 X1 = product X0 X1 := by
  funext i
  unfold product
  pointwise [Cert.OutWeightReferenceIdeal.Read.val_main_v0, Cert.OutWeightReferenceIdeal.Read.val_main_v1, Cert.OutWeightReferenceIdeal.Read.val_main_v2, Cert.OutWeightReferenceIdeal.Read.val_main_v3, Cert.OutWeightReferenceIdeal.Read.val_main_v4]
  all_goals first
    | rfl
    | exact Finset.sum_congr rfl fun k _ => mul_comm _ _

/-- The kernel and the reference end with equal results. -/
theorem algebraic : Cert.algebraic_OutWeightIdeal_OutWeightReferenceIdeal (hOutWeightIdeal := Cert.OutWeightIdeal.Gen.facts) (hOutWeightReferenceIdeal := Cert.OutWeightReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.OutWeightReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.OutWeightIdeal.Product

end
-- ==== Proof.Mm.OutInput.lean ====
module

public import proofs.«01_k».proof.Defs
public import proofs.«01_k».proof.Proof.Gen.OutInputIdeal.Value
public import proofs.«01_k».proof.Proof.Gen.OutInputReferenceIdeal.Read
public import Idealize.ShloMosaic.Lib.Pointwise
public import Idealize.ShloMosaic.Lib.StableHlo.RunRead

@[expose] public section

set_option maxRecDepth 16384

noncomputable section

namespace Cert.OutInputIdeal.Product

open Cert.OutInputIdeal Cert.OutInputIdeal.Gen Cert.OutInputIdeal.Value
open Idealize.ShloMosaic Idealize.ShloMosaic.TcCoe Idealize.SL.Sem
open Idealize.ShloMosaic.Pipeline (Dat)

/-- One block of the result is the contraction of the blocks it is computed from. -/
theorem block_apply (x0 : Vec Ideal S1024x1024 .bf16) (x1 : Vec Ideal S1024x1024 .bf16) (j : S1024x1024.Idx) :
    out0_2 x0 x1 j = (∑ k : Fin 1024, x0 (ix2 (j 0) k) * x1 (ix2 (j 1) k)) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = win0_2.index t 0 ∧ win0_0.index t 1 = 0 ∧ win0_1.index t 0 = win0_2.index t 1 ∧ win0_1.index t 1 = 0 ∧ win0_2.index t 0 = t.val / 1 ∧ win0_2.index t 1 = t.val % 1 ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S1024x1024.Idx → EReal := m ((c : Thread nD τ).loc main_arg1)

theorem entry0 (c : Dev nD) : (V m c main_v0 : S4096x1024.Idx → EReal) = arg0 m c := by
  dsimp only [V, hostOps0]
  after_reads_simp
  rfl

theorem entry1 (c : Dev nD) : (V m c main_v1 : S1024x1024.Idx → EReal) = arg1 m c := by
  dsimp only [V, hostOps0]
  after_reads_simp
  rfl

/-- The product of whole arrays. -/
def product (A0 : S4096x1024.Idx → EReal) (A1 : S1024x1024.Idx → EReal) : S4096x1024.Idx → EReal :=
  fun i => (∑ k : Fin 1024, A0 (ix2 (i 0) k) * A1 (ix2 (i 1) k))

/-- The product, over the arguments. -/
def value (c : Dev nD) : S4096x1024.Idx → EReal :=
  product (arg0 m c) (arg1 m c)

theorem point_apply (c : Dev nD) (t : Fin cfg0.N) (y : S1024x1024.Idx) (i : S4096x1024.Idx)
    (e0 : win0_2.index t 0 * 1024 + (y 0).val = (i 0).val) (e1 : win0_2.index t 1 * 1024 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 (y 0) k)) = _
    refine congrArg (V m c main_v0) (funext fun a => Fin.ext ((win0_0.rect_emb_val t _ a).trans ?_))
    match a with
    | ⟨0, _⟩ => show win0_0.index t 0 * 1024 + (y 0).val = (i 0).val; omega
    | ⟨1, _⟩ => show win0_0.index t 1 * 1024 + k.val = k.val; omega
  · show V m c main_v1 ((win0_1.rect t).emb (ix2 (y 1) k)) = _
    refine congrArg (V m c main_v1) (funext fun a => Fin.ext ((win0_1.rect_emb_val t _ a).trans ?_))
    match a with
    | ⟨0, _⟩ => show win0_1.index t 0 * 1024 + (y 1).val = (i 1).val; omega
    | ⟨1, _⟩ => show win0_1.index t 1 * 1024 + k.val = k.val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 4096 := (i 0).isLt
    have h1 : (i 1).val < 1024 := (i 1).isLt
    obtain ⟨t, ht⟩ : ∃ t : Fin cfg0.N, t.val = (i 0).val / 1024 * 1 + (i 1).val / 1024 :=
      ⟨⟨_, by have : cfg0.N = 4 := N_0; omega⟩, rfl⟩
    obtain ⟨-, -, -, -, r0, r1, hf⟩ := idx_of t
    refine ⟨t, hf, ?_⟩
    let y : S1024x1024.Idx := ix2 ⟨(i 0).val % 1024, Nat.mod_lt _ (by decide)⟩ ⟨(i 1).val % 1024, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 1024 + (i 1).val % 1024 = (i 1).val; omega)
    rw [← he]
    exact Finset.mem_map.mpr ⟨y, Finset.mem_univ _, rfl⟩

/-- The reference computes the same product. -/
theorem reference_eq (X0 : S4096x1024.Idx → EReal) (X1 : S1024x1024.Idx → EReal) :
    Cert.OutInputReferenceIdeal.Read.val_main_v2 (F := Ideal) X0 X1 = product X0 X1 := by
  funext i
  unfold product
  pointwise [Cert.OutInputReferenceIdeal.Read.val_main_v0, Cert.OutInputReferenceIdeal.Read.val_main_v1, Cert.OutInputReferenceIdeal.Read.val_main_v2]
  all_goals first
    | rfl
    | exact Finset.sum_congr rfl fun k _ => mul_comm _ _

/-- The kernel and the reference end with equal results. -/
theorem algebraic : Cert.algebraic_OutInputIdeal_OutInputReferenceIdeal (hOutInputIdeal := Cert.OutInputIdeal.Gen.facts) (hOutInputReferenceIdeal := Cert.OutInputReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.OutInputReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.OutInputIdeal.Product

end
-- ==== Proof.Mm.Out.lean ====
module

public import proofs.«01_k».proof.Defs
public import proofs.«01_k».proof.Proof.Gen.OutIdeal.Value
public import proofs.«01_k».proof.Proof.Gen.OutReferenceIdeal.Read
public import Idealize.ShloMosaic.Lib.Pointwise
public import Idealize.ShloMosaic.Lib.StableHlo.RunRead

@[expose] public section

set_option maxRecDepth 16384

noncomputable section

namespace Cert.OutIdeal.Product

open Cert.OutIdeal Cert.OutIdeal.Gen Cert.OutIdeal.Value
open Idealize.ShloMosaic Idealize.ShloMosaic.TcCoe Idealize.SL.Sem
open Idealize.ShloMosaic.Pipeline (Dat)

/-- One block of the result is the contraction of the blocks it is computed from. -/
theorem block_apply (x0 : Vec Ideal S1024x1024 .bf16) (x1 : Vec Ideal S1024x1024 .bf16) (j : S1024x1024.Idx) :
    out0_2 x0 x1 j = (∑ k : Fin 1024, x0 (ix2 (j 0) k) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = win0_2.index t 0 ∧ win0_0.index t 1 = 0 ∧ win0_1.index t 0 = 0 ∧ win0_1.index t 1 = win0_2.index t 1 ∧ win0_2.index t 0 = t.val / 1 ∧ win0_2.index t 1 = t.val % 1 ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S1024x1024.Idx → EReal := m ((c : Thread nD τ).loc main_arg1)

theorem entry0 (c : Dev nD) : (V m c main_v0 : S4096x1024.Idx → EReal) = arg0 m c := by
  dsimp only [V, hostOps0]
  after_reads_simp
  rfl

theorem entry1 (c : Dev nD) : (V m c main_v1 : S1024x1024.Idx → EReal) = arg1 m c := by
  dsimp only [V, hostOps0]
  after_reads_simp
  rfl

/-- The product of whole arrays. -/
def product (A0 : S4096x1024.Idx → EReal) (A1 : S1024x1024.Idx → EReal) : S4096x1024.Idx → EReal :=
  fun i => (∑ k : Fin 1024, A0 (ix2 (i 0) k) * A1 (ix2 k (i 1)))

/-- The product, over the arguments. -/
def value (c : Dev nD) : S4096x1024.Idx → EReal :=
  product (arg0 m c) (arg1 m c)

theorem point_apply (c : Dev nD) (t : Fin cfg0.N) (y : S1024x1024.Idx) (i : S4096x1024.Idx)
    (e0 : win0_2.index t 0 * 1024 + (y 0).val = (i 0).val) (e1 : win0_2.index t 1 * 1024 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 (y 0) k)) = _
    refine congrArg (V m c main_v0) (funext fun a => Fin.ext ((win0_0.rect_emb_val t _ a).trans ?_))
    match a with
    | ⟨0, _⟩ => show win0_0.index t 0 * 1024 + (y 0).val = (i 0).val; omega
    | ⟨1, _⟩ => show win0_0.index t 1 * 1024 + k.val = k.val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 1024 + k.val = k.val; omega
    | ⟨1, _⟩ => show win0_1.index t 1 * 1024 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 4096 := (i 0).isLt
    have h1 : (i 1).val < 1024 := (i 1).isLt
    obtain ⟨t, ht⟩ : ∃ t : Fin cfg0.N, t.val = (i 0).val / 1024 * 1 + (i 1).val / 1024 :=
      ⟨⟨_, by have : cfg0.N = 4 := N_0; omega⟩, rfl⟩
    obtain ⟨-, -, -, -, r0, r1, hf⟩ := idx_of t
    refine ⟨t, hf, ?_⟩
    let y : S1024x1024.Idx := ix2 ⟨(i 0).val % 1024, Nat.mod_lt _ (by decide)⟩ ⟨(i 1).val % 1024, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 1024 + (i 1).val % 1024 = (i 1).val; omega)
    rw [← he]
    exact Finset.mem_map.mpr ⟨y, Finset.mem_univ _, rfl⟩

/-- The reference computes the same product. -/
theorem reference_eq (X0 : S4096x1024.Idx → EReal) (X1 : S1024x1024.Idx → EReal) :
    Cert.OutReferenceIdeal.Read.val_main_v0 (F := Ideal) X0 X1 = product X0 X1 := by
  funext i
  unfold product
  pointwise [Cert.OutReferenceIdeal.Read.val_main_v0]
  all_goals first
    | rfl
    | exact Finset.sum_congr rfl fun k _ => mul_comm _ _

/-- The kernel and the reference end with equal results. -/
theorem algebraic : Cert.algebraic_OutIdeal_OutReferenceIdeal (hOutIdeal := Cert.OutIdeal.Gen.facts) (hOutReferenceIdeal := Cert.OutReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.OutReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.OutIdeal.Product

end
-- ==== Proof.Mm.RetWeight.lean ====
module

public import proofs.«01_k».proof.Defs
public import proofs.«01_k».proof.Proof.Gen.RetWeightIdeal.Value
public import proofs.«01_k».proof.Proof.Gen.RetWeightReferenceIdeal.Read
public import Idealize.ShloMosaic.Lib.Pointwise
public import Idealize.ShloMosaic.Lib.StableHlo.RunRead

@[expose] public section

set_option maxRecDepth 16384

noncomputable section

namespace Cert.RetWeightIdeal.Product

open Cert.RetWeightIdeal Cert.RetWeightIdeal.Gen Cert.RetWeightIdeal.Value
open Idealize.ShloMosaic Idealize.ShloMosaic.TcCoe Idealize.SL.Sem
open Idealize.ShloMosaic.Pipeline (Dat)

/-- One block of the result is the contraction of the blocks it is computed from. -/
theorem block_apply (x0 : Vec Ideal S4096x512 .bf16) (x1 : Vec Ideal S4096x256 .bf16) (j : S512x256.Idx) :
    out0_2 x0 x1 j = (∑ k : Fin 4096, x0 (ix2 k (j 0)) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = 0 ∧ win0_0.index t 1 = win0_2.index t 0 ∧ win0_1.index t 0 = 0 ∧ win0_1.index t 1 = win0_2.index t 1 ∧ win0_2.index t 0 = t.val / 4 ∧ win0_2.index t 1 = t.val % 4 ∧ (cfg0.win 2).flush t = true := by
  decide +kernel

variable (m : (ℓ : Loc nD τ sig) → Buf (Elt Ideal) ℓ)

/-- An argument array. -/
abbrev arg0 (c : Dev nD) : S4096x512.Idx → EReal := m ((c : Thread nD τ).loc main_arg0)
/-- An argument array. -/
abbrev arg1 (c : Dev nD) : S4096x1024.Idx → EReal := m ((c : Thread nD τ).loc main_arg1)

theorem entry0 (c : Dev nD) : (V m c main_v0 : S4096x512.Idx → EReal) = arg0 m c := by
  dsimp only [V, hostOps0]
  after_reads_simp
  rfl

theorem entry1 (c : Dev nD) : (V m c main_v1 : S4096x1024.Idx → EReal) = arg1 m c := by
  dsimp only [V, hostOps0]
  after_reads_simp
  rfl

/-- The product of whole arrays. -/
def product (A0 : S4096x512.Idx → EReal) (A1 : S4096x1024.Idx → EReal) : S512x1024.Idx → EReal :=
  fun i => (∑ k : Fin 4096, A0 (ix2 k (i 0)) * A1 (ix2 k (i 1)))

/-- The product, over the arguments. -/
def value (c : Dev nD) : S512x1024.Idx → EReal :=
  product (arg0 m c) (arg1 m c)

theorem point_apply (c : Dev nD) (t : Fin cfg0.N) (y : S512x256.Idx) (i : S512x1024.Idx)
    (e0 : win0_2.index t 0 * 512 + (y 0).val = (i 0).val) (e1 : win0_2.index t 1 * 256 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 k (y 0))) = _
    refine congrArg (V m c main_v0) (funext fun a => Fin.ext ((win0_0.rect_emb_val t _ a).trans ?_))
    match a with
    | ⟨0, _⟩ => show win0_0.index t 0 * 4096 + k.val = k.val; omega
    | ⟨1, _⟩ => show win0_0.index t 1 * 512 + (y 0).val = (i 0).val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 4096 + k.val = k.val; omega
    | ⟨1, _⟩ => show win0_1.index t 1 * 256 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 512 := (i 0).isLt
    have h1 : (i 1).val < 1024 := (i 1).isLt
    obtain ⟨t, ht⟩ : ∃ t : Fin cfg0.N, t.val = (i 0).val / 512 * 4 + (i 1).val / 256 :=
      ⟨⟨_, by have : cfg0.N = 4 := N_0; omega⟩, rfl⟩
    obtain ⟨-, -, -, -, r0, r1, hf⟩ := idx_of t
    refine ⟨t, hf, ?_⟩
    let y : S512x256.Idx := ix2 ⟨(i 0).val % 512, Nat.mod_lt _ (by decide)⟩ ⟨(i 1).val % 256, Nat.mod_lt _ (by decide)⟩
    have he : ((cfg0.win 2).blk t).view.emb y = i := funext fun a => Fin.ext (by
      refine (win0_2.rect_emb_val t y a).trans ?_
      match a with
      | ⟨0, _⟩ => show win0_2.index t 0 * 512 + (i 0).val % 512 = (i 0).val; omega
      | ⟨1, _⟩ => show win0_2.index t 1 * 256 + (i 1).val % 256 = (i 1).val; omega)
    rw [← he]
    exact Finset.mem_map.mpr ⟨y, Finset.mem_univ _, rfl⟩

/-- The reference computes the same product. -/
theorem reference_eq (X0 : S4096x512.Idx → EReal) (X1 : S4096x1024.Idx → EReal) :
    Cert.RetWeightReferenceIdeal.Read.val_main_v4 (F := Ideal) X0 X1 = product X0 X1 := by
  funext i
  unfold product
  pointwise [Cert.RetWeightReferenceIdeal.Read.val_main_v0, Cert.RetWeightReferenceIdeal.Read.val_main_v1, Cert.RetWeightReferenceIdeal.Read.val_main_v2, Cert.RetWeightReferenceIdeal.Read.val_main_v3, Cert.RetWeightReferenceIdeal.Read.val_main_v4]
  all_goals first
    | rfl
    | exact Finset.sum_congr rfl fun k _ => mul_comm _ _

/-- The kernel and the reference end with equal results. -/
theorem algebraic : Cert.algebraic_RetWeightIdeal_RetWeightReferenceIdeal (hRetWeightIdeal := Cert.RetWeightIdeal.Gen.facts) (hRetWeightReferenceIdeal := Cert.RetWeightReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.RetWeightReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.RetWeightIdeal.Product

end
-- ==== Proof.Mm.RetInput.lean ====
module

public import proofs.«01_k».proof.Defs
public import proofs.«01_k».proof.Proof.Gen.RetInputIdeal.Value
public import proofs.«01_k».proof.Proof.Gen.RetInputReferenceIdeal.Read
public import Idealize.ShloMosaic.Lib.Pointwise
public import Idealize.ShloMosaic.Lib.StableHlo.RunRead

@[expose] public section

set_option maxRecDepth 16384

noncomputable section

namespace Cert.RetInputIdeal.Product

open Cert.RetInputIdeal Cert.RetInputIdeal.Gen Cert.RetInputIdeal.Value
open Idealize.ShloMosaic Idealize.ShloMosaic.TcCoe Idealize.SL.Sem
open Idealize.ShloMosaic.Pipeline (Dat)

/-- One block of the result is the contraction of the blocks it is computed from. -/
theorem block_apply (x0 : Vec Ideal S1024x1024 .bf16) (x1 : Vec Ideal S512x1024 .bf16) (j : S1024x512.Idx) :
    out0_2 x0 x1 j = (∑ k : Fin 1024, x0 (ix2 (j 0) k) * x1 (ix2 (j 1) k)) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = win0_2.index t 0 ∧ win0_0.index t 1 = 0 ∧ win0_1.index t 0 = win0_2.index t 1 ∧ win0_1.index t 1 = 0 ∧ win0_2.index t 0 = t.val / 1 ∧ win0_2.index t 1 = t.val % 1 ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S512x1024.Idx → EReal := m ((c : Thread nD τ).loc main_arg1)

theorem entry0 (c : Dev nD) : (V m c main_v0 : S4096x1024.Idx → EReal) = arg0 m c := by
  dsimp only [V, hostOps0]
  after_reads_simp
  rfl

theorem entry1 (c : Dev nD) : (V m c main_v1 : S512x1024.Idx → EReal) = arg1 m c := by
  dsimp only [V, hostOps0]
  after_reads_simp
  rfl

/-- The product of whole arrays. -/
def product (A0 : S4096x1024.Idx → EReal) (A1 : S512x1024.Idx → EReal) : S4096x512.Idx → EReal :=
  fun i => (∑ k : Fin 1024, A0 (ix2 (i 0) k) * A1 (ix2 (i 1) k))

/-- The product, over the arguments. -/
def value (c : Dev nD) : S4096x512.Idx → EReal :=
  product (arg0 m c) (arg1 m c)

theorem point_apply (c : Dev nD) (t : Fin cfg0.N) (y : S1024x512.Idx) (i : S4096x512.Idx)
    (e0 : win0_2.index t 0 * 1024 + (y 0).val = (i 0).val) (e1 : win0_2.index t 1 * 512 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 (y 0) k)) = _
    refine congrArg (V m c main_v0) (funext fun a => Fin.ext ((win0_0.rect_emb_val t _ a).trans ?_))
    match a with
    | ⟨0, _⟩ => show win0_0.index t 0 * 1024 + (y 0).val = (i 0).val; omega
    | ⟨1, _⟩ => show win0_0.index t 1 * 1024 + k.val = k.val; omega
  · show V m c main_v1 ((win0_1.rect t).emb (ix2 (y 1) k)) = _
    refine congrArg (V m c main_v1) (funext fun a => Fin.ext ((win0_1.rect_emb_val t _ a).trans ?_))
    match a with
    | ⟨0, _⟩ => show win0_1.index t 0 * 512 + (y 1).val = (i 1).val; omega
    | ⟨1, _⟩ => show win0_1.index t 1 * 1024 + k.val = k.val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 4096 := (i 0).isLt
    have h1 : (i 1).val < 512 := (i 1).isLt
    obtain ⟨t, ht⟩ : ∃ t : Fin cfg0.N, t.val = (i 0).val / 1024 * 1 + (i 1).val / 512 :=
      ⟨⟨_, by have : cfg0.N = 4 := N_0; omega⟩, rfl⟩
    obtain ⟨-, -, -, -, r0, r1, hf⟩ := idx_of t
    refine ⟨t, hf, ?_⟩
    let y : S1024x512.Idx := ix2 ⟨(i 0).val % 1024, Nat.mod_lt _ (by decide)⟩ ⟨(i 1).val % 512, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 512 + (i 1).val % 512 = (i 1).val; omega)
    rw [← he]
    exact Finset.mem_map.mpr ⟨y, Finset.mem_univ _, rfl⟩

/-- The reference computes the same product. -/
theorem reference_eq (X0 : S4096x1024.Idx → EReal) (X1 : S512x1024.Idx → EReal) :
    Cert.RetInputReferenceIdeal.Read.val_main_v2 (F := Ideal) X0 X1 = product X0 X1 := by
  funext i
  unfold product
  pointwise [Cert.RetInputReferenceIdeal.Read.val_main_v0, Cert.RetInputReferenceIdeal.Read.val_main_v1, Cert.RetInputReferenceIdeal.Read.val_main_v2]
  all_goals first
    | rfl
    | exact Finset.sum_congr rfl fun k _ => mul_comm _ _

/-- The kernel and the reference end with equal results. -/
theorem algebraic : Cert.algebraic_RetInputIdeal_RetInputReferenceIdeal (hRetInputIdeal := Cert.RetInputIdeal.Gen.facts) (hRetInputReferenceIdeal := Cert.RetInputReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.RetInputReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.RetInputIdeal.Product

end
-- ==== Proof.Mm.RetOut.lean ====
module

public import proofs.«01_k».proof.Defs
public import proofs.«01_k».proof.Proof.Gen.RetOutIdeal.Value
public import proofs.«01_k».proof.Proof.Gen.RetOutReferenceIdeal.Read
public import Idealize.ShloMosaic.Lib.Pointwise
public import Idealize.ShloMosaic.Lib.StableHlo.RunRead

@[expose] public section

set_option maxRecDepth 16384

noncomputable section

namespace Cert.RetOutIdeal.Product

open Cert.RetOutIdeal Cert.RetOutIdeal.Gen Cert.RetOutIdeal.Value
open Idealize.ShloMosaic Idealize.ShloMosaic.TcCoe Idealize.SL.Sem
open Idealize.ShloMosaic.Pipeline (Dat)

/-- One block of the result is the contraction of the blocks it is computed from. -/
theorem block_apply (x0 : Vec Ideal S1024x512 .bf16) (x1 : Vec Ideal S512x1024 .bf16) (j : S1024x1024.Idx) :
    out0_2 x0 x1 j = (∑ k : Fin 512, x0 (ix2 (j 0) k) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = win0_2.index t 0 ∧ win0_0.index t 1 = 0 ∧ win0_1.index t 0 = 0 ∧ win0_1.index t 1 = win0_2.index t 1 ∧ win0_2.index t 0 = t.val / 1 ∧ win0_2.index t 1 = t.val % 1 ∧ (cfg0.win 2).flush t = true := by
  decide +kernel

variable (m : (ℓ : Loc nD τ sig) → Buf (Elt Ideal) ℓ)

/-- An argument array. -/
abbrev arg0 (c : Dev nD) : S4096x512.Idx → EReal := m ((c : Thread nD τ).loc main_arg0)
/-- An argument array. -/
abbrev arg1 (c : Dev nD) : S512x1024.Idx → EReal := m ((c : Thread nD τ).loc main_arg1)

theorem entry0 (c : Dev nD) : (V m c main_v0 : S4096x512.Idx → EReal) = arg0 m c := by
  dsimp only [V, hostOps0]
  after_reads_simp
  rfl

theorem entry1 (c : Dev nD) : (V m c main_v1 : S512x1024.Idx → EReal) = arg1 m c := by
  dsimp only [V, hostOps0]
  after_reads_simp
  rfl

/-- The product of whole arrays. -/
def product (A0 : S4096x512.Idx → EReal) (A1 : S512x1024.Idx → EReal) : S4096x1024.Idx → EReal :=
  fun i => (∑ k : Fin 512, A0 (ix2 (i 0) k) * A1 (ix2 k (i 1)))

/-- The product, over the arguments. -/
def value (c : Dev nD) : S4096x1024.Idx → EReal :=
  product (arg0 m c) (arg1 m c)

theorem point_apply (c : Dev nD) (t : Fin cfg0.N) (y : S1024x1024.Idx) (i : S4096x1024.Idx)
    (e0 : win0_2.index t 0 * 1024 + (y 0).val = (i 0).val) (e1 : win0_2.index t 1 * 1024 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 (y 0) k)) = _
    refine congrArg (V m c main_v0) (funext fun a => Fin.ext ((win0_0.rect_emb_val t _ a).trans ?_))
    match a with
    | ⟨0, _⟩ => show win0_0.index t 0 * 1024 + (y 0).val = (i 0).val; omega
    | ⟨1, _⟩ => show win0_0.index t 1 * 512 + k.val = k.val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 512 + k.val = k.val; omega
    | ⟨1, _⟩ => show win0_1.index t 1 * 1024 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 4096 := (i 0).isLt
    have h1 : (i 1).val < 1024 := (i 1).isLt
    obtain ⟨t, ht⟩ : ∃ t : Fin cfg0.N, t.val = (i 0).val / 1024 * 1 + (i 1).val / 1024 :=
      ⟨⟨_, by have : cfg0.N = 4 := N_0; omega⟩, rfl⟩
    obtain ⟨-, -, -, -, r0, r1, hf⟩ := idx_of t
    refine ⟨t, hf, ?_⟩
    let y : S1024x1024.Idx := ix2 ⟨(i 0).val % 1024, Nat.mod_lt _ (by decide)⟩ ⟨(i 1).val % 1024, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 1024 + (i 1).val % 1024 = (i 1).val; omega)
    rw [← he]
    exact Finset.mem_map.mpr ⟨y, Finset.mem_univ _, rfl⟩

/-- The reference computes the same product. -/
theorem reference_eq (X0 : S4096x512.Idx → EReal) (X1 : S512x1024.Idx → EReal) :
    Cert.RetOutReferenceIdeal.Read.val_main_v0 (F := Ideal) X0 X1 = product X0 X1 := by
  funext i
  unfold product
  pointwise [Cert.RetOutReferenceIdeal.Read.val_main_v0]
  all_goals first
    | rfl
    | exact Finset.sum_congr rfl fun k _ => mul_comm _ _

/-- The kernel and the reference end with equal results. -/
theorem algebraic : Cert.algebraic_RetOutIdeal_RetOutReferenceIdeal (hRetOutIdeal := Cert.RetOutIdeal.Gen.facts) (hRetOutReferenceIdeal := Cert.RetOutReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.RetOutReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.RetOutIdeal.Product

end
-- ==== Proof.Mm.PleWeight.lean ====
module

public import proofs.«01_k».proof.Defs
public import proofs.«01_k».proof.Proof.Gen.PleWeightIdeal.Value
public import proofs.«01_k».proof.Proof.Gen.PleWeightReferenceIdeal.Read
public import Idealize.ShloMosaic.Lib.Pointwise
public import Idealize.ShloMosaic.Lib.StableHlo.RunRead

@[expose] public section

set_option maxRecDepth 16384

noncomputable section

namespace Cert.PleWeightIdeal.Product

open Cert.PleWeightIdeal Cert.PleWeightIdeal.Gen Cert.PleWeightIdeal.Value
open Idealize.ShloMosaic Idealize.ShloMosaic.TcCoe Idealize.SL.Sem
open Idealize.ShloMosaic.Pipeline (Dat)

/-- One block of the result is the contraction of the blocks it is computed from. -/
theorem block_apply (x0 : Vec Ideal S4096x256 .bf16) (x1 : Vec Ideal S4096x256 .bf16) (j : S256x256.Idx) :
    out0_2 x0 x1 j = (∑ k : Fin 4096, x0 (ix2 k (j 0)) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = 0 ∧ win0_0.index t 1 = win0_2.index t 0 ∧ win0_1.index t 0 = 0 ∧ win0_1.index t 1 = win0_2.index t 1 ∧ win0_2.index t 0 = t.val / 4 ∧ win0_2.index t 1 = t.val % 4 ∧ (cfg0.win 2).flush t = true := by
  decide +kernel

variable (m : (ℓ : Loc nD τ sig) → Buf (Elt Ideal) ℓ)

/-- An argument array. -/
abbrev arg0 (c : Dev nD) : S4096x256.Idx → EReal := m ((c : Thread nD τ).loc main_arg0)
/-- An argument array. -/
abbrev arg1 (c : Dev nD) : S4096x1024.Idx → EReal := m ((c : Thread nD τ).loc main_arg1)

theorem entry0 (c : Dev nD) : (V m c main_v0 : S4096x256.Idx → EReal) = arg0 m c := by
  dsimp only [V, hostOps0]
  after_reads_simp
  rfl

theorem entry1 (c : Dev nD) : (V m c main_v1 : S4096x1024.Idx → EReal) = arg1 m c := by
  dsimp only [V, hostOps0]
  after_reads_simp
  rfl

/-- The product of whole arrays. -/
def product (A0 : S4096x256.Idx → EReal) (A1 : S4096x1024.Idx → EReal) : S256x1024.Idx → EReal :=
  fun i => (∑ k : Fin 4096, A0 (ix2 k (i 0)) * A1 (ix2 k (i 1)))

/-- The product, over the arguments. -/
def value (c : Dev nD) : S256x1024.Idx → EReal :=
  product (arg0 m c) (arg1 m c)

theorem point_apply (c : Dev nD) (t : Fin cfg0.N) (y : S256x256.Idx) (i : S256x1024.Idx)
    (e0 : win0_2.index t 0 * 256 + (y 0).val = (i 0).val) (e1 : win0_2.index t 1 * 256 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 k (y 0))) = _
    refine congrArg (V m c main_v0) (funext fun a => Fin.ext ((win0_0.rect_emb_val t _ a).trans ?_))
    match a with
    | ⟨0, _⟩ => show win0_0.index t 0 * 4096 + k.val = k.val; omega
    | ⟨1, _⟩ => show win0_0.index t 1 * 256 + (y 0).val = (i 0).val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 4096 + k.val = k.val; omega
    | ⟨1, _⟩ => show win0_1.index t 1 * 256 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 256 := (i 0).isLt
    have h1 : (i 1).val < 1024 := (i 1).isLt
    obtain ⟨t, ht⟩ : ∃ t : Fin cfg0.N, t.val = (i 0).val / 256 * 4 + (i 1).val / 256 :=
      ⟨⟨_, by have : cfg0.N = 4 := N_0; omega⟩, rfl⟩
    obtain ⟨-, -, -, -, r0, r1, hf⟩ := idx_of t
    refine ⟨t, hf, ?_⟩
    let y : S256x256.Idx := ix2 ⟨(i 0).val % 256, Nat.mod_lt _ (by decide)⟩ ⟨(i 1).val % 256, Nat.mod_lt _ (by decide)⟩
    have he : ((cfg0.win 2).blk t).view.emb y = i := funext fun a => Fin.ext (by
      refine (win0_2.rect_emb_val t y a).trans ?_
      match a with
      | ⟨0, _⟩ => show win0_2.index t 0 * 256 + (i 0).val % 256 = (i 0).val; omega
      | ⟨1, _⟩ => show win0_2.index t 1 * 256 + (i 1).val % 256 = (i 1).val; omega)
    rw [← he]
    exact Finset.mem_map.mpr ⟨y, Finset.mem_univ _, rfl⟩

/-- The reference computes the same product. -/
theorem reference_eq (X0 : S4096x256.Idx → EReal) (X1 : S4096x1024.Idx → EReal) :
    Cert.PleWeightReferenceIdeal.Read.val_main_v4 (F := Ideal) X0 X1 = product X0 X1 := by
  funext i
  unfold product
  pointwise [Cert.PleWeightReferenceIdeal.Read.val_main_v0, Cert.PleWeightReferenceIdeal.Read.val_main_v1, Cert.PleWeightReferenceIdeal.Read.val_main_v2, Cert.PleWeightReferenceIdeal.Read.val_main_v3, Cert.PleWeightReferenceIdeal.Read.val_main_v4]
  all_goals first
    | rfl
    | exact Finset.sum_congr rfl fun k _ => mul_comm _ _

/-- The kernel and the reference end with equal results. -/
theorem algebraic : Cert.algebraic_PleWeightIdeal_PleWeightReferenceIdeal (hPleWeightIdeal := Cert.PleWeightIdeal.Gen.facts) (hPleWeightReferenceIdeal := Cert.PleWeightReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.PleWeightReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.PleWeightIdeal.Product

end
-- ==== Proof.Mm.Ple.lean ====
module

public import proofs.«01_k».proof.Defs
public import proofs.«01_k».proof.Proof.Gen.PleIdeal.Value
public import proofs.«01_k».proof.Proof.Gen.PleReferenceIdeal.Read
public import Idealize.ShloMosaic.Lib.Pointwise
public import Idealize.ShloMosaic.Lib.StableHlo.RunRead

@[expose] public section

set_option maxRecDepth 16384

noncomputable section

namespace Cert.PleIdeal.Product

open Cert.PleIdeal Cert.PleIdeal.Gen Cert.PleIdeal.Value
open Idealize.ShloMosaic Idealize.ShloMosaic.TcCoe Idealize.SL.Sem
open Idealize.ShloMosaic.Pipeline (Dat)

/-- One block of the result is the contraction of the blocks it is computed from. -/
theorem block_apply (x0 : Vec Ideal S1024x256 .bf16) (x1 : Vec Ideal S256x1024 .bf16) (j : S1024x1024.Idx) :
    out0_2 x0 x1 j = (∑ k : Fin 256, x0 (ix2 (j 0) k) * x1 (ix2 k (j 1))) := by
  have z : (![0, 0] : Fin 2 → Nat) = fun _ => 0 := by decide
  unfold out0_2
  rw [View.canon_unit_zero z, View.ld_unit_zero z, View.ld_unit_zero z]
  pointwise [k0_pay1]

/-- Where the blocks of a grid point lie. -/
theorem idx_of : ∀ t : Fin cfg0.N, win0_0.index t 0 = win0_2.index t 0 ∧ win0_0.index t 1 = 0 ∧ win0_1.index t 0 = 0 ∧ win0_1.index t 1 = win0_2.index t 1 ∧ win0_2.index t 0 = t.val / 1 ∧ win0_2.index t 1 = t.val % 1 ∧ (cfg0.win 2).flush t = true := by
  decide +kernel

variable (m : (ℓ : Loc nD τ sig) → Buf (Elt Ideal) ℓ)

/-- An argument array. -/
abbrev arg0 (c : Dev nD) : S4096x256.Idx → EReal := m ((c : Thread nD τ).loc main_arg0)
/-- An argument array. -/
abbrev arg1 (c : Dev nD) : S256x1024.Idx → EReal := m ((c : Thread nD τ).loc main_arg1)

theorem entry0 (c : Dev nD) : (V m c main_v0 : S4096x256.Idx → EReal) = arg0 m c := by
  dsimp only [V, hostOps0]
  after_reads_simp
  rfl

theorem entry1 (c : Dev nD) : (V m c main_v1 : S256x1024.Idx → EReal) = arg1 m c := by
  dsimp only [V, hostOps0]
  after_reads_simp
  rfl

/-- The product of whole arrays. -/
def product (A0 : S4096x256.Idx → EReal) (A1 : S256x1024.Idx → EReal) : S4096x1024.Idx → EReal :=
  fun i => (∑ k : Fin 256, A0 (ix2 (i 0) k) * A1 (ix2 k (i 1)))

/-- The product, over the arguments. -/
def value (c : Dev nD) : S4096x1024.Idx → EReal :=
  product (arg0 m c) (arg1 m c)

theorem point_apply (c : Dev nD) (t : Fin cfg0.N) (y : S1024x1024.Idx) (i : S4096x1024.Idx)
    (e0 : win0_2.index t 0 * 1024 + (y 0).val = (i 0).val) (e1 : win0_2.index t 1 * 1024 + (y 1).val = (i 1).val) :
    out0_2 (iblk m c 0 t) (iblk m c 1 t) y = value m c i := by
  obtain ⟨a0, b0, a1, b1, -, -, -⟩ := idx_of t
  have hv : value m c = product (V m c main_v0) (V m c main_v1) := by
    unfold value
    rw [entry0 m c, entry1 m c]
    all_goals rfl
  rw [block_apply, hv]
  have l : ∀ (u v x y : EReal), u = x → v = y → u * v = x * y := fun _ _ _ _ h h' => by rw [h, h']
  refine Finset.sum_congr rfl fun k _ => l _ _ _ _ ?_ ?_
  · show V m c main_v0 ((win0_0.rect t).emb (ix2 (y 0) k)) = _
    refine congrArg (V m c main_v0) (funext fun a => Fin.ext ((win0_0.rect_emb_val t _ a).trans ?_))
    match a with
    | ⟨0, _⟩ => show win0_0.index t 0 * 1024 + (y 0).val = (i 0).val; omega
    | ⟨1, _⟩ => show win0_0.index t 1 * 256 + k.val = k.val; omega
  · show V m c main_v1 ((win0_1.rect t).emb (ix2 k (y 1))) = _
    refine congrArg (V m c main_v1) (funext fun a => Fin.ext ((win0_1.rect_emb_val t _ a).trans ?_))
    match a with
    | ⟨0, _⟩ => show win0_1.index t 0 * 256 + k.val = k.val; omega
    | ⟨1, _⟩ => show win0_1.index t 1 * 1024 + (y 1).val = (i 1).val; omega

/-- The result array of the kernel. -/
theorem array_eq (c : Dev nD) : (dats m 0 c).arrAt 2 cfg0.N = value m c := by
  refine (dats m 0 c).arrAt_eq_of_cover 2 (value m c) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 4096 := (i 0).isLt
    have h1 : (i 1).val < 1024 := (i 1).isLt
    obtain ⟨t, ht⟩ : ∃ t : Fin cfg0.N, t.val = (i 0).val / 1024 * 1 + (i 1).val / 1024 :=
      ⟨⟨_, by have : cfg0.N = 4 := N_0; omega⟩, rfl⟩
    obtain ⟨-, -, -, -, r0, r1, hf⟩ := idx_of t
    refine ⟨t, hf, ?_⟩
    let y : S1024x1024.Idx := ix2 ⟨(i 0).val % 1024, Nat.mod_lt _ (by decide)⟩ ⟨(i 1).val % 1024, Nat.mod_lt _ (by decide)⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 1024 + (i 1).val % 1024 = (i 1).val; omega)
    rw [← he]
    exact Finset.mem_map.mpr ⟨y, Finset.mem_univ _, rfl⟩

/-- The reference computes the same product. -/
theorem reference_eq (X0 : S4096x256.Idx → EReal) (X1 : S256x1024.Idx → EReal) :
    Cert.PleReferenceIdeal.Read.val_main_v0 (F := Ideal) X0 X1 = product X0 X1 := by
  funext i
  unfold product
  pointwise [Cert.PleReferenceIdeal.Read.val_main_v0]
  all_goals first
    | rfl
    | exact Finset.sum_congr rfl fun k _ => mul_comm _ _

/-- The kernel and the reference end with equal results. -/
theorem algebraic : Cert.algebraic_PleIdeal_PleReferenceIdeal (hPleIdeal := Cert.PleIdeal.Gen.facts) (hPleReferenceIdeal := Cert.PleReferenceIdeal.Gen.facts) := by
  intro m g m' g' _ hargs
  refine ⟨fun c => value m c, ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.PleReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.PleIdeal.Product

end
-- ==== Proof.Mm.All.lean ====
module

public import proofs.«01_k».proof.Proof.Mm.FfnDownWeight
public import proofs.«01_k».proof.Proof.Mm.FfnInner
public import proofs.«01_k».proof.Proof.Mm.FfnUpWeight
public import proofs.«01_k».proof.Proof.Mm.FfnInput
public import proofs.«01_k».proof.Proof.Mm.FfnUp
public import proofs.«01_k».proof.Proof.Mm.FfnDown
public import proofs.«01_k».proof.Proof.Mm.MixerWeight
public import proofs.«01_k».proof.Proof.Mm.MixerInput
public import proofs.«01_k».proof.Proof.Mm.MixerIn
public import proofs.«01_k».proof.Proof.Mm.MergeWeight
public import proofs.«01_k».proof.Proof.Mm.Merge
public import proofs.«01_k».proof.Proof.Mm.OutWeight
public import proofs.«01_k».proof.Proof.Mm.OutInput
public import proofs.«01_k».proof.Proof.Mm.Out
public import proofs.«01_k».proof.Proof.Mm.RetWeight
public import proofs.«01_k».proof.Proof.Mm.RetInput
public import proofs.«01_k».proof.Proof.Mm.RetOut
public import proofs.«01_k».proof.Proof.Mm.PleWeight
public import proofs.«01_k».proof.Proof.Mm.Ple
-- ==== Proof.Ret.Line.lean ====
/- What the kernel region finds in a buffer written on the host: every host buffer is written once, in the order of its slot, so
   the region finds in it the result of its own operation at what the region finds in that operation's operands. -/
module

public import proofs.«01_k».proof.Proof.Gen.KernelIdeal.Value
public import Idealize.ShloMosaic.Lib.StableHlo.RunRead

@[expose] public section

set_option maxRecDepth 65536

noncomputable section

namespace Cert.KernelIdeal.Ret

open Cert.KernelIdeal Cert.KernelIdeal.Gen Idealize.ShloMosaic Idealize.ShloMosaic.TcCoe Idealize.ShloMosaic.StableHlo

variable {F : FTy → Type} [FloatOps F]

/-- The host operations before the region, in order. -/
abbrev line : List (HloOp τ sig (Elt F)) := List.flatten [hostOps0, hostOps0_1, hostOps0_2, hostOps0_3, hostOps0_4]

/-- The buffers they write, in order. -/
def written : List (Ref sig .tc) :=
  [ main_v0, main_cst, main_v1, main_v2, main_cst_0, main_v3, main_v4, main_cst_1, main_v5, main_v6, main_v7, main_v8,
    main_v9, main_v10, main_v11, main_v12, main_v13, main_v14, main_v15, main_v16, main_v17, main_v18, main_v19,
    main_v20, main_v21, main_v22, main_v23, main_v24, main_v25, main_v26, main_v27, main_v28, main_v29, main_v30,
    main_v31, main_v32, main_v33, main_v34, main_v35, main_v36, main_v37, main_cst_2, main_v38, main_cst_3, main_v39,
    main_v40, main_v41, main_v42, main_v43, main_v44, main_v45, main_v46, main_v47, main_v48, main_v49, main_v50,
    main_v51, main_v52, main_v53, main_v54, main_v55, main_v56, main_v57, main_v58, main_cst_4, main_v59, main_cst_5,
    main_v60, main_v61, main_v62, main_v63, main_v64, main_v65, main_cst_6, main_v66, main_v67, main_v68, main_v69,
    main_v70, main_cst_7, main_v71, main_v72, main_cst_8, main_v73, main_v74, main_v75, main_v76, main_v77, main_v78,
    main_v79, main_v80, main_v81, main_v82, main_v83, main_cst_9, main_v84, main_v85, main_v86, main_cst_10, main_v87,
    main_v88, main_v89, main_v90, main_v91, main_v92, main_v93, main_cst_11, main_call0_v0, main_call0_v1,
    main_call0_v2, main_v94, main_v95, main_v96, main_v97, main_v98, main_v99, main_v100, main_cst_12, main_v101,
    main_v102, main_v103, main_v104, main_v105, main_v106, main_v107, main_v108, main_v109, main_v110, main_v111,
    main_cst_13, main_v112, main_v113, main_v114, main_v115, main_cst_14, main_v116, main_v117, main_v118, main_cst_15,
    main_v119, main_v120, main_v121, main_v122, main_v123, main_v124, main_v125, main_v126, main_v127, main_v128,
    main_v129, main_v130, main_v131, main_v132, main_v133, main_v134, main_v135, main_v136, main_v137, main_v138,
    main_v139, main_v140, main_v141, main_v142, main_v143, main_v144, main_v145, main_v146, main_v147, main_v148,
    main_v149, main_v150, main_v151, main_v152, main_v153, main_v154, main_v155, main_v156, main_v157, main_v158,
    main_v159, main_v160, main_v161, main_v162, main_v163, main_v164, main_v165, main_v166, main_v167, main_v168,
    main_v169, main_v170, main_v171, main_v172, main_v173, main_v174, main_v175, main_v176, main_v177, main_v178,
    main_v179, main_v180, main_v181, main_v182, main_v183, main_v184, main_v185, main_v186, main_v187, main_v188,
    main_v189, main_v190, main_v191, main_v192, main_v193, main_v194, main_v195, main_v196, main_v197, main_v198,
    main_v199, main_v200, main_v201, main_v202, main_v203, main_v204, main_v205, main_v206, main_v207, main_v208,
    main_v209, main_v210, main_v211, main_v212, main_v213, main_v214, main_v215, main_v216, main_v217, main_v218,
    main_v219, main_v220, main_v221, main_v222, main_v223, main_v224, main_v225, main_v226, main_v227, main_v228,
    main_v229, main_v230, main_v231, main_v232, main_v233, main_v234, main_v235, main_v236, main_v237, main_v238,
    main_v239, main_v240, main_v241, main_v242, main_v243, main_v244, main_v245, main_v246, main_v247, main_v248,
    main_v249, main_v250, main_v251, main_v252, main_v253, main_v254, main_v255, main_v256, main_v257, main_v258,
    main_v259, main_v260, main_v261, main_v262, main_v263, main_v264, main_v265, main_v266, main_v267, main_v268,
    main_v269, main_v270, main_v271, main_v272, main_v273, main_v274, main_v275, main_v276, main_v277, main_v278,
    main_v279, main_v280, main_v281, main_v282, main_v283, main_v284, main_v285, main_v286, main_v287, main_v288,
    main_v289, main_v290, main_v291, main_v292, main_v293, main_v294, main_v295, main_v296, main_v297, main_v298,
    main_v299, main_v300, main_v301, main_v302, main_v303, main_v304, main_v305, main_v306, main_v307, main_v308,
    main_v309, main_v310, main_v311, main_v312, main_v313, main_v314, main_v315, main_v316, main_cst_16, main_v317,
    main_v318, main_v319, main_v320, main_v321, main_v322, main_v323, main_v324, main_v325, main_v326, main_v327,
    main_v328, main_v329, main_v330, main_v331, main_v332, main_v333, main_v334, main_v335, main_cst_17, main_v336,
    main_v337, main_cst_18, main_v338, main_v339, main_v340, main_v341, main_v342, main_v343, main_v344, main_v345,
    main_v346, main_v347, main_v348, main_cst_19, main_v349, main_v350, main_v351, main_cst_20, main_v352, main_v353,
    main_v354, main_v355, main_v356, main_v357, main_v358, main_cst_21, main_call1_v0, main_call1_v1, main_call1_v2,
    main_v359, main_v360, main_cst_22, main_v361, main_v362, main_v363, main_v364, main_v365, main_v366, main_v367,
    main_v368, main_cst_23, main_v369, main_v370, main_v371, main_v372, main_v373, main_v374, main_v375, main_cst_24,
    main_v376, main_v377, main_v378, main_v379, main_v380, main_v381, main_v382, main_v383, main_v384 ]

def slot (r : Ref sig .tc) : ℕ := r.idx.val

theorem line_writes : (line (F := F)).map HloOp.writes = written.map fun w => {Proc.devRef (τ := τ) .tc w} := rfl

theorem written_slots : written.map slot = (List.range 417).map (· + 3) := by decide

/-- A buffer whose slot comes before that of operation `i` is not written from `i` on. -/
theorem not_written_from {i : ℕ} {r : Ref sig .tc} (h : slot r < i + 3) : r ∉ written.drop i := by
  intro hr
  have h1 : slot r ∈ (written.map slot).drop i := by rw [← List.map_drop]; exact List.mem_map_of_mem hr
  rw [written_slots, ← List.map_drop] at h1
  obtain ⟨k, hk, e⟩ := List.mem_map.mp h1
  obtain ⟨j, hj, rfl⟩ := List.getElem_of_mem hk
  simp at e
  omega

theorem drop_writes (i : ℕ) : ((line (F := F)).drop i).map HloOp.writes = (written.drop i).map fun w => {Proc.devRef (τ := τ) .tc w} := by
  rw [List.map_drop, line_writes, ← List.map_drop]

variable (m : (ℓ : Loc nD τ sig) → Buf (Elt F) ℓ) (c : Dev nD)

/-- What the region finds in a buffer that operations `i` and later do not write. -/
theorem found_before {i : ℕ} {r : Ref sig .tc} (h : slot r < i + 3) :
    upto (line (F := F)) (fun b => m (c, b)) i (Proc.devRef .tc r) = V m c r := by
  have e : V m c r = after ((line (F := F)).drop i) (after ((line (F := F)).take i) (fun b => m (c, b))) (Proc.devRef .tc r) := by
    rw [← after_append, List.take_append_drop]
  rw [e, after_unwritten (written.drop i) (drop_writes i) (not_written_from h)]
  rfl

/-- What the region finds in the buffer operation `i` writes. -/
theorem found_result {i : ℕ} {op : HloOp τ sig (Elt F)} {r : Ref sig .tc} (hop : (line (F := F))[i]? = some op) (hr : slot r < i + 4) :
    V m c r = op.result (upto (line (F := F)) (fun b => m (c, b)) i) (Proc.devRef .tc r) := by
  obtain ⟨hi, e⟩ := List.getElem?_eq_some_iff.mp hop
  exact after_last_write (written.drop (i + 1)) ((List.drop_eq_getElem_cons hi).trans (by rw [e])) (drop_writes (i + 1)) (not_written_from hr) _

theorem found_arg {r : Ref sig .tc} (h : slot r < 3) : V m c r = m ((c : Thread nD τ).loc r) :=
  (found_before m c (i := 0) h).symm

variable {m c}

theorem found_nullary (i : ℕ) {y : Ref sig .tc} {v : y.ty.Contents (Elt F)} {hy}
    (hop : (line (F := F))[i]? = some (nullary y v hy)) (sy : slot y < i + 4) : V m c y = v :=
  (found_result m c hop sy).trans (nullary_result ..)

theorem found_unary (i : ℕ) {x y : Ref sig .tc} {f : x.ty.Contents (Elt F) → y.ty.Contents (Elt F)} {hx hy}
    (hop : (line (F := F))[i]? = some (unary x y f hx hy)) (sy : slot y < i + 4) (sx : slot x < i + 3)
    {a : x.ty.Contents (Elt F)} (ha : V m c x = a) : V m c y = f a := by
  rw [found_result m c hop sy, unary_result, found_before m c sx, ha]

theorem found_binary (i : ℕ) {x z y : Ref sig .tc} {f : x.ty.Contents (Elt F) → z.ty.Contents (Elt F) → y.ty.Contents (Elt F)} {hx hz hy}
    (hop : (line (F := F))[i]? = some (binary x z y f hx hz hy)) (sy : slot y < i + 4) (sx : slot x < i + 3) (sz : slot z < i + 3)
    {a : x.ty.Contents (Elt F)} {b : z.ty.Contents (Elt F)} (ha : V m c x = a) (hb : V m c z = b) : V m c y = f a b := by
  rw [found_result m c hop sy, binary_result, found_before m c sx, found_before m c sz, ha, hb]

theorem found_ternary (i : ℕ) {w x z y : Ref sig .tc} {f : w.ty.Contents (Elt F) → x.ty.Contents (Elt F) → z.ty.Contents (Elt F) → y.ty.Contents (Elt F)} {hw hx hz hy}
    (hop : (line (F := F))[i]? = some (ternary w x z y f hw hx hz hy)) (sy : slot y < i + 4) (sw : slot w < i + 3) (sx : slot x < i + 3) (sz : slot z < i + 3)
    {d : w.ty.Contents (Elt F)} {a : x.ty.Contents (Elt F)} {b : z.ty.Contents (Elt F)} (hd : V m c w = d) (ha : V m c x = a) (hb : V m c z = b) :
    V m c y = f d a b := by
  rw [found_result m c hop sy, ternary_result, found_before m c sw, found_before m c sx, found_before m c sz, hd, ha, hb]

theorem found_reshape (i : ℕ) {x y : Ref sig .tc} {he hn hx hy}
    (hop : (line (F := F))[i]? = some (reshape x y he hn hx hy)) (sy : slot y < i + 4) (sx : slot x < i + 3)
    {a : x.ty.Contents (Elt F)} (ha : V m c x = a) : V m c y = fun j => he ▸ shapeCast y.ty.shape a hn j := by
  rw [found_result m c hop sy, reshape_result, found_before m c sx, ha]

theorem found_nary (i : ℕ) {n : ℕ} {xs : Fin n → Ref sig .tc} {y : Ref sig .tc} {f : ((k : Fin n) → (xs k).ty.Contents (Elt F)) → y.ty.Contents (Elt F)} {hxs hy}
    (hop : (line (F := F))[i]? = some (nary xs y f hxs hy)) (sy : slot y < i + 4) (sx : ∀ k, slot (xs k) < i + 3)
    {a : (k : Fin n) → (xs k).ty.Contents (Elt F)} (ha : ∀ k, V m c (xs k) = a k) : V m c y = f a := by
  rw [found_result m c hop sy, nary_result]
  exact congrArg f (funext fun k => (found_before m c (sx k)).trans (ha k))

end Cert.KernelIdeal.Ret
-- ==== Proof.Ret.Within.lean ====
/- The kernel's forward lines up to the state increments of the chunks: operation by operation what the reference has. -/
module

public import proofs.«01_k».proof.Proof.Ret.Line
public import proofs.«01_k».proof.Proof.Gen.ReferenceIdeal.Read

@[expose] public section

set_option maxRecDepth 65536

noncomputable section

namespace Cert.KernelIdeal.Ret

open Cert.KernelIdeal Cert.KernelIdeal.Gen Idealize.ShloMosaic Idealize.ShloMosaic.TcCoe Idealize.ShloMosaic.StableHlo
open Cert.ReferenceIdeal.Read

variable {F : FTy → Type} [FloatOps F] {m : (ℓ : Loc nD τ sig) → Buf (Elt F) ℓ} {c : Dev nD}
  {x1 : (⟨S4096x5376, .f32⟩ : BufTy).Contents (Elt F)} {x2 : (⟨S4096, .i32⟩ : BufTy).Contents (Elt F)}

/-- The turned queries and keys and the values, as the reference has them. -/
def Turned (m : (ℓ : Loc nD τ sig) → Buf (Elt F) ℓ) (c : Dev nD) (x1 : (⟨S4096x5376, .f32⟩ : BufTy).Contents (Elt F)) (x2 : (⟨S4096, .i32⟩ : BufTy).Contents (Elt F)) : Prop :=
  V m c main_v40 = val_main_v46 (F := F) x1 x2 ∧ V m c main_v61 = val_main_v81 (F := F) x1 x2 ∧ V m c main_v19 = val_main_v82 (F := F) x1

theorem found_v62 (h : Turned m c x1 x2) : V m c main_v62 = val_main_v83 (F := F) x1 x2 :=
  found_reshape 69 rfl (by decide) (by decide) h.1

theorem found_v63 (h : Turned m c x1 x2) : V m c main_v63 = val_main_v84 (F := F) x1 x2 :=
  found_unary 70 rfl (by decide) (by decide) (found_v62 h)

theorem found_v64 (h : Turned m c x1 x2) : V m c main_v64 = val_main_v85 (F := F) x1 x2 :=
  found_reshape 71 rfl (by decide) (by decide) h.2.1

theorem found_v65 (h : Turned m c x1 x2) : V m c main_v65 = val_main_v86 (F := F) x1 x2 :=
  found_unary 72 rfl (by decide) (by decide) (found_v64 h)

theorem found_cst_6 : V m c main_cst_6 = val_main_cst_5 (F := F) :=
  found_nullary 73 rfl (by decide)

theorem found_v66 : V m c main_v66 = val_main_v87 (F := F) :=
  found_unary 74 rfl (by decide) (by decide) (found_cst_6)

theorem found_v67 (h : Turned m c x1 x2) : V m c main_v67 = val_main_v88 (F := F) x1 x2 :=
  found_binary 75 rfl (by decide) (by decide) (by decide) (found_v65 h) (found_v66)

theorem found_v68 (h : Turned m c x1 x2) : V m c main_v68 = val_main_v89 (F := F) x1 :=
  found_reshape 76 rfl (by decide) (by decide) h.2.2

theorem found_v69 (h : Turned m c x1 x2) : V m c main_v69 = val_main_v90 (F := F) x1 :=
  found_unary 77 rfl (by decide) (by decide) (found_v68 h)

theorem found_v70 : V m c main_v70 = val_main_v91 (F := F) :=
  found_nullary 78 rfl (by decide)

theorem found_cst_7 : V m c main_cst_7 = val_main_cst_6 (F := F) :=
  found_nullary 79 rfl (by decide)

theorem found_v71 : V m c main_v71 = val_main_v92 (F := F) :=
  found_unary 80 rfl (by decide) (by decide) (found_cst_7)

theorem found_v72 : V m c main_v72 = val_main_v93 (F := F) :=
  found_binary 81 rfl (by decide) (by decide) (by decide) (found_v71) (found_v70)

theorem found_cst_8 : V m c main_cst_8 = val_main_cst_7 (F := F) :=
  found_nullary 82 rfl (by decide)

theorem found_v73 : V m c main_v73 = val_main_v94 (F := F) :=
  found_unary 83 rfl (by decide) (by decide) (found_cst_8)

theorem found_v74 : V m c main_v74 = val_main_v95 (F := F) :=
  found_binary 84 rfl (by decide) (by decide) (by decide) (found_v73) (found_v72)

theorem found_v75 : V m c main_v75 = val_main_v96 (F := F) :=
  found_unary 85 rfl (by decide) (by decide) (found_v74)

theorem found_v76 : V m c main_v76 = val_main_v97 (F := F) :=
  found_unary 86 rfl (by decide) (by decide) (found_v75)

theorem found_v77 : V m c main_v77 = val_main_v98 (F := F) :=
  found_unary 87 rfl (by decide) (by decide) (found_v76)

theorem found_v78 : V m c main_v78 = val_main_v99 (F := F) :=
  found_nullary 88 rfl (by decide)

theorem found_v79 : V m c main_v79 = val_main_v100 (F := F) :=
  found_unary 89 rfl (by decide) (by decide) (found_v78)

theorem found_v80 : V m c main_v80 = val_main_v101 (F := F) :=
  found_unary 90 rfl (by decide) (by decide) (found_v78)

theorem found_v81 : V m c main_v81 = val_main_v102 (F := F) :=
  found_unary 91 rfl (by decide) (by decide) (found_v79)

theorem found_v82 : V m c main_v82 = val_main_v103 (F := F) :=
  found_unary 92 rfl (by decide) (by decide) (found_v80)

theorem found_v83 : V m c main_v83 = val_main_v104 (F := F) :=
  found_binary 93 rfl (by decide) (by decide) (by decide) (found_v81) (found_v82)

theorem found_cst_9 : V m c main_cst_9 = val_main_cst_8 (F := F) :=
  found_nullary 94 rfl (by decide)

theorem found_v84 : V m c main_v84 = val_main_v105 (F := F) :=
  found_unary 95 rfl (by decide) (by decide) (found_cst_9)

theorem found_v85 : V m c main_v85 = val_main_v106 (F := F) :=
  found_binary 96 rfl (by decide) (by decide) (by decide) (found_v83) (found_v84)

theorem found_v86 : V m c main_v86 = val_main_v107 (F := F) :=
  found_unary 97 rfl (by decide) (by decide) (found_v77)

theorem found_cst_10 : V m c main_cst_10 = val_main_cst_9 (F := F) :=
  found_nullary 98 rfl (by decide)

theorem found_v87 : V m c main_v87 = val_main_v108 (F := F) :=
  found_unary 99 rfl (by decide) (by decide) (found_cst_10)

theorem found_v88 : V m c main_v88 = val_main_v109 (F := F) :=
  found_binary 100 rfl (by decide) (by decide) (by decide) (found_v83) (found_v87)

theorem found_v89 : V m c main_v89 = val_main_v110 (F := F) :=
  found_unary 101 rfl (by decide) (by decide) (found_v88)

theorem found_v90 : V m c main_v90 = val_main_v111 (F := F) :=
  found_unary 102 rfl (by decide) (by decide) (found_v86)

theorem found_v91 : V m c main_v91 = val_main_v112 (F := F) :=
  found_unary 103 rfl (by decide) (by decide) (found_v89)

theorem found_v92 : V m c main_v92 = val_main_v113 (F := F) :=
  found_binary 104 rfl (by decide) (by decide) (by decide) (found_v90) (found_v91)

theorem found_v93 : V m c main_v93 = val_main_v114 (F := F) :=
  found_unary 105 rfl (by decide) (by decide) (found_v92)

theorem found_cst_11 : V m c main_cst_11 = val_main_cst_10 (F := F) :=
  found_nullary 106 rfl (by decide)

theorem found_call0_v0 : V m c main_call0_v0 = val_main_call0_v0 (F := F) :=
  found_unary 107 rfl (by decide) (by decide) (found_cst_11)

theorem found_call0_v1 : V m c main_call0_v1 = val_main_call0_v1 (F := F) :=
  found_unary 108 rfl (by decide) (by decide) (found_v85)

theorem found_call0_v2 : V m c main_call0_v2 = val_main_call0_v2 (F := F) :=
  found_unary 109 rfl (by decide) (by decide) (found_call0_v0)

theorem found_v94 : V m c main_v94 = val_main_v115 (F := F) :=
  found_ternary 110 rfl (by decide) (by decide) (by decide) (by decide) (found_call0_v1) (found_v93) (found_call0_v2)

theorem found_v95 (h : Turned m c x1 x2) : V m c main_v95 = val_main_v116 (F := F) x1 x2 :=
  found_binary 111 rfl (by decide) (by decide) (by decide) (found_v63 h) (found_v67 h)

theorem found_v96 : V m c main_v96 = val_main_v117 (F := F) :=
  found_unary 112 rfl (by decide) (by decide) (found_v94)

theorem found_v97 : V m c main_v97 = val_main_v118 (F := F) :=
  found_unary 113 rfl (by decide) (by decide) (found_v96)

theorem found_v98 (h : Turned m c x1 x2) : V m c main_v98 = val_main_v119 (F := F) x1 x2 :=
  found_binary 114 rfl (by decide) (by decide) (by decide) (found_v95 h) (found_v97)

theorem found_v99 (h : Turned m c x1 x2) : V m c main_v99 = val_main_v120 (F := F) x1 x2 :=
  found_binary 115 rfl (by decide) (by decide) (by decide) (found_v98 h) (found_v69 h)

theorem found_v100 : V m c main_v100 = val_main_v121 (F := F) :=
  found_unary 116 rfl (by decide) (by decide) (found_v77)

theorem found_cst_12 : V m c main_cst_12 = val_main_cst_11 (F := F) :=
  found_nullary 117 rfl (by decide)

theorem found_v101 : V m c main_v101 = val_main_v122 (F := F) :=
  found_unary 118 rfl (by decide) (by decide) (found_cst_12)

theorem found_v102 : V m c main_v102 = val_main_v123 (F := F) :=
  found_binary 119 rfl (by decide) (by decide) (by decide) (found_v101) (found_v78)

theorem found_v103 : V m c main_v103 = val_main_v124 (F := F) :=
  found_unary 120 rfl (by decide) (by decide) (found_v102)

theorem found_v104 : V m c main_v104 = val_main_v125 (F := F) :=
  found_unary 121 rfl (by decide) (by decide) (found_v100)

theorem found_v105 : V m c main_v105 = val_main_v126 (F := F) :=
  found_unary 122 rfl (by decide) (by decide) (found_v103)

theorem found_v106 : V m c main_v106 = val_main_v127 (F := F) :=
  found_binary 123 rfl (by decide) (by decide) (by decide) (found_v104) (found_v105)

theorem found_v107 : V m c main_v107 = val_main_v128 (F := F) :=
  found_unary 124 rfl (by decide) (by decide) (found_v106)

theorem found_v108 : V m c main_v108 = val_main_v129 (F := F) :=
  found_unary 125 rfl (by decide) (by decide) (found_v107)

theorem found_v109 : V m c main_v109 = val_main_v130 (F := F) :=
  found_unary 126 rfl (by decide) (by decide) (found_v108)

theorem found_v110 (h : Turned m c x1 x2) : V m c main_v110 = val_main_v131 (F := F) x1 x2 :=
  found_binary 127 rfl (by decide) (by decide) (by decide) (found_v67 h) (found_v109)

theorem found_v111 (h : Turned m c x1 x2) : V m c main_v111 = val_main_v132 (F := F) x1 x2 :=
  found_binary 128 rfl (by decide) (by decide) (by decide) (found_v110 h) (found_v69 h)

theorem found_cst_13 : V m c main_cst_13 = val_main_cst_12 (F := F) :=
  found_nullary 129 rfl (by decide)

theorem found_v112 : V m c main_v112 = val_main_v133 (F := F) :=
  found_unary 130 rfl (by decide) (by decide) (found_cst_13)

theorem found_v113 : V m c main_v113 = val_main_v134 (F := F) :=
  found_binary 131 rfl (by decide) (by decide) (by decide) (found_v77) (found_v112)

theorem found_v114 : V m c main_v114 = val_main_v135 (F := F) :=
  found_unary 132 rfl (by decide) (by decide) (found_v113)

theorem found_v115 : V m c main_v115 = val_main_v136 (F := F) :=
  found_unary 133 rfl (by decide) (by decide) (found_v114)

theorem found_cst_14 : V m c main_cst_14 = val_main_cst_13 (F := F) :=
  found_nullary 134 rfl (by decide)

end Cert.KernelIdeal.Ret
-- ==== Proof.Ret.States.lean ====
/- The kernel's chunk states and output before the norm: operation by operation what the reference has. -/
module

public import proofs.«01_k».proof.Proof.Ret.Within

@[expose] public section

set_option maxRecDepth 65536

noncomputable section

namespace Cert.KernelIdeal.Ret

open Cert.KernelIdeal Cert.KernelIdeal.Gen Idealize.ShloMosaic Idealize.ShloMosaic.TcCoe Idealize.ShloMosaic.StableHlo
open Cert.ReferenceIdeal.Read

variable {F : FTy → Type} [FloatOps F] {m : (ℓ : Loc nD τ sig) → Buf (Elt F) ℓ} {c : Dev nD}
  {x1 : (⟨S4096x5376, .f32⟩ : BufTy).Contents (Elt F)} {x2 : (⟨S4096, .i32⟩ : BufTy).Contents (Elt F)}

theorem found_v116 : V m c main_v116 = val_main_v137 (F := F) :=
  found_unary 135 rfl (by decide) (by decide) (found_cst_14)

theorem found_v117 (h : Turned m c x1 x2) : V m c main_v117 = val_main_v138 (F := F) x1 x2 :=
  found_unary 136 rfl (by decide) (by decide) (found_v111 h)

theorem found_v118 (h : Turned m c x1 x2) : V m c main_v118 = val_main_v139 (F := F) x1 x2 :=
  found_unary 137 rfl (by decide) (by decide) (found_v111 h)

theorem found_cst_15 : V m c main_cst_15 = val_main_cst_14 (F := F) :=
  found_nullary 138 rfl (by decide)

theorem found_v119 : V m c main_v119 = val_main_v140 (F := F) :=
  found_unary 139 rfl (by decide) (by decide) (found_cst_15)

theorem found_v120 (h : Turned m c x1 x2) : V m c main_v120 = val_main_v141 (F := F) x1 x2 :=
  found_unary 140 rfl (by decide) (by decide) (found_v118 h)

theorem found_v121 (h : Turned m c x1 x2) : V m c main_v121 = val_main_v142 (F := F) x1 x2 :=
  found_reshape 141 rfl (by decide) (by decide) (found_v120 h)

theorem found_v122 : V m c main_v122 = val_main_v143 (F := F) :=
  found_unary 142 rfl (by decide) (by decide) (found_v115)

theorem found_v123 : V m c main_v123 = val_main_v144 (F := F) :=
  found_binary 143 rfl (by decide) (by decide) (by decide) (found_v122) (found_v116)

theorem found_v124 (h : Turned m c x1 x2) : V m c main_v124 = val_main_v145 (F := F) x1 x2 :=
  found_binary 144 rfl (by decide) (by decide) (by decide) (found_v123) (found_v121 h)

theorem found_v125 (h : Turned m c x1 x2) : V m c main_v125 = val_main_v146 (F := F) x1 x2 :=
  found_unary 145 rfl (by decide) (by decide) (found_v118 h)

theorem found_v126 (h : Turned m c x1 x2) : V m c main_v126 = val_main_v147 (F := F) x1 x2 :=
  found_reshape 146 rfl (by decide) (by decide) (found_v125 h)

theorem found_v127 : V m c main_v127 = val_main_v148 (F := F) :=
  found_unary 147 rfl (by decide) (by decide) (found_v115)

theorem found_v128 (h : Turned m c x1 x2) : V m c main_v128 = val_main_v149 (F := F) x1 x2 :=
  found_binary 148 rfl (by decide) (by decide) (by decide) (found_v127) (found_v124 h)

theorem found_v129 (h : Turned m c x1 x2) : V m c main_v129 = val_main_v150 (F := F) x1 x2 :=
  found_binary 149 rfl (by decide) (by decide) (by decide) (found_v128 h) (found_v126 h)

theorem found_v130 (h : Turned m c x1 x2) : V m c main_v130 = val_main_v151 (F := F) x1 x2 :=
  found_unary 150 rfl (by decide) (by decide) (found_v118 h)

theorem found_v131 (h : Turned m c x1 x2) : V m c main_v131 = val_main_v152 (F := F) x1 x2 :=
  found_reshape 151 rfl (by decide) (by decide) (found_v130 h)

theorem found_v132 : V m c main_v132 = val_main_v153 (F := F) :=
  found_unary 152 rfl (by decide) (by decide) (found_v115)

theorem found_v133 (h : Turned m c x1 x2) : V m c main_v133 = val_main_v154 (F := F) x1 x2 :=
  found_binary 153 rfl (by decide) (by decide) (by decide) (found_v132) (found_v129 h)

theorem found_v134 (h : Turned m c x1 x2) : V m c main_v134 = val_main_v155 (F := F) x1 x2 :=
  found_binary 154 rfl (by decide) (by decide) (by decide) (found_v133 h) (found_v131 h)

theorem found_v135 (h : Turned m c x1 x2) : V m c main_v135 = val_main_v156 (F := F) x1 x2 :=
  found_unary 155 rfl (by decide) (by decide) (found_v118 h)

theorem found_v136 (h : Turned m c x1 x2) : V m c main_v136 = val_main_v157 (F := F) x1 x2 :=
  found_reshape 156 rfl (by decide) (by decide) (found_v135 h)

theorem found_v137 : V m c main_v137 = val_main_v158 (F := F) :=
  found_unary 157 rfl (by decide) (by decide) (found_v115)

theorem found_v138 (h : Turned m c x1 x2) : V m c main_v138 = val_main_v159 (F := F) x1 x2 :=
  found_binary 158 rfl (by decide) (by decide) (by decide) (found_v137) (found_v134 h)

theorem found_v139 (h : Turned m c x1 x2) : V m c main_v139 = val_main_v160 (F := F) x1 x2 :=
  found_binary 159 rfl (by decide) (by decide) (by decide) (found_v138 h) (found_v136 h)

theorem found_v140 (h : Turned m c x1 x2) : V m c main_v140 = val_main_v161 (F := F) x1 x2 :=
  found_unary 160 rfl (by decide) (by decide) (found_v118 h)

theorem found_v141 (h : Turned m c x1 x2) : V m c main_v141 = val_main_v162 (F := F) x1 x2 :=
  found_reshape 161 rfl (by decide) (by decide) (found_v140 h)

theorem found_v142 : V m c main_v142 = val_main_v163 (F := F) :=
  found_unary 162 rfl (by decide) (by decide) (found_v115)

theorem found_v143 (h : Turned m c x1 x2) : V m c main_v143 = val_main_v164 (F := F) x1 x2 :=
  found_binary 163 rfl (by decide) (by decide) (by decide) (found_v142) (found_v139 h)

theorem found_v144 (h : Turned m c x1 x2) : V m c main_v144 = val_main_v165 (F := F) x1 x2 :=
  found_binary 164 rfl (by decide) (by decide) (by decide) (found_v143 h) (found_v141 h)

theorem found_v145 (h : Turned m c x1 x2) : V m c main_v145 = val_main_v166 (F := F) x1 x2 :=
  found_unary 165 rfl (by decide) (by decide) (found_v118 h)

theorem found_v146 (h : Turned m c x1 x2) : V m c main_v146 = val_main_v167 (F := F) x1 x2 :=
  found_reshape 166 rfl (by decide) (by decide) (found_v145 h)

theorem found_v147 : V m c main_v147 = val_main_v168 (F := F) :=
  found_unary 167 rfl (by decide) (by decide) (found_v115)

theorem found_v148 (h : Turned m c x1 x2) : V m c main_v148 = val_main_v169 (F := F) x1 x2 :=
  found_binary 168 rfl (by decide) (by decide) (by decide) (found_v147) (found_v144 h)

theorem found_v149 (h : Turned m c x1 x2) : V m c main_v149 = val_main_v170 (F := F) x1 x2 :=
  found_binary 169 rfl (by decide) (by decide) (by decide) (found_v148 h) (found_v146 h)

theorem found_v150 (h : Turned m c x1 x2) : V m c main_v150 = val_main_v171 (F := F) x1 x2 :=
  found_unary 170 rfl (by decide) (by decide) (found_v118 h)

theorem found_v151 (h : Turned m c x1 x2) : V m c main_v151 = val_main_v172 (F := F) x1 x2 :=
  found_reshape 171 rfl (by decide) (by decide) (found_v150 h)

theorem found_v152 : V m c main_v152 = val_main_v173 (F := F) :=
  found_unary 172 rfl (by decide) (by decide) (found_v115)

theorem found_v153 (h : Turned m c x1 x2) : V m c main_v153 = val_main_v174 (F := F) x1 x2 :=
  found_binary 173 rfl (by decide) (by decide) (by decide) (found_v152) (found_v149 h)

theorem found_v154 (h : Turned m c x1 x2) : V m c main_v154 = val_main_v175 (F := F) x1 x2 :=
  found_binary 174 rfl (by decide) (by decide) (by decide) (found_v153 h) (found_v151 h)

theorem found_v155 (h : Turned m c x1 x2) : V m c main_v155 = val_main_v176 (F := F) x1 x2 :=
  found_unary 175 rfl (by decide) (by decide) (found_v118 h)

theorem found_v156 (h : Turned m c x1 x2) : V m c main_v156 = val_main_v177 (F := F) x1 x2 :=
  found_reshape 176 rfl (by decide) (by decide) (found_v155 h)

theorem found_v157 : V m c main_v157 = val_main_v178 (F := F) :=
  found_unary 177 rfl (by decide) (by decide) (found_v115)

theorem found_v158 (h : Turned m c x1 x2) : V m c main_v158 = val_main_v179 (F := F) x1 x2 :=
  found_binary 178 rfl (by decide) (by decide) (by decide) (found_v157) (found_v154 h)

theorem found_v159 (h : Turned m c x1 x2) : V m c main_v159 = val_main_v180 (F := F) x1 x2 :=
  found_binary 179 rfl (by decide) (by decide) (by decide) (found_v158 h) (found_v156 h)

theorem found_v160 (h : Turned m c x1 x2) : V m c main_v160 = val_main_v181 (F := F) x1 x2 :=
  found_unary 180 rfl (by decide) (by decide) (found_v118 h)

theorem found_v161 (h : Turned m c x1 x2) : V m c main_v161 = val_main_v182 (F := F) x1 x2 :=
  found_reshape 181 rfl (by decide) (by decide) (found_v160 h)

theorem found_v162 : V m c main_v162 = val_main_v183 (F := F) :=
  found_unary 182 rfl (by decide) (by decide) (found_v115)

theorem found_v163 (h : Turned m c x1 x2) : V m c main_v163 = val_main_v184 (F := F) x1 x2 :=
  found_binary 183 rfl (by decide) (by decide) (by decide) (found_v162) (found_v159 h)

theorem found_v164 (h : Turned m c x1 x2) : V m c main_v164 = val_main_v185 (F := F) x1 x2 :=
  found_binary 184 rfl (by decide) (by decide) (by decide) (found_v163 h) (found_v161 h)

theorem found_v165 (h : Turned m c x1 x2) : V m c main_v165 = val_main_v186 (F := F) x1 x2 :=
  found_unary 185 rfl (by decide) (by decide) (found_v118 h)

theorem found_v166 (h : Turned m c x1 x2) : V m c main_v166 = val_main_v187 (F := F) x1 x2 :=
  found_reshape 186 rfl (by decide) (by decide) (found_v165 h)

theorem found_v167 : V m c main_v167 = val_main_v188 (F := F) :=
  found_unary 187 rfl (by decide) (by decide) (found_v115)

theorem found_v168 (h : Turned m c x1 x2) : V m c main_v168 = val_main_v189 (F := F) x1 x2 :=
  found_binary 188 rfl (by decide) (by decide) (by decide) (found_v167) (found_v164 h)

theorem found_v169 (h : Turned m c x1 x2) : V m c main_v169 = val_main_v190 (F := F) x1 x2 :=
  found_binary 189 rfl (by decide) (by decide) (by decide) (found_v168 h) (found_v166 h)

theorem found_v170 (h : Turned m c x1 x2) : V m c main_v170 = val_main_v191 (F := F) x1 x2 :=
  found_unary 190 rfl (by decide) (by decide) (found_v118 h)

theorem found_v171 (h : Turned m c x1 x2) : V m c main_v171 = val_main_v192 (F := F) x1 x2 :=
  found_reshape 191 rfl (by decide) (by decide) (found_v170 h)

theorem found_v172 : V m c main_v172 = val_main_v193 (F := F) :=
  found_unary 192 rfl (by decide) (by decide) (found_v115)

theorem found_v173 (h : Turned m c x1 x2) : V m c main_v173 = val_main_v194 (F := F) x1 x2 :=
  found_binary 193 rfl (by decide) (by decide) (by decide) (found_v172) (found_v169 h)

theorem found_v174 (h : Turned m c x1 x2) : V m c main_v174 = val_main_v195 (F := F) x1 x2 :=
  found_binary 194 rfl (by decide) (by decide) (by decide) (found_v173 h) (found_v171 h)

theorem found_v175 (h : Turned m c x1 x2) : V m c main_v175 = val_main_v196 (F := F) x1 x2 :=
  found_unary 195 rfl (by decide) (by decide) (found_v118 h)

theorem found_v176 (h : Turned m c x1 x2) : V m c main_v176 = val_main_v197 (F := F) x1 x2 :=
  found_reshape 196 rfl (by decide) (by decide) (found_v175 h)

theorem found_v177 : V m c main_v177 = val_main_v198 (F := F) :=
  found_unary 197 rfl (by decide) (by decide) (found_v115)

theorem found_v178 (h : Turned m c x1 x2) : V m c main_v178 = val_main_v199 (F := F) x1 x2 :=
  found_binary 198 rfl (by decide) (by decide) (by decide) (found_v177) (found_v174 h)

theorem found_v179 (h : Turned m c x1 x2) : V m c main_v179 = val_main_v200 (F := F) x1 x2 :=
  found_binary 199 rfl (by decide) (by decide) (by decide) (found_v178 h) (found_v176 h)

theorem found_v180 (h : Turned m c x1 x2) : V m c main_v180 = val_main_v201 (F := F) x1 x2 :=
  found_unary 200 rfl (by decide) (by decide) (found_v118 h)

theorem found_v181 (h : Turned m c x1 x2) : V m c main_v181 = val_main_v202 (F := F) x1 x2 :=
  found_reshape 201 rfl (by decide) (by decide) (found_v180 h)

theorem found_v182 : V m c main_v182 = val_main_v203 (F := F) :=
  found_unary 202 rfl (by decide) (by decide) (found_v115)

theorem found_v183 (h : Turned m c x1 x2) : V m c main_v183 = val_main_v204 (F := F) x1 x2 :=
  found_binary 203 rfl (by decide) (by decide) (by decide) (found_v182) (found_v179 h)

theorem found_v184 (h : Turned m c x1 x2) : V m c main_v184 = val_main_v205 (F := F) x1 x2 :=
  found_binary 204 rfl (by decide) (by decide) (by decide) (found_v183 h) (found_v181 h)

theorem found_v185 (h : Turned m c x1 x2) : V m c main_v185 = val_main_v206 (F := F) x1 x2 :=
  found_unary 205 rfl (by decide) (by decide) (found_v118 h)

theorem found_v186 (h : Turned m c x1 x2) : V m c main_v186 = val_main_v207 (F := F) x1 x2 :=
  found_reshape 206 rfl (by decide) (by decide) (found_v185 h)

theorem found_v187 : V m c main_v187 = val_main_v208 (F := F) :=
  found_unary 207 rfl (by decide) (by decide) (found_v115)

theorem found_v188 (h : Turned m c x1 x2) : V m c main_v188 = val_main_v209 (F := F) x1 x2 :=
  found_binary 208 rfl (by decide) (by decide) (by decide) (found_v187) (found_v184 h)

theorem found_v189 (h : Turned m c x1 x2) : V m c main_v189 = val_main_v210 (F := F) x1 x2 :=
  found_binary 209 rfl (by decide) (by decide) (by decide) (found_v188 h) (found_v186 h)

theorem found_v190 (h : Turned m c x1 x2) : V m c main_v190 = val_main_v211 (F := F) x1 x2 :=
  found_unary 210 rfl (by decide) (by decide) (found_v118 h)

theorem found_v191 (h : Turned m c x1 x2) : V m c main_v191 = val_main_v212 (F := F) x1 x2 :=
  found_reshape 211 rfl (by decide) (by decide) (found_v190 h)

theorem found_v192 : V m c main_v192 = val_main_v213 (F := F) :=
  found_unary 212 rfl (by decide) (by decide) (found_v115)

theorem found_v193 (h : Turned m c x1 x2) : V m c main_v193 = val_main_v214 (F := F) x1 x2 :=
  found_binary 213 rfl (by decide) (by decide) (by decide) (found_v192) (found_v189 h)

theorem found_v194 (h : Turned m c x1 x2) : V m c main_v194 = val_main_v215 (F := F) x1 x2 :=
  found_binary 214 rfl (by decide) (by decide) (by decide) (found_v193 h) (found_v191 h)

theorem found_v195 (h : Turned m c x1 x2) : V m c main_v195 = val_main_v216 (F := F) x1 x2 :=
  found_unary 215 rfl (by decide) (by decide) (found_v118 h)

theorem found_v196 (h : Turned m c x1 x2) : V m c main_v196 = val_main_v217 (F := F) x1 x2 :=
  found_reshape 216 rfl (by decide) (by decide) (found_v195 h)

theorem found_v197 : V m c main_v197 = val_main_v218 (F := F) :=
  found_unary 217 rfl (by decide) (by decide) (found_v115)

theorem found_v198 (h : Turned m c x1 x2) : V m c main_v198 = val_main_v219 (F := F) x1 x2 :=
  found_binary 218 rfl (by decide) (by decide) (by decide) (found_v197) (found_v194 h)

theorem found_v199 (h : Turned m c x1 x2) : V m c main_v199 = val_main_v220 (F := F) x1 x2 :=
  found_binary 219 rfl (by decide) (by decide) (by decide) (found_v198 h) (found_v196 h)

theorem found_v200 (h : Turned m c x1 x2) : V m c main_v200 = val_main_v221 (F := F) x1 x2 :=
  found_unary 220 rfl (by decide) (by decide) (found_v118 h)

theorem found_v201 (h : Turned m c x1 x2) : V m c main_v201 = val_main_v222 (F := F) x1 x2 :=
  found_reshape 221 rfl (by decide) (by decide) (found_v200 h)

theorem found_v202 : V m c main_v202 = val_main_v223 (F := F) :=
  found_unary 222 rfl (by decide) (by decide) (found_v115)

theorem found_v203 (h : Turned m c x1 x2) : V m c main_v203 = val_main_v224 (F := F) x1 x2 :=
  found_binary 223 rfl (by decide) (by decide) (by decide) (found_v202) (found_v199 h)

theorem found_v204 (h : Turned m c x1 x2) : V m c main_v204 = val_main_v225 (F := F) x1 x2 :=
  found_binary 224 rfl (by decide) (by decide) (by decide) (found_v203 h) (found_v201 h)

theorem found_v205 (h : Turned m c x1 x2) : V m c main_v205 = val_main_v226 (F := F) x1 x2 :=
  found_unary 225 rfl (by decide) (by decide) (found_v118 h)

theorem found_v206 (h : Turned m c x1 x2) : V m c main_v206 = val_main_v227 (F := F) x1 x2 :=
  found_reshape 226 rfl (by decide) (by decide) (found_v205 h)

theorem found_v207 : V m c main_v207 = val_main_v228 (F := F) :=
  found_unary 227 rfl (by decide) (by decide) (found_v115)

theorem found_v208 (h : Turned m c x1 x2) : V m c main_v208 = val_main_v229 (F := F) x1 x2 :=
  found_binary 228 rfl (by decide) (by decide) (by decide) (found_v207) (found_v204 h)

theorem found_v209 (h : Turned m c x1 x2) : V m c main_v209 = val_main_v230 (F := F) x1 x2 :=
  found_binary 229 rfl (by decide) (by decide) (by decide) (found_v208 h) (found_v206 h)

theorem found_v210 (h : Turned m c x1 x2) : V m c main_v210 = val_main_v231 (F := F) x1 x2 :=
  found_unary 230 rfl (by decide) (by decide) (found_v118 h)

theorem found_v211 (h : Turned m c x1 x2) : V m c main_v211 = val_main_v232 (F := F) x1 x2 :=
  found_reshape 231 rfl (by decide) (by decide) (found_v210 h)

theorem found_v212 : V m c main_v212 = val_main_v233 (F := F) :=
  found_unary 232 rfl (by decide) (by decide) (found_v115)

theorem found_v213 (h : Turned m c x1 x2) : V m c main_v213 = val_main_v234 (F := F) x1 x2 :=
  found_binary 233 rfl (by decide) (by decide) (by decide) (found_v212) (found_v209 h)

theorem found_v214 (h : Turned m c x1 x2) : V m c main_v214 = val_main_v235 (F := F) x1 x2 :=
  found_binary 234 rfl (by decide) (by decide) (by decide) (found_v213 h) (found_v211 h)

theorem found_v215 (h : Turned m c x1 x2) : V m c main_v215 = val_main_v236 (F := F) x1 x2 :=
  found_unary 235 rfl (by decide) (by decide) (found_v118 h)

theorem found_v216 (h : Turned m c x1 x2) : V m c main_v216 = val_main_v237 (F := F) x1 x2 :=
  found_reshape 236 rfl (by decide) (by decide) (found_v215 h)

theorem found_v217 : V m c main_v217 = val_main_v238 (F := F) :=
  found_unary 237 rfl (by decide) (by decide) (found_v115)

theorem found_v218 (h : Turned m c x1 x2) : V m c main_v218 = val_main_v239 (F := F) x1 x2 :=
  found_binary 238 rfl (by decide) (by decide) (by decide) (found_v217) (found_v214 h)

theorem found_v219 (h : Turned m c x1 x2) : V m c main_v219 = val_main_v240 (F := F) x1 x2 :=
  found_binary 239 rfl (by decide) (by decide) (by decide) (found_v218 h) (found_v216 h)

theorem found_v220 (h : Turned m c x1 x2) : V m c main_v220 = val_main_v241 (F := F) x1 x2 :=
  found_unary 240 rfl (by decide) (by decide) (found_v118 h)

theorem found_v221 (h : Turned m c x1 x2) : V m c main_v221 = val_main_v242 (F := F) x1 x2 :=
  found_reshape 241 rfl (by decide) (by decide) (found_v220 h)

theorem found_v222 : V m c main_v222 = val_main_v243 (F := F) :=
  found_unary 242 rfl (by decide) (by decide) (found_v115)

theorem found_v223 (h : Turned m c x1 x2) : V m c main_v223 = val_main_v244 (F := F) x1 x2 :=
  found_binary 243 rfl (by decide) (by decide) (by decide) (found_v222) (found_v219 h)

theorem found_v224 (h : Turned m c x1 x2) : V m c main_v224 = val_main_v245 (F := F) x1 x2 :=
  found_binary 244 rfl (by decide) (by decide) (by decide) (found_v223 h) (found_v221 h)

theorem found_v225 (h : Turned m c x1 x2) : V m c main_v225 = val_main_v246 (F := F) x1 x2 :=
  found_unary 245 rfl (by decide) (by decide) (found_v118 h)

theorem found_v226 (h : Turned m c x1 x2) : V m c main_v226 = val_main_v247 (F := F) x1 x2 :=
  found_reshape 246 rfl (by decide) (by decide) (found_v225 h)

theorem found_v227 : V m c main_v227 = val_main_v248 (F := F) :=
  found_unary 247 rfl (by decide) (by decide) (found_v115)

theorem found_v228 (h : Turned m c x1 x2) : V m c main_v228 = val_main_v249 (F := F) x1 x2 :=
  found_binary 248 rfl (by decide) (by decide) (by decide) (found_v227) (found_v224 h)

theorem found_v229 (h : Turned m c x1 x2) : V m c main_v229 = val_main_v250 (F := F) x1 x2 :=
  found_binary 249 rfl (by decide) (by decide) (by decide) (found_v228 h) (found_v226 h)

theorem found_v230 (h : Turned m c x1 x2) : V m c main_v230 = val_main_v251 (F := F) x1 x2 :=
  found_unary 250 rfl (by decide) (by decide) (found_v118 h)

theorem found_v231 (h : Turned m c x1 x2) : V m c main_v231 = val_main_v252 (F := F) x1 x2 :=
  found_reshape 251 rfl (by decide) (by decide) (found_v230 h)

theorem found_v232 : V m c main_v232 = val_main_v253 (F := F) :=
  found_unary 252 rfl (by decide) (by decide) (found_v115)

theorem found_v233 (h : Turned m c x1 x2) : V m c main_v233 = val_main_v254 (F := F) x1 x2 :=
  found_binary 253 rfl (by decide) (by decide) (by decide) (found_v232) (found_v229 h)

theorem found_v234 (h : Turned m c x1 x2) : V m c main_v234 = val_main_v255 (F := F) x1 x2 :=
  found_binary 254 rfl (by decide) (by decide) (by decide) (found_v233 h) (found_v231 h)

theorem found_v235 (h : Turned m c x1 x2) : V m c main_v235 = val_main_v256 (F := F) x1 x2 :=
  found_unary 255 rfl (by decide) (by decide) (found_v118 h)

theorem found_v236 (h : Turned m c x1 x2) : V m c main_v236 = val_main_v257 (F := F) x1 x2 :=
  found_reshape 256 rfl (by decide) (by decide) (found_v235 h)

theorem found_v237 : V m c main_v237 = val_main_v258 (F := F) :=
  found_unary 257 rfl (by decide) (by decide) (found_v115)

theorem found_v238 (h : Turned m c x1 x2) : V m c main_v238 = val_main_v259 (F := F) x1 x2 :=
  found_binary 258 rfl (by decide) (by decide) (by decide) (found_v237) (found_v234 h)

theorem found_v239 (h : Turned m c x1 x2) : V m c main_v239 = val_main_v260 (F := F) x1 x2 :=
  found_binary 259 rfl (by decide) (by decide) (by decide) (found_v238 h) (found_v236 h)

theorem found_v240 (h : Turned m c x1 x2) : V m c main_v240 = val_main_v261 (F := F) x1 x2 :=
  found_unary 260 rfl (by decide) (by decide) (found_v118 h)

theorem found_v241 (h : Turned m c x1 x2) : V m c main_v241 = val_main_v262 (F := F) x1 x2 :=
  found_reshape 261 rfl (by decide) (by decide) (found_v240 h)

theorem found_v242 : V m c main_v242 = val_main_v263 (F := F) :=
  found_unary 262 rfl (by decide) (by decide) (found_v115)

theorem found_v243 (h : Turned m c x1 x2) : V m c main_v243 = val_main_v264 (F := F) x1 x2 :=
  found_binary 263 rfl (by decide) (by decide) (by decide) (found_v242) (found_v239 h)

theorem found_v244 (h : Turned m c x1 x2) : V m c main_v244 = val_main_v265 (F := F) x1 x2 :=
  found_binary 264 rfl (by decide) (by decide) (by decide) (found_v243 h) (found_v241 h)

theorem found_v245 (h : Turned m c x1 x2) : V m c main_v245 = val_main_v266 (F := F) x1 x2 :=
  found_unary 265 rfl (by decide) (by decide) (found_v118 h)

theorem found_v246 (h : Turned m c x1 x2) : V m c main_v246 = val_main_v267 (F := F) x1 x2 :=
  found_reshape 266 rfl (by decide) (by decide) (found_v245 h)

theorem found_v247 : V m c main_v247 = val_main_v268 (F := F) :=
  found_unary 267 rfl (by decide) (by decide) (found_v115)

theorem found_v248 (h : Turned m c x1 x2) : V m c main_v248 = val_main_v269 (F := F) x1 x2 :=
  found_binary 268 rfl (by decide) (by decide) (by decide) (found_v247) (found_v244 h)

theorem found_v249 (h : Turned m c x1 x2) : V m c main_v249 = val_main_v270 (F := F) x1 x2 :=
  found_binary 269 rfl (by decide) (by decide) (by decide) (found_v248 h) (found_v246 h)

theorem found_v250 (h : Turned m c x1 x2) : V m c main_v250 = val_main_v271 (F := F) x1 x2 :=
  found_unary 270 rfl (by decide) (by decide) (found_v118 h)

theorem found_v251 (h : Turned m c x1 x2) : V m c main_v251 = val_main_v272 (F := F) x1 x2 :=
  found_reshape 271 rfl (by decide) (by decide) (found_v250 h)

theorem found_v252 : V m c main_v252 = val_main_v273 (F := F) :=
  found_unary 272 rfl (by decide) (by decide) (found_v115)

theorem found_v253 (h : Turned m c x1 x2) : V m c main_v253 = val_main_v274 (F := F) x1 x2 :=
  found_binary 273 rfl (by decide) (by decide) (by decide) (found_v252) (found_v249 h)

theorem found_v254 (h : Turned m c x1 x2) : V m c main_v254 = val_main_v275 (F := F) x1 x2 :=
  found_binary 274 rfl (by decide) (by decide) (by decide) (found_v253 h) (found_v251 h)

theorem found_v255 (h : Turned m c x1 x2) : V m c main_v255 = val_main_v276 (F := F) x1 x2 :=
  found_unary 275 rfl (by decide) (by decide) (found_v118 h)

theorem found_v256 (h : Turned m c x1 x2) : V m c main_v256 = val_main_v277 (F := F) x1 x2 :=
  found_reshape 276 rfl (by decide) (by decide) (found_v255 h)

theorem found_v257 : V m c main_v257 = val_main_v278 (F := F) :=
  found_unary 277 rfl (by decide) (by decide) (found_v115)

theorem found_v258 (h : Turned m c x1 x2) : V m c main_v258 = val_main_v279 (F := F) x1 x2 :=
  found_binary 278 rfl (by decide) (by decide) (by decide) (found_v257) (found_v254 h)

theorem found_v259 (h : Turned m c x1 x2) : V m c main_v259 = val_main_v280 (F := F) x1 x2 :=
  found_binary 279 rfl (by decide) (by decide) (by decide) (found_v258 h) (found_v256 h)

theorem found_v260 (h : Turned m c x1 x2) : V m c main_v260 = val_main_v281 (F := F) x1 x2 :=
  found_unary 280 rfl (by decide) (by decide) (found_v118 h)

theorem found_v261 (h : Turned m c x1 x2) : V m c main_v261 = val_main_v282 (F := F) x1 x2 :=
  found_reshape 281 rfl (by decide) (by decide) (found_v260 h)

theorem found_v262 : V m c main_v262 = val_main_v283 (F := F) :=
  found_unary 282 rfl (by decide) (by decide) (found_v115)

theorem found_v263 (h : Turned m c x1 x2) : V m c main_v263 = val_main_v284 (F := F) x1 x2 :=
  found_binary 283 rfl (by decide) (by decide) (by decide) (found_v262) (found_v259 h)

theorem found_v264 (h : Turned m c x1 x2) : V m c main_v264 = val_main_v285 (F := F) x1 x2 :=
  found_binary 284 rfl (by decide) (by decide) (by decide) (found_v263 h) (found_v261 h)

theorem found_v265 (h : Turned m c x1 x2) : V m c main_v265 = val_main_v286 (F := F) x1 x2 :=
  found_unary 285 rfl (by decide) (by decide) (found_v118 h)

theorem found_v266 (h : Turned m c x1 x2) : V m c main_v266 = val_main_v287 (F := F) x1 x2 :=
  found_reshape 286 rfl (by decide) (by decide) (found_v265 h)

theorem found_v267 : V m c main_v267 = val_main_v288 (F := F) :=
  found_unary 287 rfl (by decide) (by decide) (found_v115)

theorem found_v268 (h : Turned m c x1 x2) : V m c main_v268 = val_main_v289 (F := F) x1 x2 :=
  found_binary 288 rfl (by decide) (by decide) (by decide) (found_v267) (found_v264 h)

theorem found_v269 (h : Turned m c x1 x2) : V m c main_v269 = val_main_v290 (F := F) x1 x2 :=
  found_binary 289 rfl (by decide) (by decide) (by decide) (found_v268 h) (found_v266 h)

theorem found_v270 (h : Turned m c x1 x2) : V m c main_v270 = val_main_v291 (F := F) x1 x2 :=
  found_unary 290 rfl (by decide) (by decide) (found_v118 h)

theorem found_v271 (h : Turned m c x1 x2) : V m c main_v271 = val_main_v292 (F := F) x1 x2 :=
  found_reshape 291 rfl (by decide) (by decide) (found_v270 h)

theorem found_v272 : V m c main_v272 = val_main_v293 (F := F) :=
  found_unary 292 rfl (by decide) (by decide) (found_v115)

theorem found_v273 (h : Turned m c x1 x2) : V m c main_v273 = val_main_v294 (F := F) x1 x2 :=
  found_binary 293 rfl (by decide) (by decide) (by decide) (found_v272) (found_v269 h)

theorem found_v274 (h : Turned m c x1 x2) : V m c main_v274 = val_main_v295 (F := F) x1 x2 :=
  found_binary 294 rfl (by decide) (by decide) (by decide) (found_v273 h) (found_v271 h)

theorem found_v275 (h : Turned m c x1 x2) : V m c main_v275 = val_main_v296 (F := F) x1 x2 :=
  found_unary 295 rfl (by decide) (by decide) (found_v118 h)

theorem found_v276 (h : Turned m c x1 x2) : V m c main_v276 = val_main_v297 (F := F) x1 x2 :=
  found_reshape 296 rfl (by decide) (by decide) (found_v275 h)

theorem found_v277 : V m c main_v277 = val_main_v298 (F := F) :=
  found_unary 297 rfl (by decide) (by decide) (found_v115)

theorem found_v278 (h : Turned m c x1 x2) : V m c main_v278 = val_main_v299 (F := F) x1 x2 :=
  found_binary 298 rfl (by decide) (by decide) (by decide) (found_v277) (found_v274 h)

theorem found_v279 (h : Turned m c x1 x2) : V m c main_v279 = val_main_v300 (F := F) x1 x2 :=
  found_binary 299 rfl (by decide) (by decide) (by decide) (found_v278 h) (found_v276 h)

theorem found_v280 : V m c main_v280 = val_main_v301 (F := F) :=
  found_unary 300 rfl (by decide) (by decide) (found_v116)

theorem found_v281 (h : Turned m c x1 x2) : V m c main_v281 = val_main_v302 (F := F) x1 x2 :=
  found_unary 301 rfl (by decide) (by decide) (found_v124 h)

theorem found_v282 (h : Turned m c x1 x2) : V m c main_v282 = val_main_v303 (F := F) x1 x2 :=
  found_unary 302 rfl (by decide) (by decide) (found_v129 h)

theorem found_v283 (h : Turned m c x1 x2) : V m c main_v283 = val_main_v304 (F := F) x1 x2 :=
  found_unary 303 rfl (by decide) (by decide) (found_v134 h)

theorem found_v284 (h : Turned m c x1 x2) : V m c main_v284 = val_main_v305 (F := F) x1 x2 :=
  found_unary 304 rfl (by decide) (by decide) (found_v139 h)

theorem found_v285 (h : Turned m c x1 x2) : V m c main_v285 = val_main_v306 (F := F) x1 x2 :=
  found_unary 305 rfl (by decide) (by decide) (found_v144 h)

theorem found_v286 (h : Turned m c x1 x2) : V m c main_v286 = val_main_v307 (F := F) x1 x2 :=
  found_unary 306 rfl (by decide) (by decide) (found_v149 h)

theorem found_v287 (h : Turned m c x1 x2) : V m c main_v287 = val_main_v308 (F := F) x1 x2 :=
  found_unary 307 rfl (by decide) (by decide) (found_v154 h)

theorem found_v288 (h : Turned m c x1 x2) : V m c main_v288 = val_main_v309 (F := F) x1 x2 :=
  found_unary 308 rfl (by decide) (by decide) (found_v159 h)

theorem found_v289 (h : Turned m c x1 x2) : V m c main_v289 = val_main_v310 (F := F) x1 x2 :=
  found_unary 309 rfl (by decide) (by decide) (found_v164 h)

theorem found_v290 (h : Turned m c x1 x2) : V m c main_v290 = val_main_v311 (F := F) x1 x2 :=
  found_unary 310 rfl (by decide) (by decide) (found_v169 h)

theorem found_v291 (h : Turned m c x1 x2) : V m c main_v291 = val_main_v312 (F := F) x1 x2 :=
  found_unary 311 rfl (by decide) (by decide) (found_v174 h)

theorem found_v292 (h : Turned m c x1 x2) : V m c main_v292 = val_main_v313 (F := F) x1 x2 :=
  found_unary 312 rfl (by decide) (by decide) (found_v179 h)

theorem found_v293 (h : Turned m c x1 x2) : V m c main_v293 = val_main_v314 (F := F) x1 x2 :=
  found_unary 313 rfl (by decide) (by decide) (found_v184 h)

theorem found_v294 (h : Turned m c x1 x2) : V m c main_v294 = val_main_v315 (F := F) x1 x2 :=
  found_unary 314 rfl (by decide) (by decide) (found_v189 h)

theorem found_v295 (h : Turned m c x1 x2) : V m c main_v295 = val_main_v316 (F := F) x1 x2 :=
  found_unary 315 rfl (by decide) (by decide) (found_v194 h)

theorem found_v296 (h : Turned m c x1 x2) : V m c main_v296 = val_main_v317 (F := F) x1 x2 :=
  found_unary 316 rfl (by decide) (by decide) (found_v199 h)

theorem found_v297 (h : Turned m c x1 x2) : V m c main_v297 = val_main_v318 (F := F) x1 x2 :=
  found_unary 317 rfl (by decide) (by decide) (found_v204 h)

theorem found_v298 (h : Turned m c x1 x2) : V m c main_v298 = val_main_v319 (F := F) x1 x2 :=
  found_unary 318 rfl (by decide) (by decide) (found_v209 h)

theorem found_v299 (h : Turned m c x1 x2) : V m c main_v299 = val_main_v320 (F := F) x1 x2 :=
  found_unary 319 rfl (by decide) (by decide) (found_v214 h)

theorem found_v300 (h : Turned m c x1 x2) : V m c main_v300 = val_main_v321 (F := F) x1 x2 :=
  found_unary 320 rfl (by decide) (by decide) (found_v219 h)

theorem found_v301 (h : Turned m c x1 x2) : V m c main_v301 = val_main_v322 (F := F) x1 x2 :=
  found_unary 321 rfl (by decide) (by decide) (found_v224 h)

theorem found_v302 (h : Turned m c x1 x2) : V m c main_v302 = val_main_v323 (F := F) x1 x2 :=
  found_unary 322 rfl (by decide) (by decide) (found_v229 h)

theorem found_v303 (h : Turned m c x1 x2) : V m c main_v303 = val_main_v324 (F := F) x1 x2 :=
  found_unary 323 rfl (by decide) (by decide) (found_v234 h)

theorem found_v304 (h : Turned m c x1 x2) : V m c main_v304 = val_main_v325 (F := F) x1 x2 :=
  found_unary 324 rfl (by decide) (by decide) (found_v239 h)

theorem found_v305 (h : Turned m c x1 x2) : V m c main_v305 = val_main_v326 (F := F) x1 x2 :=
  found_unary 325 rfl (by decide) (by decide) (found_v244 h)

theorem found_v306 (h : Turned m c x1 x2) : V m c main_v306 = val_main_v327 (F := F) x1 x2 :=
  found_unary 326 rfl (by decide) (by decide) (found_v249 h)

theorem found_v307 (h : Turned m c x1 x2) : V m c main_v307 = val_main_v328 (F := F) x1 x2 :=
  found_unary 327 rfl (by decide) (by decide) (found_v254 h)

theorem found_v308 (h : Turned m c x1 x2) : V m c main_v308 = val_main_v329 (F := F) x1 x2 :=
  found_unary 328 rfl (by decide) (by decide) (found_v259 h)

theorem found_v309 (h : Turned m c x1 x2) : V m c main_v309 = val_main_v330 (F := F) x1 x2 :=
  found_unary 329 rfl (by decide) (by decide) (found_v264 h)

theorem found_v310 (h : Turned m c x1 x2) : V m c main_v310 = val_main_v331 (F := F) x1 x2 :=
  found_unary 330 rfl (by decide) (by decide) (found_v269 h)

theorem found_v311 (h : Turned m c x1 x2) : V m c main_v311 = val_main_v332 (F := F) x1 x2 :=
  found_unary 331 rfl (by decide) (by decide) (found_v274 h)

theorem found_v312 (h : Turned m c x1 x2) : V m c main_v312 = val_main_v333 (F := F) x1 x2 :=
  found_nary 332 rfl (by decide) (by decide) (a := fun k => match k with | ⟨0, _⟩ => val_main_v301 (F := F) | ⟨1, _⟩ => val_main_v302 (F := F) x1 x2 | ⟨2, _⟩ => val_main_v303 (F := F) x1 x2 | ⟨3, _⟩ => val_main_v304 (F := F) x1 x2 | ⟨4, _⟩ => val_main_v305 (F := F) x1 x2 | ⟨5, _⟩ => val_main_v306 (F := F) x1 x2 | ⟨6, _⟩ => val_main_v307 (F := F) x1 x2 | ⟨7, _⟩ => val_main_v308 (F := F) x1 x2 | ⟨8, _⟩ => val_main_v309 (F := F) x1 x2 | ⟨9, _⟩ => val_main_v310 (F := F) x1 x2 | ⟨10, _⟩ => val_main_v311 (F := F) x1 x2 | ⟨11, _⟩ => val_main_v312 (F := F) x1 x2 | ⟨12, _⟩ => val_main_v313 (F := F) x1 x2 | ⟨13, _⟩ => val_main_v314 (F := F) x1 x2 | ⟨14, _⟩ => val_main_v315 (F := F) x1 x2 | ⟨15, _⟩ => val_main_v316 (F := F) x1 x2 | ⟨n + 16, hn⟩ => absurd hn (by omega)) (fun k => match k with | ⟨0, _⟩ => found_v280 | ⟨1, _⟩ => found_v281 h | ⟨2, _⟩ => found_v282 h | ⟨3, _⟩ => found_v283 h | ⟨4, _⟩ => found_v284 h | ⟨5, _⟩ => found_v285 h | ⟨6, _⟩ => found_v286 h | ⟨7, _⟩ => found_v287 h | ⟨8, _⟩ => found_v288 h | ⟨9, _⟩ => found_v289 h | ⟨10, _⟩ => found_v290 h | ⟨11, _⟩ => found_v291 h | ⟨12, _⟩ => found_v292 h | ⟨13, _⟩ => found_v293 h | ⟨14, _⟩ => found_v294 h | ⟨15, _⟩ => found_v295 h | ⟨n + 16, hn⟩ => absurd hn (by omega))

theorem found_v313 (h : Turned m c x1 x2) : V m c main_v313 = val_main_v334 (F := F) x1 x2 :=
  found_nary 333 rfl (by decide) (by decide) (a := fun k => match k with | ⟨0, _⟩ => val_main_v317 (F := F) x1 x2 | ⟨1, _⟩ => val_main_v318 (F := F) x1 x2 | ⟨2, _⟩ => val_main_v319 (F := F) x1 x2 | ⟨3, _⟩ => val_main_v320 (F := F) x1 x2 | ⟨4, _⟩ => val_main_v321 (F := F) x1 x2 | ⟨5, _⟩ => val_main_v322 (F := F) x1 x2 | ⟨6, _⟩ => val_main_v323 (F := F) x1 x2 | ⟨7, _⟩ => val_main_v324 (F := F) x1 x2 | ⟨8, _⟩ => val_main_v325 (F := F) x1 x2 | ⟨9, _⟩ => val_main_v326 (F := F) x1 x2 | ⟨10, _⟩ => val_main_v327 (F := F) x1 x2 | ⟨11, _⟩ => val_main_v328 (F := F) x1 x2 | ⟨12, _⟩ => val_main_v329 (F := F) x1 x2 | ⟨13, _⟩ => val_main_v330 (F := F) x1 x2 | ⟨14, _⟩ => val_main_v331 (F := F) x1 x2 | ⟨15, _⟩ => val_main_v332 (F := F) x1 x2 | ⟨n + 16, hn⟩ => absurd hn (by omega)) (fun k => match k with | ⟨0, _⟩ => found_v296 h | ⟨1, _⟩ => found_v297 h | ⟨2, _⟩ => found_v298 h | ⟨3, _⟩ => found_v299 h | ⟨4, _⟩ => found_v300 h | ⟨5, _⟩ => found_v301 h | ⟨6, _⟩ => found_v302 h | ⟨7, _⟩ => found_v303 h | ⟨8, _⟩ => found_v304 h | ⟨9, _⟩ => found_v305 h | ⟨10, _⟩ => found_v306 h | ⟨11, _⟩ => found_v307 h | ⟨12, _⟩ => found_v308 h | ⟨13, _⟩ => found_v309 h | ⟨14, _⟩ => found_v310 h | ⟨15, _⟩ => found_v311 h | ⟨n + 16, hn⟩ => absurd hn (by omega))

theorem found_v314 (h : Turned m c x1 x2) : V m c main_v314 = val_main_v335 (F := F) x1 x2 :=
  found_binary 334 rfl (by decide) (by decide) (by decide) (found_v312 h) (found_v313 h)

theorem found_v315 (h : Turned m c x1 x2) : V m c main_v315 = val_main_v336 (F := F) x1 x2 :=
  found_binary 335 rfl (by decide) (by decide) (by decide) (found_v119) (found_v314 h)

theorem found_v316 : V m c main_v316 = val_main_v337 (F := F) :=
  found_unary 336 rfl (by decide) (by decide) (found_v77)

theorem found_cst_16 : V m c main_cst_16 = val_main_cst_15 (F := F) :=
  found_nullary 337 rfl (by decide)

theorem found_v317 : V m c main_v317 = val_main_v338 (F := F) :=
  found_unary 338 rfl (by decide) (by decide) (found_cst_16)

theorem found_v318 : V m c main_v318 = val_main_v339 (F := F) :=
  found_binary 339 rfl (by decide) (by decide) (by decide) (found_v78) (found_v317)

theorem found_v319 : V m c main_v319 = val_main_v340 (F := F) :=
  found_unary 340 rfl (by decide) (by decide) (found_v318)

theorem found_v320 : V m c main_v320 = val_main_v341 (F := F) :=
  found_unary 341 rfl (by decide) (by decide) (found_v316)

theorem found_v321 : V m c main_v321 = val_main_v342 (F := F) :=
  found_unary 342 rfl (by decide) (by decide) (found_v319)

theorem found_v322 : V m c main_v322 = val_main_v343 (F := F) :=
  found_binary 343 rfl (by decide) (by decide) (by decide) (found_v320) (found_v321)

theorem found_v323 : V m c main_v323 = val_main_v344 (F := F) :=
  found_unary 344 rfl (by decide) (by decide) (found_v322)

theorem found_v324 : V m c main_v324 = val_main_v345 (F := F) :=
  found_unary 345 rfl (by decide) (by decide) (found_v323)

theorem found_v325 : V m c main_v325 = val_main_v346 (F := F) :=
  found_unary 346 rfl (by decide) (by decide) (found_v324)

theorem found_v326 (h : Turned m c x1 x2) : V m c main_v326 = val_main_v347 (F := F) x1 x2 :=
  found_binary 347 rfl (by decide) (by decide) (by decide) (found_v63 h) (found_v325)

theorem found_v327 (h : Turned m c x1 x2) : V m c main_v327 = val_main_v348 (F := F) x1 x2 :=
  found_binary 348 rfl (by decide) (by decide) (by decide) (found_v326 h) (found_v315 h)

theorem found_v328 (h : Turned m c x1 x2) : V m c main_v328 = val_main_v349 (F := F) x1 x2 :=
  found_binary 349 rfl (by decide) (by decide) (by decide) (found_v99 h) (found_v327 h)

theorem found_v329 (h : Turned m c x1 x2) : V m c main_v329 = val_main_v350 (F := F) x1 x2 :=
  found_unary 350 rfl (by decide) (by decide) (found_v328 h)

theorem found_v330 (h : Turned m c x1 x2) : V m c main_v330 = val_main_v351 (F := F) x1 x2 :=
  found_reshape 351 rfl (by decide) (by decide) (found_v329 h)

end Cert.KernelIdeal.Ret
-- ==== Proof.Ret.Decay.lean ====
/- The decay tables the kernel is given are the reference's. -/
module

public import proofs.«01_k».proof.Proof.Ret.Line
public import proofs.«01_k».proof.Proof.Gen.ReferenceIdeal.Read

@[expose] public section

set_option maxRecDepth 65536

noncomputable section

namespace Cert.KernelIdeal.Ret

open Cert.KernelIdeal Cert.KernelIdeal.Gen Idealize.ShloMosaic Idealize.ShloMosaic.TcCoe Idealize.ShloMosaic.StableHlo
open Cert.ReferenceIdeal.Read

variable {F : FTy → Type} [FloatOps F] {m : (ℓ : Loc nD τ sig) → Buf (Elt F) ℓ} {c : Dev nD}
  {x1 : (⟨S4096x5376, .f32⟩ : BufTy).Contents (Elt F)} {x2 : (⟨S4096, .i32⟩ : BufTy).Contents (Elt F)}

theorem found_v335 : V m c main_v335 = val_main_v91 (F := F) :=
  found_nullary 356 rfl (by decide)

theorem found_cst_17 : V m c main_cst_17 = val_main_cst_6 (F := F) :=
  found_nullary 357 rfl (by decide)

theorem found_v336 : V m c main_v336 = val_main_v92 (F := F) :=
  found_unary 358 rfl (by decide) (by decide) (found_cst_17)

theorem found_v337 : V m c main_v337 = val_main_v93 (F := F) :=
  found_binary 359 rfl (by decide) (by decide) (by decide) (found_v336) (found_v335)

theorem found_cst_18 : V m c main_cst_18 = val_main_cst_7 (F := F) :=
  found_nullary 360 rfl (by decide)

theorem found_v338 : V m c main_v338 = val_main_v94 (F := F) :=
  found_unary 361 rfl (by decide) (by decide) (found_cst_18)

theorem found_v339 : V m c main_v339 = val_main_v95 (F := F) :=
  found_binary 362 rfl (by decide) (by decide) (by decide) (found_v338) (found_v337)

theorem found_v340 : V m c main_v340 = val_main_v96 (F := F) :=
  found_unary 363 rfl (by decide) (by decide) (found_v339)

theorem found_v341 : V m c main_v341 = val_main_v97 (F := F) :=
  found_unary 364 rfl (by decide) (by decide) (found_v340)

theorem found_v342 : V m c main_v342 = val_main_v98 (F := F) :=
  found_unary 365 rfl (by decide) (by decide) (found_v341)

theorem found_v343 : V m c main_v343 = val_main_v99 (F := F) :=
  found_nullary 366 rfl (by decide)

theorem found_v344 : V m c main_v344 = val_main_v100 (F := F) :=
  found_unary 367 rfl (by decide) (by decide) (found_v343)

theorem found_v345 : V m c main_v345 = val_main_v101 (F := F) :=
  found_unary 368 rfl (by decide) (by decide) (found_v343)

theorem found_v346 : V m c main_v346 = val_main_v102 (F := F) :=
  found_unary 369 rfl (by decide) (by decide) (found_v344)

theorem found_v347 : V m c main_v347 = val_main_v103 (F := F) :=
  found_unary 370 rfl (by decide) (by decide) (found_v345)

theorem found_v348 : V m c main_v348 = val_main_v104 (F := F) :=
  found_binary 371 rfl (by decide) (by decide) (by decide) (found_v346) (found_v347)

theorem found_cst_19 : V m c main_cst_19 = val_main_cst_8 (F := F) :=
  found_nullary 372 rfl (by decide)

theorem found_v349 : V m c main_v349 = val_main_v105 (F := F) :=
  found_unary 373 rfl (by decide) (by decide) (found_cst_19)

theorem found_v350 : V m c main_v350 = val_main_v106 (F := F) :=
  found_binary 374 rfl (by decide) (by decide) (by decide) (found_v348) (found_v349)

theorem found_v351 : V m c main_v351 = val_main_v107 (F := F) :=
  found_unary 375 rfl (by decide) (by decide) (found_v342)

theorem found_cst_20 : V m c main_cst_20 = val_main_cst_9 (F := F) :=
  found_nullary 376 rfl (by decide)

theorem found_v352 : V m c main_v352 = val_main_v108 (F := F) :=
  found_unary 377 rfl (by decide) (by decide) (found_cst_20)

theorem found_v353 : V m c main_v353 = val_main_v109 (F := F) :=
  found_binary 378 rfl (by decide) (by decide) (by decide) (found_v348) (found_v352)

theorem found_v354 : V m c main_v354 = val_main_v110 (F := F) :=
  found_unary 379 rfl (by decide) (by decide) (found_v353)

theorem found_v355 : V m c main_v355 = val_main_v111 (F := F) :=
  found_unary 380 rfl (by decide) (by decide) (found_v351)

theorem found_v356 : V m c main_v356 = val_main_v112 (F := F) :=
  found_unary 381 rfl (by decide) (by decide) (found_v354)

theorem found_v357 : V m c main_v357 = val_main_v113 (F := F) :=
  found_binary 382 rfl (by decide) (by decide) (by decide) (found_v355) (found_v356)

theorem found_v358 : V m c main_v358 = val_main_v114 (F := F) :=
  found_unary 383 rfl (by decide) (by decide) (found_v357)

theorem found_cst_21 : V m c main_cst_21 = val_main_cst_10 (F := F) :=
  found_nullary 384 rfl (by decide)

theorem found_call1_v0 : V m c main_call1_v0 = val_main_call0_v0 (F := F) :=
  found_unary 385 rfl (by decide) (by decide) (found_cst_21)

theorem found_call1_v1 : V m c main_call1_v1 = val_main_call0_v1 (F := F) :=
  found_unary 386 rfl (by decide) (by decide) (found_v350)

theorem found_call1_v2 : V m c main_call1_v2 = val_main_call0_v2 (F := F) :=
  found_unary 387 rfl (by decide) (by decide) (found_call1_v0)

theorem found_v359 : V m c main_v359 = val_main_v115 (F := F) :=
  found_ternary 388 rfl (by decide) (by decide) (by decide) (by decide) (found_call1_v1) (found_v358) (found_call1_v2)

theorem found_v360 : V m c main_v360 = val_main_v121 (F := F) :=
  found_unary 389 rfl (by decide) (by decide) (found_v342)

theorem found_cst_22 : V m c main_cst_22 = val_main_cst_11 (F := F) :=
  found_nullary 390 rfl (by decide)

theorem found_v361 : V m c main_v361 = val_main_v122 (F := F) :=
  found_unary 391 rfl (by decide) (by decide) (found_cst_22)

theorem found_v362 : V m c main_v362 = val_main_v123 (F := F) :=
  found_binary 392 rfl (by decide) (by decide) (by decide) (found_v361) (found_v343)

theorem found_v363 : V m c main_v363 = val_main_v124 (F := F) :=
  found_unary 393 rfl (by decide) (by decide) (found_v362)

theorem found_v364 : V m c main_v364 = val_main_v125 (F := F) :=
  found_unary 394 rfl (by decide) (by decide) (found_v360)

theorem found_v365 : V m c main_v365 = val_main_v126 (F := F) :=
  found_unary 395 rfl (by decide) (by decide) (found_v363)

theorem found_v366 : V m c main_v366 = val_main_v127 (F := F) :=
  found_binary 396 rfl (by decide) (by decide) (by decide) (found_v364) (found_v365)

theorem found_v367 : V m c main_v367 = val_main_v128 (F := F) :=
  found_unary 397 rfl (by decide) (by decide) (found_v366)

theorem found_v368 : V m c main_v368 = val_main_v337 (F := F) :=
  found_unary 398 rfl (by decide) (by decide) (found_v342)

theorem found_cst_23 : V m c main_cst_23 = val_main_cst_15 (F := F) :=
  found_nullary 399 rfl (by decide)

theorem found_v369 : V m c main_v369 = val_main_v338 (F := F) :=
  found_unary 400 rfl (by decide) (by decide) (found_cst_23)

theorem found_v370 : V m c main_v370 = val_main_v339 (F := F) :=
  found_binary 401 rfl (by decide) (by decide) (by decide) (found_v343) (found_v369)

theorem found_v371 : V m c main_v371 = val_main_v340 (F := F) :=
  found_unary 402 rfl (by decide) (by decide) (found_v370)

theorem found_v372 : V m c main_v372 = val_main_v341 (F := F) :=
  found_unary 403 rfl (by decide) (by decide) (found_v368)

theorem found_v373 : V m c main_v373 = val_main_v342 (F := F) :=
  found_unary 404 rfl (by decide) (by decide) (found_v371)

theorem found_v374 : V m c main_v374 = val_main_v343 (F := F) :=
  found_binary 405 rfl (by decide) (by decide) (by decide) (found_v372) (found_v373)

theorem found_v375 : V m c main_v375 = val_main_v344 (F := F) :=
  found_unary 406 rfl (by decide) (by decide) (found_v374)

theorem found_cst_24 : V m c main_cst_24 = val_main_cst_12 (F := F) :=
  found_nullary 407 rfl (by decide)

theorem found_v376 : V m c main_v376 = val_main_v133 (F := F) :=
  found_unary 408 rfl (by decide) (by decide) (found_cst_24)

theorem found_v377 : V m c main_v377 = val_main_v134 (F := F) :=
  found_binary 409 rfl (by decide) (by decide) (by decide) (found_v342) (found_v376)

theorem found_v378 : V m c main_v378 = val_main_v135 (F := F) :=
  found_unary 410 rfl (by decide) (by decide) (found_v377)

end Cert.KernelIdeal.Ret
-- ==== Proof.Ret.Turned.lean ====
/- The turned queries and keys: the kernel's host lines turn two halves and interleave, the reference turns even and odd places. -/
module

public import proofs.«01_k».proof.Proof.Ret.Within
public import Idealize.ShloMosaic.Lib.Pointwise

@[expose] public section

set_option maxRecDepth 65536

noncomputable section

namespace Cert.KernelIdeal.Ret

open Cert.KernelIdeal Cert.KernelIdeal.Gen Idealize.ShloMosaic Idealize.ShloMosaic.TcCoe Idealize.ShloMosaic.StableHlo
open Cert.ReferenceIdeal.Read

section Lines

variable {F : FTy → Type} [FloatOps F] {m : (ℓ : Loc nD τ sig) → Buf (Elt F) ℓ} {c : Dev nD}

theorem found_v0 : V m c main_v0 = val_main_v14 (F := F) :=
  found_nullary 0 rfl (by decide)

theorem found_cst : V m c main_cst = val_main_cst (F := F) :=
  found_nullary 1 rfl (by decide)

theorem found_v1 : V m c main_v1 = val_main_v15 (F := F) :=
  found_unary 2 rfl (by decide) (by decide) (found_cst)

theorem found_v2 : V m c main_v2 = val_main_v16 (F := F) :=
  found_binary 3 rfl (by decide) (by decide) (by decide) (found_v0) (found_v1)

theorem found_cst_0 : V m c main_cst_0 = val_main_cst_0 (F := F) :=
  found_nullary 4 rfl (by decide)

theorem found_v3 : V m c main_v3 = val_main_v17 (F := F) :=
  found_unary 5 rfl (by decide) (by decide) (found_cst_0)

theorem found_v4 : V m c main_v4 = val_main_v18 (F := F) :=
  found_binary 6 rfl (by decide) (by decide) (by decide) (found_v3) (found_v2)

theorem found_cst_1 : V m c main_cst_1 = val_main_cst_1 (F := F) :=
  found_nullary 7 rfl (by decide)

theorem found_v5 : V m c main_v5 = val_main_v19 (F := F) :=
  found_unary 8 rfl (by decide) (by decide) (found_cst_1)

theorem found_v6 : V m c main_v6 = val_main_v20 (F := F) :=
  found_binary 9 rfl (by decide) (by decide) (by decide) (found_v5) (found_v4)

/-- The kernel's host lines of a turn. -/
def turnK (x : (⟨S1x4096x4x128, .f32⟩ : BufTy).Contents (Elt F)) (c s : (⟨S4096x128, .f32⟩ : BufTy).Contents (Elt F)) : (⟨S1x4096x4x128, .f32⟩ : BufTy).Contents (Elt F) :=
  (addf (pad S1x4096x4x128 ![0, 0, 0, 0] ![0, 0, 0, 1] ![0, 0, 0, 1] (subf (mulf (extractStridedSlice S1x4096x4x64 ![0, 0, 0, 0] x slices_S1x4096x4x128_S1x4096x4x64_0_0_0_0) (broadcastInDim S1x4096x4x64 ![0, 1, 2, 3] bcast_S1x4096x1x64_S1x4096x4x64_0_1_2_3 (broadcastInDim S1x4096x1x64 ![1, 3] bcast_S4096x64_S1x4096x1x64_1_3 (extractStridedSlice S4096x64 ![0, 0] c slices_S4096x128_S4096x64_0_0)))) (mulf (extractStridedSlice S1x4096x4x64 ![0, 0, 0, 64] x slices_S1x4096x4x128_S1x4096x4x64_0_0_0_64) (broadcastInDim S1x4096x4x64 ![0, 1, 2, 3] bcast_S1x4096x1x64_S1x4096x4x64_0_1_2_3 (broadcastInDim S1x4096x1x64 ![1, 3] bcast_S4096x64_S1x4096x1x64_1_3 (extractStridedSlice S4096x64 ![0, 64] s slices_S4096x128_S4096x64_0_64))))) (constant S_ .f32 0x00000000#32) pads_S1x4096x4x64_S1x4096x4x128_000_000_000_011 h_S_) (pad S1x4096x4x128 ![0, 0, 0, 1] ![0, 0, 0, 0] ![0, 0, 0, 1] (addf (mulf (extractStridedSlice S1x4096x4x64 ![0, 0, 0, 0] x slices_S1x4096x4x128_S1x4096x4x64_0_0_0_0) (broadcastInDim S1x4096x4x64 ![0, 1, 2, 3] bcast_S1x4096x1x64_S1x4096x4x64_0_1_2_3 (broadcastInDim S1x4096x1x64 ![1, 3] bcast_S4096x64_S1x4096x1x64_1_3 (extractStridedSlice S4096x64 ![0, 64] s slices_S4096x128_S4096x64_0_64)))) (mulf (extractStridedSlice S1x4096x4x64 ![0, 0, 0, 64] x slices_S1x4096x4x128_S1x4096x4x64_0_0_0_64) (broadcastInDim S1x4096x4x64 ![0, 1, 2, 3] bcast_S1x4096x1x64_S1x4096x4x64_0_1_2_3 (broadcastInDim S1x4096x1x64 ![1, 3] bcast_S4096x64_S1x4096x1x64_1_3 (extractStridedSlice S4096x64 ![0, 0] c slices_S4096x128_S4096x64_0_0))))) (constant S_ .f32 0x00000000#32) pads_S1x4096x4x64_S1x4096x4x128_000_000_000_101 h_S_))

theorem found_v40 : V m c main_v40 = turnK (V m c main_v21) (V m c main_v15) (V m c main_v17) :=
  (found_binary 45 rfl (by decide) (by decide) (by decide) (found_binary 42 rfl (by decide) (by decide) (by decide) (found_binary 35 rfl (by decide) (by decide) (by decide) (found_binary 32 rfl (by decide) (by decide) (by decide) (found_unary 25 rfl (by decide) (by decide) rfl) (found_unary 31 rfl (by decide) (by decide) (found_unary 28 rfl (by decide) (by decide) (found_unary 27 rfl (by decide) (by decide) rfl)))) (found_binary 34 rfl (by decide) (by decide) (by decide) (found_unary 26 rfl (by decide) (by decide) rfl) (found_unary 33 rfl (by decide) (by decide) (found_unary 30 rfl (by decide) (by decide) (found_unary 29 rfl (by decide) (by decide) rfl))))) (found_nullary 41 rfl (by decide))) (found_binary 44 rfl (by decide) (by decide) (by decide) (found_binary 40 rfl (by decide) (by decide) (by decide) (found_binary 37 rfl (by decide) (by decide) (by decide) (found_unary 25 rfl (by decide) (by decide) rfl) (found_unary 36 rfl (by decide) (by decide) (found_unary 30 rfl (by decide) (by decide) (found_unary 29 rfl (by decide) (by decide) rfl)))) (found_binary 39 rfl (by decide) (by decide) (by decide) (found_unary 26 rfl (by decide) (by decide) rfl) (found_unary 38 rfl (by decide) (by decide) (found_unary 28 rfl (by decide) (by decide) (found_unary 27 rfl (by decide) (by decide) rfl))))) (found_nullary 43 rfl (by decide))))

theorem found_v61 : V m c main_v61 = turnK (V m c main_v42) (V m c main_v15) (V m c main_v17) :=
  (found_binary 68 rfl (by decide) (by decide) (by decide) (found_binary 65 rfl (by decide) (by decide) (by decide) (found_binary 58 rfl (by decide) (by decide) (by decide) (found_binary 55 rfl (by decide) (by decide) (by decide) (found_unary 48 rfl (by decide) (by decide) rfl) (found_unary 54 rfl (by decide) (by decide) (found_unary 51 rfl (by decide) (by decide) (found_unary 50 rfl (by decide) (by decide) rfl)))) (found_binary 57 rfl (by decide) (by decide) (by decide) (found_unary 49 rfl (by decide) (by decide) rfl) (found_unary 56 rfl (by decide) (by decide) (found_unary 53 rfl (by decide) (by decide) (found_unary 52 rfl (by decide) (by decide) rfl))))) (found_nullary 64 rfl (by decide))) (found_binary 67 rfl (by decide) (by decide) (by decide) (found_binary 63 rfl (by decide) (by decide) (by decide) (found_binary 60 rfl (by decide) (by decide) (by decide) (found_unary 48 rfl (by decide) (by decide) rfl) (found_unary 59 rfl (by decide) (by decide) (found_unary 53 rfl (by decide) (by decide) (found_unary 52 rfl (by decide) (by decide) rfl)))) (found_binary 62 rfl (by decide) (by decide) (by decide) (found_unary 49 rfl (by decide) (by decide) rfl) (found_unary 61 rfl (by decide) (by decide) (found_unary 51 rfl (by decide) (by decide) (found_unary 50 rfl (by decide) (by decide) rfl))))) (found_nullary 66 rfl (by decide))))

/-- The reference's lines of a turn. -/
def turnR (y : (⟨Cert.ReferenceIdeal.S1x4096x4x128, .f32⟩ : BufTy).Contents (Elt F)) (c s : (⟨Cert.ReferenceIdeal.S1x4096x64, .f32⟩ : BufTy).Contents (Elt F)) : (⟨Cert.ReferenceIdeal.S1x4096x4x128, .f32⟩ : BufTy).Contents (Elt F) :=
  shapeCast _ (concatenate Cert.ReferenceIdeal.S1x4096x4x64x2 4 [⟨Cert.ReferenceIdeal.S1x4096x4x64x1, (broadcastInDim Cert.ReferenceIdeal.S1x4096x4x64x1 ![0, 1, 2, 3] Cert.ReferenceIdeal.Gen.bcast_S1x4096x4x64_S1x4096x4x64x1_0_1_2_3 (subf (mulf (Host.slice Cert.ReferenceIdeal.S1x4096x4x64 ![0, 0, 0, 0] ![1, 1, 1, 2] (y) Cert.ReferenceIdeal.Gen.slicesBy_S1x4096x4x128_S1x4096x4x64_0s1_0s1_0s1_0s2) (broadcastInDim Cert.ReferenceIdeal.S1x4096x4x64 ![0, 1, 2, 3] Cert.ReferenceIdeal.Gen.bcast_S1x4096x1x64_S1x4096x4x64_0_1_2_3 (broadcastInDim Cert.ReferenceIdeal.S1x4096x1x64 ![0, 1, 3] Cert.ReferenceIdeal.Gen.bcast_S1x4096x64_S1x4096x1x64_0_1_3 (c)))) (mulf (Host.slice Cert.ReferenceIdeal.S1x4096x4x64 ![0, 0, 0, 1] ![1, 1, 1, 2] (y) Cert.ReferenceIdeal.Gen.slicesBy_S1x4096x4x128_S1x4096x4x64_0s1_0s1_0s1_1s2) (broadcastInDim Cert.ReferenceIdeal.S1x4096x4x64 ![0, 1, 2, 3] Cert.ReferenceIdeal.Gen.bcast_S1x4096x1x64_S1x4096x4x64_0_1_2_3 (broadcastInDim Cert.ReferenceIdeal.S1x4096x1x64 ![0, 1, 3] Cert.ReferenceIdeal.Gen.bcast_S1x4096x64_S1x4096x1x64_0_1_3 (s))))))⟩, ⟨Cert.ReferenceIdeal.S1x4096x4x64x1, (broadcastInDim Cert.ReferenceIdeal.S1x4096x4x64x1 ![0, 1, 2, 3] Cert.ReferenceIdeal.Gen.bcast_S1x4096x4x64_S1x4096x4x64x1_0_1_2_3 (addf (mulf (Host.slice Cert.ReferenceIdeal.S1x4096x4x64 ![0, 0, 0, 0] ![1, 1, 1, 2] (y) Cert.ReferenceIdeal.Gen.slicesBy_S1x4096x4x128_S1x4096x4x64_0s1_0s1_0s1_0s2) (broadcastInDim Cert.ReferenceIdeal.S1x4096x4x64 ![0, 1, 2, 3] Cert.ReferenceIdeal.Gen.bcast_S1x4096x1x64_S1x4096x4x64_0_1_2_3 (broadcastInDim Cert.ReferenceIdeal.S1x4096x1x64 ![0, 1, 3] Cert.ReferenceIdeal.Gen.bcast_S1x4096x64_S1x4096x1x64_0_1_3 (s)))) (mulf (Host.slice Cert.ReferenceIdeal.S1x4096x4x64 ![0, 0, 0, 1] ![1, 1, 1, 2] (y) Cert.ReferenceIdeal.Gen.slicesBy_S1x4096x4x128_S1x4096x4x64_0s1_0s1_0s1_1s2) (broadcastInDim Cert.ReferenceIdeal.S1x4096x4x64 ![0, 1, 2, 3] Cert.ReferenceIdeal.Gen.bcast_S1x4096x1x64_S1x4096x4x64_0_1_2_3 (broadcastInDim Cert.ReferenceIdeal.S1x4096x1x64 ![0, 1, 3] Cert.ReferenceIdeal.Gen.bcast_S1x4096x64_S1x4096x1x64_0_1_3 (c))))))⟩] Cert.ReferenceIdeal.Gen.concatenates_S1x4096x4x64x1_S1x4096x4x64x1_S1x4096x4x64x2_d4) Cert.ReferenceIdeal.Gen.shapeCasts_S1x4096x4x64x2_S1x4096x4x128

variable (x1 : (⟨S4096x5376, .f32⟩ : BufTy).Contents (Elt F)) (x2 : (⟨S4096, .i32⟩ : BufTy).Contents (Elt F))

theorem val_v46 : val_main_v46 (F := F) x1 x2 = turnR (val_main_v12 (F := F) x1) (val_main_v27 (F := F) x2) (val_main_v29 (F := F) x2) := rfl

theorem val_v62 : val_main_v62 (F := F) x2 = val_main_v27 (F := F) x2 := rfl

theorem val_v64 : val_main_v64 (F := F) x2 = val_main_v29 (F := F) x2 := rfl

theorem val_v81 : val_main_v81 (F := F) x1 x2 = turnR (val_main_v47 (F := F) x1) (val_main_v62 (F := F) x2) (val_main_v64 (F := F) x2) := rfl

/-- The kernel's column `q` of the packed projections, head by head. -/
theorem found_v21 : V m c main_v21 = shapeCast S1x4096x4x128 (extractStridedSlice S4096x512 ![0, 0] (V m c main_arg1) slices_S4096x5376_S4096x512_0_0) shapeCasts_S4096x512_S1x4096x4x128 :=
  (found_reshape 24 rfl (by decide) (by decide) (found_unary 23 rfl (by decide) (by decide) rfl))

theorem found_v42 : V m c main_v42 = shapeCast S1x4096x4x128 (extractStridedSlice S4096x512 ![0, 512] (V m c main_arg1) slices_S4096x5376_S4096x512_0_512) shapeCasts_S4096x512_S1x4096x4x128 :=
  (found_reshape 47 rfl (by decide) (by decide) (found_unary 46 rfl (by decide) (by decide) rfl))

theorem found_v19 : V m c main_v19 = shapeCast S1x4096x4x128 (extractStridedSlice S4096x512 ![0, 1024] (V m c main_arg1) slices_S4096x5376_S4096x512_0_1024) shapeCasts_S4096x512_S1x4096x4x128 :=
  (found_reshape 22 rfl (by decide) (by decide) (found_unary 21 rfl (by decide) (by decide) rfl))

/-- The angles. -/
def angK (x : (⟨S4096, .i32⟩ : BufTy).Contents (Elt F)) : (⟨S4096x64, .f32⟩ : BufTy).Contents (Elt F) :=
  mulf (broadcastInDim S4096x64 ![0, 1] bcast_S4096x1_S4096x64_0_1 (broadcastInDim S4096x1 ![0] bcast_S4096_S4096x1_0 (sitofp .f32 x)))
    (broadcastInDim S4096x64 ![0, 1] bcast_S1x64_S4096x64_0_1 (broadcastInDim S1x64 ![1] bcast_S64_S1x64_1 (val_main_v20 (F := F))))

theorem found_v12 : V m c main_v12 = angK (V m c main_arg2) :=
  (found_binary 15 rfl (by decide) (by decide) (by decide) (found_unary 13 rfl (by decide) (by decide) (found_unary 11 rfl (by decide) (by decide) (found_unary 10 rfl (by decide) (by decide) rfl))) (found_unary 14 rfl (by decide) (by decide) (found_unary 12 rfl (by decide) (by decide) found_v6)))

/-- The cosine table the kernel is given. -/
def cosK (a : (⟨S4096x64, .f32⟩ : BufTy).Contents (Elt F)) : (⟨S4096x128, .f32⟩ : BufTy).Contents (Elt F) :=
  concatenate S4096x128 1 [⟨S4096x64, Host.cos a⟩, ⟨S4096x64, Host.cos a⟩] concatenates_S4096x64_S4096x64_S4096x128_d1

/-- The sine table the kernel is given. -/
def sinK (a : (⟨S4096x64, .f32⟩ : BufTy).Contents (Elt F)) : (⟨S4096x128, .f32⟩ : BufTy).Contents (Elt F) :=
  concatenate S4096x128 1 [⟨S4096x64, Host.negf (Host.sin a)⟩, ⟨S4096x64, Host.sin a⟩] concatenates_S4096x64_S4096x64_S4096x128_d1

theorem found_v15 : V m c main_v15 = cosK (V m c main_v12) :=
  (found_binary 18 rfl (by decide) (by decide) (by decide) (found_unary 16 rfl (by decide) (by decide) rfl) (found_unary 16 rfl (by decide) (by decide) rfl))

theorem found_v17 : V m c main_v17 = sinK (V m c main_v12) :=
  (found_binary 20 rfl (by decide) (by decide) (by decide) (found_unary 19 rfl (by decide) (by decide) (found_unary 17 rfl (by decide) (by decide) rfl)) (found_unary 17 rfl (by decide) (by decide) rfl))

end Lines

section Elements

def evenAt (j : Fin 64) : Fin 128 := ⟨2 * j.val, by omega⟩
def oddAt (j : Fin 64) : Fin 128 := ⟨1 + 2 * j.val, by omega⟩
def lowAt (j : Fin 64) : Fin 128 := ⟨j.val, by omega⟩
def highAt (j : Fin 64) : Fin 128 := ⟨64 + j.val, by omega⟩

theorem turnK_at (x : Vec Ideal S1x4096x4x128 .f32) (c s : Vec Ideal S4096x128 .f32) (r : Fin 4096) (h : Fin 4) (j : Fin 64) :
    turnK (F := Ideal) x c s (ix4 0 r h (evenAt j)) = x (ix4 0 r h (lowAt j)) * c (ix2 r (lowAt j)) - x (ix4 0 r h (highAt j)) * s (ix2 r (highAt j)) ∧
    turnK (F := Ideal) x c s (ix4 0 r h (oddAt j)) = x (ix4 0 r h (lowAt j)) * s (ix2 r (highAt j)) + x (ix4 0 r h (highAt j)) * c (ix2 r (lowAt j)) := by
  constructor
  · pointwise [turnK]
    have e1 : (evenAt j).val % 2 = 0 := by simp [evenAt]
    have e2 : (evenAt j).val / 2 = j.val := by simp [evenAt]
    have e3 : ¬ (1 ≤ (evenAt j).val ∧ ((evenAt j).val - 1) % 2 = 0 ∧ ((evenAt j).val - 1) / 2 < 64) := by have := j.isLt; simp only [evenAt]; omega
    rw [dif_pos ⟨e1, by rw [e2]; exact j.isLt⟩, dif_neg e3, add_zero]
    simp only [e2]
    rfl
  · pointwise [turnK]
    have e1 : ((oddAt j).val - 1) % 2 = 0 := by simp only [oddAt]; omega
    have e2 : ((oddAt j).val - 1) / 2 = j.val := by simp only [oddAt]; omega
    have e3 : ¬ ((oddAt j).val % 2 = 0 ∧ (oddAt j).val / 2 < 64) := by simp only [oddAt]; omega
    rw [dif_neg e3, dif_pos ⟨by simp only [oddAt]; omega, e1, by rw [e2]; exact j.isLt⟩, zero_add]
    simp only [e2]
    rfl

theorem turnR_at (x : Vec Ideal Cert.ReferenceIdeal.S1x4096x4x128 .f32) (c s : Vec Ideal Cert.ReferenceIdeal.S1x4096x64 .f32) (r : Fin 4096) (h : Fin 4) (j : Fin 64) :
    turnR (F := Ideal) x c s (ix4 0 r h (evenAt j)) = x (ix4 0 r h (evenAt j)) * c (ix3 0 r j) - x (ix4 0 r h (oddAt j)) * s (ix3 0 r j) ∧
    turnR (F := Ideal) x c s (ix4 0 r h (oddAt j)) = x (ix4 0 r h (evenAt j)) * s (ix3 0 r j) + x (ix4 0 r h (oddAt j)) * c (ix3 0 r j) := by
  constructor
  · pointwise [turnR]
    have e2 : (evenAt j).val / 2 = j.val := by simp [evenAt]
    rw [dif_pos (by simp [evenAt])]
    simp only [e2]
    rfl
  · pointwise [turnR]
    have e2 : (oddAt j).val / 2 = j.val := by simp only [oddAt]; omega
    rw [dif_neg (by simp only [oddAt]; omega)]
    simp only [e2]
    rfl

variable (x1 : Vec Ideal S4096x5376 .f32) (x2 : Vec Ideal S4096 .i32) (r : Fin 4096) (h : Fin 4) (j : Fin 64)

/-- Column `o + h * 128 + d` of the packed projections. -/
def packed (o : Fin 4) (r : Fin 4096) (h : Fin 4) (d : Fin 128) : EReal :=
  x1 (ix2 r ⟨o.val * 512 + h.val * 128 + d.val, by omega⟩)

theorem q_split : val_main_v12 (F := Ideal) x1 (ix4 0 r h (evenAt j)) = packed x1 0 r h (lowAt j) ∧
    val_main_v12 (F := Ideal) x1 (ix4 0 r h (oddAt j)) = packed x1 0 r h (highAt j) := by
  constructor
  · pointwise [val_main_v12, val_main_v6, val_main_v5, val_main_v4, val_main_v0]
    exact congrArg x1 (congrArg (ix2 r) (Fin.ext (by simp only [evenAt, lowAt]; omega)))
  · pointwise [val_main_v12, val_main_v6, val_main_v5, val_main_v4, val_main_v0]
    exact congrArg x1 (congrArg (ix2 r) (Fin.ext (by simp only [oddAt, highAt]; omega)))

theorem k_split : val_main_v47 (F := Ideal) x1 (ix4 0 r h (evenAt j)) = packed x1 1 r h (lowAt j) ∧
    val_main_v47 (F := Ideal) x1 (ix4 0 r h (oddAt j)) = packed x1 1 r h (highAt j) := by
  constructor
  · pointwise [val_main_v47, val_main_v9, val_main_v8, val_main_v7, val_main_v1]
    exact congrArg x1 (congrArg (ix2 r) (Fin.ext (by simp only [evenAt, lowAt]; omega)))
  · pointwise [val_main_v47, val_main_v9, val_main_v8, val_main_v7, val_main_v1]
    exact congrArg x1 (congrArg (ix2 r) (Fin.ext (by simp only [oddAt, highAt]; omega)))

theorem v_heads (d : Fin 128) : val_main_v82 (F := Ideal) x1 (ix4 0 r h d) = packed x1 2 r h d := by
  pointwise [packed, val_main_v82, val_main_v10, val_main_v2]
  all_goals exact congrArg x1 (congrArg (ix2 r) (Fin.ext (by dsimp only; omega)))

theorem q_halves (d : Fin 128) : shapeCast S1x4096x4x128 (extractStridedSlice S4096x512 ![0, 0] x1 slices_S4096x5376_S4096x512_0_0) shapeCasts_S4096x512_S1x4096x4x128 (ix4 0 r h d) = packed x1 0 r h d := by
  pointwise [packed]

theorem k_halves (d : Fin 128) : shapeCast S1x4096x4x128 (extractStridedSlice S4096x512 ![0, 512] x1 slices_S4096x5376_S4096x512_0_512) shapeCasts_S4096x512_S1x4096x4x128 (ix4 0 r h d) = packed x1 1 r h d := by
  pointwise [packed]
  all_goals exact congrArg x1 (congrArg (ix2 r) (Fin.ext (by dsimp only; omega)))

theorem v_halves (d : Fin 128) : shapeCast S1x4096x4x128 (extractStridedSlice S4096x512 ![0, 1024] x1 slices_S4096x5376_S4096x512_0_1024) shapeCasts_S4096x512_S1x4096x4x128 (ix4 0 r h d) = packed x1 2 r h d := by
  pointwise [packed]
  all_goals exact congrArg x1 (congrArg (ix2 r) (Fin.ext (by dsimp only; omega)))

theorem ang_at : angK (F := Ideal) x2 (ix2 r j) = val_main_v26 (F := Ideal) x2 (ix3 0 r j) := by
  pointwise [angK, val_main_v26, val_main_v24, val_main_v22, val_main_v21, val_main_v13, val_main_v25, val_main_v23]

theorem cosK_at (a : Vec Ideal S4096x64 .f32) : cosK (F := Ideal) a (ix2 r (lowAt j)) = Ideal.cos (a (ix2 r j)) ∧ cosK (F := Ideal) a (ix2 r (highAt j)) = Ideal.cos (a (ix2 r j)) := by
  constructor
  · pointwise [cosK]
    rw [dif_pos (by simp [lowAt])]
    rfl
  · pointwise [cosK]
    rw [dif_neg (by simp [highAt])]
    exact congrArg (fun i => Ideal.cos (a (ix2 r i))) (Fin.ext (by simp [highAt]))

theorem sinK_at (a : Vec Ideal S4096x64 .f32) : sinK (F := Ideal) a (ix2 r (lowAt j)) = -Ideal.sin (a (ix2 r j)) ∧ sinK (F := Ideal) a (ix2 r (highAt j)) = Ideal.sin (a (ix2 r j)) := by
  constructor
  · pointwise [sinK]
    rw [dif_pos (by simp [lowAt])]
    rfl
  · pointwise [sinK]
    rw [dif_neg (by simp [highAt])]
    exact congrArg (fun i => Ideal.sin (a (ix2 r i))) (Fin.ext (by simp [highAt]))

/-- A place is even or odd. -/
theorem even_or_odd (d : Fin 128) : (∃ j, d = evenAt j) ∨ ∃ j, d = oddAt j := by
  rcases Nat.even_or_odd' d.val with ⟨k, e | e⟩
  · exact Or.inl ⟨⟨k, by omega⟩, Fin.ext e⟩
  · exact Or.inr ⟨⟨k, by omega⟩, Fin.ext (by simp only [oddAt]; omega)⟩

variable {x1 x2} {m : (ℓ : Loc nD τ sig) → Buf (Elt Ideal) ℓ} {c : Dev nD}

theorem found_cos (h2 : V m c main_arg2 = x2) : V m c main_v15 (ix2 r (lowAt j)) = val_main_v27 (F := Ideal) x2 (ix3 0 r j) ∧
    V m c main_v15 (ix2 r (highAt j)) = val_main_v27 (F := Ideal) x2 (ix3 0 r j) := by
  rw [found_v15, found_v12, h2]
  refine ⟨(cosK_at r j _).1.trans ?_, (cosK_at r j _).2.trans ?_⟩ <;> rw [ang_at] <;> rfl

theorem found_sin (h2 : V m c main_arg2 = x2) : V m c main_v17 (ix2 r (lowAt j)) = -val_main_v29 (F := Ideal) x2 (ix3 0 r j) ∧
    V m c main_v17 (ix2 r (highAt j)) = val_main_v29 (F := Ideal) x2 (ix3 0 r j) := by
  rw [found_v17, found_v12, h2]
  refine ⟨(sinK_at r j _).1.trans ?_, (sinK_at r j _).2.trans ?_⟩ <;> rw [ang_at] <;> rfl

theorem turn_eq (h2 : V m c main_arg2 = x2) (xk : Vec Ideal S1x4096x4x128 .f32) (xr : Vec Ideal Cert.ReferenceIdeal.S1x4096x4x128 .f32)
    (he : ∀ r h j, xr (ix4 0 r h (evenAt j)) = xk (ix4 0 r h (lowAt j)))
    (ho : ∀ r h j, xr (ix4 0 r h (oddAt j)) = xk (ix4 0 r h (highAt j))) :
    turnK (F := Ideal) xk (V m c main_v15) (V m c main_v17) = turnR (F := Ideal) xr (val_main_v27 (F := Ideal) x2) (val_main_v29 (F := Ideal) x2) := by
  funext i
  obtain ⟨b, r, h, d, rfl⟩ : ∃ b r h d, i = ix4 b r h d := ⟨i 0, i 1, i 2, i 3, (ix4_eta i).symm⟩
  obtain rfl : b = 0 := Fin.eq_zero b
  rcases even_or_odd d with ⟨j, rfl⟩ | ⟨j, rfl⟩
  · rw [(turnK_at _ _ _ r h j).1, (turnR_at _ _ _ r h j).1, he, ho, (found_cos r j h2).1, (found_sin r j h2).2]
  · rw [(turnK_at _ _ _ r h j).2, (turnR_at _ _ _ r h j).2, he, ho, (found_cos r j h2).1, (found_sin r j h2).2]

theorem turned (h1 : V m c main_arg1 = x1) (h2 : V m c main_arg2 = x2) : Turned m c x1 x2 := by
  refine ⟨?_, ?_, ?_⟩
  · rw [found_v40, found_v21, h1, val_v46]
    exact turn_eq h2 _ _ (fun r h j => (q_split x1 r h j).1.trans (q_halves x1 r h _).symm) fun r h j => (q_split x1 r h j).2.trans (q_halves x1 r h _).symm
  · rw [found_v61, found_v42, h1, val_v81, val_v62, val_v64]
    exact turn_eq h2 _ _ (fun r h j => (k_split x1 r h j).1.trans (k_halves x1 r h _).symm) fun r h j => (k_split x1 r h j).2.trans (k_halves x1 r h _).symm
  · rw [found_v19, h1]
    funext i
    obtain ⟨b, r, h, d, rfl⟩ : ∃ b r h d, i = ix4 b r h d := ⟨i 0, i 1, i 2, i 3, (ix4_eta i).symm⟩
    obtain rfl : b = 0 := Fin.eq_zero b
    exact (v_halves x1 r h d).trans (v_heads x1 r h d).symm

end Elements

end Cert.KernelIdeal.Ret
-- ==== Proof.Ret.Heads.lean ====
/- One head's share of the retention gradient's block, as a function of the head's own tiles, and the four heads laid
   side by side. -/
module

public import proofs.«01_k».proof.Proof.Gen.KernelIdeal.Frame
public import Idealize.ShloMosaic.Lib.Pipeline.Value
public import Idealize.ShloMosaic.Lib.Pipeline.ReadBack
public import Idealize.ShloMosaic.Lib.WholeRead
public import Idealize.ShloMosaic.Lib.ValueIdx

@[expose] public section

noncomputable section

namespace Cert.KernelIdeal.Ret

open Cert.KernelIdeal Cert.KernelIdeal.Gen Idealize.ShloMosaic

variable {F : FTy → Type} [FloatOps F]

/-- The gradient arriving at one head's raw retention output. -/
def hDyr (g raw dy : Vec F S128x128 .f32) : FVec F S128x128 .bf16 :=
  k0_pay20 (k0_pay14 raw) (k0_pay15 raw) (k0_pay18 g dy) (k0_pay19 g dy)

/-- One head's gradient of the gate. -/
def hDg (g raw dy : Vec F S128x128 .f32) : FVec F S128x128 .bf16 := k0_pay17 g raw dy

/-- One head's gradient of the query. -/
def hDq (c s k v g dy raw : Vec F S128x128 .f32) (S : Vec F S1x1x128x128 .f32) (dm qd : Vec F S1x128x128 .f32) :
    FVec F S128x128 .bf16 :=
  k0_pay30 (k0_pay3 c) (k0_pay4 s) (k0_pay26 (k0_pay8 c s k) (k0_pay9 v) (k0_pay10 dm) (k0_pay11 qd)
    (k0_pay14 raw) (k0_pay15 raw) (k0_pay18 g dy) (k0_pay19 g dy) S)

/-- One head's gradient of the key, over the state gradient `D` of the later chunks. -/
def hDk (c s q v g dy raw : Vec F S128x128 .f32) (dm kd D : Vec F S1x128x128 .f32) : FVec F S128x128 .bf16 :=
  k0_pay31 (k0_pay3 c) (k0_pay4 s) (k0_pay27 (k0_pay7 c s q) (k0_pay9 v) (k0_pay10 dm)
    (k0_pay14 raw) (k0_pay15 raw) (k0_pay18 g dy) (k0_pay19 g dy)) (k0_pay28 (k0_pay9 v) (k0_pay12 kd) D)

/-- One head's gradient of the value, over the state gradient `D` of the later chunks. -/
def hDv (c s q k g dy raw : Vec F S128x128 .f32) (dm kd D : Vec F S1x128x128 .f32) : FVec F S128x128 .bf16 :=
  k0_pay25 (k0_pay6 c s k) (k0_pay7 c s q) (k0_pay8 c s k) (k0_pay10 dm) (k0_pay12 kd)
    (k0_pay14 raw) (k0_pay15 raw) (k0_pay18 g dy) (k0_pay19 g dy) D

/-- One head's state gradient after this chunk, over the one of the later chunks. -/
def hD (c s q g dy raw : Vec F S128x128 .f32) (qd D : Vec F S1x128x128 .f32) (cd : Vec F S1x1x128 .f32) :
    FVec F S1x128x128 .f32 :=
  k0_pay29 (hDyr g raw dy) (k0_pay21 D) (k0_pay24 (k0_pay5 c s q) (k0_pay11 qd)) cd

/-- Head `h`'s 128 columns. -/
def cols {e : EltTy} (x : Vec F S128x512 e) (h : Fin 4) : Vec F S128x128 e :=
  fun j => x (ValueIdx.ix2 (j 0) ⟨128 * h.val + (j 1).val, by have := h.isLt; have := (j 1).isLt; change _ < 128 at this; change _ < 512; omega⟩)

/-- Head `h`'s plane of a table. -/
def plane (x : Vec F S4x128x128 .f32) (h : Fin 4) : Vec F S1x128x128 .f32 := fun j => x (ValueIdx.ix3 h (j 1) (j 2))

/-- Head `h`'s plane of the saved states' block. -/
def plane4 (x : Vec F S4x1x128x128 .f32) (h : Fin 4) : Vec F S1x1x128x128 .f32 :=
  fun j => x (ValueIdx.ix4 h (j 1) (j 2) (j 3))

/-- Head `h`'s first row of the chunk decay table. -/
def row0 (x : Vec F S4x8x128 .f32) (h : Fin 4) : Vec F S1x1x128 .f32 := fun j => x (ValueIdx.ix3 h 0 (j 2))

/-- Four heads' tiles side by side. -/
def beside {e : EltTy} (f : Fin 4 → Vec F S128x128 e) : Vec F S128x512 e :=
  fun y => f ⟨(y 1).val / 128, by have := (y 1).isLt; change _ < 512 at this; omega⟩
    (ValueIdx.ix2 (y 0) ⟨(y 1).val % 128, by change _ < 128; omega⟩)

/-- Four heads' planes stacked. -/
def stacked (f : Fin 4 → Vec F S1x128x128 .f32) : Vec F S4x128x128 .f32 := fun y => f (y 0) (ValueIdx.ix3 0 (y 1) (y 2))

theorem beside_emb {e : EltTy} (f : Fin 4 → Vec F S128x128 e) (h : Fin 4) (o : ℕ) (ho : o = 128 * h.val)
    (inb : ∀ a, (![0, o] : Fin 2 → ℕ) a + (![128, 128] : Fin 2 → ℕ) a ≤ S128x512.size a)
    (x : (Rect.unit (s := S128x512) ![0, o] ![128, 128] inb).shape.Idx) :
    beside f ((Rect.unit (s := S128x512) ![0, o] ![128, 128] inb).emb x) = f h x := by
  subst ho
  have h0 : (x 0).val < 128 := (x 0).isLt
  have h1 : (x 1).val < 128 := (x 1).isLt
  have e1 : (((Rect.unit (s := S128x512) ![0, 128 * h.val] ![128, 128] inb).emb x) 1).val = 128 * h.val + 1 * (x 1).val := rfl
  have e0 : (((Rect.unit (s := S128x512) ![0, 128 * h.val] ![128, 128] inb).emb x) 0).val = 0 + 1 * (x 0).val := rfl
  unfold beside
  have hh : (⟨(((Rect.unit (s := S128x512) ![0, 128 * h.val] ![128, 128] inb).emb x) 1).val / 128, by rw [e1]; have := h.isLt; omega⟩ : Fin 4) = h :=
    Fin.ext (by show (((Rect.unit (s := S128x512) ![0, 128 * h.val] ![128, 128] inb).emb x) 1).val / 128 = h.val; rw [e1]; omega)
  rw [hh]
  congr 1
  funext a
  match a with
  | ⟨0, _⟩ => exact Fin.ext (by show 0 + 1 * (x 0).val = (x 0).val; omega)
  | ⟨1, _⟩ => exact Fin.ext (by show (128 * h.val + 1 * (x 1).val) % 128 = (x 1).val; omega)

theorem stacked_emb (f : Fin 4 → Vec F S1x128x128 .f32) (h : Fin 4) (o : ℕ) (ho : o = h.val)
    (inb : ∀ a, (![o, 0, 0] : Fin 3 → ℕ) a + (![1, 128, 128] : Fin 3 → ℕ) a ≤ S4x128x128.size a)
    (x : (Rect.unit (s := S4x128x128) ![o, 0, 0] ![1, 128, 128] inb).shape.Idx) :
    stacked f ((Rect.unit (s := S4x128x128) ![o, 0, 0] ![1, 128, 128] inb).emb x) = f h x := by
  subst ho
  have h0 : (x 0).val < 1 := (x 0).isLt
  unfold stacked
  have hh : (((Rect.unit (s := S4x128x128) ![h.val, 0, 0] ![1, 128, 128] inb).emb x) 0 : Fin 4) = h :=
    Fin.ext (by show h.val + 1 * (x 0).val = h.val; omega)
  rw [show (((Rect.unit (s := S4x128x128) ![h.val, 0, 0] ![1, 128, 128] inb).emb x) 0) = h from hh]
  congr 1
  funext a
  match a with
  | ⟨0, _⟩ => exact Fin.ext (by show 0 = (x 0).val; omega)
  | ⟨1, _⟩ => exact Fin.ext (by show 0 + 1 * (x 1).val = (x 1).val; omega)
  | ⟨2, _⟩ => exact Fin.ext (by show 0 + 1 * (x 2).val = (x 2).val; omega)

theorem load_cols (m : Memref sig .tc .vmem S128x512 .f32) (hm : m.IsWhole) (x : Vec F S128x512 .f32) (h : Fin 4) (o : ℕ)
    (ho : o = 128 * h.val) (inb : ∀ a, (![0, o] : Fin 2 → ℕ) a + (![128, 128] : Fin 2 → ℕ) a ≤ S128x512.size a) :
    View.readAt (Elt F) m.view (Rect.unit (s := S128x512) ![0, o] ![128, 128] inb).toLoadRect (hm.unread x) = cols x h := by
  subst ho
  funext j
  refine (hm.readAt_unread x _ j).trans (congrArg x ?_)
  funext a
  match a with
  | ⟨0, _⟩ => exact Fin.ext (by show 0 + 1 * (j 0).val = (j 0).val; omega)
  | ⟨1, _⟩ => exact Fin.ext (by show 128 * h.val + 1 * (j 1).val = 128 * h.val + (j 1).val; rw [Nat.one_mul])

theorem load_tile (m : Memref sig .tc .vmem S128x128 .f32) (hm : m.IsWhole) (x : Vec F S128x128 .f32)
    (inb : ∀ a, (![0, 0] : Fin 2 → ℕ) a + (![128, 128] : Fin 2 → ℕ) a ≤ S128x128.size a) :
    View.readAt (Elt F) m.view (Rect.unit (s := S128x128) ![0, 0] ![128, 128] inb).toLoadRect (hm.unread x) = x := by
  funext j
  refine (hm.readAt_unread x _ j).trans (congrArg x ?_)
  funext a
  match a with
  | ⟨0, _⟩ => exact Fin.ext (by show 0 + 1 * (j 0).val = (j 0).val; omega)
  | ⟨1, _⟩ => exact Fin.ext (by show 0 + 1 * (j 1).val = (j 1).val; omega)

theorem load_plane (m : Memref sig .tc .vmem S4x128x128 .f32) (hm : m.IsWhole) (x : Vec F S4x128x128 .f32) (h : Fin 4) (o : ℕ)
    (ho : o = h.val) (inb : ∀ a, (![o, 0, 0] : Fin 3 → ℕ) a + (![1, 128, 128] : Fin 3 → ℕ) a ≤ S4x128x128.size a) :
    View.readAt (Elt F) m.view (Rect.unit (s := S4x128x128) ![o, 0, 0] ![1, 128, 128] inb).toLoadRect (hm.unread x) = plane x h := by
  subst ho
  funext j
  have h0 : (j 0).val < 1 := (j 0).isLt
  refine (hm.readAt_unread x _ j).trans (congrArg x ?_)
  funext a
  match a with
  | ⟨0, _⟩ => exact Fin.ext (by show h.val + 1 * (j 0).val = h.val; omega)
  | ⟨1, _⟩ => exact Fin.ext (by show 0 + 1 * (j 1).val = (j 1).val; omega)
  | ⟨2, _⟩ => exact Fin.ext (by show 0 + 1 * (j 2).val = (j 2).val; omega)

theorem load_plane4 (m : Memref sig .tc .vmem S4x1x128x128 .f32) (hm : m.IsWhole) (x : Vec F S4x1x128x128 .f32) (h : Fin 4) (o : ℕ)
    (ho : o = h.val) (inb : ∀ a, (![o, 0, 0, 0] : Fin 4 → ℕ) a + (![1, 1, 128, 128] : Fin 4 → ℕ) a ≤ S4x1x128x128.size a) :
    View.readAt (Elt F) m.view (Rect.unit (s := S4x1x128x128) ![o, 0, 0, 0] ![1, 1, 128, 128] inb).toLoadRect (hm.unread x) = plane4 x h := by
  subst ho
  funext j
  have h0 : (j 0).val < 1 := (j 0).isLt
  refine (hm.readAt_unread x _ j).trans (congrArg x ?_)
  funext a
  match a with
  | ⟨0, _⟩ => exact Fin.ext (by show h.val + 1 * (j 0).val = h.val; omega)
  | ⟨1, _⟩ => exact Fin.ext (by show 0 + 1 * (j 1).val = (j 1).val; omega)
  | ⟨2, _⟩ => exact Fin.ext (by show 0 + 1 * (j 2).val = (j 2).val; omega)
  | ⟨3, _⟩ => exact Fin.ext (by show 0 + 1 * (j 3).val = (j 3).val; omega)

theorem load_row0 (m : Memref sig .tc .vmem S4x8x128 .f32) (hm : m.IsWhole) (x : Vec F S4x8x128 .f32) (h : Fin 4) (o : ℕ)
    (ho : o = h.val) (inb : ∀ a, (![o, 0, 0] : Fin 3 → ℕ) a + (![1, 1, 128] : Fin 3 → ℕ) a ≤ S4x8x128.size a) :
    View.readAt (Elt F) m.view (Rect.unit (s := S4x8x128) ![o, 0, 0] ![1, 1, 128] inb).toLoadRect (hm.unread x) = row0 x h := by
  subst ho
  funext j
  have h0 : (j 0).val < 1 := (j 0).isLt
  have h1 : (j 1).val < 1 := (j 1).isLt
  refine (hm.readAt_unread x _ j).trans (congrArg x ?_)
  funext a
  match a with
  | ⟨0, _⟩ => exact Fin.ext (by show h.val + 1 * (j 0).val = h.val; omega)
  | ⟨1, _⟩ => exact Fin.ext (by show 0 + 1 * (j 1).val = 0; omega)
  | ⟨2, _⟩ => exact Fin.ext (by show 0 + 1 * (j 2).val = (j 2).val; omega)

/-- A stored tile that is head `h`'s is a block of the four side by side. -/
theorem tile_beside {e : EltTy} (f : Fin 4 → Vec F S128x128 e) (h : Fin 4) (o : ℕ) (ho : o = 128 * h.val)
    (inb : ∀ a, (![0, o] : Fin 2 → ℕ) a + (![128, 128] : Fin 2 → ℕ) a ≤ S128x512.size a) (p : Vec F S128x128 e) (hp : p = f h) :
    ∀ x : (Rect.unit (s := S128x512) ![0, o] ![128, 128] inb).shape.Idx,
      p x = beside f ((Rect.unit (s := S128x512) ![0, o] ![128, 128] inb).emb x) :=
  fun x => (congrFun hp x).trans (beside_emb f h o ho inb x).symm

/-- A stored plane that is head `h`'s is a block of the four stacked. -/
theorem plane_stacked (f : Fin 4 → Vec F S1x128x128 .f32) (h : Fin 4) (o : ℕ) (ho : o = h.val)
    (inb : ∀ a, (![o, 0, 0] : Fin 3 → ℕ) a + (![1, 128, 128] : Fin 3 → ℕ) a ≤ S4x128x128.size a) (p : Vec F S1x128x128 .f32)
    (hp : p = f h) :
    ∀ x : (Rect.unit (s := S4x128x128) ![o, 0, 0] ![1, 128, 128] inb).shape.Idx,
      p x = stacked f ((Rect.unit (s := S4x128x128) ![o, 0, 0] ![1, 128, 128] inb).emb x) :=
  fun x => (congrFun hp x).trans (stacked_emb f h o ho inb x).symm

end Cert.KernelIdeal.Ret

end
-- ==== Proof.Ret.Element.lean ====
/- The head functions of the retention gradient read at an element, over the places of the reference's order. -/
module

public import proofs.«01_k».proof.Proof.Ret.Turned
public import proofs.«01_k».proof.Proof.Ret.Heads

@[expose] public section

set_option maxRecDepth 16384

noncomputable section

namespace Cert.KernelIdeal.Ret

open Cert.KernelIdeal Cert.KernelIdeal.Gen Idealize.ShloMosaic Idealize.ShloMosaic.TcCoe Idealize.ShloMosaic.Tactic

theorem low_or_high (p : Fin 128) : (∃ j, p = lowAt j) ∨ ∃ j, p = highAt j := by
  by_cases h : p.val < 64
  · exact Or.inl ⟨⟨p.val, h⟩, rfl⟩
  · exact Or.inr ⟨⟨p.val - 64, by omega⟩, Fin.ext (by simp only [highAt]; omega)⟩

/-- The reference's place of the kernel's place: the halves are the even and the odd places. -/
def place : Fin 128 ≃ Fin 128 where
  toFun p := ⟨if p.val < 64 then 2 * p.val else 1 + 2 * (p.val - 64), by split <;> omega⟩
  invFun d := ⟨if d.val % 2 = 0 then d.val / 2 else 64 + d.val / 2, by split <;> omega⟩
  left_inv p := Fin.ext (by dsimp only; split <;> split <;> omega)
  right_inv d := Fin.ext (by dsimp only; split <;> split <;> omega)

theorem place_low (j : Fin 64) : place (lowAt j) = evenAt j :=
  Fin.ext (by have := j.isLt; simp only [place, lowAt, evenAt, Equiv.coe_fn_mk]; split <;> omega)

theorem place_high (j : Fin 64) : place (highAt j) = oddAt j :=
  Fin.ext (by have := j.isLt; simp only [place, highAt, oddAt, Equiv.coe_fn_mk]; split <;> omega)

/-- A sum over the kernel's places is the sum over the reference's. -/
theorem sum_place (f : Fin 128 → EReal) : ∑ p, f (place p) = ∑ d, f d := Equiv.sum_comp place f

theorem other_low (j : Fin 64) (h : ((lowAt j).val + 128 - 64) % 128 < 128) : (⟨((lowAt j).val + 128 - 64) % 128, h⟩ : Fin 128) = highAt j :=
  Fin.ext (by have := j.isLt; simp only [lowAt, highAt]; omega)

theorem other_high (j : Fin 64) (h : ((highAt j).val + 128 - 64) % 128 < 128) : (⟨((highAt j).val + 128 - 64) % 128, h⟩ : Fin 128) = lowAt j :=
  Fin.ext (by have := j.isLt; simp only [lowAt, highAt]; omega)

/-- The scale of the keys. -/
def keyScale : EReal := Ideal.ofBits FTy.f32 1035273459#32

variable (c s q k v g dy raw : Vec Ideal S128x128 .f32) (S : Vec Ideal S1x1x128x128 .f32) (dm kd qd D : Vec Ideal S1x128x128 .f32) (cd : Vec Ideal S1x1x128 .f32) (i d : Fin 128) (j : Fin 64)

theorem pay3_at : k0_pay3 (F := Ideal) c (ix2 i d) = c (ix2 i d) := by
  pointwise [k0_pay3]

theorem pay4_at : k0_pay4 (F := Ideal) s (ix2 i d) = s (ix2 i d) := by
  pointwise [k0_pay4]

theorem pay9_at : k0_pay9 (F := Ideal) v (ix2 i d) = v (ix2 i d) := by
  pointwise [k0_pay9]

theorem pay10_at : k0_pay10 (F := Ideal) dm (ix2 i d) = dm (ix3 0 i d) := by
  pointwise [k0_pay10]

theorem pay11_at : k0_pay11 (F := Ideal) qd (ix2 i d) = qd (ix3 0 i d) := by
  pointwise [k0_pay11]

theorem pay12_at : k0_pay12 (F := Ideal) kd (ix2 i d) = kd (ix3 0 i d) := by
  pointwise [k0_pay12]

theorem pay22_at : k0_pay22 (F := Ideal) D (ix2 i d) = D (ix3 0 i d) := by
  pointwise [k0_pay22, k0_pay21]

/-- The gradient of the scores before the decay mask's product is taken up. -/
theorem pay23_at : k0_pay23 (F := Ideal) (k0_pay9 v) (k0_pay10 dm) (k0_pay14 raw) (k0_pay15 raw) (k0_pay18 g dy) (k0_pay19 g dy) (ix2 i d) =
    (∑ e, hDyr (F := Ideal) g raw dy (ix2 i e) * v (ix2 d e)) * dm (ix3 0 i d) := by
  pointwise [k0_pay23]
  simp only [pay9_at, pay10_at]
  rfl

theorem dyr_fold : k0_pay20 (F := Ideal) (k0_pay14 raw) (k0_pay15 raw) (k0_pay18 g dy) (k0_pay19 g dy) = hDyr (F := Ideal) g raw dy := rfl

theorem pay5_low : k0_pay5 (F := Ideal) c s q (ix2 i (lowAt j)) = q (ix2 i (lowAt j)) * c (ix2 i (lowAt j)) + q (ix2 i (highAt j)) * s (ix2 i (lowAt j)) := by
  pointwise [k0_pay5]
  simp only [other_low, pay3_at, pay4_at]
  try rfl

theorem pay5_high : k0_pay5 (F := Ideal) c s q (ix2 i (highAt j)) = q (ix2 i (highAt j)) * c (ix2 i (highAt j)) + q (ix2 i (lowAt j)) * s (ix2 i (highAt j)) := by
  pointwise [k0_pay5]
  simp only [other_high, pay3_at, pay4_at]
  try rfl

theorem pay6_low : k0_pay6 (F := Ideal) c s k (ix2 i (lowAt j)) = (k (ix2 i (lowAt j)) * c (ix2 i (lowAt j)) + k (ix2 i (highAt j)) * s (ix2 i (lowAt j))) * keyScale := by
  pointwise [k0_pay6]
  simp only [other_low, pay3_at, pay4_at]
  try rfl

theorem pay6_high : k0_pay6 (F := Ideal) c s k (ix2 i (highAt j)) = (k (ix2 i (highAt j)) * c (ix2 i (highAt j)) + k (ix2 i (lowAt j)) * s (ix2 i (highAt j))) * keyScale := by
  pointwise [k0_pay6]
  simp only [other_high, pay3_at, pay4_at]
  try rfl

theorem pay7_at : k0_pay7 (F := Ideal) c s q (ix2 i d) = k0_pay5 (F := Ideal) c s q (ix2 i d) := by
  pointwise [k0_pay7]

theorem pay8_at : k0_pay8 (F := Ideal) c s k (ix2 i d) = k0_pay6 (F := Ideal) c s k (ix2 i d) := by
  pointwise [k0_pay8]

section Heads

variable {c s q k v g dy raw S dm kd qd D cd}
variable {Q K V M R G P : Fin 128 → Fin 128 → EReal} {KD QD : Fin 128 → EReal} {CD : EReal}
variable (hq : ∀ i p, k0_pay5 (F := Ideal) c s q (ix2 i p) = Q i (place p)) (hk : ∀ i p, k0_pay6 (F := Ideal) c s k (ix2 i p) = K i (place p))
  (hv : ∀ i e, v (ix2 i e) = V i e) (hm : ∀ i x, dm (ix3 0 i x) = M i x) (hkd : ∀ i p, kd (ix3 0 i p) = KD i) (hqd : ∀ i p, qd (ix3 0 i p) = QD i)
  (hcd : ∀ p, cd (ix3 0 0 p) = CD) (hG : ∀ p e, D (ix3 0 p e) = G (place p) e) (hS : ∀ p e, S (ix4 0 0 p e) = P (place p) e)
  (hr : ∀ i e, hDyr (F := Ideal) g raw dy (ix2 i e) = R i e)

/-- The gradient of the turned query. -/
def gradQ (K V M R P : Fin 128 → Fin 128 → EReal) (QD : Fin 128 → EReal) (i d : Fin 128) : EReal :=
  (∑ x, (∑ e, R i e * V x e) * M i x * K x d) + (∑ e, R i e * P d e) * QD i

/-- The gradient of the turned and scaled key. -/
def gradK (Q V M R G : Fin 128 → Fin 128 → EReal) (KD : Fin 128 → EReal) (i d : Fin 128) : EReal :=
  (∑ x, (∑ e, R x e * V i e) * M x i * Q x d) + (∑ e, V i e * G d e) * KD i

/-- The gradient of the value. -/
def gradV (Q K M R G : Fin 128 → Fin 128 → EReal) (KD : Fin 128 → EReal) (i d : Fin 128) : EReal :=
  (∑ x, (∑ e, Q x e * K i e) * M x i * R x d) + ∑ e, K i e * KD i * G e d

include hq hk hm hkd hG hr in
/-- The value gradient of a head. -/
theorem dv_head : hDv (F := Ideal) c s q k g dy raw dm kd D (ix2 i d) = gradV Q K M R G KD i d := by
  pointwise [hDv, k0_pay25]
  simp only [dyr_fold, pay7_at, pay8_at, pay10_at, pay12_at, pay22_at, hq, hk, hm, hkd, hG, hr]
  unfold gradV
  refine congrArg₂ (· + ·) (Finset.sum_congr rfl fun x _ => ?_) (sum_place fun e => K i e * KD i * G e d)
  rw [sum_place fun e => Q x e * K i e]

include hk hv hm hqd hS hr in
theorem dq_low : hDq (F := Ideal) c s k v g dy raw S dm qd (ix2 i (lowAt j)) =
    gradQ K V M R P QD i (evenAt j) * c (ix2 i (lowAt j)) + gradQ K V M R P QD i (oddAt j) * s (ix2 i (highAt j)) := by
  unfold hDq k0_pay26
  pointwise [k0_pay30]
  simp only [other_low, dyr_fold, pay3_at, pay4_at, pay8_at, pay11_at, pay23_at, hk, hv, hm, hqd, hS, hr, place_low, place_high]
  rfl

include hk hv hm hqd hS hr in
theorem dq_high : hDq (F := Ideal) c s k v g dy raw S dm qd (ix2 i (highAt j)) =
    gradQ K V M R P QD i (oddAt j) * c (ix2 i (highAt j)) + gradQ K V M R P QD i (evenAt j) * s (ix2 i (lowAt j)) := by
  unfold hDq k0_pay26
  pointwise [k0_pay30]
  simp only [other_high, dyr_fold, pay3_at, pay4_at, pay8_at, pay11_at, pay23_at, hk, hv, hm, hqd, hS, hr, place_low, place_high]
  rfl

include hq hv hm hkd hG hr in
theorem dk_low : hDk (F := Ideal) c s q v g dy raw dm kd D (ix2 i (lowAt j)) =
    (gradK Q V M R G KD i (evenAt j) * c (ix2 i (lowAt j)) + gradK Q V M R G KD i (oddAt j) * s (ix2 i (highAt j))) * keyScale := by
  pointwise [hDk, k0_pay27, k0_pay28, k0_pay31]
  simp only [other_low, pay3_at, pay4_at, pay7_at, pay9_at, pay12_at, pay22_at, pay23_at, hq, hv, hm, hkd, hG, hr, place_low, place_high]
  rfl

include hq hv hm hkd hG hr in
theorem dk_high : hDk (F := Ideal) c s q v g dy raw dm kd D (ix2 i (highAt j)) =
    (gradK Q V M R G KD i (oddAt j) * c (ix2 i (highAt j)) + gradK Q V M R G KD i (evenAt j) * s (ix2 i (lowAt j))) * keyScale := by
  pointwise [hDk, k0_pay27, k0_pay28, k0_pay31]
  simp only [other_high, pay3_at, pay4_at, pay7_at, pay9_at, pay12_at, pay22_at, pay23_at, hq, hv, hm, hkd, hG, hr, place_low, place_high]
  rfl

include hq hqd hG hcd hr in
/-- The state gradient a head hands to the chunk before. -/
theorem dD_head : hD (F := Ideal) c s q g dy raw qd D cd (ix3 0 i d) = CD * G (place i) d + ∑ x, Q x (place i) * QD x * R x d := by
  pointwise [hD, k0_pay29, k0_pay24, k0_pay21]
  simp only [pay11_at, hq, hqd, hG, hcd, hr]

end Heads

/-- The logistic function of the gate. -/
def gate (x : EReal) : EReal := Ideal.div 1 (1 + Ideal.exp (0 - x))

/-- The mean of a row. -/
def mean (a : Fin 128 → EReal) : EReal := Ideal.div (∑ x, a x) (Ideal.ofBits FTy.f32 1124073472#32)

/-- The reciprocal of a row's deviation. -/
def recip (a : Fin 128 → EReal) : EReal :=
  Ideal.rsqrt (mean (fun x => (a x - mean a) * (a x - mean a)) + Ideal.ofBits FTy.f32 897988541#32)

theorem dg_head : hDg (F := Ideal) g raw dy (ix2 i d) =
    dy (ix2 i d) * ((raw (ix2 i d) - mean fun x => raw (ix2 i x)) * recip fun x => raw (ix2 i x)) *
      (gate (g (ix2 i d)) * (1 + g (ix2 i d) * (1 - gate (g (ix2 i d))))) := by
  pointwise [hDg, k0_pay17, k0_pay15, k0_pay16, k0_pay14, k0_pay13]
  rfl

/-- The gradient arriving at a row of the raw output, of the gradient `n` at its normalised row. -/
def rowGrad (a n : Fin 128 → EReal) (d : Fin 128) : EReal :=
  recip a * (n d - mean n - (a d - mean a) * recip a * mean fun x => n x * ((a x - mean a) * recip a))

theorem dyr_head : hDyr (F := Ideal) g raw dy (ix2 i d) =
    rowGrad (fun x => raw (ix2 i x)) (fun x => dy (ix2 i x) * (g (ix2 i x) * gate (g (ix2 i x)))) d := by
  pointwise [hDyr, k0_pay20, k0_pay19, k0_pay18, k0_pay17, k0_pay15, k0_pay16, k0_pay14, k0_pay13]
  rfl

end Cert.KernelIdeal.Ret
-- ==== Proof.Ret.Norm.lean ====
/- The gradient of the row normalisation, the kernel's one line against the lines of the reference, on real rows. -/
module

public import proofs.«01_k».proof.Proof.Ret.Element

@[expose] public section

noncomputable section

namespace Cert.KernelIdeal.Ret

open Idealize.ShloMosaic

/-- A family of extended reals that are all real. -/
def Reals {ι : Type*} (f : ι → EReal) : Prop := ∀ i, ∃ r : ℝ, f i = (r : EReal)

theorem Reals.lift {ι : Type*} {f : ι → EReal} (h : Reals f) : ∃ a : ι → ℝ, f = fun i => (a i : EReal) :=
  ⟨fun i => (h i).choose, funext fun i => (h i).choose_spec⟩

theorem width_eq : Ideal.ofBits FTy.f32 1124073472#32 = ((128 : ℝ) : EReal) := by
  simp [Ideal.ofBits, Ideal.ieee, -EReal.coe_mul]
  norm_num

theorem two_eq : Ideal.ofBits FTy.f32 1073741824#32 = ((2 : ℝ) : EReal) := by
  simp [Ideal.ofBits, Ideal.ieee, -EReal.coe_mul]
  norm_num

theorem negHalf_eq : Ideal.ofBits FTy.f32 3204448256#32 = ((-(1 / 2) : ℝ) : EReal) := by
  simp [Ideal.ofBits, Ideal.ieee, -EReal.coe_mul, -EReal.coe_neg]
  norm_num

/-- The small number added to the variance. -/
def small : ℝ := 8796093 / 2 ^ 43

theorem small_pos : 0 < small := by
  unfold small
  norm_num

theorem small_eq : Ideal.ofBits FTy.f32 897988541#32 = (small : EReal) := by
  unfold small
  simp [Ideal.ofBits, Ideal.ieee, -EReal.coe_mul]
  norm_num

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem sum_coe {ι : Type*} (t : Finset ι) (a : ι → ℝ) : ∑ x ∈ t, (a x : EReal) = ((∑ x ∈ t, a x : ℝ) : EReal) :=
  (map_sum (⟨⟨Real.toEReal, rfl⟩, EReal.coe_add⟩ : ℝ →+ EReal) a t).symm

theorem one_coe : (1 : EReal) = ((1 : ℝ) : EReal) := rfl

theorem mean_coe (a : Fin 128 → ℝ) : mean (fun x => (a x : EReal)) = ((∑ x, a x) / 128 : ℝ) := by
  unfold mean
  rw [sum_coe, width_eq, div_coe _ _ (by norm_num)]

/-- A real row's variance with the small number added. -/
def spread (a : Fin 128 → ℝ) : ℝ := (∑ x, (a x - (∑ x, a x) / 128) * (a x - (∑ x, a x) / 128)) / 128 + small

theorem spread_pos (a : Fin 128 → ℝ) : 0 < spread a :=
  add_pos_of_nonneg_of_pos (div_nonneg (Finset.sum_nonneg fun _ _ => mul_self_nonneg _) (by norm_num)) small_pos

theorem spread_coe (a : Fin 128 → ℝ) : mean (fun x => ((a x : EReal) - mean fun x => (a x : EReal)) * ((a x : EReal) - mean fun x => (a x : EReal))) +
    Ideal.ofBits FTy.f32 897988541#32 = (spread a : EReal) := by
  rw [mean_coe, small_eq]
  simp only [← EReal.coe_sub, ← EReal.coe_mul]
  rw [mean_coe, ← EReal.coe_add]
  rfl

theorem recip_coe (a : Fin 128 → ℝ) : recip (fun x => (a x : EReal)) = (((Real.sqrt (spread a))⁻¹ : ℝ) : EReal) := by
  unfold recip
  rw [spread_coe, Ideal.rsqrt_coe, if_neg (not_lt.mpr (spread_pos a).le), if_neg (spread_pos a).ne']

theorem gate_coe (x : ℝ) : gate (x : EReal) = ((1 / (1 + Real.exp (-x)) : ℝ) : EReal) := by
  unfold gate
  rw [zero_sub, ← EReal.coe_neg, Ideal.exp_coe, one_coe, ← EReal.coe_add, div_coe _ _ (by positivity)]

/-- The product of the row's deviations and the gradient, as the reference weighs it at a place. -/
def rowPull (a n : Fin 128 → EReal) (d : Fin 128) : EReal :=
  Ideal.div ((∑ x, (a x - mean a) * n x) * (Ideal.ofBits FTy.f32 3204448256#32 * Ideal.div (recip a)
    (mean (fun x => (a x - mean a) * (a x - mean a)) + Ideal.ofBits FTy.f32 897988541#32))) (Ideal.ofBits FTy.f32 1124073472#32) *
    (Ideal.ofBits FTy.f32 1073741824#32 * (a d - mean a))

/-- The reference's gradient at a row of the raw output. -/
def rowGradR (a n : Fin 128 → EReal) (d : Fin 128) : EReal :=
  n d * recip a + rowPull a n d + Ideal.div ((∑ x, -(n x * recip a)) + ∑ x, -rowPull a n x) (Ideal.ofBits FTy.f32 1124073472#32)

theorem rowPull_coe (a n : Fin 128 → ℝ) (d : Fin 128) : rowPull (fun x => (a x : EReal)) (fun x => (n x : EReal)) d =
    (((∑ x, (a x - (∑ x, a x) / 128) * n x) * (-(1 / 2) * ((Real.sqrt (spread a))⁻¹ / spread a)) / 128 * (2 * (a d - (∑ x, a x) / 128)) : ℝ) : EReal) := by
  unfold rowPull
  rw [spread_coe, recip_coe, mean_coe, width_eq, two_eq, negHalf_eq, div_coe _ _ (spread_pos a).ne']
  simp only [← EReal.coe_sub, ← EReal.coe_mul]
  rw [sum_coe, ← EReal.coe_mul, div_coe _ _ (by norm_num), ← EReal.coe_mul]

theorem deviations (a : Fin 128 → ℝ) : ∑ x, (a x - (∑ x, a x) / 128) = 0 := by
  rw [Finset.sum_sub_distrib, Finset.sum_const, Finset.card_univ, Fintype.card_fin]
  simp only [nsmul_eq_mul]
  push_cast
  ring

/-- On real rows the kernel's gradient is the reference's. -/
theorem rowGrad_eq (a n : Fin 128 → EReal) (ha : Reals a) (hn : Reals n) (d : Fin 128) : rowGrad a n d = rowGradR a n d := by
  obtain ⟨a, rfl⟩ := ha.lift
  obtain ⟨n, rfl⟩ := hn.lift
  unfold rowGrad rowGradR
  simp only [rowPull_coe, recip_coe]
  rw [mean_coe, mean_coe, width_eq]
  simp only [← EReal.coe_sub, ← EReal.coe_mul, ← EReal.coe_neg, sum_coe]
  rw [mean_coe, ← EReal.coe_add, ← EReal.coe_add, div_coe _ _ (by norm_num)]
  simp only [← EReal.coe_sub, ← EReal.coe_mul, ← EReal.coe_add]
  refine congrArg _ ?_
  have hw := spread_pos a
  have hs : (Real.sqrt (spread a))⁻¹ * (Real.sqrt (spread a))⁻¹ = (spread a)⁻¹ := by
    rw [← mul_inv, Real.mul_self_sqrt hw.le]
  have hz := deviations a
  have e1 : ∀ r : ℝ, ∑ x, n x * ((a x - (∑ x, a x) / 128) * r) = r * ∑ x, (a x - (∑ x, a x) / 128) * n x := by
    intro r
    rw [Finset.mul_sum]
    exact Finset.sum_congr rfl fun x _ => by ring
  have e2 : ∀ r : ℝ, ∑ x, -(n x * r) = -(r * ∑ x, n x) := by
    intro r
    rw [Finset.sum_neg_distrib, Finset.mul_sum]
    exact congrArg _ (Finset.sum_congr rfl fun x _ => by ring)
  have e3 : ∀ p : ℝ, ∑ x, -(p * (2 * (a x - (∑ x, a x) / 128))) = 0 := by
    intro p
    rw [Finset.sum_neg_distrib, ← Finset.mul_sum, ← Finset.mul_sum, hz]
    ring
  rw [e1, e2, e3]
  generalize (∑ x, a x) / 128 = u at *
  generalize (∑ x, (a x - u) * n x) = p at *
  generalize ∑ x, n x = t at *
  generalize (Real.sqrt (spread a))⁻¹ = r at *
  rw [div_eq_mul_inv r, ← hs]
  ring

end Cert.KernelIdeal.Ret
-- ==== Proof.Ret.Rows.lean ====
/- Rows and columns by chunk and head, and the reference's values at a chunk and head. -/
module

public import proofs.«01_k».proof.Proof.Ret.Norm

@[expose] public section

set_option maxRecDepth 65536

noncomputable section

namespace Cert.KernelIdeal.Ret

open Idealize.ShloMosaic Idealize.ShloMosaic.TcCoe Idealize.ShloMosaic.Tactic
open Cert.ReferenceIdeal.Read

/-- Row `i` of chunk `n`. -/
def row (n : Fin 32) (i : Fin 128) : Fin 4096 := ⟨n.val * 128 + i.val, by omega⟩

/-- Column `d` of head `h`. -/
def col (h : Fin 4) (d : Fin 128) : Fin 512 := ⟨h.val * 128 + d.val, by omega⟩

variable (x0 : Vec Ideal Cert.ReferenceIdeal.S4096x512 .f32) (x1 : Vec Ideal Cert.ReferenceIdeal.S4096x5376 .f32) (x2 : Vec Ideal Cert.ReferenceIdeal.S4096 .i32)
variable (h : Fin 4) (n : Fin 32) (r : Fin 4096) (i d : Fin 128) (j : Fin 64)

def rQ (i d : Fin 128) : EReal := val_main_v84 (F := Ideal) x1 x2 (ix5 0 h n i d)
def rK (i d : Fin 128) : EReal := val_main_v88 (F := Ideal) x1 x2 (ix5 0 h n i d)
def rV (i d : Fin 128) : EReal := val_main_v90 (F := Ideal) x1 (ix5 0 h n i d)
def rM (i x : Fin 128) : EReal := val_main_v115 (F := Ideal) (ix3 h i x)
def rKD (i : Fin 128) : EReal := val_main_v128 (F := Ideal) (ix2 h i)
def rQD (i : Fin 128) : EReal := val_main_v344 (F := Ideal) (ix2 h i)
def rP (d e : Fin 128) : EReal := val_main_v336 (F := Ideal) x1 x2 (ix5 n 0 h d e)
def rR (i e : Fin 128) : EReal := val_main_v411 (F := Ideal) x0 x1 x2 (ix5 0 h n i e)
def rG (d e : Fin 128) : EReal := val_main_v616 (F := Ideal) x0 x1 x2 (ix5 n 0 h d e)

end Cert.KernelIdeal.Ret
-- ==== Proof.Ret.BackTurn.lean ====
/- The results of the reference, from the gradients of the turned query and key and of the value. -/
module

public import proofs.«01_k».proof.Proof.Ret.Rows

@[expose] public section

set_option maxRecDepth 65536

noncomputable section

namespace Cert.KernelIdeal.Ret

open Idealize.ShloMosaic Idealize.ShloMosaic.TcCoe Idealize.ShloMosaic.Tactic
open Cert.ReferenceIdeal.Read

variable (x0 : Vec Ideal Cert.ReferenceIdeal.S4096x512 .f32) (x1 : Vec Ideal Cert.ReferenceIdeal.S4096x5376 .f32) (x2 : Vec Ideal Cert.ReferenceIdeal.S4096 .i32)
variable (h : Fin 4) (n : Fin 32) (r : Fin 4096) (i d : Fin 128) (j : Fin 64)

/-- The cosine and the sine of the reference at a row and a pair. -/
def rCos (r : Fin 4096) (j : Fin 64) : EReal := val_main_v27 (F := Ideal) x2 (ix3 0 r j)
def rSin (r : Fin 4096) (j : Fin 64) : EReal := val_main_v29 (F := Ideal) x2 (ix3 0 r j)

theorem chunk_of (q : (row n i).val / 128 < 32) : (⟨(row n i).val / 128, q⟩ : Fin 32) = n :=
  Fin.ext (by simp only [row]; omega)

theorem place_of (q : (row n i).val % 128 < 128) : (⟨(row n i).val % 128, q⟩ : Fin 128) = i :=
  Fin.ext (by simp only [row]; omega)

theorem head_of (q : (col h d).val / 128 < 4) : (⟨(col h d).val / 128, q⟩ : Fin 4) = h :=
  Fin.ext (by simp only [col]; omega)

theorem column_of (q : (col h d).val % 128 < 128) : (⟨(col h d).val % 128, q⟩ : Fin 128) = d :=
  Fin.ext (by simp only [col]; omega)

theorem even_of (q : j.val * 2 < 128) : (⟨j.val * 2, q⟩ : Fin 128) = evenAt j := Fin.ext (by simp only [evenAt]; omega)

theorem odd_of (q : j.val * 2 + 1 < 128) : (⟨j.val * 2 + 1, q⟩ : Fin 128) = oddAt j := Fin.ext (by simp only [oddAt]; omega)

theorem v640_at : val_main_v640 (F := Ideal) x0 x1 x2 (ix4 0 (row n i) h d) = val_main_v632 (F := Ideal) x0 x1 x2 (ix5 0 h n i d) := by
  pointwise [val_main_v640, val_main_v639]
  rw [chunk_of, place_of]

theorem v638_at : val_main_v638 (F := Ideal) x0 x1 x2 (ix4 0 (row n i) h d) = val_main_v636 (F := Ideal) x0 x1 x2 (ix5 0 h n i d) := by
  pointwise [val_main_v638, val_main_v637]
  rw [chunk_of, place_of]

theorem v634_at : val_main_v634 (F := Ideal) x0 x1 x2 (ix4 0 (row n i) h d) = val_main_v625 (F := Ideal) x0 x1 x2 (ix5 0 h n i d) := by
  pointwise [val_main_v634, val_main_v633]
  rw [chunk_of, place_of]

theorem v636_at : val_main_v636 (F := Ideal) x0 x1 x2 (ix5 0 h n i d) = val_main_v630 (F := Ideal) x0 x1 x2 (ix5 0 h n i d) * keyScale := by
  pointwise [val_main_v636, val_main_v635]
  rfl

theorem v677_at : val_main_v677 (F := Ideal) x0 x1 x2 (ix4 0 r h j) = val_main_v640 (F := Ideal) x0 x1 x2 (ix4 0 r h (oddAt j)) * rSin x2 r j
    + val_main_v640 (F := Ideal) x0 x1 x2 (ix4 0 r h (evenAt j)) * rCos x2 r j := by
  pointwise [val_main_v677, val_main_v676, val_main_v670, val_main_v669, val_main_v666, val_main_v665, val_main_v664, val_main_v663, val_main_v662, val_main_v675, val_main_v28, val_main_v30]
  simp only [even_of, odd_of]
  rfl

theorem v674_at : val_main_v674 (F := Ideal) x0 x1 x2 (ix4 0 r h j) = val_main_v640 (F := Ideal) x0 x1 x2 (ix4 0 r h (oddAt j)) * rCos x2 r j
    + -val_main_v640 (F := Ideal) x0 x1 x2 (ix4 0 r h (evenAt j)) * rSin x2 r j := by
  pointwise [val_main_v674, val_main_v673, val_main_v668, val_main_v667, val_main_v671, val_main_v672, val_main_v666, val_main_v665, val_main_v664, val_main_v663, val_main_v662, val_main_v28, val_main_v30]
  simp only [even_of, odd_of]
  rfl

theorem v657_at : val_main_v657 (F := Ideal) x0 x1 x2 (ix4 0 r h j) = val_main_v638 (F := Ideal) x0 x1 x2 (ix4 0 r h (oddAt j)) * val_main_v64 (F := Ideal) x2 (ix3 0 r j)
    + val_main_v638 (F := Ideal) x0 x1 x2 (ix4 0 r h (evenAt j)) * val_main_v62 (F := Ideal) x2 (ix3 0 r j) := by
  rw [val_main_v657_apply, val_main_v656_apply, val_main_v650_apply]
  pointwise [val_main_v649, val_main_v646, val_main_v645, val_main_v644, val_main_v643, val_main_v642, val_main_v655, val_main_v63, val_main_v65]
  simp only [even_of, odd_of]

theorem v654_at : val_main_v654 (F := Ideal) x0 x1 x2 (ix4 0 r h j) = val_main_v638 (F := Ideal) x0 x1 x2 (ix4 0 r h (oddAt j)) * val_main_v62 (F := Ideal) x2 (ix3 0 r j)
    + -val_main_v638 (F := Ideal) x0 x1 x2 (ix4 0 r h (evenAt j)) * val_main_v64 (F := Ideal) x2 (ix3 0 r j) := by
  rw [val_main_v654_apply, val_main_v653_apply, val_main_v648_apply, val_main_v651_apply]
  pointwise [val_main_v647, val_main_v652, val_main_v646, val_main_v645, val_main_v644, val_main_v643, val_main_v642, val_main_v63, val_main_v65]
  simp only [even_of, odd_of]

theorem v690_low : val_main_v690 (F := Ideal) x0 x1 x2 (ix2 r (col h (lowAt j))) = val_main_v677 (F := Ideal) x0 x1 x2 (ix4 0 r h j) := by
  pointwise [val_main_v690, val_main_v684, val_main_v683, val_main_v682, val_main_v681, val_main_v680, val_main_v679, val_main_v678]
  have e := j.isLt
  split_ifs with p q q
  · exfalso
    simp only [col, lowAt] at p q
    omega
  · exfalso
    simp only [col, lowAt] at p q
    omega
  · refine (congrArg₂ (· + ·) (?_ : _ = (0 : EReal)) ?_).trans (zero_add _)
    · exact Ideal.ofBits_zero_f32
    · exact congrArg₂ (fun a q => val_main_v677 (F := Ideal) x0 x1 x2 (ix4 0 r a q)) (head_of h _ _) (Fin.ext (by simp only [col, lowAt]; omega))
  · exfalso
    simp only [col, lowAt] at p q
    omega

theorem v690_high : val_main_v690 (F := Ideal) x0 x1 x2 (ix2 r (col h (highAt j))) = val_main_v674 (F := Ideal) x0 x1 x2 (ix4 0 r h j) := by
  pointwise [val_main_v690, val_main_v684, val_main_v683, val_main_v682, val_main_v681, val_main_v680, val_main_v679, val_main_v678]
  have e := j.isLt
  split_ifs with p q q
  · exfalso
    simp only [col, highAt] at p q
    omega
  · refine (congrArg₂ (· + ·) ?_ (?_ : _ = (0 : EReal))).trans (add_zero _)
    · exact congrArg₂ (fun a q => val_main_v674 (F := Ideal) x0 x1 x2 (ix4 0 r a q)) (head_of h _ _) (Fin.ext (by simp only [col, highAt]; omega))
    · exact Ideal.ofBits_zero_f32
  · exfalso
    simp only [col, highAt] at p q
    omega
  · exfalso
    simp only [col, highAt] at p q
    omega

theorem v691_low : val_main_v691 (F := Ideal) x0 x1 x2 (ix2 r (col h (lowAt j))) = val_main_v657 (F := Ideal) x0 x1 x2 (ix4 0 r h j) := by
  pointwise [val_main_v691, val_main_v687, val_main_v686, val_main_v685, val_main_v661, val_main_v660, val_main_v659, val_main_v658]
  have e := j.isLt
  split_ifs with p q q
  · exfalso
    simp only [col, lowAt] at p q
    omega
  · exfalso
    simp only [col, lowAt] at p q
    omega
  · refine (congrArg₂ (· + ·) (?_ : _ = (0 : EReal)) ?_).trans (zero_add _)
    · exact Ideal.ofBits_zero_f32
    · exact congrArg₂ (fun a q => val_main_v657 (F := Ideal) x0 x1 x2 (ix4 0 r a q)) (head_of h _ _) (Fin.ext (by simp only [col, lowAt]; omega))
  · exfalso
    simp only [col, lowAt] at p q
    omega

theorem v691_high : val_main_v691 (F := Ideal) x0 x1 x2 (ix2 r (col h (highAt j))) = val_main_v654 (F := Ideal) x0 x1 x2 (ix4 0 r h j) := by
  pointwise [val_main_v691, val_main_v687, val_main_v686, val_main_v685, val_main_v661, val_main_v660, val_main_v659, val_main_v658]
  have e := j.isLt
  split_ifs with p q q
  · exfalso
    simp only [col, highAt] at p q
    omega
  · refine (congrArg₂ (· + ·) ?_ (?_ : _ = (0 : EReal))).trans (add_zero _)
    · exact congrArg₂ (fun a q => val_main_v654 (F := Ideal) x0 x1 x2 (ix4 0 r a q)) (head_of h _ _) (Fin.ext (by simp only [col, highAt]; omega))
    · exact Ideal.ofBits_zero_f32
  · exfalso
    simp only [col, highAt] at p q
    omega
  · exfalso
    simp only [col, highAt] at p q
    omega

theorem v692_at : val_main_v692 (F := Ideal) x0 x1 x2 (ix2 r (col h d)) = val_main_v634 (F := Ideal) x0 x1 x2 (ix4 0 r h d) := by
  pointwise [val_main_v692, val_main_v688, val_main_v641]
  rw [head_of, column_of]

end Cert.KernelIdeal.Ret
-- ==== Proof.Ret.BackNorm.lean ====
/- The gradient arriving at the raw output and the gradient of the gate, as the reference has them. -/
module

public import proofs.«01_k».proof.Proof.Ret.BackTurn
public import proofs.«01_k».proof.Proof.Ret.Norm

@[expose] public section

set_option maxRecDepth 65536

noncomputable section

namespace Cert.KernelIdeal.Ret

open Idealize.ShloMosaic Idealize.ShloMosaic.TcCoe Idealize.ShloMosaic.Tactic
open Cert.ReferenceIdeal.Read

variable (x0 : Vec Ideal Cert.ReferenceIdeal.S4096x512 .f32) (x1 : Vec Ideal Cert.ReferenceIdeal.S4096x5376 .f32) (x2 : Vec Ideal Cert.ReferenceIdeal.S4096 .i32)
variable (h : Fin 4) (n : Fin 32) (r : Fin 4096) (i d : Fin 128)

/-- A row of one head of the raw output, and the gradient arriving at its normalized row. -/
def aRow (r : Fin 4096) (h : Fin 4) : Fin 128 → EReal := fun x => val_main_v351 (F := Ideal) x1 x2 (ix4 0 r h x)
def nRow (r : Fin 4096) (h : Fin 4) : Fin 128 → EReal := fun x => val_main_v383 (F := Ideal) x0 x1 (ix4 0 r h x)

theorem packed_three (q : 1536 + (col h d).val < 5376) : x1 (ix2 r ⟨1536 + (col h d).val, q⟩) = packed x1 3 r h d :=
  congrArg (fun a => x1 (ix2 r a)) (Fin.ext (by simp only [col]; omega))

/-- A sum over two axes of one element each. -/
theorem drop_ends (X : Cert.ReferenceIdeal.S1x4096x4x1.Idx → EReal) (z : EReal) :
    Ideal.hostReduceAdd Cert.ReferenceIdeal.Gen.reducesTo_S1x4096x4x1_S4096x4_d0_3 X z (ix2 r h) = z + X (ix4 0 r h 0) := by
  unfold Ideal.hostReduceAdd
  refine congrArg (z + ·) ?_
  rw [Finset.sum_eq_single (ix4 0 r h 0)]
  · intro b hb hne
    refine absurd ?_ hne
    have e := (Finset.mem_filter.1 hb).2
    funext a
    match a with
    | ⟨0, _⟩ => exact Subsingleton.elim (α := Fin 1) _ _
    | ⟨1, _⟩ => exact Fin.ext (congrArg Fin.val (congrFun e 0))
    | ⟨2, _⟩ => exact Fin.ext (congrArg Fin.val (congrFun e 1))
    | ⟨3, _⟩ => exact Subsingleton.elim (α := Fin 1) _ _
  · intro hb
    refine absurd (Finset.mem_filter.2 ⟨Finset.mem_univ _, ?_⟩) hb
    funext a
    match a with
    | ⟨0, _⟩ => rfl
    | ⟨1, _⟩ => rfl

theorem v366_at : val_main_v366 (F := Ideal) x1 x2 (ix4 0 r h d) = aRow x1 x2 r h d - mean (aRow x1 x2 r h) := by
  rw [val_main_v366_apply]
  pointwise [val_main_v365]
  rw [val_main_v355_apply]
  pointwise [val_main_v353, val_main_v352, val_main_v354]
  rw [val_main_cst_16_apply, val_main_cst_17_apply]
  show _ - Ideal.div (Ideal.ofBits _ _ + _) _ = _
  rw [Ideal.ofBits_zero_f32, zero_add]
  rfl

theorem v357_at : val_main_v357 (F := Ideal) x1 x2 (ix4 0 r h d) = aRow x1 x2 r h d - mean (aRow x1 x2 r h) := by
  rw [← v366_at, val_main_v357_apply, val_main_v366_apply]
  pointwise [val_main_v365, val_main_v356]

theorem v358_at : val_main_v358 (F := Ideal) x1 x2 (ix4 0 r h d) =
    (aRow x1 x2 r h d - mean (aRow x1 x2 r h)) * (aRow x1 x2 r h d - mean (aRow x1 x2 r h)) := by
  rw [val_main_v358_apply, v357_at]
  rfl

theorem v368_at : val_main_v368 (F := Ideal) x1 x2 (ix4 0 r h 0) =
    mean (fun x => (aRow x1 x2 r h x - mean (aRow x1 x2 r h)) * (aRow x1 x2 r h x - mean (aRow x1 x2 r h))) + Ideal.ofBits FTy.f32 897988541#32 := by
  rw [val_main_v368_apply, val_main_v364_apply]
  pointwise [val_main_v362, val_main_v361, val_main_v363, val_main_v367]
  rw [val_main_cst_19_apply, val_main_cst_20_apply, val_main_cst_21_apply]
  simp only [v358_at, Ideal.ofBits_def, Ideal.ofBits_zero_f32, zero_add]
  rfl

theorem v369_at : val_main_v369 (F := Ideal) x1 x2 (ix4 0 r h 0) = recip (aRow x1 x2 r h) := by
  rw [val_main_v369_apply, v368_at]
  rfl

theorem v388_at : val_main_v388 (F := Ideal) x0 x1 x2 (ix4 0 r h d) = nRow x0 x1 r h d * recip (aRow x1 x2 r h) := by
  rw [val_main_v388_apply]
  pointwise [val_main_v387]
  rw [v369_at]
  rfl

theorem v384_at : val_main_v384 (F := Ideal) x0 x1 x2 (ix4 0 r h d) = (aRow x1 x2 r h d - mean (aRow x1 x2 r h)) * nRow x0 x1 r h d := by
  rw [val_main_v384_apply, v366_at]
  rfl

theorem v390_at : val_main_v390 (F := Ideal) x0 x1 x2 (ix4 0 r h d) = -(nRow x0 x1 r h d * recip (aRow x1 x2 r h)) := by
  rw [val_main_v390_apply, v388_at]
  rfl

theorem v398_at : val_main_v398 (F := Ideal) x0 x1 x2 (ix4 0 r h d) = rowPull (aRow x1 x2 r h) (nRow x0 x1 r h) d := by
  rw [val_main_v398_apply, val_main_v360_apply]
  pointwise [val_main_v397, val_main_v396, val_main_v359, val_main_v395]
  rw [drop_ends, val_main_v394_apply, val_main_v389_apply, val_main_v372_apply, val_main_v370_apply]
  pointwise [val_main_v386, val_main_v393, val_main_v371, val_main_v385]
  rw [v357_at, v369_at, v368_at, val_main_cst_18_apply, val_main_cst_22_apply, val_main_cst_24_apply, val_main_cst_26_apply, val_main_cst_27_apply]
  simp only [v384_at, Ideal.ofBits_def, Ideal.ofBits_zero_f32, zero_add]
  rfl

theorem v399_at : val_main_v399 (F := Ideal) x0 x1 x2 (ix4 0 r h d) = -rowPull (aRow x1 x2 r h) (nRow x0 x1 r h) d := by
  rw [val_main_v399_apply, v398_at]
  rfl

theorem v409_at : val_main_v409 (F := Ideal) x0 x1 x2 (ix4 0 r h d) = rowGradR (aRow x1 x2 r h) (nRow x0 x1 r h) d := by
  rw [val_main_v409_apply, val_main_v402_apply]
  pointwise [val_main_v408, val_main_v407, val_main_v406]
  rw [drop_ends, val_main_v405_apply, val_main_v403_apply]
  pointwise [val_main_v401, val_main_v400, val_main_v392, val_main_v391, val_main_v404]
  rw [v388_at, v398_at, val_main_cst_25_apply, val_main_cst_28_apply, val_main_cst_29_apply, val_main_cst_30_apply]
  simp only [v390_at, v399_at, Ideal.ofBits_def, Ideal.ofBits_zero_f32, zero_add]
  rfl

theorem v11_at : val_main_v11 (F := Ideal) x1 (ix3 0 r (col h d)) = packed x1 3 r h d := by
  pointwise [val_main_v11, val_main_v3]
  exact packed_three x1 h r d _

theorem v376_at : val_main_v376_2 (F := Ideal) x1 (ix3 0 r (col h d)) = gate (packed x1 3 r h d) := by
  rw [val_main_v376_2_apply, val_main_call1_v3_apply, val_main_call1_v1_apply, val_main_call1_v0_apply, v11_at]
  pointwise [val_main_call1_v4, val_main_call1_v2]
  rw [val_main_call1_cst_apply, val_main_call1_cst_0_apply]
  show Ideal.div (Ideal.ofBits _ _) (Ideal.ofBits _ _ + _) = _
  rw [Ideal.ofBits_one_f32]
  unfold gate
  rw [zero_sub]

theorem nRow_at : nRow x0 x1 r h d = x0 (ix2 r (col h d)) * (packed x1 3 r h d * gate (packed x1 3 r h d)) := by
  show val_main_v383 (F := Ideal) x0 x1 (ix4 0 r h d) = _
  pointwise [val_main_v383]
  rw [val_main_v381_apply]
  pointwise [val_main_v378]
  rw [val_main_v376_0_apply]
  show x0 (ix2 r (col h d)) * (val_main_v11 (F := Ideal) x1 (ix3 0 r (col h d)) * val_main_v376_2 (F := Ideal) x1 (ix3 0 r (col h d))) = _
  rw [v376_at, v11_at]

theorem rR_at : rR x0 x1 x2 h n i d = rowGradR (aRow x1 x2 (row n i) h) (nRow x0 x1 (row n i) h) d := by
  rw [← v409_at]
  show val_main_v411 (F := Ideal) x0 x1 x2 (ix5 0 h n i d) = _
  pointwise [val_main_v411, val_main_v410]
  rfl

theorem slope_at : val_main_v376_1 (F := Ideal) x1 (ix3 0 r (col h d)) = gate (packed x1 3 r h d) * (1 - gate (packed x1 3 r h d)) := by
  rw [val_main_v376_1_apply, val_main_call1_v7_apply]
  pointwise [val_main_call1_v6]
  rw [v376_at, val_main_call1_cst_1_apply]
  show _ * (Ideal.ofBits _ _ - _) = _
  rw [Ideal.ofBits_one_f32]

theorem v693_at : val_main_v693 (F := Ideal) x0 x1 x2 (ix2 r (col h d)) =
    (aRow x1 x2 r h d - mean (aRow x1 x2 r h)) * recip (aRow x1 x2 r h) * x0 (ix2 r (col h d)) * gate (packed x1 3 r h d) +
      packed x1 3 r h d * ((aRow x1 x2 r h d - mean (aRow x1 x2 r h)) * recip (aRow x1 x2 r h) * x0 (ix2 r (col h d))) *
        (gate (packed x1 3 r h d) * (1 - gate (packed x1 3 r h d))) := by
  pointwise [val_main_v693, val_main_v689]
  rw [val_main_v382_apply, val_main_call2_v1_apply, val_main_call2_v2_apply, val_main_call2_v0_apply, val_main_v380_apply]
  pointwise [val_main_v378, val_main_v375]
  rw [val_main_v374_apply]
  pointwise [val_main_v373]
  rw [head_of, column_of, v376_at, slope_at, v11_at, v366_at, v369_at]

end Cert.KernelIdeal.Ret
-- ==== Proof.Ret.BackHeads.lean ====
/- The gradients of the turned query, the turned key and the value, as the reference has them. -/
module

public import proofs.«01_k».proof.Proof.Ret.Rows

@[expose] public section

set_option maxRecDepth 65536

noncomputable section

namespace Cert.KernelIdeal.Ret

open Idealize.ShloMosaic Idealize.ShloMosaic.TcCoe Idealize.ShloMosaic.Tactic
open Cert.ReferenceIdeal.Read

variable (x0 : Vec Ideal Cert.ReferenceIdeal.S4096x512 .f32) (x1 : Vec Ideal Cert.ReferenceIdeal.S4096x5376 .f32) (x2 : Vec Ideal Cert.ReferenceIdeal.S4096 .i32)
variable (h : Fin 4) (n : Fin 32) (r : Fin 4096) (i d : Fin 128) (j : Fin 64)

theorem v628_at (x : Fin 128) : val_main_v628 (F := Ideal) x0 x1 x2 (ix5 0 h n i x) = (∑ e, rR x0 x1 x2 h n i e * rV x1 h n x e) * rM h i x := by
  pointwise [val_main_v628, val_main_v627, val_main_v626, val_main_v117]
  rfl

theorem v632_at : val_main_v632 (F := Ideal) x0 x1 x2 (ix5 0 h n i d) =
    gradQ (rK x1 x2 h n) (rV x1 h n) (rM h) (rR x0 x1 x2 h n) (rP x1 x2 h n) (rQD h) i d := by
  pointwise [val_main_v632, val_main_v631, val_main_v416, val_main_v415, val_main_v414, val_main_v345]
  simp only [v628_at]
  exact add_comm _ _

theorem v630_at : val_main_v630 (F := Ideal) x0 x1 x2 (ix5 0 h n i d) =
    gradK (rQ x1 x2 h n) (rV x1 h n) (rM h) (rR x0 x1 x2 h n) (rG x0 x1 x2 h n) (rKD h) i d := by
  pointwise [val_main_v630, val_main_v629, val_main_v622, val_main_v621, val_main_v620, val_main_v619, val_main_v129]
  simp only [v628_at]
  refine (add_comm _ _).trans (congrArg (_ + ·) (congrArg (· * _) (Finset.sum_congr rfl fun x _ => mul_comm _ _)))

theorem v131_at : val_main_v131 (F := Ideal) x1 x2 (ix5 0 h n i d) = rK x1 x2 h n i d * rKD h i := by
  rw [val_main_v131_apply]
  pointwise [val_main_v130, val_main_v129]
  rfl

theorem v119_at (x : Fin 128) : val_main_v119 (F := Ideal) x1 x2 (ix5 0 h n i x) = (∑ e, rQ x1 x2 h n i e * rK x1 x2 h n x e) * rM h i x := by
  rw [val_main_v119_apply]
  pointwise [val_main_v118, val_main_v116, val_main_v117]
  rfl

theorem v618_at : val_main_v618 (F := Ideal) x0 x1 x2 (ix5 0 h n i d) = ∑ e, rG x0 x1 x2 h n e d * (rK x1 x2 h n i e * rKD h i) := by
  pointwise [val_main_v618, val_main_v617]
  simp only [v131_at]
  rfl

theorem v624_at : val_main_v624 (F := Ideal) x0 x1 x2 (ix5 0 h n i d) = ∑ x, rR x0 x1 x2 h n x d * ((∑ e, rQ x1 x2 h n x e * rK x1 x2 h n i e) * rM h x i) := by
  pointwise [val_main_v624, val_main_v623]
  simp only [v119_at]
  rfl

theorem v625_at : val_main_v625 (F := Ideal) x0 x1 x2 (ix5 0 h n i d) =
    gradV (rQ x1 x2 h n) (rK x1 x2 h n) (rM h) (rR x0 x1 x2 h n) (rG x0 x1 x2 h n) (rKD h) i d := by
  pointwise [val_main_v625]
  rw [v618_at, v624_at]
  exact (add_comm _ _).trans (congrArg₂ (· + ·) (Finset.sum_congr rfl fun x _ => mul_comm _ _) (Finset.sum_congr rfl fun x _ => mul_comm _ _))

theorem v347_at : val_main_v347 (F := Ideal) x1 x2 (ix5 0 h n i d) = rQ x1 x2 h n i d * rQD h i := by
  rw [val_main_v347_apply]
  pointwise [val_main_v346, val_main_v345]
  rfl

/-- The product of a chunk's decayed queries and its raw gradient. -/
theorem v413_at (e : Fin 128) : val_main_v413 (F := Ideal) x0 x1 x2 (ix5 n 0 h d e) = ∑ x, rQ x1 x2 h n x d * rQD h x * rR x0 x1 x2 h n x e := by
  pointwise [val_main_v413, val_main_v412]
  simp only [v347_at]
  exact Finset.sum_congr rfl fun x _ => mul_comm _ _

end Cert.KernelIdeal.Ret
-- ==== Proof.Ret.Stack.lean ====
/- The reference's state gradients, chunk by chunk from the last. -/
module

public import proofs.«01_k».proof.Proof.Ret.BackHeads

@[expose] public section

set_option maxRecDepth 65536

noncomputable section

namespace Cert.KernelIdeal.Ret

open Idealize.ShloMosaic Idealize.ShloMosaic.TcCoe Idealize.ShloMosaic.Tactic
open Cert.ReferenceIdeal.Read

variable (x0 : Vec Ideal Cert.ReferenceIdeal.S4096x512 .f32) (x1 : Vec Ideal Cert.ReferenceIdeal.S4096x5376 .f32) (x2 : Vec Ideal Cert.ReferenceIdeal.S4096 .i32)
variable (h : Fin 4) (n : Fin 32) (r : Fin 4096) (i d : Fin 128) (j : Fin 64)

theorem slices_at (m : ℕ) (hm : m < 32) : Cert.ReferenceIdeal.S32x1x4x128x128.Slices ![m, 0, 0, 0, 0] Cert.ReferenceIdeal.S1x1x4x128x128 :=
  ⟨rfl, fun a => match a with
    | ⟨0, _⟩ => (by show m + 1 ≤ 32; omega)
    | ⟨1, _⟩ => (by show 0 + 1 ≤ 1; omega)
    | ⟨2, _⟩ => (by show 0 + 4 ≤ 4; omega)
    | ⟨3, _⟩ => (by show 0 + 128 ≤ 128; omega)
    | ⟨4, _⟩ => (by show 0 + 128 ≤ 128; omega)⟩

/-- One step of a recurrence over the chunks: chunk `m` of a stack of products, plus the decayed state. -/
def step (W : FVec Ideal Cert.ReferenceIdeal.S32x1x4x128x128 .f32) (m : ℕ) (hm : m < 32) (X : FVec Ideal Cert.ReferenceIdeal.S1x4x128x128 .f32) :
    FVec Ideal Cert.ReferenceIdeal.S1x4x128x128 .f32 :=
  addf (F := Ideal) (φ := FTy.f32) (shapeCast _ (extractStridedSlice Cert.ReferenceIdeal.S1x1x4x128x128 ![m, 0, 0, 0, 0] W (slices_at m hm)) Cert.ReferenceIdeal.Gen.shapeCasts_S1x1x4x128x128_S1x4x128x128)
    (mulf (F := Ideal) (φ := FTy.f32) (broadcastInDim Cert.ReferenceIdeal.S1x4x128x128 ![0, 1, 2, 3] Cert.ReferenceIdeal.Gen.bcast_S1x4x1x1_S1x4x128x128_0_1_2_3 (val_main_v136 (F := Ideal))) X)

/-- The state gradient after the chunks `31, …, 32 - t`. -/
def carry : ℕ → FVec Ideal Cert.ReferenceIdeal.S1x4x128x128 .f32
  | 0 => val_main_v417 (F := Ideal)
  | t + 1 => step (val_main_v418 (F := Ideal) x0 x1 x2) (31 - t) (by omega) (carry t)

/-- A state as a stack of one. -/
def single (X : FVec Ideal Cert.ReferenceIdeal.S1x4x128x128 .f32) : FVec Ideal Cert.ReferenceIdeal.S1x1x4x128x128 .f32 :=
  broadcastInDim Cert.ReferenceIdeal.S1x1x4x128x128 ![1, 2, 3, 4] Cert.ReferenceIdeal.Gen.bcast_S1x4x128x128_S1x1x4x128x128_1_2_3_4 X

theorem v613_eq (q) : val_main_v613 (F := Ideal) x0 x1 x2 = concatenate Cert.ReferenceIdeal.S16x1x4x128x128 0
    (List.ofFn fun k : Fin 16 => (⟨Cert.ReferenceIdeal.S1x1x4x128x128, single (carry x0 x1 x2 (31 - k.val))⟩ : (s : Shape) × (s.Idx → Ideal .f32))) q := rfl

theorem v614_eq (q) : val_main_v614 (F := Ideal) x0 x1 x2 = concatenate Cert.ReferenceIdeal.S16x1x4x128x128 0
    (List.ofFn fun k : Fin 16 => (⟨Cert.ReferenceIdeal.S1x1x4x128x128, single (carry x0 x1 x2 (15 - k.val))⟩ : (s : Shape) × (s.Idx → Ideal .f32))) q := rfl

theorem carry_succ (t : ℕ) (d e : Fin 128) : carry x0 x1 x2 (t + 1) (ix4 0 h d e) =
    val_main_v413 (F := Ideal) x0 x1 x2 (ix5 ⟨31 - t, by omega⟩ 0 h d e) + val_main_v135 (F := Ideal) (ix1 h) * carry x0 x1 x2 t (ix4 0 h d e) := by
  show step _ _ _ _ (ix4 0 h d e) = _
  pointwise [step]
  pointwise [val_main_v136, val_main_v418]

/-- Sixteen single states make a stack of sixteen. -/
theorem fits {f : Fin 16 → FVec Ideal Cert.ReferenceIdeal.S1x1x4x128x128 .f32} : Shape.Concatenates ((List.ofFn fun k : Fin 16 =>
    (⟨Cert.ReferenceIdeal.S1x1x4x128x128, f k⟩ : (s : Shape) × (s.Idx → Ideal .f32))).map (·.1)) Cert.ReferenceIdeal.S16x1x4x128x128 0 :=
  Cert.ReferenceIdeal.Gen.concatenates_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S1x1x4x128x128_S16x1x4x128x128_d0

theorem v613_at (k : Fin 16) (d e : Fin 128) : val_main_v613 (F := Ideal) x0 x1 x2 (ix5 k 0 h d e) = carry x0 x1 x2 (31 - k.val) (ix4 0 h d e) := by
  refine (congrFun (v613_eq x0 x1 x2 fits) (ix5 k 0 h d e)).trans ((concatenate_ofFn_unit_apply (t := Cert.ReferenceIdeal.S16x1x4x128x128)
    (s₁ := Cert.ReferenceIdeal.S1x1x4x128x128) 0 _ fits rfl rfl (ix5 k 0 h d e) k rfl (ix5 0 0 h d e) (fun b hb => match b with
      | ⟨0, _⟩ => absurd rfl hb
      | ⟨1, _⟩ => rfl
      | ⟨2, _⟩ => rfl
      | ⟨3, _⟩ => rfl
      | ⟨4, _⟩ => rfl)).trans ?_)
  pointwise [single]

theorem v614_at (k : Fin 16) (d e : Fin 128) : val_main_v614 (F := Ideal) x0 x1 x2 (ix5 k 0 h d e) = carry x0 x1 x2 (15 - k.val) (ix4 0 h d e) := by
  refine (congrFun (v614_eq x0 x1 x2 fits) (ix5 k 0 h d e)).trans ((concatenate_ofFn_unit_apply (t := Cert.ReferenceIdeal.S16x1x4x128x128)
    (s₁ := Cert.ReferenceIdeal.S1x1x4x128x128) 0 _ fits rfl rfl (ix5 k 0 h d e) k rfl (ix5 0 0 h d e) (fun b hb => match b with
      | ⟨0, _⟩ => absurd rfl hb
      | ⟨1, _⟩ => rfl
      | ⟨2, _⟩ => rfl
      | ⟨3, _⟩ => rfl
      | ⟨4, _⟩ => rfl)).trans ?_)
  pointwise [single]

theorem rG_at (d e : Fin 128) : rG x0 x1 x2 h n d e = carry x0 x1 x2 (31 - n.val) (ix4 0 h d e) := by
  show val_main_v616 (F := Ideal) x0 x1 x2 (ix5 n 0 h d e) = _
  pointwise [val_main_v616, val_main_v615]
  split_ifs with p q
  · exact v613_at x0 x1 x2 h ⟨n.val, p⟩ d e
  · rw [v614_at x0 x1 x2 h ⟨n.val - 16, _⟩ d e]
    exact congrArg (fun t => carry x0 x1 x2 t (ix4 0 h d e)) (by dsimp only; omega)
  · rw [v614_at x0 x1 x2 h ⟨n.val - 16, _⟩ d e]
    exact congrArg (fun t => carry x0 x1 x2 t (ix4 0 h d e)) (by dsimp only; omega)

theorem carry_zero (d e : Fin 128) : carry x0 x1 x2 0 (ix4 0 h d e) = 0 := by
  show val_main_v417 (F := Ideal) (ix4 0 h d e) = 0
  pointwise [val_main_v417]
  exact Ideal.ofBits_zero_f32

end Cert.KernelIdeal.Ret
-- ==== Proof.Ret.Blocks.lean ====
/- What the blocks of a grid point hold, in the reference's values at the point's chunk. -/
module

public import proofs.«01_k».proof.Proof.Ret.States
public import proofs.«01_k».proof.Proof.Ret.Decay
public import proofs.«01_k».proof.Proof.Ret.BackNorm
public import proofs.«01_k».proof.Proof.Ret.Stack

@[expose] public section

set_option maxRecDepth 65536

noncomputable section

namespace Cert.KernelIdeal.Ret

open Cert.KernelIdeal Cert.KernelIdeal.Gen Idealize.ShloMosaic Idealize.ShloMosaic.TcCoe Idealize.ShloMosaic.StableHlo
open Cert.ReferenceIdeal.Read

variable {m : (ℓ : Loc nD τ sig) → Buf (Elt Ideal) ℓ} {c : Dev nD}
variable {x0 : Vec Ideal S4096x512 .f32} {x1 : Vec Ideal S4096x5376 .f32} {x2 : Vec Ideal S4096 .i32}
variable (t : Fin cfg0.N) (n : Fin 32) (h : Fin 4) (i d e p : Fin 128) (j : Fin 64)

theorem raw_at (h1 : V m c main_arg1 = x1) (h2 : V m c main_arg2 = x2) (r : Fin 4096) : V m c main_v334 (ix2 r (col h d)) = aRow x1 x2 r h d := by
  have e : V m c main_v334 = shapeCast S4096x512 (val_main_v351 (F := Ideal) x1 x2) shapeCasts_S1x4096x4x128_S4096x512 :=
    found_reshape 355 rfl (by decide) (by decide) (found_v330 (turned h1 h2))
  rw [e]
  unfold aRow
  generalize val_main_v351 (F := Ideal) x1 x2 = X
  pointwise
  rw [head_of, column_of]

theorem states_at (h1 : V m c main_arg1 = x1) (h2 : V m c main_arg2 = x2) : V m c main_v333 (ix4 h n p e) = rP x1 x2 h n (place p) e := by
  have e1 : V m c main_v331 = shapeCast S32x4x64x2x128 (val_main_v336 (F := Ideal) x1 x2) shapeCasts_S32x1x4x128x128_S32x4x64x2x128 :=
    found_reshape 352 rfl (by decide) (by decide) (found_v315 (turned h1 h2))
  have e2 := found_unary 353 rfl (by decide) (by decide) e1
  have e3 : V m c main_v333 = shapeCast S4x32x128x128 (transpose S4x32x2x64x128 [1, 0, 3, 2, 4] (shapeCast S32x4x64x2x128 (val_main_v336 (F := Ideal) x1 x2) shapeCasts_S32x1x4x128x128_S32x4x64x2x128) transposes_S32x4x64x2x128_S4x32x2x64x128_1_0_3_2_4) shapeCasts_S4x32x2x64x128_S4x32x128x128 :=
    found_reshape 354 rfl (by decide) (by decide) e2
  rw [e3]
  unfold rP
  generalize val_main_v336 (F := Ideal) x1 x2 = X
  pointwise
  refine congrArg (fun q => X (ix5 n 0 h q e)) (Fin.ext ?_)
  simp only [place, Equiv.coe_fn_mk]
  split <;> omega

theorem cd_at (k : Fin 8) : V m c main_v380 (ix3 h k p) = val_main_v135 (F := Ideal) (ix1 h) := by
  rw [found_unary 412 rfl (by decide) (by decide) (found_unary 411 rfl (by decide) (by decide) found_v378)]
  generalize val_main_v135 (F := Ideal) = X
  pointwise

theorem qd_at : V m c main_v382 (ix3 h i p) = rQD h i := by
  rw [found_unary 414 rfl (by decide) (by decide) (found_unary 413 rfl (by decide) (by decide) found_v375)]
  unfold rQD
  generalize val_main_v344 (F := Ideal) = X
  pointwise

theorem kd_at : V m c main_v384 (ix3 h i p) = rKD h i := by
  rw [found_unary 416 rfl (by decide) (by decide) (found_unary 415 rfl (by decide) (by decide) found_v367)]
  unfold rKD
  generalize val_main_v128 (F := Ideal) = X
  pointwise

/-- Where the blocks of a grid point lie. -/
theorem idx_of : ∀ t : Fin cfg0.N, (win0_0.index t 0 = 31 - t.val ∧ win0_0.index t 1 = 0) ∧ (win0_1.index t 0 = 31 - t.val ∧ win0_1.index t 1 = 0) ∧
    (win0_2.index t 0 = 31 - t.val ∧ win0_2.index t 1 = 1) ∧ (win0_3.index t 0 = 31 - t.val ∧ win0_3.index t 1 = 2) ∧
    (win0_4.index t 0 = 31 - t.val ∧ win0_4.index t 1 = 3) ∧ (win0_5.index t 0 = 31 - t.val ∧ win0_5.index t 1 = 0) ∧
    (win0_6.index t 0 = 31 - t.val ∧ win0_6.index t 1 = 0) ∧ (win0_7.index t 0 = 31 - t.val ∧ win0_7.index t 1 = 0) ∧
    (win0_8.index t 0 = 0 ∧ win0_8.index t 1 = 31 - t.val ∧ win0_8.index t 2 = 0 ∧ win0_8.index t 3 = 0) := by
  decide +kernel

theorem idx_tables : ∀ t : Fin cfg0.N, (win0_9.index t 0 = 0 ∧ win0_9.index t 1 = 0 ∧ win0_9.index t 2 = 0) ∧
    (win0_10.index t 0 = 0 ∧ win0_10.index t 1 = 0 ∧ win0_10.index t 2 = 0) ∧ (win0_11.index t 0 = 0 ∧ win0_11.index t 1 = 0 ∧ win0_11.index t 2 = 0) ∧
    (win0_12.index t 0 = 0 ∧ win0_12.index t 1 = 0 ∧ win0_12.index t 2 = 0) := by
  decide +kernel

theorem idx_results : ∀ t : Fin cfg0.N, (win0_13.index t 0 = 31 - t.val ∧ win0_13.index t 1 = 0) ∧ (win0_14.index t 0 = 31 - t.val ∧ win0_14.index t 1 = 0) ∧
    (win0_15.index t 0 = 31 - t.val ∧ win0_15.index t 1 = 0) ∧ (win0_16.index t 0 = 31 - t.val ∧ win0_16.index t 1 = 0) := by
  decide +kernel

/-- A block of head columns, read where it lies in its array. -/
theorem block0 (hn : n.val = 31 - t.val) : cols (F := Ideal) (iblk m c 0 t) h (ix2 i d) = V m c main_arg0 (ix2 (row n i) (col h d)) := by
  obtain ⟨⟨a, b⟩, -⟩ := idx_of t
  show V m c main_arg0 ((win0_0.rect t).emb (ix2 i ⟨128 * h.val + d.val, _⟩)) = _
  refine congrArg (V m c main_arg0) (funext fun k => Fin.ext ((win0_0.rect_emb_val t _ k).trans ?_))
  match k with
  | ⟨0, _⟩ => show win0_0.index t 0 * 128 + i.val = n.val * 128 + i.val; omega
  | ⟨1, _⟩ => show win0_0.index t 1 * 512 + (128 * h.val + d.val) = h.val * 128 + d.val; omega

theorem view7 (X) (y : ((cfg0.win 7).xblock (cfg0.grid.coords t)).Idx) :
    ((cfg0.win 7).blk t).view.read (Elt Ideal) X y = X (((cfg0.win 7).blk t).view.emb y) := rfl

theorem read7 {A} (hA : V m c main_v334 = A) (y : ((cfg0.win 7).xblock (cfg0.grid.coords t)).Idx) :
    iblk m c 7 t y = A (((cfg0.win 7).blk t).view.emb y) := by
  subst hA
  exact view7 t (V m c (Pipeline.arrRef spec0 7)) y

theorem block7 {A : S4096x512.Idx → EReal} (hA : V m c main_v334 = A) (hn : n.val = 31 - t.val) :
    cols (F := Ideal) (iblk m c 7 t) h (ix2 i d) = A (ix2 (row n i) (col h d)) := by
  obtain ⟨-, -, -, -, -, -, -, ⟨a, b⟩, -⟩ := idx_of t
  unfold cols
  refine (read7 t hA _).trans (congrArg A ?_)
  refine funext fun k => Fin.ext ((win0_7.rect_emb_val t _ k).trans ?_)
  match k with
  | ⟨0, _⟩ => show win0_7.index t 0 * 128 + i.val = n.val * 128 + i.val; omega
  | ⟨1, _⟩ => show win0_7.index t 1 * 512 + (128 * h.val + d.val) = h.val * 128 + d.val; omega

theorem block5 (hn : n.val = 31 - t.val) : (iblk m c 5 t : S128x128.Idx → EReal) (ix2 i d) = V m c main_v15 (ix2 (row n i) d) := by
  obtain ⟨-, -, -, -, -, ⟨a, b⟩, -⟩ := idx_of t
  show V m c main_v15 ((win0_5.rect t).emb (ix2 i d)) = _
  refine congrArg (V m c main_v15) (funext fun k => Fin.ext ((win0_5.rect_emb_val t _ k).trans ?_))
  match k with
  | ⟨0, _⟩ => show win0_5.index t 0 * 128 + i.val = n.val * 128 + i.val; omega
  | ⟨1, _⟩ => show win0_5.index t 1 * 128 + d.val = d.val; omega

theorem block6 (hn : n.val = 31 - t.val) : (iblk m c 6 t : S128x128.Idx → EReal) (ix2 i d) = V m c main_v17 (ix2 (row n i) d) := by
  obtain ⟨-, -, -, -, -, -, ⟨a, b⟩, -⟩ := idx_of t
  show V m c main_v17 ((win0_6.rect t).emb (ix2 i d)) = _
  refine congrArg (V m c main_v17) (funext fun k => Fin.ext ((win0_6.rect_emb_val t _ k).trans ?_))
  match k with
  | ⟨0, _⟩ => show win0_6.index t 0 * 128 + i.val = n.val * 128 + i.val; omega
  | ⟨1, _⟩ => show win0_6.index t 1 * 128 + d.val = d.val; omega

theorem view8 (X) (y : ((cfg0.win 8).xblock (cfg0.grid.coords t)).Idx) :
    ((cfg0.win 8).blk t).view.read (Elt Ideal) X y = X (((cfg0.win 8).blk t).view.emb y) := rfl

theorem read8 {A} (hA : V m c main_v333 = A) (y : ((cfg0.win 8).xblock (cfg0.grid.coords t)).Idx) :
    iblk m c 8 t y = A (((cfg0.win 8).blk t).view.emb y) := by
  subst hA
  exact view8 t (V m c (Pipeline.arrRef spec0 8)) y

theorem block8 {A : S4x32x128x128.Idx → EReal} (hA : V m c main_v333 = A) (hn : n.val = 31 - t.val) :
    plane4 (F := Ideal) (iblk m c 8 t) h (ix4 0 0 p e) = A (ix4 h n p e) := by
  obtain ⟨-, -, -, -, -, -, -, -, ⟨a, b, a', b'⟩⟩ := idx_of t
  unfold plane4
  refine (read8 t hA _).trans (congrArg A ?_)
  refine funext fun k => Fin.ext ((win0_8.rect_emb_val t _ k).trans ?_)
  match k with
  | ⟨0, _⟩ => show win0_8.index t 0 * 4 + h.val = h.val; omega
  | ⟨1, _⟩ => show win0_8.index t 1 * 1 + 0 = n.val; omega
  | ⟨2, _⟩ => show win0_8.index t 2 * 128 + p.val = p.val; omega
  | ⟨3, _⟩ => show win0_8.index t 3 * 128 + e.val = e.val; omega

theorem block9 : plane (F := Ideal) (iblk m c 9 t) h (ix3 0 i d) = V m c main_v359 (ix3 h i d) := by
  obtain ⟨⟨a, b, b'⟩, -⟩ := idx_tables t
  show V m c main_v359 ((win0_9.rect t).emb (ix3 h i d)) = _
  refine congrArg (V m c main_v359) (funext fun k => Fin.ext ((win0_9.rect_emb_val t _ k).trans ?_))
  match k with
  | ⟨0, _⟩ => show win0_9.index t 0 * 4 + h.val = h.val; omega
  | ⟨1, _⟩ => show win0_9.index t 1 * 128 + i.val = i.val; omega
  | ⟨2, _⟩ => show win0_9.index t 2 * 128 + d.val = d.val; omega

theorem block10 : plane (F := Ideal) (iblk m c 10 t) h (ix3 0 i d) = V m c main_v382 (ix3 h i d) := by
  obtain ⟨-, ⟨a, b, b'⟩, -⟩ := idx_tables t
  show V m c main_v382 ((win0_10.rect t).emb (ix3 h i d)) = _
  refine congrArg (V m c main_v382) (funext fun k => Fin.ext ((win0_10.rect_emb_val t _ k).trans ?_))
  match k with
  | ⟨0, _⟩ => show win0_10.index t 0 * 4 + h.val = h.val; omega
  | ⟨1, _⟩ => show win0_10.index t 1 * 128 + i.val = i.val; omega
  | ⟨2, _⟩ => show win0_10.index t 2 * 128 + d.val = d.val; omega

theorem block11 : plane (F := Ideal) (iblk m c 11 t) h (ix3 0 i d) = V m c main_v384 (ix3 h i d) := by
  obtain ⟨-, -, ⟨a, b, b'⟩, -⟩ := idx_tables t
  show V m c main_v384 ((win0_11.rect t).emb (ix3 h i d)) = _
  refine congrArg (V m c main_v384) (funext fun k => Fin.ext ((win0_11.rect_emb_val t _ k).trans ?_))
  match k with
  | ⟨0, _⟩ => show win0_11.index t 0 * 4 + h.val = h.val; omega
  | ⟨1, _⟩ => show win0_11.index t 1 * 128 + i.val = i.val; omega
  | ⟨2, _⟩ => show win0_11.index t 2 * 128 + d.val = d.val; omega

theorem block12 : row0 (F := Ideal) (iblk m c 12 t) h (ix3 0 0 d) = V m c main_v380 (ix3 h 0 d) := by
  obtain ⟨-, -, -, ⟨a, b, b'⟩⟩ := idx_tables t
  show V m c main_v380 ((win0_12.rect t).emb (ix3 h 0 d)) = _
  refine congrArg (V m c main_v380) (funext fun k => Fin.ext ((win0_12.rect_emb_val t _ k).trans ?_))
  match k with
  | ⟨0, _⟩ => show win0_12.index t 0 * 4 + h.val = h.val; omega
  | ⟨1, _⟩ => show win0_12.index t 1 * 8 + 0 = 0; omega
  | ⟨2, _⟩ => show win0_12.index t 2 * 128 + d.val = d.val; omega

theorem whole1 (y : S128x512.Idx) : (X0_1 m c t : S128x512.Idx → EReal) y = iblk m c 1 t fun a => ⟨(y a).val, lt_of_lt_of_eq (y a).isLt (xsize0_1 t a).symm⟩ :=
  dif_pos (moved0_1 t y)

theorem view1 (X) (y : ((cfg0.win 1).xblock (cfg0.grid.coords t)).Idx) :
    ((cfg0.win 1).blk t).view.read (Elt Ideal) X y = X (((cfg0.win 1).blk t).view.emb y) := rfl

theorem read1 {A} (hA : V m c main_arg1 = A) (y : ((cfg0.win 1).xblock (cfg0.grid.coords t)).Idx) :
    iblk m c 1 t y = A (((cfg0.win 1).blk t).view.emb y) := by
  subst hA
  exact view1 t (V m c (Pipeline.arrRef spec0 1)) y

theorem block1 (h1 : V m c main_arg1 = x1) (hn : n.val = 31 - t.val) : cols (F := Ideal) (X0_1 m c t) h (ix2 i d) = packed x1 0 (row n i) h d := by
  obtain ⟨-, ⟨a, b⟩, -⟩ := idx_of t
  unfold packed
  refine (whole1 t _).trans ((read1 t h1 _).trans (congrArg x1 ?_))
  refine funext fun k => Fin.ext ((win0_1.rect_emb_val t _ k).trans ?_)
  match k with
  | ⟨0, _⟩ => show win0_1.index t 0 * 128 + i.val = n.val * 128 + i.val; omega
  | ⟨1, _⟩ => show win0_1.index t 1 * 512 + (128 * h.val + d.val) = 0 * 512 + h.val * 128 + d.val; omega

theorem whole2 (y : S128x512.Idx) : (X0_2 m c t : S128x512.Idx → EReal) y = iblk m c 2 t fun a => ⟨(y a).val, lt_of_lt_of_eq (y a).isLt (xsize0_2 t a).symm⟩ :=
  dif_pos (moved0_2 t y)

theorem view2 (X) (y : ((cfg0.win 2).xblock (cfg0.grid.coords t)).Idx) :
    ((cfg0.win 2).blk t).view.read (Elt Ideal) X y = X (((cfg0.win 2).blk t).view.emb y) := rfl

theorem read2 {A} (hA : V m c main_arg1 = A) (y : ((cfg0.win 2).xblock (cfg0.grid.coords t)).Idx) :
    iblk m c 2 t y = A (((cfg0.win 2).blk t).view.emb y) := by
  subst hA
  exact view2 t (V m c (Pipeline.arrRef spec0 2)) y

theorem block2 (h1 : V m c main_arg1 = x1) (hn : n.val = 31 - t.val) : cols (F := Ideal) (X0_2 m c t) h (ix2 i d) = packed x1 1 (row n i) h d := by
  obtain ⟨-, -, ⟨a, b⟩, -⟩ := idx_of t
  unfold packed
  refine (whole2 t _).trans ((read2 t h1 _).trans (congrArg x1 ?_))
  refine funext fun k => Fin.ext ((win0_2.rect_emb_val t _ k).trans ?_)
  match k with
  | ⟨0, _⟩ => show win0_2.index t 0 * 128 + i.val = n.val * 128 + i.val; omega
  | ⟨1, _⟩ => show win0_2.index t 1 * 512 + (128 * h.val + d.val) = 1 * 512 + h.val * 128 + d.val; omega

theorem whole3 (y : S128x512.Idx) : (X0_3 m c t : S128x512.Idx → EReal) y = iblk m c 3 t fun a => ⟨(y a).val, lt_of_lt_of_eq (y a).isLt (xsize0_3 t a).symm⟩ :=
  dif_pos (moved0_3 t y)

theorem view3 (X) (y : ((cfg0.win 3).xblock (cfg0.grid.coords t)).Idx) :
    ((cfg0.win 3).blk t).view.read (Elt Ideal) X y = X (((cfg0.win 3).blk t).view.emb y) := rfl

theorem read3 {A} (hA : V m c main_arg1 = A) (y : ((cfg0.win 3).xblock (cfg0.grid.coords t)).Idx) :
    iblk m c 3 t y = A (((cfg0.win 3).blk t).view.emb y) := by
  subst hA
  exact view3 t (V m c (Pipeline.arrRef spec0 3)) y

theorem block3 (h1 : V m c main_arg1 = x1) (hn : n.val = 31 - t.val) : cols (F := Ideal) (X0_3 m c t) h (ix2 i d) = packed x1 2 (row n i) h d := by
  obtain ⟨-, -, -, ⟨a, b⟩, -⟩ := idx_of t
  unfold packed
  refine (whole3 t _).trans ((read3 t h1 _).trans (congrArg x1 ?_))
  refine funext fun k => Fin.ext ((win0_3.rect_emb_val t _ k).trans ?_)
  match k with
  | ⟨0, _⟩ => show win0_3.index t 0 * 128 + i.val = n.val * 128 + i.val; omega
  | ⟨1, _⟩ => show win0_3.index t 1 * 512 + (128 * h.val + d.val) = 2 * 512 + h.val * 128 + d.val; omega

theorem whole4 (y : S128x512.Idx) : (X0_4 m c t : S128x512.Idx → EReal) y = iblk m c 4 t fun a => ⟨(y a).val, lt_of_lt_of_eq (y a).isLt (xsize0_4 t a).symm⟩ :=
  dif_pos (moved0_4 t y)

theorem view4 (X) (y : ((cfg0.win 4).xblock (cfg0.grid.coords t)).Idx) :
    ((cfg0.win 4).blk t).view.read (Elt Ideal) X y = X (((cfg0.win 4).blk t).view.emb y) := rfl

theorem read4 {A} (hA : V m c main_arg1 = A) (y : ((cfg0.win 4).xblock (cfg0.grid.coords t)).Idx) :
    iblk m c 4 t y = A (((cfg0.win 4).blk t).view.emb y) := by
  subst hA
  exact view4 t (V m c (Pipeline.arrRef spec0 4)) y

theorem block4 (h1 : V m c main_arg1 = x1) (hn : n.val = 31 - t.val) : cols (F := Ideal) (X0_4 m c t) h (ix2 i d) = packed x1 3 (row n i) h d := by
  obtain ⟨-, -, -, -, ⟨a, b⟩, -⟩ := idx_of t
  unfold packed
  refine (whole4 t _).trans ((read4 t h1 _).trans (congrArg x1 ?_))
  refine funext fun k => Fin.ext ((win0_4.rect_emb_val t _ k).trans ?_)
  match k with
  | ⟨0, _⟩ => show win0_4.index t 0 * 128 + i.val = n.val * 128 + i.val; omega
  | ⟨1, _⟩ => show win0_4.index t 1 * 512 + (128 * h.val + d.val) = 3 * 512 + h.val * 128 + d.val; omega

end Cert.KernelIdeal.Ret
-- ==== Proof.Ret.Real.lean ====
/- The saved raw output is real when the projections are. -/
module

public import proofs.«01_k».proof.Proof.Ret.Stack
public import proofs.«01_k».proof.Proof.Ret.Norm

@[expose] public section

set_option maxRecDepth 65536

noncomputable section

namespace Cert.ReferenceIdeal.Ret

open Idealize.ShloMosaic Idealize.ShloMosaic.TcCoe Idealize.ShloMosaic.Tactic
open Cert.ReferenceIdeal.Read Cert.KernelIdeal.Ret

variable {s t : Shape} {X Y : FVec Ideal s .f32}

theorem real_word (b : BitVec 32) (h : (b.extractLsb' 23 8).toNat ≠ 255) : ∃ r : ℝ, Ideal.ofBits FTy.f32 b = r := by
  unfold Ideal.ofBits Ideal.ieee
  dsimp only
  rw [if_neg (show ¬(b.extractLsb' 23 8).toNat = 2 ^ 8 - 1 from h)]
  split_ifs
  · exact ⟨_, rfl⟩
  · exact ⟨_, rfl⟩
  · exact ⟨_, rfl⟩
  · exact ⟨_, rfl⟩

theorem real_constant (b : BitVec 32) (h : (b.extractLsb' 23 8).toNat ≠ 255) : Reals (constant (F := Ideal) s .f32 b) :=
  fun _ => real_word b h

theorem real_add (hX : Reals X) (hY : Reals Y) : Reals (addf X Y) := fun i =>
  match hX i, hY i with
  | ⟨a, ha⟩, ⟨b, hb⟩ => ⟨a + b, (congrArg₂ (fun x y : EReal => x + y) ha hb).trans (EReal.coe_add a b).symm⟩

theorem real_sub (hX : Reals X) (hY : Reals Y) : Reals (subf X Y) := fun i =>
  match hX i, hY i with
  | ⟨a, ha⟩, ⟨b, hb⟩ => ⟨a - b, (congrArg₂ (fun x y : EReal => x - y) ha hb).trans (EReal.coe_sub a b).symm⟩

theorem real_mul (hX : Reals X) (hY : Reals Y) : Reals (mulf X Y) := fun i =>
  match hX i, hY i with
  | ⟨a, ha⟩, ⟨b, hb⟩ => ⟨a * b, (congrArg₂ (fun x y : EReal => x * y) ha hb).trans (EReal.coe_mul a b).symm⟩

theorem real_max (hX : Reals X) (hY : Reals Y) : Reals (maximumf X Y) := fun i =>
  match hX i, hY i with
  | ⟨a, ha⟩, ⟨b, hb⟩ => ⟨max a b, (congrArg₂ (fun x y : EReal => max x y) ha hb).trans (EReal.coe_strictMono.monotone.map_max).symm⟩

theorem real_neg (hX : Reals X) : Reals (Host.negf X) := fun i =>
  match hX i with
  | ⟨a, ha⟩ => ⟨-a, (congrArg (fun x : EReal => -x) ha).trans (EReal.coe_neg a).symm⟩

theorem real_exp (hX : Reals X) : Reals (Host.exp X) := fun i =>
  match hX i with
  | ⟨a, ha⟩ => ⟨Real.exp a, congrArg Ideal.exp ha⟩

theorem real_cos (hX : Reals X) : Reals (Host.cos X) := fun i =>
  match hX i with
  | ⟨a, ha⟩ => ⟨Real.cos a, congrArg Ideal.cos ha⟩

theorem real_sin (hX : Reals X) : Reals (Host.sin X) := fun i =>
  match hX i with
  | ⟨a, ha⟩ => ⟨Real.sin a, congrArg Ideal.sin ha⟩

theorem real_integer (v : IVec s 32) : Reals (sitofp (F := Ideal) .f32 v) := fun i => ⟨(v i).toInt, rfl⟩

theorem real_dot {sl sr so : Shape} (d : DotDims sl sr so) {X : FVec Ideal sl .f32} {Y : FVec Ideal sr .f32} (hX : Reals X) (hY : Reals Y) :
    Reals (Host.dotGeneral d none X Y) := fun j => by
  obtain ⟨a, rfl⟩ := Reals.lift hX
  obtain ⟨b, rfl⟩ := Reals.lift hY
  refine ⟨∑ k, a (d.lhsIdx j k) * b (d.rhsIdx j k), ?_⟩
  show (0 : EReal) + ∑ k, ((a (d.lhsIdx j k) : EReal) * (b (d.rhsIdx j k) : EReal)) = _
  rw [zero_add, ← sum_coe]
  exact Finset.sum_congr rfl fun k _ => (EReal.coe_mul _ _).symm

theorem real_transpose (p : List (Fin s.rank)) (h : s.Transposes p t) (hX : Reals X) : Reals (transpose t p X h) := fun _ => hX _

theorem real_reshape (h : s.ShapeCasts t) (hX : Reals X) : Reals (shapeCast t X h) := fun _ => hX _

theorem real_spread (d : Fin s.rank → Fin t.rank) (h : s.BroadcastsInDim t d) (hX : Reals X) : Reals (broadcastInDim t d h X) := fun _ => hX _

theorem real_block (o : Fin s.rank → ℕ) (h : s.Slices o t) (hX : Reals X) : Reals (extractStridedSlice t o X h) := fun _ => hX _

theorem real_join (a : Fin t.rank) (xs : List ((s : Shape) × (s.Idx → EReal))) (h : Shape.Concatenates (xs.map (·.1)) t a)
    (hP : ∀ p ∈ xs, Reals p.2) : Reals (concatenate t a xs h) :=
  fun j => concatenate_forall (P := fun x : EReal => ∃ r : ℝ, x = r) t a xs h hP j

variable (x1 : Vec Ideal S4096x5376 .f32) (x2 : Vec Ideal S4096 .i32)

theorem real_v12 (h : Reals x1) : Reals (val_main_v12 (F := Ideal) x1) := fun _ => h _

theorem tenThousand : Ideal.ofBits FTy.f32 0x461C4000#32 = ((10000 : ℝ) : EReal) := by
  simp [Ideal.ofBits, Ideal.ieee, -EReal.coe_mul]
  norm_num

theorem sixtyFour : Ideal.ofBits FTy.f32 0x42800000#32 = ((64 : ℝ) : EReal) := by
  simp [Ideal.ofBits, Ideal.ieee, -EReal.coe_mul]
  norm_num

theorem real_v20 : Reals (val_main_v20 (F := Ideal)) := fun i => by
  refine ⟨1 / Real.rpow 10000 ((((iotaInDim S64 32 0 i : BitVec 32).toInt : ℤ) : ℝ) / 64), ?_⟩
  show Ideal.div (Ideal.ofBits FTy.f32 0x3F800000#32) (Ideal.pow (Ideal.ofBits FTy.f32 0x461C4000#32)
    (Ideal.div (((iotaInDim S64 32 0 i : BitVec 32).toInt : ℝ) : EReal) (Ideal.ofBits FTy.f32 0x42800000#32))) = _
  rw [Ideal.ofBits_one_f32, tenThousand, sixtyFour, Cert.KernelIdeal.Ret.div_coe _ _ (by norm_num), Ideal.pow_coe_coe, one_coe,
    Cert.KernelIdeal.Ret.div_coe _ (Real.rpow 10000 _) (Real.rpow_pos_of_pos (by norm_num) _).ne']

theorem real_v26 : Reals (val_main_v26 (F := Ideal) x2) := real_mul (fun _ => real_integer _ _) (fun _ => real_v20 _)

theorem real_v46 (h : Reals x1) : Reals (val_main_v46 (F := Ideal) x1 x2) := by
  have h12 := real_v12 x1 h
  have h37 : Reals (val_main_v37 (F := Ideal) x1 x2) := real_sub (real_mul (fun _ => h12 _) (fun _ => real_cos (real_v26 x2) _)) (real_mul (fun _ => h12 _) (fun _ => real_sin (real_v26 x2) _))
  have h42 : Reals (val_main_v42 (F := Ideal) x1 x2) := real_add (real_mul (fun _ => h12 _) (fun _ => real_sin (real_v26 x2) _)) (real_mul (fun _ => h12 _) (fun _ => real_cos (real_v26 x2) _))
  have h45 : Reals (val_main_v45 (F := Ideal) x1 x2) := real_join (t := S1x4096x4x64x2) 4 _ _ fun p hp => by
    rcases List.mem_pair.1 hp with rfl | rfl
    · exact fun _ => h37 _
    · exact fun _ => h42 _
  exact fun _ => h45 _

theorem real_v81 (h : Reals x1) : Reals (val_main_v81 (F := Ideal) x1 x2) := by
  have h47 : Reals (val_main_v47 (F := Ideal) x1) := fun _ => h _
  have h61 : Reals (val_main_v61 (F := Ideal) x2) := real_v26 x2
  have h72 : Reals (val_main_v72 (F := Ideal) x1 x2) := real_sub (real_mul (fun _ => h47 _) (fun _ => real_cos h61 _)) (real_mul (fun _ => h47 _) (fun _ => real_sin h61 _))
  have h77 : Reals (val_main_v77 (F := Ideal) x1 x2) := real_add (real_mul (fun _ => h47 _) (fun _ => real_sin h61 _)) (real_mul (fun _ => h47 _) (fun _ => real_cos h61 _))
  have h80 : Reals (val_main_v80 (F := Ideal) x1 x2) := real_join (t := S1x4096x4x64x2) 4 _ _ fun p hp => by
    rcases List.mem_pair.1 hp with rfl | rfl
    · exact fun _ => h72 _
    · exact fun _ => h77 _
  exact fun _ => h80 _

theorem logTwo : Ideal.ofBits FTy.f32 0x3F317218#32 = ((11629080 / 2 ^ 24 : ℝ) : EReal) := by
  simp [Ideal.ofBits, Ideal.ieee, -EReal.coe_mul]
  norm_num

theorem minusFive : Ideal.ofBits FTy.f32 0xC0A00000#32 = ((-5 : ℝ) : EReal) := by
  simp [Ideal.ofBits, Ideal.ieee, -EReal.coe_mul, -EReal.coe_neg]
  norm_num

theorem real_v98 : Reals (val_main_v98 (F := Ideal)) := fun i => by
  obtain ⟨k, rfl⟩ : ∃ k : Fin 4, i = ix1 k := ⟨i 0, (ix1_eta i).symm⟩
  show ∃ r : ℝ, Ideal.log (1 + -Ideal.exp (Ideal.ofBits FTy.f32 0x3F317218#32 * (Ideal.ofBits FTy.f32 0xC0A00000#32 -
    (((iotaInDim S4 32 0 (ix1 k) : BitVec 32).toInt : ℝ) : EReal)))) = r
  have hk : (iotaInDim S4 32 0 (ix1 k) : BitVec 32).toInt = (k.val : ℤ) := by
    match k with
    | ⟨0, _⟩ => rfl
    | ⟨1, _⟩ => rfl
    | ⟨2, _⟩ => rfl
    | ⟨3, _⟩ => rfl
  rw [hk, logTwo, minusFive, ← EReal.coe_sub, ← EReal.coe_mul, Ideal.exp_coe, ← EReal.coe_neg, one_coe, ← EReal.coe_add, Ideal.log_coe]
  have hneg : (11629080 / 2 ^ 24 : ℝ) * (-5 - ((k.val : ℤ) : ℝ)) < 0 := by
    have : (0 : ℝ) ≤ ((k.val : ℤ) : ℝ) := by positivity
    exact mul_neg_of_pos_of_neg (by norm_num) (by linarith)
  rw [if_neg (by have := Real.exp_lt_exp.2 hneg; rw [Real.exp_zero] at this; linarith)]
  exact ⟨_, rfl⟩

theorem real_v115 : Reals (val_main_v115 (F := Ideal)) := fun i => by
  have h99 : Reals (val_main_v99 (F := Ideal)) := real_integer _
  have h104 : Reals (val_main_v104 (F := Ideal)) := real_sub (fun _ => h99 _) (fun _ => h99 _)
  have h109 : Reals (val_main_v109 (F := Ideal)) := real_max h104 (fun _ => real_word 0x00000000#32 (by decide))
  have h114 : Reals (val_main_v114 (F := Ideal)) := real_exp (real_mul (fun _ => real_v98 _) (fun _ => h109 _))
  show ∃ r : ℝ, Scalar.select _ (val_main_v114 (F := Ideal) i) (Ideal.ofBits FTy.f32 0x00000000#32) = r
  unfold Scalar.select
  split_ifs
  · exact h114 i
  · exact real_word 0x00000000#32 (by decide)

theorem real_v128 : Reals (val_main_v128 (F := Ideal)) := by
  have h123 : Reals (val_main_v123 (F := Ideal)) := real_sub (fun _ => real_word 0x42FE0000#32 (by decide)) (real_integer _)
  exact real_exp (real_mul (fun _ => real_v98 _) (fun _ => h123 _))

theorem real_v135 : Reals (val_main_v135 (F := Ideal)) :=
  real_exp (real_mul real_v98 (fun _ => real_word 0x43000000#32 (by decide)))

theorem real_v344 : Reals (val_main_v344 (F := Ideal)) := by
  have h339 : Reals (val_main_v339 (F := Ideal)) := real_add (real_integer _) (fun _ => real_word 0x3F800000#32 (by decide))
  exact real_exp (real_mul (fun _ => real_v98 _) (fun _ => h339 _))

theorem real_v84 (h : Reals x1) : Reals (val_main_v84 (F := Ideal) x1 x2) := by
  have h83 : Reals (val_main_v83 (F := Ideal) x1 x2) := real_reshape _ (real_v46 x1 x2 h)
  exact real_transpose _ _ h83

theorem real_v88 (h : Reals x1) : Reals (val_main_v88 (F := Ideal) x1 x2) := by
  have h85 : Reals (val_main_v85 (F := Ideal) x1 x2) := real_reshape _ (real_v81 x1 x2 h)
  have h86 : Reals (val_main_v86 (F := Ideal) x1 x2) := real_transpose _ _ h85
  have h87 : Reals (val_main_v87 (F := Ideal)) := real_spread _ _ (real_constant (s := S_) 0x3DB504F3#32 (by decide))
  exact real_mul h86 h87

theorem real_v90 (h : Reals x1) : Reals (val_main_v90 (F := Ideal) x1) := by
  have h2 : Reals (val_main_v2 (F := Ideal) x1) := real_block _ _ h
  have h10 : Reals (val_main_v10 (F := Ideal) x1) := real_spread _ _ h2
  have h82 : Reals (val_main_v82 (F := Ideal) x1) := real_reshape _ h10
  have h89 : Reals (val_main_v89 (F := Ideal) x1) := real_reshape _ h82
  exact real_transpose _ _ h89

theorem real_v120 (h : Reals x1) : Reals (val_main_v120 (F := Ideal) x1 x2) := by
  have h117 : Reals (val_main_v117 (F := Ideal)) := real_spread _ _ real_v115
  have h118 : Reals (val_main_v118 (F := Ideal)) := real_spread _ _ h117
  have h116 : Reals (val_main_v116 (F := Ideal) x1 x2) := real_dot _ (real_v84 x1 x2 h) (real_v88 x1 x2 h)
  have h119 : Reals (val_main_v119 (F := Ideal) x1 x2) := real_mul h116 h118
  exact real_dot _ h119 (real_v90 x1 h)

theorem real_v132 (h : Reals x1) : Reals (val_main_v132 (F := Ideal) x1 x2) := by
  have h129 : Reals (val_main_v129 (F := Ideal)) := real_spread _ _ real_v128
  have h130 : Reals (val_main_v130 (F := Ideal)) := real_spread _ _ h129
  have h131 : Reals (val_main_v131 (F := Ideal) x1 x2) := real_mul (real_v88 x1 x2 h) h130
  exact real_dot _ h131 (real_v90 x1 h)

/-- The state before chunk `t`. -/
def past : ℕ → FVec Ideal S1x4x128x128 .f32
  | 0 => val_main_v137 (F := Ideal)
  | t + 1 => if ht : t < 32 then
      addf (F := Ideal) (φ := FTy.f32) (mulf (F := Ideal) (φ := FTy.f32) (broadcastInDim S1x4x128x128 ![0, 1, 2, 3] Gen.bcast_S1x4x1x1_S1x4x128x128_0_1_2_3 (val_main_v136 (F := Ideal))) (past t))
        (shapeCast _ (extractStridedSlice S1x1x4x128x128 ![t, 0, 0, 0, 0] (val_main_v139 (F := Ideal) x1 x2) (slices_at t ht)) Gen.shapeCasts_S1x1x4x128x128_S1x4x128x128)
    else past t

theorem real_past (h : Reals x1) (t : ℕ) : Reals (past x1 x2 t) := by
  induction t with
  | zero => exact real_spread _ Gen.bcast_S_S1x4x128x128 (real_constant (s := S_) 0x00000000#32 (by decide))
  | succ t ih =>
    unfold past
    split_ifs with ht
    · have h136 : Reals (val_main_v136 (F := Ideal)) := real_spread _ _ real_v135
      have h139 : Reals (val_main_v139 (F := Ideal) x1 x2) := real_block _ _ (real_v132 x1 x2 h)
      exact real_add (real_mul (real_spread _ _ h136) ih) (real_reshape _ (real_block _ _ h139))
    · exact ih

theorem v333_eq (q) : val_main_v333 (F := Ideal) x1 x2 = concatenate S16x1x4x128x128 0
    (List.ofFn fun k : Fin 16 => (⟨S1x1x4x128x128, single (past x1 x2 k.val)⟩ : (s : Shape) × (s.Idx → Ideal .f32))) q := rfl

theorem v334_eq (q) : val_main_v334 (F := Ideal) x1 x2 = concatenate S16x1x4x128x128 0
    (List.ofFn fun k : Fin 16 => (⟨S1x1x4x128x128, single (past x1 x2 (16 + k.val))⟩ : (s : Shape) × (s.Idx → Ideal .f32))) q := rfl

theorem real_stack {f : Fin 16 → FVec Ideal S1x4x128x128 .f32} (hf : ∀ k, Reals (f k)) (q) : Reals (concatenate S16x1x4x128x128 0
    (List.ofFn fun k : Fin 16 => (⟨S1x1x4x128x128, single (f k)⟩ : (s : Shape) × (s.Idx → Ideal .f32))) q) :=
  real_join (t := S16x1x4x128x128) 0 _ q fun p hp => by
    obtain ⟨k, rfl⟩ := (List.mem_ofFn).1 hp
    have hk : Reals (single (f k)) := real_spread _ _ (hf k)
    exact hk

theorem real_v336 (h : Reals x1) : Reals (val_main_v336 (F := Ideal) x1 x2) := by
  have h333 : Reals (val_main_v333 (F := Ideal) x1 x2) := by
    rw [v333_eq x1 x2 fits]
    exact real_stack (fun k => real_past x1 x2 h _) _
  have h334 : Reals (val_main_v334 (F := Ideal) x1 x2) := by
    rw [v334_eq x1 x2 fits]
    exact real_stack (fun k => real_past x1 x2 h _) _
  have h335 : Reals (val_main_v335 (F := Ideal) x1 x2) := real_join (t := S32x1x4x128x128) 0 _ _ fun p hp => by
    rcases List.mem_pair.1 hp with rfl | rfl
    · exact h333
    · exact h334
  have h140 : Reals (val_main_v140 (F := Ideal)) := real_spread _ Gen.bcast_S_S0x1x4x128x128 (real_constant (s := S_) 0x00000000#32 (by decide))
  exact real_join (t := S32x1x4x128x128) 0 _ _ fun p hp => by
    rcases List.mem_pair.1 hp with rfl | rfl
    · exact h140
    · exact h335

theorem real_v351 (h : Reals x1) : Reals (val_main_v351 (F := Ideal) x1 x2) := by
  have h345 : Reals (val_main_v345 (F := Ideal)) := real_spread _ _ real_v344
  have h346 : Reals (val_main_v346 (F := Ideal)) := real_spread _ _ h345
  have h347 : Reals (val_main_v347 (F := Ideal) x1 x2) := real_mul (real_v84 x1 x2 h) h346
  have h348 : Reals (val_main_v348 (F := Ideal) x1 x2) := real_dot _ h347 (real_v336 x1 x2 h)
  have h349 : Reals (val_main_v349 (F := Ideal) x1 x2) := real_add (real_v120 x1 x2 h) h348
  have h350 : Reals (val_main_v350 (F := Ideal) x1 x2) := real_transpose _ _ h349
  exact real_reshape _ h350

end Cert.ReferenceIdeal.Ret
-- ==== Proof.Ret.Point.lean ====
/- At a grid point: the tiles of a head are the reference's values at the point's chunk and the head, and the state gradient
   carried into the next point is the reference's. -/
module

public import proofs.«01_k».proof.Proof.Ret.Blocks
public import proofs.«01_k».proof.Proof.Ret.Real

@[expose] public section

set_option maxRecDepth 65536

noncomputable section

namespace Cert.KernelIdeal.Ret

open Cert.KernelIdeal Cert.KernelIdeal.Gen Idealize.ShloMosaic Idealize.ShloMosaic.TcCoe Idealize.ShloMosaic.StableHlo
open Cert.ReferenceIdeal.Read

section Reference

variable (x1 : Vec Ideal S4096x5376 .f32) (x2 : Vec Ideal S4096 .i32)
variable (n : Fin 32) (h : Fin 4) (i d e p : Fin 128) (j : Fin 64)

/-- Chunk `n` of head `h`, cut from the rows. -/
theorem chunk_at (X : Vec Ideal Cert.ReferenceIdeal.S1x4096x4x128 .f32) :
    transpose Cert.ReferenceIdeal.S1x4x32x128x128 [0, 3, 1, 2, 4] (shapeCast _ X Cert.ReferenceIdeal.Gen.shapeCasts_S1x4096x4x128_S1x32x128x4x128)
      Cert.ReferenceIdeal.Gen.transposes_S1x32x128x4x128_S1x4x32x128x128_0_3_1_2_4 (ix5 0 h n i d) = X (ix4 0 (row n i) h d) := by
  pointwise
  rfl

theorem rQ_at : rQ x1 x2 h n i d = val_main_v46 (F := Ideal) x1 x2 (ix4 0 (row n i) h d) :=
  chunk_at n h i d (val_main_v46 (F := Ideal) x1 x2)

theorem v86_at : val_main_v86 (F := Ideal) x1 x2 (ix5 0 h n i d) = val_main_v81 (F := Ideal) x1 x2 (ix4 0 (row n i) h d) :=
  chunk_at n h i d (val_main_v81 (F := Ideal) x1 x2)

theorem v87_at : val_main_v87 (F := Ideal) (ix5 0 h n i d) = keyScale := by
  pointwise [val_main_v87]
  rfl

theorem rK_at : rK x1 x2 h n i d = val_main_v81 (F := Ideal) x1 x2 (ix4 0 (row n i) h d) * keyScale := by
  unfold rK
  rw [val_main_v88_apply, v86_at, v87_at]
  rfl

theorem rV_at : rV x1 h n i d = packed x1 2 (row n i) h d := by
  rw [← v_heads]
  unfold rV val_main_v90 val_main_v89
  generalize val_main_v82 (F := Ideal) x1 = X
  pointwise
  rfl

theorem rQ_even : rQ x1 x2 h n i (evenAt j) = packed x1 0 (row n i) h (lowAt j) * rCos x2 (row n i) j - packed x1 0 (row n i) h (highAt j) * rSin x2 (row n i) j := by
  rw [rQ_at, val_v46, (turnR_at _ _ _ _ _ _).1, (q_split _ _ _ _).1, (q_split _ _ _ _).2]
  rfl

theorem rQ_odd : rQ x1 x2 h n i (oddAt j) = packed x1 0 (row n i) h (lowAt j) * rSin x2 (row n i) j + packed x1 0 (row n i) h (highAt j) * rCos x2 (row n i) j := by
  rw [rQ_at, val_v46, (turnR_at _ _ _ _ _ _).2, (q_split _ _ _ _).1, (q_split _ _ _ _).2]
  rfl

theorem rK_even : rK x1 x2 h n i (evenAt j) = (packed x1 1 (row n i) h (lowAt j) * rCos x2 (row n i) j - packed x1 1 (row n i) h (highAt j) * rSin x2 (row n i) j) * keyScale := by
  rw [rK_at, val_v81, val_v62, val_v64, (turnR_at _ _ _ _ _ _).1, (k_split _ _ _ _).1, (k_split _ _ _ _).2]
  rfl

theorem rK_odd : rK x1 x2 h n i (oddAt j) = (packed x1 1 (row n i) h (lowAt j) * rSin x2 (row n i) j + packed x1 1 (row n i) h (highAt j) * rCos x2 (row n i) j) * keyScale := by
  rw [rK_at, val_v81, val_v62, val_v64, (turnR_at _ _ _ _ _ _).2, (k_split _ _ _ _).1, (k_split _ _ _ _).2]
  rfl

end Reference

variable {m : (ℓ : Loc nD τ sig) → Buf (Elt Ideal) ℓ} {c : Dev nD}
variable {x0 : Vec Ideal S4096x512 .f32} {x1 : Vec Ideal S4096x5376 .f32} {x2 : Vec Ideal S4096 .i32}
variable (t : Fin cfg0.N) (n : Fin 32) (h : Fin 4) (i d e p : Fin 128) (j : Fin 64)

theorem cos_tile (h2 : V m c main_arg2 = x2) (hn : n.val = 31 - t.val) : (iblk m c 5 t : S128x128.Idx → EReal) (ix2 i (lowAt j)) = rCos x2 (row n i) j ∧
    (iblk m c 5 t : S128x128.Idx → EReal) (ix2 i (highAt j)) = rCos x2 (row n i) j :=
  ⟨(block5 t n i _ hn).trans (found_cos _ _ h2).1, (block5 t n i _ hn).trans (found_cos _ _ h2).2⟩

theorem sin_tile (h2 : V m c main_arg2 = x2) (hn : n.val = 31 - t.val) : (iblk m c 6 t : S128x128.Idx → EReal) (ix2 i (lowAt j)) = -rSin x2 (row n i) j ∧
    (iblk m c 6 t : S128x128.Idx → EReal) (ix2 i (highAt j)) = rSin x2 (row n i) j :=
  ⟨(block6 t n i _ hn).trans (found_sin _ _ h2).1, (block6 t n i _ hn).trans (found_sin _ _ h2).2⟩

theorem q_tile (h1 : V m c main_arg1 = x1) (h2 : V m c main_arg2 = x2) (hn : n.val = 31 - t.val) :
    k0_pay5 (F := Ideal) (iblk m c 5 t) (iblk m c 6 t) (cols (X0_1 m c t) h) (ix2 i p) = rQ x1 x2 h n i (place p) := by
  rcases low_or_high p with ⟨j, rfl⟩ | ⟨j, rfl⟩
  · rw [pay5_low, place_low, rQ_even, block1 t n h i _ h1 hn, block1 t n h i _ h1 hn, (cos_tile t n i j h2 hn).1, (sin_tile t n i j h2 hn).1, mul_neg, sub_eq_add_neg]
  · rw [pay5_high, place_high, rQ_odd, block1 t n h i _ h1 hn, block1 t n h i _ h1 hn, (cos_tile t n i j h2 hn).2, (sin_tile t n i j h2 hn).2, add_comm]

theorem k_tile (h1 : V m c main_arg1 = x1) (h2 : V m c main_arg2 = x2) (hn : n.val = 31 - t.val) :
    k0_pay6 (F := Ideal) (iblk m c 5 t) (iblk m c 6 t) (cols (X0_2 m c t) h) (ix2 i p) = rK x1 x2 h n i (place p) := by
  rcases low_or_high p with ⟨j, rfl⟩ | ⟨j, rfl⟩
  · rw [pay6_low, place_low, rK_even, block2 t n h i _ h1 hn, block2 t n h i _ h1 hn, (cos_tile t n i j h2 hn).1, (sin_tile t n i j h2 hn).1, mul_neg, sub_eq_add_neg]
  · rw [pay6_high, place_high, rK_odd, block2 t n h i _ h1 hn, block2 t n h i _ h1 hn, (cos_tile t n i j h2 hn).2, (sin_tile t n i j h2 hn).2, add_comm]

theorem v_tile (h1 : V m c main_arg1 = x1) (hn : n.val = 31 - t.val) : cols (F := Ideal) (X0_3 m c t) h (ix2 i e) = rV x1 h n i e :=
  (block3 t n h i e h1 hn).trans (rV_at x1 n h i e).symm

theorem m_tile : plane (F := Ideal) (iblk m c 9 t) h (ix3 0 i p) = rM h i p :=
  (block9 t h i p).trans (congrFun found_v359 (ix3 h i p))

theorem qd_tile : plane (F := Ideal) (iblk m c 10 t) h (ix3 0 i p) = rQD h i := (block10 t h i p).trans (qd_at h i p)

theorem kd_tile : plane (F := Ideal) (iblk m c 11 t) h (ix3 0 i p) = rKD h i := (block11 t h i p).trans (kd_at h i p)

theorem cd_tile : row0 (F := Ideal) (iblk m c 12 t) h (ix3 0 0 p) = val_main_v135 (F := Ideal) (ix1 h) := (block12 t h p).trans (cd_at h p 0)

theorem s_tile (h1 : V m c main_arg1 = x1) (h2 : V m c main_arg2 = x2) (hn : n.val = 31 - t.val) :
    plane4 (F := Ideal) (iblk m c 8 t) h (ix4 0 0 p e) = rP x1 x2 h n (place p) e :=
  (block8 t n h e p rfl hn).trans (states_at n h e p h1 h2)

theorem raw_tile (h1 : V m c main_arg1 = x1) (h2 : V m c main_arg2 = x2) (hn : n.val = 31 - t.val) :
    cols (F := Ideal) (iblk m c 7 t) h (ix2 i d) = aRow x1 x2 (row n i) h d :=
  (block7 t n h i d rfl hn).trans (raw_at h d h1 h2 (row n i))

theorem dy_tile (h0 : V m c main_arg0 = x0) (hn : n.val = 31 - t.val) : cols (F := Ideal) (iblk m c 0 t) h (ix2 i d) = x0 (ix2 (row n i) (col h d)) :=
  (block0 t n h i d hn).trans (by rw [h0])

theorem packed_real (r1 : Reals x1) (o : Fin 4) (r : Fin 4096) : ∃ a : ℝ, packed x1 o r h d = a := r1 _

theorem nRow_real (r0 : Reals x0) (r1 : Reals x1) (r : Fin 4096) : Reals (nRow x0 x1 r h) := fun d => by
  obtain ⟨a, ha⟩ := r0 (ix2 r (col h d))
  obtain ⟨b, hb⟩ := packed_real h d r1 3 r
  refine ⟨a * (b * (1 / (1 + Real.exp (-b)))), ?_⟩
  rw [nRow_at, ha, hb, gate_coe, ← EReal.coe_mul, ← EReal.coe_mul]

theorem aRow_real (r1 : Reals x1) (r : Fin 4096) : Reals (aRow x1 x2 r h) := fun d => Cert.ReferenceIdeal.Ret.real_v351 x1 x2 r1 _

theorem r_tile (h0 : V m c main_arg0 = x0) (h1 : V m c main_arg1 = x1) (h2 : V m c main_arg2 = x2) (r0 : Reals x0) (r1 : Reals x1) (hn : n.val = 31 - t.val) :
    hDyr (F := Ideal) (cols (X0_4 m c t) h) (cols (iblk m c 7 t) h) (cols (iblk m c 0 t) h) (ix2 i e) = rR x0 x1 x2 h n i e := by
  rw [dyr_head, rR_at, ← rowGrad_eq _ _ (aRow_real h r1 _) (nRow_real h r0 r1 _)]
  simp only [raw_tile t n h i _ h1 h2 hn, dy_tile t n h i _ h0 hn, block4 t n h i _ h1 hn]
  exact congrArg (fun q => rowGrad (aRow x1 x2 (row n i) h) q e) (funext fun x => (nRow_at x0 x1 h (row n i) x).symm)

end Cert.KernelIdeal.Ret
-- ==== Proof.Ret.FirstPoint.lean ====
/- What the first grid point leaves in each output block and in the carried state gradient: the head functions over no later chunk. -/
module

public import proofs.«01_k».proof.Proof.Ret.Heads

@[expose] public section

set_option maxRecDepth 16384

noncomputable section

namespace Cert.KernelIdeal.Ret

open Cert.KernelIdeal Cert.KernelIdeal.Gen Idealize.ShloMosaic Idealize.ShloMosaic.TcCoe Idealize.ShloMosaic.Tactic

variable {F : FTy → Type} [FloatOps F]

/-- The state gradient before the first grid point: zero. -/
def noD : Vec F S1x128x128 .f32 := broadcast S1x128x128 (Scalar.ofBits .f32 0x00000000#32)

theorem load_blank (v : View sig .tc .vmem S4x128x128 .f32) (L : List (View.Piece (Elt F) S4x128x128 .f32)) (o : ℕ)
    (inb : ∀ a, (![0, 0, 0] : Fin 3 → ℕ) a + S4x128x128.size a ≤ S4x128x128.size a)
    (inb' : ∀ a, (![o, 0, 0] : Fin 3 → ℕ) a + (![1, 128, 128] : Fin 3 → ℕ) a ≤ S4x128x128.size a) :
    v.readCov (⟨Rect.unit ![0, 0, 0] S4x128x128.size inb, k0_pay2⟩ :: L)
      (Rect.unit (s := S4x128x128) ![o, 0, 0] ![1, 128, 128] inb').toLoadRect = (noD : Vec F S1x128x128 .f32) := by
  rw [View.readCov_fill v inb k0_pay2 L _ (fun a => match a with | ⟨0, _⟩ => rfl | ⟨1, _⟩ => rfl | ⟨2, _⟩ => rfl)]
  funext j
  unfold k0_pay2
  rfl

theorem first_load_0 (v : View sig .tc .vmem S4x128x128 .f32)  :
    v.readCov [⟨Rect.unit ![0, 0, 0] S4x128x128.size inb_S4x128x128_S4x128x128_0_0_0, k0_pay2⟩]
      (Rect.unit (s := S4x128x128) ![0, 0, 0] ![1, 128, 128] inb_S4x128x128_S1x128x128_0_0_0).toLoadRect = (noD : Vec F S1x128x128 .f32) := by
  rw [load_blank]

theorem first_load_1 (v : View sig .tc .vmem S4x128x128 .f32) (w0 : Vec F S1x128x128 .f32) :
    v.readCov [⟨Rect.unit ![0, 0, 0] ![1, 128, 128] inb_S4x128x128_S1x128x128_0_0_0, w0⟩, ⟨Rect.unit ![0, 0, 0] S4x128x128.size inb_S4x128x128_S4x128x128_0_0_0, k0_pay2⟩]
      (Rect.unit (s := S4x128x128) ![1, 0, 0] ![1, 128, 128] inb_S4x128x128_S1x128x128_1_0_0).toLoadRect = (noD : Vec F S1x128x128 .f32) := by
  rw [View.readCov_skip _ _ _ _ _ (by decide), load_blank]

theorem first_load_2 (v : View sig .tc .vmem S4x128x128 .f32) (w0 : Vec F S1x128x128 .f32) (w1 : Vec F S1x128x128 .f32) :
    v.readCov [⟨Rect.unit ![1, 0, 0] ![1, 128, 128] inb_S4x128x128_S1x128x128_1_0_0, w1⟩, ⟨Rect.unit ![0, 0, 0] ![1, 128, 128] inb_S4x128x128_S1x128x128_0_0_0, w0⟩, ⟨Rect.unit ![0, 0, 0] S4x128x128.size inb_S4x128x128_S4x128x128_0_0_0, k0_pay2⟩]
      (Rect.unit (s := S4x128x128) ![2, 0, 0] ![1, 128, 128] inb_S4x128x128_S1x128x128_2_0_0).toLoadRect = (noD : Vec F S1x128x128 .f32) := by
  rw [View.readCov_skip _ _ _ _ _ (by decide), View.readCov_skip _ _ _ _ _ (by decide), load_blank]

theorem first_load_3 (v : View sig .tc .vmem S4x128x128 .f32) (w0 : Vec F S1x128x128 .f32) (w1 : Vec F S1x128x128 .f32) (w2 : Vec F S1x128x128 .f32) :
    v.readCov [⟨Rect.unit ![2, 0, 0] ![1, 128, 128] inb_S4x128x128_S1x128x128_2_0_0, w2⟩, ⟨Rect.unit ![1, 0, 0] ![1, 128, 128] inb_S4x128x128_S1x128x128_1_0_0, w1⟩, ⟨Rect.unit ![0, 0, 0] ![1, 128, 128] inb_S4x128x128_S1x128x128_0_0_0, w0⟩, ⟨Rect.unit ![0, 0, 0] S4x128x128.size inb_S4x128x128_S4x128x128_0_0_0, k0_pay2⟩]
      (Rect.unit (s := S4x128x128) ![3, 0, 0] ![1, 128, 128] inb_S4x128x128_S1x128x128_3_0_0).toLoadRect = (noD : Vec F S1x128x128 .f32) := by
  rw [View.readCov_skip _ _ _ _ _ (by decide), View.readCov_skip _ _ _ _ _ (by decide), View.readCov_skip _ _ _ _ _ (by decide), load_blank]

theorem dq_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S4x1x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x512 .bf16) (harg17 : arg17.IsWhole) (arg18 : Memref sig .tc .vmem S4x128x128 .f32) (harg18 : arg18.IsWhole) (hc0 : cond0_0 i)
    (x0 : Vec F S128x512 .f32) (x1 : Vec F S128x512 .f32) (x2 : Vec F S128x512 .f32) (x3 : Vec F S128x512 .f32) (x4 : Vec F S128x512 .f32) (x5 : Vec F S128x128 .f32) (x6 : Vec F S128x128 .f32) (x7 : Vec F S128x512 .f32) (x8 : Vec F S4x1x128x128 .f32) (x9 : Vec F S4x128x128 .f32) (x10 : Vec F S4x128x128 .f32) (x11 : Vec F S4x128x128 .f32) (x12 : Vec F S4x8x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 =
      beside fun h => hDq x5 x6 (cols x2 h) (cols x3 h) (cols x4 h) (cols x0 h) (cols x7 h) (plane4 x8 h) (plane x9 h) (plane x10 h) := by
  funext y
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  refine View.canon_apply_of_pieces _ _ (View.PiecesOf.mem ?_) y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 y)
  unfold kernelRun0_A
  sl_unfold_words
  refine ⟨tile_beside _ 3 384 rfl inb_S128x512_S128x128_0_384 _ ?_, tile_beside _ 2 256 rfl inb_S128x512_S128x128_0_256 _ ?_, tile_beside _ 1 128 rfl inb_S128x512_S128x128_0_128 _ ?_, tile_beside _ 0 0 rfl inb_S128x512_S128x128_0_0 _ ?_, trivial⟩
  · simp only [load_cols _ _ _ 3 384 rfl, load_tile, load_plane _ _ _ 3 3 rfl, load_plane4 _ _ _ 3 3 rfl, load_row0 _ _ _ 3 3 rfl]
    rfl
  · simp only [load_cols _ _ _ 2 256 rfl, load_tile, load_plane _ _ _ 2 2 rfl, load_plane4 _ _ _ 2 2 rfl, load_row0 _ _ _ 2 2 rfl]
    rfl
  · simp only [load_cols _ _ _ 1 128 rfl, load_tile, load_plane _ _ _ 1 1 rfl, load_plane4 _ _ _ 1 1 rfl, load_row0 _ _ _ 1 1 rfl]
    rfl
  · simp only [load_cols _ _ _ 0 0 rfl, load_tile, load_plane _ _ _ 0 0 rfl, load_plane4 _ _ _ 0 0 rfl, load_row0 _ _ _ 0 0 rfl]
    rfl

theorem dk_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S4x1x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x512 .bf16) (harg17 : arg17.IsWhole) (arg18 : Memref sig .tc .vmem S4x128x128 .f32) (harg18 : arg18.IsWhole) (hc0 : cond0_0 i)
    (x0 : Vec F S128x512 .f32) (x1 : Vec F S128x512 .f32) (x2 : Vec F S128x512 .f32) (x3 : Vec F S128x512 .f32) (x4 : Vec F S128x512 .f32) (x5 : Vec F S128x128 .f32) (x6 : Vec F S128x128 .f32) (x7 : Vec F S128x512 .f32) (x8 : Vec F S4x1x128x128 .f32) (x9 : Vec F S4x128x128 .f32) (x10 : Vec F S4x128x128 .f32) (x11 : Vec F S4x128x128 .f32) (x12 : Vec F S4x8x128 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 =
      beside fun h => hDk x5 x6 (cols x1 h) (cols x3 h) (cols x4 h) (cols x0 h) (cols x7 h) (plane x9 h) (plane x11 h) (noD) := by
  funext y
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  refine View.canon_apply_of_pieces _ _ (View.PiecesOf.mem ?_) y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 y)
  unfold kernelRun0_A
  sl_unfold_words
  refine ⟨tile_beside _ 3 384 rfl inb_S128x512_S128x128_0_384 _ ?_, tile_beside _ 2 256 rfl inb_S128x512_S128x128_0_256 _ ?_, tile_beside _ 1 128 rfl inb_S128x512_S128x128_0_128 _ ?_, tile_beside _ 0 0 rfl inb_S128x512_S128x128_0_0 _ ?_, trivial⟩
  · rw [first_load_3]
    simp only [load_cols _ _ _ 3 384 rfl, load_tile, load_plane _ _ _ 3 3 rfl, load_plane4 _ _ _ 3 3 rfl, load_row0 _ _ _ 3 3 rfl]
    rfl
  · rw [first_load_2]
    simp only [load_cols _ _ _ 2 256 rfl, load_tile, load_plane _ _ _ 2 2 rfl, load_plane4 _ _ _ 2 2 rfl, load_row0 _ _ _ 2 2 rfl]
    rfl
  · rw [first_load_1]
    simp only [load_cols _ _ _ 1 128 rfl, load_tile, load_plane _ _ _ 1 1 rfl, load_plane4 _ _ _ 1 1 rfl, load_row0 _ _ _ 1 1 rfl]
    rfl
  · rw [first_load_0]
    simp only [load_cols _ _ _ 0 0 rfl, load_tile, load_plane _ _ _ 0 0 rfl, load_plane4 _ _ _ 0 0 rfl, load_row0 _ _ _ 0 0 rfl]
    rfl

theorem dv_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S4x1x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x512 .bf16) (harg17 : arg17.IsWhole) (arg18 : Memref sig .tc .vmem S4x128x128 .f32) (harg18 : arg18.IsWhole) (hc0 : cond0_0 i)
    (x0 : Vec F S128x512 .f32) (x1 : Vec F S128x512 .f32) (x2 : Vec F S128x512 .f32) (x3 : Vec F S128x512 .f32) (x4 : Vec F S128x512 .f32) (x5 : Vec F S128x128 .f32) (x6 : Vec F S128x128 .f32) (x7 : Vec F S128x512 .f32) (x8 : Vec F S4x1x128x128 .f32) (x9 : Vec F S4x128x128 .f32) (x10 : Vec F S4x128x128 .f32) (x11 : Vec F S4x128x128 .f32) (x12 : Vec F S4x8x128 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 =
      beside fun h => hDv x5 x6 (cols x1 h) (cols x2 h) (cols x4 h) (cols x0 h) (cols x7 h) (plane x9 h) (plane x11 h) (noD) := by
  funext y
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  refine View.canon_apply_of_pieces _ _ (View.PiecesOf.mem ?_) y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 y)
  unfold kernelRun0_A
  sl_unfold_words
  refine ⟨tile_beside _ 3 384 rfl inb_S128x512_S128x128_0_384 _ ?_, tile_beside _ 2 256 rfl inb_S128x512_S128x128_0_256 _ ?_, tile_beside _ 1 128 rfl inb_S128x512_S128x128_0_128 _ ?_, tile_beside _ 0 0 rfl inb_S128x512_S128x128_0_0 _ ?_, trivial⟩
  · rw [first_load_3]
    simp only [load_cols _ _ _ 3 384 rfl, load_tile, load_plane _ _ _ 3 3 rfl, load_plane4 _ _ _ 3 3 rfl, load_row0 _ _ _ 3 3 rfl]
    rfl
  · rw [first_load_2]
    simp only [load_cols _ _ _ 2 256 rfl, load_tile, load_plane _ _ _ 2 2 rfl, load_plane4 _ _ _ 2 2 rfl, load_row0 _ _ _ 2 2 rfl]
    rfl
  · rw [first_load_1]
    simp only [load_cols _ _ _ 1 128 rfl, load_tile, load_plane _ _ _ 1 1 rfl, load_plane4 _ _ _ 1 1 rfl, load_row0 _ _ _ 1 1 rfl]
    rfl
  · rw [first_load_0]
    simp only [load_cols _ _ _ 0 0 rfl, load_tile, load_plane _ _ _ 0 0 rfl, load_plane4 _ _ _ 0 0 rfl, load_row0 _ _ _ 0 0 rfl]
    rfl

theorem dg_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S4x1x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x512 .bf16) (harg17 : arg17.IsWhole) (arg18 : Memref sig .tc .vmem S4x128x128 .f32) (harg18 : arg18.IsWhole) (hc0 : cond0_0 i)
    (x0 : Vec F S128x512 .f32) (x1 : Vec F S128x512 .f32) (x2 : Vec F S128x512 .f32) (x3 : Vec F S128x512 .f32) (x4 : Vec F S128x512 .f32) (x5 : Vec F S128x128 .f32) (x6 : Vec F S128x128 .f32) (x7 : Vec F S128x512 .f32) (x8 : Vec F S4x1x128x128 .f32) (x9 : Vec F S4x128x128 .f32) (x10 : Vec F S4x128x128 .f32) (x11 : Vec F S4x128x128 .f32) (x12 : Vec F S4x8x128 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 =
      beside fun h => hDg (cols x4 h) (cols x7 h) (cols x0 h) := by
  funext y
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  refine View.canon_apply_of_pieces _ _ (View.PiecesOf.mem ?_) y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 y)
  unfold kernelRun0_A
  sl_unfold_words
  refine ⟨tile_beside _ 3 384 rfl inb_S128x512_S128x128_0_384 _ ?_, tile_beside _ 2 256 rfl inb_S128x512_S128x128_0_256 _ ?_, tile_beside _ 1 128 rfl inb_S128x512_S128x128_0_128 _ ?_, tile_beside _ 0 0 rfl inb_S128x512_S128x128_0_0 _ ?_, trivial⟩
  · simp only [load_cols _ _ _ 3 384 rfl, load_tile, load_plane _ _ _ 3 3 rfl, load_plane4 _ _ _ 3 3 rfl, load_row0 _ _ _ 3 3 rfl]
    rfl
  · simp only [load_cols _ _ _ 2 256 rfl, load_tile, load_plane _ _ _ 2 2 rfl, load_plane4 _ _ _ 2 2 rfl, load_row0 _ _ _ 2 2 rfl]
    rfl
  · simp only [load_cols _ _ _ 1 128 rfl, load_tile, load_plane _ _ _ 1 1 rfl, load_plane4 _ _ _ 1 1 rfl, load_row0 _ _ _ 1 1 rfl]
    rfl
  · simp only [load_cols _ _ _ 0 0 rfl, load_tile, load_plane _ _ _ 0 0 rfl, load_plane4 _ _ _ 0 0 rfl, load_row0 _ _ _ 0 0 rfl]
    rfl

theorem dS_A (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S4x1x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x512 .bf16) (harg17 : arg17.IsWhole) (arg18 : Memref sig .tc .vmem S4x128x128 .f32) (harg18 : arg18.IsWhole) (hc0 : cond0_0 i)
    (x0 : Vec F S128x512 .f32) (x1 : Vec F S128x512 .f32) (x2 : Vec F S128x512 .f32) (x3 : Vec F S128x512 .f32) (x4 : Vec F S128x512 .f32) (x5 : Vec F S128x128 .f32) (x6 : Vec F S128x128 .f32) (x7 : Vec F S128x512 .f32) (x8 : Vec F S4x1x128x128 .f32) (x9 : Vec F S4x128x128 .f32) (x10 : Vec F S4x128x128 .f32) (x11 : Vec F S4x128x128 .f32) (x12 : Vec F S4x8x128 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 =
      stacked fun h => hD x5 x6 (cols x1 h) (cols x4 h) (cols x0 h) (cols x7 h) (plane x10 h) (noD) (row0 x12 h) := by
  funext y
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_A
  sl_unfold_words
  show View.canon ([_, _, _, _] ++ [_]) y = _
  refine View.canon_append_of_piecesOf _ _ _ ?pcs y ?cov
  case cov => exact View.cover_of_tiledL (_ : List (View.Piece (Elt F) S4x128x128 .f32)) S1x128x128.size (by sl_kernel_rfl) y
  refine ⟨plane_stacked _ 3 3 rfl inb_S4x128x128_S1x128x128_3_0_0 _ ?_, plane_stacked _ 2 2 rfl inb_S4x128x128_S1x128x128_2_0_0 _ ?_, plane_stacked _ 1 1 rfl inb_S4x128x128_S1x128x128_1_0_0 _ ?_, plane_stacked _ 0 0 rfl inb_S4x128x128_S1x128x128_0_0_0 _ ?_, trivial⟩
  · rw [first_load_3]
    simp only [load_cols _ _ _ 3 384 rfl, load_tile, load_plane _ _ _ 3 3 rfl, load_plane4 _ _ _ 3 3 rfl, load_row0 _ _ _ 3 3 rfl]
    rfl
  · rw [first_load_2]
    simp only [load_cols _ _ _ 2 256 rfl, load_tile, load_plane _ _ _ 2 2 rfl, load_plane4 _ _ _ 2 2 rfl, load_row0 _ _ _ 2 2 rfl]
    rfl
  · rw [first_load_1]
    simp only [load_cols _ _ _ 1 128 rfl, load_tile, load_plane _ _ _ 1 1 rfl, load_plane4 _ _ _ 1 1 rfl, load_row0 _ _ _ 1 1 rfl]
    rfl
  · rw [first_load_0]
    simp only [load_cols _ _ _ 0 0 rfl, load_tile, load_plane _ _ _ 0 0 rfl, load_plane4 _ _ _ 0 0 rfl, load_row0 _ _ _ 0 0 rfl]
    rfl

end Cert.KernelIdeal.Ret

end
-- ==== Proof.Ret.LaterPoint.lean ====
/- What a grid point after the first leaves in each output block and in the carried state gradient: one head function per head. -/
module

public import proofs.«01_k».proof.Proof.Ret.Heads

@[expose] public section

set_option maxRecDepth 16384

noncomputable section

namespace Cert.KernelIdeal.Ret

open Cert.KernelIdeal Cert.KernelIdeal.Gen Idealize.ShloMosaic Idealize.ShloMosaic.TcCoe Idealize.ShloMosaic.Tactic

variable {F : FTy → Type} [FloatOps F]

theorem dq_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S4x1x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x512 .bf16) (harg17 : arg17.IsWhole) (arg18 : Memref sig .tc .vmem S4x128x128 .f32) (harg18 : arg18.IsWhole) (hc0 : ¬cond0_0 i)
    (x0 : Vec F S128x512 .f32) (x1 : Vec F S128x512 .f32) (x2 : Vec F S128x512 .f32) (x3 : Vec F S128x512 .f32) (x4 : Vec F S128x512 .f32) (x5 : Vec F S128x128 .f32) (x6 : Vec F S128x128 .f32) (x7 : Vec F S128x512 .f32) (x8 : Vec F S4x1x128x128 .f32) (x9 : Vec F S4x128x128 .f32) (x10 : Vec F S4x128x128 .f32) (x11 : Vec F S4x128x128 .f32) (x12 : Vec F S4x8x128 .f32) (xs0 : Vec F S4x128x128 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 =
      beside fun h => hDq x5 x6 (cols x2 h) (cols x3 h) (cols x4 h) (cols x0 h) (cols x7 h) (plane4 x8 h) (plane x9 h) (plane x10 h) := by
  funext y
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0)]
  refine View.canon_apply_of_pieces _ _ (View.PiecesOf.mem ?_) y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 y)
  unfold kernelRun0_B
  sl_unfold_words
  refine ⟨tile_beside _ 3 384 rfl inb_S128x512_S128x128_0_384 _ ?_, tile_beside _ 2 256 rfl inb_S128x512_S128x128_0_256 _ ?_, tile_beside _ 1 128 rfl inb_S128x512_S128x128_0_128 _ ?_, tile_beside _ 0 0 rfl inb_S128x512_S128x128_0_0 _ ?_, trivial⟩
  · simp only [load_cols _ _ _ 3 384 rfl, load_tile, load_plane _ _ _ 3 3 rfl, load_plane4 _ _ _ 3 3 rfl, load_row0 _ _ _ 3 3 rfl]
    rfl
  · simp only [load_cols _ _ _ 2 256 rfl, load_tile, load_plane _ _ _ 2 2 rfl, load_plane4 _ _ _ 2 2 rfl, load_row0 _ _ _ 2 2 rfl]
    rfl
  · simp only [load_cols _ _ _ 1 128 rfl, load_tile, load_plane _ _ _ 1 1 rfl, load_plane4 _ _ _ 1 1 rfl, load_row0 _ _ _ 1 1 rfl]
    rfl
  · simp only [load_cols _ _ _ 0 0 rfl, load_tile, load_plane _ _ _ 0 0 rfl, load_plane4 _ _ _ 0 0 rfl, load_row0 _ _ _ 0 0 rfl]
    rfl

theorem dk_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S4x1x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x512 .bf16) (harg17 : arg17.IsWhole) (arg18 : Memref sig .tc .vmem S4x128x128 .f32) (harg18 : arg18.IsWhole) (hc0 : ¬cond0_0 i)
    (x0 : Vec F S128x512 .f32) (x1 : Vec F S128x512 .f32) (x2 : Vec F S128x512 .f32) (x3 : Vec F S128x512 .f32) (x4 : Vec F S128x512 .f32) (x5 : Vec F S128x128 .f32) (x6 : Vec F S128x128 .f32) (x7 : Vec F S128x512 .f32) (x8 : Vec F S4x1x128x128 .f32) (x9 : Vec F S4x128x128 .f32) (x10 : Vec F S4x128x128 .f32) (x11 : Vec F S4x128x128 .f32) (x12 : Vec F S4x8x128 .f32) (xs0 : Vec F S4x128x128 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 =
      beside fun h => hDk x5 x6 (cols x1 h) (cols x3 h) (cols x4 h) (cols x0 h) (cols x7 h) (plane x9 h) (plane x11 h) (plane xs0 h) := by
  funext y
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0)]
  refine View.canon_apply_of_pieces _ _ (View.PiecesOf.mem ?_) y (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 y)
  unfold kernelRun0_B
  sl_unfold_words
  refine ⟨tile_beside _ 3 384 rfl inb_S128x512_S128x128_0_384 _ ?_, tile_beside _ 2 256 rfl inb_S128x512_S128x128_0_256 _ ?_, tile_beside _ 1 128 rfl inb_S128x512_S128x128_0_128 _ ?_, tile_beside _ 0 0 rfl inb_S128x512_S128x128_0_0 _ ?_, trivial⟩
  · simp only [load_cols _ _ _ 3 384 rfl, load_tile, load_plane _ _ _ 3 3 rfl, load_plane4 _ _ _ 3 3 rfl, load_row0 _ _ _ 3 3 rfl]
    rfl
  · simp only [load_cols _ _ _ 2 256 rfl, load_tile, load_plane _ _ _ 2 2 rfl, load_plane4 _ _ _ 2 2 rfl, load_row0 _ _ _ 2 2 rfl]
    rfl
  · simp only [load_cols _ _ _ 1 128 rfl, load_tile, load_plane _ _ _ 1 1 rfl, load_plane4 _ _ _ 1 1 rfl, load_row0 _ _ _ 1 1 rfl]
    rfl
  · simp only [load_cols _ _ _ 0 0 rfl, load_tile, load_plane _ _ _ 0 0 rfl, load_plane4 _ _ _ 0 0 rfl, load_row0 _ _ _ 0 0 rfl]
    rfl

theorem dv_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S4x1x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x512 .bf16) (harg17 : arg17.IsWhole) (arg18 : Memref sig .tc .vmem S4x128x128 .f32) (harg18 : arg18.IsWhole) (hc0 : ¬cond0_0 i)
    (x0 : Vec F S128x512 .f32) (x1 : Vec F S128x512 .f32) (x2 : Vec F S128x512 .f32) (x3 : Vec F S128x512 .f32) (x4 : Vec F S128x512 .f32) (x5 : Vec F S128x128 .f32) (x6 : Vec F S128x128 .f32) (x7 : Vec F S128x512 .f32) (x8 : Vec F S4x1x128x128 .f32) (x9 : Vec F S4x128x128 .f32) (x10 : Vec F S4x128x128 .f32) (x11 : Vec F S4x128x128 .f32) (x12 : Vec F S4x8x128 .f32) (xs0 : Vec F S4x128x128 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 =
      beside fun h => hDv x5 x6 (cols x1 h) (cols x2 h) (cols x4 h) (cols x0 h) (cols x7 h) (plane x9 h) (plane x11 h) (plane xs0 h) := by
  funext y
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0)]
  refine View.canon_apply_of_pieces _ _ (View.PiecesOf.mem ?_) y (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 y)
  unfold kernelRun0_B
  sl_unfold_words
  refine ⟨tile_beside _ 3 384 rfl inb_S128x512_S128x128_0_384 _ ?_, tile_beside _ 2 256 rfl inb_S128x512_S128x128_0_256 _ ?_, tile_beside _ 1 128 rfl inb_S128x512_S128x128_0_128 _ ?_, tile_beside _ 0 0 rfl inb_S128x512_S128x128_0_0 _ ?_, trivial⟩
  · simp only [load_cols _ _ _ 3 384 rfl, load_tile, load_plane _ _ _ 3 3 rfl, load_plane4 _ _ _ 3 3 rfl, load_row0 _ _ _ 3 3 rfl]
    rfl
  · simp only [load_cols _ _ _ 2 256 rfl, load_tile, load_plane _ _ _ 2 2 rfl, load_plane4 _ _ _ 2 2 rfl, load_row0 _ _ _ 2 2 rfl]
    rfl
  · simp only [load_cols _ _ _ 1 128 rfl, load_tile, load_plane _ _ _ 1 1 rfl, load_plane4 _ _ _ 1 1 rfl, load_row0 _ _ _ 1 1 rfl]
    rfl
  · simp only [load_cols _ _ _ 0 0 rfl, load_tile, load_plane _ _ _ 0 0 rfl, load_plane4 _ _ _ 0 0 rfl, load_row0 _ _ _ 0 0 rfl]
    rfl

theorem dg_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S4x1x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x512 .bf16) (harg17 : arg17.IsWhole) (arg18 : Memref sig .tc .vmem S4x128x128 .f32) (harg18 : arg18.IsWhole) (hc0 : ¬cond0_0 i)
    (x0 : Vec F S128x512 .f32) (x1 : Vec F S128x512 .f32) (x2 : Vec F S128x512 .f32) (x3 : Vec F S128x512 .f32) (x4 : Vec F S128x512 .f32) (x5 : Vec F S128x128 .f32) (x6 : Vec F S128x128 .f32) (x7 : Vec F S128x512 .f32) (x8 : Vec F S4x1x128x128 .f32) (x9 : Vec F S4x128x128 .f32) (x10 : Vec F S4x128x128 .f32) (x11 : Vec F S4x128x128 .f32) (x12 : Vec F S4x8x128 .f32) (xs0 : Vec F S4x128x128 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 =
      beside fun h => hDg (cols x4 h) (cols x7 h) (cols x0 h) := by
  funext y
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0)]
  refine View.canon_apply_of_pieces _ _ (View.PiecesOf.mem ?_) y (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 y)
  unfold kernelRun0_B
  sl_unfold_words
  refine ⟨tile_beside _ 3 384 rfl inb_S128x512_S128x128_0_384 _ ?_, tile_beside _ 2 256 rfl inb_S128x512_S128x128_0_256 _ ?_, tile_beside _ 1 128 rfl inb_S128x512_S128x128_0_128 _ ?_, tile_beside _ 0 0 rfl inb_S128x512_S128x128_0_0 _ ?_, trivial⟩
  · simp only [load_cols _ _ _ 3 384 rfl, load_tile, load_plane _ _ _ 3 3 rfl, load_plane4 _ _ _ 3 3 rfl, load_row0 _ _ _ 3 3 rfl]
    rfl
  · simp only [load_cols _ _ _ 2 256 rfl, load_tile, load_plane _ _ _ 2 2 rfl, load_plane4 _ _ _ 2 2 rfl, load_row0 _ _ _ 2 2 rfl]
    rfl
  · simp only [load_cols _ _ _ 1 128 rfl, load_tile, load_plane _ _ _ 1 1 rfl, load_plane4 _ _ _ 1 1 rfl, load_row0 _ _ _ 1 1 rfl]
    rfl
  · simp only [load_cols _ _ _ 0 0 rfl, load_tile, load_plane _ _ _ 0 0 rfl, load_plane4 _ _ _ 0 0 rfl, load_row0 _ _ _ 0 0 rfl]
    rfl

theorem dS_B (c : Dev nD) (i : grid0.Coords) (arg1 : Memref sig .tc .vmem S128x512 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S4x1x128x128 .f32) (harg9 : arg9.IsWhole) (arg10 : Memref sig .tc .vmem S4x128x128 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x8x128 .f32) (harg13 : arg13.IsWhole) (arg14 : Memref sig .tc .vmem S128x512 .bf16) (harg14 : arg14.IsWhole) (arg15 : Memref sig .tc .vmem S128x512 .bf16) (harg15 : arg15.IsWhole) (arg16 : Memref sig .tc .vmem S128x512 .bf16) (harg16 : arg16.IsWhole) (arg17 : Memref sig .tc .vmem S128x512 .bf16) (harg17 : arg17.IsWhole) (arg18 : Memref sig .tc .vmem S4x128x128 .f32) (harg18 : arg18.IsWhole) (hc0 : ¬cond0_0 i)
    (x0 : Vec F S128x512 .f32) (x1 : Vec F S128x512 .f32) (x2 : Vec F S128x512 .f32) (x3 : Vec F S128x512 .f32) (x4 : Vec F S128x512 .f32) (x5 : Vec F S128x128 .f32) (x6 : Vec F S128x128 .f32) (x7 : Vec F S128x512 .f32) (x8 : Vec F S4x1x128x128 .f32) (x9 : Vec F S4x128x128 .f32) (x10 : Vec F S4x128x128 .f32) (x11 : Vec F S4x128x128 .f32) (x12 : Vec F S4x8x128 .f32) (xs0 : Vec F S4x128x128 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 =
      stacked fun h => hD x5 x6 (cols x1 h) (cols x4 h) (cols x0 h) (cols x7 h) (plane x10 h) (plane xs0 h) (row0 x12 h) := by
  funext y
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0)]
  refine View.canon_apply_of_pieces _ _ (View.PiecesOf.mem ?_) y (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 y)
  unfold kernelRun0_B
  sl_unfold_words
  refine ⟨plane_stacked _ 3 3 rfl inb_S4x128x128_S1x128x128_3_0_0 _ ?_, plane_stacked _ 2 2 rfl inb_S4x128x128_S1x128x128_2_0_0 _ ?_, plane_stacked _ 1 1 rfl inb_S4x128x128_S1x128x128_1_0_0 _ ?_, plane_stacked _ 0 0 rfl inb_S4x128x128_S1x128x128_0_0_0 _ ?_, trivial⟩
  · simp only [load_cols _ _ _ 3 384 rfl, load_tile, load_plane _ _ _ 3 3 rfl, load_plane4 _ _ _ 3 3 rfl, load_row0 _ _ _ 3 3 rfl]
    rfl
  · simp only [load_cols _ _ _ 2 256 rfl, load_tile, load_plane _ _ _ 2 2 rfl, load_plane4 _ _ _ 2 2 rfl, load_row0 _ _ _ 2 2 rfl]
    rfl
  · simp only [load_cols _ _ _ 1 128 rfl, load_tile, load_plane _ _ _ 1 1 rfl, load_plane4 _ _ _ 1 1 rfl, load_row0 _ _ _ 1 1 rfl]
    rfl
  · simp only [load_cols _ _ _ 0 0 rfl, load_tile, load_plane _ _ _ 0 0 rfl, load_plane4 _ _ _ 0 0 rfl, load_row0 _ _ _ 0 0 rfl]
    rfl

end Cert.KernelIdeal.Ret

end
-- ==== Proof.Ret.Carried.lean ====
/- The state gradient carried from one grid point to the next, and what a point leaves in the four result blocks. -/
module

public import proofs.«01_k».proof.Proof.Ret.Point
public import proofs.«01_k».proof.Proof.Ret.FirstPoint
public import proofs.«01_k».proof.Proof.Ret.LaterPoint

@[expose] public section

set_option maxRecDepth 65536

noncomputable section

namespace Cert.KernelIdeal.Ret

open Cert.KernelIdeal Cert.KernelIdeal.Gen Idealize.ShloMosaic Idealize.ShloMosaic.TcCoe Idealize.ShloMosaic.StableHlo
open Cert.ReferenceIdeal.Read

variable {m : (ℓ : Loc nD τ sig) → Buf (Elt Ideal) ℓ} {c : Dev nD}
variable (m) (c) in
/-- The blocks a point leaves, over the state gradient `D` handed to it. -/
def leftQ (t : Fin cfg0.N) : Vec Ideal S128x512 .bf16 := beside fun h => hDq (F := Ideal) (iblk m c 5 t) (iblk m c 6 t) (cols (X0_2 m c t) h) (cols (X0_3 m c t) h) (cols (X0_4 m c t) h)
        (cols (iblk m c 0 t) h) (cols (iblk m c 7 t) h) (plane4 (iblk m c 8 t) h) (plane (iblk m c 9 t) h) (plane (iblk m c 10 t) h)

variable (m) (c) in
def leftK (t : Fin cfg0.N) (D : Fin 4 → Vec Ideal S1x128x128 .f32) : Vec Ideal S128x512 .bf16 := beside fun h => hDk (F := Ideal) (iblk m c 5 t) (iblk m c 6 t) (cols (X0_1 m c t) h) (cols (X0_3 m c t) h) (cols (X0_4 m c t) h)
        (cols (iblk m c 0 t) h) (cols (iblk m c 7 t) h) (plane (iblk m c 9 t) h) (plane (iblk m c 11 t) h) (D h)

variable (m) (c) in
def leftV (t : Fin cfg0.N) (D : Fin 4 → Vec Ideal S1x128x128 .f32) : Vec Ideal S128x512 .bf16 := beside fun h => hDv (F := Ideal) (iblk m c 5 t) (iblk m c 6 t) (cols (X0_1 m c t) h) (cols (X0_2 m c t) h) (cols (X0_4 m c t) h)
        (cols (iblk m c 0 t) h) (cols (iblk m c 7 t) h) (plane (iblk m c 9 t) h) (plane (iblk m c 11 t) h) (D h)

variable (m) (c) in
def leftG (t : Fin cfg0.N) : Vec Ideal S128x512 .bf16 := beside fun h => hDg (F := Ideal) (cols (X0_4 m c t) h) (cols (iblk m c 7 t) h) (cols (iblk m c 0 t) h)

variable (m) (c) in
def leftS (t : Fin cfg0.N) (D : Fin 4 → Vec Ideal S1x128x128 .f32) : Vec Ideal S4x128x128 .f32 := stacked fun h => hD (F := Ideal) (iblk m c 5 t) (iblk m c 6 t) (cols (X0_1 m c t) h) (cols (X0_4 m c t) h) (cols (iblk m c 0 t) h) (cols (iblk m c 7 t) h)
      (plane (iblk m c 10 t) h) (D h) (row0 (iblk m c 12 t) h)

variable (m) (c) in
/-- The state gradient the point before handed on. -/
abbrev before (t : Fin cfg0.N) : Fin 4 → Vec Ideal S1x128x128 .f32 :=
  plane (outsAt0 (F := Ideal) m c (t.val - 1) (Nat.lt_of_le_of_lt (Nat.sub_le _ _) t.isLt)).2.2.2.2

theorem leftQ_A (t : Fin cfg0.N) (h : t.val % 32 = 0) : (outsAt0 (F := Ideal) m c t.val t.isLt).1 = leftQ m c t := by
  refine (congrArg (fun o => o.1) (outsAt0_A (F := Ideal) m c t h)).trans ?_
  dsimp only
  apply dq_A

theorem leftQ_B (t : Fin cfg0.N) (h : ¬t.val % 32 = 0) : (outsAt0 (F := Ideal) m c t.val t.isLt).1 = leftQ m c t := by
  refine (congrArg (fun o => o.1) (outsAt0_B (F := Ideal) m c t h)).trans ?_
  dsimp only
  apply dq_B

theorem leftK_A (t : Fin cfg0.N) (h : t.val % 32 = 0) : (outsAt0 (F := Ideal) m c t.val t.isLt).2.1 = leftK m c t (fun _ => noD) := by
  refine (congrArg (fun o => o.2.1) (outsAt0_A (F := Ideal) m c t h)).trans ?_
  dsimp only
  apply dk_A

theorem leftK_B (t : Fin cfg0.N) (h : ¬t.val % 32 = 0) : (outsAt0 (F := Ideal) m c t.val t.isLt).2.1 = leftK m c t (before m c t) := by
  refine (congrArg (fun o => o.2.1) (outsAt0_B (F := Ideal) m c t h)).trans ?_
  dsimp only
  apply dk_B

theorem leftV_A (t : Fin cfg0.N) (h : t.val % 32 = 0) : (outsAt0 (F := Ideal) m c t.val t.isLt).2.2.1 = leftV m c t (fun _ => noD) := by
  refine (congrArg (fun o => o.2.2.1) (outsAt0_A (F := Ideal) m c t h)).trans ?_
  dsimp only
  apply dv_A

theorem leftV_B (t : Fin cfg0.N) (h : ¬t.val % 32 = 0) : (outsAt0 (F := Ideal) m c t.val t.isLt).2.2.1 = leftV m c t (before m c t) := by
  refine (congrArg (fun o => o.2.2.1) (outsAt0_B (F := Ideal) m c t h)).trans ?_
  dsimp only
  apply dv_B

theorem leftG_A (t : Fin cfg0.N) (h : t.val % 32 = 0) : (outsAt0 (F := Ideal) m c t.val t.isLt).2.2.2.1 = leftG m c t := by
  refine (congrArg (fun o => o.2.2.2.1) (outsAt0_A (F := Ideal) m c t h)).trans ?_
  dsimp only
  apply dg_A

theorem leftG_B (t : Fin cfg0.N) (h : ¬t.val % 32 = 0) : (outsAt0 (F := Ideal) m c t.val t.isLt).2.2.2.1 = leftG m c t := by
  refine (congrArg (fun o => o.2.2.2.1) (outsAt0_B (F := Ideal) m c t h)).trans ?_
  dsimp only
  apply dg_B

theorem leftS_A (t : Fin cfg0.N) (h : t.val % 32 = 0) : (outsAt0 (F := Ideal) m c t.val t.isLt).2.2.2.2 = leftS m c t (fun _ => noD) := by
  refine (congrArg (fun o => o.2.2.2.2) (outsAt0_A (F := Ideal) m c t h)).trans ?_
  dsimp only
  apply dS_A

theorem leftS_B (t : Fin cfg0.N) (h : ¬t.val % 32 = 0) : (outsAt0 (F := Ideal) m c t.val t.isLt).2.2.2.2 = leftS m c t (before m c t) := by
  refine (congrArg (fun o => o.2.2.2.2) (outsAt0_B (F := Ideal) m c t h)).trans ?_
  dsimp only
  apply dS_B

variable {x0 : Vec Ideal S4096x512 .f32} {x1 : Vec Ideal S4096x5376 .f32} {x2 : Vec Ideal S4096 .i32}

theorem blank_at (h : Fin 4) (p e : Fin 128) : noD (F := Ideal) (ix3 0 p e) = carry x0 x1 x2 0 (ix4 0 h (place p) e) := by
  rw [carry_zero]
  exact Ideal.ofBits_zero_f32

/-- What a point hands to the next, over what the point before handed to it. -/
theorem handed (h0 : V m c main_arg0 = x0) (h1 : V m c main_arg1 = x1) (h2 : V m c main_arg2 = x2) (r0 : Reals x0) (r1 : Reals x1)
    (t : Fin cfg0.N) (h : Fin 4) (D : Vec Ideal S1x128x128 .f32) (hD' : ∀ p e, D (ix3 0 p e) = carry x0 x1 x2 t.val (ix4 0 h (place p) e)) (p e : Fin 128) :
    hD (F := Ideal) (iblk m c 5 t) (iblk m c 6 t) (cols (X0_1 m c t) h) (cols (X0_4 m c t) h) (cols (iblk m c 0 t) h) (cols (iblk m c 7 t) h)
      (plane (iblk m c 10 t) h) D (row0 (iblk m c 12 t) h) (ix3 0 p e) = carry x0 x1 x2 (t.val + 1) (ix4 0 h (place p) e) := by
  have ht : t.val < 32 := lt_of_lt_of_eq t.isLt N_0
  have hn : (⟨31 - t.val, by omega⟩ : Fin 32).val = 31 - t.val := rfl
  rw [dD_head (Q := rQ x1 x2 h ⟨31 - t.val, by omega⟩) (R := rR x0 x1 x2 h ⟨31 - t.val, by omega⟩) (QD := rQD h)
    (G := fun d e => carry x0 x1 x2 t.val (ix4 0 h d e)) (CD := val_main_v135 (F := Ideal) (ix1 h))
    (hq := fun i p => q_tile t _ h i p h1 h2 hn) (hqd := fun i p => qd_tile t h i p) (hcd := fun p => cd_tile t h p) (hG := hD')
    (hr := fun i e => r_tile t _ h i e h0 h1 h2 r0 r1 hn),
    carry_succ, v413_at, add_comm]

/-- What is carried out of a point. -/
theorem carried (h0 : V m c main_arg0 = x0) (h1 : V m c main_arg1 = x1) (h2 : V m c main_arg2 = x2) (r0 : Reals x0) (r1 : Reals x1)
    (k : ℕ) (hk : k < cfg0.N) (h : Fin 4) (p e : Fin 128) :
    ((outsAt0 (F := Ideal) m c k hk).2.2.2.2 : S4x128x128.Idx → EReal) (ix3 h p e) = carry x0 x1 x2 (k + 1) (ix4 0 h (place p) e) := by
  induction k generalizing h p e with
  | zero =>
    refine (congrFun (leftS_A ⟨0, hk⟩ rfl) (ix3 h p e)).trans ?_
    exact handed h0 h1 h2 r0 r1 ⟨0, hk⟩ h noD (fun p e => blank_at h p e) p e
  | succ k ih =>
    have hN : cfg0.N = 32 := N_0
    refine (congrFun (leftS_B ⟨k + 1, hk⟩ (by show ¬(k + 1) % 32 = 0; omega)) (ix3 h p e)).trans ?_
    exact handed h0 h1 h2 r0 r1 ⟨k + 1, hk⟩ h _ (fun p e => ih (Nat.lt_of_succ_lt hk) h p e) p e

/-- The four result blocks of a point, over the state gradient `D` of the later chunks. -/
theorem left_at (h0 : V m c main_arg0 = x0) (h1 : V m c main_arg1 = x1) (h2 : V m c main_arg2 = x2) (r0 : Reals x0) (r1 : Reals x1)
    (t : Fin cfg0.N) (n : Fin 32) (hn : n.val = 31 - t.val) :
    ∃ D : Fin 4 → Vec Ideal S1x128x128 .f32, (∀ h p e, D h (ix3 0 p e) = rG x0 x1 x2 h n (place p) e) ∧
      (outsAt0 (F := Ideal) m c t.val t.isLt).1 = leftQ m c t ∧ (outsAt0 (F := Ideal) m c t.val t.isLt).2.1 = leftK m c t D ∧
      (outsAt0 (F := Ideal) m c t.val t.isLt).2.2.1 = leftV m c t D ∧ (outsAt0 (F := Ideal) m c t.val t.isLt).2.2.2.1 = leftG m c t := by
  have hN : cfg0.N = 32 := N_0
  have ht : t.val < 32 := lt_of_lt_of_eq t.isLt hN
  by_cases h : t.val % 32 = 0
  · have z : 31 - n.val = 0 := by omega
    refine ⟨fun _ => noD, fun h p e => ?_, leftQ_A t h, leftK_A t h, leftV_A t h, leftG_A t h⟩
    rw [rG_at, z]
    exact blank_at h p e
  · refine ⟨before m c t, fun h p e => ?_, leftQ_B t h, leftK_B t h, leftV_B t h, leftG_B t h⟩
    rw [rG_at, show 31 - n.val = t.val - 1 + 1 by omega]
    exact carried h0 h1 h2 r0 r1 (t.val - 1) _ h p e

end Cert.KernelIdeal.Ret
-- ==== Proof.Ret.Results.lean ====
/- What a grid point leaves in the four result blocks is what the reference's gradients hold there. -/
module

public import proofs.«01_k».proof.Proof.Ret.Carried

@[expose] public section

set_option maxRecDepth 65536

noncomputable section

namespace Cert.KernelIdeal.Ret

open Cert.KernelIdeal Cert.KernelIdeal.Gen Idealize.ShloMosaic Idealize.ShloMosaic.TcCoe Idealize.ShloMosaic.StableHlo
open Cert.ReferenceIdeal.Read

theorem beside_at (f : Fin 4 → Vec Ideal S128x128 .bf16) (h : Fin 4) (i d : Fin 128) : beside f (ix2 i (col h d)) = f h (ix2 i d) := by
  unfold beside
  have e : ∀ (h' : Fin 4) (d' : Fin 128), h' = h → d' = d → f h' (ix2 i d') = f h (ix2 i d) := by
    intro h' d' e e'
    rw [e, e']
  exact e _ _ (head_of h d _) (column_of h d _)

theorem keyScale_eq : keyScale = ((11863283 / 2 ^ 27 : ℝ) : EReal) := by
  unfold keyScale
  simp [Ideal.ofBits, Ideal.ieee, -EReal.coe_mul]
  norm_num

theorem scaled_sum (a b : EReal) : (a + b) * keyScale = a * keyScale + b * keyScale := by
  rw [keyScale_eq]
  exact EReal.right_distrib_of_nonneg_of_ne_top (by norm_cast; norm_num) (EReal.coe_ne_top _) _ _

variable {m : (ℓ : Loc nD τ sig) → Buf (Elt Ideal) ℓ} {c : Dev nD}
variable {x0 : Vec Ideal S4096x512 .f32} {x1 : Vec Ideal S4096x5376 .f32} {x2 : Vec Ideal S4096 .i32}
variable (t : Fin cfg0.N) (n : Fin 32) (h : Fin 4) (i d : Fin 128)

theorem leftQ_at (h0 : V m c main_arg0 = x0) (h1 : V m c main_arg1 = x1) (h2 : V m c main_arg2 = x2) (r0 : Reals x0) (r1 : Reals x1)
    (hn : n.val = 31 - t.val) : leftQ m c t (ix2 i (col h d)) = val_main_v690 (F := Ideal) x0 x1 x2 (ix2 (row n i) (col h d)) := by
  unfold leftQ
  rw [beside_at]
  rcases low_or_high d with ⟨j, rfl⟩ | ⟨j, rfl⟩
  · rw [dq_low (K := rK x1 x2 h n) (V := rV x1 h n) (M := rM h) (R := rR x0 x1 x2 h n) (P := rP x1 x2 h n) (QD := rQD h)
      (hk := fun i p => k_tile t n h i p h1 h2 hn) (hv := fun i e => v_tile t n h i e h1 hn) (hm := fun i p => m_tile t h i p)
      (hqd := fun i p => qd_tile t h i p) (hS := fun p e => s_tile t n h e p h1 h2 hn) (hr := fun i e => r_tile t n h i e h0 h1 h2 r0 r1 hn),
      (cos_tile t n i j h2 hn).1, (sin_tile t n i j h2 hn).2, v690_low, v677_at, v640_at, v640_at, v632_at, v632_at]
    exact add_comm _ _
  · rw [dq_high (K := rK x1 x2 h n) (V := rV x1 h n) (M := rM h) (R := rR x0 x1 x2 h n) (P := rP x1 x2 h n) (QD := rQD h)
      (hk := fun i p => k_tile t n h i p h1 h2 hn) (hv := fun i e => v_tile t n h i e h1 hn) (hm := fun i p => m_tile t h i p)
      (hqd := fun i p => qd_tile t h i p) (hS := fun p e => s_tile t n h e p h1 h2 hn) (hr := fun i e => r_tile t n h i e h0 h1 h2 r0 r1 hn),
      (cos_tile t n i j h2 hn).2, (sin_tile t n i j h2 hn).1, v690_high, v674_at, v640_at, v640_at, v632_at, v632_at, mul_neg, neg_mul]

theorem leftK_at (h0 : V m c main_arg0 = x0) (h1 : V m c main_arg1 = x1) (h2 : V m c main_arg2 = x2) (r0 : Reals x0) (r1 : Reals x1)
    (hn : n.val = 31 - t.val) {D : Fin 4 → Vec Ideal S1x128x128 .f32} (hD : ∀ h p e, D h (ix3 0 p e) = rG x0 x1 x2 h n (place p) e) :
    leftK m c t D (ix2 i (col h d)) = val_main_v691 (F := Ideal) x0 x1 x2 (ix2 (row n i) (col h d)) := by
  unfold leftK
  rw [beside_at]
  rcases low_or_high d with ⟨j, rfl⟩ | ⟨j, rfl⟩
  · rw [dk_low (Q := rQ x1 x2 h n) (V := rV x1 h n) (M := rM h) (R := rR x0 x1 x2 h n) (G := rG x0 x1 x2 h n) (KD := rKD h)
      (hq := fun i p => q_tile t n h i p h1 h2 hn) (hv := fun i e => v_tile t n h i e h1 hn) (hm := fun i p => m_tile t h i p)
      (hkd := fun i p => kd_tile t h i p) (hG := fun p e => hD h p e) (hr := fun i e => r_tile t n h i e h0 h1 h2 r0 r1 hn),
      (cos_tile t n i j h2 hn).1, (sin_tile t n i j h2 hn).2, v691_low, v657_at, v638_at, v638_at, v636_at, v636_at, v630_at, v630_at, scaled_sum, val_v62, val_v64]
    exact (add_comm _ _).trans (congrArg₂ (· + ·) (mul_right_comm _ _ _) (mul_right_comm _ _ _))
  · rw [dk_high (Q := rQ x1 x2 h n) (V := rV x1 h n) (M := rM h) (R := rR x0 x1 x2 h n) (G := rG x0 x1 x2 h n) (KD := rKD h)
      (hq := fun i p => q_tile t n h i p h1 h2 hn) (hv := fun i e => v_tile t n h i e h1 hn) (hm := fun i p => m_tile t h i p)
      (hkd := fun i p => kd_tile t h i p) (hG := fun p e => hD h p e) (hr := fun i e => r_tile t n h i e h0 h1 h2 r0 r1 hn),
      (cos_tile t n i j h2 hn).2, (sin_tile t n i j h2 hn).1, v691_high, v654_at, v638_at, v638_at, v636_at, v636_at, v630_at, v630_at, scaled_sum, val_v62, val_v64,
      mul_neg, neg_mul, neg_mul]
    exact congrArg₂ (· + ·) (mul_right_comm _ _ _) (congrArg (- ·) (mul_right_comm _ _ _))

theorem leftV_at (h0 : V m c main_arg0 = x0) (h1 : V m c main_arg1 = x1) (h2 : V m c main_arg2 = x2) (r0 : Reals x0) (r1 : Reals x1)
    (hn : n.val = 31 - t.val) {D : Fin 4 → Vec Ideal S1x128x128 .f32} (hD : ∀ h p e, D h (ix3 0 p e) = rG x0 x1 x2 h n (place p) e) :
    leftV m c t D (ix2 i (col h d)) = val_main_v692 (F := Ideal) x0 x1 x2 (ix2 (row n i) (col h d)) := by
  unfold leftV
  rw [beside_at, dv_head (Q := rQ x1 x2 h n) (K := rK x1 x2 h n) (M := rM h) (R := rR x0 x1 x2 h n) (G := rG x0 x1 x2 h n) (KD := rKD h)
      (hq := fun i p => q_tile t n h i p h1 h2 hn) (hk := fun i p => k_tile t n h i p h1 h2 hn) (hm := fun i p => m_tile t h i p)
      (hkd := fun i p => kd_tile t h i p) (hG := fun p e => hD h p e) (hr := fun i e => r_tile t n h i e h0 h1 h2 r0 r1 hn),
    v692_at, v634_at, v625_at]

/-- The gradient of the gate, the kernel's product and the reference's sum of two products. -/
theorem gate_grad {A : Fin 128 → EReal} {g y : EReal} (hA : Reals A) (hg : ∃ b : ℝ, g = b) (hy : ∃ b : ℝ, y = b) :
    y * ((A d - mean A) * recip A) * (gate g * (1 + g * (1 - gate g))) =
      (A d - mean A) * recip A * y * gate g + g * ((A d - mean A) * recip A * y) * (gate g * (1 - gate g)) := by
  obtain ⟨a, rfl⟩ := hA.lift
  obtain ⟨b, rfl⟩ := hg
  obtain ⟨w, rfl⟩ := hy
  rw [mean_coe, recip_coe, gate_coe, one_coe]
  generalize (1 / (1 + Real.exp (-b)) : ℝ) = s
  generalize (Real.sqrt (spread a))⁻¹ = p
  generalize (∑ x, a x) / 128 = q
  simp only [← EReal.coe_sub, ← EReal.coe_mul, ← EReal.coe_add]
  exact congrArg _ (by ring)

theorem leftG_at (h0 : V m c main_arg0 = x0) (h1 : V m c main_arg1 = x1) (h2 : V m c main_arg2 = x2) (r0 : Reals x0) (r1 : Reals x1)
    (hn : n.val = 31 - t.val) : leftG m c t (ix2 i (col h d)) = val_main_v693 (F := Ideal) x0 x1 x2 (ix2 (row n i) (col h d)) := by
  unfold leftG
  rw [beside_at, dg_head, v693_at]
  simp only [raw_tile t n h i _ h1 h2 hn, dy_tile t n h i _ h0 hn, block4 t n h i _ h1 hn]
  exact gate_grad d (aRow_real h r1 _) (packed_real h d r1 3 _) (r0 _)

end Cert.KernelIdeal.Ret

end
-- ==== Proof.Ret.Claim.lean ====
/- The retention gradient: the kernel and the reference end with equal results. -/
module

public import proofs.«01_k».proof.Defs
public import proofs.«01_k».proof.Proof.Gen.Pre_finite
public import proofs.«01_k».proof.Proof.Gen.KernelIdeal.Value
public import proofs.«01_k».proof.Proof.Ret.Results
public import Idealize.ShloMosaic.Lib.ReduceAll

@[expose] public section

set_option maxRecDepth 65536

noncomputable section

namespace Cert.KernelIdeal.Ret

open Cert.KernelIdeal Cert.KernelIdeal.Gen Cert.KernelIdeal.Value Idealize.ShloMosaic Idealize.ShloMosaic.TcCoe Idealize.ShloMosaic.StableHlo Idealize.SL.Sem
open Cert.ReferenceIdeal.Read

/-- An extended real whose absolute value is below infinity is real. -/
theorem real_of_below (x : EReal) (h : Ideal.cmp .olt (max x (-x)) (Ideal.ofBits FTy.f32 0x7F800000#32) = 1#1) : ∃ r : ℝ, x = r := by
  have e : Ideal.ofBits FTy.f32 0x7F800000#32 = ⊤ := by simp [Ideal.ofBits, Ideal.ieee]
  rw [e] at h
  induction x with
  | bot => simp [Ideal.cmp] at h
  | top => simp [Ideal.cmp] at h
  | coe r => exact ⟨r, rfl⟩

/-- The precondition says that the gradient and the projections are real. -/
theorem reals_of_finite (x0 : FVec Ideal Cert.Pre_finite.S4096x512 .f32) (x1 : FVec Ideal Cert.Pre_finite.S4096x5376 .f32) (x2 : IVec Cert.Pre_finite.S4096 32)
    (h : Cert.Pre_finite.fn (F := Ideal) x0 x1 x2 = fun _ => 1#1) : Reals x0 ∧ Reals x1 := by
  have e := congrFun h (fun a => a.elim0)
  simp only [Cert.Pre_finite.fn, andi] at e
  obtain ⟨e0, e1⟩ := IntOp.andi_eq_one.mp e
  haveI : Subsingleton Cert.Pre_finite.S_.Idx := ⟨fun a b => funext fun i => i.elim0⟩
  exact ⟨fun i => real_of_below _ (Host.reduce_andi_all _ _ _ _ _ e0 i), fun i => real_of_below _ (Host.reduce_andi_all _ _ _ _ _ e1 i)⟩

variable {m : (ℓ : Loc nD τ sig) → Buf (Elt Ideal) ℓ} {c : Dev nD}
variable {x0 : Vec Ideal S4096x512 .f32} {x1 : Vec Ideal S4096x5376 .f32} {x2 : Vec Ideal S4096 .i32}

theorem column_split (q : Fin 512) : ∃ (k : Fin 4) (d : Fin 128), q = col k d :=
  ⟨⟨q.val / 128, by omega⟩, ⟨q.val % 128, by omega⟩, Fin.ext (by simp only [col]; omega)⟩

theorem pair_of {a b : ℕ} (y : (⟨2, ![a, b]⟩ : Shape).Idx) (p : Fin a) (q : Fin b) (hp : (y 0).val = p.val) (hq : (y 1).val = q.val) : y = ix2 p q :=
  funext fun k => Fin.ext (match k with
    | ⟨0, _⟩ => hp
    | ⟨1, _⟩ => hq)

/-- A block agrees with an array at the place of the block when it does at every chunk, head and column. -/
theorem placed (t : Fin cfg0.N) {B : S128x512.Idx → EReal} {A : S4096x512.Idx → EReal}
    (h : ∀ (n : Fin 32) (i : Fin 128) (k : Fin 4) (d : Fin 128), n.val = 31 - t.val → B (ix2 i (col k d)) = A (ix2 (row n i) (col k d)))
    (y : S128x512.Idx) (z : S4096x512.Idx) (e0 : (31 - t.val) * 128 + (y 0).val = (z 0).val) (e1 : 0 * 512 + (y 1).val = (z 1).val) : B y = A z := by
  obtain ⟨i, hi⟩ : ∃ i : Fin 128, (y 0).val = i.val := ⟨y 0, rfl⟩
  obtain ⟨q, hq⟩ : ∃ q : Fin 512, (y 1).val = q.val := ⟨y 1, rfl⟩
  obtain ⟨k, d, rfl⟩ := column_split q
  obtain ⟨n, hn⟩ : ∃ n : Fin 32, n.val = 31 - t.val := ⟨⟨31 - t.val, by omega⟩, rfl⟩
  have hz : (z 0).val = (row n i).val := by
    simp only [row]
    omega
  rw [pair_of y i (col k d) hi hq, pair_of z (row n i) (col k d) hz (by omega)]
  exact h n i k d hn

theorem writes : ∀ t : Fin cfg0.N, (cfg0.win 13).flush t = true ∧ (cfg0.win 14).flush t = true ∧ (cfg0.win 15).flush t = true ∧ (cfg0.win 16).flush t = true := by
  decide +kernel

/-- The grid point and the place in its block of a place in a result. -/
theorem found_place (z : S4096x512.Idx) : ∃ (t : Fin cfg0.N) (y : S128x512.Idx), (31 - t.val) * 128 + (y 0).val = (z 0).val ∧ 0 * 512 + (y 1).val = (z 1).val := by
  have h0 : (z 0).val < 4096 := (z 0).isLt
  refine ⟨⟨31 - (z 0).val / 128, by have : cfg0.N = 32 := N_0; omega⟩, ix2 ⟨(z 0).val % 128, Nat.mod_lt _ (by decide)⟩ ⟨(z 1).val, (z 1).isLt⟩, ?_, ?_⟩
  · show (31 - (31 - (z 0).val / 128)) * 128 + (z 0).val % 128 = (z 0).val
    omega
  · show 0 * 512 + (z 1).val = (z 1).val
    omega

/-- A result block is written whole, and an array is read at the block's places. -/
theorem cut13 (t : Fin cfg0.N) (B : S128x512.Idx → EReal) (y : S128x512.Idx) : (cfg0.win 13).cut (grid0.coords t) B y = B y := rfl

theorem read13 (t : Fin cfg0.N) (A : S4096x512.Idx → EReal) (y : S128x512.Idx) : ((cfg0.win 13).blk t).view.read (Elt Ideal) A y = A (((cfg0.win 13).blk t).view.emb y) := rfl

theorem cut14 (t : Fin cfg0.N) (B : S128x512.Idx → EReal) (y : S128x512.Idx) : (cfg0.win 14).cut (grid0.coords t) B y = B y := rfl

theorem read14 (t : Fin cfg0.N) (A : S4096x512.Idx → EReal) (y : S128x512.Idx) : ((cfg0.win 14).blk t).view.read (Elt Ideal) A y = A (((cfg0.win 14).blk t).view.emb y) := rfl

theorem cut15 (t : Fin cfg0.N) (B : S128x512.Idx → EReal) (y : S128x512.Idx) : (cfg0.win 15).cut (grid0.coords t) B y = B y := rfl

theorem read15 (t : Fin cfg0.N) (A : S4096x512.Idx → EReal) (y : S128x512.Idx) : ((cfg0.win 15).blk t).view.read (Elt Ideal) A y = A (((cfg0.win 15).blk t).view.emb y) := rfl

theorem cut16 (t : Fin cfg0.N) (B : S128x512.Idx → EReal) (y : S128x512.Idx) : (cfg0.win 16).cut (grid0.coords t) B y = B y := rfl

theorem read16 (t : Fin cfg0.N) (A : S4096x512.Idx → EReal) (y : S128x512.Idx) : ((cfg0.win 16).blk t).view.read (Elt Ideal) A y = A (((cfg0.win 16).blk t).view.emb y) := rfl

section
variable (h0 : V m c main_arg0 = x0) (h1 : V m c main_arg1 = x1) (h2 : V m c main_arg2 = x2) (r0 : Reals x0) (r1 : Reals x1)
include h0 h1 h2 r0 r1

/-- The result arrays are the reference's gradients. -/
theorem array_q : (dats m 0 c).arrAt 13 cfg0.N = val_main_v690 (F := Ideal) x0 x1 x2 := by
  refine (dats m 0 c).arrAt_eq_of_cover 13 (val_main_v690 (F := Ideal) x0 x1 x2) (fun t hf => ?_) (fun z => ?_)
  · obtain ⟨a, b⟩ := (idx_results t).1
    rw [flushed13]
    refine funext fun y => (cut13 t _ y).trans (Eq.trans ?_ (read13 t _ y).symm)
    refine placed t (B := (outsAt0 (F := Ideal) m c t.val t.isLt).1) (A := val_main_v690 (F := Ideal) x0 x1 x2) (fun n i k d hn => ?_) y (((cfg0.win 13).blk t).view.emb y)
      (by rw [← a]; exact (win0_13.rect_emb_val t y 0).symm) (by rw [← b]; exact (win0_13.rect_emb_val t y 1).symm)
    obtain ⟨-, -, q, -, -, -⟩ := left_at h0 h1 h2 r0 r1 t n hn
    rw [q]
    exact leftQ_at t n k i d h0 h1 h2 r0 r1 hn
  · obtain ⟨t, y, p0, p1⟩ := found_place z
    obtain ⟨a, b⟩ := (idx_results t).1
    refine ⟨t, (writes t).1, ?_⟩
    have he : ((cfg0.win 13).blk t).view.emb y = z := funext fun k => Fin.ext (by
      refine (win0_13.rect_emb_val t y k).trans ?_
      match k with
      | ⟨0, _⟩ => show win0_13.index t 0 * 128 + (y 0).val = (z 0).val; rw [a]; exact p0
      | ⟨1, _⟩ => show win0_13.index t 1 * 512 + (y 1).val = (z 1).val; rw [b]; exact p1)
    rw [← he]
    exact Finset.mem_map.mpr ⟨y, Finset.mem_univ _, rfl⟩

theorem array_k : (dats m 0 c).arrAt 14 cfg0.N = val_main_v691 (F := Ideal) x0 x1 x2 := by
  refine (dats m 0 c).arrAt_eq_of_cover 14 (val_main_v691 (F := Ideal) x0 x1 x2) (fun t hf => ?_) (fun z => ?_)
  · obtain ⟨a, b⟩ := (idx_results t).2.1
    rw [flushed14]
    refine funext fun y => (cut14 t _ y).trans (Eq.trans ?_ (read14 t _ y).symm)
    refine placed t (B := (outsAt0 (F := Ideal) m c t.val t.isLt).2.1) (A := val_main_v691 (F := Ideal) x0 x1 x2) (fun n i k d hn => ?_) y (((cfg0.win 14).blk t).view.emb y)
      (by rw [← a]; exact (win0_14.rect_emb_val t y 0).symm) (by rw [← b]; exact (win0_14.rect_emb_val t y 1).symm)
    obtain ⟨D, hD, -, q, -, -⟩ := left_at h0 h1 h2 r0 r1 t n hn
    rw [q]
    exact leftK_at t n k i d h0 h1 h2 r0 r1 hn hD
  · obtain ⟨t, y, p0, p1⟩ := found_place z
    obtain ⟨a, b⟩ := (idx_results t).2.1
    refine ⟨t, (writes t).2.1, ?_⟩
    have he : ((cfg0.win 14).blk t).view.emb y = z := funext fun k => Fin.ext (by
      refine (win0_14.rect_emb_val t y k).trans ?_
      match k with
      | ⟨0, _⟩ => show win0_14.index t 0 * 128 + (y 0).val = (z 0).val; rw [a]; exact p0
      | ⟨1, _⟩ => show win0_14.index t 1 * 512 + (y 1).val = (z 1).val; rw [b]; exact p1)
    rw [← he]
    exact Finset.mem_map.mpr ⟨y, Finset.mem_univ _, rfl⟩

theorem array_v : (dats m 0 c).arrAt 15 cfg0.N = val_main_v692 (F := Ideal) x0 x1 x2 := by
  refine (dats m 0 c).arrAt_eq_of_cover 15 (val_main_v692 (F := Ideal) x0 x1 x2) (fun t hf => ?_) (fun z => ?_)
  · obtain ⟨a, b⟩ := (idx_results t).2.2.1
    rw [flushed15]
    refine funext fun y => (cut15 t _ y).trans (Eq.trans ?_ (read15 t _ y).symm)
    refine placed t (B := (outsAt0 (F := Ideal) m c t.val t.isLt).2.2.1) (A := val_main_v692 (F := Ideal) x0 x1 x2) (fun n i k d hn => ?_) y (((cfg0.win 15).blk t).view.emb y)
      (by rw [← a]; exact (win0_15.rect_emb_val t y 0).symm) (by rw [← b]; exact (win0_15.rect_emb_val t y 1).symm)
    obtain ⟨D, hD, -, -, q, -⟩ := left_at h0 h1 h2 r0 r1 t n hn
    rw [q]
    exact leftV_at t n k i d h0 h1 h2 r0 r1 hn hD
  · obtain ⟨t, y, p0, p1⟩ := found_place z
    obtain ⟨a, b⟩ := (idx_results t).2.2.1
    refine ⟨t, (writes t).2.2.1, ?_⟩
    have he : ((cfg0.win 15).blk t).view.emb y = z := funext fun k => Fin.ext (by
      refine (win0_15.rect_emb_val t y k).trans ?_
      match k with
      | ⟨0, _⟩ => show win0_15.index t 0 * 128 + (y 0).val = (z 0).val; rw [a]; exact p0
      | ⟨1, _⟩ => show win0_15.index t 1 * 512 + (y 1).val = (z 1).val; rw [b]; exact p1)
    rw [← he]
    exact Finset.mem_map.mpr ⟨y, Finset.mem_univ _, rfl⟩

theorem array_g : (dats m 0 c).arrAt 16 cfg0.N = val_main_v693 (F := Ideal) x0 x1 x2 := by
  refine (dats m 0 c).arrAt_eq_of_cover 16 (val_main_v693 (F := Ideal) x0 x1 x2) (fun t hf => ?_) (fun z => ?_)
  · obtain ⟨a, b⟩ := (idx_results t).2.2.2
    rw [flushed16]
    refine funext fun y => (cut16 t _ y).trans (Eq.trans ?_ (read16 t _ y).symm)
    refine placed t (B := (outsAt0 (F := Ideal) m c t.val t.isLt).2.2.2.1) (A := val_main_v693 (F := Ideal) x0 x1 x2) (fun n i k d hn => ?_) y (((cfg0.win 16).blk t).view.emb y)
      (by rw [← a]; exact (win0_16.rect_emb_val t y 0).symm) (by rw [← b]; exact (win0_16.rect_emb_val t y 1).symm)
    obtain ⟨-, -, -, -, -, q⟩ := left_at h0 h1 h2 r0 r1 t n hn
    rw [q]
    exact leftG_at t n k i d h0 h1 h2 r0 r1 hn
  · obtain ⟨t, y, p0, p1⟩ := found_place z
    obtain ⟨a, b⟩ := (idx_results t).2.2.2
    refine ⟨t, (writes t).2.2.2, ?_⟩
    have he : ((cfg0.win 16).blk t).view.emb y = z := funext fun k => Fin.ext (by
      refine (win0_16.rect_emb_val t y k).trans ?_
      match k with
      | ⟨0, _⟩ => show win0_16.index t 0 * 128 + (y 0).val = (z 0).val; rw [a]; exact p0
      | ⟨1, _⟩ => show win0_16.index t 1 * 512 + (y 1).val = (z 1).val; rw [b]; exact p1)
    rw [← he]
    exact Finset.mem_map.mpr ⟨y, Finset.mem_univ _, rfl⟩

end

/-- The kernel and the reference end with equal results. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' pre hargs
  have real := fun c => reals_of_finite _ _ _ (pre c)
  have a0 := fun c : Dev nD => found_arg m c (r := main_arg0) (by decide)
  have a1 := fun c : Dev nD => found_arg m c (r := main_arg1) (by decide)
  have a2 := fun c : Dev nD => found_arg m c (r := main_arg2) (by decide)
  refine ⟨fun c => val_main_v690 (F := Ideal) (V m c main_arg0) (V m c main_arg1) (V m c main_arg2), fun c => val_main_v691 (F := Ideal) (V m c main_arg0) (V m c main_arg1) (V m c main_arg2),
    fun c => val_main_v692 (F := Ideal) (V m c main_arg0) (V m c main_arg1) (V m c main_arg2), fun c => val_main_v693 (F := Ideal) (V m c main_arg0) (V m c main_arg1) (V m c main_arg2), ?_, ?_⟩
  · refine (θ_run _ _ _).mono (fun r h c => ?_) (run_blocks m g)
    obtain ⟨q, k, v, o, kept⟩ := h c
    have s0 : Reals (V m c main_arg0) := by rw [a0 c]; exact (real c).1
    have s1 : Reals (V m c main_arg1) := by rw [a1 c]; exact (real c).2
    exact ⟨q.trans (array_q rfl rfl rfl s0 s1), k.trans (array_k rfl rfl rfl s0 s1), v.trans (array_v rfl rfl rfl s0 s1), o.trans (array_g rfl rfl rfl s0 s1), kept⟩
  · refine (θ_run _ _ _).mono (fun r h c => ?_) (Cert.ReferenceIdeal.Value.run m' g')
    obtain ⟨q, k, v, o, kept⟩ := h c
    obtain ⟨e0, e1, e2⟩ := hargs c
    have f0 := (a0 c).trans e0.symm
    have f1 := (a1 c).trans e1.symm
    have f2 := (a2 c).trans e2.symm
    dsimp only
    rw [f0, f1, f2]
    exact ⟨q.trans (val_main_v690_eq _), k.trans (val_main_v691_eq _), v.trans (val_main_v692_eq _), o.trans (val_main_v693_eq _), kept⟩

end Cert.KernelIdeal.Ret

end
-- ==== Proof.Ew.Gate.lean ====
/- The logistic function over the extended reals, and the gradient of the SiLU gate. -/
module

public import Idealize.ShloMosaic.PureOps
public import Idealize.ShloMosaic.PureOps.Ideal
public import Idealize.ShloMosaic.Lib.Pointwise
public import Idealize.ShloMosaic.Lib.ReduceAll

@[expose] public section

noncomputable section

namespace Cert.Gated

open Idealize.ShloMosaic

/-- The logistic function. -/
def sigmoid (x : EReal) : EReal := Ideal.div 1 (1 + Ideal.exp (0 - x))

theorem sigmoid_real (x : ℝ) : sigmoid (x : EReal) = ((1 / (1 + Real.exp (-x)) : ℝ) : EReal) := by
  unfold sigmoid
  have p : (1 + Real.exp (-x) : ℝ) ≠ 0 := by positivity
  rw [zero_sub, ← EReal.coe_neg, Ideal.exp_coe, ← EReal.coe_one, ← EReal.coe_add]
  unfold Ideal.div
  rw [if_neg (by exact_mod_cast p), ← EReal.coe_inv, ← EReal.coe_mul, div_eq_mul_inv]

theorem sigmoid_top : sigmoid ⊤ = 1 := by
  have e : Ideal.exp ⊥ = 0 := rfl
  unfold sigmoid
  simp [Ideal.div, e]

theorem sigmoid_bot : sigmoid ⊥ = 0 := by
  have e : Ideal.exp ⊤ = ⊤ := rfl
  have a : (1 : EReal) + ⊤ = ⊤ := rfl
  unfold sigmoid
  simp [Ideal.div, e, a]

/-- The slope of the gate as one factor, and as the sum that the product rule gives, on a real cotangent. -/
theorem slope_eq (w : ℝ) (g : EReal) : (w : EReal) * (sigmoid g * (1 + g * (1 - sigmoid g))) =
    w * sigmoid g + g * w * (sigmoid g * (1 - sigmoid g)) := by
  have z : (1 : EReal) - 1 = 0 := by
    rw [← EReal.coe_one, ← EReal.coe_sub, sub_self, EReal.coe_zero]
  induction g with
  | bot => simp [sigmoid_bot]
  | top => simp [sigmoid_top, z]
  | coe g =>
    rw [sigmoid_real]
    generalize (1 / (1 + Real.exp (-g)) : ℝ) = s
    rw [← EReal.coe_one]
    simp only [← EReal.coe_sub, ← EReal.coe_mul, ← EReal.coe_add]
    exact congrArg _ (by ring)

/-- An extended real whose absolute value is below infinity is real. -/
theorem below_real (x : EReal) (h : Ideal.cmp .olt (max x (-x)) (Ideal.ofBits FTy.f32 0x7F800000#32) = 1#1) : ∃ r : ℝ, x = r := by
  have e : Ideal.ofBits FTy.f32 0x7F800000#32 = ⊤ := by simp [Ideal.ofBits, Ideal.ieee]
  rw [e] at h
  induction x with
  | bot => simp [Ideal.cmp] at h
  | top => simp [Ideal.cmp] at h
  | coe r => exact ⟨r, rfl⟩

/-- A place of an array with two axes is given by its row and its column. -/
theorem place_of {a b : ℕ} (y : (⟨2, ![a, b]⟩ : Shape).Idx) (p : Fin a) (q : Fin b) (hp : (y 0).val = p.val) (hq : (y 1).val = q.val) : y = ix2 p q :=
  funext fun k => Fin.ext (match k with
    | ⟨0, _⟩ => hp
    | ⟨1, _⟩ => hq)

theorem exists_place {a b : ℕ} (y : (⟨2, ![a, b]⟩ : Shape).Idx) : ∃ (p : Fin a) (q : Fin b), y = ix2 p q :=
  ⟨y 0, y 1, place_of y (y 0) (y 1) rfl rfl⟩

end Cert.Gated

end
-- ==== Proof.Ew.Swiglu.lean ====
/- The SwiGLU activation: the kernel and the reference end with equal results. -/
module

public import proofs.«01_k».proof.Defs
public import proofs.«01_k».proof.Proof.Gen.SwigluIdeal.Value
public import proofs.«01_k».proof.Proof.Gen.SwigluReferenceIdeal.Read
public import proofs.«01_k».proof.Proof.Ew.Gate
public import Idealize.ShloMosaic.Lib.StableHlo.RunRead

@[expose] public section

set_option maxRecDepth 16384

noncomputable section

namespace Cert.SwigluIdeal.Product

open Cert.SwigluIdeal Cert.SwigluIdeal.Gen Cert.SwigluIdeal.Value Cert.Gated
open Idealize.ShloMosaic Idealize.ShloMosaic.TcCoe Idealize.SL.Sem
open Idealize.ShloMosaic.Pipeline (Dat)

/-- An element of a block of the result. -/
theorem block_apply (x0 x1 : Vec Ideal S512x2816 .bf16) (j : S512x2816.Idx) : out0_2 x0 x1 j = x0 j * sigmoid (x0 j) * x1 j := by
  have z : (![0, 0] : Fin 2 → Nat) = fun _ => 0 := by decide
  unfold out0_2
  rw [View.canon_unit_zero z, View.ld_unit_zero z, View.ld_unit_zero z]
  pointwise [k0_pay1]
  rfl

/-- Where the blocks of a grid point lie. -/
theorem idx_of : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) ∧ (cfg0.win 2).flush t = true := by
  decide +kernel

variable (m : (ℓ : Loc nD τ sig) → Buf (Elt Ideal) ℓ)

/-- An argument array. -/
abbrev arg0 (c : Dev nD) : S4096x2816.Idx → EReal := m ((c : Thread nD τ).loc main_arg0)
/-- An argument array. -/
abbrev arg1 (c : Dev nD) : S4096x2816.Idx → EReal := m ((c : Thread nD τ).loc main_arg1)

theorem entry0 (c : Dev nD) : (V m c main_v0 : S4096x2816.Idx → EReal) = arg0 m c := by
  dsimp only [V, hostOps0]
  after_reads_simp
  rfl

theorem entry1 (c : Dev nD) : (V m c main_v1 : S4096x2816.Idx → EReal) = arg1 m c := by
  dsimp only [V, hostOps0]
  after_reads_simp
  rfl

/-- The activation of whole arrays. -/
def gated (A0 A1 : S4096x2816.Idx → EReal) : S4096x2816.Idx → EReal := fun i => A0 i * sigmoid (A0 i) * A1 i

theorem point_apply (c : Dev nD) (t : Fin cfg0.N) (y : S512x2816.Idx) (i : S4096x2816.Idx)
    (e0 : win0_2.index t 0 * 512 + (y 0).val = (i 0).val) (e1 : win0_2.index t 1 * 2816 + (y 1).val = (i 1).val) :
    out0_2 (iblk m c 0 t) (iblk m c 1 t) y = gated (arg0 m c) (arg1 m c) i := by
  obtain ⟨⟨a0, b0⟩, ⟨a1, b1⟩, ⟨a2, b2⟩, -⟩ := idx_of t
  have p0 : (iblk m c 0 t : S512x2816.Idx → EReal) y = arg0 m c i := by
    rw [← entry0 m c]
    show V m c main_v0 ((win0_0.rect t).emb y) = _
    refine congrArg (V m c main_v0) (funext fun a => Fin.ext ((win0_0.rect_emb_val t y a).trans ?_))
    match a with
    | ⟨0, _⟩ => show win0_0.index t 0 * 512 + (y 0).val = (i 0).val; omega
    | ⟨1, _⟩ => show win0_0.index t 1 * 2816 + (y 1).val = (i 1).val; omega
  have p1 : (iblk m c 1 t : S512x2816.Idx → EReal) y = arg1 m c i := by
    rw [← entry1 m c]
    show V m c main_v1 ((win0_1.rect t).emb y) = _
    refine congrArg (V m c main_v1) (funext fun a => Fin.ext ((win0_1.rect_emb_val t y a).trans ?_))
    match a with
    | ⟨0, _⟩ => show win0_1.index t 0 * 512 + (y 0).val = (i 0).val; omega
    | ⟨1, _⟩ => show win0_1.index t 1 * 2816 + (y 1).val = (i 1).val; omega
  refine (block_apply _ _ y).trans ?_
  unfold gated
  rw [← p0, ← p1]

/-- The result array of the kernel. -/
theorem array_eq (c : Dev nD) : (dats m 0 c).arrAt 2 cfg0.N = gated (arg0 m c) (arg1 m c) := by
  refine (dats m 0 c).arrAt_eq_of_cover 2 (gated (arg0 m c) (arg1 m c)) (fun t hf => ?_) (fun i => ?_)
  · rw [flushed2]
    refine funext fun y => ?_
    exact point_apply m c t y (((cfg0.win 2).blk t).view.emb y) (win0_2.rect_emb_val t y 0).symm (win0_2.rect_emb_val t y 1).symm
  · have h0 : (i 0).val < 4096 := (i 0).isLt
    obtain ⟨t, ht⟩ : ∃ t : Fin cfg0.N, t.val = (i 0).val / 512 := ⟨⟨_, by have : cfg0.N = 8 := N_0; omega⟩, rfl⟩
    obtain ⟨-, -, ⟨a, b⟩, hf⟩ := idx_of t
    refine ⟨t, hf, ?_⟩
    let y : S512x2816.Idx := ix2 ⟨(i 0).val % 512, Nat.mod_lt _ (by decide)⟩ ⟨(i 1).val, (i 1).isLt⟩
    have he : ((cfg0.win 2).blk t).view.emb y = i := funext fun a => Fin.ext (by
      refine (win0_2.rect_emb_val t y a).trans ?_
      match a with
      | ⟨0, _⟩ => show win0_2.index t 0 * 512 + (i 0).val % 512 = (i 0).val; omega
      | ⟨1, _⟩ => show win0_2.index t 1 * 2816 + (i 1).val = (i 1).val; omega)
    rw [← he]
    exact Finset.mem_map.mpr ⟨y, Finset.mem_univ _, rfl⟩

/-- The reference computes the same activation. -/
theorem reference_eq (X0 X1 : S4096x2816.Idx → EReal) : Cert.SwigluReferenceIdeal.Read.val_main_v2 (F := Ideal) X0 X1 = gated X0 X1 := by
  funext i
  unfold gated sigmoid
  rw [Cert.SwigluReferenceIdeal.Read.val_main_v2_apply, Cert.SwigluReferenceIdeal.Read.val_main_v1_apply, Cert.SwigluReferenceIdeal.Read.val_main_v0_apply,
    Cert.SwigluReferenceIdeal.Read.val_main_call0_v5_apply, Cert.SwigluReferenceIdeal.Read.val_main_call0_v4_apply, Cert.SwigluReferenceIdeal.Read.val_main_call0_v3_apply,
    Cert.SwigluReferenceIdeal.Read.val_main_call0_v2_apply, Cert.SwigluReferenceIdeal.Read.val_main_call0_v1_apply, Cert.SwigluReferenceIdeal.Read.val_main_call0_v0_apply,
    Cert.SwigluReferenceIdeal.Read.val_main_call0_cst_apply, Cert.SwigluReferenceIdeal.Read.val_main_call0_cst_0_apply, zero_sub]
  pointwise

/-- The kernel and the reference end with equal results. -/
theorem algebraic : Cert.algebraic_SwigluIdeal_SwigluReferenceIdeal (hSwigluIdeal := Cert.SwigluIdeal.Gen.facts) (hSwigluReferenceIdeal := Cert.SwigluReferenceIdeal.Gen.facts) := by
  intro m g m' g' _ hargs
  refine ⟨fun c => gated (arg0 m c) (arg1 m c), ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.SwigluReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.SwigluIdeal.Product

end
-- ==== Proof.Ew.SwigluGrad.lean ====
/- The gradient of the SwiGLU activation: the kernel and the reference end with equal results. -/
module

public import proofs.«01_k».proof.Defs
public import proofs.«01_k».proof.Proof.Gen.SwigluGradIdeal.Value
public import proofs.«01_k».proof.Proof.Gen.SwigluGradReferenceIdeal.Read
public import proofs.«01_k».proof.Proof.Gen.Pre_finite_product
public import proofs.«01_k».proof.Proof.Ew.Gate
public import Idealize.ShloMosaic.Lib.StableHlo.RunRead

@[expose] public section

set_option maxRecDepth 16384

noncomputable section

namespace Cert.SwigluGradIdeal.Product

open Cert.SwigluGradIdeal Cert.SwigluGradIdeal.Gen Cert.SwigluGradIdeal.Value Cert.Gated
open Idealize.ShloMosaic Idealize.ShloMosaic.TcCoe Idealize.SL.Sem
open Idealize.ShloMosaic.Pipeline (Dat)

/-- An element of a block of the gate gradient, from the cotangent, the gate and the other factor. -/
theorem slope_block (x0 x1 x2 : Vec Ideal S512x2816 .bf16) (j : S512x2816.Idx) :
    out0_3 x0 x1 x2 j = x0 j * x2 j * (sigmoid (x1 j) * (1 + x1 j * (1 - sigmoid (x1 j)))) := by
  have z : (![0, 0] : Fin 2 → Nat) = fun _ => 0 := by decide
  unfold out0_3
  rw [View.canon_unit_zero z, View.ld_unit_zero z, View.ld_unit_zero z, View.ld_unit_zero z]
  pointwise [k0_pay4, k0_pay3, k0_pay2, k0_pay1]
  rfl

/-- An element of a block of the gradient of the other factor. -/
theorem factor_block (x0 x1 x2 : Vec Ideal S512x2816 .bf16) (j : S512x2816.Idx) : out0_4 x0 x1 x2 j = x0 j * (x1 j * sigmoid (x1 j)) := by
  have z : (![0, 0] : Fin 2 → Nat) = fun _ => 0 := by decide
  unfold out0_4
  rw [View.canon_unit_zero z, View.ld_unit_zero z, View.ld_unit_zero z]
  pointwise [k0_pay5, k0_pay3, k0_pay2, k0_pay1]
  rfl

/-- Where the blocks of a grid point lie. -/
theorem idx_of : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) ∧
    (win0_4.index t 0 = t.val ∧ win0_4.index t 1 = 0) ∧ (cfg0.win 3).flush t = true ∧ (cfg0.win 4).flush t = true := by
  decide +kernel

variable (m : (ℓ : Loc nD τ sig) → Buf (Elt Ideal) ℓ)

/-- An argument array. -/
abbrev arg0 (c : Dev nD) : S4096x2816.Idx → EReal := m ((c : Thread nD τ).loc main_arg0)
/-- An argument array. -/
abbrev arg1 (c : Dev nD) : S4096x2816.Idx → EReal := m ((c : Thread nD τ).loc main_arg1)
/-- An argument array. -/
abbrev arg2 (c : Dev nD) : S4096x2816.Idx → EReal := m ((c : Thread nD τ).loc main_arg2)

theorem entry0 (c : Dev nD) : (V m c main_v0 : S4096x2816.Idx → EReal) = arg0 m c := by
  dsimp only [V, hostOps0]
  after_reads_simp
  rfl

theorem entry1 (c : Dev nD) : (V m c main_v1 : S4096x2816.Idx → EReal) = arg1 m c := by
  dsimp only [V, hostOps0]
  after_reads_simp
  rfl

theorem entry2 (c : Dev nD) : (V m c main_v2 : S4096x2816.Idx → EReal) = arg2 m c := by
  dsimp only [V, hostOps0]
  after_reads_simp
  rfl

/-- The gate gradient of whole arrays. -/
def slopeOf (A0 A1 A2 : S4096x2816.Idx → EReal) : S4096x2816.Idx → EReal :=
  fun i => A0 i * A2 i * (sigmoid (A1 i) * (1 + A1 i * (1 - sigmoid (A1 i))))

/-- The gradient of the other factor. -/
def factorOf (A0 A1 : S4096x2816.Idx → EReal) : S4096x2816.Idx → EReal := fun i => A0 i * (A1 i * sigmoid (A1 i))

/-- The three blocks of a grid point hold the elements of the arguments in the point's rows. -/
theorem blocks_apply (c : Dev nD) (t : Fin cfg0.N) (y : S512x2816.Idx) (i : S4096x2816.Idx)
    (e0 : t.val * 512 + (y 0).val = (i 0).val) (e1 : (y 1).val = (i 1).val) :
    (iblk m c 0 t : S512x2816.Idx → EReal) y = arg0 m c i ∧ (iblk m c 1 t : S512x2816.Idx → EReal) y = arg1 m c i ∧
      (iblk m c 2 t : S512x2816.Idx → EReal) y = arg2 m c i := by
  obtain ⟨⟨a0, b0⟩, ⟨a1, b1⟩, ⟨a2, b2⟩, -⟩ := idx_of t
  refine ⟨?_, ?_, ?_⟩
  · rw [← entry0 m c]
    show V m c main_v0 ((win0_0.rect t).emb y) = _
    refine congrArg (V m c main_v0) (funext fun a => Fin.ext ((win0_0.rect_emb_val t y a).trans ?_))
    match a with
    | ⟨0, _⟩ => show win0_0.index t 0 * 512 + (y 0).val = (i 0).val; omega
    | ⟨1, _⟩ => show win0_0.index t 1 * 2816 + (y 1).val = (i 1).val; omega
  · rw [← entry1 m c]
    show V m c main_v1 ((win0_1.rect t).emb y) = _
    refine congrArg (V m c main_v1) (funext fun a => Fin.ext ((win0_1.rect_emb_val t y a).trans ?_))
    match a with
    | ⟨0, _⟩ => show win0_1.index t 0 * 512 + (y 0).val = (i 0).val; omega
    | ⟨1, _⟩ => show win0_1.index t 1 * 2816 + (y 1).val = (i 1).val; omega
  · rw [← entry2 m c]
    show V m c main_v2 ((win0_2.rect t).emb y) = _
    refine congrArg (V m c main_v2) (funext fun a => Fin.ext ((win0_2.rect_emb_val t y a).trans ?_))
    match a with
    | ⟨0, _⟩ => show win0_2.index t 0 * 512 + (y 0).val = (i 0).val; omega
    | ⟨1, _⟩ => show win0_2.index t 1 * 2816 + (y 1).val = (i 1).val; omega

/-- The gate gradient of the kernel. -/
theorem slope_array (c : Dev nD) : (dats m 0 c).arrAt 3 cfg0.N = slopeOf (arg0 m c) (arg1 m c) (arg2 m c) := by
  refine (dats m 0 c).arrAt_eq_of_cover 3 (slopeOf (arg0 m c) (arg1 m c) (arg2 m c)) (fun t hf => ?_) (fun i => ?_)
  · rw [flushed3]
    refine funext fun y => ?_
    refine (slope_block (iblk m c 0 t) (iblk m c 1 t) (iblk m c 2 t) y).trans ?_
    obtain ⟨-, -, -, ⟨a3, b3⟩, ⟨a4, b4⟩, -⟩ := idx_of t
    have r0 := win0_3.rect_emb_val t y 0
    have r1 := win0_3.rect_emb_val t y 1
    rw [a3] at r0
    rw [b3] at r1
    obtain ⟨p0, p1, p2⟩ := blocks_apply m c t y (((cfg0.win 3).blk t).view.emb y) r0.symm (Eq.trans (by omega) r1.symm)
    rw [p0, p1, p2]
    rfl
  · have h0 : (i 0).val < 4096 := (i 0).isLt
    obtain ⟨t, ht⟩ : ∃ t : Fin cfg0.N, t.val = (i 0).val / 512 := ⟨⟨_, by have : cfg0.N = 8 := N_0; omega⟩, rfl⟩
    obtain ⟨-, -, -, ⟨a3, b3⟩, ⟨a4, b4⟩, f3, f4⟩ := idx_of t
    refine ⟨t, f3, ?_⟩
    let y : S512x2816.Idx := ix2 ⟨(i 0).val % 512, Nat.mod_lt _ (by decide)⟩ ⟨(i 1).val, (i 1).isLt⟩
    have he : ((cfg0.win 3).blk t).view.emb y = i := funext fun a => Fin.ext (by
      refine (win0_3.rect_emb_val t y a).trans ?_
      match a with
      | ⟨0, _⟩ => show win0_3.index t 0 * 512 + (i 0).val % 512 = (i 0).val; omega
      | ⟨1, _⟩ => show win0_3.index t 1 * 2816 + (i 1).val = (i 1).val; omega)
    rw [← he]
    exact Finset.mem_map.mpr ⟨y, Finset.mem_univ _, rfl⟩

/-- The gradient of the other factor in the kernel. -/
theorem factor_array (c : Dev nD) : (dats m 0 c).arrAt 4 cfg0.N = factorOf (arg0 m c) (arg1 m c) := by
  refine (dats m 0 c).arrAt_eq_of_cover 4 (factorOf (arg0 m c) (arg1 m c)) (fun t hf => ?_) (fun i => ?_)
  · rw [flushed4]
    refine funext fun y => ?_
    refine (factor_block (iblk m c 0 t) (iblk m c 1 t) (iblk m c 2 t) y).trans ?_
    obtain ⟨-, -, -, ⟨a3, b3⟩, ⟨a4, b4⟩, -⟩ := idx_of t
    have r0 := win0_4.rect_emb_val t y 0
    have r1 := win0_4.rect_emb_val t y 1
    rw [a4] at r0
    rw [b4] at r1
    obtain ⟨p0, p1, p2⟩ := blocks_apply m c t y (((cfg0.win 4).blk t).view.emb y) r0.symm (Eq.trans (by omega) r1.symm)
    rw [p0, p1]
    rfl
  · have h0 : (i 0).val < 4096 := (i 0).isLt
    obtain ⟨t, ht⟩ : ∃ t : Fin cfg0.N, t.val = (i 0).val / 512 := ⟨⟨_, by have : cfg0.N = 8 := N_0; omega⟩, rfl⟩
    obtain ⟨-, -, -, ⟨a3, b3⟩, ⟨a4, b4⟩, f3, f4⟩ := idx_of t
    refine ⟨t, f4, ?_⟩
    let y : S512x2816.Idx := ix2 ⟨(i 0).val % 512, Nat.mod_lt _ (by decide)⟩ ⟨(i 1).val, (i 1).isLt⟩
    have he : ((cfg0.win 4).blk t).view.emb y = i := funext fun a => Fin.ext (by
      refine (win0_4.rect_emb_val t y a).trans ?_
      match a with
      | ⟨0, _⟩ => show win0_4.index t 0 * 512 + (i 0).val % 512 = (i 0).val; omega
      | ⟨1, _⟩ => show win0_4.index t 1 * 2816 + (i 1).val = (i 1).val; omega)
    rw [← he]
    exact Finset.mem_map.mpr ⟨y, Finset.mem_univ _, rfl⟩

/-- The precondition makes the cotangent and the other factor real. -/
theorem reals_of_pre (A0 A1 A2 : S4096x2816.Idx → EReal) (h : Cert.Pre_finite_product.fn (F := Ideal) A0 A1 A2 = fun _ => 1#1) :
    (∀ i, ∃ r : ℝ, A0 i = r) ∧ (∀ i, ∃ r : ℝ, A2 i = r) := by
  have e := congrFun h (fun a => a.elim0)
  simp only [Cert.Pre_finite_product.fn, andi] at e
  obtain ⟨e0, e2⟩ := IntOp.andi_eq_one.mp e
  haveI : Subsingleton Cert.Pre_finite_product.S_.Idx := ⟨fun a b => funext fun i => i.elim0⟩
  exact ⟨fun i => below_real _ (Host.reduce_andi_all _ _ _ _ _ e0 i), fun i => below_real _ (Host.reduce_andi_all _ _ _ _ _ e2 i)⟩

/-- The reference computes the same gate gradient of a real cotangent and a real factor. -/
theorem reference_slope (X0 X1 X2 : S4096x2816.Idx → EReal) (h0 : ∀ i, ∃ r : ℝ, X0 i = r) (h2 : ∀ i, ∃ r : ℝ, X2 i = r) :
    Cert.SwigluGradReferenceIdeal.Read.val_main_v5 (F := Ideal) X0 X1 X2 = slopeOf X0 X1 X2 := by
  funext i
  obtain ⟨a, ha⟩ := h0 i
  obtain ⟨b, hb⟩ := h2 i
  unfold slopeOf
  rw [ha, hb, ← EReal.coe_mul, slope_eq, EReal.coe_mul, ← ha, ← hb]
  unfold sigmoid
  rw [zero_sub]
  pointwise [Cert.SwigluGradReferenceIdeal.Read.val_main_v5, Cert.SwigluGradReferenceIdeal.Read.val_main_v4, Cert.SwigluGradReferenceIdeal.Read.val_main_v3, Cert.SwigluGradReferenceIdeal.Read.val_main_v0_1, Cert.SwigluGradReferenceIdeal.Read.val_main_v0_2, Cert.SwigluGradReferenceIdeal.Read.val_main_call1_v0,
    Cert.SwigluGradReferenceIdeal.Read.val_main_call1_v1, Cert.SwigluGradReferenceIdeal.Read.val_main_call1_v2, Cert.SwigluGradReferenceIdeal.Read.val_main_call0_v7, Cert.SwigluGradReferenceIdeal.Read.val_main_call0_v6,
    Cert.SwigluGradReferenceIdeal.Read.val_main_call0_v4, Cert.SwigluGradReferenceIdeal.Read.val_main_call0_v3, Cert.SwigluGradReferenceIdeal.Read.val_main_call0_v2, Cert.SwigluGradReferenceIdeal.Read.val_main_call0_v1,
    Cert.SwigluGradReferenceIdeal.Read.val_main_call0_v0, Cert.SwigluGradReferenceIdeal.Read.val_main_call0_cst, Cert.SwigluGradReferenceIdeal.Read.val_main_call0_cst_0, Cert.SwigluGradReferenceIdeal.Read.val_main_call0_cst_1]

/-- The reference computes the same gradient of the other factor. -/
theorem reference_factor (X0 X1 : S4096x2816.Idx → EReal) : Cert.SwigluGradReferenceIdeal.Read.val_main_v6 (F := Ideal) X0 X1 = factorOf X0 X1 := by
  funext i
  unfold factorOf
  rw [mul_comm]
  unfold sigmoid
  rw [zero_sub]
  pointwise [Cert.SwigluGradReferenceIdeal.Read.val_main_v6, Cert.SwigluGradReferenceIdeal.Read.val_main_v2, Cert.SwigluGradReferenceIdeal.Read.val_main_v0_0, Cert.SwigluGradReferenceIdeal.Read.val_main_v0_2, Cert.SwigluGradReferenceIdeal.Read.val_main_call0_v4, Cert.SwigluGradReferenceIdeal.Read.val_main_call0_v3,
    Cert.SwigluGradReferenceIdeal.Read.val_main_call0_v2, Cert.SwigluGradReferenceIdeal.Read.val_main_call0_v1, Cert.SwigluGradReferenceIdeal.Read.val_main_call0_v0, Cert.SwigluGradReferenceIdeal.Read.val_main_call0_cst, Cert.SwigluGradReferenceIdeal.Read.val_main_call0_cst_0]

/-- The kernel and the reference end with equal results. -/
theorem algebraic : Cert.algebraic_SwigluGradIdeal_SwigluGradReferenceIdeal_pre_finite_product (hSwigluGradIdeal := Cert.SwigluGradIdeal.Gen.facts)
    (hSwigluGradReferenceIdeal := Cert.SwigluGradReferenceIdeal.Gen.facts) (hPre_finite_product := Cert.Pre_finite_product.Gen.facts) := by
  intro m g m' g' hpre hargs
  refine ⟨fun c => slopeOf (arg0 m c) (arg1 m c) (arg2 m c), fun c => factorOf (arg0 m c) (arg1 m c), ?_, ?_⟩
  · refine (θ_run _ _ _).mono (fun r h c => ?_) (run_blocks m g)
    obtain ⟨h0, h1, hk⟩ := h c
    exact ⟨h0.trans (slope_array m c), h1.trans (factor_array m c), hk⟩
  · refine (θ_run _ _ _).mono (fun r h c => ?_) (Cert.SwigluGradReferenceIdeal.Value.run m' g')
    obtain ⟨h0, h1, hk⟩ := h c
    obtain ⟨e0, e1, e2⟩ := hargs c
    obtain ⟨q0, q2⟩ := reals_of_pre _ _ _ (hpre c)
    refine ⟨h0.trans ?_, h1.trans ?_, hk⟩
    · refine Eq.trans ?_ (reference_slope (arg0 m c) (arg1 m c) (arg2 m c) q0 q2)
      rw [show arg0 m c = _ from e0.symm, show arg1 m c = _ from e1.symm, show arg2 m c = _ from e2.symm]
      rfl
    · refine Eq.trans ?_ (reference_factor (arg0 m c) (arg1 m c))
      rw [show arg0 m c = _ from e0.symm, show arg1 m c = _ from e1.symm]
      rfl

end Cert.SwigluGradIdeal.Product

end
-- ==== Proof.Ew.Gates.lean ====
/- The sigmoid gates that merge the two mixers: the kernel and the reference end with equal results. -/
module

public import proofs.«01_k».proof.Defs
public import proofs.«01_k».proof.Proof.Gen.GatesIdeal.Value
public import proofs.«01_k».proof.Proof.Gen.GatesReferenceIdeal.Read
public import proofs.«01_k».proof.Proof.Ew.Gate
public import Idealize.ShloMosaic.Lib.StableHlo.RunRead

@[expose] public section

set_option maxRecDepth 16384

noncomputable section

namespace Cert.GatesIdeal.Product

open Cert.GatesIdeal Cert.GatesIdeal.Gen Cert.GatesIdeal.Value Cert.Gated
open Idealize.ShloMosaic Idealize.ShloMosaic.TcCoe Idealize.SL.Sem
open Idealize.ShloMosaic.Pipeline (Dat)

/-- A column of the left half, and of the right half, of a doubled row. -/
abbrev left (q : Fin 1024) : Fin 2048 := ⟨q.val, by omega⟩
abbrev right (q : Fin 1024) : Fin 2048 := ⟨1024 + q.val, by omega⟩

/-- The merge of a row: two gates from logits and a bias, one for each summand. -/
def merged {n : ℕ} (G : (⟨2, ![n, 2048]⟩ : Shape).Idx → EReal) (b : S1x2048.Idx → EReal) (A B : (⟨2, ![n, 1024]⟩ : Shape).Idx → EReal) (p : Fin n) (q : Fin 1024) : EReal :=
  sigmoid (G (ix2 p (left q)) + b (ix2 0 (left q))) * A (ix2 p q) + sigmoid (G (ix2 p (right q)) + b (ix2 0 (right q))) * B (ix2 p q)

/-- An element of a block of the result. -/
theorem block_apply (x0 : Vec Ideal S512x2048 .f32) (x1 : Vec Ideal S1x2048 .f32) (x2 x3 : Vec Ideal S512x1024 .f32) (p : Fin 512) (q : Fin 1024) :
    out0_4 x0 x1 x2 x3 (ix2 p q) = merged x0 x1 x2 x3 p q := by
  have z : (![0, 0] : Fin 2 → Nat) = fun _ => 0 := by decide
  unfold out0_4
  rw [View.canon_unit_zero z, View.ld_unit_zero z, View.ld_unit_zero z]
  pointwise [k0_pay1]
  rfl

/-- Where the blocks of a grid point lie. -/
theorem idx_of : ∀ t : Fin cfg0.N, (win0_0.index t 0 = t.val ∧ win0_0.index t 1 = 0) ∧ (win0_1.index t 0 = 0 ∧ win0_1.index t 1 = 0) ∧
    (win0_2.index t 0 = t.val ∧ win0_2.index t 1 = 0) ∧ (win0_3.index t 0 = t.val ∧ win0_3.index t 1 = 0) ∧
    (win0_4.index t 0 = t.val ∧ win0_4.index t 1 = 0) ∧ (cfg0.win 4).flush t = true := by
  decide +kernel

variable (m : (ℓ : Loc nD τ sig) → Buf (Elt Ideal) ℓ)

/-- An argument array. -/
abbrev arg0 (c : Dev nD) : S4096x2048.Idx → EReal := m ((c : Thread nD τ).loc main_arg0)
/-- An argument array. -/
abbrev arg1 (c : Dev nD) : S1x2048.Idx → EReal := m ((c : Thread nD τ).loc main_arg1)
/-- An argument array. -/
abbrev arg2 (c : Dev nD) : S4096x1024.Idx → EReal := m ((c : Thread nD τ).loc main_arg2)
/-- An argument array. -/
abbrev arg3 (c : Dev nD) : S4096x1024.Idx → EReal := m ((c : Thread nD τ).loc main_arg3)

/-- The rows of a grid point in the whole arrays. -/
abbrev row (t : Fin cfg0.N) (p : Fin 512) : Fin 4096 := ⟨t.val * 512 + p.val, by have : cfg0.N = 8 := N_0; omega⟩

theorem logits_block (c : Dev nD) (t : Fin cfg0.N) (p : Fin 512) (q : Fin 2048) : (iblk m c 0 t : S512x2048.Idx → EReal) (ix2 p q) = arg0 m c (ix2 (row t p) q) := by
  obtain ⟨⟨a, b⟩, -⟩ := idx_of t
  show m ((c : Thread nD τ).loc main_arg0) ((win0_0.rect t).emb (ix2 p q)) = _
  refine congrArg (m ((c : Thread nD τ).loc main_arg0)) (funext fun k => Fin.ext ((win0_0.rect_emb_val t (ix2 p q) k).trans ?_))
  match k with
  | ⟨0, _⟩ => show win0_0.index t 0 * 512 + p.val = t.val * 512 + p.val; omega
  | ⟨1, _⟩ => show win0_0.index t 1 * 2048 + q.val = q.val; omega

theorem bias_block (c : Dev nD) (t : Fin cfg0.N) (q : Fin 2048) : (iblk m c 1 t : S1x2048.Idx → EReal) (ix2 0 q) = arg1 m c (ix2 0 q) := by
  obtain ⟨-, ⟨a, b⟩, -⟩ := idx_of t
  show m ((c : Thread nD τ).loc main_arg1) ((win0_1.rect t).emb (ix2 0 q)) = _
  refine congrArg (m ((c : Thread nD τ).loc main_arg1)) (funext fun k => Fin.ext ((win0_1.rect_emb_val t (ix2 0 q) k).trans ?_))
  match k with
  | ⟨0, _⟩ => show win0_1.index t 0 * 1 + 0 = 0; omega
  | ⟨1, _⟩ => show win0_1.index t 1 * 2048 + q.val = q.val; omega

theorem first_block (c : Dev nD) (t : Fin cfg0.N) (p : Fin 512) (q : Fin 1024) : (iblk m c 2 t : S512x1024.Idx → EReal) (ix2 p q) = arg2 m c (ix2 (row t p) q) := by
  obtain ⟨-, -, ⟨a, b⟩, -⟩ := idx_of t
  show m ((c : Thread nD τ).loc main_arg2) ((win0_2.rect t).emb (ix2 p q)) = _
  refine congrArg (m ((c : Thread nD τ).loc main_arg2)) (funext fun k => Fin.ext ((win0_2.rect_emb_val t (ix2 p q) k).trans ?_))
  match k with
  | ⟨0, _⟩ => show win0_2.index t 0 * 512 + p.val = t.val * 512 + p.val; omega
  | ⟨1, _⟩ => show win0_2.index t 1 * 1024 + q.val = q.val; omega

theorem second_block (c : Dev nD) (t : Fin cfg0.N) (p : Fin 512) (q : Fin 1024) : (iblk m c 3 t : S512x1024.Idx → EReal) (ix2 p q) = arg3 m c (ix2 (row t p) q) := by
  obtain ⟨-, -, -, ⟨a, b⟩, -⟩ := idx_of t
  show m ((c : Thread nD τ).loc main_arg3) ((win0_3.rect t).emb (ix2 p q)) = _
  refine congrArg (m ((c : Thread nD τ).loc main_arg3)) (funext fun k => Fin.ext ((win0_3.rect_emb_val t (ix2 p q) k).trans ?_))
  match k with
  | ⟨0, _⟩ => show win0_3.index t 0 * 512 + p.val = t.val * 512 + p.val; omega
  | ⟨1, _⟩ => show win0_3.index t 1 * 1024 + q.val = q.val; omega

/-- The merge of whole arrays. -/
def result (G : S4096x2048.Idx → EReal) (b : S1x2048.Idx → EReal) (A B : S4096x1024.Idx → EReal) : S4096x1024.Idx → EReal := fun i => merged G b A B (i 0) (i 1)

theorem point_apply (c : Dev nD) (t : Fin cfg0.N) (p : Fin 512) (q : Fin 1024) :
    out0_4 (iblk m c 0 t) (iblk m c 1 t) (iblk m c 2 t) (iblk m c 3 t) (ix2 p q) = result (arg0 m c) (arg1 m c) (arg2 m c) (arg3 m c) (ix2 (row t p) q) := by
  refine (block_apply _ _ _ _ p q).trans ?_
  unfold merged
  rw [logits_block, logits_block, bias_block, bias_block, first_block, second_block]
  rfl

/-- The result array of the kernel. -/
theorem array_eq (c : Dev nD) : (dats m 0 c).arrAt 4 cfg0.N = result (arg0 m c) (arg1 m c) (arg2 m c) (arg3 m c) := by
  refine (dats m 0 c).arrAt_eq_of_cover 4 (result (arg0 m c) (arg1 m c) (arg2 m c) (arg3 m c)) (fun t hf => ?_) (fun i => ?_)
  · rw [flushed4]
    refine funext fun y => ?_
    obtain ⟨-, -, -, -, ⟨a, b⟩, -⟩ := idx_of t
    obtain ⟨p, q, hy⟩ := exists_place (show S512x1024.Idx from y)
    have he : ((cfg0.win 4).blk t).view.emb y = (ix2 (row t p) q : S4096x1024.Idx) := funext fun k => Fin.ext (by
      refine (win0_4.rect_emb_val t y k).trans ?_
      have e0 : (y 0).val = p.val := congrArg (fun w : S512x1024.Idx => (w 0).val) hy
      have e1 : (y 1).val = q.val := congrArg (fun w : S512x1024.Idx => (w 1).val) hy
      match k with
      | ⟨0, _⟩ => show win0_4.index t 0 * 512 + (y 0).val = t.val * 512 + p.val; omega
      | ⟨1, _⟩ => show win0_4.index t 1 * 1024 + (y 1).val = q.val; omega)
    show out0_4 (iblk m c 0 t) (iblk m c 1 t) (iblk m c 2 t) (iblk m c 3 t) y = result (arg0 m c) (arg1 m c) (arg2 m c) (arg3 m c) (((cfg0.win 4).blk t).view.emb y)
    rw [he]
    exact (congrArg (out0_4 (iblk m c 0 t) (iblk m c 1 t) (iblk m c 2 t) (iblk m c 3 t)) hy).trans (point_apply m c t p q)
  · have h0 : (i 0).val < 4096 := (i 0).isLt
    obtain ⟨t, ht⟩ : ∃ t : Fin cfg0.N, t.val = (i 0).val / 512 := ⟨⟨_, by have : cfg0.N = 8 := N_0; omega⟩, rfl⟩
    obtain ⟨-, -, -, -, ⟨a, b⟩, hf⟩ := idx_of t
    refine ⟨t, hf, ?_⟩
    let y : S512x1024.Idx := ix2 ⟨(i 0).val % 512, Nat.mod_lt _ (by decide)⟩ ⟨(i 1).val, (i 1).isLt⟩
    have he : ((cfg0.win 4).blk t).view.emb y = i := funext fun a => Fin.ext (by
      refine (win0_4.rect_emb_val t y a).trans ?_
      match a with
      | ⟨0, _⟩ => show win0_4.index t 0 * 512 + (i 0).val % 512 = (i 0).val; omega
      | ⟨1, _⟩ => show win0_4.index t 1 * 1024 + (i 1).val = (i 1).val; omega)
    rw [← he]
    exact Finset.mem_map.mpr ⟨y, Finset.mem_univ _, rfl⟩

/-- The reference computes the same merge. -/
theorem reference_eq (X0 : S4096x2048.Idx → EReal) (X1 : S1x2048.Idx → EReal) (X2 X3 : S4096x1024.Idx → EReal) :
    Cert.GatesReferenceIdeal.Read.val_main_v13 (F := Ideal) X0 X1 X2 X3 = result X0 X1 X2 X3 := by
  funext i
  obtain ⟨p, q, rfl⟩ := exists_place i
  show _ = merged X0 X1 X2 X3 p q
  unfold merged sigmoid
  rw [zero_sub, zero_sub]
  pointwise [Cert.GatesReferenceIdeal.Read.val_main_v13, Cert.GatesReferenceIdeal.Read.val_main_v12, Cert.GatesReferenceIdeal.Read.val_main_v11, Cert.GatesReferenceIdeal.Read.val_main_v10,
    Cert.GatesReferenceIdeal.Read.val_main_v9, Cert.GatesReferenceIdeal.Read.val_main_v8, Cert.GatesReferenceIdeal.Read.val_main_v7, Cert.GatesReferenceIdeal.Read.val_main_v6,
    Cert.GatesReferenceIdeal.Read.val_main_v5, Cert.GatesReferenceIdeal.Read.val_main_v4, Cert.GatesReferenceIdeal.Read.val_main_v3, Cert.GatesReferenceIdeal.Read.val_main_v2,
    Cert.GatesReferenceIdeal.Read.val_main_v1, Cert.GatesReferenceIdeal.Read.val_main_v0, Cert.GatesReferenceIdeal.Read.val_main_cst, Cert.GatesReferenceIdeal.Read.val_main_cst_0]

/-- The kernel and the reference end with equal results. -/
theorem algebraic : Cert.algebraic_GatesIdeal_GatesReferenceIdeal (hGatesIdeal := Cert.GatesIdeal.Gen.facts) (hGatesReferenceIdeal := Cert.GatesReferenceIdeal.Gen.facts) := by
  intro m g m' g' _ hargs
  refine ⟨fun c => result (arg0 m c) (arg1 m c) (arg2 m c) (arg3 m c), ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.GatesReferenceIdeal.Value.run m' g')
    obtain ⟨h0, hk⟩ := h c
    obtain ⟨e0, e1, e2, e3⟩ := hargs c
    refine ⟨h0.trans ?_, hk⟩
    refine Eq.trans ?_ (reference_eq (arg0 m c) (arg1 m c) (arg2 m c) (arg3 m c))
    rw [show arg0 m c = _ from e0.symm, show arg1 m c = _ from e1.symm, show arg2 m c = _ from e2.symm, show arg3 m c = _ from e3.symm]
    rfl

end Cert.GatesIdeal.Product

end
-- ==== Proof.Ew.Row.lean ====
/- The root-mean-square norm of a row, as both the kernels and the references compute it. -/
module

public import Idealize.ShloMosaic.PureOps
public import Idealize.ShloMosaic.PureOps.Ideal
public import Idealize.ShloMosaic.Lib.Pointwise

@[expose] public section

noncomputable section

namespace Cert.Gated

open Idealize.ShloMosaic

/-- A row divided by the root of its mean square, times a gain. -/
def normed {n : ℕ} (X : (⟨2, ![n, 1024]⟩ : Shape).Idx → EReal) (g : (⟨2, ![1, 1024]⟩ : Shape).Idx → EReal) (p : Fin n) (q : Fin 1024) : EReal :=
  X (ix2 p q) * Ideal.rsqrt (Ideal.div (∑ x, X (ix2 p x) * X (ix2 p x)) (Ideal.ofBits FTy.f32 0x44800000#32) + Ideal.ofBits FTy.f32 0x358637BD#32) * g (ix2 0 q)

/-- The norm reads one row of its array and the gain. -/
theorem normed_congr {n k : ℕ} {X : (⟨2, ![n, 1024]⟩ : Shape).Idx → EReal} {Y : (⟨2, ![k, 1024]⟩ : Shape).Idx → EReal} {g h : (⟨2, ![1, 1024]⟩ : Shape).Idx → EReal}
    {p : Fin n} {r : Fin k} (e : ∀ x, X (ix2 p x) = Y (ix2 r x)) (eg : ∀ x, g (ix2 0 x) = h (ix2 0 x)) (q : Fin 1024) : normed X g p q = normed Y h r q := by
  unfold normed
  rw [e q, eg q, Finset.sum_congr rfl (fun x _ => by rw [e x])]

end Cert.Gated

end
-- ==== Proof.Ew.Rms.lean ====
/- The root-mean-square norm of the rows: the kernel and the reference end with equal results. -/
module

public import proofs.«01_k».proof.Defs
public import proofs.«01_k».proof.Proof.Gen.RmsIdeal.Value
public import proofs.«01_k».proof.Proof.Gen.RmsReferenceIdeal.Read
public import proofs.«01_k».proof.Proof.Ew.Gate
public import proofs.«01_k».proof.Proof.Ew.Row
public import Idealize.ShloMosaic.Lib.StableHlo.RunRead

@[expose] public section

set_option maxRecDepth 16384

noncomputable section

namespace Cert.RmsIdeal.Product

open Cert.RmsIdeal Cert.RmsIdeal.Gen Cert.RmsIdeal.Value Cert.Gated
open Idealize.ShloMosaic Idealize.ShloMosaic.TcCoe Idealize.SL.Sem
open Idealize.ShloMosaic.Pipeline (Dat)

/-- An element of a block of the result. -/
theorem block_apply (x0 : Vec Ideal S1024x1024 .f32) (x1 : Vec Ideal S1x1024 .f32) (p q : Fin 1024) : out0_2 x0 x1 (ix2 p q) = normed x0 x1 p q := by
  have z : (![0, 0] : Fin 2 → Nat) = fun _ => 0 := by decide
  unfold out0_2
  rw [View.canon_unit_zero z, View.ld_unit_zero z, View.ld_unit_zero z]
  pointwise [k0_pay1]
  rfl

/-- Where the blocks of a grid point lie. -/
theorem idx_of : ∀ t : Fin cfg0.N, (win0_0.index t 0 = t.val ∧ win0_0.index t 1 = 0) ∧ (win0_1.index t 0 = 0 ∧ win0_1.index t 1 = 0) ∧
    (win0_2.index t 0 = t.val ∧ win0_2.index t 1 = 0) ∧ (cfg0.win 2).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S1x1024.Idx → EReal := m ((c : Thread nD τ).loc main_arg1)

/-- The rows of a grid point in the whole arrays. -/
abbrev row (t : Fin cfg0.N) (p : Fin 1024) : Fin 4096 := ⟨t.val * 1024 + p.val, by have : cfg0.N = 4 := N_0; omega⟩

theorem rows_block (c : Dev nD) (t : Fin cfg0.N) (p q : Fin 1024) : (iblk m c 0 t : S1024x1024.Idx → EReal) (ix2 p q) = arg0 m c (ix2 (row t p) q) := by
  obtain ⟨⟨a, b⟩, -⟩ := idx_of t
  show m ((c : Thread nD τ).loc main_arg0) ((win0_0.rect t).emb (ix2 p q)) = _
  refine congrArg (m ((c : Thread nD τ).loc main_arg0)) (funext fun k => Fin.ext ((win0_0.rect_emb_val t (ix2 p q) k).trans ?_))
  match k with
  | ⟨0, _⟩ => show win0_0.index t 0 * 1024 + p.val = t.val * 1024 + p.val; omega
  | ⟨1, _⟩ => show win0_0.index t 1 * 1024 + q.val = q.val; omega

theorem gain_block (c : Dev nD) (t : Fin cfg0.N) (q : Fin 1024) : (iblk m c 1 t : S1x1024.Idx → EReal) (ix2 0 q) = arg1 m c (ix2 0 q) := by
  obtain ⟨-, ⟨a, b⟩, -⟩ := idx_of t
  show m ((c : Thread nD τ).loc main_arg1) ((win0_1.rect t).emb (ix2 0 q)) = _
  refine congrArg (m ((c : Thread nD τ).loc main_arg1)) (funext fun k => Fin.ext ((win0_1.rect_emb_val t (ix2 0 q) k).trans ?_))
  match k with
  | ⟨0, _⟩ => show win0_1.index t 0 * 1 + 0 = 0; omega
  | ⟨1, _⟩ => show win0_1.index t 1 * 1024 + q.val = q.val; omega

/-- The norm of the rows of a whole array. -/
def result (X : S4096x1024.Idx → EReal) (g : S1x1024.Idx → EReal) : S4096x1024.Idx → EReal := fun i => normed X g (i 0) (i 1)

theorem point_apply (c : Dev nD) (t : Fin cfg0.N) (p q : Fin 1024) :
    out0_2 (iblk m c 0 t) (iblk m c 1 t) (ix2 p q) = result (arg0 m c) (arg1 m c) (ix2 (row t p) q) :=
  (block_apply _ _ p q).trans (normed_congr (rows_block m c t p) (gain_block m c t) q)

/-- The result array of the kernel. -/
theorem array_eq (c : Dev nD) : (dats m 0 c).arrAt 2 cfg0.N = result (arg0 m c) (arg1 m c) := by
  refine (dats m 0 c).arrAt_eq_of_cover 2 (result (arg0 m c) (arg1 m c)) (fun t hf => ?_) (fun i => ?_)
  · rw [flushed2]
    refine funext fun y => ?_
    obtain ⟨-, -, ⟨a, b⟩, -⟩ := idx_of t
    obtain ⟨p, q, hy⟩ := exists_place (show S1024x1024.Idx from y)
    have he : ((cfg0.win 2).blk t).view.emb y = (ix2 (row t p) q : S4096x1024.Idx) := funext fun k => Fin.ext (by
      refine (win0_2.rect_emb_val t y k).trans ?_
      have e0 : (y 0).val = p.val := congrArg (fun w : S1024x1024.Idx => (w 0).val) hy
      have e1 : (y 1).val = q.val := congrArg (fun w : S1024x1024.Idx => (w 1).val) hy
      match k with
      | ⟨0, _⟩ => show win0_2.index t 0 * 1024 + (y 0).val = t.val * 1024 + p.val; omega
      | ⟨1, _⟩ => show win0_2.index t 1 * 1024 + (y 1).val = q.val; omega)
    show out0_2 (iblk m c 0 t) (iblk m c 1 t) y = result (arg0 m c) (arg1 m c) (((cfg0.win 2).blk t).view.emb y)
    rw [he]
    exact (congrArg (out0_2 (iblk m c 0 t) (iblk m c 1 t)) hy).trans (point_apply m c t p q)
  · have h0 : (i 0).val < 4096 := (i 0).isLt
    obtain ⟨t, ht⟩ : ∃ t : Fin cfg0.N, t.val = (i 0).val / 1024 := ⟨⟨_, by have : cfg0.N = 4 := N_0; omega⟩, rfl⟩
    obtain ⟨-, -, ⟨a, b⟩, hf⟩ := idx_of t
    refine ⟨t, hf, ?_⟩
    let y : S1024x1024.Idx := ix2 ⟨(i 0).val % 1024, Nat.mod_lt _ (by decide)⟩ ⟨(i 1).val, (i 1).isLt⟩
    have he : ((cfg0.win 2).blk t).view.emb y = i := funext fun a => Fin.ext (by
      refine (win0_2.rect_emb_val t y a).trans ?_
      match a with
      | ⟨0, _⟩ => show win0_2.index t 0 * 1024 + (i 0).val % 1024 = (i 0).val; omega
      | ⟨1, _⟩ => show win0_2.index t 1 * 1024 + (i 1).val = (i 1).val; omega)
    rw [← he]
    exact Finset.mem_map.mpr ⟨y, Finset.mem_univ _, rfl⟩

open Cert.RmsReferenceIdeal.Read in
/-- The reference computes the same norm. -/
theorem reference_eq (X0 : S4096x1024.Idx → EReal) (X1 : S1x1024.Idx → EReal) : val_main_v12 (F := Ideal) X0 X1 = result X0 X1 := by
  funext i
  obtain ⟨p, q, rfl⟩ := exists_place i
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The kernel and the reference end with equal results. -/
theorem algebraic : Cert.algebraic_RmsIdeal_RmsReferenceIdeal (hRmsIdeal := Cert.RmsIdeal.Gen.facts) (hRmsReferenceIdeal := Cert.RmsReferenceIdeal.Gen.facts) := by
  intro m g m' g' _ hargs
  refine ⟨fun c => result (arg0 m c) (arg1 m c), ?_, ?_⟩
  · refine (θ_run _ _ _).mono (fun r h c => ?_) (run_blocks m g)
    obtain ⟨h0, hk⟩ := h c
    exact ⟨h0.trans (array_eq m c), hk⟩
  · refine (θ_run _ _ _).mono (fun r h c => ?_) (Cert.RmsReferenceIdeal.Value.run m' g')
    obtain ⟨h0, hk⟩ := h c
    obtain ⟨e0, e1⟩ := hargs c
    refine ⟨h0.trans ?_, hk⟩
    refine Eq.trans ?_ (reference_eq (arg0 m c) (arg1 m c))
    rw [show arg0 m c = _ from e0.symm, show arg1 m c = _ from e1.symm]
    rfl

end Cert.RmsIdeal.Product

end
-- ==== Proof.Ew.RmsAddHalf.lean ====
/- The root-mean-square norm of an array plus half of another: the kernel and the reference end with equal results. -/
module

public import proofs.«01_k».proof.Defs
public import proofs.«01_k».proof.Proof.Gen.RmsAddHalfIdeal.Value
public import proofs.«01_k».proof.Proof.Gen.RmsAddHalfReferenceIdeal.Read
public import proofs.«01_k».proof.Proof.Ew.Gate
public import proofs.«01_k».proof.Proof.Ew.Row
public import Idealize.ShloMosaic.Lib.StableHlo.RunRead

@[expose] public section

set_option maxRecDepth 16384

noncomputable section

namespace Cert.RmsAddHalfIdeal.Product

open Cert.RmsAddHalfIdeal Cert.RmsAddHalfIdeal.Gen Cert.RmsAddHalfIdeal.Value Cert.Gated
open Idealize.ShloMosaic Idealize.ShloMosaic.TcCoe Idealize.SL.Sem
open Idealize.ShloMosaic.Pipeline (Dat)

/-- An element of a block of the sum. -/
theorem sum_block (x0 x1 : Vec Ideal S1024x1024 .f32) (x2 : Vec Ideal S1x1024 .f32) (j : S1024x1024.Idx) : out0_3 x0 x1 x2 j = x0 j + Ideal.ofBits FTy.f32 0x3F000000#32 * x1 j := by
  have z : (![0, 0] : Fin 2 → Nat) = fun _ => 0 := by decide
  unfold out0_3
  rw [View.canon_unit_zero z, View.ld_unit_zero z, View.ld_unit_zero z]
  pointwise [k0_pay1]

/-- An element of a block of the norm. -/
theorem norm_block (x0 x1 : Vec Ideal S1024x1024 .f32) (x2 : Vec Ideal S1x1024 .f32) (p q : Fin 1024) :
    out0_4 x0 x1 x2 (ix2 p q) = normed (out0_3 x0 x1 x2) x2 p q := by
  have z : (![0, 0] : Fin 2 → Nat) = fun _ => 0 := by decide
  unfold out0_4 out0_3
  rw [View.canon_unit_zero z, View.canon_unit_zero z, View.ld_unit_zero z, View.ld_unit_zero z, View.ld_unit_zero z]
  unfold k0_pay2
  generalize k0_pay1 x0 x1 = h
  pointwise
  rfl

/-- Where the blocks of a grid point lie. -/
theorem idx_of : ∀ t : Fin cfg0.N, (win0_0.index t 0 = t.val ∧ win0_0.index t 1 = 0) ∧ (win0_1.index t 0 = t.val ∧ win0_1.index t 1 = 0) ∧
    (win0_2.index t 0 = 0 ∧ win0_2.index t 1 = 0) ∧ (win0_3.index t 0 = t.val ∧ win0_3.index t 1 = 0) ∧
    (win0_4.index t 0 = t.val ∧ win0_4.index t 1 = 0) ∧ (cfg0.win 3).flush t = true ∧ (cfg0.win 4).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S4096x1024.Idx → EReal := m ((c : Thread nD τ).loc main_arg1)
/-- An argument array. -/
abbrev arg2 (c : Dev nD) : S1x1024.Idx → EReal := m ((c : Thread nD τ).loc main_arg2)

/-- The rows of a grid point in the whole arrays. -/
abbrev row (t : Fin cfg0.N) (p : Fin 1024) : Fin 4096 := ⟨t.val * 1024 + p.val, by have : cfg0.N = 4 := N_0; omega⟩

theorem rows_block (c : Dev nD) (t : Fin cfg0.N) (p q : Fin 1024) : (iblk m c 0 t : S1024x1024.Idx → EReal) (ix2 p q) = arg0 m c (ix2 (row t p) q) := by
  obtain ⟨⟨a, b⟩, -⟩ := idx_of t
  show m ((c : Thread nD τ).loc main_arg0) ((win0_0.rect t).emb (ix2 p q)) = _
  refine congrArg (m ((c : Thread nD τ).loc main_arg0)) (funext fun k => Fin.ext ((win0_0.rect_emb_val t (ix2 p q) k).trans ?_))
  match k with
  | ⟨0, _⟩ => show win0_0.index t 0 * 1024 + p.val = t.val * 1024 + p.val; omega
  | ⟨1, _⟩ => show win0_0.index t 1 * 1024 + q.val = q.val; omega

theorem added_block (c : Dev nD) (t : Fin cfg0.N) (p q : Fin 1024) : (iblk m c 1 t : S1024x1024.Idx → EReal) (ix2 p q) = arg1 m c (ix2 (row t p) q) := by
  obtain ⟨-, ⟨a, b⟩, -⟩ := idx_of t
  show m ((c : Thread nD τ).loc main_arg1) ((win0_1.rect t).emb (ix2 p q)) = _
  refine congrArg (m ((c : Thread nD τ).loc main_arg1)) (funext fun k => Fin.ext ((win0_1.rect_emb_val t (ix2 p q) k).trans ?_))
  match k with
  | ⟨0, _⟩ => show win0_1.index t 0 * 1024 + p.val = t.val * 1024 + p.val; omega
  | ⟨1, _⟩ => show win0_1.index t 1 * 1024 + q.val = q.val; omega

theorem gain_block (c : Dev nD) (t : Fin cfg0.N) (q : Fin 1024) : (iblk m c 2 t : S1x1024.Idx → EReal) (ix2 0 q) = arg2 m c (ix2 0 q) := by
  obtain ⟨-, -, ⟨a, b⟩, -⟩ := idx_of t
  show m ((c : Thread nD τ).loc main_arg2) ((win0_2.rect t).emb (ix2 0 q)) = _
  refine congrArg (m ((c : Thread nD τ).loc main_arg2)) (funext fun k => Fin.ext ((win0_2.rect_emb_val t (ix2 0 q) k).trans ?_))
  match k with
  | ⟨0, _⟩ => show win0_2.index t 0 * 1 + 0 = 0; omega
  | ⟨1, _⟩ => show win0_2.index t 1 * 1024 + q.val = q.val; omega

/-- The sum of whole arrays. -/
def total (X F : S4096x1024.Idx → EReal) : S4096x1024.Idx → EReal := fun i => X i + Ideal.ofBits FTy.f32 0x3F000000#32 * F i

/-- The norm of the rows of the sum. -/
def result (X F : S4096x1024.Idx → EReal) (g : S1x1024.Idx → EReal) : S4096x1024.Idx → EReal := fun i => normed (total X F) g (i 0) (i 1)

theorem sum_point (c : Dev nD) (t : Fin cfg0.N) (p q : Fin 1024) :
    out0_3 (iblk m c 0 t) (iblk m c 1 t) (iblk m c 2 t) (ix2 p q) = total (arg0 m c) (arg1 m c) (ix2 (row t p) q) := by
  refine (sum_block _ _ _ _).trans ?_
  rw [rows_block, added_block]
  rfl

theorem norm_point (c : Dev nD) (t : Fin cfg0.N) (p q : Fin 1024) :
    out0_4 (iblk m c 0 t) (iblk m c 1 t) (iblk m c 2 t) (ix2 p q) = result (arg0 m c) (arg1 m c) (arg2 m c) (ix2 (row t p) q) :=
  (norm_block _ _ _ p q).trans (normed_congr (sum_point m c t p) (gain_block m c t) q)

/-- A place in a block of a result, in the block and in the whole array. -/
theorem place_in (t : Fin cfg0.N) (y : S1024x1024.Idx) : ∃ p q : Fin 1024, y = ix2 p q ∧ ((cfg0.win 3).blk t).view.emb y = (ix2 (row t p) q : S4096x1024.Idx) ∧
    ((cfg0.win 4).blk t).view.emb y = (ix2 (row t p) q : S4096x1024.Idx) := by
  obtain ⟨-, -, -, ⟨a3, b3⟩, ⟨a4, b4⟩, -⟩ := idx_of t
  obtain ⟨p, q, rfl⟩ := exists_place y
  refine ⟨p, q, rfl, funext fun k => Fin.ext ((win0_3.rect_emb_val t (ix2 p q) k).trans ?_), funext fun k => Fin.ext ((win0_4.rect_emb_val t (ix2 p q) k).trans ?_)⟩
  · match k with
    | ⟨0, _⟩ => show win0_3.index t 0 * 1024 + p.val = t.val * 1024 + p.val; omega
    | ⟨1, _⟩ => show win0_3.index t 1 * 1024 + q.val = q.val; omega
  · match k with
    | ⟨0, _⟩ => show win0_4.index t 0 * 1024 + p.val = t.val * 1024 + p.val; omega
    | ⟨1, _⟩ => show win0_4.index t 1 * 1024 + q.val = q.val; omega

/-- Every place of a result lies in the block of a grid point. -/
theorem found_place (i : S4096x1024.Idx) : ∃ (t : Fin cfg0.N) (y : S1024x1024.Idx), ((cfg0.win 3).blk t).view.emb y = i ∧ ((cfg0.win 4).blk t).view.emb y = i := by
  have h0 : (i 0).val < 4096 := (i 0).isLt
  obtain ⟨t, ht⟩ : ∃ t : Fin cfg0.N, t.val = (i 0).val / 1024 := ⟨⟨_, by have : cfg0.N = 4 := N_0; omega⟩, rfl⟩
  obtain ⟨p, q, hy, h3, h4⟩ := place_in t (ix2 ⟨(i 0).val % 1024, Nat.mod_lt _ (by decide)⟩ ⟨(i 1).val, (i 1).isLt⟩)
  have e0 : (i 0).val % 1024 = p.val := congrArg (fun w : S1024x1024.Idx => (w 0).val) hy
  have e1 : (i 1).val = q.val := congrArg (fun w : S1024x1024.Idx => (w 1).val) hy
  have hi : i = ix2 (row t p) q := place_of i _ _ (by show (i 0).val = t.val * 1024 + p.val; omega) e1
  exact ⟨t, _, h3.trans hi.symm, h4.trans hi.symm⟩

/-- A result array of the kernel. -/
theorem sum_array (c : Dev nD) : (dats m 0 c).arrAt 3 cfg0.N = total (arg0 m c) (arg1 m c) := by
  refine (dats m 0 c).arrAt_eq_of_cover 3 (total (arg0 m c) (arg1 m c)) (fun t hf => ?_) (fun i => ?_)
  · rw [flushed3]
    refine funext fun y => ?_
    obtain ⟨p, q, hy, h3, h4⟩ := place_in t y
    refine Eq.trans (congrArg (out0_3 (iblk m c 0 t) (iblk m c 1 t) (iblk m c 2 t)) hy) ((sum_point m c t p q).trans ?_)
    exact congrArg (total (arg0 m c) (arg1 m c)) h3.symm
  · obtain ⟨t, y, h3, h4⟩ := found_place i
    refine ⟨t, (idx_of t).2.2.2.2.2.1, ?_⟩
    rw [← h3]
    exact Finset.mem_map.mpr ⟨y, Finset.mem_univ _, rfl⟩

/-- A result array of the kernel. -/
theorem norm_array (c : Dev nD) : (dats m 0 c).arrAt 4 cfg0.N = result (arg0 m c) (arg1 m c) (arg2 m c) := by
  refine (dats m 0 c).arrAt_eq_of_cover 4 (result (arg0 m c) (arg1 m c) (arg2 m c)) (fun t hf => ?_) (fun i => ?_)
  · rw [flushed4]
    refine funext fun y => ?_
    obtain ⟨p, q, hy, h3, h4⟩ := place_in t y
    refine Eq.trans (congrArg (out0_4 (iblk m c 0 t) (iblk m c 1 t) (iblk m c 2 t)) hy) ((norm_point m c t p q).trans ?_)
    exact congrArg (result (arg0 m c) (arg1 m c) (arg2 m c)) h4.symm
  · obtain ⟨t, y, h3, h4⟩ := found_place i
    refine ⟨t, (idx_of t).2.2.2.2.2.2, ?_⟩
    rw [← h4]
    exact Finset.mem_map.mpr ⟨y, Finset.mem_univ _, rfl⟩

open Cert.RmsAddHalfReferenceIdeal.Read in
/-- The reference computes the same sum. -/
theorem reference_sum (X0 X1 : S4096x1024.Idx → EReal) : val_main_v2 (F := Ideal) X0 X1 = total X0 X1 := by
  funext i
  pointwise [val_main_v2, val_main_v1, val_main_v0, val_main_cst]
  rfl

open Cert.RmsAddHalfReferenceIdeal.Read in
/-- The reference computes the same norm. -/
theorem reference_norm (X0 X1 : S4096x1024.Idx → EReal) (X2 : S1x1024.Idx → EReal) : val_main_v15 (F := Ideal) X0 X1 X2 = result X0 X1 X2 := by
  funext i
  obtain ⟨p, q, rfl⟩ := exists_place i
  show _ = normed (total X0 X1) X2 p q
  rw [← reference_sum]
  pointwise [val_main_v15, val_main_v14, val_main_v13, val_main_v12, val_main_v11, val_main_v10, val_main_v9, val_main_v8, val_main_cst_2, val_main_v7, val_main_v6, val_main_cst_1, val_main_v5, val_main_v4, val_main_cst_0, val_main_v3]
  rfl

/-- The kernel and the reference end with equal results. -/
theorem algebraic : Cert.algebraic_RmsAddHalfIdeal_RmsAddHalfReferenceIdeal (hRmsAddHalfIdeal := Cert.RmsAddHalfIdeal.Gen.facts) (hRmsAddHalfReferenceIdeal := Cert.RmsAddHalfReferenceIdeal.Gen.facts) := by
  intro m g m' g' _ hargs
  refine ⟨fun c => total (arg0 m c) (arg1 m c), fun c => result (arg0 m c) (arg1 m c) (arg2 m c), ?_, ?_⟩
  · refine (θ_run _ _ _).mono (fun r h c => ?_) (run_blocks m g)
    obtain ⟨h0, h1, hk⟩ := h c
    exact ⟨h0.trans (sum_array m c), h1.trans (norm_array m c), hk⟩
  · refine (θ_run _ _ _).mono (fun r h c => ?_) (Cert.RmsAddHalfReferenceIdeal.Value.run m' g')
    obtain ⟨h0, h1, hk⟩ := h c
    obtain ⟨e0, e1, e2⟩ := hargs c
    refine ⟨h0.trans ?_, h1.trans ?_, hk⟩
    · refine Eq.trans ?_ (reference_sum (arg0 m c) (arg1 m c))
      rw [show arg0 m c = _ from e0.symm, show arg1 m c = _ from e1.symm]
      rfl
    · refine Eq.trans ?_ (reference_norm (arg0 m c) (arg1 m c) (arg2 m c))
      rw [show arg0 m c = _ from e0.symm, show arg1 m c = _ from e1.symm, show arg2 m c = _ from e2.symm]
      rfl

end Cert.RmsAddHalfIdeal.Product

end
-- ==== Proof.Ew.RmsAdd.lean ====
/- The root-mean-square norm of a sum of two arrays: the kernel and the reference end with equal results. -/
module

public import proofs.«01_k».proof.Defs
public import proofs.«01_k».proof.Proof.Gen.RmsAddIdeal.Value
public import proofs.«01_k».proof.Proof.Gen.RmsAddReferenceIdeal.Read
public import proofs.«01_k».proof.Proof.Ew.Gate
public import proofs.«01_k».proof.Proof.Ew.Row
public import Idealize.ShloMosaic.Lib.StableHlo.RunRead

@[expose] public section

set_option maxRecDepth 16384

noncomputable section

namespace Cert.RmsAddIdeal.Product

open Cert.RmsAddIdeal Cert.RmsAddIdeal.Gen Cert.RmsAddIdeal.Value Cert.Gated
open Idealize.ShloMosaic Idealize.ShloMosaic.TcCoe Idealize.SL.Sem
open Idealize.ShloMosaic.Pipeline (Dat)

/-- An element of a block of the sum. -/
theorem sum_block (x0 x1 : Vec Ideal S1024x1024 .f32) (x2 : Vec Ideal S1x1024 .f32) (j : S1024x1024.Idx) : out0_3 x0 x1 x2 j = x0 j + x1 j := by
  have z : (![0, 0] : Fin 2 → Nat) = fun _ => 0 := by decide
  unfold out0_3
  rw [View.canon_unit_zero z, View.ld_unit_zero z, View.ld_unit_zero z]
  pointwise [k0_pay1]

/-- An element of a block of the norm. -/
theorem norm_block (x0 x1 : Vec Ideal S1024x1024 .f32) (x2 : Vec Ideal S1x1024 .f32) (p q : Fin 1024) :
    out0_4 x0 x1 x2 (ix2 p q) = normed (out0_3 x0 x1 x2) x2 p q := by
  have z : (![0, 0] : Fin 2 → Nat) = fun _ => 0 := by decide
  unfold out0_4 out0_3
  rw [View.canon_unit_zero z, View.canon_unit_zero z, View.ld_unit_zero z, View.ld_unit_zero z, View.ld_unit_zero z]
  unfold k0_pay2
  generalize k0_pay1 x0 x1 = h
  pointwise
  rfl

/-- Where the blocks of a grid point lie. -/
theorem idx_of : ∀ t : Fin cfg0.N, (win0_0.index t 0 = t.val ∧ win0_0.index t 1 = 0) ∧ (win0_1.index t 0 = t.val ∧ win0_1.index t 1 = 0) ∧
    (win0_2.index t 0 = 0 ∧ win0_2.index t 1 = 0) ∧ (win0_3.index t 0 = t.val ∧ win0_3.index t 1 = 0) ∧
    (win0_4.index t 0 = t.val ∧ win0_4.index t 1 = 0) ∧ (cfg0.win 3).flush t = true ∧ (cfg0.win 4).flush t = true := by
  decide +kernel

variable (m : (ℓ : Loc nD τ sig) → Buf (Elt Ideal) ℓ)

/-- An argument array. -/
abbrev arg0 (c : Dev nD) : S4096x1024.Idx → EReal := m ((c : Thread nD τ).loc main_arg0)
/-- An argument array. -/
abbrev arg1 (c : Dev nD) : S4096x1024.Idx → EReal := m ((c : Thread nD τ).loc main_arg1)
/-- An argument array. -/
abbrev arg2 (c : Dev nD) : S1x1024.Idx → EReal := m ((c : Thread nD τ).loc main_arg2)

/-- The rows of a grid point in the whole arrays. -/
abbrev row (t : Fin cfg0.N) (p : Fin 1024) : Fin 4096 := ⟨t.val * 1024 + p.val, by have : cfg0.N = 4 := N_0; omega⟩

theorem rows_block (c : Dev nD) (t : Fin cfg0.N) (p q : Fin 1024) : (iblk m c 0 t : S1024x1024.Idx → EReal) (ix2 p q) = arg0 m c (ix2 (row t p) q) := by
  obtain ⟨⟨a, b⟩, -⟩ := idx_of t
  show m ((c : Thread nD τ).loc main_arg0) ((win0_0.rect t).emb (ix2 p q)) = _
  refine congrArg (m ((c : Thread nD τ).loc main_arg0)) (funext fun k => Fin.ext ((win0_0.rect_emb_val t (ix2 p q) k).trans ?_))
  match k with
  | ⟨0, _⟩ => show win0_0.index t 0 * 1024 + p.val = t.val * 1024 + p.val; omega
  | ⟨1, _⟩ => show win0_0.index t 1 * 1024 + q.val = q.val; omega

theorem added_block (c : Dev nD) (t : Fin cfg0.N) (p q : Fin 1024) : (iblk m c 1 t : S1024x1024.Idx → EReal) (ix2 p q) = arg1 m c (ix2 (row t p) q) := by
  obtain ⟨-, ⟨a, b⟩, -⟩ := idx_of t
  show m ((c : Thread nD τ).loc main_arg1) ((win0_1.rect t).emb (ix2 p q)) = _
  refine congrArg (m ((c : Thread nD τ).loc main_arg1)) (funext fun k => Fin.ext ((win0_1.rect_emb_val t (ix2 p q) k).trans ?_))
  match k with
  | ⟨0, _⟩ => show win0_1.index t 0 * 1024 + p.val = t.val * 1024 + p.val; omega
  | ⟨1, _⟩ => show win0_1.index t 1 * 1024 + q.val = q.val; omega

theorem gain_block (c : Dev nD) (t : Fin cfg0.N) (q : Fin 1024) : (iblk m c 2 t : S1x1024.Idx → EReal) (ix2 0 q) = arg2 m c (ix2 0 q) := by
  obtain ⟨-, -, ⟨a, b⟩, -⟩ := idx_of t
  show m ((c : Thread nD τ).loc main_arg2) ((win0_2.rect t).emb (ix2 0 q)) = _
  refine congrArg (m ((c : Thread nD τ).loc main_arg2)) (funext fun k => Fin.ext ((win0_2.rect_emb_val t (ix2 0 q) k).trans ?_))
  match k with
  | ⟨0, _⟩ => show win0_2.index t 0 * 1 + 0 = 0; omega
  | ⟨1, _⟩ => show win0_2.index t 1 * 1024 + q.val = q.val; omega

/-- The sum of whole arrays. -/
def total (X F : S4096x1024.Idx → EReal) : S4096x1024.Idx → EReal := fun i => X i + F i

/-- The norm of the rows of the sum. -/
def result (X F : S4096x1024.Idx → EReal) (g : S1x1024.Idx → EReal) : S4096x1024.Idx → EReal := fun i => normed (total X F) g (i 0) (i 1)

theorem sum_point (c : Dev nD) (t : Fin cfg0.N) (p q : Fin 1024) :
    out0_3 (iblk m c 0 t) (iblk m c 1 t) (iblk m c 2 t) (ix2 p q) = total (arg0 m c) (arg1 m c) (ix2 (row t p) q) := by
  refine (sum_block _ _ _ _).trans ?_
  rw [rows_block, added_block]
  rfl

theorem norm_point (c : Dev nD) (t : Fin cfg0.N) (p q : Fin 1024) :
    out0_4 (iblk m c 0 t) (iblk m c 1 t) (iblk m c 2 t) (ix2 p q) = result (arg0 m c) (arg1 m c) (arg2 m c) (ix2 (row t p) q) :=
  (norm_block _ _ _ p q).trans (normed_congr (sum_point m c t p) (gain_block m c t) q)

/-- A place in a block of a result, in the block and in the whole array. -/
theorem place_in (t : Fin cfg0.N) (y : S1024x1024.Idx) : ∃ p q : Fin 1024, y = ix2 p q ∧ ((cfg0.win 3).blk t).view.emb y = (ix2 (row t p) q : S4096x1024.Idx) ∧
    ((cfg0.win 4).blk t).view.emb y = (ix2 (row t p) q : S4096x1024.Idx) := by
  obtain ⟨-, -, -, ⟨a3, b3⟩, ⟨a4, b4⟩, -⟩ := idx_of t
  obtain ⟨p, q, rfl⟩ := exists_place y
  refine ⟨p, q, rfl, funext fun k => Fin.ext ((win0_3.rect_emb_val t (ix2 p q) k).trans ?_), funext fun k => Fin.ext ((win0_4.rect_emb_val t (ix2 p q) k).trans ?_)⟩
  · match k with
    | ⟨0, _⟩ => show win0_3.index t 0 * 1024 + p.val = t.val * 1024 + p.val; omega
    | ⟨1, _⟩ => show win0_3.index t 1 * 1024 + q.val = q.val; omega
  · match k with
    | ⟨0, _⟩ => show win0_4.index t 0 * 1024 + p.val = t.val * 1024 + p.val; omega
    | ⟨1, _⟩ => show win0_4.index t 1 * 1024 + q.val = q.val; omega

/-- Every place of a result lies in the block of a grid point. -/
theorem found_place (i : S4096x1024.Idx) : ∃ (t : Fin cfg0.N) (y : S1024x1024.Idx), ((cfg0.win 3).blk t).view.emb y = i ∧ ((cfg0.win 4).blk t).view.emb y = i := by
  have h0 : (i 0).val < 4096 := (i 0).isLt
  obtain ⟨t, ht⟩ : ∃ t : Fin cfg0.N, t.val = (i 0).val / 1024 := ⟨⟨_, by have : cfg0.N = 4 := N_0; omega⟩, rfl⟩
  obtain ⟨p, q, hy, h3, h4⟩ := place_in t (ix2 ⟨(i 0).val % 1024, Nat.mod_lt _ (by decide)⟩ ⟨(i 1).val, (i 1).isLt⟩)
  have e0 : (i 0).val % 1024 = p.val := congrArg (fun w : S1024x1024.Idx => (w 0).val) hy
  have e1 : (i 1).val = q.val := congrArg (fun w : S1024x1024.Idx => (w 1).val) hy
  have hi : i = ix2 (row t p) q := place_of i _ _ (by show (i 0).val = t.val * 1024 + p.val; omega) e1
  exact ⟨t, _, h3.trans hi.symm, h4.trans hi.symm⟩

/-- A result array of the kernel. -/
theorem sum_array (c : Dev nD) : (dats m 0 c).arrAt 3 cfg0.N = total (arg0 m c) (arg1 m c) := by
  refine (dats m 0 c).arrAt_eq_of_cover 3 (total (arg0 m c) (arg1 m c)) (fun t hf => ?_) (fun i => ?_)
  · rw [flushed3]
    refine funext fun y => ?_
    obtain ⟨p, q, hy, h3, h4⟩ := place_in t y
    refine Eq.trans (congrArg (out0_3 (iblk m c 0 t) (iblk m c 1 t) (iblk m c 2 t)) hy) ((sum_point m c t p q).trans ?_)
    exact congrArg (total (arg0 m c) (arg1 m c)) h3.symm
  · obtain ⟨t, y, h3, h4⟩ := found_place i
    refine ⟨t, (idx_of t).2.2.2.2.2.1, ?_⟩
    rw [← h3]
    exact Finset.mem_map.mpr ⟨y, Finset.mem_univ _, rfl⟩

/-- A result array of the kernel. -/
theorem norm_array (c : Dev nD) : (dats m 0 c).arrAt 4 cfg0.N = result (arg0 m c) (arg1 m c) (arg2 m c) := by
  refine (dats m 0 c).arrAt_eq_of_cover 4 (result (arg0 m c) (arg1 m c) (arg2 m c)) (fun t hf => ?_) (fun i => ?_)
  · rw [flushed4]
    refine funext fun y => ?_
    obtain ⟨p, q, hy, h3, h4⟩ := place_in t y
    refine Eq.trans (congrArg (out0_4 (iblk m c 0 t) (iblk m c 1 t) (iblk m c 2 t)) hy) ((norm_point m c t p q).trans ?_)
    exact congrArg (result (arg0 m c) (arg1 m c) (arg2 m c)) h4.symm
  · obtain ⟨t, y, h3, h4⟩ := found_place i
    refine ⟨t, (idx_of t).2.2.2.2.2.2, ?_⟩
    rw [← h4]
    exact Finset.mem_map.mpr ⟨y, Finset.mem_univ _, rfl⟩

open Cert.RmsAddReferenceIdeal.Read in
/-- The reference computes the same sum. -/
theorem reference_sum (X0 X1 : S4096x1024.Idx → EReal) : val_main_v0 (F := Ideal) X0 X1 = total X0 X1 := by
  funext i
  pointwise [val_main_v0]
  rfl

open Cert.RmsAddReferenceIdeal.Read in
/-- The reference computes the same norm. -/
theorem reference_norm (X0 X1 : S4096x1024.Idx → EReal) (X2 : S1x1024.Idx → EReal) : val_main_v13 (F := Ideal) X0 X1 X2 = result X0 X1 X2 := by
  funext i
  obtain ⟨p, q, rfl⟩ := exists_place i
  show _ = normed (total X0 X1) X2 p q
  rw [← reference_sum]
  pointwise [val_main_v13, val_main_v12, val_main_v11, val_main_v10, val_main_v9, val_main_v8, val_main_v7, val_main_v6, val_main_cst_1, val_main_v5, val_main_v4, val_main_cst_0, val_main_v3, val_main_v2, val_main_cst, val_main_v1]
  rfl

/-- The kernel and the reference end with equal results. -/
theorem algebraic : Cert.algebraic_RmsAddIdeal_RmsAddReferenceIdeal (hRmsAddIdeal := Cert.RmsAddIdeal.Gen.facts) (hRmsAddReferenceIdeal := Cert.RmsAddReferenceIdeal.Gen.facts) := by
  intro m g m' g' _ hargs
  refine ⟨fun c => total (arg0 m c) (arg1 m c), fun c => result (arg0 m c) (arg1 m c) (arg2 m c), ?_, ?_⟩
  · refine (θ_run _ _ _).mono (fun r h c => ?_) (run_blocks m g)
    obtain ⟨h0, h1, hk⟩ := h c
    exact ⟨h0.trans (sum_array m c), h1.trans (norm_array m c), hk⟩
  · refine (θ_run _ _ _).mono (fun r h c => ?_) (Cert.RmsAddReferenceIdeal.Value.run m' g')
    obtain ⟨h0, h1, hk⟩ := h c
    obtain ⟨e0, e1, e2⟩ := hargs c
    refine ⟨h0.trans ?_, h1.trans ?_, hk⟩
    · refine Eq.trans ?_ (reference_sum (arg0 m c) (arg1 m c))
      rw [show arg0 m c = _ from e0.symm, show arg1 m c = _ from e1.symm]
      rfl
    · refine Eq.trans ?_ (reference_norm (arg0 m c) (arg1 m c) (arg2 m c))
      rw [show arg0 m c = _ from e0.symm, show arg1 m c = _ from e1.symm, show arg2 m c = _ from e2.symm]
      rfl

end Cert.RmsAddIdeal.Product

end
-- ==== Proof.Ew.GatesGradPoint.lean ====
/- What a grid point of the merge's gradient leaves in each output block, over its input blocks. -/
module

public import proofs.«01_k».proof.Defs
public import proofs.«01_k».proof.Proof.Gen.GatesGradIdeal.Value
public import Idealize.ShloMosaic.Lib.Pipeline.ReadBack
public import Idealize.ShloMosaic.Lib.WholeRead
public import Idealize.ShloMosaic.Lib.Pointwise

@[expose] public section

set_option maxRecDepth 16384

noncomputable section

namespace Cert.GatesGradIdeal.Product

open Cert.GatesGradIdeal Cert.GatesGradIdeal.Gen Idealize.ShloMosaic Idealize.ShloMosaic.TcCoe Idealize.ShloMosaic.Tactic

section Halves

variable {α : Type} {n : ℕ}

/-- The columns of a doubled array from `o` on. -/
def half (o : ℕ) (ho : o ≤ 1024) (x : (⟨2, ![n, 2048]⟩ : Shape).Idx → α) : (⟨2, ![n, 1024]⟩ : Shape).Idx → α :=
  fun j => x (ix2 (j 0) ⟨o + (j 1).val, by have : (j 1).val < 1024 := (j 1).isLt; omega⟩)

/-- Two arrays side by side. -/
def joined (A B : (⟨2, ![n, 1024]⟩ : Shape).Idx → α) : (⟨2, ![n, 2048]⟩ : Shape).Idx → α := fun y =>
  if h : (y 1).val < 1024 then A (ix2 (y 0) ⟨(y 1).val, h⟩)
  else B (ix2 (y 0) ⟨(y 1).val - 1024, by have : (y 1).val < 2048 := (y 1).isLt; omega⟩)

theorem joined_left (A B : (⟨2, ![n, 1024]⟩ : Shape).Idx → α) (inb : ∀ a, (![0, 0] : Fin 2 → ℕ) a + (![n, 1024] : Fin 2 → ℕ) a ≤ (⟨2, ![n, 2048]⟩ : Shape).size a)
    (p : (⟨2, ![n, 1024]⟩ : Shape).Idx → α) (hp : p = A) (x : (Rect.unit (s := (⟨2, ![n, 2048]⟩ : Shape)) ![0, 0] ![n, 1024] inb).shape.Idx) :
    p x = joined A B ((Rect.unit (s := (⟨2, ![n, 2048]⟩ : Shape)) ![0, 0] ![n, 1024] inb).emb x) := by
  subst hp
  have l : (x 1).val < 1024 := (x 1).isLt
  have e0 : ((Rect.unit (s := (⟨2, ![n, 2048]⟩ : Shape)) ![0, 0] ![n, 1024] inb).emb x 0).val = (x 0).val := by show 0 + 1 * (x 0).val = _; omega
  have e1 : ((Rect.unit (s := (⟨2, ![n, 2048]⟩ : Shape)) ![0, 0] ![n, 1024] inb).emb x 1).val = (x 1).val := by show 0 + 1 * (x 1).val = _; omega
  unfold joined
  rw [dif_pos (by omega)]
  refine congrArg p (funext fun k => Fin.ext ?_)
  match k with
  | ⟨0, _⟩ => exact e0.symm
  | ⟨1, _⟩ => exact e1.symm

theorem joined_right (A B : (⟨2, ![n, 1024]⟩ : Shape).Idx → α) (inb : ∀ a, (![0, 1024] : Fin 2 → ℕ) a + (![n, 1024] : Fin 2 → ℕ) a ≤ (⟨2, ![n, 2048]⟩ : Shape).size a)
    (p : (⟨2, ![n, 1024]⟩ : Shape).Idx → α) (hp : p = B) (x : (Rect.unit (s := (⟨2, ![n, 2048]⟩ : Shape)) ![0, 1024] ![n, 1024] inb).shape.Idx) :
    p x = joined A B ((Rect.unit (s := (⟨2, ![n, 2048]⟩ : Shape)) ![0, 1024] ![n, 1024] inb).emb x) := by
  subst hp
  have e0 : ((Rect.unit (s := (⟨2, ![n, 2048]⟩ : Shape)) ![0, 1024] ![n, 1024] inb).emb x 0).val = (x 0).val := by show 0 + 1 * (x 0).val = _; omega
  have e1 : ((Rect.unit (s := (⟨2, ![n, 2048]⟩ : Shape)) ![0, 1024] ![n, 1024] inb).emb x 1).val = 1024 + (x 1).val := by show 1024 + 1 * (x 1).val = _; omega
  unfold joined
  rw [dif_neg (by omega)]
  refine congrArg p (funext fun k => Fin.ext ?_)
  match k with
  | ⟨0, _⟩ => exact e0.symm
  | ⟨1, _⟩ => show (x 1).val = _ - 1024; omega

end Halves

variable {F : FTy → Type} [FloatOps F]

/-- A load of half the columns. -/
theorem load_half {n : ℕ} (m : Memref sig .tc .vmem ⟨2, ![n, 2048]⟩ .f32) (hm : m.IsWhole) (x : Vec F ⟨2, ![n, 2048]⟩ .f32) (o : ℕ) (ho : o ≤ 1024)
    (inb : ∀ a, (![0, o] : Fin 2 → ℕ) a + (![n, 1024] : Fin 2 → ℕ) a ≤ (⟨2, ![n, 2048]⟩ : Shape).size a) :
    View.readAt (Elt F) m.view (Rect.unit (s := (⟨2, ![n, 2048]⟩ : Shape)) ![0, o] ![n, 1024] inb).toLoadRect (hm.unread x) = half o ho x := by
  funext j
  refine (hm.readAt_unread x _ j).trans (congrArg x (funext fun a => Fin.ext ?_))
  match a with
  | ⟨0, _⟩ => show 0 + 1 * (j 0).val = (j 0).val; omega
  | ⟨1, _⟩ => show o + 1 * (j 1).val = o + (j 1).val; omega

/-- A load of a whole block. -/
theorem load_block (m : Memref sig .tc .vmem S512x1024 .f32) (hm : m.IsWhole) (x : Vec F S512x1024 .f32)
    (inb : ∀ a, (![0, 0] : Fin 2 → ℕ) a + S512x1024.size a ≤ S512x1024.size a) :
    View.readAt (Elt F) m.view (Rect.unit (s := S512x1024) ![0, 0] S512x1024.size inb).toLoadRect (hm.unread x) = x := by
  funext j
  refine (hm.readAt_unread x _ j).trans (congrArg x (funext fun a => Fin.ext ?_))
  match a with
  | ⟨0, _⟩ => show 0 + 1 * (j 0).val = (j 0).val; omega
  | ⟨1, _⟩ => show 0 + 1 * (j 1).val = (j 1).val; omega

/-- The cotangents of the two summands over a point's blocks. -/
def outA (x0 : Vec F S512x1024 .f32) (x1 : Vec F S512x2048 .f32) (x2 : Vec F S1x2048 .f32) : Vec F S512x1024 .bf16 :=
  k0_pay11 x0 (half 0 (by decide) x1) (half 0 (by decide) x2)

def outB (x0 : Vec F S512x1024 .f32) (x1 : Vec F S512x2048 .f32) (x2 : Vec F S1x2048 .f32) : Vec F S512x1024 .bf16 :=
  k0_pay12 x0 (half 1024 (by decide) x1) (half 1024 (by decide) x2)

/-- The cotangent of the logits over a point's blocks. -/
def outL (x0 : Vec F S512x1024 .f32) (x1 : Vec F S512x2048 .f32) (x2 : Vec F S1x2048 .f32) (x3 x4 : Vec F S512x1024 .f32) : Vec F S512x2048 .bf16 :=
  joined (k0_pay3 (k0_pay13 x0 (half 0 (by decide) x1) (half 0 (by decide) x2) x3) (k0_pay14 (half 0 (by decide) x1) (half 0 (by decide) x2)))
    (k0_pay4 x0 (k0_pay10 (half 1024 (by decide) x1) (half 1024 (by decide) x2)) x4)

/-- The cotangent of the bias after the first point, and after a later one. -/
def outF (x0 : Vec F S512x1024 .f32) (x1 : Vec F S512x2048 .f32) (x2 : Vec F S1x2048 .f32) (x3 x4 : Vec F S512x1024 .f32) : Vec F S1x2048 .f32 :=
  joined (k0_pay5 (k0_pay13 x0 (half 0 (by decide) x1) (half 0 (by decide) x2) x3) (k0_pay14 (half 0 (by decide) x1) (half 0 (by decide) x2)))
    (k0_pay6 x0 (k0_pay10 (half 1024 (by decide) x1) (half 1024 (by decide) x2)) x4)

def outN (x0 : Vec F S512x1024 .f32) (x1 : Vec F S512x2048 .f32) (x2 : Vec F S1x2048 .f32) (x3 x4 : Vec F S512x1024 .f32) (xo : Vec F S1x2048 .f32) : Vec F S1x2048 .f32 :=
  joined (k0_pay7 (k0_pay13 x0 (half 0 (by decide) x1) (half 0 (by decide) x2) x3) (k0_pay14 (half 0 (by decide) x1) (half 0 (by decide) x2)) (half 0 (by decide) xo))
    (k0_pay8 x0 (k0_pay10 (half 1024 (by decide) x1) (half 1024 (by decide) x2)) x4 (half 1024 (by decide) xo))

section Points

variable (c : Dev nD) (i : grid0.Coords) (arg1 : Memref sig .tc .vmem S512x1024 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1x2048 .f32) (harg9 : arg9.IsWhole)
variable (x0 : Vec F S512x1024 .f32) (x1 : Vec F S512x2048 .f32) (x2 : Vec F S1x2048 .f32) (x3 x4 : Vec F S512x1024 .f32) (xo : Vec F S1x2048 .f32)

theorem summand_first_A (hc0 : cond0_0 i) (hc1 : ¬cond0_1 i) :
    out0_A_5 c i arg1 harg1 arg2 harg2 arg3 harg3 arg4 harg4 arg5 harg5 arg6 harg6 arg7 harg7 arg8 harg8 arg9 harg9 hc0 hc1 x0 x1 x2 x3 x4 = outA x0 x1 x2 := by
  have z : (![0, 0] : Fin 2 → Nat) = fun _ => 0 := by decide
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3 x4)]
  unfold kernelRun0_A
  sl_unfold_words
  rw [View.canon_unit_zero z]
  exact congr (congr (congrArg k0_pay11 (load_block arg1 harg1 x0 inb_S512x1024_S512x1024_0_0)) (load_half arg2 harg2 x1 0 (by decide) inb_S512x2048_S512x1024_0_0)) (load_half arg3 harg3 x2 0 (by decide) inb_S1x2048_S1x1024_0_0)

theorem summand_second_A (hc0 : cond0_0 i) (hc1 : ¬cond0_1 i) :
    out0_A_6 c i arg1 harg1 arg2 harg2 arg3 harg3 arg4 harg4 arg5 harg5 arg6 harg6 arg7 harg7 arg8 harg8 arg9 harg9 hc0 hc1 x0 x1 x2 x3 x4 = outB x0 x1 x2 := by
  have z : (![0, 0] : Fin 2 → Nat) = fun _ => 0 := by decide
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 x0 x1 x2 x3 x4)]
  unfold kernelRun0_A
  sl_unfold_words
  rw [View.canon_unit_zero z]
  exact congr (congr (congrArg k0_pay12 (load_block arg1 harg1 x0 inb_S512x1024_S512x1024_0_0)) (load_half arg2 harg2 x1 1024 (by decide) inb_S512x2048_S512x1024_0_1024)) (load_half arg3 harg3 x2 1024 (by decide) inb_S1x2048_S1x1024_0_1024)

theorem logits_A (hc0 : cond0_0 i) (hc1 : ¬cond0_1 i) :
    out0_A_7 c i arg1 harg1 arg2 harg2 arg3 harg3 arg4 harg4 arg5 harg5 arg6 harg6 arg7 harg7 arg8 harg8 arg9 harg9 hc0 hc1 x0 x1 x2 x3 x4 = outL x0 x1 x2 x3 x4 := by
  funext y
  unfold out0_A_7
  rw [View.read_writes_eq_canon _ _ _ (cover0_A_7 c i arg1 harg1 arg2 harg2 arg3 harg3 arg4 harg4 arg5 harg5 arg6 harg6 arg7 harg7 arg8 harg8 arg9 harg9 hc0 hc1 x0 x1 x2 x3 x4)]
  refine View.canon_apply_of_pieces _ _ (View.PiecesOf.mem ?_) y (cover0_A_7 c i arg1 harg1 arg2 harg2 arg3 harg3 arg4 harg4 arg5 harg5 arg6 harg6 arg7 harg7 arg8 harg8 arg9 harg9 hc0 hc1 x0 x1 x2 x3 x4 y)
  unfold kernelRun0_A
  sl_unfold_words
  refine ⟨joined_right _ _ inb_S512x2048_S512x1024_0_1024 _ ?_, joined_left _ _ inb_S512x2048_S512x1024_0_0 _ ?_, trivial⟩
  · exact congr (congr (congrArg k0_pay4 (load_block arg1 harg1 x0 inb_S512x1024_S512x1024_0_0)) (congr (congrArg k0_pay10 (load_half arg2 harg2 x1 1024 (by decide) inb_S512x2048_S512x1024_0_1024)) (load_half arg3 harg3 x2 1024 (by decide) inb_S1x2048_S1x1024_0_1024))) (load_block arg5 harg5 x4 inb_S512x1024_S512x1024_0_0)
  · exact congr (congrArg k0_pay3 (congr (congr (congr (congrArg k0_pay13 (load_block arg1 harg1 x0 inb_S512x1024_S512x1024_0_0)) (load_half arg2 harg2 x1 0 (by decide) inb_S512x2048_S512x1024_0_0)) (load_half arg3 harg3 x2 0 (by decide) inb_S1x2048_S1x1024_0_0)) (load_block arg4 harg4 x3 inb_S512x1024_S512x1024_0_0))) (congr (congrArg k0_pay14 (load_half arg2 harg2 x1 0 (by decide) inb_S512x2048_S512x1024_0_0)) (load_half arg3 harg3 x2 0 (by decide) inb_S1x2048_S1x1024_0_0))

theorem bias_A (hc0 : cond0_0 i) (hc1 : ¬cond0_1 i) :
    out0_A_8 c i arg1 harg1 arg2 harg2 arg3 harg3 arg4 harg4 arg5 harg5 arg6 harg6 arg7 harg7 arg8 harg8 arg9 harg9 hc0 hc1 x0 x1 x2 x3 x4 = outF x0 x1 x2 x3 x4 := by
  funext y
  unfold out0_A_8
  rw [View.read_writes_eq_canon _ _ _ (cover0_A_8 c i arg1 harg1 arg2 harg2 arg3 harg3 arg4 harg4 arg5 harg5 arg6 harg6 arg7 harg7 arg8 harg8 arg9 harg9 hc0 hc1 x0 x1 x2 x3 x4)]
  refine View.canon_apply_of_pieces _ _ (View.PiecesOf.mem ?_) y (cover0_A_8 c i arg1 harg1 arg2 harg2 arg3 harg3 arg4 harg4 arg5 harg5 arg6 harg6 arg7 harg7 arg8 harg8 arg9 harg9 hc0 hc1 x0 x1 x2 x3 x4 y)
  unfold kernelRun0_A
  sl_unfold_words
  refine ⟨joined_right _ _ inb_S1x2048_S1x1024_0_1024 _ ?_, joined_left _ _ inb_S1x2048_S1x1024_0_0 _ ?_, trivial⟩
  · exact congr (congr (congrArg k0_pay6 (load_block arg1 harg1 x0 inb_S512x1024_S512x1024_0_0)) (congr (congrArg k0_pay10 (load_half arg2 harg2 x1 1024 (by decide) inb_S512x2048_S512x1024_0_1024)) (load_half arg3 harg3 x2 1024 (by decide) inb_S1x2048_S1x1024_0_1024))) (load_block arg5 harg5 x4 inb_S512x1024_S512x1024_0_0)
  · exact congr (congrArg k0_pay5 (congr (congr (congr (congrArg k0_pay13 (load_block arg1 harg1 x0 inb_S512x1024_S512x1024_0_0)) (load_half arg2 harg2 x1 0 (by decide) inb_S512x2048_S512x1024_0_0)) (load_half arg3 harg3 x2 0 (by decide) inb_S1x2048_S1x1024_0_0)) (load_block arg4 harg4 x3 inb_S512x1024_S512x1024_0_0))) (congr (congrArg k0_pay14 (load_half arg2 harg2 x1 0 (by decide) inb_S512x2048_S512x1024_0_0)) (load_half arg3 harg3 x2 0 (by decide) inb_S1x2048_S1x1024_0_0))

theorem summand_first_B (hc0 : ¬cond0_0 i) (hc1 : cond0_1 i) :
    out0_B_5 c i arg1 harg1 arg2 harg2 arg3 harg3 arg4 harg4 arg5 harg5 arg6 harg6 arg7 harg7 arg8 harg8 arg9 harg9 hc0 hc1 x0 x1 x2 x3 x4 xo = outA x0 x1 x2 := by
  have z : (![0, 0] : Fin 2 → Nat) = fun _ => 0 := by decide
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x0 x1 x2 x3 x4 xo)]
  unfold kernelRun0_B
  sl_unfold_words
  rw [View.canon_unit_zero z]
  exact congr (congr (congrArg k0_pay11 (load_block arg1 harg1 x0 inb_S512x1024_S512x1024_0_0)) (load_half arg2 harg2 x1 0 (by decide) inb_S512x2048_S512x1024_0_0)) (load_half arg3 harg3 x2 0 (by decide) inb_S1x2048_S1x1024_0_0)

theorem summand_second_B (hc0 : ¬cond0_0 i) (hc1 : cond0_1 i) :
    out0_B_6 c i arg1 harg1 arg2 harg2 arg3 harg3 arg4 harg4 arg5 harg5 arg6 harg6 arg7 harg7 arg8 harg8 arg9 harg9 hc0 hc1 x0 x1 x2 x3 x4 xo = outB x0 x1 x2 := by
  have z : (![0, 0] : Fin 2 → Nat) = fun _ => 0 := by decide
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 x0 x1 x2 x3 x4 xo)]
  unfold kernelRun0_B
  sl_unfold_words
  rw [View.canon_unit_zero z]
  exact congr (congr (congrArg k0_pay12 (load_block arg1 harg1 x0 inb_S512x1024_S512x1024_0_0)) (load_half arg2 harg2 x1 1024 (by decide) inb_S512x2048_S512x1024_0_1024)) (load_half arg3 harg3 x2 1024 (by decide) inb_S1x2048_S1x1024_0_1024)

theorem logits_B (hc0 : ¬cond0_0 i) (hc1 : cond0_1 i) :
    out0_B_7 c i arg1 harg1 arg2 harg2 arg3 harg3 arg4 harg4 arg5 harg5 arg6 harg6 arg7 harg7 arg8 harg8 arg9 harg9 hc0 hc1 x0 x1 x2 x3 x4 xo = outL x0 x1 x2 x3 x4 := by
  funext y
  unfold out0_B_7
  rw [View.read_writes_eq_canon _ _ _ (cover0_B_7 c i arg1 harg1 arg2 harg2 arg3 harg3 arg4 harg4 arg5 harg5 arg6 harg6 arg7 harg7 arg8 harg8 arg9 harg9 hc0 hc1 x0 x1 x2 x3 x4 xo)]
  refine View.canon_apply_of_pieces _ _ (View.PiecesOf.mem ?_) y (cover0_B_7 c i arg1 harg1 arg2 harg2 arg3 harg3 arg4 harg4 arg5 harg5 arg6 harg6 arg7 harg7 arg8 harg8 arg9 harg9 hc0 hc1 x0 x1 x2 x3 x4 xo y)
  unfold kernelRun0_B
  sl_unfold_words
  refine ⟨joined_right _ _ inb_S512x2048_S512x1024_0_1024 _ ?_, joined_left _ _ inb_S512x2048_S512x1024_0_0 _ ?_, trivial⟩
  · exact congr (congr (congrArg k0_pay4 (load_block arg1 harg1 x0 inb_S512x1024_S512x1024_0_0)) (congr (congrArg k0_pay10 (load_half arg2 harg2 x1 1024 (by decide) inb_S512x2048_S512x1024_0_1024)) (load_half arg3 harg3 x2 1024 (by decide) inb_S1x2048_S1x1024_0_1024))) (load_block arg5 harg5 x4 inb_S512x1024_S512x1024_0_0)
  · exact congr (congrArg k0_pay3 (congr (congr (congr (congrArg k0_pay13 (load_block arg1 harg1 x0 inb_S512x1024_S512x1024_0_0)) (load_half arg2 harg2 x1 0 (by decide) inb_S512x2048_S512x1024_0_0)) (load_half arg3 harg3 x2 0 (by decide) inb_S1x2048_S1x1024_0_0)) (load_block arg4 harg4 x3 inb_S512x1024_S512x1024_0_0))) (congr (congrArg k0_pay14 (load_half arg2 harg2 x1 0 (by decide) inb_S512x2048_S512x1024_0_0)) (load_half arg3 harg3 x2 0 (by decide) inb_S1x2048_S1x1024_0_0))

theorem bias_B (hc0 : ¬cond0_0 i) (hc1 : cond0_1 i) :
    out0_B_8 c i arg1 harg1 arg2 harg2 arg3 harg3 arg4 harg4 arg5 harg5 arg6 harg6 arg7 harg7 arg8 harg8 arg9 harg9 hc0 hc1 x0 x1 x2 x3 x4 xo = outN x0 x1 x2 x3 x4 xo := by
  funext y
  unfold out0_B_8
  rw [View.read_writes_eq_canon _ _ _ (cover0_B_8 c i arg1 harg1 arg2 harg2 arg3 harg3 arg4 harg4 arg5 harg5 arg6 harg6 arg7 harg7 arg8 harg8 arg9 harg9 hc0 hc1 x0 x1 x2 x3 x4 xo)]
  refine View.canon_apply_of_pieces _ _ (View.PiecesOf.mem ?_) y (cover0_B_8 c i arg1 harg1 arg2 harg2 arg3 harg3 arg4 harg4 arg5 harg5 arg6 harg6 arg7 harg7 arg8 harg8 arg9 harg9 hc0 hc1 x0 x1 x2 x3 x4 xo y)
  unfold kernelRun0_B
  sl_unfold_words
  refine ⟨joined_right _ _ inb_S1x2048_S1x1024_0_1024 _ ?_, joined_left _ _ inb_S1x2048_S1x1024_0_0 _ ?_, trivial⟩
  · exact congr (congr (congr (congrArg k0_pay8 (load_block arg1 harg1 x0 inb_S512x1024_S512x1024_0_0)) (congr (congrArg k0_pay10 (load_half arg2 harg2 x1 1024 (by decide) inb_S512x2048_S512x1024_0_1024)) (load_half arg3 harg3 x2 1024 (by decide) inb_S1x2048_S1x1024_0_1024))) (load_block arg5 harg5 x4 inb_S512x1024_S512x1024_0_0)) (load_half arg9 harg9 xo 1024 (by decide) inb_S1x2048_S1x1024_0_1024)
  · exact congr (congr (congrArg k0_pay7 (congr (congr (congr (congrArg k0_pay13 (load_block arg1 harg1 x0 inb_S512x1024_S512x1024_0_0)) (load_half arg2 harg2 x1 0 (by decide) inb_S512x2048_S512x1024_0_0)) (load_half arg3 harg3 x2 0 (by decide) inb_S1x2048_S1x1024_0_0)) (load_block arg4 harg4 x3 inb_S512x1024_S512x1024_0_0))) (congr (congrArg k0_pay14 (load_half arg2 harg2 x1 0 (by decide) inb_S512x2048_S512x1024_0_0)) (load_half arg3 harg3 x2 0 (by decide) inb_S1x2048_S1x1024_0_0))) (load_half arg9 harg9 xo 0 (by decide) inb_S1x2048_S1x1024_0_0)

end Points

end Cert.GatesGradIdeal.Product

end
-- ==== Proof.Ew.GatesGradBlock.lean ====
/- The gradient of the sigmoid merge over a point's blocks, as formulas over the reals with the infinities. -/
module

public import proofs.«01_k».proof.Proof.Ew.GatesGradPoint
public import proofs.«01_k».proof.Proof.Ew.Gate
public import Idealize.ShloMosaic.PureOps.Ideal.Laws

@[expose] public section

set_option maxRecDepth 16384

noncomputable section

namespace Cert.GatesGradIdeal.Product

open Cert.GatesGradIdeal Cert.GatesGradIdeal.Gen Cert.Gated Idealize.ShloMosaic Idealize.ShloMosaic.TcCoe

/-- An array of `n` by `k` entries. -/
abbrev Arr (n k : ℕ) : Type := (⟨2, ![n, k]⟩ : Shape).Idx → EReal

variable {n : ℕ}

/-- A gate: the sigmoid of a logit and its bias. -/
def gate (o : ℕ) (ho : o ≤ 1024) (G : Arr n 2048) (b : Arr 1 2048) (i : (⟨2, ![n, 1024]⟩ : Shape).Idx) : EReal :=
  sigmoid (half o ho G (ix2 (i 0) (i 1)) + half o ho b (ix2 0 (i 1)))

/-- The cotangent of a summand. -/
def summand (o : ℕ) (ho : o ≤ 1024) (D : Arr n 1024) (G : Arr n 2048) (b : Arr 1 2048) : Arr n 1024 := fun i => D i * gate o ho G b i

/-- The cotangent of half the logits. -/
def inner (o : ℕ) (ho : o ≤ 1024) (D : Arr n 1024) (G : Arr n 2048) (b : Arr 1 2048) (Z : Arr n 1024) : Arr n 1024 :=
  fun i => D i * Z i * gate o ho G b i * (1 - gate o ho G b i)

/-- The cotangent of the logits. -/
def logits (D : Arr n 1024) (G : Arr n 2048) (b : Arr 1 2048) (A B : Arr n 1024) : Arr n 2048 :=
  joined (inner 0 (by decide) D G b A) (inner 1024 (by decide) D G b B)

section Rows

variable {k : ℕ} {D : Arr n 1024} {G : Arr n 2048} {b : Arr 1 2048} {A B : Arr n 1024} {D' : Arr k 1024} {G' : Arr k 2048} {b' : Arr 1 2048} {A' B' : Arr k 1024}
  {p : Fin n} {r : Fin k}

/-- Rows with equal entries have equal cotangents. -/
theorem gate_row (o : ℕ) (ho : o ≤ 1024) (hG : ∀ q, G (ix2 p q) = G' (ix2 r q)) (hb : ∀ q, b (ix2 0 q) = b' (ix2 0 q)) (q : Fin 1024) :
    gate o ho G b (ix2 p q) = gate o ho G' b' (ix2 r q) := congrArg sigmoid (congrArg₂ (· + ·) (hG _) (hb _))

theorem summand_row (o : ℕ) (ho : o ≤ 1024) (hD : ∀ q, D (ix2 p q) = D' (ix2 r q)) (hG : ∀ q, G (ix2 p q) = G' (ix2 r q))
    (hb : ∀ q, b (ix2 0 q) = b' (ix2 0 q)) (q : Fin 1024) : summand o ho D G b (ix2 p q) = summand o ho D' G' b' (ix2 r q) := by
  unfold summand
  rw [hD q, gate_row o ho hG hb q]

theorem inner_row (o : ℕ) (ho : o ≤ 1024) (hD : ∀ q, D (ix2 p q) = D' (ix2 r q)) (hG : ∀ q, G (ix2 p q) = G' (ix2 r q))
    (hb : ∀ q, b (ix2 0 q) = b' (ix2 0 q)) (hA : ∀ q, A (ix2 p q) = A' (ix2 r q)) (q : Fin 1024) :
    inner o ho D G b A (ix2 p q) = inner o ho D' G' b' A' (ix2 r q) := by
  unfold inner
  rw [hD q, hA q, gate_row o ho hG hb q]

theorem logits_row (hD : ∀ q, D (ix2 p q) = D' (ix2 r q)) (hG : ∀ q, G (ix2 p q) = G' (ix2 r q))
    (hb : ∀ q, b (ix2 0 q) = b' (ix2 0 q)) (hA : ∀ q, A (ix2 p q) = A' (ix2 r q)) (hB : ∀ q, B (ix2 p q) = B' (ix2 r q)) (q : Fin 2048) :
    logits D G b A B (ix2 p q) = logits D' G' b' A' B' (ix2 r q) := by
  unfold logits joined
  by_cases h : q.val < 1024
  · refine (dif_pos h).trans (Eq.trans ?_ (dif_pos h).symm)
    exact inner_row 0 _ hD hG hb hA ⟨q.val, h⟩
  · refine (dif_neg h).trans (Eq.trans ?_ (dif_neg h).symm)
    exact inner_row 1024 _ hD hG hb hB ⟨q.val - 1024, by omega⟩

end Rows

/-- The gate as the body computes it. -/
theorem gate_first (G : Vec Ideal S512x2048 .f32) (b : Vec Ideal S1x2048 .f32) (p : Fin 512) (q : Fin 1024) :
    k0_pay9 (half 0 (by decide) G) (half 0 (by decide) b) (ix2 p q) = gate 0 (by decide) G b (ix2 p q) := by
  unfold gate sigmoid
  pointwise [k0_pay9]

theorem gate_second (G : Vec Ideal S512x2048 .f32) (b : Vec Ideal S1x2048 .f32) (p : Fin 512) (q : Fin 1024) :
    k0_pay10 (half 1024 (by decide) G) (half 1024 (by decide) b) (ix2 p q) = gate 1024 (by decide) G b (ix2 p q) := by
  unfold gate sigmoid
  pointwise [k0_pay10]

variable (x0 : Vec Ideal S512x1024 .f32) (x1 : Vec Ideal S512x2048 .f32) (x2 : Vec Ideal S1x2048 .f32) (x3 x4 : Vec Ideal S512x1024 .f32) (xo : Vec Ideal S1x2048 .f32)

theorem outA_eq : outA x0 x1 x2 = summand 0 (by decide) x0 x1 x2 := by
  funext i
  obtain ⟨p, q, rfl⟩ := exists_place i
  exact congrArg (x0 (ix2 p q) * ·) (gate_first x1 x2 p q)

theorem outB_eq : outB x0 x1 x2 = summand 1024 (by decide) x0 x1 x2 := by
  funext i
  obtain ⟨p, q, rfl⟩ := exists_place i
  exact congrArg (x0 (ix2 p q) * ·) (gate_second x1 x2 p q)

/-- The products behind the two halves of the cotangent of the logits. -/
theorem inner_first : k0_pay1 (k0_pay13 x0 (half 0 (by decide) x1) (half 0 (by decide) x2) x3) (k0_pay14 (half 0 (by decide) x1) (half 0 (by decide) x2)) =
    inner 0 (by decide) x0 x1 x2 x3 := by
  funext i
  obtain ⟨p, q, rfl⟩ := exists_place i
  unfold inner
  rw [← gate_first x1 x2 p q]
  pointwise [k0_pay1, k0_pay13, k0_pay14]

theorem inner_second : k0_pay2 x0 (k0_pay10 (half 1024 (by decide) x1) (half 1024 (by decide) x2)) x4 = inner 1024 (by decide) x0 x1 x2 x4 := by
  funext i
  obtain ⟨p, q, rfl⟩ := exists_place i
  unfold inner
  rw [← gate_second x1 x2 p q]
  pointwise [k0_pay2]

theorem outL_eq : outL x0 x1 x2 x3 x4 = logits x0 x1 x2 x3 x4 :=
  congrArg₂ joined (inner_first x0 x1 x2 x3) (inner_second x0 x1 x2 x4)

/-- A sum down the rows, as the body computes it. -/
theorem rows_sum (S : FVec Ideal S512x1024 .f32) (q : Fin 1024) :
    (shapeCast S1x1024 (multiReduction .add [0] S1024 S 0x00000000#32 reduces_S512x1024_S1024 (.inl rfl) rfl) shapeCasts_S1024_S1x1024 : FVec Ideal S1x1024 .f32) (ix2 0 q) =
      ∑ p : Fin 512, S (ix2 p q) := by
  pointwise []

theorem joined_low (P Q : Arr n 1024) (p : Fin n) (q : Fin 2048) (h : q.val < 1024) : joined P Q (ix2 p q) = P (ix2 p ⟨q.val, h⟩) := dif_pos h

theorem joined_high (P Q : Arr n 1024) (p : Fin n) (q : Fin 2048) (h : ¬q.val < 1024) : joined P Q (ix2 p q) = Q (ix2 p ⟨q.val - 1024, by omega⟩) := dif_neg h

theorem joined_sum {A B : Arr 512 1024} {P Q : Arr 1 1024} (hP : ∀ q, P (ix2 0 q) = ∑ p, A (ix2 p q)) (hQ : ∀ q, Q (ix2 0 q) = ∑ p, B (ix2 p q)) (q : Fin 2048) :
    joined P Q (ix2 0 q) = ∑ p, joined A B (ix2 p q) := by
  by_cases h : q.val < 1024
  · exact (joined_low P Q 0 q h).trans ((hP ⟨q.val, h⟩).trans (Finset.sum_congr rfl fun p _ => (joined_low A B p q h).symm))
  · exact (joined_high P Q 0 q h).trans ((hQ ⟨q.val - 1024, by omega⟩).trans (Finset.sum_congr rfl fun p _ => (joined_high A B p q h).symm))

/-- The cotangent of the bias after the first point. -/
theorem outF_apply (q : Fin 2048) : outF x0 x1 x2 x3 x4 (ix2 0 q) = ∑ p : Fin 512, logits x0 x1 x2 x3 x4 (ix2 p q) := by
  refine joined_sum (fun q => ?_) (fun q => ?_) q
  · rw [← inner_first]
    exact rows_sum _ q
  · rw [← inner_second]
    exact rows_sum _ q

/-- A later point adds to what is there. -/
theorem add_first (u v : FVec Ideal S512x1024 .f32) (w : Vec Ideal S1x1024 .f32) (q : Fin 1024) :
    k0_pay7 u v w (ix2 0 q) = w (ix2 0 q) + k0_pay5 u v (ix2 0 q) := by
  unfold k0_pay7
  generalize k0_pay5 u v = s
  pointwise []

theorem add_second (d u z : FVec Ideal S512x1024 .f32) (w : Vec Ideal S1x1024 .f32) (q : Fin 1024) :
    k0_pay8 d u z w (ix2 0 q) = w (ix2 0 q) + k0_pay6 d u z (ix2 0 q) := by
  unfold k0_pay8
  generalize k0_pay6 d u z = s
  pointwise []

/-- The cotangent of the bias after a later point. -/
theorem outN_apply (q : Fin 2048) : outN x0 x1 x2 x3 x4 xo (ix2 0 q) = xo (ix2 0 q) + ∑ p : Fin 512, logits x0 x1 x2 x3 x4 (ix2 p q) := by
  rw [← outF_apply x0 x1 x2 x3 x4 q]
  unfold outN outF
  by_cases h : q.val < 1024
  · refine (joined_low _ _ 0 q h).trans ((add_first _ _ _ _).trans (congrArg₂ (· + ·) (congrArg xo ?_) (joined_low _ _ 0 q h).symm))
    exact congrArg (ix2 0) (Fin.ext (Nat.zero_add _))
  · refine (joined_high _ _ 0 q h).trans ((add_second _ _ _ _ _).trans (congrArg₂ (· + ·) (congrArg xo ?_) (joined_high _ _ 0 q h).symm))
    exact congrArg (ix2 0) (Fin.ext (by show 1024 + (q.val - 1024) = q.val; omega))

end Cert.GatesGradIdeal.Product

end
-- ==== Proof.Ew.GatesGrad.lean ====
/- The gradient of the sigmoid merge: the kernel and the reference end with equal results. -/
module

public import proofs.«01_k».proof.Defs
public import proofs.«01_k».proof.Proof.Gen.GatesGradReferenceIdeal.Read
public import proofs.«01_k».proof.Proof.Ew.GatesGradBlock

@[expose] public section

set_option maxRecDepth 16384

noncomputable section

namespace Cert.GatesGradIdeal.Product

open Cert.GatesGradIdeal Cert.GatesGradIdeal.Gen Cert.GatesGradIdeal.Value Cert.Gated
open Idealize.ShloMosaic Idealize.ShloMosaic.TcCoe Idealize.SL.Sem
open Idealize.ShloMosaic.Pipeline (Dat)

/-- Where the blocks of a grid point lie. -/
theorem idx_of : ∀ t : Fin cfg0.N, (win0_0.index t 0 = t.val ∧ win0_0.index t 1 = 0) ∧ (win0_1.index t 0 = t.val ∧ win0_1.index t 1 = 0) ∧
    (win0_2.index t 0 = 0 ∧ win0_2.index t 1 = 0) ∧ (win0_3.index t 0 = t.val ∧ win0_3.index t 1 = 0) ∧ (win0_4.index t 0 = t.val ∧ win0_4.index t 1 = 0) := by
  decide +kernel

theorem out_of : ∀ t : Fin cfg0.N, (win0_5.index t 0 = t.val ∧ win0_5.index t 1 = 0 ∧ (cfg0.win 5).flush t = true) ∧
    (win0_6.index t 0 = t.val ∧ win0_6.index t 1 = 0 ∧ (cfg0.win 6).flush t = true) ∧
    (win0_7.index t 0 = t.val ∧ win0_7.index t 1 = 0 ∧ (cfg0.win 7).flush t = true) ∧
    (win0_8.index t 0 = 0 ∧ win0_8.index t 1 = 0 ∧ ((cfg0.win 8).flush t = true ↔ t.val = 7)) := by
  decide +kernel

variable (m : (ℓ : Loc nD τ sig) → Buf (Elt Ideal) ℓ)

/-- An argument array. -/
abbrev arg0 (c : Dev nD) : Arr 4096 1024 := m ((c : Thread nD τ).loc main_arg0)
/-- An argument array. -/
abbrev arg1 (c : Dev nD) : Arr 4096 2048 := m ((c : Thread nD τ).loc main_arg1)
/-- An argument array. -/
abbrev arg2 (c : Dev nD) : Arr 1 2048 := m ((c : Thread nD τ).loc main_arg2)
/-- An argument array. -/
abbrev arg3 (c : Dev nD) : Arr 4096 1024 := m ((c : Thread nD τ).loc main_arg3)
/-- An argument array. -/
abbrev arg4 (c : Dev nD) : Arr 4096 1024 := m ((c : Thread nD τ).loc main_arg4)

/-- The rows of a grid point in the whole arrays. -/
abbrev row (t : Fin cfg0.N) (p : Fin 512) : Fin 4096 := ⟨t.val * 512 + p.val, by have : cfg0.N = 8 := N_0; omega⟩

theorem cotangent_block (c : Dev nD) (t : Fin cfg0.N) (p : Fin 512) (q : Fin 1024) : (iblk m c 0 t : S512x1024.Idx → EReal) (ix2 p q) = arg0 m c (ix2 (row t p) q) := by
  obtain ⟨⟨a, b⟩, -⟩ := idx_of t
  show m ((c : Thread nD τ).loc main_arg0) ((win0_0.rect t).emb (ix2 p q)) = _
  refine congrArg (m ((c : Thread nD τ).loc main_arg0)) (funext fun k => Fin.ext ((win0_0.rect_emb_val t (ix2 p q) k).trans ?_))
  match k with
  | ⟨0, _⟩ => show win0_0.index t 0 * 512 + p.val = t.val * 512 + p.val; omega
  | ⟨1, _⟩ => show win0_0.index t 1 * 1024 + q.val = q.val; omega

theorem logit_block (c : Dev nD) (t : Fin cfg0.N) (p : Fin 512) (q : Fin 2048) : (iblk m c 1 t : S512x2048.Idx → EReal) (ix2 p q) = arg1 m c (ix2 (row t p) q) := by
  obtain ⟨-, ⟨a, b⟩, -⟩ := idx_of t
  show m ((c : Thread nD τ).loc main_arg1) ((win0_1.rect t).emb (ix2 p q)) = _
  refine congrArg (m ((c : Thread nD τ).loc main_arg1)) (funext fun k => Fin.ext ((win0_1.rect_emb_val t (ix2 p q) k).trans ?_))
  match k with
  | ⟨0, _⟩ => show win0_1.index t 0 * 512 + p.val = t.val * 512 + p.val; omega
  | ⟨1, _⟩ => show win0_1.index t 1 * 2048 + q.val = q.val; omega

theorem bias_block (c : Dev nD) (t : Fin cfg0.N) (q : Fin 2048) : (iblk m c 2 t : S1x2048.Idx → EReal) (ix2 0 q) = arg2 m c (ix2 0 q) := by
  obtain ⟨-, -, ⟨a, b⟩, -⟩ := idx_of t
  show m ((c : Thread nD τ).loc main_arg2) ((win0_2.rect t).emb (ix2 0 q)) = _
  refine congrArg (m ((c : Thread nD τ).loc main_arg2)) (funext fun k => Fin.ext ((win0_2.rect_emb_val t (ix2 0 q) k).trans ?_))
  match k with
  | ⟨0, _⟩ => show win0_2.index t 0 * 1 + 0 = 0; omega
  | ⟨1, _⟩ => show win0_2.index t 1 * 2048 + q.val = q.val; omega

theorem first_block (c : Dev nD) (t : Fin cfg0.N) (p : Fin 512) (q : Fin 1024) : (iblk m c 3 t : S512x1024.Idx → EReal) (ix2 p q) = arg3 m c (ix2 (row t p) q) := by
  obtain ⟨-, -, -, ⟨a, b⟩, -⟩ := idx_of t
  show m ((c : Thread nD τ).loc main_arg3) ((win0_3.rect t).emb (ix2 p q)) = _
  refine congrArg (m ((c : Thread nD τ).loc main_arg3)) (funext fun k => Fin.ext ((win0_3.rect_emb_val t (ix2 p q) k).trans ?_))
  match k with
  | ⟨0, _⟩ => show win0_3.index t 0 * 512 + p.val = t.val * 512 + p.val; omega
  | ⟨1, _⟩ => show win0_3.index t 1 * 1024 + q.val = q.val; omega

theorem second_block (c : Dev nD) (t : Fin cfg0.N) (p : Fin 512) (q : Fin 1024) : (iblk m c 4 t : S512x1024.Idx → EReal) (ix2 p q) = arg4 m c (ix2 (row t p) q) := by
  obtain ⟨-, -, -, -, ⟨a, b⟩⟩ := idx_of t
  show m ((c : Thread nD τ).loc main_arg4) ((win0_4.rect t).emb (ix2 p q)) = _
  refine congrArg (m ((c : Thread nD τ).loc main_arg4)) (funext fun k => Fin.ext ((win0_4.rect_emb_val t (ix2 p q) k).trans ?_))
  match k with
  | ⟨0, _⟩ => show win0_4.index t 0 * 512 + p.val = t.val * 512 + p.val; omega
  | ⟨1, _⟩ => show win0_4.index t 1 * 1024 + q.val = q.val; omega

/-- What a grid point leaves in the blocks of the three row-wise results. -/
theorem point_outs (c : Dev nD) (t : Fin cfg0.N) :
    (outsAt0 m c t.val t.isLt).1 = outA (iblk m c 0 t) (iblk m c 1 t) (iblk m c 2 t) ∧
    (outsAt0 m c t.val t.isLt).2.1 = outB (iblk m c 0 t) (iblk m c 1 t) (iblk m c 2 t) ∧
    (outsAt0 m c t.val t.isLt).2.2.1 = outL (iblk m c 0 t) (iblk m c 1 t) (iblk m c 2 t) (iblk m c 3 t) (iblk m c 4 t) := by
  have hN : t.val < 8 := lt_of_lt_of_eq t.isLt N_0
  by_cases h0 : t.val % 8 = 0
  · have h1 : ¬1 ≤ t.val := by omega
    rw [outsAt0_A m c t h0 h1]
    dsimp only
    exact ⟨summand_first_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0) (fun h => h1 ((hcond0_1 t).mp h)), summand_second_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0) (fun h => h1 ((hcond0_1 t).mp h)),
      logits_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0) (fun h => h1 ((hcond0_1 t).mp h))⟩
  · have h1 : 1 ≤ t.val := by omega
    rw [outsAt0_B m c t h0 h1]
    dsimp only
    exact ⟨summand_first_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (outsAt0 m c (t.val - 1) (Nat.lt_of_le_of_lt (Nat.sub_le _ _) t.isLt)).2.2.2 (fun h => h0 ((hcond0_0 t).mp h)) ((hcond0_1 t).mpr h1), summand_second_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (outsAt0 m c (t.val - 1) (Nat.lt_of_le_of_lt (Nat.sub_le _ _) t.isLt)).2.2.2 (fun h => h0 ((hcond0_0 t).mp h)) ((hcond0_1 t).mpr h1),
      logits_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (outsAt0 m c (t.val - 1) (Nat.lt_of_le_of_lt (Nat.sub_le _ _) t.isLt)).2.2.2 (fun h => h0 ((hcond0_0 t).mp h)) ((hcond0_1 t).mpr h1)⟩

/-- What the first grid point, and a later one, leaves in the cotangent of the bias. -/
theorem bias_start (c : Dev nD) (t : Fin cfg0.N) (h0 : t.val % 8 = 0) (h1 : ¬1 ≤ t.val) : (outsAt0 m c t.val t.isLt).2.2.2 = outF (iblk m c 0 t) (iblk m c 1 t) (iblk m c 2 t) (iblk m c 3 t) (iblk m c 4 t) := by
  rw [outsAt0_A m c t h0 h1]
  dsimp only
  exact bias_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0) (fun h => h1 ((hcond0_1 t).mp h))

theorem bias_later (c : Dev nD) (t : Fin cfg0.N) (h0 : ¬t.val % 8 = 0) (h1 : 1 ≤ t.val) :
    (outsAt0 m c t.val t.isLt).2.2.2 = outN (iblk m c 0 t) (iblk m c 1 t) (iblk m c 2 t) (iblk m c 3 t) (iblk m c 4 t) (outsAt0 m c (t.val - 1) (Nat.lt_of_le_of_lt (Nat.sub_le _ _) t.isLt)).2.2.2 := by
  rw [outsAt0_B m c t h0 h1]
  dsimp only
  exact bias_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (outsAt0 m c (t.val - 1) (Nat.lt_of_le_of_lt (Nat.sub_le _ _) t.isLt)).2.2.2 (fun h => h0 ((hcond0_0 t).mp h)) ((hcond0_1 t).mpr h1)

/-- The results of whole arrays. -/
def cotA (c : Dev nD) : Arr 4096 1024 := summand 0 (by decide) (arg0 m c) (arg1 m c) (arg2 m c)
def cotB (c : Dev nD) : Arr 4096 1024 := summand 1024 (by decide) (arg0 m c) (arg1 m c) (arg2 m c)
def cotL (c : Dev nD) : Arr 4096 2048 := logits (arg0 m c) (arg1 m c) (arg2 m c) (arg3 m c) (arg4 m c)
def cotBias (c : Dev nD) : Arr 1 2048 := fun y => ∑ k : Fin 4096, cotL m c (ix2 k (y 1))

theorem block_logits (c : Dev nD) (t : Fin cfg0.N) (p : Fin 512) (q : Fin 2048) :
    logits (iblk m c 0 t) (iblk m c 1 t) (iblk m c 2 t) (iblk m c 3 t) (iblk m c 4 t) (ix2 p q) = cotL m c (ix2 (row t p) q) :=
  logits_row (cotangent_block m c t p) (logit_block m c t p) (bias_block m c t) (first_block m c t p) (second_block m c t p) q

/-- The part of a grid point in the cotangent of the bias. -/
def part (c : Dev nD) (k : ℕ) (q : Fin 2048) : EReal := if h : k < 8 then ∑ p : Fin 512, cotL m c (ix2 ⟨k * 512 + p.val, by omega⟩ q) else 0

/-- The cotangent of the bias after a grid point. -/
theorem bias_upto (c : Dev nD) : ∀ (k : ℕ) (hk : k < cfg0.N) (q : Fin 2048), (outsAt0 m c k hk).2.2.2 (ix2 0 q) = ∑ s ∈ Finset.range (k + 1), part m c s q := by
  have part_eq : ∀ (t : Fin cfg0.N) (q : Fin 2048), ∑ p : Fin 512, logits (iblk m c 0 t) (iblk m c 1 t) (iblk m c 2 t) (iblk m c 3 t) (iblk m c 4 t) (ix2 p q) = part m c t.val q := fun t q => by
    unfold part
    rw [dif_pos (lt_of_lt_of_eq t.isLt N_0)]
    exact Finset.sum_congr rfl fun p _ => block_logits m c t p q
  intro k
  induction k with
  | zero =>
    intro hk q
    rw [zero_add, Finset.sum_range_one]
    refine Eq.trans ?_ (part_eq ⟨0, hk⟩ q)
    exact (congrFun (bias_start m c ⟨0, hk⟩ rfl (Nat.not_succ_le_zero 0)) (ix2 0 q)).trans (outF_apply _ _ _ _ _ q)
  | succ k ih =>
    intro hk q
    have hN : k + 1 < 8 := lt_of_lt_of_eq hk N_0
    rw [Finset.sum_range_succ, ← ih (Nat.lt_of_succ_lt hk) q]
    refine Eq.trans ?_ (congrArg ((outsAt0 m c k (Nat.lt_of_succ_lt hk)).2.2.2 (ix2 0 q) + ·) (part_eq ⟨k + 1, hk⟩ q))
    exact (congrFun (bias_later m c ⟨k + 1, hk⟩ (by show ¬(k + 1) % 8 = 0; omega) (by show 1 ≤ k + 1; omega)) (ix2 0 q)).trans (outN_apply _ _ _ _ _ _ q)

/-- The parts of all points are the sum over all rows. -/
theorem parts_sum (c : Dev nD) (q : Fin 2048) : ∑ s ∈ Finset.range 8, part m c s q = ∑ k : Fin 4096, cotL m c (ix2 k q) := by
  rw [Finset.sum_range]
  have e : ∀ s : Fin 8, part m c s.val q = ∑ p : Fin 512, cotL m c (ix2 ⟨s.val * 512 + p.val, by omega⟩ q) := fun s => dif_pos s.isLt
  rw [Finset.sum_congr rfl (fun s _ => e s), ← Fintype.sum_prod_type' (f := fun (s : Fin 8) (p : Fin 512) => cotL m c (ix2 (⟨s.val * 512 + p.val, by omega⟩ : Fin 4096) q))]
  refine Fintype.sum_equiv (finProdFinEquiv : Fin 8 × Fin 512 ≃ Fin (8 * 512)) _ (fun k : Fin (8 * 512) => cotL m c (ix2 (⟨k.val, k.isLt⟩ : Fin 4096) q)) (fun x => ?_)
  refine congrArg (fun k : Fin 4096 => cotL m c (ix2 k q)) (Fin.ext ?_)
  show x.1.val * 512 + x.2.val = x.2.val + 512 * x.1.val
  omega

theorem summand_first_array (c : Dev nD) : (dats m 0 c).arrAt 5 cfg0.N = cotA m c := by
  refine (dats m 0 c).arrAt_eq_of_cover 5 (cotA m c) (fun t hf => ?_) (fun i => ?_)
  · rw [flushed5]
    refine funext fun y => ?_
    obtain ⟨⟨a, b, f⟩, -⟩ := out_of t
    obtain ⟨p, q, hy⟩ := exists_place (show S512x1024.Idx from y)
    have he : ((cfg0.win 5).blk t).view.emb y = (ix2 (row t p) q : S4096x1024.Idx) := funext fun k => Fin.ext (by
      refine (win0_5.rect_emb_val t y k).trans ?_
      have e0 : (y 0).val = p.val := congrArg (fun w : S512x1024.Idx => (w 0).val) hy
      have e1 : (y 1).val = q.val := congrArg (fun w : S512x1024.Idx => (w 1).val) hy
      match k with
      | ⟨0, _⟩ => show win0_5.index t 0 * 512 + (y 0).val = t.val * 512 + p.val; omega
      | ⟨1, _⟩ => show win0_5.index t 1 * 1024 + (y 1).val = q.val; omega)
    show (outsAt0 m c t.val t.isLt).1 y = cotA m c (((cfg0.win 5).blk t).view.emb y)
    rw [he]
    refine (congrArg (outsAt0 m c t.val t.isLt).1 hy).trans ((congrFun ((point_outs m c t).1.trans (outA_eq ..)) (ix2 p q)).trans ?_)
    exact summand_row 0 _ (cotangent_block m c t p) (logit_block m c t p) (bias_block m c t) q
  · have h0 : (i 0).val < 4096 := (i 0).isLt
    obtain ⟨t, ht⟩ : ∃ t : Fin cfg0.N, t.val = (i 0).val / 512 := ⟨⟨_, by have : cfg0.N = 8 := N_0; omega⟩, rfl⟩
    obtain ⟨⟨a, b, f⟩, -⟩ := out_of t
    refine ⟨t, f, ?_⟩
    let y : S512x1024.Idx := ix2 ⟨(i 0).val % 512, Nat.mod_lt _ (by decide)⟩ ⟨(i 1).val, (i 1).isLt⟩
    have he : ((cfg0.win 5).blk t).view.emb y = i := funext fun a => Fin.ext (by
      refine (win0_5.rect_emb_val t y a).trans ?_
      match a with
      | ⟨0, _⟩ => show win0_5.index t 0 * 512 + (i 0).val % 512 = (i 0).val; omega
      | ⟨1, _⟩ => show win0_5.index t 1 * 1024 + (i 1).val = (i 1).val; omega)
    rw [← he]
    exact Finset.mem_map.mpr ⟨y, Finset.mem_univ _, rfl⟩

theorem summand_second_array (c : Dev nD) : (dats m 0 c).arrAt 6 cfg0.N = cotB m c := by
  refine (dats m 0 c).arrAt_eq_of_cover 6 (cotB m c) (fun t hf => ?_) (fun i => ?_)
  · rw [flushed6]
    refine funext fun y => ?_
    obtain ⟨-, ⟨a, b, f⟩, -⟩ := out_of t
    obtain ⟨p, q, hy⟩ := exists_place (show S512x1024.Idx from y)
    have he : ((cfg0.win 6).blk t).view.emb y = (ix2 (row t p) q : S4096x1024.Idx) := funext fun k => Fin.ext (by
      refine (win0_6.rect_emb_val t y k).trans ?_
      have e0 : (y 0).val = p.val := congrArg (fun w : S512x1024.Idx => (w 0).val) hy
      have e1 : (y 1).val = q.val := congrArg (fun w : S512x1024.Idx => (w 1).val) hy
      match k with
      | ⟨0, _⟩ => show win0_6.index t 0 * 512 + (y 0).val = t.val * 512 + p.val; omega
      | ⟨1, _⟩ => show win0_6.index t 1 * 1024 + (y 1).val = q.val; omega)
    show (outsAt0 m c t.val t.isLt).2.1 y = cotB m c (((cfg0.win 6).blk t).view.emb y)
    rw [he]
    refine (congrArg (outsAt0 m c t.val t.isLt).2.1 hy).trans ((congrFun ((point_outs m c t).2.1.trans (outB_eq ..)) (ix2 p q)).trans ?_)
    exact summand_row 1024 _ (cotangent_block m c t p) (logit_block m c t p) (bias_block m c t) q
  · have h0 : (i 0).val < 4096 := (i 0).isLt
    obtain ⟨t, ht⟩ : ∃ t : Fin cfg0.N, t.val = (i 0).val / 512 := ⟨⟨_, by have : cfg0.N = 8 := N_0; omega⟩, rfl⟩
    obtain ⟨-, ⟨a, b, f⟩, -⟩ := out_of t
    refine ⟨t, f, ?_⟩
    let y : S512x1024.Idx := ix2 ⟨(i 0).val % 512, Nat.mod_lt _ (by decide)⟩ ⟨(i 1).val, (i 1).isLt⟩
    have he : ((cfg0.win 6).blk t).view.emb y = i := funext fun a => Fin.ext (by
      refine (win0_6.rect_emb_val t y a).trans ?_
      match a with
      | ⟨0, _⟩ => show win0_6.index t 0 * 512 + (i 0).val % 512 = (i 0).val; omega
      | ⟨1, _⟩ => show win0_6.index t 1 * 1024 + (i 1).val = (i 1).val; omega)
    rw [← he]
    exact Finset.mem_map.mpr ⟨y, Finset.mem_univ _, rfl⟩

theorem logits_array (c : Dev nD) : (dats m 0 c).arrAt 7 cfg0.N = cotL m c := by
  refine (dats m 0 c).arrAt_eq_of_cover 7 (cotL m c) (fun t hf => ?_) (fun i => ?_)
  · rw [flushed7]
    refine funext fun y => ?_
    obtain ⟨-, -, ⟨a, b, f⟩, -⟩ := out_of t
    obtain ⟨p, q, hy⟩ := exists_place (show S512x2048.Idx from y)
    have he : ((cfg0.win 7).blk t).view.emb y = (ix2 (row t p) q : S4096x2048.Idx) := funext fun k => Fin.ext (by
      refine (win0_7.rect_emb_val t y k).trans ?_
      have e0 : (y 0).val = p.val := congrArg (fun w : S512x2048.Idx => (w 0).val) hy
      have e1 : (y 1).val = q.val := congrArg (fun w : S512x2048.Idx => (w 1).val) hy
      match k with
      | ⟨0, _⟩ => show win0_7.index t 0 * 512 + (y 0).val = t.val * 512 + p.val; omega
      | ⟨1, _⟩ => show win0_7.index t 1 * 2048 + (y 1).val = q.val; omega)
    show (outsAt0 m c t.val t.isLt).2.2.1 y = cotL m c (((cfg0.win 7).blk t).view.emb y)
    rw [he]
    refine (congrArg (outsAt0 m c t.val t.isLt).2.2.1 hy).trans ((congrFun ((point_outs m c t).2.2.trans (outL_eq ..)) (ix2 p q)).trans ?_)
    exact block_logits m c t p q
  · have h0 : (i 0).val < 4096 := (i 0).isLt
    obtain ⟨t, ht⟩ : ∃ t : Fin cfg0.N, t.val = (i 0).val / 512 := ⟨⟨_, by have : cfg0.N = 8 := N_0; omega⟩, rfl⟩
    obtain ⟨-, -, ⟨a, b, f⟩, -⟩ := out_of t
    refine ⟨t, f, ?_⟩
    let y : S512x2048.Idx := ix2 ⟨(i 0).val % 512, Nat.mod_lt _ (by decide)⟩ ⟨(i 1).val, (i 1).isLt⟩
    have he : ((cfg0.win 7).blk t).view.emb y = i := funext fun a => Fin.ext (by
      refine (win0_7.rect_emb_val t y a).trans ?_
      match a with
      | ⟨0, _⟩ => show win0_7.index t 0 * 512 + (i 0).val % 512 = (i 0).val; omega
      | ⟨1, _⟩ => show win0_7.index t 1 * 2048 + (i 1).val = (i 1).val; omega)
    rw [← he]
    exact Finset.mem_map.mpr ⟨y, Finset.mem_univ _, rfl⟩

theorem bias_array (c : Dev nD) : (dats m 0 c).arrAt 8 cfg0.N = cotBias m c := by
  refine (dats m 0 c).arrAt_eq_of_cover 8 (cotBias m c) (fun t hf => ?_) (fun i => ?_)
  · rw [flushed8]
    refine funext fun y => ?_
    obtain ⟨-, -, -, a, b, f⟩ := out_of t
    have h7 := f.mp hf
    have z : (y 0).val = 0 := Nat.lt_one_iff.mp (y 0).isLt
    have he : ((cfg0.win 8).blk t).view.emb y = (ix2 0 (y 1) : S1x2048.Idx) := funext fun k => Fin.ext (by
      refine (win0_8.rect_emb_val t y k).trans ?_
      match k with
      | ⟨0, _⟩ => show win0_8.index t 0 * 1 + (y 0).val = 0; omega
      | ⟨1, _⟩ => show win0_8.index t 1 * 2048 + (y 1).val = (y 1).val; omega)
    have hy : (show S1x2048.Idx from y) = ix2 0 (y 1) := place_of _ _ _ z rfl
    show (outsAt0 m c t.val t.isLt).2.2.2 y = cotBias m c (((cfg0.win 8).blk t).view.emb y)
    rw [he]
    refine (congrArg (outsAt0 m c t.val t.isLt).2.2.2 hy).trans ((bias_upto m c t.val t.isLt (y 1)).trans ?_)
    rw [h7]
    exact parts_sum m c (y 1)
  · obtain ⟨t, ht⟩ : ∃ t : Fin cfg0.N, t.val = 7 := ⟨⟨7, by have : cfg0.N = 8 := N_0; omega⟩, rfl⟩
    obtain ⟨-, -, -, a, b, f⟩ := out_of t
    refine ⟨t, f.mpr ht, ?_⟩
    have he : ((cfg0.win 8).blk t).view.emb (show S1x2048.Idx from i) = i := funext fun k => Fin.ext (by
      refine (win0_8.rect_emb_val t i k).trans ?_
      match k with
      | ⟨0, _⟩ => show win0_8.index t 0 * 1 + (i 0).val = (i 0).val; omega
      | ⟨1, _⟩ => show win0_8.index t 1 * 2048 + (i 1).val = (i 1).val; omega)
    rw [← he]
    exact Finset.mem_map.mpr ⟨i, Finset.mem_univ _, rfl⟩

section Reference

variable (X0 : Arr 4096 1024) (X1 : Arr 4096 2048) (X2 : Arr 1 2048) (X3 X4 : Arr 4096 1024)

/-- The reference's gate. -/
theorem reference_gate (p : Fin 4096) (q : Fin 2048) :
    Cert.GatesGradReferenceIdeal.Read.val_main_v7 (F := Ideal) X1 X2 (ix2 p q) = sigmoid (X1 (ix2 p q) + X2 (ix2 0 q)) := by
  unfold sigmoid
  rw [zero_sub]
  pointwise [Cert.GatesGradReferenceIdeal.Read.val_main_v7, Cert.GatesGradReferenceIdeal.Read.val_main_v6, Cert.GatesGradReferenceIdeal.Read.val_main_v5, Cert.GatesGradReferenceIdeal.Read.val_main_v4, Cert.GatesGradReferenceIdeal.Read.val_main_v3, Cert.GatesGradReferenceIdeal.Read.val_main_v2, Cert.GatesGradReferenceIdeal.Read.val_main_v1, Cert.GatesGradReferenceIdeal.Read.val_main_v0, Cert.GatesGradReferenceIdeal.Read.val_main_cst, Cert.GatesGradReferenceIdeal.Read.val_main_cst_0]

/-- The reference's halves of the gates. -/
theorem reference_first (p : Fin 4096) (q : Fin 1024) : Cert.GatesGradReferenceIdeal.Read.val_main_v11 (F := Ideal) X1 X2 (ix2 p q) = gate 0 (by decide) X1 X2 (ix2 p q) := by
  rw [Cert.GatesGradReferenceIdeal.Read.val_main_v11_apply]
  refine Eq.trans (congrArg (Cert.GatesGradReferenceIdeal.Read.val_main_v7 (F := Ideal) X1 X2) ?_) (reference_gate X1 X2 p ⟨0 + q.val, by omega⟩)
  exact place_of _ _ _ (by simp) (by simp)

theorem reference_second (p : Fin 4096) (q : Fin 1024) : Cert.GatesGradReferenceIdeal.Read.val_main_v12 (F := Ideal) X1 X2 (ix2 p q) = gate 1024 (by decide) X1 X2 (ix2 p q) := by
  rw [Cert.GatesGradReferenceIdeal.Read.val_main_v12_apply]
  refine Eq.trans (congrArg (Cert.GatesGradReferenceIdeal.Read.val_main_v7 (F := Ideal) X1 X2) ?_) (reference_gate X1 X2 p ⟨1024 + q.val, by omega⟩)
  exact place_of _ _ _ (by simp) (by simp)

/-- A reshape to the same shape. -/
theorem reference_same (p : Fin 4096) (q : Fin 1024) : Cert.GatesGradReferenceIdeal.Read.val_main_v16 (F := Ideal) X0 (ix2 p q) = X0 (ix2 p q) := by
  rw [Cert.GatesGradReferenceIdeal.Read.val_main_v16_apply]
  refine congrArg X0 (place_of _ _ _ ?_ ?_)
  · show (p.val * 1024 + q.val) / 1024 = p.val
    omega
  · show (p.val * 1024 + q.val) % 1024 = q.val
    omega

theorem reference_same' (p : Fin 4096) (q : Fin 1024) : Cert.GatesGradReferenceIdeal.Read.val_main_v17 (F := Ideal) X0 (ix2 p q) = X0 (ix2 p q) := reference_same X0 p q

theorem reference_summand_first : Cert.GatesGradReferenceIdeal.Read.val_main_v26 (F := Ideal) X0 X1 X2 = summand 0 (by decide) X0 X1 X2 := by
  funext i
  obtain ⟨p, q, rfl⟩ := exists_place i
  show Cert.GatesGradReferenceIdeal.Read.val_main_v11 (F := Ideal) X1 X2 (ix2 p q) * Cert.GatesGradReferenceIdeal.Read.val_main_v16 (F := Ideal) X0 (ix2 p q) = X0 (ix2 p q) * gate 0 _ X1 X2 (ix2 p q)
  rw [reference_first, reference_same, mul_comm]

theorem reference_summand_second : Cert.GatesGradReferenceIdeal.Read.val_main_v27 (F := Ideal) X0 X1 X2 = summand 1024 (by decide) X0 X1 X2 := by
  funext i
  obtain ⟨p, q, rfl⟩ := exists_place i
  show Cert.GatesGradReferenceIdeal.Read.val_main_v12 (F := Ideal) X1 X2 (ix2 p q) * Cert.GatesGradReferenceIdeal.Read.val_main_v17 (F := Ideal) X0 (ix2 p q) = X0 (ix2 p q) * gate 1024 _ X1 X2 (ix2 p q)
  rw [reference_second, reference_same', mul_comm]

/-- The derivative of the reference's gate. -/
theorem reference_slope (p : Fin 4096) (q : Fin 2048) : Cert.GatesGradReferenceIdeal.Read.val_main_v10 (F := Ideal) X1 X2 (ix2 p q) =
    sigmoid (X1 (ix2 p q) + X2 (ix2 0 q)) * (1 - sigmoid (X1 (ix2 p q) + X2 (ix2 0 q))) := by
  have one : Cert.GatesGradReferenceIdeal.Read.val_main_v8 (F := Ideal) (ix2 p q) = (1 : EReal) := by
    pointwise [Cert.GatesGradReferenceIdeal.Read.val_main_v8, Cert.GatesGradReferenceIdeal.Read.val_main_cst_1]
  show Cert.GatesGradReferenceIdeal.Read.val_main_v7 (F := Ideal) X1 X2 (ix2 p q) * (Cert.GatesGradReferenceIdeal.Read.val_main_v8 (F := Ideal) (ix2 p q) - Cert.GatesGradReferenceIdeal.Read.val_main_v7 (F := Ideal) X1 X2 (ix2 p q)) = _
  rw [one, reference_gate]

theorem gate_low (p : Fin 4096) (q : Fin 2048) (h : q.val < 1024) : gate 0 (by decide) X1 X2 (ix2 p ⟨q.val, h⟩) = sigmoid (X1 (ix2 p q) + X2 (ix2 0 q)) :=
  congrArg (fun k : Fin 2048 => sigmoid (X1 (ix2 p k) + X2 (ix2 0 k))) (Fin.ext (Nat.zero_add _))

theorem gate_high (p : Fin 4096) (q : Fin 2048) (h : ¬q.val < 1024) :
    gate 1024 (by decide) X1 X2 (ix2 p ⟨q.val - 1024, by omega⟩) = sigmoid (X1 (ix2 p q) + X2 (ix2 0 q)) :=
  congrArg (fun k : Fin 2048 => sigmoid (X1 (ix2 p k) + X2 (ix2 0 k))) (Fin.ext (by show 1024 + (q.val - 1024) = q.val; omega))

theorem reference_logits : Cert.GatesGradReferenceIdeal.Read.val_main_v23 (F := Ideal) X0 X1 X2 X3 X4 = logits X0 X1 X2 X3 X4 := by
  funext i
  obtain ⟨p, q, rfl⟩ := exists_place i
  show Cert.GatesGradReferenceIdeal.Read.val_main_v22 (F := Ideal) X0 X3 X4 (ix2 p q) * Cert.GatesGradReferenceIdeal.Read.val_main_v10 (F := Ideal) X1 X2 (ix2 p q) = _
  rw [reference_slope]
  by_cases h : q.val < 1024
  · have e : Cert.GatesGradReferenceIdeal.Read.val_main_v22 (F := Ideal) X0 X3 X4 (ix2 p q) = Cert.GatesGradReferenceIdeal.Read.val_main_v21 (F := Ideal) X0 X3 (ix2 p ⟨q.val, h⟩) :=
      concatenate_pair_apply_left (s₁ := Cert.GatesGradReferenceIdeal.S4096x1024) (s₂ := Cert.GatesGradReferenceIdeal.S4096x1024) 1 _ _ _ (ix2 p q) rfl (ix2 p ⟨q.val, h⟩) (fun b => match b with
        | ⟨0, _⟩ => rfl
        | ⟨1, _⟩ => rfl)
    refine Eq.trans ?_ (joined_low _ _ p q h).symm
    unfold inner
    rw [e, gate_low X1 X2 p q h, mul_assoc]
    exact congrArg (· * X3 _ * _) (reference_same X0 p ⟨q.val, h⟩)
  · have e : Cert.GatesGradReferenceIdeal.Read.val_main_v22 (F := Ideal) X0 X3 X4 (ix2 p q) = Cert.GatesGradReferenceIdeal.Read.val_main_v19 (F := Ideal) X0 X4 (ix2 p ⟨q.val - 1024, by omega⟩) :=
      concatenate_pair_apply_right (s₁ := Cert.GatesGradReferenceIdeal.S4096x1024) (s₂ := Cert.GatesGradReferenceIdeal.S4096x1024) 1 _ _ _ (ix2 p q) rfl rfl (ix2 p ⟨q.val - 1024, by omega⟩) (fun b hb => match b with
        | ⟨0, _⟩ => rfl
        | ⟨1, _⟩ => absurd rfl hb) (by show q.val - 1024 + 1024 = q.val; omega)
    refine Eq.trans ?_ (joined_high _ _ p q h).symm
    unfold inner
    rw [e, gate_high X1 X2 p q h, mul_assoc]
    exact congrArg (· * X4 _ * _) (reference_same' X0 p ⟨q.val - 1024, by omega⟩)

theorem reference_bias : Cert.GatesGradReferenceIdeal.Read.val_main_v25 (F := Ideal) X0 X1 X2 X3 X4 = fun y => ∑ k : Fin 4096, logits X0 X1 X2 X3 X4 (ix2 k (y 1)) := by
  funext y
  have z : Cert.GatesGradReferenceIdeal.Read.val_main_cst_2 (F := Ideal) (Shape.Idx.first Cert.GatesGradReferenceIdeal.Gen.h_S_) = (0 : EReal) := by
    pointwise [Cert.GatesGradReferenceIdeal.Read.val_main_cst_2]
  rw [Cert.GatesGradReferenceIdeal.Read.val_main_v25_apply, Cert.GatesGradReferenceIdeal.Read.val_main_v24_apply, reference_logits, z, zero_add]
  refine Finset.sum_congr rfl fun k _ => congrArg (logits X0 X1 X2 X3 X4) (place_of _ _ _ rfl ?_)
  have y0 : (y 0).val < 1 := (y 0).isLt
  show (y 0).val * 2048 + (y 1).val = (y 1).val
  omega

end Reference

/-- The kernel and the reference end with equal results. -/
theorem algebraic : Cert.algebraic_GatesGradIdeal_GatesGradReferenceIdeal (hGatesGradIdeal := Cert.GatesGradIdeal.Gen.facts)
    (hGatesGradReferenceIdeal := Cert.GatesGradReferenceIdeal.Gen.facts) := by
  intro m g m' g' _ hargs
  refine ⟨fun c => cotA m c, fun c => cotB m c, fun c => cotL m c, fun c => cotBias m c, ?_, ?_⟩
  · refine (θ_run _ _ _).mono (fun r h c => ?_) (run_blocks m g)
    obtain ⟨h0, h1, h2, h3, hk⟩ := h c
    exact ⟨h0.trans (summand_first_array m c), h1.trans (summand_second_array m c), h2.trans (logits_array m c), h3.trans (bias_array m c), hk⟩
  · refine (θ_run _ _ _).mono (fun r h c => ?_) (Cert.GatesGradReferenceIdeal.Value.run m' g')
    obtain ⟨h0, h1, h2, h3, hk⟩ := h c
    obtain ⟨e0, e1, e2, e3, e4⟩ := hargs c
    refine ⟨h0.trans ?_, h1.trans ?_, h2.trans ?_, h3.trans ?_, hk⟩
    · refine Eq.trans ?_ (reference_summand_first (arg0 m c) (arg1 m c) (arg2 m c))
      rw [show arg0 m c = _ from e0.symm, show arg1 m c = _ from e1.symm, show arg2 m c = _ from e2.symm]
      rfl
    · refine Eq.trans ?_ (reference_summand_second (arg0 m c) (arg1 m c) (arg2 m c))
      rw [show arg0 m c = _ from e0.symm, show arg1 m c = _ from e1.symm, show arg2 m c = _ from e2.symm]
      rfl
    · refine Eq.trans ?_ (reference_logits (arg0 m c) (arg1 m c) (arg2 m c) (arg3 m c) (arg4 m c))
      rw [show arg0 m c = _ from e0.symm, show arg1 m c = _ from e1.symm, show arg2 m c = _ from e2.symm, show arg3 m c = _ from e3.symm, show arg4 m c = _ from e4.symm]
      rfl
    · refine Eq.trans ?_ (reference_bias (arg0 m c) (arg1 m c) (arg2 m c) (arg3 m c) (arg4 m c))
      rw [show arg0 m c = _ from e0.symm, show arg1 m c = _ from e1.symm, show arg2 m c = _ from e2.symm, show arg3 m c = _ from e3.symm, show arg4 m c = _ from e4.symm]
      rfl

end Cert.GatesGradIdeal.Product

end
-- ==== Proof.lean ====
/- The claims of this certificate: each program runs, leaves its arguments as they were and every counter at zero;
   each kernel over the extended reals is the printed one; and each kernel's result equals its reference's. -/
module

public import proofs.«01_k».proof.Defs
public import proofs.«01_k».proof.Proof.Gen.FfnDownWeight
public import proofs.«01_k».proof.Proof.Gen.FfnDownWeight.Skeleton
public import proofs.«01_k».proof.Proof.Gen.FfnDownWeight.Launch
public import proofs.«01_k».proof.Proof.Gen.FfnDownWeight.Points
public import proofs.«01_k».proof.Proof.Gen.FfnDownWeight.Frame
public import proofs.«01_k».proof.Proof.Gen.FfnDownWeightIdeal
public import proofs.«01_k».proof.Proof.Gen.FfnDownWeightIdeal.Skeleton
public import proofs.«01_k».proof.Proof.Gen.FfnDownWeightIdeal.Launch
public import proofs.«01_k».proof.Proof.Gen.FfnDownWeightIdeal.Points
public import proofs.«01_k».proof.Proof.Gen.FfnDownWeightIdeal.Frame
public import proofs.«01_k».proof.Proof.Gen.FfnDownWeightReferenceIdeal
public import proofs.«01_k».proof.Proof.Gen.FfnInner
public import proofs.«01_k».proof.Proof.Gen.FfnInner.Skeleton
public import proofs.«01_k».proof.Proof.Gen.FfnInner.Launch
public import proofs.«01_k».proof.Proof.Gen.FfnInner.Points
public import proofs.«01_k».proof.Proof.Gen.FfnInner.Frame
public import proofs.«01_k».proof.Proof.Gen.FfnInnerIdeal
public import proofs.«01_k».proof.Proof.Gen.FfnInnerIdeal.Skeleton
public import proofs.«01_k».proof.Proof.Gen.FfnInnerIdeal.Launch
public import proofs.«01_k».proof.Proof.Gen.FfnInnerIdeal.Points
public import proofs.«01_k».proof.Proof.Gen.FfnInnerIdeal.Frame
public import proofs.«01_k».proof.Proof.Gen.FfnInnerReferenceIdeal
public import proofs.«01_k».proof.Proof.Gen.FfnUpWeight
public import proofs.«01_k».proof.Proof.Gen.FfnUpWeight.Skeleton
public import proofs.«01_k».proof.Proof.Gen.FfnUpWeight.Launch
public import proofs.«01_k».proof.Proof.Gen.FfnUpWeight.Points
public import proofs.«01_k».proof.Proof.Gen.FfnUpWeight.Frame
public import proofs.«01_k».proof.Proof.Gen.FfnUpWeightIdeal
public import proofs.«01_k».proof.Proof.Gen.FfnUpWeightIdeal.Skeleton
public import proofs.«01_k».proof.Proof.Gen.FfnUpWeightIdeal.Launch
public import proofs.«01_k».proof.Proof.Gen.FfnUpWeightIdeal.Points
public import proofs.«01_k».proof.Proof.Gen.FfnUpWeightIdeal.Frame
public import proofs.«01_k».proof.Proof.Gen.FfnUpWeightReferenceIdeal
public import proofs.«01_k».proof.Proof.Gen.FfnInput
public import proofs.«01_k».proof.Proof.Gen.FfnInput.Skeleton
public import proofs.«01_k».proof.Proof.Gen.FfnInput.Launch
public import proofs.«01_k».proof.Proof.Gen.FfnInput.Points
public import proofs.«01_k».proof.Proof.Gen.FfnInput.Frame
public import proofs.«01_k».proof.Proof.Gen.FfnInputIdeal
public import proofs.«01_k».proof.Proof.Gen.FfnInputIdeal.Skeleton
public import proofs.«01_k».proof.Proof.Gen.FfnInputIdeal.Launch
public import proofs.«01_k».proof.Proof.Gen.FfnInputIdeal.Points
public import proofs.«01_k».proof.Proof.Gen.FfnInputIdeal.Frame
public import proofs.«01_k».proof.Proof.Gen.FfnInputReferenceIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpReferenceIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownReferenceIdeal
public import proofs.«01_k».proof.Proof.Gen.MixerWeight
public import proofs.«01_k».proof.Proof.Gen.MixerWeight.Skeleton
public import proofs.«01_k».proof.Proof.Gen.MixerWeight.Launch
public import proofs.«01_k».proof.Proof.Gen.MixerWeight.Points
public import proofs.«01_k».proof.Proof.Gen.MixerWeight.Frame
public import proofs.«01_k».proof.Proof.Gen.MixerWeightIdeal
public import proofs.«01_k».proof.Proof.Gen.MixerWeightIdeal.Skeleton
public import proofs.«01_k».proof.Proof.Gen.MixerWeightIdeal.Launch
public import proofs.«01_k».proof.Proof.Gen.MixerWeightIdeal.Points
public import proofs.«01_k».proof.Proof.Gen.MixerWeightIdeal.Frame
public import proofs.«01_k».proof.Proof.Gen.MixerWeightReferenceIdeal
public import proofs.«01_k».proof.Proof.Gen.MixerInput
public import proofs.«01_k».proof.Proof.Gen.MixerInput.Skeleton
public import proofs.«01_k».proof.Proof.Gen.MixerInput.Launch
public import proofs.«01_k».proof.Proof.Gen.MixerInput.Points
public import proofs.«01_k».proof.Proof.Gen.MixerInput.Frame
public import proofs.«01_k».proof.Proof.Gen.MixerInputIdeal
public import proofs.«01_k».proof.Proof.Gen.MixerInputIdeal.Skeleton
public import proofs.«01_k».proof.Proof.Gen.MixerInputIdeal.Launch
public import proofs.«01_k».proof.Proof.Gen.MixerInputIdeal.Points
public import proofs.«01_k».proof.Proof.Gen.MixerInputIdeal.Frame
public import proofs.«01_k».proof.Proof.Gen.MixerInputReferenceIdeal
public import proofs.«01_k».proof.Proof.Gen.MixerIn
public import proofs.«01_k».proof.Proof.Gen.MixerIn.Skeleton
public import proofs.«01_k».proof.Proof.Gen.MixerIn.Launch
public import proofs.«01_k».proof.Proof.Gen.MixerIn.Points
public import proofs.«01_k».proof.Proof.Gen.MixerIn.Frame
public import proofs.«01_k».proof.Proof.Gen.MixerInIdeal
public import proofs.«01_k».proof.Proof.Gen.MixerInIdeal.Skeleton
public import proofs.«01_k».proof.Proof.Gen.MixerInIdeal.Launch
public import proofs.«01_k».proof.Proof.Gen.MixerInIdeal.Points
public import proofs.«01_k».proof.Proof.Gen.MixerInIdeal.Frame
public import proofs.«01_k».proof.Proof.Gen.MixerInReferenceIdeal
public import proofs.«01_k».proof.Proof.Gen.MergeWeight
public import proofs.«01_k».proof.Proof.Gen.MergeWeight.Skeleton
public import proofs.«01_k».proof.Proof.Gen.MergeWeight.Launch
public import proofs.«01_k».proof.Proof.Gen.MergeWeight.Points
public import proofs.«01_k».proof.Proof.Gen.MergeWeight.Frame
public import proofs.«01_k».proof.Proof.Gen.MergeWeightIdeal
public import proofs.«01_k».proof.Proof.Gen.MergeWeightIdeal.Skeleton
public import proofs.«01_k».proof.Proof.Gen.MergeWeightIdeal.Launch
public import proofs.«01_k».proof.Proof.Gen.MergeWeightIdeal.Points
public import proofs.«01_k».proof.Proof.Gen.MergeWeightIdeal.Frame
public import proofs.«01_k».proof.Proof.Gen.MergeWeightReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.OutWeight
public import proofs.«01_k».proof.Proof.Gen.OutWeight.Skeleton
public import proofs.«01_k».proof.Proof.Gen.OutWeight.Launch
public import proofs.«01_k».proof.Proof.Gen.OutWeight.Points
public import proofs.«01_k».proof.Proof.Gen.OutWeight.Frame
public import proofs.«01_k».proof.Proof.Gen.OutWeightIdeal
public import proofs.«01_k».proof.Proof.Gen.OutWeightIdeal.Skeleton
public import proofs.«01_k».proof.Proof.Gen.OutWeightIdeal.Launch
public import proofs.«01_k».proof.Proof.Gen.OutWeightIdeal.Points
public import proofs.«01_k».proof.Proof.Gen.OutWeightIdeal.Frame
public import proofs.«01_k».proof.Proof.Gen.OutWeightReferenceIdeal
public import proofs.«01_k».proof.Proof.Gen.OutInput
public import proofs.«01_k».proof.Proof.Gen.OutInput.Skeleton
public import proofs.«01_k».proof.Proof.Gen.OutInput.Launch
public import proofs.«01_k».proof.Proof.Gen.OutInput.Points
public import proofs.«01_k».proof.Proof.Gen.OutInput.Frame
public import proofs.«01_k».proof.Proof.Gen.OutInputIdeal
public import proofs.«01_k».proof.Proof.Gen.OutInputIdeal.Skeleton
public import proofs.«01_k».proof.Proof.Gen.OutInputIdeal.Launch
public import proofs.«01_k».proof.Proof.Gen.OutInputIdeal.Points
public import proofs.«01_k».proof.Proof.Gen.OutInputIdeal.Frame
public import proofs.«01_k».proof.Proof.Gen.OutInputReferenceIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal
public import proofs.«01_k».proof.Proof.Gen.RetWeight
public import proofs.«01_k».proof.Proof.Gen.RetWeight.Skeleton
public import proofs.«01_k».proof.Proof.Gen.RetWeight.Launch
public import proofs.«01_k».proof.Proof.Gen.RetWeight.Points
public import proofs.«01_k».proof.Proof.Gen.RetWeight.Frame
public import proofs.«01_k».proof.Proof.Gen.RetWeightIdeal
public import proofs.«01_k».proof.Proof.Gen.RetWeightIdeal.Skeleton
public import proofs.«01_k».proof.Proof.Gen.RetWeightIdeal.Launch
public import proofs.«01_k».proof.Proof.Gen.RetWeightIdeal.Points
public import proofs.«01_k».proof.Proof.Gen.RetWeightIdeal.Frame
public import proofs.«01_k».proof.Proof.Gen.RetWeightReferenceIdeal
public import proofs.«01_k».proof.Proof.Gen.RetInput
public import proofs.«01_k».proof.Proof.Gen.RetInput.Skeleton
public import proofs.«01_k».proof.Proof.Gen.RetInput.Launch
public import proofs.«01_k».proof.Proof.Gen.RetInput.Points
public import proofs.«01_k».proof.Proof.Gen.RetInput.Frame
public import proofs.«01_k».proof.Proof.Gen.RetInputIdeal
public import proofs.«01_k».proof.Proof.Gen.RetInputIdeal.Skeleton
public import proofs.«01_k».proof.Proof.Gen.RetInputIdeal.Launch
public import proofs.«01_k».proof.Proof.Gen.RetInputIdeal.Points
public import proofs.«01_k».proof.Proof.Gen.RetInputIdeal.Frame
public import proofs.«01_k».proof.Proof.Gen.RetInputReferenceIdeal
public import proofs.«01_k».proof.Proof.Gen.RetOut
public import proofs.«01_k».proof.Proof.Gen.RetOut.Skeleton
public import proofs.«01_k».proof.Proof.Gen.RetOut.Launch
public import proofs.«01_k».proof.Proof.Gen.RetOut.Points
public import proofs.«01_k».proof.Proof.Gen.RetOut.Frame
public import proofs.«01_k».proof.Proof.Gen.RetOutIdeal
public import proofs.«01_k».proof.Proof.Gen.RetOutIdeal.Skeleton
public import proofs.«01_k».proof.Proof.Gen.RetOutIdeal.Launch
public import proofs.«01_k».proof.Proof.Gen.RetOutIdeal.Points
public import proofs.«01_k».proof.Proof.Gen.RetOutIdeal.Frame
public import proofs.«01_k».proof.Proof.Gen.RetOutReferenceIdeal
public import proofs.«01_k».proof.Proof.Gen.PleWeight
public import proofs.«01_k».proof.Proof.Gen.PleWeight.Skeleton
public import proofs.«01_k».proof.Proof.Gen.PleWeight.Launch
public import proofs.«01_k».proof.Proof.Gen.PleWeight.Points
public import proofs.«01_k».proof.Proof.Gen.PleWeight.Frame
public import proofs.«01_k».proof.Proof.Gen.PleWeightIdeal
public import proofs.«01_k».proof.Proof.Gen.PleWeightIdeal.Skeleton
public import proofs.«01_k».proof.Proof.Gen.PleWeightIdeal.Launch
public import proofs.«01_k».proof.Proof.Gen.PleWeightIdeal.Points
public import proofs.«01_k».proof.Proof.Gen.PleWeightIdeal.Frame
public import proofs.«01_k».proof.Proof.Gen.PleWeightReferenceIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleReferenceIdeal
public import Idealize.ShloMosaic.Adequacy
public import Idealize.ShloMosaic.Init
public import proofs.«01_k».proof.Proof.Gen.FfnDownWeightIdeal.Value
public import proofs.«01_k».proof.Proof.Gen.FfnDownWeightReferenceIdeal.Run
public import proofs.«01_k».proof.Proof.Gen.FfnDownWeightReferenceIdeal.Read
public import proofs.«01_k».proof.Proof.Gen.FfnInnerIdeal.Value
public import proofs.«01_k».proof.Proof.Gen.FfnInnerReferenceIdeal.Run
public import proofs.«01_k».proof.Proof.Gen.FfnInnerReferenceIdeal.Read
public import proofs.«01_k».proof.Proof.Gen.FfnUpWeightIdeal.Value
public import proofs.«01_k».proof.Proof.Gen.FfnUpWeightReferenceIdeal.Run
public import proofs.«01_k».proof.Proof.Gen.FfnUpWeightReferenceIdeal.Read
public import proofs.«01_k».proof.Proof.Gen.FfnInputIdeal.Value
public import proofs.«01_k».proof.Proof.Gen.FfnInputReferenceIdeal.Run
public import proofs.«01_k».proof.Proof.Gen.FfnInputReferenceIdeal.Read
public import proofs.«01_k».proof.Proof.Gen.FfnUpIdeal.Value
public import proofs.«01_k».proof.Proof.Gen.FfnUpReferenceIdeal.Run
public import proofs.«01_k».proof.Proof.Gen.FfnUpReferenceIdeal.Read
public import proofs.«01_k».proof.Proof.Gen.FfnDownIdeal.Value
public import proofs.«01_k».proof.Proof.Gen.FfnDownReferenceIdeal.Run
public import proofs.«01_k».proof.Proof.Gen.FfnDownReferenceIdeal.Read
public import proofs.«01_k».proof.Proof.Gen.MixerWeightIdeal.Value
public import proofs.«01_k».proof.Proof.Gen.MixerWeightReferenceIdeal.Run
public import proofs.«01_k».proof.Proof.Gen.MixerWeightReferenceIdeal.Read
public import proofs.«01_k».proof.Proof.Gen.MixerInputIdeal.Value
public import proofs.«01_k».proof.Proof.Gen.MixerInputReferenceIdeal.Run
public import proofs.«01_k».proof.Proof.Gen.MixerInputReferenceIdeal.Read
public import proofs.«01_k».proof.Proof.Gen.MixerInIdeal.Value
public import proofs.«01_k».proof.Proof.Gen.MixerInReferenceIdeal.Run
public import proofs.«01_k».proof.Proof.Gen.MixerInReferenceIdeal.Read
public import proofs.«01_k».proof.Proof.Gen.MergeWeightIdeal.Value
public import proofs.«01_k».proof.Proof.Gen.MergeWeightReferenceIdeal.Run
public import proofs.«01_k».proof.Proof.Gen.MergeWeightReferenceIdeal.Read
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Gen.OutWeightIdeal.Value
public import proofs.«01_k».proof.Proof.Gen.OutWeightReferenceIdeal.Run
public import proofs.«01_k».proof.Proof.Gen.OutWeightReferenceIdeal.Read
public import proofs.«01_k».proof.Proof.Gen.OutInputIdeal.Value
public import proofs.«01_k».proof.Proof.Gen.OutInputReferenceIdeal.Run
public import proofs.«01_k».proof.Proof.Gen.OutInputReferenceIdeal.Read
public import proofs.«01_k».proof.Proof.Gen.OutIdeal.Value
public import proofs.«01_k».proof.Proof.Gen.OutReferenceIdeal.Run
public import proofs.«01_k».proof.Proof.Gen.OutReferenceIdeal.Read
public import proofs.«01_k».proof.Proof.Gen.RetWeightIdeal.Value
public import proofs.«01_k».proof.Proof.Gen.RetWeightReferenceIdeal.Run
public import proofs.«01_k».proof.Proof.Gen.RetWeightReferenceIdeal.Read
public import proofs.«01_k».proof.Proof.Gen.RetInputIdeal.Value
public import proofs.«01_k».proof.Proof.Gen.RetInputReferenceIdeal.Run
public import proofs.«01_k».proof.Proof.Gen.RetInputReferenceIdeal.Read
public import proofs.«01_k».proof.Proof.Gen.RetOutIdeal.Value
public import proofs.«01_k».proof.Proof.Gen.RetOutReferenceIdeal.Run
public import proofs.«01_k».proof.Proof.Gen.RetOutReferenceIdeal.Read
public import proofs.«01_k».proof.Proof.Gen.PleWeightIdeal.Value
public import proofs.«01_k».proof.Proof.Gen.PleWeightReferenceIdeal.Run
public import proofs.«01_k».proof.Proof.Gen.PleWeightReferenceIdeal.Read
public import proofs.«01_k».proof.Proof.Gen.PleIdeal.Value
public import proofs.«01_k».proof.Proof.Gen.PleReferenceIdeal.Run
public import proofs.«01_k».proof.Proof.Gen.PleReferenceIdeal.Read
public import proofs.«01_k».proof.Proof.Mm.All
public import proofs.«01_k».proof.Proof.Gen.ReferenceIdeal.Run
public import proofs.«01_k».proof.Proof.Gen.KernelIdeal.Value
public import proofs.«01_k».proof.Proof.Gen.ReferenceIdeal.Read
public import proofs.«01_k».proof.Proof.Gen.Pre_finite
public import proofs.«01_k».proof.Proof.Ret.Claim
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.SwigluIdeal.Value
public import proofs.«01_k».proof.Proof.Gen.SwigluReferenceIdeal.Run
public import proofs.«01_k».proof.Proof.Gen.SwigluReferenceIdeal.Read
public import proofs.«01_k».proof.Proof.Gen.SwigluGradIdeal.Value
public import proofs.«01_k».proof.Proof.Gen.SwigluGradReferenceIdeal.Run
public import proofs.«01_k».proof.Proof.Gen.SwigluGradReferenceIdeal.Read
public import proofs.«01_k».proof.Proof.Gen.Pre_finite_product
public import proofs.«01_k».proof.Proof.Ew.Swiglu
public import proofs.«01_k».proof.Proof.Ew.SwigluGrad
public import proofs.«01_k».proof.Proof.Gen.Swiglu
public import proofs.«01_k».proof.Proof.Gen.Swiglu.Frame
public import proofs.«01_k».proof.Proof.Gen.SwigluIdeal
public import proofs.«01_k».proof.Proof.Gen.SwigluIdeal.Frame
public import proofs.«01_k».proof.Proof.Gen.SwigluReferenceIdeal
public import proofs.«01_k».proof.Proof.Gen.SwigluGrad
public import proofs.«01_k».proof.Proof.Gen.SwigluGrad.Frame
public import proofs.«01_k».proof.Proof.Gen.SwigluGradIdeal
public import proofs.«01_k».proof.Proof.Gen.SwigluGradIdeal.Frame
public import proofs.«01_k».proof.Proof.Gen.SwigluGradReferenceIdeal
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesReferenceIdeal
public import proofs.«01_k».proof.Proof.Gen.GatesIdeal.Value
public import proofs.«01_k».proof.Proof.Gen.GatesReferenceIdeal.Run
public import proofs.«01_k».proof.Proof.Gen.GatesReferenceIdeal.Read
public import proofs.«01_k».proof.Proof.Gen.Rms
public import proofs.«01_k».proof.Proof.Gen.Rms.Frame
public import proofs.«01_k».proof.Proof.Gen.RmsIdeal
public import proofs.«01_k».proof.Proof.Gen.RmsIdeal.Frame
public import proofs.«01_k».proof.Proof.Gen.RmsReferenceIdeal
public import proofs.«01_k».proof.Proof.Gen.RmsIdeal.Value
public import proofs.«01_k».proof.Proof.Gen.RmsReferenceIdeal.Run
public import proofs.«01_k».proof.Proof.Gen.RmsReferenceIdeal.Read
public import proofs.«01_k».proof.Proof.Gen.RmsAddHalf
public import proofs.«01_k».proof.Proof.Gen.RmsAddHalf.Frame
public import proofs.«01_k».proof.Proof.Gen.RmsAddHalfIdeal
public import proofs.«01_k».proof.Proof.Gen.RmsAddHalfIdeal.Frame
public import proofs.«01_k».proof.Proof.Gen.RmsAddHalfReferenceIdeal
public import proofs.«01_k».proof.Proof.Gen.RmsAddHalfIdeal.Value
public import proofs.«01_k».proof.Proof.Gen.RmsAddHalfReferenceIdeal.Run
public import proofs.«01_k».proof.Proof.Gen.RmsAddHalfReferenceIdeal.Read
public import proofs.«01_k».proof.Proof.Gen.RmsAdd
public import proofs.«01_k».proof.Proof.Gen.RmsAdd.Frame
public import proofs.«01_k».proof.Proof.Gen.RmsAddIdeal
public import proofs.«01_k».proof.Proof.Gen.RmsAddIdeal.Frame
public import proofs.«01_k».proof.Proof.Gen.RmsAddReferenceIdeal
public import proofs.«01_k».proof.Proof.Gen.RmsAddIdeal.Value
public import proofs.«01_k».proof.Proof.Gen.RmsAddReferenceIdeal.Run
public import proofs.«01_k».proof.Proof.Gen.RmsAddReferenceIdeal.Read
public import proofs.«01_k».proof.Proof.Ew.Gates
public import proofs.«01_k».proof.Proof.Ew.Rms
public import proofs.«01_k».proof.Proof.Ew.RmsAddHalf
public import proofs.«01_k».proof.Proof.Ew.RmsAdd
public import proofs.«01_k».proof.Proof.Gen.GatesGrad
public import proofs.«01_k».proof.Proof.Gen.GatesGrad.Frame
public import proofs.«01_k».proof.Proof.Gen.GatesGradIdeal
public import proofs.«01_k».proof.Proof.Gen.GatesGradIdeal.Frame
public import proofs.«01_k».proof.Proof.Gen.GatesGradReferenceIdeal
public import proofs.«01_k».proof.Proof.Gen.GatesGradIdeal.Value
public import proofs.«01_k».proof.Proof.Gen.GatesGradReferenceIdeal.Run
public import proofs.«01_k».proof.Proof.Gen.GatesGradReferenceIdeal.Read
public import proofs.«01_k».proof.Proof.Ew.GatesGrad

@[expose] public section

noncomputable section

namespace Cert.Proof

open Idealize.ShloMosaic Idealize.SL.Sem

/-- `ReferenceIdeal` runs, leaves its arguments as they were and every counter at zero. -/
theorem frame_Reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- `FfnDownWeightReferenceIdeal` runs, leaves its arguments as they were and every counter at zero. -/
theorem frame_FfnDownWeightReference : Cert.quiescent_FfnDownWeightReferenceIdeal (hFfnDownWeightReferenceIdeal := Cert.FfnDownWeightReferenceIdeal.Gen.facts) := fun m ρ _ =>
  (θ_run Cert.FfnDownWeightReferenceIdeal.defs _ _).mono (fun r h => ⟨fun c => (h c).2, sem_eq_zero_of_no_sems (by decide) r.2⟩)
    (Cert.FfnDownWeightReferenceIdeal.Value.run (F := Ideal) m ρ)

/-- `FfnInnerReferenceIdeal` runs, leaves its arguments as they were and every counter at zero. -/
theorem frame_FfnInnerReference : Cert.quiescent_FfnInnerReferenceIdeal (hFfnInnerReferenceIdeal := Cert.FfnInnerReferenceIdeal.Gen.facts) := fun m ρ _ =>
  (θ_run Cert.FfnInnerReferenceIdeal.defs _ _).mono (fun r h => ⟨fun c => (h c).2, sem_eq_zero_of_no_sems (by decide) r.2⟩)
    (Cert.FfnInnerReferenceIdeal.Value.run (F := Ideal) m ρ)

/-- `FfnUpWeightReferenceIdeal` runs, leaves its arguments as they were and every counter at zero. -/
theorem frame_FfnUpWeightReference : Cert.quiescent_FfnUpWeightReferenceIdeal (hFfnUpWeightReferenceIdeal := Cert.FfnUpWeightReferenceIdeal.Gen.facts) := fun m ρ _ =>
  (θ_run Cert.FfnUpWeightReferenceIdeal.defs _ _).mono (fun r h => ⟨fun c => (h c).2, sem_eq_zero_of_no_sems (by decide) r.2⟩)
    (Cert.FfnUpWeightReferenceIdeal.Value.run (F := Ideal) m ρ)

/-- `FfnInputReferenceIdeal` runs, leaves its arguments as they were and every counter at zero. -/
theorem frame_FfnInputReference : Cert.quiescent_FfnInputReferenceIdeal (hFfnInputReferenceIdeal := Cert.FfnInputReferenceIdeal.Gen.facts) := fun m ρ _ =>
  (θ_run Cert.FfnInputReferenceIdeal.defs _ _).mono (fun r h => ⟨fun c => (h c).2, sem_eq_zero_of_no_sems (by decide) r.2⟩)
    (Cert.FfnInputReferenceIdeal.Value.run (F := Ideal) m ρ)

/-- `FfnUpReferenceIdeal` runs, leaves its arguments as they were and every counter at zero. -/
theorem frame_FfnUpReference : Cert.quiescent_FfnUpReferenceIdeal (hFfnUpReferenceIdeal := Cert.FfnUpReferenceIdeal.Gen.facts) := fun m ρ _ =>
  (θ_run Cert.FfnUpReferenceIdeal.defs _ _).mono (fun r h => ⟨fun c => (h c).2, sem_eq_zero_of_no_sems (by decide) r.2⟩)
    (Cert.FfnUpReferenceIdeal.Value.run (F := Ideal) m ρ)

/-- `FfnDownReferenceIdeal` runs, leaves its arguments as they were and every counter at zero. -/
theorem frame_FfnDownReference : Cert.quiescent_FfnDownReferenceIdeal (hFfnDownReferenceIdeal := Cert.FfnDownReferenceIdeal.Gen.facts) := fun m ρ _ =>
  (θ_run Cert.FfnDownReferenceIdeal.defs _ _).mono (fun r h => ⟨fun c => (h c).2, sem_eq_zero_of_no_sems (by decide) r.2⟩)
    (Cert.FfnDownReferenceIdeal.Value.run (F := Ideal) m ρ)

/-- `MixerWeightReferenceIdeal` runs, leaves its arguments as they were and every counter at zero. -/
theorem frame_MixerWeightReference : Cert.quiescent_MixerWeightReferenceIdeal (hMixerWeightReferenceIdeal := Cert.MixerWeightReferenceIdeal.Gen.facts) := fun m ρ _ =>
  (θ_run Cert.MixerWeightReferenceIdeal.defs _ _).mono (fun r h => ⟨fun c => (h c).2, sem_eq_zero_of_no_sems (by decide) r.2⟩)
    (Cert.MixerWeightReferenceIdeal.Value.run (F := Ideal) m ρ)

/-- `MixerInputReferenceIdeal` runs, leaves its arguments as they were and every counter at zero. -/
theorem frame_MixerInputReference : Cert.quiescent_MixerInputReferenceIdeal (hMixerInputReferenceIdeal := Cert.MixerInputReferenceIdeal.Gen.facts) := fun m ρ _ =>
  (θ_run Cert.MixerInputReferenceIdeal.defs _ _).mono (fun r h => ⟨fun c => (h c).2, sem_eq_zero_of_no_sems (by decide) r.2⟩)
    (Cert.MixerInputReferenceIdeal.Value.run (F := Ideal) m ρ)

/-- `MixerInReferenceIdeal` runs, leaves its arguments as they were and every counter at zero. -/
theorem frame_MixerInReference : Cert.quiescent_MixerInReferenceIdeal (hMixerInReferenceIdeal := Cert.MixerInReferenceIdeal.Gen.facts) := fun m ρ _ =>
  (θ_run Cert.MixerInReferenceIdeal.defs _ _).mono (fun r h => ⟨fun c => (h c).2, sem_eq_zero_of_no_sems (by decide) r.2⟩)
    (Cert.MixerInReferenceIdeal.Value.run (F := Ideal) m ρ)

/-- `MergeWeightReferenceIdeal` runs, leaves its arguments as they were and every counter at zero. -/
theorem frame_MergeWeightReference : Cert.quiescent_MergeWeightReferenceIdeal (hMergeWeightReferenceIdeal := Cert.MergeWeightReferenceIdeal.Gen.facts) := fun m ρ _ =>
  (θ_run Cert.MergeWeightReferenceIdeal.defs _ _).mono (fun r h => ⟨fun c => (h c).2, sem_eq_zero_of_no_sems (by decide) r.2⟩)
    (Cert.MergeWeightReferenceIdeal.Value.run (F := Ideal) m ρ)

/-- `MergeReferenceIdeal` runs, leaves its arguments as they were and every counter at zero. -/
theorem frame_MergeReference : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- `OutWeightReferenceIdeal` runs, leaves its arguments as they were and every counter at zero. -/
theorem frame_OutWeightReference : Cert.quiescent_OutWeightReferenceIdeal (hOutWeightReferenceIdeal := Cert.OutWeightReferenceIdeal.Gen.facts) := fun m ρ _ =>
  (θ_run Cert.OutWeightReferenceIdeal.defs _ _).mono (fun r h => ⟨fun c => (h c).2, sem_eq_zero_of_no_sems (by decide) r.2⟩)
    (Cert.OutWeightReferenceIdeal.Value.run (F := Ideal) m ρ)

/-- `OutInputReferenceIdeal` runs, leaves its arguments as they were and every counter at zero. -/
theorem frame_OutInputReference : Cert.quiescent_OutInputReferenceIdeal (hOutInputReferenceIdeal := Cert.OutInputReferenceIdeal.Gen.facts) := fun m ρ _ =>
  (θ_run Cert.OutInputReferenceIdeal.defs _ _).mono (fun r h => ⟨fun c => (h c).2, sem_eq_zero_of_no_sems (by decide) r.2⟩)
    (Cert.OutInputReferenceIdeal.Value.run (F := Ideal) m ρ)

/-- `OutReferenceIdeal` runs, leaves its arguments as they were and every counter at zero. -/
theorem frame_OutReference : Cert.quiescent_OutReferenceIdeal (hOutReferenceIdeal := Cert.OutReferenceIdeal.Gen.facts) := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- `RetWeightReferenceIdeal` runs, leaves its arguments as they were and every counter at zero. -/
theorem frame_RetWeightReference : Cert.quiescent_RetWeightReferenceIdeal (hRetWeightReferenceIdeal := Cert.RetWeightReferenceIdeal.Gen.facts) := fun m ρ _ =>
  (θ_run Cert.RetWeightReferenceIdeal.defs _ _).mono (fun r h => ⟨fun c => (h c).2, sem_eq_zero_of_no_sems (by decide) r.2⟩)
    (Cert.RetWeightReferenceIdeal.Value.run (F := Ideal) m ρ)

/-- `RetInputReferenceIdeal` runs, leaves its arguments as they were and every counter at zero. -/
theorem frame_RetInputReference : Cert.quiescent_RetInputReferenceIdeal (hRetInputReferenceIdeal := Cert.RetInputReferenceIdeal.Gen.facts) := fun m ρ _ =>
  (θ_run Cert.RetInputReferenceIdeal.defs _ _).mono (fun r h => ⟨fun c => (h c).2, sem_eq_zero_of_no_sems (by decide) r.2⟩)
    (Cert.RetInputReferenceIdeal.Value.run (F := Ideal) m ρ)

/-- `RetOutReferenceIdeal` runs, leaves its arguments as they were and every counter at zero. -/
theorem frame_RetOutReference : Cert.quiescent_RetOutReferenceIdeal (hRetOutReferenceIdeal := Cert.RetOutReferenceIdeal.Gen.facts) := fun m ρ _ =>
  (θ_run Cert.RetOutReferenceIdeal.defs _ _).mono (fun r h => ⟨fun c => (h c).2, sem_eq_zero_of_no_sems (by decide) r.2⟩)
    (Cert.RetOutReferenceIdeal.Value.run (F := Ideal) m ρ)

/-- `PleWeightReferenceIdeal` runs, leaves its arguments as they were and every counter at zero. -/
theorem frame_PleWeightReference : Cert.quiescent_PleWeightReferenceIdeal (hPleWeightReferenceIdeal := Cert.PleWeightReferenceIdeal.Gen.facts) := fun m ρ _ =>
  (θ_run Cert.PleWeightReferenceIdeal.defs _ _).mono (fun r h => ⟨fun c => (h c).2, sem_eq_zero_of_no_sems (by decide) r.2⟩)
    (Cert.PleWeightReferenceIdeal.Value.run (F := Ideal) m ρ)

/-- `PleReferenceIdeal` runs, leaves its arguments as they were and every counter at zero. -/
theorem frame_PleReference : Cert.quiescent_PleReferenceIdeal (hPleReferenceIdeal := Cert.PleReferenceIdeal.Gen.facts) := fun m ρ _ =>
  (θ_run Cert.PleReferenceIdeal.defs _ _).mono (fun r h => ⟨fun c => (h c).2, sem_eq_zero_of_no_sems (by decide) r.2⟩)
    (Cert.PleReferenceIdeal.Value.run (F := Ideal) m ρ)

/-- `SwigluReferenceIdeal` runs, leaves its arguments as they were and every counter at zero. -/
theorem frame_SwigluReference : Cert.quiescent_SwigluReferenceIdeal (hSwigluReferenceIdeal := Cert.SwigluReferenceIdeal.Gen.facts) := fun m ρ _ =>
  (θ_run Cert.SwigluReferenceIdeal.defs _ _).mono (fun r h => ⟨fun c => (h c).2, sem_eq_zero_of_no_sems (by decide) r.2⟩)
    (Cert.SwigluReferenceIdeal.Value.run (F := Ideal) m ρ)

/-- `SwigluGradReferenceIdeal` runs, leaves its arguments as they were and every counter at zero. -/
theorem frame_SwigluGradReference : Cert.quiescent_SwigluGradReferenceIdeal (hSwigluGradReferenceIdeal := Cert.SwigluGradReferenceIdeal.Gen.facts) := fun m ρ _ =>
  (θ_run Cert.SwigluGradReferenceIdeal.defs _ _).mono (fun r h => ⟨fun c => (h c).2.2, sem_eq_zero_of_no_sems (by decide) r.2⟩)
    (Cert.SwigluGradReferenceIdeal.Value.run (F := Ideal) m ρ)

/-- `GatesGradReferenceIdeal` runs, leaves its arguments as they were and every counter at zero. -/
theorem frame_GatesGradReference : Cert.quiescent_GatesGradReferenceIdeal (hGatesGradReferenceIdeal := Cert.GatesGradReferenceIdeal.Gen.facts) := fun m ρ _ =>
  (θ_run Cert.GatesGradReferenceIdeal.defs _ _).mono (fun r h => ⟨fun c => (h c).2.2.2.2, sem_eq_zero_of_no_sems (by decide) r.2⟩)
    (Cert.GatesGradReferenceIdeal.Value.run (F := Ideal) m ρ)

/-- `GatesReferenceIdeal` runs, leaves its arguments as they were and every counter at zero. -/
theorem frame_GatesReference : Cert.quiescent_GatesReferenceIdeal (hGatesReferenceIdeal := Cert.GatesReferenceIdeal.Gen.facts) := fun m ρ _ =>
  (θ_run Cert.GatesReferenceIdeal.defs _ _).mono (fun r h => ⟨fun c => (h c).2, sem_eq_zero_of_no_sems (by decide) r.2⟩)
    (Cert.GatesReferenceIdeal.Value.run (F := Ideal) m ρ)

/-- `RmsReferenceIdeal` runs, leaves its arguments as they were and every counter at zero. -/
theorem frame_RmsReference : Cert.quiescent_RmsReferenceIdeal (hRmsReferenceIdeal := Cert.RmsReferenceIdeal.Gen.facts) := fun m ρ _ =>
  (θ_run Cert.RmsReferenceIdeal.defs _ _).mono (fun r h => ⟨fun c => (h c).2, sem_eq_zero_of_no_sems (by decide) r.2⟩)
    (Cert.RmsReferenceIdeal.Value.run (F := Ideal) m ρ)

/-- `RmsAddHalfReferenceIdeal` runs, leaves its arguments as they were and every counter at zero. -/
theorem frame_RmsAddHalfReference : Cert.quiescent_RmsAddHalfReferenceIdeal (hRmsAddHalfReferenceIdeal := Cert.RmsAddHalfReferenceIdeal.Gen.facts) := fun m ρ _ =>
  (θ_run Cert.RmsAddHalfReferenceIdeal.defs _ _).mono (fun r h => ⟨fun c => (h c).2.2, sem_eq_zero_of_no_sems (by decide) r.2⟩)
    (Cert.RmsAddHalfReferenceIdeal.Value.run (F := Ideal) m ρ)

/-- `RmsAddReferenceIdeal` runs, leaves its arguments as they were and every counter at zero. -/
theorem frame_RmsAddReference : Cert.quiescent_RmsAddReferenceIdeal (hRmsAddReferenceIdeal := Cert.RmsAddReferenceIdeal.Gen.facts) := fun m ρ _ =>
  (θ_run Cert.RmsAddReferenceIdeal.defs _ _).mono (fun r h => ⟨fun c => (h c).2.2, sem_eq_zero_of_no_sems (by decide) r.2⟩)
    (Cert.RmsAddReferenceIdeal.Value.run (F := Ideal) m ρ)

theorem claim : Cert.Claim := ⟨Cert.Kernel.Gen.facts, Cert.KernelIdeal.Gen.facts, Cert.ReferenceIdeal.Gen.facts, Cert.FfnDownWeight.Gen.facts, Cert.FfnDownWeightIdeal.Gen.facts, Cert.FfnDownWeightReferenceIdeal.Gen.facts, Cert.FfnInner.Gen.facts, Cert.FfnInnerIdeal.Gen.facts, Cert.FfnInnerReferenceIdeal.Gen.facts, Cert.FfnUpWeight.Gen.facts, Cert.FfnUpWeightIdeal.Gen.facts, Cert.FfnUpWeightReferenceIdeal.Gen.facts, Cert.FfnInput.Gen.facts, Cert.FfnInputIdeal.Gen.facts, Cert.FfnInputReferenceIdeal.Gen.facts, Cert.FfnUp.Gen.facts, Cert.FfnUpIdeal.Gen.facts, Cert.FfnUpReferenceIdeal.Gen.facts, Cert.FfnDown.Gen.facts, Cert.FfnDownIdeal.Gen.facts, Cert.FfnDownReferenceIdeal.Gen.facts, Cert.MixerWeight.Gen.facts, Cert.MixerWeightIdeal.Gen.facts, Cert.MixerWeightReferenceIdeal.Gen.facts, Cert.MixerInput.Gen.facts, Cert.MixerInputIdeal.Gen.facts, Cert.MixerInputReferenceIdeal.Gen.facts, Cert.MixerIn.Gen.facts, Cert.MixerInIdeal.Gen.facts, Cert.MixerInReferenceIdeal.Gen.facts, Cert.MergeWeight.Gen.facts, Cert.MergeWeightIdeal.Gen.facts, Cert.MergeWeightReferenceIdeal.Gen.facts, Cert.Merge.Gen.facts, Cert.MergeIdeal.Gen.facts, Cert.MergeReferenceIdeal.Gen.facts, Cert.OutWeight.Gen.facts, Cert.OutWeightIdeal.Gen.facts, Cert.OutWeightReferenceIdeal.Gen.facts, Cert.OutInput.Gen.facts, Cert.OutInputIdeal.Gen.facts, Cert.OutInputReferenceIdeal.Gen.facts, Cert.Out.Gen.facts, Cert.OutIdeal.Gen.facts, Cert.OutReferenceIdeal.Gen.facts, Cert.RetWeight.Gen.facts, Cert.RetWeightIdeal.Gen.facts, Cert.RetWeightReferenceIdeal.Gen.facts, Cert.RetInput.Gen.facts, Cert.RetInputIdeal.Gen.facts, Cert.RetInputReferenceIdeal.Gen.facts, Cert.RetOut.Gen.facts, Cert.RetOutIdeal.Gen.facts, Cert.RetOutReferenceIdeal.Gen.facts, Cert.PleWeight.Gen.facts, Cert.PleWeightIdeal.Gen.facts, Cert.PleWeightReferenceIdeal.Gen.facts, Cert.Ple.Gen.facts, Cert.PleIdeal.Gen.facts, Cert.PleReferenceIdeal.Gen.facts, Cert.Swiglu.Gen.facts, Cert.SwigluIdeal.Gen.facts, Cert.SwigluReferenceIdeal.Gen.facts, Cert.SwigluGrad.Gen.facts, Cert.SwigluGradIdeal.Gen.facts, Cert.SwigluGradReferenceIdeal.Gen.facts, Cert.GatesGrad.Gen.facts, Cert.GatesGradIdeal.Gen.facts, Cert.GatesGradReferenceIdeal.Gen.facts, Cert.Gates.Gen.facts, Cert.GatesIdeal.Gen.facts, Cert.GatesReferenceIdeal.Gen.facts, Cert.Rms.Gen.facts, Cert.RmsIdeal.Gen.facts, Cert.RmsReferenceIdeal.Gen.facts, Cert.RmsAddHalf.Gen.facts, Cert.RmsAddHalfIdeal.Gen.facts, Cert.RmsAddHalfReferenceIdeal.Gen.facts, Cert.RmsAdd.Gen.facts, Cert.RmsAddIdeal.Gen.facts, Cert.RmsAddReferenceIdeal.Gen.facts, Cert.Pre_finite.Gen.facts, Cert.Pre_finite_product.Gen.facts,
  fun m ρ _ => Cert.Kernel.Gen.frame m ρ, fun m ρ _ => Cert.KernelIdeal.Gen.frame m ρ, fun m ρ _ => Cert.KernelIdeal.Gen.frame m ρ, frame_Reference, fun m ρ _ => frame_Reference m ρ trivial,
  fun m ρ _ => Cert.FfnDownWeight.Gen.frame m ρ, fun m ρ _ => Cert.FfnDownWeightIdeal.Gen.frame m ρ, frame_FfnDownWeightReference,
  fun m ρ _ => Cert.FfnInner.Gen.frame m ρ, fun m ρ _ => Cert.FfnInnerIdeal.Gen.frame m ρ, frame_FfnInnerReference,
  fun m ρ _ => Cert.FfnUpWeight.Gen.frame m ρ, fun m ρ _ => Cert.FfnUpWeightIdeal.Gen.frame m ρ, frame_FfnUpWeightReference,
  fun m ρ _ => Cert.FfnInput.Gen.frame m ρ, fun m ρ _ => Cert.FfnInputIdeal.Gen.frame m ρ, frame_FfnInputReference,
  fun m ρ _ => Cert.FfnUp.Gen.frame m ρ, fun m ρ _ => Cert.FfnUpIdeal.Gen.frame m ρ, frame_FfnUpReference,
  fun m ρ _ => Cert.FfnDown.Gen.frame m ρ, fun m ρ _ => Cert.FfnDownIdeal.Gen.frame m ρ, frame_FfnDownReference,
  fun m ρ _ => Cert.MixerWeight.Gen.frame m ρ, fun m ρ _ => Cert.MixerWeightIdeal.Gen.frame m ρ, frame_MixerWeightReference,
  fun m ρ _ => Cert.MixerInput.Gen.frame m ρ, fun m ρ _ => Cert.MixerInputIdeal.Gen.frame m ρ, frame_MixerInputReference,
  fun m ρ _ => Cert.MixerIn.Gen.frame m ρ, fun m ρ _ => Cert.MixerInIdeal.Gen.frame m ρ, frame_MixerInReference,
  fun m ρ _ => Cert.MergeWeight.Gen.frame m ρ, fun m ρ _ => Cert.MergeWeightIdeal.Gen.frame m ρ, frame_MergeWeightReference,
  fun m ρ _ => Cert.Merge.Gen.frame m ρ, fun m ρ _ => Cert.MergeIdeal.Gen.frame m ρ, frame_MergeReference,
  fun m ρ _ => Cert.OutWeight.Gen.frame m ρ, fun m ρ _ => Cert.OutWeightIdeal.Gen.frame m ρ, frame_OutWeightReference,
  fun m ρ _ => Cert.OutInput.Gen.frame m ρ, fun m ρ _ => Cert.OutInputIdeal.Gen.frame m ρ, frame_OutInputReference,
  fun m ρ _ => Cert.Out.Gen.frame m ρ, fun m ρ _ => Cert.OutIdeal.Gen.frame m ρ, frame_OutReference,
  fun m ρ _ => Cert.RetWeight.Gen.frame m ρ, fun m ρ _ => Cert.RetWeightIdeal.Gen.frame m ρ, frame_RetWeightReference,
  fun m ρ _ => Cert.RetInput.Gen.frame m ρ, fun m ρ _ => Cert.RetInputIdeal.Gen.frame m ρ, frame_RetInputReference,
  fun m ρ _ => Cert.RetOut.Gen.frame m ρ, fun m ρ _ => Cert.RetOutIdeal.Gen.frame m ρ, frame_RetOutReference,
  fun m ρ _ => Cert.PleWeight.Gen.frame m ρ, fun m ρ _ => Cert.PleWeightIdeal.Gen.frame m ρ, frame_PleWeightReference,
  fun m ρ _ => Cert.Ple.Gen.frame m ρ, fun m ρ _ => Cert.PleIdeal.Gen.frame m ρ, frame_PleReference,
  fun m ρ _ => Cert.Swiglu.Gen.frame m ρ, fun m ρ _ => Cert.SwigluIdeal.Gen.frame m ρ, frame_SwigluReference,
  fun m ρ _ => Cert.SwigluGrad.Gen.frame m ρ, fun m ρ _ => Cert.SwigluGradIdeal.Gen.frame m ρ, fun m ρ _ => Cert.SwigluGradIdeal.Gen.frame m ρ, frame_SwigluGradReference, fun m ρ _ => frame_SwigluGradReference m ρ trivial,
  fun m ρ _ => Cert.GatesGrad.Gen.frame m ρ, fun m ρ _ => Cert.GatesGradIdeal.Gen.frame m ρ, frame_GatesGradReference,
  fun m ρ _ => Cert.Gates.Gen.frame m ρ, fun m ρ _ => Cert.GatesIdeal.Gen.frame m ρ, frame_GatesReference,
  fun m ρ _ => Cert.Rms.Gen.frame m ρ, fun m ρ _ => Cert.RmsIdeal.Gen.frame m ρ, frame_RmsReference,
  fun m ρ _ => Cert.RmsAddHalf.Gen.frame m ρ, fun m ρ _ => Cert.RmsAddHalfIdeal.Gen.frame m ρ, frame_RmsAddHalfReference,
  fun m ρ _ => Cert.RmsAdd.Gen.frame m ρ, fun m ρ _ => Cert.RmsAddIdeal.Gen.frame m ρ, frame_RmsAddReference,
  trivial, Cert.KernelIdeal.Ret.algebraic,
  trivial, Cert.FfnDownWeightIdeal.Product.algebraic,
  trivial, Cert.FfnInnerIdeal.Product.algebraic,
  trivial, Cert.FfnUpWeightIdeal.Product.algebraic,
  trivial, Cert.FfnInputIdeal.Product.algebraic,
  trivial, Cert.FfnUpIdeal.Product.algebraic,
  trivial, Cert.FfnDownIdeal.Product.algebraic,
  trivial, Cert.MixerWeightIdeal.Product.algebraic,
  trivial, Cert.MixerInputIdeal.Product.algebraic,
  trivial, Cert.MixerInIdeal.Product.algebraic,
  trivial, Cert.MergeWeightIdeal.Product.algebraic,
  trivial, Cert.MergeIdeal.Product.algebraic,
  trivial, Cert.OutWeightIdeal.Product.algebraic,
  trivial, Cert.OutInputIdeal.Product.algebraic,
  trivial, Cert.OutIdeal.Product.algebraic,
  trivial, Cert.RetWeightIdeal.Product.algebraic,
  trivial, Cert.RetInputIdeal.Product.algebraic,
  trivial, Cert.RetOutIdeal.Product.algebraic,
  trivial, Cert.PleWeightIdeal.Product.algebraic,
  trivial, Cert.PleIdeal.Product.algebraic,
  trivial, Cert.SwigluIdeal.Product.algebraic,
  trivial, Cert.SwigluGradIdeal.Product.algebraic,
  trivial, Cert.GatesGradIdeal.Product.algebraic,
  trivial, Cert.GatesIdeal.Product.algebraic,
  trivial, Cert.RmsIdeal.Product.algebraic,
  trivial, Cert.RmsAddHalfIdeal.Product.algebraic,
  trivial, Cert.RmsAddIdeal.Product.algebraic⟩

end Cert.Proof

end
